-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_KernelF (m : (ℓ : Loc Cert.KernelF.nD Cert.KernelF.τ Cert.KernelF.sig) → Buf (Elt Bits) ℓ) : Prop :=
  True

def Pre_KernelFIdeal (m : (ℓ : Loc Cert.KernelFIdeal.nD Cert.KernelFIdeal.τ Cert.KernelFIdeal.sig) → Buf (Elt Ideal) ℓ) : Prop :=
  True

def Pre_ReferenceFIdeal (m : (ℓ : Loc Cert.ReferenceFIdeal.nD Cert.ReferenceFIdeal.τ Cert.ReferenceFIdeal.sig) → Buf (Elt Ideal) ℓ) : Prop :=
  True

def Pre_ReferenceF (m : (ℓ : Loc Cert.ReferenceF.nD Cert.ReferenceF.τ Cert.ReferenceF.sig) → Buf (Elt Bits) ℓ) : Prop :=
  True

def Pre_KernelB (m : (ℓ : Loc Cert.KernelB.nD Cert.KernelB.τ Cert.KernelB.sig) → Buf (Elt Bits) ℓ) : Prop :=
  True

def Pre_KernelBIdeal (m : (ℓ : Loc Cert.KernelBIdeal.nD Cert.KernelBIdeal.τ Cert.KernelBIdeal.sig) → Buf (Elt Ideal) ℓ) : Prop :=
  True

def Pre_ReferenceBIdeal (m : (ℓ : Loc Cert.ReferenceBIdeal.nD Cert.ReferenceBIdeal.τ Cert.ReferenceBIdeal.sig) → Buf (Elt Ideal) ℓ) : Prop :=
  True

def Pre_ReferenceB (m : (ℓ : Loc Cert.ReferenceB.nD Cert.ReferenceB.τ Cert.ReferenceB.sig) → Buf (Elt Bits) ℓ) : Prop :=
  True

def Pre_KernelA (m : (ℓ : Loc Cert.KernelA.nD Cert.KernelA.τ Cert.KernelA.sig) → Buf (Elt Bits) ℓ) : Prop :=
  True

def Pre_KernelAIdeal (m : (ℓ : Loc Cert.KernelAIdeal.nD Cert.KernelAIdeal.τ Cert.KernelAIdeal.sig) → Buf (Elt Ideal) ℓ) : Prop :=
  True

def Pre_ReferenceAIdeal (m : (ℓ : Loc Cert.ReferenceAIdeal.nD Cert.ReferenceAIdeal.τ Cert.ReferenceAIdeal.sig) → Buf (Elt Ideal) ℓ) : Prop :=
  True

def Pre_ReferenceA (m : (ℓ : Loc Cert.ReferenceA.nD Cert.ReferenceA.τ Cert.ReferenceA.sig) → Buf (Elt Bits) ℓ) : Prop :=
  True

def Pre_KernelUI (m : (ℓ : Loc Cert.KernelUI.nD Cert.KernelUI.τ Cert.KernelUI.sig) → Buf (Elt Bits) ℓ) : Prop :=
  True

def Pre_KernelUIIdeal (m : (ℓ : Loc Cert.KernelUIIdeal.nD Cert.KernelUIIdeal.τ Cert.KernelUIIdeal.sig) → Buf (Elt Ideal) ℓ) : Prop :=
  True

def Pre_ReferenceUIIdeal (m : (ℓ : Loc Cert.ReferenceUIIdeal.nD Cert.ReferenceUIIdeal.τ Cert.ReferenceUIIdeal.sig) → Buf (Elt Ideal) ℓ) : Prop :=
  True

def Pre_KernelUO (m : (ℓ : Loc Cert.KernelUO.nD Cert.KernelUO.τ Cert.KernelUO.sig) → Buf (Elt Bits) ℓ) : Prop :=
  True

def Pre_KernelUOIdeal (m : (ℓ : Loc Cert.KernelUOIdeal.nD Cert.KernelUOIdeal.τ Cert.KernelUOIdeal.sig) → Buf (Elt Ideal) ℓ) : Prop :=
  True

def Pre_ReferenceUOIdeal (m : (ℓ : Loc Cert.ReferenceUOIdeal.nD Cert.ReferenceUOIdeal.τ Cert.ReferenceUOIdeal.sig) → Buf (Elt Ideal) ℓ) : Prop :=
  True

def Pre_KernelUG (m : (ℓ : Loc Cert.KernelUG.nD Cert.KernelUG.τ Cert.KernelUG.sig) → Buf (Elt Bits) ℓ) : Prop :=
  True

def Pre_KernelUGIdeal (m : (ℓ : Loc Cert.KernelUGIdeal.nD Cert.KernelUGIdeal.τ Cert.KernelUGIdeal.sig) → Buf (Elt Ideal) ℓ) : Prop :=
  True

def Pre_ReferenceUGIdeal (m : (ℓ : Loc Cert.ReferenceUGIdeal.nD Cert.ReferenceUGIdeal.τ Cert.ReferenceUGIdeal.sig) → Buf (Elt Ideal) ℓ) : Prop :=
  True

def Pre_KernelUF (m : (ℓ : Loc Cert.KernelUF.nD Cert.KernelUF.τ Cert.KernelUF.sig) → Buf (Elt Bits) ℓ) : Prop :=
  True

def Pre_KernelUFIdeal (m : (ℓ : Loc Cert.KernelUFIdeal.nD Cert.KernelUFIdeal.τ Cert.KernelUFIdeal.sig) → Buf (Elt Ideal) ℓ) : Prop :=
  True

def Pre_ReferenceUFIdeal (m : (ℓ : Loc Cert.ReferenceUFIdeal.nD Cert.ReferenceUFIdeal.τ Cert.ReferenceUFIdeal.sig) → Buf (Elt Ideal) ℓ) : Prop :=
  True

def Pre_KernelUM (m : (ℓ : Loc Cert.KernelUM.nD Cert.KernelUM.τ Cert.KernelUM.sig) → Buf (Elt Bits) ℓ) : Prop :=
  True

def Pre_KernelUMIdeal (m : (ℓ : Loc Cert.KernelUMIdeal.nD Cert.KernelUMIdeal.τ Cert.KernelUMIdeal.sig) → Buf (Elt Ideal) ℓ) : Prop :=
  True

def Pre_ReferenceUMIdeal (m : (ℓ : Loc Cert.ReferenceUMIdeal.nD Cert.ReferenceUMIdeal.τ Cert.ReferenceUMIdeal.sig) → Buf (Elt Ideal) ℓ) : Prop :=
  True

def Pre_KernelUC (m : (ℓ : Loc Cert.KernelUC.nD Cert.KernelUC.τ Cert.KernelUC.sig) → Buf (Elt Bits) ℓ) : Prop :=
  True

def Pre_KernelUCIdeal (m : (ℓ : Loc Cert.KernelUCIdeal.nD Cert.KernelUCIdeal.τ Cert.KernelUCIdeal.sig) → Buf (Elt Ideal) ℓ) : Prop :=
  True

def Pre_ReferenceUCIdeal (m : (ℓ : Loc Cert.ReferenceUCIdeal.nD Cert.ReferenceUCIdeal.τ Cert.ReferenceUCIdeal.sig) → Buf (Elt Ideal) ℓ) : Prop :=
  True

def Pre_KernelUS (m : (ℓ : Loc Cert.KernelUS.nD Cert.KernelUS.τ Cert.KernelUS.sig) → Buf (Elt Bits) ℓ) : Prop :=
  True

def Pre_KernelUSIdeal (m : (ℓ : Loc Cert.KernelUSIdeal.nD Cert.KernelUSIdeal.τ Cert.KernelUSIdeal.sig) → Buf (Elt Ideal) ℓ) : Prop :=
  True

def Pre_ReferenceUSIdeal (m : (ℓ : Loc Cert.ReferenceUSIdeal.nD Cert.ReferenceUSIdeal.τ Cert.ReferenceUSIdeal.sig) → Buf (Elt Ideal) ℓ) : Prop :=
  True

def Pre_KernelH (m : (ℓ : Loc Cert.KernelH.nD Cert.KernelH.τ Cert.KernelH.sig) → Buf (Elt Bits) ℓ) : Prop :=
  True

def Pre_KernelHIdeal (m : (ℓ : Loc Cert.KernelHIdeal.nD Cert.KernelHIdeal.τ Cert.KernelHIdeal.sig) → Buf (Elt Ideal) ℓ) : Prop :=
  True

def Pre_ReferenceHIdeal (m : (ℓ : Loc Cert.ReferenceHIdeal.nD Cert.ReferenceHIdeal.τ Cert.ReferenceHIdeal.sig) → Buf (Elt Ideal) ℓ) : Prop :=
  True

def Pre_KernelC (m : (ℓ : Loc Cert.KernelC.nD Cert.KernelC.τ Cert.KernelC.sig) → Buf (Elt Bits) ℓ) : Prop :=
  True

def Pre_KernelCIdeal (m : (ℓ : Loc Cert.KernelCIdeal.nD Cert.KernelCIdeal.τ Cert.KernelCIdeal.sig) → Buf (Elt Ideal) ℓ) : Prop :=
  True

def Pre_ReferenceCIdeal (m : (ℓ : Loc Cert.ReferenceCIdeal.nD Cert.ReferenceCIdeal.τ Cert.ReferenceCIdeal.sig) → Buf (Elt Ideal) ℓ) : Prop :=
  True

def Pre_KernelW (m : (ℓ : Loc Cert.KernelW.nD Cert.KernelW.τ Cert.KernelW.sig) → Buf (Elt Bits) ℓ) : Prop :=
  True

def Pre_KernelWIdeal (m : (ℓ : Loc Cert.KernelWIdeal.nD Cert.KernelWIdeal.τ Cert.KernelWIdeal.sig) → Buf (Elt Ideal) ℓ) : Prop :=
  True

def Pre_ReferenceWIdeal (m : (ℓ : Loc Cert.ReferenceWIdeal.nD Cert.ReferenceWIdeal.τ Cert.ReferenceWIdeal.sig) → Buf (Elt Ideal) ℓ) : Prop :=
  True

def Pre_KernelN (m : (ℓ : Loc Cert.KernelN.nD Cert.KernelN.τ Cert.KernelN.sig) → Buf (Elt Bits) ℓ) : Prop :=
  True

def Pre_KernelNIdeal (m : (ℓ : Loc Cert.KernelNIdeal.nD Cert.KernelNIdeal.τ Cert.KernelNIdeal.sig) → Buf (Elt Ideal) ℓ) : Prop :=
  True

def Pre_ReferenceNIdeal (m : (ℓ : Loc Cert.ReferenceNIdeal.nD Cert.ReferenceNIdeal.τ Cert.ReferenceNIdeal.sig) → Buf (Elt Ideal) ℓ) : Prop :=
  True

def Pre_KernelXN (m : (ℓ : Loc Cert.KernelXN.nD Cert.KernelXN.τ Cert.KernelXN.sig) → Buf (Elt Bits) ℓ) : Prop :=
  True

def Pre_KernelXNIdeal (m : (ℓ : Loc Cert.KernelXNIdeal.nD Cert.KernelXNIdeal.τ Cert.KernelXNIdeal.sig) → Buf (Elt Ideal) ℓ) : Prop :=
  True

def Pre_ReferenceXNIdeal (m : (ℓ : Loc Cert.ReferenceXNIdeal.nD Cert.ReferenceXNIdeal.τ Cert.ReferenceXNIdeal.sig) → Buf (Elt Ideal) ℓ) : Prop :=
  True

def Pre_KernelXI (m : (ℓ : Loc Cert.KernelXI.nD Cert.KernelXI.τ Cert.KernelXI.sig) → Buf (Elt Bits) ℓ) : Prop :=
  True

def Pre_KernelXIIdeal (m : (ℓ : Loc Cert.KernelXIIdeal.nD Cert.KernelXIIdeal.τ Cert.KernelXIIdeal.sig) → Buf (Elt Ideal) ℓ) : Prop :=
  True

def Pre_ReferenceXIIdeal (m : (ℓ : Loc Cert.ReferenceXIIdeal.nD Cert.ReferenceXIIdeal.τ Cert.ReferenceXIIdeal.sig) → Buf (Elt Ideal) ℓ) : Prop :=
  True

def Pre_KernelXS (m : (ℓ : Loc Cert.KernelXS.nD Cert.KernelXS.τ Cert.KernelXS.sig) → Buf (Elt Bits) ℓ) : Prop :=
  True

def Pre_KernelXSIdeal (m : (ℓ : Loc Cert.KernelXSIdeal.nD Cert.KernelXSIdeal.τ Cert.KernelXSIdeal.sig) → Buf (Elt Ideal) ℓ) : Prop :=
  True

def Pre_ReferenceXSIdeal (m : (ℓ : Loc Cert.ReferenceXSIdeal.nD Cert.ReferenceXSIdeal.τ Cert.ReferenceXSIdeal.sig) → Buf (Elt Ideal) ℓ) : Prop :=
  True

def Pre_KernelXO (m : (ℓ : Loc Cert.KernelXO.nD Cert.KernelXO.τ Cert.KernelXO.sig) → Buf (Elt Bits) ℓ) : Prop :=
  True

def Pre_KernelXOIdeal (m : (ℓ : Loc Cert.KernelXOIdeal.nD Cert.KernelXOIdeal.τ Cert.KernelXOIdeal.sig) → Buf (Elt Ideal) ℓ) : Prop :=
  True

def Pre_ReferenceXOIdeal (m : (ℓ : Loc Cert.ReferenceXOIdeal.nD Cert.ReferenceXOIdeal.τ Cert.ReferenceXOIdeal.sig) → Buf (Elt Ideal) ℓ) : Prop :=
  True

def Pre_KernelXR (m : (ℓ : Loc Cert.KernelXR.nD Cert.KernelXR.τ Cert.KernelXR.sig) → Buf (Elt Bits) ℓ) : Prop :=
  True

def Pre_KernelXRIdeal (m : (ℓ : Loc Cert.KernelXRIdeal.nD Cert.KernelXRIdeal.τ Cert.KernelXRIdeal.sig) → Buf (Elt Ideal) ℓ) : Prop :=
  True

def Pre_ReferenceXRIdeal (m : (ℓ : Loc Cert.ReferenceXRIdeal.nD Cert.ReferenceXRIdeal.τ Cert.ReferenceXRIdeal.sig) → Buf (Elt Ideal) ℓ) : Prop :=
  True

def Pre_KernelYR (m : (ℓ : Loc Cert.KernelYR.nD Cert.KernelYR.τ Cert.KernelYR.sig) → Buf (Elt Bits) ℓ) : Prop :=
  True

def Pre_KernelYRIdeal (m : (ℓ : Loc Cert.KernelYRIdeal.nD Cert.KernelYRIdeal.τ Cert.KernelYRIdeal.sig) → Buf (Elt Ideal) ℓ) : Prop :=
  True

def Pre_ReferenceYRIdeal (m : (ℓ : Loc Cert.ReferenceYRIdeal.nD Cert.ReferenceYRIdeal.τ Cert.ReferenceYRIdeal.sig) → Buf (Elt Ideal) ℓ) : Prop :=
  True

def Pre_KernelYO (m : (ℓ : Loc Cert.KernelYO.nD Cert.KernelYO.τ Cert.KernelYO.sig) → Buf (Elt Bits) ℓ) : Prop :=
  True

def Pre_KernelYOIdeal (m : (ℓ : Loc Cert.KernelYOIdeal.nD Cert.KernelYOIdeal.τ Cert.KernelYOIdeal.sig) → Buf (Elt Ideal) ℓ) : Prop :=
  True

def Pre_ReferenceYOIdeal (m : (ℓ : Loc Cert.ReferenceYOIdeal.nD Cert.ReferenceYOIdeal.τ Cert.ReferenceYOIdeal.sig) → Buf (Elt Ideal) ℓ) : Prop :=
  True

def Pre_KernelYOW (m : (ℓ : Loc Cert.KernelYOW.nD Cert.KernelYOW.τ Cert.KernelYOW.sig) → Buf (Elt Bits) ℓ) : Prop :=
  True

def Pre_KernelYOWIdeal (m : (ℓ : Loc Cert.KernelYOWIdeal.nD Cert.KernelYOWIdeal.τ Cert.KernelYOWIdeal.sig) → Buf (Elt Ideal) ℓ) : Prop :=
  True

def Pre_ReferenceYOWIdeal (m : (ℓ : Loc Cert.ReferenceYOWIdeal.nD Cert.ReferenceYOWIdeal.τ Cert.ReferenceYOWIdeal.sig) → Buf (Elt Ideal) ℓ) : Prop :=
  True

def Pre_KernelYS (m : (ℓ : Loc Cert.KernelYS.nD Cert.KernelYS.τ Cert.KernelYS.sig) → Buf (Elt Bits) ℓ) : Prop :=
  True

def Pre_KernelYSIdeal (m : (ℓ : Loc Cert.KernelYSIdeal.nD Cert.KernelYSIdeal.τ Cert.KernelYSIdeal.sig) → Buf (Elt Ideal) ℓ) : Prop :=
  True

def Pre_ReferenceYSIdeal (m : (ℓ : Loc Cert.ReferenceYSIdeal.nD Cert.ReferenceYSIdeal.τ Cert.ReferenceYSIdeal.sig) → Buf (Elt Ideal) ℓ) : Prop :=
  True

def Pre_KernelYI (m : (ℓ : Loc Cert.KernelYI.nD Cert.KernelYI.τ Cert.KernelYI.sig) → Buf (Elt Bits) ℓ) : Prop :=
  True

def Pre_KernelYIIdeal (m : (ℓ : Loc Cert.KernelYIIdeal.nD Cert.KernelYIIdeal.τ Cert.KernelYIIdeal.sig) → Buf (Elt Ideal) ℓ) : Prop :=
  True

def Pre_ReferenceYIIdeal (m : (ℓ : Loc Cert.ReferenceYIIdeal.nD Cert.ReferenceYIIdeal.τ Cert.ReferenceYIIdeal.sig) → Buf (Elt Ideal) ℓ) : Prop :=
  True

def Pre_KernelYIW (m : (ℓ : Loc Cert.KernelYIW.nD Cert.KernelYIW.τ Cert.KernelYIW.sig) → Buf (Elt Bits) ℓ) : Prop :=
  True

def Pre_KernelYIWIdeal (m : (ℓ : Loc Cert.KernelYIWIdeal.nD Cert.KernelYIWIdeal.τ Cert.KernelYIWIdeal.sig) → Buf (Elt Ideal) ℓ) : Prop :=
  True

def Pre_ReferenceYIWIdeal (m : (ℓ : Loc Cert.ReferenceYIWIdeal.nD Cert.ReferenceYIWIdeal.τ Cert.ReferenceYIWIdeal.sig) → Buf (Elt Ideal) ℓ) : Prop :=
  True

def Pre_KernelZI (m : (ℓ : Loc Cert.KernelZI.nD Cert.KernelZI.τ Cert.KernelZI.sig) → Buf (Elt Bits) ℓ) : Prop :=
  True

def Pre_KernelZIIdeal (m : (ℓ : Loc Cert.KernelZIIdeal.nD Cert.KernelZIIdeal.τ Cert.KernelZIIdeal.sig) → Buf (Elt Ideal) ℓ) : Prop :=
  True

def Pre_ReferenceZIIdeal (m : (ℓ : Loc Cert.ReferenceZIIdeal.nD Cert.ReferenceZIIdeal.τ Cert.ReferenceZIIdeal.sig) → Buf (Elt Ideal) ℓ) : Prop :=
  True

def Pre_KernelZO (m : (ℓ : Loc Cert.KernelZO.nD Cert.KernelZO.τ Cert.KernelZO.sig) → Buf (Elt Bits) ℓ) : Prop :=
  True

def Pre_KernelZOIdeal (m : (ℓ : Loc Cert.KernelZOIdeal.nD Cert.KernelZOIdeal.τ Cert.KernelZOIdeal.sig) → Buf (Elt Ideal) ℓ) : Prop :=
  True

def Pre_ReferenceZOIdeal (m : (ℓ : Loc Cert.ReferenceZOIdeal.nD Cert.ReferenceZOIdeal.τ Cert.ReferenceZOIdeal.sig) → Buf (Elt Ideal) ℓ) : Prop :=
  True

def Pre_KernelZOX (m : (ℓ : Loc Cert.KernelZOX.nD Cert.KernelZOX.τ Cert.KernelZOX.sig) → Buf (Elt Bits) ℓ) : Prop :=
  True

def Pre_KernelZOXIdeal (m : (ℓ : Loc Cert.KernelZOXIdeal.nD Cert.KernelZOXIdeal.τ Cert.KernelZOXIdeal.sig) → Buf (Elt Ideal) ℓ) : Prop :=
  True

def Pre_ReferenceZOXIdeal (m : (ℓ : Loc Cert.ReferenceZOXIdeal.nD Cert.ReferenceZOXIdeal.τ Cert.ReferenceZOXIdeal.sig) → Buf (Elt Ideal) ℓ) : Prop :=
  True

def Pre_KernelZOW (m : (ℓ : Loc Cert.KernelZOW.nD Cert.KernelZOW.τ Cert.KernelZOW.sig) → Buf (Elt Bits) ℓ) : Prop :=
  True

def Pre_KernelZOWIdeal (m : (ℓ : Loc Cert.KernelZOWIdeal.nD Cert.KernelZOWIdeal.τ Cert.KernelZOWIdeal.sig) → Buf (Elt Ideal) ℓ) : Prop :=
  True

def Pre_ReferenceZOWIdeal (m : (ℓ : Loc Cert.ReferenceZOWIdeal.nD Cert.ReferenceZOWIdeal.τ Cert.ReferenceZOWIdeal.sig) → Buf (Elt Ideal) ℓ) : Prop :=
  True

def Pre_KernelZIX (m : (ℓ : Loc Cert.KernelZIX.nD Cert.KernelZIX.τ Cert.KernelZIX.sig) → Buf (Elt Bits) ℓ) : Prop :=
  True

def Pre_KernelZIXIdeal (m : (ℓ : Loc Cert.KernelZIXIdeal.nD Cert.KernelZIXIdeal.τ Cert.KernelZIXIdeal.sig) → Buf (Elt Ideal) ℓ) : Prop :=
  True

def Pre_ReferenceZIXIdeal (m : (ℓ : Loc Cert.ReferenceZIXIdeal.nD Cert.ReferenceZIXIdeal.τ Cert.ReferenceZIXIdeal.sig) → Buf (Elt Ideal) ℓ) : Prop :=
  True

def Pre_KernelZIW (m : (ℓ : Loc Cert.KernelZIW.nD Cert.KernelZIW.τ Cert.KernelZIW.sig) → Buf (Elt Bits) ℓ) : Prop :=
  True

def Pre_KernelZIWIdeal (m : (ℓ : Loc Cert.KernelZIWIdeal.nD Cert.KernelZIWIdeal.τ Cert.KernelZIWIdeal.sig) → Buf (Elt Ideal) ℓ) : Prop :=
  True

def Pre_ReferenceZIWIdeal (m : (ℓ : Loc Cert.ReferenceZIWIdeal.nD Cert.ReferenceZIWIdeal.τ Cert.ReferenceZIWIdeal.sig) → Buf (Elt Ideal) ℓ) : Prop :=
  True

def Pre_ReferenceXR (m : (ℓ : Loc Cert.ReferenceXR.nD Cert.ReferenceXR.τ Cert.ReferenceXR.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_KernelF [hKernelF : Cert.KernelF.Facts] : Prop :=
  ∀ (m : (ℓ : Loc Cert.KernelF.nD Cert.KernelF.τ Cert.KernelF.sig) → Buf (Elt Bits) ℓ) (g : Dev Cert.KernelF.nD → PrngReg), Pre_KernelF m →
    θ_run (Cert.KernelF.defs (F := Bits)) (onTc (τ := Cert.KernelF.τ) (Cert.KernelF.main (F := Bits))) ⟨m, fun _ => 0, g⟩ (fun r => (∀ c : Dev Cert.KernelF.nD,
      r.2.mem ((c.tc : Thread Cert.KernelF.nD Cert.KernelF.τ).loc Cert.KernelF.main_arg0) = m ((c.tc : Thread Cert.KernelF.nD Cert.KernelF.τ).loc Cert.KernelF.main_arg0)
      ∧ r.2.mem ((c.tc : Thread Cert.KernelF.nD Cert.KernelF.τ).loc Cert.KernelF.main_arg1) = m ((c.tc : Thread Cert.KernelF.nD Cert.KernelF.τ).loc Cert.KernelF.main_arg1))
      ∧ r.2.sem = fun _ => 0)

def quiescent_KernelFIdeal [hKernelFIdeal : Cert.KernelFIdeal.Facts] : Prop :=
  ∀ (m : (ℓ : Loc Cert.KernelFIdeal.nD Cert.KernelFIdeal.τ Cert.KernelFIdeal.sig) → Buf (Elt Ideal) ℓ) (g : Dev Cert.KernelFIdeal.nD → PrngReg), Pre_KernelFIdeal m →
    θ_run (Cert.KernelFIdeal.defs (F := Ideal)) (onTc (τ := Cert.KernelFIdeal.τ) (Cert.KernelFIdeal.main (F := Ideal))) ⟨m, fun _ => 0, g⟩ (fun r => (∀ c : Dev Cert.KernelFIdeal.nD,
      r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
      ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1))
      ∧ r.2.sem = fun _ => 0)

def quiescent_ReferenceFIdeal [hReferenceFIdeal : Cert.ReferenceFIdeal.Facts] : Prop :=
  ∀ (m : (ℓ : Loc Cert.ReferenceFIdeal.nD Cert.ReferenceFIdeal.τ Cert.ReferenceFIdeal.sig) → Buf (Elt Ideal) ℓ) (g : Dev Cert.ReferenceFIdeal.nD → PrngReg), Pre_ReferenceFIdeal m →
    θ_run (Cert.ReferenceFIdeal.defs (F := Ideal)) (onTc (τ := Cert.ReferenceFIdeal.τ) (Cert.ReferenceFIdeal.main (F := Ideal))) ⟨m, fun _ => 0, g⟩ (fun r => (∀ c : Dev Cert.ReferenceFIdeal.nD,
      r.2.mem ((c.tc : Thread Cert.ReferenceFIdeal.nD Cert.ReferenceFIdeal.τ).loc Cert.ReferenceFIdeal.main_arg0) = m ((c.tc : Thread Cert.ReferenceFIdeal.nD Cert.ReferenceFIdeal.τ).loc Cert.ReferenceFIdeal.main_arg0)
      ∧ r.2.mem ((c.tc : Thread Cert.ReferenceFIdeal.nD Cert.ReferenceFIdeal.τ).loc Cert.ReferenceFIdeal.main_arg1) = m ((c.tc : Thread Cert.ReferenceFIdeal.nD Cert.ReferenceFIdeal.τ).loc Cert.ReferenceFIdeal.main_arg1))
      ∧ r.2.sem = fun _ => 0)

def quiescent_ReferenceF [hReferenceF : Cert.ReferenceF.Facts] : Prop :=
  ∀ (m : (ℓ : Loc Cert.ReferenceF.nD Cert.ReferenceF.τ Cert.ReferenceF.sig) → Buf (Elt Bits) ℓ) (g : Dev Cert.ReferenceF.nD → PrngReg), Pre_ReferenceF m →
    θ_run (Cert.ReferenceF.defs (F := Bits)) (onTc (τ := Cert.ReferenceF.τ) (Cert.ReferenceF.main (F := Bits))) ⟨m, fun _ => 0, g⟩ (fun r => (∀ c : Dev Cert.ReferenceF.nD,
      r.2.mem ((c.tc : Thread Cert.ReferenceF.nD Cert.ReferenceF.τ).loc Cert.ReferenceF.main_arg0) = m ((c.tc : Thread Cert.ReferenceF.nD Cert.ReferenceF.τ).loc Cert.ReferenceF.main_arg0)
      ∧ r.2.mem ((c.tc : Thread Cert.ReferenceF.nD Cert.ReferenceF.τ).loc Cert.ReferenceF.main_arg1) = m ((c.tc : Thread Cert.ReferenceF.nD Cert.ReferenceF.τ).loc Cert.ReferenceF.main_arg1))
      ∧ r.2.sem = fun _ => 0)

def quiescent_KernelB [hKernelB : Cert.KernelB.Facts] : Prop :=
  ∀ (m : (ℓ : Loc Cert.KernelB.nD Cert.KernelB.τ Cert.KernelB.sig) → Buf (Elt Bits) ℓ) (g : Dev Cert.KernelB.nD → PrngReg), Pre_KernelB m →
    θ_run (Cert.KernelB.defs (F := Bits)) (onTc (τ := Cert.KernelB.τ) (Cert.KernelB.main (F := Bits))) ⟨m, fun _ => 0, g⟩ (fun r => (∀ c : Dev Cert.KernelB.nD,
      r.2.mem ((c.tc : Thread Cert.KernelB.nD Cert.KernelB.τ).loc Cert.KernelB.main_arg0) = m ((c.tc : Thread Cert.KernelB.nD Cert.KernelB.τ).loc Cert.KernelB.main_arg0)
      ∧ r.2.mem ((c.tc : Thread Cert.KernelB.nD Cert.KernelB.τ).loc Cert.KernelB.main_arg1) = m ((c.tc : Thread Cert.KernelB.nD Cert.KernelB.τ).loc Cert.KernelB.main_arg1)
      ∧ r.2.mem ((c.tc : Thread Cert.KernelB.nD Cert.KernelB.τ).loc Cert.KernelB.main_arg2) = m ((c.tc : Thread Cert.KernelB.nD Cert.KernelB.τ).loc Cert.KernelB.main_arg2))
      ∧ r.2.sem = fun _ => 0)

def quiescent_KernelBIdeal [hKernelBIdeal : Cert.KernelBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2))
      ∧ r.2.sem = fun _ => 0)

def quiescent_ReferenceBIdeal [hReferenceBIdeal : Cert.ReferenceBIdeal.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2))
      ∧ r.2.sem = fun _ => 0)

def quiescent_ReferenceB [hReferenceB : Cert.ReferenceB.Facts] : Prop :=
  ∀ (m : (ℓ : Loc Cert.ReferenceB.nD Cert.ReferenceB.τ Cert.ReferenceB.sig) → Buf (Elt Bits) ℓ) (g : Dev Cert.ReferenceB.nD → PrngReg), Pre_ReferenceB m →
    θ_run (Cert.ReferenceB.defs (F := Bits)) (onTc (τ := Cert.ReferenceB.τ) (Cert.ReferenceB.main (F := Bits))) ⟨m, fun _ => 0, g⟩ (fun r => (∀ c : Dev Cert.ReferenceB.nD,
      r.2.mem ((c.tc : Thread Cert.ReferenceB.nD Cert.ReferenceB.τ).loc Cert.ReferenceB.main_arg0) = m ((c.tc : Thread Cert.ReferenceB.nD Cert.ReferenceB.τ).loc Cert.ReferenceB.main_arg0)
      ∧ r.2.mem ((c.tc : Thread Cert.ReferenceB.nD Cert.ReferenceB.τ).loc Cert.ReferenceB.main_arg1) = m ((c.tc : Thread Cert.ReferenceB.nD Cert.ReferenceB.τ).loc Cert.ReferenceB.main_arg1)
      ∧ r.2.mem ((c.tc : Thread Cert.ReferenceB.nD Cert.ReferenceB.τ).loc Cert.ReferenceB.main_arg2) = m ((c.tc : Thread Cert.ReferenceB.nD Cert.ReferenceB.τ).loc Cert.ReferenceB.main_arg2))
      ∧ r.2.sem = fun _ => 0)

def quiescent_KernelA [hKernelA : Cert.KernelA.Facts] : Prop :=
  ∀ (m : (ℓ : Loc Cert.KernelA.nD Cert.KernelA.τ Cert.KernelA.sig) → Buf (Elt Bits) ℓ) (g : Dev Cert.KernelA.nD → PrngReg), Pre_KernelA m →
    θ_run (Cert.KernelA.defs (F := Bits)) (onTc (τ := Cert.KernelA.τ) (Cert.KernelA.main (F := Bits))) ⟨m, fun _ => 0, g⟩ (fun r => (∀ c : Dev Cert.KernelA.nD,
      r.2.mem ((c.tc : Thread Cert.KernelA.nD Cert.KernelA.τ).loc Cert.KernelA.main_arg0) = m ((c.tc : Thread Cert.KernelA.nD Cert.KernelA.τ).loc Cert.KernelA.main_arg0))
      ∧ r.2.sem = fun _ => 0)

def quiescent_KernelAIdeal [hKernelAIdeal : Cert.KernelAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0))
      ∧ r.2.sem = fun _ => 0)

def quiescent_ReferenceAIdeal [hReferenceAIdeal : Cert.ReferenceAIdeal.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0))
      ∧ r.2.sem = fun _ => 0)

def quiescent_ReferenceA [hReferenceA : Cert.ReferenceA.Facts] : Prop :=
  ∀ (m : (ℓ : Loc Cert.ReferenceA.nD Cert.ReferenceA.τ Cert.ReferenceA.sig) → Buf (Elt Bits) ℓ) (g : Dev Cert.ReferenceA.nD → PrngReg), Pre_ReferenceA m →
    θ_run (Cert.ReferenceA.defs (F := Bits)) (onTc (τ := Cert.ReferenceA.τ) (Cert.ReferenceA.main (F := Bits))) ⟨m, fun _ => 0, g⟩ (fun r => (∀ c : Dev Cert.ReferenceA.nD,
      r.2.mem ((c.tc : Thread Cert.ReferenceA.nD Cert.ReferenceA.τ).loc Cert.ReferenceA.main_arg0) = m ((c.tc : Thread Cert.ReferenceA.nD Cert.ReferenceA.τ).loc Cert.ReferenceA.main_arg0))
      ∧ r.2.sem = fun _ => 0)

def quiescent_KernelUI [hKernelUI : Cert.KernelUI.Facts] : Prop :=
  ∀ (m : (ℓ : Loc Cert.KernelUI.nD Cert.KernelUI.τ Cert.KernelUI.sig) → Buf (Elt Bits) ℓ) (g : Dev Cert.KernelUI.nD → PrngReg), Pre_KernelUI m →
    θ_run (Cert.KernelUI.defs (F := Bits)) (onTc (τ := Cert.KernelUI.τ) (Cert.KernelUI.main (F := Bits))) ⟨m, fun _ => 0, g⟩ (fun r => (∀ c : Dev Cert.KernelUI.nD,
      r.2.mem ((c.tc : Thread Cert.KernelUI.nD Cert.KernelUI.τ).loc Cert.KernelUI.main_arg0) = m ((c.tc : Thread Cert.KernelUI.nD Cert.KernelUI.τ).loc Cert.KernelUI.main_arg0)
      ∧ r.2.mem ((c.tc : Thread Cert.KernelUI.nD Cert.KernelUI.τ).loc Cert.KernelUI.main_arg1) = m ((c.tc : Thread Cert.KernelUI.nD Cert.KernelUI.τ).loc Cert.KernelUI.main_arg1)
      ∧ r.2.mem ((c.tc : Thread Cert.KernelUI.nD Cert.KernelUI.τ).loc Cert.KernelUI.main_arg2) = m ((c.tc : Thread Cert.KernelUI.nD Cert.KernelUI.τ).loc Cert.KernelUI.main_arg2)
      ∧ r.2.mem ((c.tc : Thread Cert.KernelUI.nD Cert.KernelUI.τ).loc Cert.KernelUI.main_arg3) = m ((c.tc : Thread Cert.KernelUI.nD Cert.KernelUI.τ).loc Cert.KernelUI.main_arg3))
      ∧ r.2.sem = fun _ => 0)

def quiescent_KernelUIIdeal [hKernelUIIdeal : Cert.KernelUIIdeal.Facts] : Prop :=
  ∀ (m : (ℓ : Loc Cert.KernelUIIdeal.nD Cert.KernelUIIdeal.τ Cert.KernelUIIdeal.sig) → Buf (Elt Ideal) ℓ) (g : Dev Cert.KernelUIIdeal.nD → PrngReg), Pre_KernelUIIdeal m →
    θ_run (Cert.KernelUIIdeal.defs (F := Ideal)) (onTc (τ := Cert.KernelUIIdeal.τ) (Cert.KernelUIIdeal.main (F := Ideal))) ⟨m, fun _ => 0, g⟩ (fun r => (∀ c : Dev Cert.KernelUIIdeal.nD,
      r.2.mem ((c.tc : Thread Cert.KernelUIIdeal.nD Cert.KernelUIIdeal.τ).loc Cert.KernelUIIdeal.main_arg0) = m ((c.tc : Thread Cert.KernelUIIdeal.nD Cert.KernelUIIdeal.τ).loc Cert.KernelUIIdeal.main_arg0)
      ∧ r.2.mem ((c.tc : Thread Cert.KernelUIIdeal.nD Cert.KernelUIIdeal.τ).loc Cert.KernelUIIdeal.main_arg1) = m ((c.tc : Thread Cert.KernelUIIdeal.nD Cert.KernelUIIdeal.τ).loc Cert.KernelUIIdeal.main_arg1)
      ∧ r.2.mem ((c.tc : Thread Cert.KernelUIIdeal.nD Cert.KernelUIIdeal.τ).loc Cert.KernelUIIdeal.main_arg2) = m ((c.tc : Thread Cert.KernelUIIdeal.nD Cert.KernelUIIdeal.τ).loc Cert.KernelUIIdeal.main_arg2)
      ∧ r.2.mem ((c.tc : Thread Cert.KernelUIIdeal.nD Cert.KernelUIIdeal.τ).loc Cert.KernelUIIdeal.main_arg3) = m ((c.tc : Thread Cert.KernelUIIdeal.nD Cert.KernelUIIdeal.τ).loc Cert.KernelUIIdeal.main_arg3))
      ∧ r.2.sem = fun _ => 0)

def quiescent_ReferenceUIIdeal [hReferenceUIIdeal : Cert.ReferenceUIIdeal.Facts] : Prop :=
  ∀ (m : (ℓ : Loc Cert.ReferenceUIIdeal.nD Cert.ReferenceUIIdeal.τ Cert.ReferenceUIIdeal.sig) → Buf (Elt Ideal) ℓ) (g : Dev Cert.ReferenceUIIdeal.nD → PrngReg), Pre_ReferenceUIIdeal m →
    θ_run (Cert.ReferenceUIIdeal.defs (F := Ideal)) (onTc (τ := Cert.ReferenceUIIdeal.τ) (Cert.ReferenceUIIdeal.main (F := Ideal))) ⟨m, fun _ => 0, g⟩ (fun r => (∀ c : Dev Cert.ReferenceUIIdeal.nD,
      r.2.mem ((c.tc : Thread Cert.ReferenceUIIdeal.nD Cert.ReferenceUIIdeal.τ).loc Cert.ReferenceUIIdeal.main_arg0) = m ((c.tc : Thread Cert.ReferenceUIIdeal.nD Cert.ReferenceUIIdeal.τ).loc Cert.ReferenceUIIdeal.main_arg0)
      ∧ r.2.mem ((c.tc : Thread Cert.ReferenceUIIdeal.nD Cert.ReferenceUIIdeal.τ).loc Cert.ReferenceUIIdeal.main_arg1) = m ((c.tc : Thread Cert.ReferenceUIIdeal.nD Cert.ReferenceUIIdeal.τ).loc Cert.ReferenceUIIdeal.main_arg1)
      ∧ r.2.mem ((c.tc : Thread Cert.ReferenceUIIdeal.nD Cert.ReferenceUIIdeal.τ).loc Cert.ReferenceUIIdeal.main_arg2) = m ((c.tc : Thread Cert.ReferenceUIIdeal.nD Cert.ReferenceUIIdeal.τ).loc Cert.ReferenceUIIdeal.main_arg2)
      ∧ r.2.mem ((c.tc : Thread Cert.ReferenceUIIdeal.nD Cert.ReferenceUIIdeal.τ).loc Cert.ReferenceUIIdeal.main_arg3) = m ((c.tc : Thread Cert.ReferenceUIIdeal.nD Cert.ReferenceUIIdeal.τ).loc Cert.ReferenceUIIdeal.main_arg3))
      ∧ r.2.sem = fun _ => 0)

def quiescent_KernelUO [hKernelUO : Cert.KernelUO.Facts] : Prop :=
  ∀ (m : (ℓ : Loc Cert.KernelUO.nD Cert.KernelUO.τ Cert.KernelUO.sig) → Buf (Elt Bits) ℓ) (g : Dev Cert.KernelUO.nD → PrngReg), Pre_KernelUO m →
    θ_run (Cert.KernelUO.defs (F := Bits)) (onTc (τ := Cert.KernelUO.τ) (Cert.KernelUO.main (F := Bits))) ⟨m, fun _ => 0, g⟩ (fun r => (∀ c : Dev Cert.KernelUO.nD,
      r.2.mem ((c.tc : Thread Cert.KernelUO.nD Cert.KernelUO.τ).loc Cert.KernelUO.main_arg0) = m ((c.tc : Thread Cert.KernelUO.nD Cert.KernelUO.τ).loc Cert.KernelUO.main_arg0)
      ∧ r.2.mem ((c.tc : Thread Cert.KernelUO.nD Cert.KernelUO.τ).loc Cert.KernelUO.main_arg1) = m ((c.tc : Thread Cert.KernelUO.nD Cert.KernelUO.τ).loc Cert.KernelUO.main_arg1)
      ∧ r.2.mem ((c.tc : Thread Cert.KernelUO.nD Cert.KernelUO.τ).loc Cert.KernelUO.main_arg2) = m ((c.tc : Thread Cert.KernelUO.nD Cert.KernelUO.τ).loc Cert.KernelUO.main_arg2)
      ∧ r.2.mem ((c.tc : Thread Cert.KernelUO.nD Cert.KernelUO.τ).loc Cert.KernelUO.main_arg3) = m ((c.tc : Thread Cert.KernelUO.nD Cert.KernelUO.τ).loc Cert.KernelUO.main_arg3))
      ∧ r.2.sem = fun _ => 0)

def quiescent_KernelUOIdeal [hKernelUOIdeal : Cert.KernelUOIdeal.Facts] : Prop :=
  ∀ (m : (ℓ : Loc Cert.KernelUOIdeal.nD Cert.KernelUOIdeal.τ Cert.KernelUOIdeal.sig) → Buf (Elt Ideal) ℓ) (g : Dev Cert.KernelUOIdeal.nD → PrngReg), Pre_KernelUOIdeal m →
    θ_run (Cert.KernelUOIdeal.defs (F := Ideal)) (onTc (τ := Cert.KernelUOIdeal.τ) (Cert.KernelUOIdeal.main (F := Ideal))) ⟨m, fun _ => 0, g⟩ (fun r => (∀ c : Dev Cert.KernelUOIdeal.nD,
      r.2.mem ((c.tc : Thread Cert.KernelUOIdeal.nD Cert.KernelUOIdeal.τ).loc Cert.KernelUOIdeal.main_arg0) = m ((c.tc : Thread Cert.KernelUOIdeal.nD Cert.KernelUOIdeal.τ).loc Cert.KernelUOIdeal.main_arg0)
      ∧ r.2.mem ((c.tc : Thread Cert.KernelUOIdeal.nD Cert.KernelUOIdeal.τ).loc Cert.KernelUOIdeal.main_arg1) = m ((c.tc : Thread Cert.KernelUOIdeal.nD Cert.KernelUOIdeal.τ).loc Cert.KernelUOIdeal.main_arg1)
      ∧ r.2.mem ((c.tc : Thread Cert.KernelUOIdeal.nD Cert.KernelUOIdeal.τ).loc Cert.KernelUOIdeal.main_arg2) = m ((c.tc : Thread Cert.KernelUOIdeal.nD Cert.KernelUOIdeal.τ).loc Cert.KernelUOIdeal.main_arg2)
      ∧ r.2.mem ((c.tc : Thread Cert.KernelUOIdeal.nD Cert.KernelUOIdeal.τ).loc Cert.KernelUOIdeal.main_arg3) = m ((c.tc : Thread Cert.KernelUOIdeal.nD Cert.KernelUOIdeal.τ).loc Cert.KernelUOIdeal.main_arg3))
      ∧ r.2.sem = fun _ => 0)

def quiescent_ReferenceUOIdeal [hReferenceUOIdeal : Cert.ReferenceUOIdeal.Facts] : Prop :=
  ∀ (m : (ℓ : Loc Cert.ReferenceUOIdeal.nD Cert.ReferenceUOIdeal.τ Cert.ReferenceUOIdeal.sig) → Buf (Elt Ideal) ℓ) (g : Dev Cert.ReferenceUOIdeal.nD → PrngReg), Pre_ReferenceUOIdeal m →
    θ_run (Cert.ReferenceUOIdeal.defs (F := Ideal)) (onTc (τ := Cert.ReferenceUOIdeal.τ) (Cert.ReferenceUOIdeal.main (F := Ideal))) ⟨m, fun _ => 0, g⟩ (fun r => (∀ c : Dev Cert.ReferenceUOIdeal.nD,
      r.2.mem ((c.tc : Thread Cert.ReferenceUOIdeal.nD Cert.ReferenceUOIdeal.τ).loc Cert.ReferenceUOIdeal.main_arg0) = m ((c.tc : Thread Cert.ReferenceUOIdeal.nD Cert.ReferenceUOIdeal.τ).loc Cert.ReferenceUOIdeal.main_arg0)
      ∧ r.2.mem ((c.tc : Thread Cert.ReferenceUOIdeal.nD Cert.ReferenceUOIdeal.τ).loc Cert.ReferenceUOIdeal.main_arg1) = m ((c.tc : Thread Cert.ReferenceUOIdeal.nD Cert.ReferenceUOIdeal.τ).loc Cert.ReferenceUOIdeal.main_arg1)
      ∧ r.2.mem ((c.tc : Thread Cert.ReferenceUOIdeal.nD Cert.ReferenceUOIdeal.τ).loc Cert.ReferenceUOIdeal.main_arg2) = m ((c.tc : Thread Cert.ReferenceUOIdeal.nD Cert.ReferenceUOIdeal.τ).loc Cert.ReferenceUOIdeal.main_arg2)
      ∧ r.2.mem ((c.tc : Thread Cert.ReferenceUOIdeal.nD Cert.ReferenceUOIdeal.τ).loc Cert.ReferenceUOIdeal.main_arg3) = m ((c.tc : Thread Cert.ReferenceUOIdeal.nD Cert.ReferenceUOIdeal.τ).loc Cert.ReferenceUOIdeal.main_arg3))
      ∧ r.2.sem = fun _ => 0)

def quiescent_KernelUG [hKernelUG : Cert.KernelUG.Facts] : Prop :=
  ∀ (m : (ℓ : Loc Cert.KernelUG.nD Cert.KernelUG.τ Cert.KernelUG.sig) → Buf (Elt Bits) ℓ) (g : Dev Cert.KernelUG.nD → PrngReg), Pre_KernelUG m →
    θ_run (Cert.KernelUG.defs (F := Bits)) (onTc (τ := Cert.KernelUG.τ) (Cert.KernelUG.main (F := Bits))) ⟨m, fun _ => 0, g⟩ (fun r => (∀ c : Dev Cert.KernelUG.nD,
      r.2.mem ((c.tc : Thread Cert.KernelUG.nD Cert.KernelUG.τ).loc Cert.KernelUG.main_arg0) = m ((c.tc : Thread Cert.KernelUG.nD Cert.KernelUG.τ).loc Cert.KernelUG.main_arg0)
      ∧ r.2.mem ((c.tc : Thread Cert.KernelUG.nD Cert.KernelUG.τ).loc Cert.KernelUG.main_arg1) = m ((c.tc : Thread Cert.KernelUG.nD Cert.KernelUG.τ).loc Cert.KernelUG.main_arg1)
      ∧ r.2.mem ((c.tc : Thread Cert.KernelUG.nD Cert.KernelUG.τ).loc Cert.KernelUG.main_arg2) = m ((c.tc : Thread Cert.KernelUG.nD Cert.KernelUG.τ).loc Cert.KernelUG.main_arg2)
      ∧ r.2.mem ((c.tc : Thread Cert.KernelUG.nD Cert.KernelUG.τ).loc Cert.KernelUG.main_arg3) = m ((c.tc : Thread Cert.KernelUG.nD Cert.KernelUG.τ).loc Cert.KernelUG.main_arg3))
      ∧ r.2.sem = fun _ => 0)

def quiescent_KernelUGIdeal [hKernelUGIdeal : Cert.KernelUGIdeal.Facts] : Prop :=
  ∀ (m : (ℓ : Loc Cert.KernelUGIdeal.nD Cert.KernelUGIdeal.τ Cert.KernelUGIdeal.sig) → Buf (Elt Ideal) ℓ) (g : Dev Cert.KernelUGIdeal.nD → PrngReg), Pre_KernelUGIdeal m →
    θ_run (Cert.KernelUGIdeal.defs (F := Ideal)) (onTc (τ := Cert.KernelUGIdeal.τ) (Cert.KernelUGIdeal.main (F := Ideal))) ⟨m, fun _ => 0, g⟩ (fun r => (∀ c : Dev Cert.KernelUGIdeal.nD,
      r.2.mem ((c.tc : Thread Cert.KernelUGIdeal.nD Cert.KernelUGIdeal.τ).loc Cert.KernelUGIdeal.main_arg0) = m ((c.tc : Thread Cert.KernelUGIdeal.nD Cert.KernelUGIdeal.τ).loc Cert.KernelUGIdeal.main_arg0)
      ∧ r.2.mem ((c.tc : Thread Cert.KernelUGIdeal.nD Cert.KernelUGIdeal.τ).loc Cert.KernelUGIdeal.main_arg1) = m ((c.tc : Thread Cert.KernelUGIdeal.nD Cert.KernelUGIdeal.τ).loc Cert.KernelUGIdeal.main_arg1)
      ∧ r.2.mem ((c.tc : Thread Cert.KernelUGIdeal.nD Cert.KernelUGIdeal.τ).loc Cert.KernelUGIdeal.main_arg2) = m ((c.tc : Thread Cert.KernelUGIdeal.nD Cert.KernelUGIdeal.τ).loc Cert.KernelUGIdeal.main_arg2)
      ∧ r.2.mem ((c.tc : Thread Cert.KernelUGIdeal.nD Cert.KernelUGIdeal.τ).loc Cert.KernelUGIdeal.main_arg3) = m ((c.tc : Thread Cert.KernelUGIdeal.nD Cert.KernelUGIdeal.τ).loc Cert.KernelUGIdeal.main_arg3))
      ∧ r.2.sem = fun _ => 0)

def quiescent_ReferenceUGIdeal [hReferenceUGIdeal : Cert.ReferenceUGIdeal.Facts] : Prop :=
  ∀ (m : (ℓ : Loc Cert.ReferenceUGIdeal.nD Cert.ReferenceUGIdeal.τ Cert.ReferenceUGIdeal.sig) → Buf (Elt Ideal) ℓ) (g : Dev Cert.ReferenceUGIdeal.nD → PrngReg), Pre_ReferenceUGIdeal m →
    θ_run (Cert.ReferenceUGIdeal.defs (F := Ideal)) (onTc (τ := Cert.ReferenceUGIdeal.τ) (Cert.ReferenceUGIdeal.main (F := Ideal))) ⟨m, fun _ => 0, g⟩ (fun r => (∀ c : Dev Cert.ReferenceUGIdeal.nD,
      r.2.mem ((c.tc : Thread Cert.ReferenceUGIdeal.nD Cert.ReferenceUGIdeal.τ).loc Cert.ReferenceUGIdeal.main_arg0) = m ((c.tc : Thread Cert.ReferenceUGIdeal.nD Cert.ReferenceUGIdeal.τ).loc Cert.ReferenceUGIdeal.main_arg0)
      ∧ r.2.mem ((c.tc : Thread Cert.ReferenceUGIdeal.nD Cert.ReferenceUGIdeal.τ).loc Cert.ReferenceUGIdeal.main_arg1) = m ((c.tc : Thread Cert.ReferenceUGIdeal.nD Cert.ReferenceUGIdeal.τ).loc Cert.ReferenceUGIdeal.main_arg1)
      ∧ r.2.mem ((c.tc : Thread Cert.ReferenceUGIdeal.nD Cert.ReferenceUGIdeal.τ).loc Cert.ReferenceUGIdeal.main_arg2) = m ((c.tc : Thread Cert.ReferenceUGIdeal.nD Cert.ReferenceUGIdeal.τ).loc Cert.ReferenceUGIdeal.main_arg2)
      ∧ r.2.mem ((c.tc : Thread Cert.ReferenceUGIdeal.nD Cert.ReferenceUGIdeal.τ).loc Cert.ReferenceUGIdeal.main_arg3) = m ((c.tc : Thread Cert.ReferenceUGIdeal.nD Cert.ReferenceUGIdeal.τ).loc Cert.ReferenceUGIdeal.main_arg3))
      ∧ r.2.sem = fun _ => 0)

def quiescent_KernelUF [hKernelUF : Cert.KernelUF.Facts] : Prop :=
  ∀ (m : (ℓ : Loc Cert.KernelUF.nD Cert.KernelUF.τ Cert.KernelUF.sig) → Buf (Elt Bits) ℓ) (g : Dev Cert.KernelUF.nD → PrngReg), Pre_KernelUF m →
    θ_run (Cert.KernelUF.defs (F := Bits)) (onTc (τ := Cert.KernelUF.τ) (Cert.KernelUF.main (F := Bits))) ⟨m, fun _ => 0, g⟩ (fun r => (∀ c : Dev Cert.KernelUF.nD,
      r.2.mem ((c.tc : Thread Cert.KernelUF.nD Cert.KernelUF.τ).loc Cert.KernelUF.main_arg0) = m ((c.tc : Thread Cert.KernelUF.nD Cert.KernelUF.τ).loc Cert.KernelUF.main_arg0)
      ∧ r.2.mem ((c.tc : Thread Cert.KernelUF.nD Cert.KernelUF.τ).loc Cert.KernelUF.main_arg1) = m ((c.tc : Thread Cert.KernelUF.nD Cert.KernelUF.τ).loc Cert.KernelUF.main_arg1)
      ∧ r.2.mem ((c.tc : Thread Cert.KernelUF.nD Cert.KernelUF.τ).loc Cert.KernelUF.main_arg2) = m ((c.tc : Thread Cert.KernelUF.nD Cert.KernelUF.τ).loc Cert.KernelUF.main_arg2)
      ∧ r.2.mem ((c.tc : Thread Cert.KernelUF.nD Cert.KernelUF.τ).loc Cert.KernelUF.main_arg3) = m ((c.tc : Thread Cert.KernelUF.nD Cert.KernelUF.τ).loc Cert.KernelUF.main_arg3))
      ∧ r.2.sem = fun _ => 0)

def quiescent_KernelUFIdeal [hKernelUFIdeal : Cert.KernelUFIdeal.Facts] : Prop :=
  ∀ (m : (ℓ : Loc Cert.KernelUFIdeal.nD Cert.KernelUFIdeal.τ Cert.KernelUFIdeal.sig) → Buf (Elt Ideal) ℓ) (g : Dev Cert.KernelUFIdeal.nD → PrngReg), Pre_KernelUFIdeal m →
    θ_run (Cert.KernelUFIdeal.defs (F := Ideal)) (onTc (τ := Cert.KernelUFIdeal.τ) (Cert.KernelUFIdeal.main (F := Ideal))) ⟨m, fun _ => 0, g⟩ (fun r => (∀ c : Dev Cert.KernelUFIdeal.nD,
      r.2.mem ((c.tc : Thread Cert.KernelUFIdeal.nD Cert.KernelUFIdeal.τ).loc Cert.KernelUFIdeal.main_arg0) = m ((c.tc : Thread Cert.KernelUFIdeal.nD Cert.KernelUFIdeal.τ).loc Cert.KernelUFIdeal.main_arg0)
      ∧ r.2.mem ((c.tc : Thread Cert.KernelUFIdeal.nD Cert.KernelUFIdeal.τ).loc Cert.KernelUFIdeal.main_arg1) = m ((c.tc : Thread Cert.KernelUFIdeal.nD Cert.KernelUFIdeal.τ).loc Cert.KernelUFIdeal.main_arg1)
      ∧ r.2.mem ((c.tc : Thread Cert.KernelUFIdeal.nD Cert.KernelUFIdeal.τ).loc Cert.KernelUFIdeal.main_arg2) = m ((c.tc : Thread Cert.KernelUFIdeal.nD Cert.KernelUFIdeal.τ).loc Cert.KernelUFIdeal.main_arg2)
      ∧ r.2.mem ((c.tc : Thread Cert.KernelUFIdeal.nD Cert.KernelUFIdeal.τ).loc Cert.KernelUFIdeal.main_arg3) = m ((c.tc : Thread Cert.KernelUFIdeal.nD Cert.KernelUFIdeal.τ).loc Cert.KernelUFIdeal.main_arg3))
      ∧ r.2.sem = fun _ => 0)

def quiescent_ReferenceUFIdeal [hReferenceUFIdeal : Cert.ReferenceUFIdeal.Facts] : Prop :=
  ∀ (m : (ℓ : Loc Cert.ReferenceUFIdeal.nD Cert.ReferenceUFIdeal.τ Cert.ReferenceUFIdeal.sig) → Buf (Elt Ideal) ℓ) (g : Dev Cert.ReferenceUFIdeal.nD → PrngReg), Pre_ReferenceUFIdeal m →
    θ_run (Cert.ReferenceUFIdeal.defs (F := Ideal)) (onTc (τ := Cert.ReferenceUFIdeal.τ) (Cert.ReferenceUFIdeal.main (F := Ideal))) ⟨m, fun _ => 0, g⟩ (fun r => (∀ c : Dev Cert.ReferenceUFIdeal.nD,
      r.2.mem ((c.tc : Thread Cert.ReferenceUFIdeal.nD Cert.ReferenceUFIdeal.τ).loc Cert.ReferenceUFIdeal.main_arg0) = m ((c.tc : Thread Cert.ReferenceUFIdeal.nD Cert.ReferenceUFIdeal.τ).loc Cert.ReferenceUFIdeal.main_arg0)
      ∧ r.2.mem ((c.tc : Thread Cert.ReferenceUFIdeal.nD Cert.ReferenceUFIdeal.τ).loc Cert.ReferenceUFIdeal.main_arg1) = m ((c.tc : Thread Cert.ReferenceUFIdeal.nD Cert.ReferenceUFIdeal.τ).loc Cert.ReferenceUFIdeal.main_arg1)
      ∧ r.2.mem ((c.tc : Thread Cert.ReferenceUFIdeal.nD Cert.ReferenceUFIdeal.τ).loc Cert.ReferenceUFIdeal.main_arg2) = m ((c.tc : Thread Cert.ReferenceUFIdeal.nD Cert.ReferenceUFIdeal.τ).loc Cert.ReferenceUFIdeal.main_arg2)
      ∧ r.2.mem ((c.tc : Thread Cert.ReferenceUFIdeal.nD Cert.ReferenceUFIdeal.τ).loc Cert.ReferenceUFIdeal.main_arg3) = m ((c.tc : Thread Cert.ReferenceUFIdeal.nD Cert.ReferenceUFIdeal.τ).loc Cert.ReferenceUFIdeal.main_arg3))
      ∧ r.2.sem = fun _ => 0)

def quiescent_KernelUM [hKernelUM : Cert.KernelUM.Facts] : Prop :=
  ∀ (m : (ℓ : Loc Cert.KernelUM.nD Cert.KernelUM.τ Cert.KernelUM.sig) → Buf (Elt Bits) ℓ) (g : Dev Cert.KernelUM.nD → PrngReg), Pre_KernelUM m →
    θ_run (Cert.KernelUM.defs (F := Bits)) (onTc (τ := Cert.KernelUM.τ) (Cert.KernelUM.main (F := Bits))) ⟨m, fun _ => 0, g⟩ (fun r => (∀ c : Dev Cert.KernelUM.nD,
      r.2.mem ((c.tc : Thread Cert.KernelUM.nD Cert.KernelUM.τ).loc Cert.KernelUM.main_arg0) = m ((c.tc : Thread Cert.KernelUM.nD Cert.KernelUM.τ).loc Cert.KernelUM.main_arg0)
      ∧ r.2.mem ((c.tc : Thread Cert.KernelUM.nD Cert.KernelUM.τ).loc Cert.KernelUM.main_arg1) = m ((c.tc : Thread Cert.KernelUM.nD Cert.KernelUM.τ).loc Cert.KernelUM.main_arg1)
      ∧ r.2.mem ((c.tc : Thread Cert.KernelUM.nD Cert.KernelUM.τ).loc Cert.KernelUM.main_arg2) = m ((c.tc : Thread Cert.KernelUM.nD Cert.KernelUM.τ).loc Cert.KernelUM.main_arg2)
      ∧ r.2.mem ((c.tc : Thread Cert.KernelUM.nD Cert.KernelUM.τ).loc Cert.KernelUM.main_arg3) = m ((c.tc : Thread Cert.KernelUM.nD Cert.KernelUM.τ).loc Cert.KernelUM.main_arg3))
      ∧ r.2.sem = fun _ => 0)

def quiescent_KernelUMIdeal [hKernelUMIdeal : Cert.KernelUMIdeal.Facts] : Prop :=
  ∀ (m : (ℓ : Loc Cert.KernelUMIdeal.nD Cert.KernelUMIdeal.τ Cert.KernelUMIdeal.sig) → Buf (Elt Ideal) ℓ) (g : Dev Cert.KernelUMIdeal.nD → PrngReg), Pre_KernelUMIdeal m →
    θ_run (Cert.KernelUMIdeal.defs (F := Ideal)) (onTc (τ := Cert.KernelUMIdeal.τ) (Cert.KernelUMIdeal.main (F := Ideal))) ⟨m, fun _ => 0, g⟩ (fun r => (∀ c : Dev Cert.KernelUMIdeal.nD,
      r.2.mem ((c.tc : Thread Cert.KernelUMIdeal.nD Cert.KernelUMIdeal.τ).loc Cert.KernelUMIdeal.main_arg0) = m ((c.tc : Thread Cert.KernelUMIdeal.nD Cert.KernelUMIdeal.τ).loc Cert.KernelUMIdeal.main_arg0)
      ∧ r.2.mem ((c.tc : Thread Cert.KernelUMIdeal.nD Cert.KernelUMIdeal.τ).loc Cert.KernelUMIdeal.main_arg1) = m ((c.tc : Thread Cert.KernelUMIdeal.nD Cert.KernelUMIdeal.τ).loc Cert.KernelUMIdeal.main_arg1)
      ∧ r.2.mem ((c.tc : Thread Cert.KernelUMIdeal.nD Cert.KernelUMIdeal.τ).loc Cert.KernelUMIdeal.main_arg2) = m ((c.tc : Thread Cert.KernelUMIdeal.nD Cert.KernelUMIdeal.τ).loc Cert.KernelUMIdeal.main_arg2)
      ∧ r.2.mem ((c.tc : Thread Cert.KernelUMIdeal.nD Cert.KernelUMIdeal.τ).loc Cert.KernelUMIdeal.main_arg3) = m ((c.tc : Thread Cert.KernelUMIdeal.nD Cert.KernelUMIdeal.τ).loc Cert.KernelUMIdeal.main_arg3))
      ∧ r.2.sem = fun _ => 0)

def quiescent_ReferenceUMIdeal [hReferenceUMIdeal : Cert.ReferenceUMIdeal.Facts] : Prop :=
  ∀ (m : (ℓ : Loc Cert.ReferenceUMIdeal.nD Cert.ReferenceUMIdeal.τ Cert.ReferenceUMIdeal.sig) → Buf (Elt Ideal) ℓ) (g : Dev Cert.ReferenceUMIdeal.nD → PrngReg), Pre_ReferenceUMIdeal m →
    θ_run (Cert.ReferenceUMIdeal.defs (F := Ideal)) (onTc (τ := Cert.ReferenceUMIdeal.τ) (Cert.ReferenceUMIdeal.main (F := Ideal))) ⟨m, fun _ => 0, g⟩ (fun r => (∀ c : Dev Cert.ReferenceUMIdeal.nD,
      r.2.mem ((c.tc : Thread Cert.ReferenceUMIdeal.nD Cert.ReferenceUMIdeal.τ).loc Cert.ReferenceUMIdeal.main_arg0) = m ((c.tc : Thread Cert.ReferenceUMIdeal.nD Cert.ReferenceUMIdeal.τ).loc Cert.ReferenceUMIdeal.main_arg0)
      ∧ r.2.mem ((c.tc : Thread Cert.ReferenceUMIdeal.nD Cert.ReferenceUMIdeal.τ).loc Cert.ReferenceUMIdeal.main_arg1) = m ((c.tc : Thread Cert.ReferenceUMIdeal.nD Cert.ReferenceUMIdeal.τ).loc Cert.ReferenceUMIdeal.main_arg1)
      ∧ r.2.mem ((c.tc : Thread Cert.ReferenceUMIdeal.nD Cert.ReferenceUMIdeal.τ).loc Cert.ReferenceUMIdeal.main_arg2) = m ((c.tc : Thread Cert.ReferenceUMIdeal.nD Cert.ReferenceUMIdeal.τ).loc Cert.ReferenceUMIdeal.main_arg2)
      ∧ r.2.mem ((c.tc : Thread Cert.ReferenceUMIdeal.nD Cert.ReferenceUMIdeal.τ).loc Cert.ReferenceUMIdeal.main_arg3) = m ((c.tc : Thread Cert.ReferenceUMIdeal.nD Cert.ReferenceUMIdeal.τ).loc Cert.ReferenceUMIdeal.main_arg3))
      ∧ r.2.sem = fun _ => 0)

def quiescent_KernelUC [hKernelUC : Cert.KernelUC.Facts] : Prop :=
  ∀ (m : (ℓ : Loc Cert.KernelUC.nD Cert.KernelUC.τ Cert.KernelUC.sig) → Buf (Elt Bits) ℓ) (g : Dev Cert.KernelUC.nD → PrngReg), Pre_KernelUC m →
    θ_run (Cert.KernelUC.defs (F := Bits)) (onTc (τ := Cert.KernelUC.τ) (Cert.KernelUC.main (F := Bits))) ⟨m, fun _ => 0, g⟩ (fun r => (∀ c : Dev Cert.KernelUC.nD,
      r.2.mem ((c.tc : Thread Cert.KernelUC.nD Cert.KernelUC.τ).loc Cert.KernelUC.main_arg0) = m ((c.tc : Thread Cert.KernelUC.nD Cert.KernelUC.τ).loc Cert.KernelUC.main_arg0)
      ∧ r.2.mem ((c.tc : Thread Cert.KernelUC.nD Cert.KernelUC.τ).loc Cert.KernelUC.main_arg1) = m ((c.tc : Thread Cert.KernelUC.nD Cert.KernelUC.τ).loc Cert.KernelUC.main_arg1)
      ∧ r.2.mem ((c.tc : Thread Cert.KernelUC.nD Cert.KernelUC.τ).loc Cert.KernelUC.main_arg2) = m ((c.tc : Thread Cert.KernelUC.nD Cert.KernelUC.τ).loc Cert.KernelUC.main_arg2)
      ∧ r.2.mem ((c.tc : Thread Cert.KernelUC.nD Cert.KernelUC.τ).loc Cert.KernelUC.main_arg3) = m ((c.tc : Thread Cert.KernelUC.nD Cert.KernelUC.τ).loc Cert.KernelUC.main_arg3))
      ∧ r.2.sem = fun _ => 0)

def quiescent_KernelUCIdeal [hKernelUCIdeal : Cert.KernelUCIdeal.Facts] : Prop :=
  ∀ (m : (ℓ : Loc Cert.KernelUCIdeal.nD Cert.KernelUCIdeal.τ Cert.KernelUCIdeal.sig) → Buf (Elt Ideal) ℓ) (g : Dev Cert.KernelUCIdeal.nD → PrngReg), Pre_KernelUCIdeal m →
    θ_run (Cert.KernelUCIdeal.defs (F := Ideal)) (onTc (τ := Cert.KernelUCIdeal.τ) (Cert.KernelUCIdeal.main (F := Ideal))) ⟨m, fun _ => 0, g⟩ (fun r => (∀ c : Dev Cert.KernelUCIdeal.nD,
      r.2.mem ((c.tc : Thread Cert.KernelUCIdeal.nD Cert.KernelUCIdeal.τ).loc Cert.KernelUCIdeal.main_arg0) = m ((c.tc : Thread Cert.KernelUCIdeal.nD Cert.KernelUCIdeal.τ).loc Cert.KernelUCIdeal.main_arg0)
      ∧ r.2.mem ((c.tc : Thread Cert.KernelUCIdeal.nD Cert.KernelUCIdeal.τ).loc Cert.KernelUCIdeal.main_arg1) = m ((c.tc : Thread Cert.KernelUCIdeal.nD Cert.KernelUCIdeal.τ).loc Cert.KernelUCIdeal.main_arg1)
      ∧ r.2.mem ((c.tc : Thread Cert.KernelUCIdeal.nD Cert.KernelUCIdeal.τ).loc Cert.KernelUCIdeal.main_arg2) = m ((c.tc : Thread Cert.KernelUCIdeal.nD Cert.KernelUCIdeal.τ).loc Cert.KernelUCIdeal.main_arg2)
      ∧ r.2.mem ((c.tc : Thread Cert.KernelUCIdeal.nD Cert.KernelUCIdeal.τ).loc Cert.KernelUCIdeal.main_arg3) = m ((c.tc : Thread Cert.KernelUCIdeal.nD Cert.KernelUCIdeal.τ).loc Cert.KernelUCIdeal.main_arg3))
      ∧ r.2.sem = fun _ => 0)

def quiescent_ReferenceUCIdeal [hReferenceUCIdeal : Cert.ReferenceUCIdeal.Facts] : Prop :=
  ∀ (m : (ℓ : Loc Cert.ReferenceUCIdeal.nD Cert.ReferenceUCIdeal.τ Cert.ReferenceUCIdeal.sig) → Buf (Elt Ideal) ℓ) (g : Dev Cert.ReferenceUCIdeal.nD → PrngReg), Pre_ReferenceUCIdeal m →
    θ_run (Cert.ReferenceUCIdeal.defs (F := Ideal)) (onTc (τ := Cert.ReferenceUCIdeal.τ) (Cert.ReferenceUCIdeal.main (F := Ideal))) ⟨m, fun _ => 0, g⟩ (fun r => (∀ c : Dev Cert.ReferenceUCIdeal.nD,
      r.2.mem ((c.tc : Thread Cert.ReferenceUCIdeal.nD Cert.ReferenceUCIdeal.τ).loc Cert.ReferenceUCIdeal.main_arg0) = m ((c.tc : Thread Cert.ReferenceUCIdeal.nD Cert.ReferenceUCIdeal.τ).loc Cert.ReferenceUCIdeal.main_arg0)
      ∧ r.2.mem ((c.tc : Thread Cert.ReferenceUCIdeal.nD Cert.ReferenceUCIdeal.τ).loc Cert.ReferenceUCIdeal.main_arg1) = m ((c.tc : Thread Cert.ReferenceUCIdeal.nD Cert.ReferenceUCIdeal.τ).loc Cert.ReferenceUCIdeal.main_arg1)
      ∧ r.2.mem ((c.tc : Thread Cert.ReferenceUCIdeal.nD Cert.ReferenceUCIdeal.τ).loc Cert.ReferenceUCIdeal.main_arg2) = m ((c.tc : Thread Cert.ReferenceUCIdeal.nD Cert.ReferenceUCIdeal.τ).loc Cert.ReferenceUCIdeal.main_arg2)
      ∧ r.2.mem ((c.tc : Thread Cert.ReferenceUCIdeal.nD Cert.ReferenceUCIdeal.τ).loc Cert.ReferenceUCIdeal.main_arg3) = m ((c.tc : Thread Cert.ReferenceUCIdeal.nD Cert.ReferenceUCIdeal.τ).loc Cert.ReferenceUCIdeal.main_arg3))
      ∧ r.2.sem = fun _ => 0)

def quiescent_KernelUS [hKernelUS : Cert.KernelUS.Facts] : Prop :=
  ∀ (m : (ℓ : Loc Cert.KernelUS.nD Cert.KernelUS.τ Cert.KernelUS.sig) → Buf (Elt Bits) ℓ) (g : Dev Cert.KernelUS.nD → PrngReg), Pre_KernelUS m →
    θ_run (Cert.KernelUS.defs (F := Bits)) (onTc (τ := Cert.KernelUS.τ) (Cert.KernelUS.main (F := Bits))) ⟨m, fun _ => 0, g⟩ (fun r => (∀ c : Dev Cert.KernelUS.nD,
      r.2.mem ((c.tc : Thread Cert.KernelUS.nD Cert.KernelUS.τ).loc Cert.KernelUS.main_arg0) = m ((c.tc : Thread Cert.KernelUS.nD Cert.KernelUS.τ).loc Cert.KernelUS.main_arg0)
      ∧ r.2.mem ((c.tc : Thread Cert.KernelUS.nD Cert.KernelUS.τ).loc Cert.KernelUS.main_arg1) = m ((c.tc : Thread Cert.KernelUS.nD Cert.KernelUS.τ).loc Cert.KernelUS.main_arg1)
      ∧ r.2.mem ((c.tc : Thread Cert.KernelUS.nD Cert.KernelUS.τ).loc Cert.KernelUS.main_arg2) = m ((c.tc : Thread Cert.KernelUS.nD Cert.KernelUS.τ).loc Cert.KernelUS.main_arg2)
      ∧ r.2.mem ((c.tc : Thread Cert.KernelUS.nD Cert.KernelUS.τ).loc Cert.KernelUS.main_arg3) = m ((c.tc : Thread Cert.KernelUS.nD Cert.KernelUS.τ).loc Cert.KernelUS.main_arg3))
      ∧ r.2.sem = fun _ => 0)

def quiescent_KernelUSIdeal [hKernelUSIdeal : Cert.KernelUSIdeal.Facts] : Prop :=
  ∀ (m : (ℓ : Loc Cert.KernelUSIdeal.nD Cert.KernelUSIdeal.τ Cert.KernelUSIdeal.sig) → Buf (Elt Ideal) ℓ) (g : Dev Cert.KernelUSIdeal.nD → PrngReg), Pre_KernelUSIdeal m →
    θ_run (Cert.KernelUSIdeal.defs (F := Ideal)) (onTc (τ := Cert.KernelUSIdeal.τ) (Cert.KernelUSIdeal.main (F := Ideal))) ⟨m, fun _ => 0, g⟩ (fun r => (∀ c : Dev Cert.KernelUSIdeal.nD,
      r.2.mem ((c.tc : Thread Cert.KernelUSIdeal.nD Cert.KernelUSIdeal.τ).loc Cert.KernelUSIdeal.main_arg0) = m ((c.tc : Thread Cert.KernelUSIdeal.nD Cert.KernelUSIdeal.τ).loc Cert.KernelUSIdeal.main_arg0)
      ∧ r.2.mem ((c.tc : Thread Cert.KernelUSIdeal.nD Cert.KernelUSIdeal.τ).loc Cert.KernelUSIdeal.main_arg1) = m ((c.tc : Thread Cert.KernelUSIdeal.nD Cert.KernelUSIdeal.τ).loc Cert.KernelUSIdeal.main_arg1)
      ∧ r.2.mem ((c.tc : Thread Cert.KernelUSIdeal.nD Cert.KernelUSIdeal.τ).loc Cert.KernelUSIdeal.main_arg2) = m ((c.tc : Thread Cert.KernelUSIdeal.nD Cert.KernelUSIdeal.τ).loc Cert.KernelUSIdeal.main_arg2)
      ∧ r.2.mem ((c.tc : Thread Cert.KernelUSIdeal.nD Cert.KernelUSIdeal.τ).loc Cert.KernelUSIdeal.main_arg3) = m ((c.tc : Thread Cert.KernelUSIdeal.nD Cert.KernelUSIdeal.τ).loc Cert.KernelUSIdeal.main_arg3))
      ∧ r.2.sem = fun _ => 0)

def quiescent_ReferenceUSIdeal [hReferenceUSIdeal : Cert.ReferenceUSIdeal.Facts] : Prop :=
  ∀ (m : (ℓ : Loc Cert.ReferenceUSIdeal.nD Cert.ReferenceUSIdeal.τ Cert.ReferenceUSIdeal.sig) → Buf (Elt Ideal) ℓ) (g : Dev Cert.ReferenceUSIdeal.nD → PrngReg), Pre_ReferenceUSIdeal m →
    θ_run (Cert.ReferenceUSIdeal.defs (F := Ideal)) (onTc (τ := Cert.ReferenceUSIdeal.τ) (Cert.ReferenceUSIdeal.main (F := Ideal))) ⟨m, fun _ => 0, g⟩ (fun r => (∀ c : Dev Cert.ReferenceUSIdeal.nD,
      r.2.mem ((c.tc : Thread Cert.ReferenceUSIdeal.nD Cert.ReferenceUSIdeal.τ).loc Cert.ReferenceUSIdeal.main_arg0) = m ((c.tc : Thread Cert.ReferenceUSIdeal.nD Cert.ReferenceUSIdeal.τ).loc Cert.ReferenceUSIdeal.main_arg0)
      ∧ r.2.mem ((c.tc : Thread Cert.ReferenceUSIdeal.nD Cert.ReferenceUSIdeal.τ).loc Cert.ReferenceUSIdeal.main_arg1) = m ((c.tc : Thread Cert.ReferenceUSIdeal.nD Cert.ReferenceUSIdeal.τ).loc Cert.ReferenceUSIdeal.main_arg1)
      ∧ r.2.mem ((c.tc : Thread Cert.ReferenceUSIdeal.nD Cert.ReferenceUSIdeal.τ).loc Cert.ReferenceUSIdeal.main_arg2) = m ((c.tc : Thread Cert.ReferenceUSIdeal.nD Cert.ReferenceUSIdeal.τ).loc Cert.ReferenceUSIdeal.main_arg2)
      ∧ r.2.mem ((c.tc : Thread Cert.ReferenceUSIdeal.nD Cert.ReferenceUSIdeal.τ).loc Cert.ReferenceUSIdeal.main_arg3) = m ((c.tc : Thread Cert.ReferenceUSIdeal.nD Cert.ReferenceUSIdeal.τ).loc Cert.ReferenceUSIdeal.main_arg3))
      ∧ r.2.sem = fun _ => 0)

def quiescent_KernelH [hKernelH : Cert.KernelH.Facts] : Prop :=
  ∀ (m : (ℓ : Loc Cert.KernelH.nD Cert.KernelH.τ Cert.KernelH.sig) → Buf (Elt Bits) ℓ) (g : Dev Cert.KernelH.nD → PrngReg), Pre_KernelH m →
    θ_run (Cert.KernelH.defs (F := Bits)) (onTc (τ := Cert.KernelH.τ) (Cert.KernelH.main (F := Bits))) ⟨m, fun _ => 0, g⟩ (fun r => (∀ c : Dev Cert.KernelH.nD,
      r.2.mem ((c.tc : Thread Cert.KernelH.nD Cert.KernelH.τ).loc Cert.KernelH.main_arg0) = m ((c.tc : Thread Cert.KernelH.nD Cert.KernelH.τ).loc Cert.KernelH.main_arg0)
      ∧ r.2.mem ((c.tc : Thread Cert.KernelH.nD Cert.KernelH.τ).loc Cert.KernelH.main_arg1) = m ((c.tc : Thread Cert.KernelH.nD Cert.KernelH.τ).loc Cert.KernelH.main_arg1))
      ∧ r.2.sem = fun _ => 0)

def quiescent_KernelHIdeal [hKernelHIdeal : Cert.KernelHIdeal.Facts] : Prop :=
  ∀ (m : (ℓ : Loc Cert.KernelHIdeal.nD Cert.KernelHIdeal.τ Cert.KernelHIdeal.sig) → Buf (Elt Ideal) ℓ) (g : Dev Cert.KernelHIdeal.nD → PrngReg), Pre_KernelHIdeal m →
    θ_run (Cert.KernelHIdeal.defs (F := Ideal)) (onTc (τ := Cert.KernelHIdeal.τ) (Cert.KernelHIdeal.main (F := Ideal))) ⟨m, fun _ => 0, g⟩ (fun r => (∀ c : Dev Cert.KernelHIdeal.nD,
      r.2.mem ((c.tc : Thread Cert.KernelHIdeal.nD Cert.KernelHIdeal.τ).loc Cert.KernelHIdeal.main_arg0) = m ((c.tc : Thread Cert.KernelHIdeal.nD Cert.KernelHIdeal.τ).loc Cert.KernelHIdeal.main_arg0)
      ∧ r.2.mem ((c.tc : Thread Cert.KernelHIdeal.nD Cert.KernelHIdeal.τ).loc Cert.KernelHIdeal.main_arg1) = m ((c.tc : Thread Cert.KernelHIdeal.nD Cert.KernelHIdeal.τ).loc Cert.KernelHIdeal.main_arg1))
      ∧ r.2.sem = fun _ => 0)

def quiescent_ReferenceHIdeal [hReferenceHIdeal : Cert.ReferenceHIdeal.Facts] : Prop :=
  ∀ (m : (ℓ : Loc Cert.ReferenceHIdeal.nD Cert.ReferenceHIdeal.τ Cert.ReferenceHIdeal.sig) → Buf (Elt Ideal) ℓ) (g : Dev Cert.ReferenceHIdeal.nD → PrngReg), Pre_ReferenceHIdeal m →
    θ_run (Cert.ReferenceHIdeal.defs (F := Ideal)) (onTc (τ := Cert.ReferenceHIdeal.τ) (Cert.ReferenceHIdeal.main (F := Ideal))) ⟨m, fun _ => 0, g⟩ (fun r => (∀ c : Dev Cert.ReferenceHIdeal.nD,
      r.2.mem ((c.tc : Thread Cert.ReferenceHIdeal.nD Cert.ReferenceHIdeal.τ).loc Cert.ReferenceHIdeal.main_arg0) = m ((c.tc : Thread Cert.ReferenceHIdeal.nD Cert.ReferenceHIdeal.τ).loc Cert.ReferenceHIdeal.main_arg0)
      ∧ r.2.mem ((c.tc : Thread Cert.ReferenceHIdeal.nD Cert.ReferenceHIdeal.τ).loc Cert.ReferenceHIdeal.main_arg1) = m ((c.tc : Thread Cert.ReferenceHIdeal.nD Cert.ReferenceHIdeal.τ).loc Cert.ReferenceHIdeal.main_arg1))
      ∧ r.2.sem = fun _ => 0)

def quiescent_KernelC [hKernelC : Cert.KernelC.Facts] : Prop :=
  ∀ (m : (ℓ : Loc Cert.KernelC.nD Cert.KernelC.τ Cert.KernelC.sig) → Buf (Elt Bits) ℓ) (g : Dev Cert.KernelC.nD → PrngReg), Pre_KernelC m →
    θ_run (Cert.KernelC.defs (F := Bits)) (onTc (τ := Cert.KernelC.τ) (Cert.KernelC.main (F := Bits))) ⟨m, fun _ => 0, g⟩ (fun r => (∀ c : Dev Cert.KernelC.nD,
      r.2.mem ((c.tc : Thread Cert.KernelC.nD Cert.KernelC.τ).loc Cert.KernelC.main_arg0) = m ((c.tc : Thread Cert.KernelC.nD Cert.KernelC.τ).loc Cert.KernelC.main_arg0)
      ∧ r.2.mem ((c.tc : Thread Cert.KernelC.nD Cert.KernelC.τ).loc Cert.KernelC.main_arg1) = m ((c.tc : Thread Cert.KernelC.nD Cert.KernelC.τ).loc Cert.KernelC.main_arg1)
      ∧ r.2.mem ((c.tc : Thread Cert.KernelC.nD Cert.KernelC.τ).loc Cert.KernelC.main_arg2) = m ((c.tc : Thread Cert.KernelC.nD Cert.KernelC.τ).loc Cert.KernelC.main_arg2))
      ∧ r.2.sem = fun _ => 0)

def quiescent_KernelCIdeal [hKernelCIdeal : Cert.KernelCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
      ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
      ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2))
      ∧ r.2.sem = fun _ => 0)

def quiescent_ReferenceCIdeal [hReferenceCIdeal : Cert.ReferenceCIdeal.Facts] : Prop :=
  ∀ (m : (ℓ : Loc Cert.ReferenceCIdeal.nD Cert.ReferenceCIdeal.τ Cert.ReferenceCIdeal.sig) → Buf (Elt Ideal) ℓ) (g : Dev Cert.ReferenceCIdeal.nD → PrngReg), Pre_ReferenceCIdeal m →
    θ_run (Cert.ReferenceCIdeal.defs (F := Ideal)) (onTc (τ := Cert.ReferenceCIdeal.τ) (Cert.ReferenceCIdeal.main (F := Ideal))) ⟨m, fun _ => 0, g⟩ (fun r => (∀ c : Dev Cert.ReferenceCIdeal.nD,
      r.2.mem ((c.tc : Thread Cert.ReferenceCIdeal.nD Cert.ReferenceCIdeal.τ).loc Cert.ReferenceCIdeal.main_arg0) = m ((c.tc : Thread Cert.ReferenceCIdeal.nD Cert.ReferenceCIdeal.τ).loc Cert.ReferenceCIdeal.main_arg0)
      ∧ r.2.mem ((c.tc : Thread Cert.ReferenceCIdeal.nD Cert.ReferenceCIdeal.τ).loc Cert.ReferenceCIdeal.main_arg1) = m ((c.tc : Thread Cert.ReferenceCIdeal.nD Cert.ReferenceCIdeal.τ).loc Cert.ReferenceCIdeal.main_arg1)
      ∧ r.2.mem ((c.tc : Thread Cert.ReferenceCIdeal.nD Cert.ReferenceCIdeal.τ).loc Cert.ReferenceCIdeal.main_arg2) = m ((c.tc : Thread Cert.ReferenceCIdeal.nD Cert.ReferenceCIdeal.τ).loc Cert.ReferenceCIdeal.main_arg2))
      ∧ r.2.sem = fun _ => 0)

def quiescent_KernelW [hKernelW : Cert.KernelW.Facts] : Prop :=
  ∀ (m : (ℓ : Loc Cert.KernelW.nD Cert.KernelW.τ Cert.KernelW.sig) → Buf (Elt Bits) ℓ) (g : Dev Cert.KernelW.nD → PrngReg), Pre_KernelW m →
    θ_run (Cert.KernelW.defs (F := Bits)) (onTc (τ := Cert.KernelW.τ) (Cert.KernelW.main (F := Bits))) ⟨m, fun _ => 0, g⟩ (fun r => (∀ c : Dev Cert.KernelW.nD,
      r.2.mem ((c.tc : Thread Cert.KernelW.nD Cert.KernelW.τ).loc Cert.KernelW.main_arg0) = m ((c.tc : Thread Cert.KernelW.nD Cert.KernelW.τ).loc Cert.KernelW.main_arg0)
      ∧ r.2.mem ((c.tc : Thread Cert.KernelW.nD Cert.KernelW.τ).loc Cert.KernelW.main_arg1) = m ((c.tc : Thread Cert.KernelW.nD Cert.KernelW.τ).loc Cert.KernelW.main_arg1))
      ∧ r.2.sem = fun _ => 0)

def quiescent_KernelWIdeal [hKernelWIdeal : Cert.KernelWIdeal.Facts] : Prop :=
  ∀ (m : (ℓ : Loc Cert.KernelWIdeal.nD Cert.KernelWIdeal.τ Cert.KernelWIdeal.sig) → Buf (Elt Ideal) ℓ) (g : Dev Cert.KernelWIdeal.nD → PrngReg), Pre_KernelWIdeal m →
    θ_run (Cert.KernelWIdeal.defs (F := Ideal)) (onTc (τ := Cert.KernelWIdeal.τ) (Cert.KernelWIdeal.main (F := Ideal))) ⟨m, fun _ => 0, g⟩ (fun r => (∀ c : Dev Cert.KernelWIdeal.nD,
      r.2.mem ((c.tc : Thread Cert.KernelWIdeal.nD Cert.KernelWIdeal.τ).loc Cert.KernelWIdeal.main_arg0) = m ((c.tc : Thread Cert.KernelWIdeal.nD Cert.KernelWIdeal.τ).loc Cert.KernelWIdeal.main_arg0)
      ∧ r.2.mem ((c.tc : Thread Cert.KernelWIdeal.nD Cert.KernelWIdeal.τ).loc Cert.KernelWIdeal.main_arg1) = m ((c.tc : Thread Cert.KernelWIdeal.nD Cert.KernelWIdeal.τ).loc Cert.KernelWIdeal.main_arg1))
      ∧ r.2.sem = fun _ => 0)

def quiescent_ReferenceWIdeal [hReferenceWIdeal : Cert.ReferenceWIdeal.Facts] : Prop :=
  ∀ (m : (ℓ : Loc Cert.ReferenceWIdeal.nD Cert.ReferenceWIdeal.τ Cert.ReferenceWIdeal.sig) → Buf (Elt Ideal) ℓ) (g : Dev Cert.ReferenceWIdeal.nD → PrngReg), Pre_ReferenceWIdeal m →
    θ_run (Cert.ReferenceWIdeal.defs (F := Ideal)) (onTc (τ := Cert.ReferenceWIdeal.τ) (Cert.ReferenceWIdeal.main (F := Ideal))) ⟨m, fun _ => 0, g⟩ (fun r => (∀ c : Dev Cert.ReferenceWIdeal.nD,
      r.2.mem ((c.tc : Thread Cert.ReferenceWIdeal.nD Cert.ReferenceWIdeal.τ).loc Cert.ReferenceWIdeal.main_arg0) = m ((c.tc : Thread Cert.ReferenceWIdeal.nD Cert.ReferenceWIdeal.τ).loc Cert.ReferenceWIdeal.main_arg0)
      ∧ r.2.mem ((c.tc : Thread Cert.ReferenceWIdeal.nD Cert.ReferenceWIdeal.τ).loc Cert.ReferenceWIdeal.main_arg1) = m ((c.tc : Thread Cert.ReferenceWIdeal.nD Cert.ReferenceWIdeal.τ).loc Cert.ReferenceWIdeal.main_arg1))
      ∧ r.2.sem = fun _ => 0)

def quiescent_KernelN [hKernelN : Cert.KernelN.Facts] : Prop :=
  ∀ (m : (ℓ : Loc Cert.KernelN.nD Cert.KernelN.τ Cert.KernelN.sig) → Buf (Elt Bits) ℓ) (g : Dev Cert.KernelN.nD → PrngReg), Pre_KernelN m →
    θ_run (Cert.KernelN.defs (F := Bits)) (onTc (τ := Cert.KernelN.τ) (Cert.KernelN.main (F := Bits))) ⟨m, fun _ => 0, g⟩ (fun r => (∀ c : Dev Cert.KernelN.nD,
      r.2.mem ((c.tc : Thread Cert.KernelN.nD Cert.KernelN.τ).loc Cert.KernelN.main_arg0) = m ((c.tc : Thread Cert.KernelN.nD Cert.KernelN.τ).loc Cert.KernelN.main_arg0)
      ∧ r.2.mem ((c.tc : Thread Cert.KernelN.nD Cert.KernelN.τ).loc Cert.KernelN.main_arg1) = m ((c.tc : Thread Cert.KernelN.nD Cert.KernelN.τ).loc Cert.KernelN.main_arg1)
      ∧ r.2.mem ((c.tc : Thread Cert.KernelN.nD Cert.KernelN.τ).loc Cert.KernelN.main_arg2) = m ((c.tc : Thread Cert.KernelN.nD Cert.KernelN.τ).loc Cert.KernelN.main_arg2)
      ∧ r.2.mem ((c.tc : Thread Cert.KernelN.nD Cert.KernelN.τ).loc Cert.KernelN.main_arg3) = m ((c.tc : Thread Cert.KernelN.nD Cert.KernelN.τ).loc Cert.KernelN.main_arg3)
      ∧ r.2.mem ((c.tc : Thread Cert.KernelN.nD Cert.KernelN.τ).loc Cert.KernelN.main_arg4) = m ((c.tc : Thread Cert.KernelN.nD Cert.KernelN.τ).loc Cert.KernelN.main_arg4)
      ∧ r.2.mem ((c.tc : Thread Cert.KernelN.nD Cert.KernelN.τ).loc Cert.KernelN.main_arg5) = m ((c.tc : Thread Cert.KernelN.nD Cert.KernelN.τ).loc Cert.KernelN.main_arg5))
      ∧ r.2.sem = fun _ => 0)

def quiescent_KernelNIdeal [hKernelNIdeal : Cert.KernelNIdeal.Facts] : Prop :=
  ∀ (m : (ℓ : Loc Cert.KernelNIdeal.nD Cert.KernelNIdeal.τ Cert.KernelNIdeal.sig) → Buf (Elt Ideal) ℓ) (g : Dev Cert.KernelNIdeal.nD → PrngReg), Pre_KernelNIdeal m →
    θ_run (Cert.KernelNIdeal.defs (F := Ideal)) (onTc (τ := Cert.KernelNIdeal.τ) (Cert.KernelNIdeal.main (F := Ideal))) ⟨m, fun _ => 0, g⟩ (fun r => (∀ c : Dev Cert.KernelNIdeal.nD,
      r.2.mem ((c.tc : Thread Cert.KernelNIdeal.nD Cert.KernelNIdeal.τ).loc Cert.KernelNIdeal.main_arg0) = m ((c.tc : Thread Cert.KernelNIdeal.nD Cert.KernelNIdeal.τ).loc Cert.KernelNIdeal.main_arg0)
      ∧ r.2.mem ((c.tc : Thread Cert.KernelNIdeal.nD Cert.KernelNIdeal.τ).loc Cert.KernelNIdeal.main_arg1) = m ((c.tc : Thread Cert.KernelNIdeal.nD Cert.KernelNIdeal.τ).loc Cert.KernelNIdeal.main_arg1)
      ∧ r.2.mem ((c.tc : Thread Cert.KernelNIdeal.nD Cert.KernelNIdeal.τ).loc Cert.KernelNIdeal.main_arg2) = m ((c.tc : Thread Cert.KernelNIdeal.nD Cert.KernelNIdeal.τ).loc Cert.KernelNIdeal.main_arg2)
      ∧ r.2.mem ((c.tc : Thread Cert.KernelNIdeal.nD Cert.KernelNIdeal.τ).loc Cert.KernelNIdeal.main_arg3) = m ((c.tc : Thread Cert.KernelNIdeal.nD Cert.KernelNIdeal.τ).loc Cert.KernelNIdeal.main_arg3)
      ∧ r.2.mem ((c.tc : Thread Cert.KernelNIdeal.nD Cert.KernelNIdeal.τ).loc Cert.KernelNIdeal.main_arg4) = m ((c.tc : Thread Cert.KernelNIdeal.nD Cert.KernelNIdeal.τ).loc Cert.KernelNIdeal.main_arg4)
      ∧ r.2.mem ((c.tc : Thread Cert.KernelNIdeal.nD Cert.KernelNIdeal.τ).loc Cert.KernelNIdeal.main_arg5) = m ((c.tc : Thread Cert.KernelNIdeal.nD Cert.KernelNIdeal.τ).loc Cert.KernelNIdeal.main_arg5))
      ∧ r.2.sem = fun _ => 0)

def quiescent_ReferenceNIdeal [hReferenceNIdeal : Cert.ReferenceNIdeal.Facts] : Prop :=
  ∀ (m : (ℓ : Loc Cert.ReferenceNIdeal.nD Cert.ReferenceNIdeal.τ Cert.ReferenceNIdeal.sig) → Buf (Elt Ideal) ℓ) (g : Dev Cert.ReferenceNIdeal.nD → PrngReg), Pre_ReferenceNIdeal m →
    θ_run (Cert.ReferenceNIdeal.defs (F := Ideal)) (onTc (τ := Cert.ReferenceNIdeal.τ) (Cert.ReferenceNIdeal.main (F := Ideal))) ⟨m, fun _ => 0, g⟩ (fun r => (∀ c : Dev Cert.ReferenceNIdeal.nD,
      r.2.mem ((c.tc : Thread Cert.ReferenceNIdeal.nD Cert.ReferenceNIdeal.τ).loc Cert.ReferenceNIdeal.main_arg0) = m ((c.tc : Thread Cert.ReferenceNIdeal.nD Cert.ReferenceNIdeal.τ).loc Cert.ReferenceNIdeal.main_arg0)
      ∧ r.2.mem ((c.tc : Thread Cert.ReferenceNIdeal.nD Cert.ReferenceNIdeal.τ).loc Cert.ReferenceNIdeal.main_arg1) = m ((c.tc : Thread Cert.ReferenceNIdeal.nD Cert.ReferenceNIdeal.τ).loc Cert.ReferenceNIdeal.main_arg1)
      ∧ r.2.mem ((c.tc : Thread Cert.ReferenceNIdeal.nD Cert.ReferenceNIdeal.τ).loc Cert.ReferenceNIdeal.main_arg2) = m ((c.tc : Thread Cert.ReferenceNIdeal.nD Cert.ReferenceNIdeal.τ).loc Cert.ReferenceNIdeal.main_arg2)
      ∧ r.2.mem ((c.tc : Thread Cert.ReferenceNIdeal.nD Cert.ReferenceNIdeal.τ).loc Cert.ReferenceNIdeal.main_arg3) = m ((c.tc : Thread Cert.ReferenceNIdeal.nD Cert.ReferenceNIdeal.τ).loc Cert.ReferenceNIdeal.main_arg3)
      ∧ r.2.mem ((c.tc : Thread Cert.ReferenceNIdeal.nD Cert.ReferenceNIdeal.τ).loc Cert.ReferenceNIdeal.main_arg4) = m ((c.tc : Thread Cert.ReferenceNIdeal.nD Cert.ReferenceNIdeal.τ).loc Cert.ReferenceNIdeal.main_arg4)
      ∧ r.2.mem ((c.tc : Thread Cert.ReferenceNIdeal.nD Cert.ReferenceNIdeal.τ).loc Cert.ReferenceNIdeal.main_arg5) = m ((c.tc : Thread Cert.ReferenceNIdeal.nD Cert.ReferenceNIdeal.τ).loc Cert.ReferenceNIdeal.main_arg5))
      ∧ r.2.sem = fun _ => 0)

def quiescent_KernelXN [hKernelXN : Cert.KernelXN.Facts] : Prop :=
  ∀ (m : (ℓ : Loc Cert.KernelXN.nD Cert.KernelXN.τ Cert.KernelXN.sig) → Buf (Elt Bits) ℓ) (g : Dev Cert.KernelXN.nD → PrngReg), Pre_KernelXN m →
    θ_run (Cert.KernelXN.defs (F := Bits)) (onTc (τ := Cert.KernelXN.τ) (Cert.KernelXN.main (F := Bits))) ⟨m, fun _ => 0, g⟩ (fun r => (∀ c : Dev Cert.KernelXN.nD,
      r.2.mem ((c.tc : Thread Cert.KernelXN.nD Cert.KernelXN.τ).loc Cert.KernelXN.main_arg0) = m ((c.tc : Thread Cert.KernelXN.nD Cert.KernelXN.τ).loc Cert.KernelXN.main_arg0)
      ∧ r.2.mem ((c.tc : Thread Cert.KernelXN.nD Cert.KernelXN.τ).loc Cert.KernelXN.main_arg1) = m ((c.tc : Thread Cert.KernelXN.nD Cert.KernelXN.τ).loc Cert.KernelXN.main_arg1)
      ∧ r.2.mem ((c.tc : Thread Cert.KernelXN.nD Cert.KernelXN.τ).loc Cert.KernelXN.main_arg2) = m ((c.tc : Thread Cert.KernelXN.nD Cert.KernelXN.τ).loc Cert.KernelXN.main_arg2)
      ∧ r.2.mem ((c.tc : Thread Cert.KernelXN.nD Cert.KernelXN.τ).loc Cert.KernelXN.main_arg3) = m ((c.tc : Thread Cert.KernelXN.nD Cert.KernelXN.τ).loc Cert.KernelXN.main_arg3))
      ∧ r.2.sem = fun _ => 0)

def quiescent_KernelXNIdeal [hKernelXNIdeal : Cert.KernelXNIdeal.Facts] : Prop :=
  ∀ (m : (ℓ : Loc Cert.KernelXNIdeal.nD Cert.KernelXNIdeal.τ Cert.KernelXNIdeal.sig) → Buf (Elt Ideal) ℓ) (g : Dev Cert.KernelXNIdeal.nD → PrngReg), Pre_KernelXNIdeal m →
    θ_run (Cert.KernelXNIdeal.defs (F := Ideal)) (onTc (τ := Cert.KernelXNIdeal.τ) (Cert.KernelXNIdeal.main (F := Ideal))) ⟨m, fun _ => 0, g⟩ (fun r => (∀ c : Dev Cert.KernelXNIdeal.nD,
      r.2.mem ((c.tc : Thread Cert.KernelXNIdeal.nD Cert.KernelXNIdeal.τ).loc Cert.KernelXNIdeal.main_arg0) = m ((c.tc : Thread Cert.KernelXNIdeal.nD Cert.KernelXNIdeal.τ).loc Cert.KernelXNIdeal.main_arg0)
      ∧ r.2.mem ((c.tc : Thread Cert.KernelXNIdeal.nD Cert.KernelXNIdeal.τ).loc Cert.KernelXNIdeal.main_arg1) = m ((c.tc : Thread Cert.KernelXNIdeal.nD Cert.KernelXNIdeal.τ).loc Cert.KernelXNIdeal.main_arg1)
      ∧ r.2.mem ((c.tc : Thread Cert.KernelXNIdeal.nD Cert.KernelXNIdeal.τ).loc Cert.KernelXNIdeal.main_arg2) = m ((c.tc : Thread Cert.KernelXNIdeal.nD Cert.KernelXNIdeal.τ).loc Cert.KernelXNIdeal.main_arg2)
      ∧ r.2.mem ((c.tc : Thread Cert.KernelXNIdeal.nD Cert.KernelXNIdeal.τ).loc Cert.KernelXNIdeal.main_arg3) = m ((c.tc : Thread Cert.KernelXNIdeal.nD Cert.KernelXNIdeal.τ).loc Cert.KernelXNIdeal.main_arg3))
      ∧ r.2.sem = fun _ => 0)

def quiescent_ReferenceXNIdeal [hReferenceXNIdeal : Cert.ReferenceXNIdeal.Facts] : Prop :=
  ∀ (m : (ℓ : Loc Cert.ReferenceXNIdeal.nD Cert.ReferenceXNIdeal.τ Cert.ReferenceXNIdeal.sig) → Buf (Elt Ideal) ℓ) (g : Dev Cert.ReferenceXNIdeal.nD → PrngReg), Pre_ReferenceXNIdeal m →
    θ_run (Cert.ReferenceXNIdeal.defs (F := Ideal)) (onTc (τ := Cert.ReferenceXNIdeal.τ) (Cert.ReferenceXNIdeal.main (F := Ideal))) ⟨m, fun _ => 0, g⟩ (fun r => (∀ c : Dev Cert.ReferenceXNIdeal.nD,
      r.2.mem ((c.tc : Thread Cert.ReferenceXNIdeal.nD Cert.ReferenceXNIdeal.τ).loc Cert.ReferenceXNIdeal.main_arg0) = m ((c.tc : Thread Cert.ReferenceXNIdeal.nD Cert.ReferenceXNIdeal.τ).loc Cert.ReferenceXNIdeal.main_arg0)
      ∧ r.2.mem ((c.tc : Thread Cert.ReferenceXNIdeal.nD Cert.ReferenceXNIdeal.τ).loc Cert.ReferenceXNIdeal.main_arg1) = m ((c.tc : Thread Cert.ReferenceXNIdeal.nD Cert.ReferenceXNIdeal.τ).loc Cert.ReferenceXNIdeal.main_arg1)
      ∧ r.2.mem ((c.tc : Thread Cert.ReferenceXNIdeal.nD Cert.ReferenceXNIdeal.τ).loc Cert.ReferenceXNIdeal.main_arg2) = m ((c.tc : Thread Cert.ReferenceXNIdeal.nD Cert.ReferenceXNIdeal.τ).loc Cert.ReferenceXNIdeal.main_arg2)
      ∧ r.2.mem ((c.tc : Thread Cert.ReferenceXNIdeal.nD Cert.ReferenceXNIdeal.τ).loc Cert.ReferenceXNIdeal.main_arg3) = m ((c.tc : Thread Cert.ReferenceXNIdeal.nD Cert.ReferenceXNIdeal.τ).loc Cert.ReferenceXNIdeal.main_arg3))
      ∧ r.2.sem = fun _ => 0)

def quiescent_KernelXI [hKernelXI : Cert.KernelXI.Facts] : Prop :=
  ∀ (m : (ℓ : Loc Cert.KernelXI.nD Cert.KernelXI.τ Cert.KernelXI.sig) → Buf (Elt Bits) ℓ) (g : Dev Cert.KernelXI.nD → PrngReg), Pre_KernelXI m →
    θ_run (Cert.KernelXI.defs (F := Bits)) (onTc (τ := Cert.KernelXI.τ) (Cert.KernelXI.main (F := Bits))) ⟨m, fun _ => 0, g⟩ (fun r => (∀ c : Dev Cert.KernelXI.nD,
      r.2.mem ((c.tc : Thread Cert.KernelXI.nD Cert.KernelXI.τ).loc Cert.KernelXI.main_arg0) = m ((c.tc : Thread Cert.KernelXI.nD Cert.KernelXI.τ).loc Cert.KernelXI.main_arg0)
      ∧ r.2.mem ((c.tc : Thread Cert.KernelXI.nD Cert.KernelXI.τ).loc Cert.KernelXI.main_arg1) = m ((c.tc : Thread Cert.KernelXI.nD Cert.KernelXI.τ).loc Cert.KernelXI.main_arg1))
      ∧ r.2.sem = fun _ => 0)

def quiescent_KernelXIIdeal [hKernelXIIdeal : Cert.KernelXIIdeal.Facts] : Prop :=
  ∀ (m : (ℓ : Loc Cert.KernelXIIdeal.nD Cert.KernelXIIdeal.τ Cert.KernelXIIdeal.sig) → Buf (Elt Ideal) ℓ) (g : Dev Cert.KernelXIIdeal.nD → PrngReg), Pre_KernelXIIdeal m →
    θ_run (Cert.KernelXIIdeal.defs (F := Ideal)) (onTc (τ := Cert.KernelXIIdeal.τ) (Cert.KernelXIIdeal.main (F := Ideal))) ⟨m, fun _ => 0, g⟩ (fun r => (∀ c : Dev Cert.KernelXIIdeal.nD,
      r.2.mem ((c.tc : Thread Cert.KernelXIIdeal.nD Cert.KernelXIIdeal.τ).loc Cert.KernelXIIdeal.main_arg0) = m ((c.tc : Thread Cert.KernelXIIdeal.nD Cert.KernelXIIdeal.τ).loc Cert.KernelXIIdeal.main_arg0)
      ∧ r.2.mem ((c.tc : Thread Cert.KernelXIIdeal.nD Cert.KernelXIIdeal.τ).loc Cert.KernelXIIdeal.main_arg1) = m ((c.tc : Thread Cert.KernelXIIdeal.nD Cert.KernelXIIdeal.τ).loc Cert.KernelXIIdeal.main_arg1))
      ∧ r.2.sem = fun _ => 0)

def quiescent_ReferenceXIIdeal [hReferenceXIIdeal : Cert.ReferenceXIIdeal.Facts] : Prop :=
  ∀ (m : (ℓ : Loc Cert.ReferenceXIIdeal.nD Cert.ReferenceXIIdeal.τ Cert.ReferenceXIIdeal.sig) → Buf (Elt Ideal) ℓ) (g : Dev Cert.ReferenceXIIdeal.nD → PrngReg), Pre_ReferenceXIIdeal m →
    θ_run (Cert.ReferenceXIIdeal.defs (F := Ideal)) (onTc (τ := Cert.ReferenceXIIdeal.τ) (Cert.ReferenceXIIdeal.main (F := Ideal))) ⟨m, fun _ => 0, g⟩ (fun r => (∀ c : Dev Cert.ReferenceXIIdeal.nD,
      r.2.mem ((c.tc : Thread Cert.ReferenceXIIdeal.nD Cert.ReferenceXIIdeal.τ).loc Cert.ReferenceXIIdeal.main_arg0) = m ((c.tc : Thread Cert.ReferenceXIIdeal.nD Cert.ReferenceXIIdeal.τ).loc Cert.ReferenceXIIdeal.main_arg0)
      ∧ r.2.mem ((c.tc : Thread Cert.ReferenceXIIdeal.nD Cert.ReferenceXIIdeal.τ).loc Cert.ReferenceXIIdeal.main_arg1) = m ((c.tc : Thread Cert.ReferenceXIIdeal.nD Cert.ReferenceXIIdeal.τ).loc Cert.ReferenceXIIdeal.main_arg1))
      ∧ r.2.sem = fun _ => 0)

def quiescent_KernelXS [hKernelXS : Cert.KernelXS.Facts] : Prop :=
  ∀ (m : (ℓ : Loc Cert.KernelXS.nD Cert.KernelXS.τ Cert.KernelXS.sig) → Buf (Elt Bits) ℓ) (g : Dev Cert.KernelXS.nD → PrngReg), Pre_KernelXS m →
    θ_run (Cert.KernelXS.defs (F := Bits)) (onTc (τ := Cert.KernelXS.τ) (Cert.KernelXS.main (F := Bits))) ⟨m, fun _ => 0, g⟩ (fun r => (∀ c : Dev Cert.KernelXS.nD,
      r.2.mem ((c.tc : Thread Cert.KernelXS.nD Cert.KernelXS.τ).loc Cert.KernelXS.main_arg0) = m ((c.tc : Thread Cert.KernelXS.nD Cert.KernelXS.τ).loc Cert.KernelXS.main_arg0))
      ∧ r.2.sem = fun _ => 0)

def quiescent_KernelXSIdeal [hKernelXSIdeal : Cert.KernelXSIdeal.Facts] : Prop :=
  ∀ (m : (ℓ : Loc Cert.KernelXSIdeal.nD Cert.KernelXSIdeal.τ Cert.KernelXSIdeal.sig) → Buf (Elt Ideal) ℓ) (g : Dev Cert.KernelXSIdeal.nD → PrngReg), Pre_KernelXSIdeal m →
    θ_run (Cert.KernelXSIdeal.defs (F := Ideal)) (onTc (τ := Cert.KernelXSIdeal.τ) (Cert.KernelXSIdeal.main (F := Ideal))) ⟨m, fun _ => 0, g⟩ (fun r => (∀ c : Dev Cert.KernelXSIdeal.nD,
      r.2.mem ((c.tc : Thread Cert.KernelXSIdeal.nD Cert.KernelXSIdeal.τ).loc Cert.KernelXSIdeal.main_arg0) = m ((c.tc : Thread Cert.KernelXSIdeal.nD Cert.KernelXSIdeal.τ).loc Cert.KernelXSIdeal.main_arg0))
      ∧ r.2.sem = fun _ => 0)

def quiescent_ReferenceXSIdeal [hReferenceXSIdeal : Cert.ReferenceXSIdeal.Facts] : Prop :=
  ∀ (m : (ℓ : Loc Cert.ReferenceXSIdeal.nD Cert.ReferenceXSIdeal.τ Cert.ReferenceXSIdeal.sig) → Buf (Elt Ideal) ℓ) (g : Dev Cert.ReferenceXSIdeal.nD → PrngReg), Pre_ReferenceXSIdeal m →
    θ_run (Cert.ReferenceXSIdeal.defs (F := Ideal)) (onTc (τ := Cert.ReferenceXSIdeal.τ) (Cert.ReferenceXSIdeal.main (F := Ideal))) ⟨m, fun _ => 0, g⟩ (fun r => (∀ c : Dev Cert.ReferenceXSIdeal.nD,
      r.2.mem ((c.tc : Thread Cert.ReferenceXSIdeal.nD Cert.ReferenceXSIdeal.τ).loc Cert.ReferenceXSIdeal.main_arg0) = m ((c.tc : Thread Cert.ReferenceXSIdeal.nD Cert.ReferenceXSIdeal.τ).loc Cert.ReferenceXSIdeal.main_arg0))
      ∧ r.2.sem = fun _ => 0)

def quiescent_KernelXO [hKernelXO : Cert.KernelXO.Facts] : Prop :=
  ∀ (m : (ℓ : Loc Cert.KernelXO.nD Cert.KernelXO.τ Cert.KernelXO.sig) → Buf (Elt Bits) ℓ) (g : Dev Cert.KernelXO.nD → PrngReg), Pre_KernelXO m →
    θ_run (Cert.KernelXO.defs (F := Bits)) (onTc (τ := Cert.KernelXO.τ) (Cert.KernelXO.main (F := Bits))) ⟨m, fun _ => 0, g⟩ (fun r => (∀ c : Dev Cert.KernelXO.nD,
      r.2.mem ((c.tc : Thread Cert.KernelXO.nD Cert.KernelXO.τ).loc Cert.KernelXO.main_arg0) = m ((c.tc : Thread Cert.KernelXO.nD Cert.KernelXO.τ).loc Cert.KernelXO.main_arg0)
      ∧ r.2.mem ((c.tc : Thread Cert.KernelXO.nD Cert.KernelXO.τ).loc Cert.KernelXO.main_arg1) = m ((c.tc : Thread Cert.KernelXO.nD Cert.KernelXO.τ).loc Cert.KernelXO.main_arg1))
      ∧ r.2.sem = fun _ => 0)

def quiescent_KernelXOIdeal [hKernelXOIdeal : Cert.KernelXOIdeal.Facts] : Prop :=
  ∀ (m : (ℓ : Loc Cert.KernelXOIdeal.nD Cert.KernelXOIdeal.τ Cert.KernelXOIdeal.sig) → Buf (Elt Ideal) ℓ) (g : Dev Cert.KernelXOIdeal.nD → PrngReg), Pre_KernelXOIdeal m →
    θ_run (Cert.KernelXOIdeal.defs (F := Ideal)) (onTc (τ := Cert.KernelXOIdeal.τ) (Cert.KernelXOIdeal.main (F := Ideal))) ⟨m, fun _ => 0, g⟩ (fun r => (∀ c : Dev Cert.KernelXOIdeal.nD,
      r.2.mem ((c.tc : Thread Cert.KernelXOIdeal.nD Cert.KernelXOIdeal.τ).loc Cert.KernelXOIdeal.main_arg0) = m ((c.tc : Thread Cert.KernelXOIdeal.nD Cert.KernelXOIdeal.τ).loc Cert.KernelXOIdeal.main_arg0)
      ∧ r.2.mem ((c.tc : Thread Cert.KernelXOIdeal.nD Cert.KernelXOIdeal.τ).loc Cert.KernelXOIdeal.main_arg1) = m ((c.tc : Thread Cert.KernelXOIdeal.nD Cert.KernelXOIdeal.τ).loc Cert.KernelXOIdeal.main_arg1))
      ∧ r.2.sem = fun _ => 0)

def quiescent_ReferenceXOIdeal [hReferenceXOIdeal : Cert.ReferenceXOIdeal.Facts] : Prop :=
  ∀ (m : (ℓ : Loc Cert.ReferenceXOIdeal.nD Cert.ReferenceXOIdeal.τ Cert.ReferenceXOIdeal.sig) → Buf (Elt Ideal) ℓ) (g : Dev Cert.ReferenceXOIdeal.nD → PrngReg), Pre_ReferenceXOIdeal m →
    θ_run (Cert.ReferenceXOIdeal.defs (F := Ideal)) (onTc (τ := Cert.ReferenceXOIdeal.τ) (Cert.ReferenceXOIdeal.main (F := Ideal))) ⟨m, fun _ => 0, g⟩ (fun r => (∀ c : Dev Cert.ReferenceXOIdeal.nD,
      r.2.mem ((c.tc : Thread Cert.ReferenceXOIdeal.nD Cert.ReferenceXOIdeal.τ).loc Cert.ReferenceXOIdeal.main_arg0) = m ((c.tc : Thread Cert.ReferenceXOIdeal.nD Cert.ReferenceXOIdeal.τ).loc Cert.ReferenceXOIdeal.main_arg0)
      ∧ r.2.mem ((c.tc : Thread Cert.ReferenceXOIdeal.nD Cert.ReferenceXOIdeal.τ).loc Cert.ReferenceXOIdeal.main_arg1) = m ((c.tc : Thread Cert.ReferenceXOIdeal.nD Cert.ReferenceXOIdeal.τ).loc Cert.ReferenceXOIdeal.main_arg1))
      ∧ r.2.sem = fun _ => 0)

def quiescent_KernelXR [hKernelXR : Cert.KernelXR.Facts] : Prop :=
  ∀ (m : (ℓ : Loc Cert.KernelXR.nD Cert.KernelXR.τ Cert.KernelXR.sig) → Buf (Elt Bits) ℓ) (g : Dev Cert.KernelXR.nD → PrngReg), Pre_KernelXR m →
    θ_run (Cert.KernelXR.defs (F := Bits)) (onTc (τ := Cert.KernelXR.τ) (Cert.KernelXR.main (F := Bits))) ⟨m, fun _ => 0, g⟩ (fun r => (∀ c : Dev Cert.KernelXR.nD,
      r.2.mem ((c.tc : Thread Cert.KernelXR.nD Cert.KernelXR.τ).loc Cert.KernelXR.main_arg0) = m ((c.tc : Thread Cert.KernelXR.nD Cert.KernelXR.τ).loc Cert.KernelXR.main_arg0)
      ∧ r.2.mem ((c.tc : Thread Cert.KernelXR.nD Cert.KernelXR.τ).loc Cert.KernelXR.main_arg1) = m ((c.tc : Thread Cert.KernelXR.nD Cert.KernelXR.τ).loc Cert.KernelXR.main_arg1)
      ∧ r.2.mem ((c.tc : Thread Cert.KernelXR.nD Cert.KernelXR.τ).loc Cert.KernelXR.main_arg2) = m ((c.tc : Thread Cert.KernelXR.nD Cert.KernelXR.τ).loc Cert.KernelXR.main_arg2))
      ∧ r.2.sem = fun _ => 0)

def quiescent_KernelXRIdeal [hKernelXRIdeal : Cert.KernelXRIdeal.Facts] : Prop :=
  ∀ (m : (ℓ : Loc Cert.KernelXRIdeal.nD Cert.KernelXRIdeal.τ Cert.KernelXRIdeal.sig) → Buf (Elt Ideal) ℓ) (g : Dev Cert.KernelXRIdeal.nD → PrngReg), Pre_KernelXRIdeal m →
    θ_run (Cert.KernelXRIdeal.defs (F := Ideal)) (onTc (τ := Cert.KernelXRIdeal.τ) (Cert.KernelXRIdeal.main (F := Ideal))) ⟨m, fun _ => 0, g⟩ (fun r => (∀ c : Dev Cert.KernelXRIdeal.nD,
      r.2.mem ((c.tc : Thread Cert.KernelXRIdeal.nD Cert.KernelXRIdeal.τ).loc Cert.KernelXRIdeal.main_arg0) = m ((c.tc : Thread Cert.KernelXRIdeal.nD Cert.KernelXRIdeal.τ).loc Cert.KernelXRIdeal.main_arg0)
      ∧ r.2.mem ((c.tc : Thread Cert.KernelXRIdeal.nD Cert.KernelXRIdeal.τ).loc Cert.KernelXRIdeal.main_arg1) = m ((c.tc : Thread Cert.KernelXRIdeal.nD Cert.KernelXRIdeal.τ).loc Cert.KernelXRIdeal.main_arg1)
      ∧ r.2.mem ((c.tc : Thread Cert.KernelXRIdeal.nD Cert.KernelXRIdeal.τ).loc Cert.KernelXRIdeal.main_arg2) = m ((c.tc : Thread Cert.KernelXRIdeal.nD Cert.KernelXRIdeal.τ).loc Cert.KernelXRIdeal.main_arg2))
      ∧ r.2.sem = fun _ => 0)

def quiescent_ReferenceXRIdeal [hReferenceXRIdeal : Cert.ReferenceXRIdeal.Facts] : Prop :=
  ∀ (m : (ℓ : Loc Cert.ReferenceXRIdeal.nD Cert.ReferenceXRIdeal.τ Cert.ReferenceXRIdeal.sig) → Buf (Elt Ideal) ℓ) (g : Dev Cert.ReferenceXRIdeal.nD → PrngReg), Pre_ReferenceXRIdeal m →
    θ_run (Cert.ReferenceXRIdeal.defs (F := Ideal)) (onTc (τ := Cert.ReferenceXRIdeal.τ) (Cert.ReferenceXRIdeal.main (F := Ideal))) ⟨m, fun _ => 0, g⟩ (fun r => (∀ c : Dev Cert.ReferenceXRIdeal.nD,
      r.2.mem ((c.tc : Thread Cert.ReferenceXRIdeal.nD Cert.ReferenceXRIdeal.τ).loc Cert.ReferenceXRIdeal.main_arg0) = m ((c.tc : Thread Cert.ReferenceXRIdeal.nD Cert.ReferenceXRIdeal.τ).loc Cert.ReferenceXRIdeal.main_arg0)
      ∧ r.2.mem ((c.tc : Thread Cert.ReferenceXRIdeal.nD Cert.ReferenceXRIdeal.τ).loc Cert.ReferenceXRIdeal.main_arg1) = m ((c.tc : Thread Cert.ReferenceXRIdeal.nD Cert.ReferenceXRIdeal.τ).loc Cert.ReferenceXRIdeal.main_arg1)
      ∧ r.2.mem ((c.tc : Thread Cert.ReferenceXRIdeal.nD Cert.ReferenceXRIdeal.τ).loc Cert.ReferenceXRIdeal.main_arg2) = m ((c.tc : Thread Cert.ReferenceXRIdeal.nD Cert.ReferenceXRIdeal.τ).loc Cert.ReferenceXRIdeal.main_arg2))
      ∧ r.2.sem = fun _ => 0)

def quiescent_KernelYR [hKernelYR : Cert.KernelYR.Facts] : Prop :=
  ∀ (m : (ℓ : Loc Cert.KernelYR.nD Cert.KernelYR.τ Cert.KernelYR.sig) → Buf (Elt Bits) ℓ) (g : Dev Cert.KernelYR.nD → PrngReg), Pre_KernelYR m →
    θ_run (Cert.KernelYR.defs (F := Bits)) (onTc (τ := Cert.KernelYR.τ) (Cert.KernelYR.main (F := Bits))) ⟨m, fun _ => 0, g⟩ (fun r => (∀ c : Dev Cert.KernelYR.nD,
      r.2.mem ((c.tc : Thread Cert.KernelYR.nD Cert.KernelYR.τ).loc Cert.KernelYR.main_arg0) = m ((c.tc : Thread Cert.KernelYR.nD Cert.KernelYR.τ).loc Cert.KernelYR.main_arg0)
      ∧ r.2.mem ((c.tc : Thread Cert.KernelYR.nD Cert.KernelYR.τ).loc Cert.KernelYR.main_arg1) = m ((c.tc : Thread Cert.KernelYR.nD Cert.KernelYR.τ).loc Cert.KernelYR.main_arg1)
      ∧ r.2.mem ((c.tc : Thread Cert.KernelYR.nD Cert.KernelYR.τ).loc Cert.KernelYR.main_arg2) = m ((c.tc : Thread Cert.KernelYR.nD Cert.KernelYR.τ).loc Cert.KernelYR.main_arg2)
      ∧ r.2.mem ((c.tc : Thread Cert.KernelYR.nD Cert.KernelYR.τ).loc Cert.KernelYR.main_arg3) = m ((c.tc : Thread Cert.KernelYR.nD Cert.KernelYR.τ).loc Cert.KernelYR.main_arg3))
      ∧ r.2.sem = fun _ => 0)

def quiescent_KernelYRIdeal [hKernelYRIdeal : Cert.KernelYRIdeal.Facts] : Prop :=
  ∀ (m : (ℓ : Loc Cert.KernelYRIdeal.nD Cert.KernelYRIdeal.τ Cert.KernelYRIdeal.sig) → Buf (Elt Ideal) ℓ) (g : Dev Cert.KernelYRIdeal.nD → PrngReg), Pre_KernelYRIdeal m →
    θ_run (Cert.KernelYRIdeal.defs (F := Ideal)) (onTc (τ := Cert.KernelYRIdeal.τ) (Cert.KernelYRIdeal.main (F := Ideal))) ⟨m, fun _ => 0, g⟩ (fun r => (∀ c : Dev Cert.KernelYRIdeal.nD,
      r.2.mem ((c.tc : Thread Cert.KernelYRIdeal.nD Cert.KernelYRIdeal.τ).loc Cert.KernelYRIdeal.main_arg0) = m ((c.tc : Thread Cert.KernelYRIdeal.nD Cert.KernelYRIdeal.τ).loc Cert.KernelYRIdeal.main_arg0)
      ∧ r.2.mem ((c.tc : Thread Cert.KernelYRIdeal.nD Cert.KernelYRIdeal.τ).loc Cert.KernelYRIdeal.main_arg1) = m ((c.tc : Thread Cert.KernelYRIdeal.nD Cert.KernelYRIdeal.τ).loc Cert.KernelYRIdeal.main_arg1)
      ∧ r.2.mem ((c.tc : Thread Cert.KernelYRIdeal.nD Cert.KernelYRIdeal.τ).loc Cert.KernelYRIdeal.main_arg2) = m ((c.tc : Thread Cert.KernelYRIdeal.nD Cert.KernelYRIdeal.τ).loc Cert.KernelYRIdeal.main_arg2)
      ∧ r.2.mem ((c.tc : Thread Cert.KernelYRIdeal.nD Cert.KernelYRIdeal.τ).loc Cert.KernelYRIdeal.main_arg3) = m ((c.tc : Thread Cert.KernelYRIdeal.nD Cert.KernelYRIdeal.τ).loc Cert.KernelYRIdeal.main_arg3))
      ∧ r.2.sem = fun _ => 0)

def quiescent_ReferenceYRIdeal [hReferenceYRIdeal : Cert.ReferenceYRIdeal.Facts] : Prop :=
  ∀ (m : (ℓ : Loc Cert.ReferenceYRIdeal.nD Cert.ReferenceYRIdeal.τ Cert.ReferenceYRIdeal.sig) → Buf (Elt Ideal) ℓ) (g : Dev Cert.ReferenceYRIdeal.nD → PrngReg), Pre_ReferenceYRIdeal m →
    θ_run (Cert.ReferenceYRIdeal.defs (F := Ideal)) (onTc (τ := Cert.ReferenceYRIdeal.τ) (Cert.ReferenceYRIdeal.main (F := Ideal))) ⟨m, fun _ => 0, g⟩ (fun r => (∀ c : Dev Cert.ReferenceYRIdeal.nD,
      r.2.mem ((c.tc : Thread Cert.ReferenceYRIdeal.nD Cert.ReferenceYRIdeal.τ).loc Cert.ReferenceYRIdeal.main_arg0) = m ((c.tc : Thread Cert.ReferenceYRIdeal.nD Cert.ReferenceYRIdeal.τ).loc Cert.ReferenceYRIdeal.main_arg0)
      ∧ r.2.mem ((c.tc : Thread Cert.ReferenceYRIdeal.nD Cert.ReferenceYRIdeal.τ).loc Cert.ReferenceYRIdeal.main_arg1) = m ((c.tc : Thread Cert.ReferenceYRIdeal.nD Cert.ReferenceYRIdeal.τ).loc Cert.ReferenceYRIdeal.main_arg1)
      ∧ r.2.mem ((c.tc : Thread Cert.ReferenceYRIdeal.nD Cert.ReferenceYRIdeal.τ).loc Cert.ReferenceYRIdeal.main_arg2) = m ((c.tc : Thread Cert.ReferenceYRIdeal.nD Cert.ReferenceYRIdeal.τ).loc Cert.ReferenceYRIdeal.main_arg2)
      ∧ r.2.mem ((c.tc : Thread Cert.ReferenceYRIdeal.nD Cert.ReferenceYRIdeal.τ).loc Cert.ReferenceYRIdeal.main_arg3) = m ((c.tc : Thread Cert.ReferenceYRIdeal.nD Cert.ReferenceYRIdeal.τ).loc Cert.ReferenceYRIdeal.main_arg3))
      ∧ r.2.sem = fun _ => 0)

def quiescent_KernelYO [hKernelYO : Cert.KernelYO.Facts] : Prop :=
  ∀ (m : (ℓ : Loc Cert.KernelYO.nD Cert.KernelYO.τ Cert.KernelYO.sig) → Buf (Elt Bits) ℓ) (g : Dev Cert.KernelYO.nD → PrngReg), Pre_KernelYO m →
    θ_run (Cert.KernelYO.defs (F := Bits)) (onTc (τ := Cert.KernelYO.τ) (Cert.KernelYO.main (F := Bits))) ⟨m, fun _ => 0, g⟩ (fun r => (∀ c : Dev Cert.KernelYO.nD,
      r.2.mem ((c.tc : Thread Cert.KernelYO.nD Cert.KernelYO.τ).loc Cert.KernelYO.main_arg0) = m ((c.tc : Thread Cert.KernelYO.nD Cert.KernelYO.τ).loc Cert.KernelYO.main_arg0)
      ∧ r.2.mem ((c.tc : Thread Cert.KernelYO.nD Cert.KernelYO.τ).loc Cert.KernelYO.main_arg1) = m ((c.tc : Thread Cert.KernelYO.nD Cert.KernelYO.τ).loc Cert.KernelYO.main_arg1))
      ∧ r.2.sem = fun _ => 0)

def quiescent_KernelYOIdeal [hKernelYOIdeal : Cert.KernelYOIdeal.Facts] : Prop :=
  ∀ (m : (ℓ : Loc Cert.KernelYOIdeal.nD Cert.KernelYOIdeal.τ Cert.KernelYOIdeal.sig) → Buf (Elt Ideal) ℓ) (g : Dev Cert.KernelYOIdeal.nD → PrngReg), Pre_KernelYOIdeal m →
    θ_run (Cert.KernelYOIdeal.defs (F := Ideal)) (onTc (τ := Cert.KernelYOIdeal.τ) (Cert.KernelYOIdeal.main (F := Ideal))) ⟨m, fun _ => 0, g⟩ (fun r => (∀ c : Dev Cert.KernelYOIdeal.nD,
      r.2.mem ((c.tc : Thread Cert.KernelYOIdeal.nD Cert.KernelYOIdeal.τ).loc Cert.KernelYOIdeal.main_arg0) = m ((c.tc : Thread Cert.KernelYOIdeal.nD Cert.KernelYOIdeal.τ).loc Cert.KernelYOIdeal.main_arg0)
      ∧ r.2.mem ((c.tc : Thread Cert.KernelYOIdeal.nD Cert.KernelYOIdeal.τ).loc Cert.KernelYOIdeal.main_arg1) = m ((c.tc : Thread Cert.KernelYOIdeal.nD Cert.KernelYOIdeal.τ).loc Cert.KernelYOIdeal.main_arg1))
      ∧ r.2.sem = fun _ => 0)

def quiescent_ReferenceYOIdeal [hReferenceYOIdeal : Cert.ReferenceYOIdeal.Facts] : Prop :=
  ∀ (m : (ℓ : Loc Cert.ReferenceYOIdeal.nD Cert.ReferenceYOIdeal.τ Cert.ReferenceYOIdeal.sig) → Buf (Elt Ideal) ℓ) (g : Dev Cert.ReferenceYOIdeal.nD → PrngReg), Pre_ReferenceYOIdeal m →
    θ_run (Cert.ReferenceYOIdeal.defs (F := Ideal)) (onTc (τ := Cert.ReferenceYOIdeal.τ) (Cert.ReferenceYOIdeal.main (F := Ideal))) ⟨m, fun _ => 0, g⟩ (fun r => (∀ c : Dev Cert.ReferenceYOIdeal.nD,
      r.2.mem ((c.tc : Thread Cert.ReferenceYOIdeal.nD Cert.ReferenceYOIdeal.τ).loc Cert.ReferenceYOIdeal.main_arg0) = m ((c.tc : Thread Cert.ReferenceYOIdeal.nD Cert.ReferenceYOIdeal.τ).loc Cert.ReferenceYOIdeal.main_arg0)
      ∧ r.2.mem ((c.tc : Thread Cert.ReferenceYOIdeal.nD Cert.ReferenceYOIdeal.τ).loc Cert.ReferenceYOIdeal.main_arg1) = m ((c.tc : Thread Cert.ReferenceYOIdeal.nD Cert.ReferenceYOIdeal.τ).loc Cert.ReferenceYOIdeal.main_arg1))
      ∧ r.2.sem = fun _ => 0)

def quiescent_KernelYOW [hKernelYOW : Cert.KernelYOW.Facts] : Prop :=
  ∀ (m : (ℓ : Loc Cert.KernelYOW.nD Cert.KernelYOW.τ Cert.KernelYOW.sig) → Buf (Elt Bits) ℓ) (g : Dev Cert.KernelYOW.nD → PrngReg), Pre_KernelYOW m →
    θ_run (Cert.KernelYOW.defs (F := Bits)) (onTc (τ := Cert.KernelYOW.τ) (Cert.KernelYOW.main (F := Bits))) ⟨m, fun _ => 0, g⟩ (fun r => (∀ c : Dev Cert.KernelYOW.nD,
      r.2.mem ((c.tc : Thread Cert.KernelYOW.nD Cert.KernelYOW.τ).loc Cert.KernelYOW.main_arg0) = m ((c.tc : Thread Cert.KernelYOW.nD Cert.KernelYOW.τ).loc Cert.KernelYOW.main_arg0)
      ∧ r.2.mem ((c.tc : Thread Cert.KernelYOW.nD Cert.KernelYOW.τ).loc Cert.KernelYOW.main_arg1) = m ((c.tc : Thread Cert.KernelYOW.nD Cert.KernelYOW.τ).loc Cert.KernelYOW.main_arg1))
      ∧ r.2.sem = fun _ => 0)

def quiescent_KernelYOWIdeal [hKernelYOWIdeal : Cert.KernelYOWIdeal.Facts] : Prop :=
  ∀ (m : (ℓ : Loc Cert.KernelYOWIdeal.nD Cert.KernelYOWIdeal.τ Cert.KernelYOWIdeal.sig) → Buf (Elt Ideal) ℓ) (g : Dev Cert.KernelYOWIdeal.nD → PrngReg), Pre_KernelYOWIdeal m →
    θ_run (Cert.KernelYOWIdeal.defs (F := Ideal)) (onTc (τ := Cert.KernelYOWIdeal.τ) (Cert.KernelYOWIdeal.main (F := Ideal))) ⟨m, fun _ => 0, g⟩ (fun r => (∀ c : Dev Cert.KernelYOWIdeal.nD,
      r.2.mem ((c.tc : Thread Cert.KernelYOWIdeal.nD Cert.KernelYOWIdeal.τ).loc Cert.KernelYOWIdeal.main_arg0) = m ((c.tc : Thread Cert.KernelYOWIdeal.nD Cert.KernelYOWIdeal.τ).loc Cert.KernelYOWIdeal.main_arg0)
      ∧ r.2.mem ((c.tc : Thread Cert.KernelYOWIdeal.nD Cert.KernelYOWIdeal.τ).loc Cert.KernelYOWIdeal.main_arg1) = m ((c.tc : Thread Cert.KernelYOWIdeal.nD Cert.KernelYOWIdeal.τ).loc Cert.KernelYOWIdeal.main_arg1))
      ∧ r.2.sem = fun _ => 0)

def quiescent_ReferenceYOWIdeal [hReferenceYOWIdeal : Cert.ReferenceYOWIdeal.Facts] : Prop :=
  ∀ (m : (ℓ : Loc Cert.ReferenceYOWIdeal.nD Cert.ReferenceYOWIdeal.τ Cert.ReferenceYOWIdeal.sig) → Buf (Elt Ideal) ℓ) (g : Dev Cert.ReferenceYOWIdeal.nD → PrngReg), Pre_ReferenceYOWIdeal m →
    θ_run (Cert.ReferenceYOWIdeal.defs (F := Ideal)) (onTc (τ := Cert.ReferenceYOWIdeal.τ) (Cert.ReferenceYOWIdeal.main (F := Ideal))) ⟨m, fun _ => 0, g⟩ (fun r => (∀ c : Dev Cert.ReferenceYOWIdeal.nD,
      r.2.mem ((c.tc : Thread Cert.ReferenceYOWIdeal.nD Cert.ReferenceYOWIdeal.τ).loc Cert.ReferenceYOWIdeal.main_arg0) = m ((c.tc : Thread Cert.ReferenceYOWIdeal.nD Cert.ReferenceYOWIdeal.τ).loc Cert.ReferenceYOWIdeal.main_arg0)
      ∧ r.2.mem ((c.tc : Thread Cert.ReferenceYOWIdeal.nD Cert.ReferenceYOWIdeal.τ).loc Cert.ReferenceYOWIdeal.main_arg1) = m ((c.tc : Thread Cert.ReferenceYOWIdeal.nD Cert.ReferenceYOWIdeal.τ).loc Cert.ReferenceYOWIdeal.main_arg1))
      ∧ r.2.sem = fun _ => 0)

def quiescent_KernelYS [hKernelYS : Cert.KernelYS.Facts] : Prop :=
  ∀ (m : (ℓ : Loc Cert.KernelYS.nD Cert.KernelYS.τ Cert.KernelYS.sig) → Buf (Elt Bits) ℓ) (g : Dev Cert.KernelYS.nD → PrngReg), Pre_KernelYS m →
    θ_run (Cert.KernelYS.defs (F := Bits)) (onTc (τ := Cert.KernelYS.τ) (Cert.KernelYS.main (F := Bits))) ⟨m, fun _ => 0, g⟩ (fun r => (∀ c : Dev Cert.KernelYS.nD,
      r.2.mem ((c.tc : Thread Cert.KernelYS.nD Cert.KernelYS.τ).loc Cert.KernelYS.main_arg0) = m ((c.tc : Thread Cert.KernelYS.nD Cert.KernelYS.τ).loc Cert.KernelYS.main_arg0)
      ∧ r.2.mem ((c.tc : Thread Cert.KernelYS.nD Cert.KernelYS.τ).loc Cert.KernelYS.main_arg1) = m ((c.tc : Thread Cert.KernelYS.nD Cert.KernelYS.τ).loc Cert.KernelYS.main_arg1))
      ∧ r.2.sem = fun _ => 0)

def quiescent_KernelYSIdeal [hKernelYSIdeal : Cert.KernelYSIdeal.Facts] : Prop :=
  ∀ (m : (ℓ : Loc Cert.KernelYSIdeal.nD Cert.KernelYSIdeal.τ Cert.KernelYSIdeal.sig) → Buf (Elt Ideal) ℓ) (g : Dev Cert.KernelYSIdeal.nD → PrngReg), Pre_KernelYSIdeal m →
    θ_run (Cert.KernelYSIdeal.defs (F := Ideal)) (onTc (τ := Cert.KernelYSIdeal.τ) (Cert.KernelYSIdeal.main (F := Ideal))) ⟨m, fun _ => 0, g⟩ (fun r => (∀ c : Dev Cert.KernelYSIdeal.nD,
      r.2.mem ((c.tc : Thread Cert.KernelYSIdeal.nD Cert.KernelYSIdeal.τ).loc Cert.KernelYSIdeal.main_arg0) = m ((c.tc : Thread Cert.KernelYSIdeal.nD Cert.KernelYSIdeal.τ).loc Cert.KernelYSIdeal.main_arg0)
      ∧ r.2.mem ((c.tc : Thread Cert.KernelYSIdeal.nD Cert.KernelYSIdeal.τ).loc Cert.KernelYSIdeal.main_arg1) = m ((c.tc : Thread Cert.KernelYSIdeal.nD Cert.KernelYSIdeal.τ).loc Cert.KernelYSIdeal.main_arg1))
      ∧ r.2.sem = fun _ => 0)

def quiescent_ReferenceYSIdeal [hReferenceYSIdeal : Cert.ReferenceYSIdeal.Facts] : Prop :=
  ∀ (m : (ℓ : Loc Cert.ReferenceYSIdeal.nD Cert.ReferenceYSIdeal.τ Cert.ReferenceYSIdeal.sig) → Buf (Elt Ideal) ℓ) (g : Dev Cert.ReferenceYSIdeal.nD → PrngReg), Pre_ReferenceYSIdeal m →
    θ_run (Cert.ReferenceYSIdeal.defs (F := Ideal)) (onTc (τ := Cert.ReferenceYSIdeal.τ) (Cert.ReferenceYSIdeal.main (F := Ideal))) ⟨m, fun _ => 0, g⟩ (fun r => (∀ c : Dev Cert.ReferenceYSIdeal.nD,
      r.2.mem ((c.tc : Thread Cert.ReferenceYSIdeal.nD Cert.ReferenceYSIdeal.τ).loc Cert.ReferenceYSIdeal.main_arg0) = m ((c.tc : Thread Cert.ReferenceYSIdeal.nD Cert.ReferenceYSIdeal.τ).loc Cert.ReferenceYSIdeal.main_arg0)
      ∧ r.2.mem ((c.tc : Thread Cert.ReferenceYSIdeal.nD Cert.ReferenceYSIdeal.τ).loc Cert.ReferenceYSIdeal.main_arg1) = m ((c.tc : Thread Cert.ReferenceYSIdeal.nD Cert.ReferenceYSIdeal.τ).loc Cert.ReferenceYSIdeal.main_arg1))
      ∧ r.2.sem = fun _ => 0)

def quiescent_KernelYI [hKernelYI : Cert.KernelYI.Facts] : Prop :=
  ∀ (m : (ℓ : Loc Cert.KernelYI.nD Cert.KernelYI.τ Cert.KernelYI.sig) → Buf (Elt Bits) ℓ) (g : Dev Cert.KernelYI.nD → PrngReg), Pre_KernelYI m →
    θ_run (Cert.KernelYI.defs (F := Bits)) (onTc (τ := Cert.KernelYI.τ) (Cert.KernelYI.main (F := Bits))) ⟨m, fun _ => 0, g⟩ (fun r => (∀ c : Dev Cert.KernelYI.nD,
      r.2.mem ((c.tc : Thread Cert.KernelYI.nD Cert.KernelYI.τ).loc Cert.KernelYI.main_arg0) = m ((c.tc : Thread Cert.KernelYI.nD Cert.KernelYI.τ).loc Cert.KernelYI.main_arg0)
      ∧ r.2.mem ((c.tc : Thread Cert.KernelYI.nD Cert.KernelYI.τ).loc Cert.KernelYI.main_arg1) = m ((c.tc : Thread Cert.KernelYI.nD Cert.KernelYI.τ).loc Cert.KernelYI.main_arg1))
      ∧ r.2.sem = fun _ => 0)

def quiescent_KernelYIIdeal [hKernelYIIdeal : Cert.KernelYIIdeal.Facts] : Prop :=
  ∀ (m : (ℓ : Loc Cert.KernelYIIdeal.nD Cert.KernelYIIdeal.τ Cert.KernelYIIdeal.sig) → Buf (Elt Ideal) ℓ) (g : Dev Cert.KernelYIIdeal.nD → PrngReg), Pre_KernelYIIdeal m →
    θ_run (Cert.KernelYIIdeal.defs (F := Ideal)) (onTc (τ := Cert.KernelYIIdeal.τ) (Cert.KernelYIIdeal.main (F := Ideal))) ⟨m, fun _ => 0, g⟩ (fun r => (∀ c : Dev Cert.KernelYIIdeal.nD,
      r.2.mem ((c.tc : Thread Cert.KernelYIIdeal.nD Cert.KernelYIIdeal.τ).loc Cert.KernelYIIdeal.main_arg0) = m ((c.tc : Thread Cert.KernelYIIdeal.nD Cert.KernelYIIdeal.τ).loc Cert.KernelYIIdeal.main_arg0)
      ∧ r.2.mem ((c.tc : Thread Cert.KernelYIIdeal.nD Cert.KernelYIIdeal.τ).loc Cert.KernelYIIdeal.main_arg1) = m ((c.tc : Thread Cert.KernelYIIdeal.nD Cert.KernelYIIdeal.τ).loc Cert.KernelYIIdeal.main_arg1))
      ∧ r.2.sem = fun _ => 0)

def quiescent_ReferenceYIIdeal [hReferenceYIIdeal : Cert.ReferenceYIIdeal.Facts] : Prop :=
  ∀ (m : (ℓ : Loc Cert.ReferenceYIIdeal.nD Cert.ReferenceYIIdeal.τ Cert.ReferenceYIIdeal.sig) → Buf (Elt Ideal) ℓ) (g : Dev Cert.ReferenceYIIdeal.nD → PrngReg), Pre_ReferenceYIIdeal m →
    θ_run (Cert.ReferenceYIIdeal.defs (F := Ideal)) (onTc (τ := Cert.ReferenceYIIdeal.τ) (Cert.ReferenceYIIdeal.main (F := Ideal))) ⟨m, fun _ => 0, g⟩ (fun r => (∀ c : Dev Cert.ReferenceYIIdeal.nD,
      r.2.mem ((c.tc : Thread Cert.ReferenceYIIdeal.nD Cert.ReferenceYIIdeal.τ).loc Cert.ReferenceYIIdeal.main_arg0) = m ((c.tc : Thread Cert.ReferenceYIIdeal.nD Cert.ReferenceYIIdeal.τ).loc Cert.ReferenceYIIdeal.main_arg0)
      ∧ r.2.mem ((c.tc : Thread Cert.ReferenceYIIdeal.nD Cert.ReferenceYIIdeal.τ).loc Cert.ReferenceYIIdeal.main_arg1) = m ((c.tc : Thread Cert.ReferenceYIIdeal.nD Cert.ReferenceYIIdeal.τ).loc Cert.ReferenceYIIdeal.main_arg1))
      ∧ r.2.sem = fun _ => 0)

def quiescent_KernelYIW [hKernelYIW : Cert.KernelYIW.Facts] : Prop :=
  ∀ (m : (ℓ : Loc Cert.KernelYIW.nD Cert.KernelYIW.τ Cert.KernelYIW.sig) → Buf (Elt Bits) ℓ) (g : Dev Cert.KernelYIW.nD → PrngReg), Pre_KernelYIW m →
    θ_run (Cert.KernelYIW.defs (F := Bits)) (onTc (τ := Cert.KernelYIW.τ) (Cert.KernelYIW.main (F := Bits))) ⟨m, fun _ => 0, g⟩ (fun r => (∀ c : Dev Cert.KernelYIW.nD,
      r.2.mem ((c.tc : Thread Cert.KernelYIW.nD Cert.KernelYIW.τ).loc Cert.KernelYIW.main_arg0) = m ((c.tc : Thread Cert.KernelYIW.nD Cert.KernelYIW.τ).loc Cert.KernelYIW.main_arg0)
      ∧ r.2.mem ((c.tc : Thread Cert.KernelYIW.nD Cert.KernelYIW.τ).loc Cert.KernelYIW.main_arg1) = m ((c.tc : Thread Cert.KernelYIW.nD Cert.KernelYIW.τ).loc Cert.KernelYIW.main_arg1))
      ∧ r.2.sem = fun _ => 0)

def quiescent_KernelYIWIdeal [hKernelYIWIdeal : Cert.KernelYIWIdeal.Facts] : Prop :=
  ∀ (m : (ℓ : Loc Cert.KernelYIWIdeal.nD Cert.KernelYIWIdeal.τ Cert.KernelYIWIdeal.sig) → Buf (Elt Ideal) ℓ) (g : Dev Cert.KernelYIWIdeal.nD → PrngReg), Pre_KernelYIWIdeal m →
    θ_run (Cert.KernelYIWIdeal.defs (F := Ideal)) (onTc (τ := Cert.KernelYIWIdeal.τ) (Cert.KernelYIWIdeal.main (F := Ideal))) ⟨m, fun _ => 0, g⟩ (fun r => (∀ c : Dev Cert.KernelYIWIdeal.nD,
      r.2.mem ((c.tc : Thread Cert.KernelYIWIdeal.nD Cert.KernelYIWIdeal.τ).loc Cert.KernelYIWIdeal.main_arg0) = m ((c.tc : Thread Cert.KernelYIWIdeal.nD Cert.KernelYIWIdeal.τ).loc Cert.KernelYIWIdeal.main_arg0)
      ∧ r.2.mem ((c.tc : Thread Cert.KernelYIWIdeal.nD Cert.KernelYIWIdeal.τ).loc Cert.KernelYIWIdeal.main_arg1) = m ((c.tc : Thread Cert.KernelYIWIdeal.nD Cert.KernelYIWIdeal.τ).loc Cert.KernelYIWIdeal.main_arg1))
      ∧ r.2.sem = fun _ => 0)

def quiescent_ReferenceYIWIdeal [hReferenceYIWIdeal : Cert.ReferenceYIWIdeal.Facts] : Prop :=
  ∀ (m : (ℓ : Loc Cert.ReferenceYIWIdeal.nD Cert.ReferenceYIWIdeal.τ Cert.ReferenceYIWIdeal.sig) → Buf (Elt Ideal) ℓ) (g : Dev Cert.ReferenceYIWIdeal.nD → PrngReg), Pre_ReferenceYIWIdeal m →
    θ_run (Cert.ReferenceYIWIdeal.defs (F := Ideal)) (onTc (τ := Cert.ReferenceYIWIdeal.τ) (Cert.ReferenceYIWIdeal.main (F := Ideal))) ⟨m, fun _ => 0, g⟩ (fun r => (∀ c : Dev Cert.ReferenceYIWIdeal.nD,
      r.2.mem ((c.tc : Thread Cert.ReferenceYIWIdeal.nD Cert.ReferenceYIWIdeal.τ).loc Cert.ReferenceYIWIdeal.main_arg0) = m ((c.tc : Thread Cert.ReferenceYIWIdeal.nD Cert.ReferenceYIWIdeal.τ).loc Cert.ReferenceYIWIdeal.main_arg0)
      ∧ r.2.mem ((c.tc : Thread Cert.ReferenceYIWIdeal.nD Cert.ReferenceYIWIdeal.τ).loc Cert.ReferenceYIWIdeal.main_arg1) = m ((c.tc : Thread Cert.ReferenceYIWIdeal.nD Cert.ReferenceYIWIdeal.τ).loc Cert.ReferenceYIWIdeal.main_arg1))
      ∧ r.2.sem = fun _ => 0)

def quiescent_KernelZI [hKernelZI : Cert.KernelZI.Facts] : Prop :=
  ∀ (m : (ℓ : Loc Cert.KernelZI.nD Cert.KernelZI.τ Cert.KernelZI.sig) → Buf (Elt Bits) ℓ) (g : Dev Cert.KernelZI.nD → PrngReg), Pre_KernelZI m →
    θ_run (Cert.KernelZI.defs (F := Bits)) (onTc (τ := Cert.KernelZI.τ) (Cert.KernelZI.main (F := Bits))) ⟨m, fun _ => 0, g⟩ (fun r => (∀ c : Dev Cert.KernelZI.nD,
      r.2.mem ((c.tc : Thread Cert.KernelZI.nD Cert.KernelZI.τ).loc Cert.KernelZI.main_arg0) = m ((c.tc : Thread Cert.KernelZI.nD Cert.KernelZI.τ).loc Cert.KernelZI.main_arg0)
      ∧ r.2.mem ((c.tc : Thread Cert.KernelZI.nD Cert.KernelZI.τ).loc Cert.KernelZI.main_arg1) = m ((c.tc : Thread Cert.KernelZI.nD Cert.KernelZI.τ).loc Cert.KernelZI.main_arg1))
      ∧ r.2.sem = fun _ => 0)

def quiescent_KernelZIIdeal [hKernelZIIdeal : Cert.KernelZIIdeal.Facts] : Prop :=
  ∀ (m : (ℓ : Loc Cert.KernelZIIdeal.nD Cert.KernelZIIdeal.τ Cert.KernelZIIdeal.sig) → Buf (Elt Ideal) ℓ) (g : Dev Cert.KernelZIIdeal.nD → PrngReg), Pre_KernelZIIdeal m →
    θ_run (Cert.KernelZIIdeal.defs (F := Ideal)) (onTc (τ := Cert.KernelZIIdeal.τ) (Cert.KernelZIIdeal.main (F := Ideal))) ⟨m, fun _ => 0, g⟩ (fun r => (∀ c : Dev Cert.KernelZIIdeal.nD,
      r.2.mem ((c.tc : Thread Cert.KernelZIIdeal.nD Cert.KernelZIIdeal.τ).loc Cert.KernelZIIdeal.main_arg0) = m ((c.tc : Thread Cert.KernelZIIdeal.nD Cert.KernelZIIdeal.τ).loc Cert.KernelZIIdeal.main_arg0)
      ∧ r.2.mem ((c.tc : Thread Cert.KernelZIIdeal.nD Cert.KernelZIIdeal.τ).loc Cert.KernelZIIdeal.main_arg1) = m ((c.tc : Thread Cert.KernelZIIdeal.nD Cert.KernelZIIdeal.τ).loc Cert.KernelZIIdeal.main_arg1))
      ∧ r.2.sem = fun _ => 0)

def quiescent_ReferenceZIIdeal [hReferenceZIIdeal : Cert.ReferenceZIIdeal.Facts] : Prop :=
  ∀ (m : (ℓ : Loc Cert.ReferenceZIIdeal.nD Cert.ReferenceZIIdeal.τ Cert.ReferenceZIIdeal.sig) → Buf (Elt Ideal) ℓ) (g : Dev Cert.ReferenceZIIdeal.nD → PrngReg), Pre_ReferenceZIIdeal m →
    θ_run (Cert.ReferenceZIIdeal.defs (F := Ideal)) (onTc (τ := Cert.ReferenceZIIdeal.τ) (Cert.ReferenceZIIdeal.main (F := Ideal))) ⟨m, fun _ => 0, g⟩ (fun r => (∀ c : Dev Cert.ReferenceZIIdeal.nD,
      r.2.mem ((c.tc : Thread Cert.ReferenceZIIdeal.nD Cert.ReferenceZIIdeal.τ).loc Cert.ReferenceZIIdeal.main_arg0) = m ((c.tc : Thread Cert.ReferenceZIIdeal.nD Cert.ReferenceZIIdeal.τ).loc Cert.ReferenceZIIdeal.main_arg0)
      ∧ r.2.mem ((c.tc : Thread Cert.ReferenceZIIdeal.nD Cert.ReferenceZIIdeal.τ).loc Cert.ReferenceZIIdeal.main_arg1) = m ((c.tc : Thread Cert.ReferenceZIIdeal.nD Cert.ReferenceZIIdeal.τ).loc Cert.ReferenceZIIdeal.main_arg1))
      ∧ r.2.sem = fun _ => 0)

def quiescent_KernelZO [hKernelZO : Cert.KernelZO.Facts] : Prop :=
  ∀ (m : (ℓ : Loc Cert.KernelZO.nD Cert.KernelZO.τ Cert.KernelZO.sig) → Buf (Elt Bits) ℓ) (g : Dev Cert.KernelZO.nD → PrngReg), Pre_KernelZO m →
    θ_run (Cert.KernelZO.defs (F := Bits)) (onTc (τ := Cert.KernelZO.τ) (Cert.KernelZO.main (F := Bits))) ⟨m, fun _ => 0, g⟩ (fun r => (∀ c : Dev Cert.KernelZO.nD,
      r.2.mem ((c.tc : Thread Cert.KernelZO.nD Cert.KernelZO.τ).loc Cert.KernelZO.main_arg0) = m ((c.tc : Thread Cert.KernelZO.nD Cert.KernelZO.τ).loc Cert.KernelZO.main_arg0)
      ∧ r.2.mem ((c.tc : Thread Cert.KernelZO.nD Cert.KernelZO.τ).loc Cert.KernelZO.main_arg1) = m ((c.tc : Thread Cert.KernelZO.nD Cert.KernelZO.τ).loc Cert.KernelZO.main_arg1))
      ∧ r.2.sem = fun _ => 0)

def quiescent_KernelZOIdeal [hKernelZOIdeal : Cert.KernelZOIdeal.Facts] : Prop :=
  ∀ (m : (ℓ : Loc Cert.KernelZOIdeal.nD Cert.KernelZOIdeal.τ Cert.KernelZOIdeal.sig) → Buf (Elt Ideal) ℓ) (g : Dev Cert.KernelZOIdeal.nD → PrngReg), Pre_KernelZOIdeal m →
    θ_run (Cert.KernelZOIdeal.defs (F := Ideal)) (onTc (τ := Cert.KernelZOIdeal.τ) (Cert.KernelZOIdeal.main (F := Ideal))) ⟨m, fun _ => 0, g⟩ (fun r => (∀ c : Dev Cert.KernelZOIdeal.nD,
      r.2.mem ((c.tc : Thread Cert.KernelZOIdeal.nD Cert.KernelZOIdeal.τ).loc Cert.KernelZOIdeal.main_arg0) = m ((c.tc : Thread Cert.KernelZOIdeal.nD Cert.KernelZOIdeal.τ).loc Cert.KernelZOIdeal.main_arg0)
      ∧ r.2.mem ((c.tc : Thread Cert.KernelZOIdeal.nD Cert.KernelZOIdeal.τ).loc Cert.KernelZOIdeal.main_arg1) = m ((c.tc : Thread Cert.KernelZOIdeal.nD Cert.KernelZOIdeal.τ).loc Cert.KernelZOIdeal.main_arg1))
      ∧ r.2.sem = fun _ => 0)

def quiescent_ReferenceZOIdeal [hReferenceZOIdeal : Cert.ReferenceZOIdeal.Facts] : Prop :=
  ∀ (m : (ℓ : Loc Cert.ReferenceZOIdeal.nD Cert.ReferenceZOIdeal.τ Cert.ReferenceZOIdeal.sig) → Buf (Elt Ideal) ℓ) (g : Dev Cert.ReferenceZOIdeal.nD → PrngReg), Pre_ReferenceZOIdeal m →
    θ_run (Cert.ReferenceZOIdeal.defs (F := Ideal)) (onTc (τ := Cert.ReferenceZOIdeal.τ) (Cert.ReferenceZOIdeal.main (F := Ideal))) ⟨m, fun _ => 0, g⟩ (fun r => (∀ c : Dev Cert.ReferenceZOIdeal.nD,
      r.2.mem ((c.tc : Thread Cert.ReferenceZOIdeal.nD Cert.ReferenceZOIdeal.τ).loc Cert.ReferenceZOIdeal.main_arg0) = m ((c.tc : Thread Cert.ReferenceZOIdeal.nD Cert.ReferenceZOIdeal.τ).loc Cert.ReferenceZOIdeal.main_arg0)
      ∧ r.2.mem ((c.tc : Thread Cert.ReferenceZOIdeal.nD Cert.ReferenceZOIdeal.τ).loc Cert.ReferenceZOIdeal.main_arg1) = m ((c.tc : Thread Cert.ReferenceZOIdeal.nD Cert.ReferenceZOIdeal.τ).loc Cert.ReferenceZOIdeal.main_arg1))
      ∧ r.2.sem = fun _ => 0)

def quiescent_KernelZOX [hKernelZOX : Cert.KernelZOX.Facts] : Prop :=
  ∀ (m : (ℓ : Loc Cert.KernelZOX.nD Cert.KernelZOX.τ Cert.KernelZOX.sig) → Buf (Elt Bits) ℓ) (g : Dev Cert.KernelZOX.nD → PrngReg), Pre_KernelZOX m →
    θ_run (Cert.KernelZOX.defs (F := Bits)) (onTc (τ := Cert.KernelZOX.τ) (Cert.KernelZOX.main (F := Bits))) ⟨m, fun _ => 0, g⟩ (fun r => (∀ c : Dev Cert.KernelZOX.nD,
      r.2.mem ((c.tc : Thread Cert.KernelZOX.nD Cert.KernelZOX.τ).loc Cert.KernelZOX.main_arg0) = m ((c.tc : Thread Cert.KernelZOX.nD Cert.KernelZOX.τ).loc Cert.KernelZOX.main_arg0)
      ∧ r.2.mem ((c.tc : Thread Cert.KernelZOX.nD Cert.KernelZOX.τ).loc Cert.KernelZOX.main_arg1) = m ((c.tc : Thread Cert.KernelZOX.nD Cert.KernelZOX.τ).loc Cert.KernelZOX.main_arg1))
      ∧ r.2.sem = fun _ => 0)

def quiescent_KernelZOXIdeal [hKernelZOXIdeal : Cert.KernelZOXIdeal.Facts] : Prop :=
  ∀ (m : (ℓ : Loc Cert.KernelZOXIdeal.nD Cert.KernelZOXIdeal.τ Cert.KernelZOXIdeal.sig) → Buf (Elt Ideal) ℓ) (g : Dev Cert.KernelZOXIdeal.nD → PrngReg), Pre_KernelZOXIdeal m →
    θ_run (Cert.KernelZOXIdeal.defs (F := Ideal)) (onTc (τ := Cert.KernelZOXIdeal.τ) (Cert.KernelZOXIdeal.main (F := Ideal))) ⟨m, fun _ => 0, g⟩ (fun r => (∀ c : Dev Cert.KernelZOXIdeal.nD,
      r.2.mem ((c.tc : Thread Cert.KernelZOXIdeal.nD Cert.KernelZOXIdeal.τ).loc Cert.KernelZOXIdeal.main_arg0) = m ((c.tc : Thread Cert.KernelZOXIdeal.nD Cert.KernelZOXIdeal.τ).loc Cert.KernelZOXIdeal.main_arg0)
      ∧ r.2.mem ((c.tc : Thread Cert.KernelZOXIdeal.nD Cert.KernelZOXIdeal.τ).loc Cert.KernelZOXIdeal.main_arg1) = m ((c.tc : Thread Cert.KernelZOXIdeal.nD Cert.KernelZOXIdeal.τ).loc Cert.KernelZOXIdeal.main_arg1))
      ∧ r.2.sem = fun _ => 0)

def quiescent_ReferenceZOXIdeal [hReferenceZOXIdeal : Cert.ReferenceZOXIdeal.Facts] : Prop :=
  ∀ (m : (ℓ : Loc Cert.ReferenceZOXIdeal.nD Cert.ReferenceZOXIdeal.τ Cert.ReferenceZOXIdeal.sig) → Buf (Elt Ideal) ℓ) (g : Dev Cert.ReferenceZOXIdeal.nD → PrngReg), Pre_ReferenceZOXIdeal m →
    θ_run (Cert.ReferenceZOXIdeal.defs (F := Ideal)) (onTc (τ := Cert.ReferenceZOXIdeal.τ) (Cert.ReferenceZOXIdeal.main (F := Ideal))) ⟨m, fun _ => 0, g⟩ (fun r => (∀ c : Dev Cert.ReferenceZOXIdeal.nD,
      r.2.mem ((c.tc : Thread Cert.ReferenceZOXIdeal.nD Cert.ReferenceZOXIdeal.τ).loc Cert.ReferenceZOXIdeal.main_arg0) = m ((c.tc : Thread Cert.ReferenceZOXIdeal.nD Cert.ReferenceZOXIdeal.τ).loc Cert.ReferenceZOXIdeal.main_arg0)
      ∧ r.2.mem ((c.tc : Thread Cert.ReferenceZOXIdeal.nD Cert.ReferenceZOXIdeal.τ).loc Cert.ReferenceZOXIdeal.main_arg1) = m ((c.tc : Thread Cert.ReferenceZOXIdeal.nD Cert.ReferenceZOXIdeal.τ).loc Cert.ReferenceZOXIdeal.main_arg1))
      ∧ r.2.sem = fun _ => 0)

def quiescent_KernelZOW [hKernelZOW : Cert.KernelZOW.Facts] : Prop :=
  ∀ (m : (ℓ : Loc Cert.KernelZOW.nD Cert.KernelZOW.τ Cert.KernelZOW.sig) → Buf (Elt Bits) ℓ) (g : Dev Cert.KernelZOW.nD → PrngReg), Pre_KernelZOW m →
    θ_run (Cert.KernelZOW.defs (F := Bits)) (onTc (τ := Cert.KernelZOW.τ) (Cert.KernelZOW.main (F := Bits))) ⟨m, fun _ => 0, g⟩ (fun r => (∀ c : Dev Cert.KernelZOW.nD,
      r.2.mem ((c.tc : Thread Cert.KernelZOW.nD Cert.KernelZOW.τ).loc Cert.KernelZOW.main_arg0) = m ((c.tc : Thread Cert.KernelZOW.nD Cert.KernelZOW.τ).loc Cert.KernelZOW.main_arg0)
      ∧ r.2.mem ((c.tc : Thread Cert.KernelZOW.nD Cert.KernelZOW.τ).loc Cert.KernelZOW.main_arg1) = m ((c.tc : Thread Cert.KernelZOW.nD Cert.KernelZOW.τ).loc Cert.KernelZOW.main_arg1))
      ∧ r.2.sem = fun _ => 0)

def quiescent_KernelZOWIdeal [hKernelZOWIdeal : Cert.KernelZOWIdeal.Facts] : Prop :=
  ∀ (m : (ℓ : Loc Cert.KernelZOWIdeal.nD Cert.KernelZOWIdeal.τ Cert.KernelZOWIdeal.sig) → Buf (Elt Ideal) ℓ) (g : Dev Cert.KernelZOWIdeal.nD → PrngReg), Pre_KernelZOWIdeal m →
    θ_run (Cert.KernelZOWIdeal.defs (F := Ideal)) (onTc (τ := Cert.KernelZOWIdeal.τ) (Cert.KernelZOWIdeal.main (F := Ideal))) ⟨m, fun _ => 0, g⟩ (fun r => (∀ c : Dev Cert.KernelZOWIdeal.nD,
      r.2.mem ((c.tc : Thread Cert.KernelZOWIdeal.nD Cert.KernelZOWIdeal.τ).loc Cert.KernelZOWIdeal.main_arg0) = m ((c.tc : Thread Cert.KernelZOWIdeal.nD Cert.KernelZOWIdeal.τ).loc Cert.KernelZOWIdeal.main_arg0)
      ∧ r.2.mem ((c.tc : Thread Cert.KernelZOWIdeal.nD Cert.KernelZOWIdeal.τ).loc Cert.KernelZOWIdeal.main_arg1) = m ((c.tc : Thread Cert.KernelZOWIdeal.nD Cert.KernelZOWIdeal.τ).loc Cert.KernelZOWIdeal.main_arg1))
      ∧ r.2.sem = fun _ => 0)

def quiescent_ReferenceZOWIdeal [hReferenceZOWIdeal : Cert.ReferenceZOWIdeal.Facts] : Prop :=
  ∀ (m : (ℓ : Loc Cert.ReferenceZOWIdeal.nD Cert.ReferenceZOWIdeal.τ Cert.ReferenceZOWIdeal.sig) → Buf (Elt Ideal) ℓ) (g : Dev Cert.ReferenceZOWIdeal.nD → PrngReg), Pre_ReferenceZOWIdeal m →
    θ_run (Cert.ReferenceZOWIdeal.defs (F := Ideal)) (onTc (τ := Cert.ReferenceZOWIdeal.τ) (Cert.ReferenceZOWIdeal.main (F := Ideal))) ⟨m, fun _ => 0, g⟩ (fun r => (∀ c : Dev Cert.ReferenceZOWIdeal.nD,
      r.2.mem ((c.tc : Thread Cert.ReferenceZOWIdeal.nD Cert.ReferenceZOWIdeal.τ).loc Cert.ReferenceZOWIdeal.main_arg0) = m ((c.tc : Thread Cert.ReferenceZOWIdeal.nD Cert.ReferenceZOWIdeal.τ).loc Cert.ReferenceZOWIdeal.main_arg0)
      ∧ r.2.mem ((c.tc : Thread Cert.ReferenceZOWIdeal.nD Cert.ReferenceZOWIdeal.τ).loc Cert.ReferenceZOWIdeal.main_arg1) = m ((c.tc : Thread Cert.ReferenceZOWIdeal.nD Cert.ReferenceZOWIdeal.τ).loc Cert.ReferenceZOWIdeal.main_arg1))
      ∧ r.2.sem = fun _ => 0)

def quiescent_KernelZIX [hKernelZIX : Cert.KernelZIX.Facts] : Prop :=
  ∀ (m : (ℓ : Loc Cert.KernelZIX.nD Cert.KernelZIX.τ Cert.KernelZIX.sig) → Buf (Elt Bits) ℓ) (g : Dev Cert.KernelZIX.nD → PrngReg), Pre_KernelZIX m →
    θ_run (Cert.KernelZIX.defs (F := Bits)) (onTc (τ := Cert.KernelZIX.τ) (Cert.KernelZIX.main (F := Bits))) ⟨m, fun _ => 0, g⟩ (fun r => (∀ c : Dev Cert.KernelZIX.nD,
      r.2.mem ((c.tc : Thread Cert.KernelZIX.nD Cert.KernelZIX.τ).loc Cert.KernelZIX.main_arg0) = m ((c.tc : Thread Cert.KernelZIX.nD Cert.KernelZIX.τ).loc Cert.KernelZIX.main_arg0)
      ∧ r.2.mem ((c.tc : Thread Cert.KernelZIX.nD Cert.KernelZIX.τ).loc Cert.KernelZIX.main_arg1) = m ((c.tc : Thread Cert.KernelZIX.nD Cert.KernelZIX.τ).loc Cert.KernelZIX.main_arg1))
      ∧ r.2.sem = fun _ => 0)

def quiescent_KernelZIXIdeal [hKernelZIXIdeal : Cert.KernelZIXIdeal.Facts] : Prop :=
  ∀ (m : (ℓ : Loc Cert.KernelZIXIdeal.nD Cert.KernelZIXIdeal.τ Cert.KernelZIXIdeal.sig) → Buf (Elt Ideal) ℓ) (g : Dev Cert.KernelZIXIdeal.nD → PrngReg), Pre_KernelZIXIdeal m →
    θ_run (Cert.KernelZIXIdeal.defs (F := Ideal)) (onTc (τ := Cert.KernelZIXIdeal.τ) (Cert.KernelZIXIdeal.main (F := Ideal))) ⟨m, fun _ => 0, g⟩ (fun r => (∀ c : Dev Cert.KernelZIXIdeal.nD,
      r.2.mem ((c.tc : Thread Cert.KernelZIXIdeal.nD Cert.KernelZIXIdeal.τ).loc Cert.KernelZIXIdeal.main_arg0) = m ((c.tc : Thread Cert.KernelZIXIdeal.nD Cert.KernelZIXIdeal.τ).loc Cert.KernelZIXIdeal.main_arg0)
      ∧ r.2.mem ((c.tc : Thread Cert.KernelZIXIdeal.nD Cert.KernelZIXIdeal.τ).loc Cert.KernelZIXIdeal.main_arg1) = m ((c.tc : Thread Cert.KernelZIXIdeal.nD Cert.KernelZIXIdeal.τ).loc Cert.KernelZIXIdeal.main_arg1))
      ∧ r.2.sem = fun _ => 0)

def quiescent_ReferenceZIXIdeal [hReferenceZIXIdeal : Cert.ReferenceZIXIdeal.Facts] : Prop :=
  ∀ (m : (ℓ : Loc Cert.ReferenceZIXIdeal.nD Cert.ReferenceZIXIdeal.τ Cert.ReferenceZIXIdeal.sig) → Buf (Elt Ideal) ℓ) (g : Dev Cert.ReferenceZIXIdeal.nD → PrngReg), Pre_ReferenceZIXIdeal m →
    θ_run (Cert.ReferenceZIXIdeal.defs (F := Ideal)) (onTc (τ := Cert.ReferenceZIXIdeal.τ) (Cert.ReferenceZIXIdeal.main (F := Ideal))) ⟨m, fun _ => 0, g⟩ (fun r => (∀ c : Dev Cert.ReferenceZIXIdeal.nD,
      r.2.mem ((c.tc : Thread Cert.ReferenceZIXIdeal.nD Cert.ReferenceZIXIdeal.τ).loc Cert.ReferenceZIXIdeal.main_arg0) = m ((c.tc : Thread Cert.ReferenceZIXIdeal.nD Cert.ReferenceZIXIdeal.τ).loc Cert.ReferenceZIXIdeal.main_arg0)
      ∧ r.2.mem ((c.tc : Thread Cert.ReferenceZIXIdeal.nD Cert.ReferenceZIXIdeal.τ).loc Cert.ReferenceZIXIdeal.main_arg1) = m ((c.tc : Thread Cert.ReferenceZIXIdeal.nD Cert.ReferenceZIXIdeal.τ).loc Cert.ReferenceZIXIdeal.main_arg1))
      ∧ r.2.sem = fun _ => 0)

def quiescent_KernelZIW [hKernelZIW : Cert.KernelZIW.Facts] : Prop :=
  ∀ (m : (ℓ : Loc Cert.KernelZIW.nD Cert.KernelZIW.τ Cert.KernelZIW.sig) → Buf (Elt Bits) ℓ) (g : Dev Cert.KernelZIW.nD → PrngReg), Pre_KernelZIW m →
    θ_run (Cert.KernelZIW.defs (F := Bits)) (onTc (τ := Cert.KernelZIW.τ) (Cert.KernelZIW.main (F := Bits))) ⟨m, fun _ => 0, g⟩ (fun r => (∀ c : Dev Cert.KernelZIW.nD,
      r.2.mem ((c.tc : Thread Cert.KernelZIW.nD Cert.KernelZIW.τ).loc Cert.KernelZIW.main_arg0) = m ((c.tc : Thread Cert.KernelZIW.nD Cert.KernelZIW.τ).loc Cert.KernelZIW.main_arg0)
      ∧ r.2.mem ((c.tc : Thread Cert.KernelZIW.nD Cert.KernelZIW.τ).loc Cert.KernelZIW.main_arg1) = m ((c.tc : Thread Cert.KernelZIW.nD Cert.KernelZIW.τ).loc Cert.KernelZIW.main_arg1))
      ∧ r.2.sem = fun _ => 0)

def quiescent_KernelZIWIdeal [hKernelZIWIdeal : Cert.KernelZIWIdeal.Facts] : Prop :=
  ∀ (m : (ℓ : Loc Cert.KernelZIWIdeal.nD Cert.KernelZIWIdeal.τ Cert.KernelZIWIdeal.sig) → Buf (Elt Ideal) ℓ) (g : Dev Cert.KernelZIWIdeal.nD → PrngReg), Pre_KernelZIWIdeal m →
    θ_run (Cert.KernelZIWIdeal.defs (F := Ideal)) (onTc (τ := Cert.KernelZIWIdeal.τ) (Cert.KernelZIWIdeal.main (F := Ideal))) ⟨m, fun _ => 0, g⟩ (fun r => (∀ c : Dev Cert.KernelZIWIdeal.nD,
      r.2.mem ((c.tc : Thread Cert.KernelZIWIdeal.nD Cert.KernelZIWIdeal.τ).loc Cert.KernelZIWIdeal.main_arg0) = m ((c.tc : Thread Cert.KernelZIWIdeal.nD Cert.KernelZIWIdeal.τ).loc Cert.KernelZIWIdeal.main_arg0)
      ∧ r.2.mem ((c.tc : Thread Cert.KernelZIWIdeal.nD Cert.KernelZIWIdeal.τ).loc Cert.KernelZIWIdeal.main_arg1) = m ((c.tc : Thread Cert.KernelZIWIdeal.nD Cert.KernelZIWIdeal.τ).loc Cert.KernelZIWIdeal.main_arg1))
      ∧ r.2.sem = fun _ => 0)

def quiescent_ReferenceZIWIdeal [hReferenceZIWIdeal : Cert.ReferenceZIWIdeal.Facts] : Prop :=
  ∀ (m : (ℓ : Loc Cert.ReferenceZIWIdeal.nD Cert.ReferenceZIWIdeal.τ Cert.ReferenceZIWIdeal.sig) → Buf (Elt Ideal) ℓ) (g : Dev Cert.ReferenceZIWIdeal.nD → PrngReg), Pre_ReferenceZIWIdeal m →
    θ_run (Cert.ReferenceZIWIdeal.defs (F := Ideal)) (onTc (τ := Cert.ReferenceZIWIdeal.τ) (Cert.ReferenceZIWIdeal.main (F := Ideal))) ⟨m, fun _ => 0, g⟩ (fun r => (∀ c : Dev Cert.ReferenceZIWIdeal.nD,
      r.2.mem ((c.tc : Thread Cert.ReferenceZIWIdeal.nD Cert.ReferenceZIWIdeal.τ).loc Cert.ReferenceZIWIdeal.main_arg0) = m ((c.tc : Thread Cert.ReferenceZIWIdeal.nD Cert.ReferenceZIWIdeal.τ).loc Cert.ReferenceZIWIdeal.main_arg0)
      ∧ r.2.mem ((c.tc : Thread Cert.ReferenceZIWIdeal.nD Cert.ReferenceZIWIdeal.τ).loc Cert.ReferenceZIWIdeal.main_arg1) = m ((c.tc : Thread Cert.ReferenceZIWIdeal.nD Cert.ReferenceZIWIdeal.τ).loc Cert.ReferenceZIWIdeal.main_arg1))
      ∧ r.2.sem = fun _ => 0)

def quiescent_ReferenceXR [hReferenceXR : Cert.ReferenceXR.Facts] : Prop :=
  ∀ (m : (ℓ : Loc Cert.ReferenceXR.nD Cert.ReferenceXR.τ Cert.ReferenceXR.sig) → Buf (Elt Bits) ℓ) (g : Dev Cert.ReferenceXR.nD → PrngReg), Pre_ReferenceXR m →
    θ_run (Cert.ReferenceXR.defs (F := Bits)) (onTc (τ := Cert.ReferenceXR.τ) (Cert.ReferenceXR.main (F := Bits))) ⟨m, fun _ => 0, g⟩ (fun r => (∀ c : Dev Cert.ReferenceXR.nD,
      r.2.mem ((c.tc : Thread Cert.ReferenceXR.nD Cert.ReferenceXR.τ).loc Cert.ReferenceXR.main_arg0) = m ((c.tc : Thread Cert.ReferenceXR.nD Cert.ReferenceXR.τ).loc Cert.ReferenceXR.main_arg0)
      ∧ r.2.mem ((c.tc : Thread Cert.ReferenceXR.nD Cert.ReferenceXR.τ).loc Cert.ReferenceXR.main_arg1) = m ((c.tc : Thread Cert.ReferenceXR.nD Cert.ReferenceXR.τ).loc Cert.ReferenceXR.main_arg1)
      ∧ r.2.mem ((c.tc : Thread Cert.ReferenceXR.nD Cert.ReferenceXR.τ).loc Cert.ReferenceXR.main_arg2) = m ((c.tc : Thread Cert.ReferenceXR.nD Cert.ReferenceXR.τ).loc Cert.ReferenceXR.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![8, 1024, 640]⟩ ⟨3, ![64, 1024, 640]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨3, ![8, 128, 1024]⟩ ⟨3, ![64, 128, 1024]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)) (v1 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![8, 1024, 640]⟩ ⟨3, ![64, 1024, 640]⟩ 0 8 c v0
          ∧ r.2.mem ((c.tc : Thread Cert.KernelIdeal.nD Cert.KernelIdeal.τ).loc Cert.KernelIdeal.main_v2) = Layout.block ⟨3, ![8, 128, 1024]⟩ ⟨3, ![64, 128, 1024]⟩ 0 8 c v1
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_v5) = v1
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨3, ![8, 1024, 640]⟩ ⟨3, ![64, 1024, 640]⟩ 0 8 c (m' (((0 : Dev Cert.Reference.nD).tc : Thread Cert.Reference.nD Cert.Reference.τ).loc Cert.Reference.main_arg0))
      ∧ m ((c.tc : Thread Cert.Kernel.nD Cert.Kernel.τ).loc Cert.Kernel.main_arg1) = Layout.block ⟨3, ![8, 128, 1024]⟩ ⟨3, ![64, 128, 1024]⟩ 0 8 c (m' (((0 : Dev Cert.Reference.nD).tc : Thread Cert.Reference.nD Cert.Reference.τ).loc Cert.Reference.main_arg1))) →
    ∃ (v0 : Buf (Elt Bits) (((0 : Dev Cert.Reference.nD).tc : Thread Cert.Reference.nD Cert.Reference.τ).loc Cert.Reference.main_v2)) (v1 : Buf (Elt Bits) (((0 : Dev Cert.Reference.nD).tc : Thread Cert.Reference.nD Cert.Reference.τ).loc Cert.Reference.main_v5)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.block ⟨3, ![8, 1024, 640]⟩ ⟨3, ![64, 1024, 640]⟩ 0 8 c v0
          ∧ r.2.mem ((c.tc : Thread Cert.Kernel.nD Cert.Kernel.τ).loc Cert.Kernel.main_v2) = Layout.block ⟨3, ![8, 128, 1024]⟩ ⟨3, ![64, 128, 1024]⟩ 0 8 c v1
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v2) = v0
          ∧ r.2.mem (((0 : Dev Cert.Reference.nD).tc : Thread Cert.Reference.nD Cert.Reference.τ).loc Cert.Reference.main_v5) = v1
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def preserves_KernelF_KernelFIdeal : Prop :=
  True

def algebraic_KernelFIdeal_ReferenceFIdeal [hKernelFIdeal : Cert.KernelFIdeal.Facts] [hReferenceFIdeal : Cert.ReferenceFIdeal.Facts] : Prop :=
  ∀ (m : (ℓ : Loc Cert.KernelFIdeal.nD Cert.KernelFIdeal.τ Cert.KernelFIdeal.sig) → Buf (Elt Ideal) ℓ) (g : Dev Cert.KernelFIdeal.nD → PrngReg)
    (m' : (ℓ : Loc Cert.ReferenceFIdeal.nD Cert.ReferenceFIdeal.τ Cert.ReferenceFIdeal.sig) → Buf (Elt Ideal) ℓ) (g' : Dev Cert.ReferenceFIdeal.nD → PrngReg), Pre_KernelFIdeal m →
    (∀ c : Dev Cert.KernelFIdeal.nD,
      m ((c.tc : Thread Cert.KernelFIdeal.nD Cert.KernelFIdeal.τ).loc Cert.KernelFIdeal.main_arg0) = Layout.block ⟨3, ![8, 1024, 768]⟩ ⟨3, ![64, 1024, 768]⟩ 0 8 c (m' (((0 : Dev Cert.ReferenceFIdeal.nD).tc : Thread Cert.ReferenceFIdeal.nD Cert.ReferenceFIdeal.τ).loc Cert.ReferenceFIdeal.main_arg0))
      ∧ m ((c.tc : Thread Cert.KernelFIdeal.nD Cert.KernelFIdeal.τ).loc Cert.KernelFIdeal.main_arg1) = Layout.block ⟨3, ![8, 352, 1024]⟩ ⟨3, ![64, 352, 1024]⟩ 0 8 c (m' (((0 : Dev Cert.ReferenceFIdeal.nD).tc : Thread Cert.ReferenceFIdeal.nD Cert.ReferenceFIdeal.τ).loc Cert.ReferenceFIdeal.main_arg1))) →
    ∃ (v0 : Buf (Elt Ideal) (((0 : Dev Cert.ReferenceFIdeal.nD).tc : Thread Cert.ReferenceFIdeal.nD Cert.ReferenceFIdeal.τ).loc Cert.ReferenceFIdeal.main_v2)) (v1 : Buf (Elt Ideal) (((0 : Dev Cert.ReferenceFIdeal.nD).tc : Thread Cert.ReferenceFIdeal.nD Cert.ReferenceFIdeal.τ).loc Cert.ReferenceFIdeal.main_v5)),
      θ_run (Cert.KernelFIdeal.defs (F := Ideal)) (onTc (τ := Cert.KernelFIdeal.τ) (Cert.KernelFIdeal.main (F := Ideal))) ⟨m, fun _ => 0, g⟩ (fun r => ∀ c : Dev Cert.KernelFIdeal.nD,
          r.2.mem ((c.tc : Thread Cert.KernelFIdeal.nD Cert.KernelFIdeal.τ).loc Cert.KernelFIdeal.main_v1) = Layout.block ⟨3, ![8, 1024, 768]⟩ ⟨3, ![64, 1024, 768]⟩ 0 8 c v0
          ∧ r.2.mem ((c.tc : Thread Cert.KernelFIdeal.nD Cert.KernelFIdeal.τ).loc Cert.KernelFIdeal.main_v2) = Layout.block ⟨3, ![8, 352, 1024]⟩ ⟨3, ![64, 352, 1024]⟩ 0 8 c v1
          ∧ r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
          ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1))
      ∧ θ_run (Cert.ReferenceFIdeal.defs (F := Ideal)) (onTc (τ := Cert.ReferenceFIdeal.τ) (Cert.ReferenceFIdeal.main (F := Ideal))) ⟨m', fun _ => 0, g'⟩ (fun r =>
          r.2.mem (((0 : Dev Cert.ReferenceFIdeal.nD).tc : Thread Cert.ReferenceFIdeal.nD Cert.ReferenceFIdeal.τ).loc Cert.ReferenceFIdeal.main_v2) = v0
          ∧ r.2.mem (((0 : Dev Cert.ReferenceFIdeal.nD).tc : Thread Cert.ReferenceFIdeal.nD Cert.ReferenceFIdeal.τ).loc Cert.ReferenceFIdeal.main_v5) = v1
          ∧ r.2.mem (((0 : Dev Cert.ReferenceFIdeal.nD).tc : Thread Cert.ReferenceFIdeal.nD Cert.ReferenceFIdeal.τ).loc Cert.ReferenceFIdeal.main_arg0) = m' (((0 : Dev Cert.ReferenceFIdeal.nD).tc : Thread Cert.ReferenceFIdeal.nD Cert.ReferenceFIdeal.τ).loc Cert.ReferenceFIdeal.main_arg0)
          ∧ r.2.mem (((0 : Dev Cert.ReferenceFIdeal.nD).tc : Thread Cert.ReferenceFIdeal.nD Cert.ReferenceFIdeal.τ).loc Cert.ReferenceFIdeal.main_arg1) = m' (((0 : Dev Cert.ReferenceFIdeal.nD).tc : Thread Cert.ReferenceFIdeal.nD Cert.ReferenceFIdeal.τ).loc Cert.ReferenceFIdeal.main_arg1))

def bitexact_KernelF_ReferenceF [hKernelF : Cert.KernelF.Facts] [hReferenceF : Cert.ReferenceF.Facts] : Prop :=
  ∀ (m : (ℓ : Loc Cert.KernelF.nD Cert.KernelF.τ Cert.KernelF.sig) → Buf (Elt Bits) ℓ) (g : Dev Cert.KernelF.nD → PrngReg)
    (m' : (ℓ : Loc Cert.ReferenceF.nD Cert.ReferenceF.τ Cert.ReferenceF.sig) → Buf (Elt Bits) ℓ) (g' : Dev Cert.ReferenceF.nD → PrngReg), Pre_KernelF m →
    (∀ c : Dev Cert.KernelF.nD,
      m ((c.tc : Thread Cert.KernelF.nD Cert.KernelF.τ).loc Cert.KernelF.main_arg0) = Layout.block ⟨3, ![8, 1024, 768]⟩ ⟨3, ![64, 1024, 768]⟩ 0 8 c (m' (((0 : Dev Cert.ReferenceF.nD).tc : Thread Cert.ReferenceF.nD Cert.ReferenceF.τ).loc Cert.ReferenceF.main_arg0))
      ∧ m ((c.tc : Thread Cert.KernelF.nD Cert.KernelF.τ).loc Cert.KernelF.main_arg1) = Layout.block ⟨3, ![8, 352, 1024]⟩ ⟨3, ![64, 352, 1024]⟩ 0 8 c (m' (((0 : Dev Cert.ReferenceF.nD).tc : Thread Cert.ReferenceF.nD Cert.ReferenceF.τ).loc Cert.ReferenceF.main_arg1))) →
    ∃ (v0 : Buf (Elt Bits) (((0 : Dev Cert.ReferenceF.nD).tc : Thread Cert.ReferenceF.nD Cert.ReferenceF.τ).loc Cert.ReferenceF.main_v2)) (v1 : Buf (Elt Bits) (((0 : Dev Cert.ReferenceF.nD).tc : Thread Cert.ReferenceF.nD Cert.ReferenceF.τ).loc Cert.ReferenceF.main_v5)),
      θ_run (Cert.KernelF.defs (F := Bits)) (onTc (τ := Cert.KernelF.τ) (Cert.KernelF.main (F := Bits))) ⟨m, fun _ => 0, g⟩ (fun r => ∀ c : Dev Cert.KernelF.nD,
          r.2.mem ((c.tc : Thread Cert.KernelF.nD Cert.KernelF.τ).loc Cert.KernelF.main_v1) = Layout.block ⟨3, ![8, 1024, 768]⟩ ⟨3, ![64, 1024, 768]⟩ 0 8 c v0
          ∧ r.2.mem ((c.tc : Thread Cert.KernelF.nD Cert.KernelF.τ).loc Cert.KernelF.main_v2) = Layout.block ⟨3, ![8, 352, 1024]⟩ ⟨3, ![64, 352, 1024]⟩ 0 8 c v1
          ∧ r.2.mem ((c.tc : Thread Cert.KernelF.nD Cert.KernelF.τ).loc Cert.KernelF.main_arg0) = m ((c.tc : Thread Cert.KernelF.nD Cert.KernelF.τ).loc Cert.KernelF.main_arg0)
          ∧ r.2.mem ((c.tc : Thread Cert.KernelF.nD Cert.KernelF.τ).loc Cert.KernelF.main_arg1) = m ((c.tc : Thread Cert.KernelF.nD Cert.KernelF.τ).loc Cert.KernelF.main_arg1))
      ∧ θ_run (Cert.ReferenceF.defs (F := Bits)) (onTc (τ := Cert.ReferenceF.τ) (Cert.ReferenceF.main (F := Bits))) ⟨m', fun _ => 0, g'⟩ (fun r =>
          r.2.mem (((0 : Dev Cert.ReferenceF.nD).tc : Thread Cert.ReferenceF.nD Cert.ReferenceF.τ).loc Cert.ReferenceF.main_v2) = v0
          ∧ r.2.mem (((0 : Dev Cert.ReferenceF.nD).tc : Thread Cert.ReferenceF.nD Cert.ReferenceF.τ).loc Cert.ReferenceF.main_v5) = v1
          ∧ r.2.mem (((0 : Dev Cert.ReferenceF.nD).tc : Thread Cert.ReferenceF.nD Cert.ReferenceF.τ).loc Cert.ReferenceF.main_arg0) = m' (((0 : Dev Cert.ReferenceF.nD).tc : Thread Cert.ReferenceF.nD Cert.ReferenceF.τ).loc Cert.ReferenceF.main_arg0)
          ∧ r.2.mem (((0 : Dev Cert.ReferenceF.nD).tc : Thread Cert.ReferenceF.nD Cert.ReferenceF.τ).loc Cert.ReferenceF.main_arg1) = m' (((0 : Dev Cert.ReferenceF.nD).tc : Thread Cert.ReferenceF.nD Cert.ReferenceF.τ).loc Cert.ReferenceF.main_arg1))

def preserves_KernelB_KernelBIdeal : Prop :=
  True

def algebraic_KernelBIdeal_ReferenceBIdeal [hKernelBIdeal : Cert.KernelBIdeal.Facts] [hReferenceBIdeal : Cert.ReferenceBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg)
    (m' : (ℓ : Loc Cert.ReferenceBIdeal.nD Cert.ReferenceBIdeal.τ Cert.ReferenceBIdeal.sig) → Buf (Elt Ideal) ℓ) (g' : Dev Cert.ReferenceBIdeal.nD → PrngReg), Pre_KernelBIdeal m →
    (∀ c : Dev Cert.KernelBIdeal.nD,
      m ((c.tc : Thread Cert.KernelBIdeal.nD Cert.KernelBIdeal.τ).loc Cert.KernelBIdeal.main_arg0) = Layout.block ⟨2, ![128, 1024]⟩ ⟨2, ![1024, 1024]⟩ 0 8 c (m' (((0 : Dev Cert.ReferenceBIdeal.nD).tc : Thread Cert.ReferenceBIdeal.nD Cert.ReferenceBIdeal.τ).loc Cert.ReferenceBIdeal.main_arg0))
      ∧ m ((c.tc : Thread Cert.KernelBIdeal.nD Cert.KernelBIdeal.τ).loc Cert.KernelBIdeal.main_arg1) = Layout.block ⟨2, ![1024, 768]⟩ ⟨2, ![8192, 768]⟩ 0 8 c (m' (((0 : Dev Cert.ReferenceBIdeal.nD).tc : Thread Cert.ReferenceBIdeal.nD Cert.ReferenceBIdeal.τ).loc Cert.ReferenceBIdeal.main_arg1))
      ∧ m ((c.tc : Thread Cert.KernelBIdeal.nD Cert.KernelBIdeal.τ).loc Cert.KernelBIdeal.main_arg2) = Layout.block ⟨2, ![352, 1024]⟩ ⟨2, ![2816, 1024]⟩ 0 8 c (m' (((0 : Dev Cert.ReferenceBIdeal.nD).tc : Thread Cert.ReferenceBIdeal.nD Cert.ReferenceBIdeal.τ).loc Cert.ReferenceBIdeal.main_arg2))) →
    ∃ (v0 : Buf (Elt Ideal) (((0 : Dev Cert.ReferenceBIdeal.nD).tc : Thread Cert.ReferenceBIdeal.nD Cert.ReferenceBIdeal.τ).loc Cert.ReferenceBIdeal.main_v0)) (v1 : Buf (Elt Ideal) (((0 : Dev Cert.ReferenceBIdeal.nD).tc : Thread Cert.ReferenceBIdeal.nD Cert.ReferenceBIdeal.τ).loc Cert.ReferenceBIdeal.main_v1)) (v2 : Buf (Elt Ideal) (((0 : Dev Cert.ReferenceBIdeal.nD).tc : Thread Cert.ReferenceBIdeal.nD Cert.ReferenceBIdeal.τ).loc Cert.ReferenceBIdeal.main_v2)),
      θ_run (Cert.KernelBIdeal.defs (F := Ideal)) (onTc (τ := Cert.KernelBIdeal.τ) (Cert.KernelBIdeal.main (F := Ideal))) ⟨m, fun _ => 0, g⟩ (fun r => ∀ c : Dev Cert.KernelBIdeal.nD,
          r.2.mem ((c.tc : Thread Cert.KernelBIdeal.nD Cert.KernelBIdeal.τ).loc Cert.KernelBIdeal.main_v1) = v0
          ∧ r.2.mem ((c.tc : Thread Cert.KernelBIdeal.nD Cert.KernelBIdeal.τ).loc Cert.KernelBIdeal.main_v2) = v1
          ∧ r.2.mem ((c.tc : Thread Cert.KernelBIdeal.nD Cert.KernelBIdeal.τ).loc Cert.KernelBIdeal.main_v3) = v2
          ∧ r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
          ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
          ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2))
      ∧ θ_run (Cert.ReferenceBIdeal.defs (F := Ideal)) (onTc (τ := Cert.ReferenceBIdeal.τ) (Cert.ReferenceBIdeal.main (F := Ideal))) ⟨m', fun _ => 0, g'⟩ (fun r =>
          r.2.mem (((0 : Dev Cert.ReferenceBIdeal.nD).tc : Thread Cert.ReferenceBIdeal.nD Cert.ReferenceBIdeal.τ).loc Cert.ReferenceBIdeal.main_v0) = v0
          ∧ r.2.mem (((0 : Dev Cert.ReferenceBIdeal.nD).tc : Thread Cert.ReferenceBIdeal.nD Cert.ReferenceBIdeal.τ).loc Cert.ReferenceBIdeal.main_v1) = v1
          ∧ r.2.mem (((0 : Dev Cert.ReferenceBIdeal.nD).tc : Thread Cert.ReferenceBIdeal.nD Cert.ReferenceBIdeal.τ).loc Cert.ReferenceBIdeal.main_v2) = v2
          ∧ r.2.mem (((0 : Dev Cert.ReferenceBIdeal.nD).tc : Thread Cert.ReferenceBIdeal.nD Cert.ReferenceBIdeal.τ).loc Cert.ReferenceBIdeal.main_arg0) = m' (((0 : Dev Cert.ReferenceBIdeal.nD).tc : Thread Cert.ReferenceBIdeal.nD Cert.ReferenceBIdeal.τ).loc Cert.ReferenceBIdeal.main_arg0)
          ∧ r.2.mem (((0 : Dev Cert.ReferenceBIdeal.nD).tc : Thread Cert.ReferenceBIdeal.nD Cert.ReferenceBIdeal.τ).loc Cert.ReferenceBIdeal.main_arg1) = m' (((0 : Dev Cert.ReferenceBIdeal.nD).tc : Thread Cert.ReferenceBIdeal.nD Cert.ReferenceBIdeal.τ).loc Cert.ReferenceBIdeal.main_arg1)
          ∧ r.2.mem (((0 : Dev Cert.ReferenceBIdeal.nD).tc : Thread Cert.ReferenceBIdeal.nD Cert.ReferenceBIdeal.τ).loc Cert.ReferenceBIdeal.main_arg2) = m' (((0 : Dev Cert.ReferenceBIdeal.nD).tc : Thread Cert.ReferenceBIdeal.nD Cert.ReferenceBIdeal.τ).loc Cert.ReferenceBIdeal.main_arg2))

def bitexact_KernelB_ReferenceB [hKernelB : Cert.KernelB.Facts] [hReferenceB : Cert.ReferenceB.Facts] : Prop :=
  ∀ (m : (ℓ : Loc Cert.KernelB.nD Cert.KernelB.τ Cert.KernelB.sig) → Buf (Elt Bits) ℓ) (g : Dev Cert.KernelB.nD → PrngReg)
    (m' : (ℓ : Loc Cert.ReferenceB.nD Cert.ReferenceB.τ Cert.ReferenceB.sig) → Buf (Elt Bits) ℓ) (g' : Dev Cert.ReferenceB.nD → PrngReg), Pre_KernelB m →
    (∀ c : Dev Cert.KernelB.nD,
      m ((c.tc : Thread Cert.KernelB.nD Cert.KernelB.τ).loc Cert.KernelB.main_arg0) = Layout.block ⟨2, ![128, 1024]⟩ ⟨2, ![1024, 1024]⟩ 0 8 c (m' (((0 : Dev Cert.ReferenceB.nD).tc : Thread Cert.ReferenceB.nD Cert.ReferenceB.τ).loc Cert.ReferenceB.main_arg0))
      ∧ m ((c.tc : Thread Cert.KernelB.nD Cert.KernelB.τ).loc Cert.KernelB.main_arg1) = Layout.block ⟨2, ![1024, 768]⟩ ⟨2, ![8192, 768]⟩ 0 8 c (m' (((0 : Dev Cert.ReferenceB.nD).tc : Thread Cert.ReferenceB.nD Cert.ReferenceB.τ).loc Cert.ReferenceB.main_arg1))
      ∧ m ((c.tc : Thread Cert.KernelB.nD Cert.KernelB.τ).loc Cert.KernelB.main_arg2) = Layout.block ⟨2, ![352, 1024]⟩ ⟨2, ![2816, 1024]⟩ 0 8 c (m' (((0 : Dev Cert.ReferenceB.nD).tc : Thread Cert.ReferenceB.nD Cert.ReferenceB.τ).loc Cert.ReferenceB.main_arg2))) →
    ∃ (v0 : Buf (Elt Bits) (((0 : Dev Cert.ReferenceB.nD).tc : Thread Cert.ReferenceB.nD Cert.ReferenceB.τ).loc Cert.ReferenceB.main_v0)) (v1 : Buf (Elt Bits) (((0 : Dev Cert.ReferenceB.nD).tc : Thread Cert.ReferenceB.nD Cert.ReferenceB.τ).loc Cert.ReferenceB.main_v1)) (v2 : Buf (Elt Bits) (((0 : Dev Cert.ReferenceB.nD).tc : Thread Cert.ReferenceB.nD Cert.ReferenceB.τ).loc Cert.ReferenceB.main_v2)),
      θ_run (Cert.KernelB.defs (F := Bits)) (onTc (τ := Cert.KernelB.τ) (Cert.KernelB.main (F := Bits))) ⟨m, fun _ => 0, g⟩ (fun r => ∀ c : Dev Cert.KernelB.nD,
          r.2.mem ((c.tc : Thread Cert.KernelB.nD Cert.KernelB.τ).loc Cert.KernelB.main_v1) = v0
          ∧ r.2.mem ((c.tc : Thread Cert.KernelB.nD Cert.KernelB.τ).loc Cert.KernelB.main_v2) = v1
          ∧ r.2.mem ((c.tc : Thread Cert.KernelB.nD Cert.KernelB.τ).loc Cert.KernelB.main_v3) = v2
          ∧ r.2.mem ((c.tc : Thread Cert.KernelB.nD Cert.KernelB.τ).loc Cert.KernelB.main_arg0) = m ((c.tc : Thread Cert.KernelB.nD Cert.KernelB.τ).loc Cert.KernelB.main_arg0)
          ∧ r.2.mem ((c.tc : Thread Cert.KernelB.nD Cert.KernelB.τ).loc Cert.KernelB.main_arg1) = m ((c.tc : Thread Cert.KernelB.nD Cert.KernelB.τ).loc Cert.KernelB.main_arg1)
          ∧ r.2.mem ((c.tc : Thread Cert.KernelB.nD Cert.KernelB.τ).loc Cert.KernelB.main_arg2) = m ((c.tc : Thread Cert.KernelB.nD Cert.KernelB.τ).loc Cert.KernelB.main_arg2))
      ∧ θ_run (Cert.ReferenceB.defs (F := Bits)) (onTc (τ := Cert.ReferenceB.τ) (Cert.ReferenceB.main (F := Bits))) ⟨m', fun _ => 0, g'⟩ (fun r =>
          r.2.mem (((0 : Dev Cert.ReferenceB.nD).tc : Thread Cert.ReferenceB.nD Cert.ReferenceB.τ).loc Cert.ReferenceB.main_v0) = v0
          ∧ r.2.mem (((0 : Dev Cert.ReferenceB.nD).tc : Thread Cert.ReferenceB.nD Cert.ReferenceB.τ).loc Cert.ReferenceB.main_v1) = v1
          ∧ r.2.mem (((0 : Dev Cert.ReferenceB.nD).tc : Thread Cert.ReferenceB.nD Cert.ReferenceB.τ).loc Cert.ReferenceB.main_v2) = v2
          ∧ r.2.mem (((0 : Dev Cert.ReferenceB.nD).tc : Thread Cert.ReferenceB.nD Cert.ReferenceB.τ).loc Cert.ReferenceB.main_arg0) = m' (((0 : Dev Cert.ReferenceB.nD).tc : Thread Cert.ReferenceB.nD Cert.ReferenceB.τ).loc Cert.ReferenceB.main_arg0)
          ∧ r.2.mem (((0 : Dev Cert.ReferenceB.nD).tc : Thread Cert.ReferenceB.nD Cert.ReferenceB.τ).loc Cert.ReferenceB.main_arg1) = m' (((0 : Dev Cert.ReferenceB.nD).tc : Thread Cert.ReferenceB.nD Cert.ReferenceB.τ).loc Cert.ReferenceB.main_arg1)
          ∧ r.2.mem (((0 : Dev Cert.ReferenceB.nD).tc : Thread Cert.ReferenceB.nD Cert.ReferenceB.τ).loc Cert.ReferenceB.main_arg2) = m' (((0 : Dev Cert.ReferenceB.nD).tc : Thread Cert.ReferenceB.nD Cert.ReferenceB.τ).loc Cert.ReferenceB.main_arg2))

def preserves_KernelA_KernelAIdeal : Prop :=
  True

def algebraic_KernelAIdeal_ReferenceAIdeal [hKernelAIdeal : Cert.KernelAIdeal.Facts] [hReferenceAIdeal : Cert.ReferenceAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg)
    (m' : (ℓ : Loc Cert.ReferenceAIdeal.nD Cert.ReferenceAIdeal.τ Cert.ReferenceAIdeal.sig) → Buf (Elt Ideal) ℓ) (g' : Dev Cert.ReferenceAIdeal.nD → PrngReg), Pre_KernelAIdeal m →
    (∀ c : Dev Cert.KernelAIdeal.nD,
      m ((c.tc : Thread Cert.KernelAIdeal.nD Cert.KernelAIdeal.τ).loc Cert.KernelAIdeal.main_arg0) = Layout.block ⟨2, ![1024, 640]⟩ ⟨2, ![8192, 640]⟩ 0 8 c (m' (((0 : Dev Cert.ReferenceAIdeal.nD).tc : Thread Cert.ReferenceAIdeal.nD Cert.ReferenceAIdeal.τ).loc Cert.ReferenceAIdeal.main_arg0))) →
    ∃ (v0 : Buf (Elt Ideal) (((0 : Dev Cert.ReferenceAIdeal.nD).tc : Thread Cert.ReferenceAIdeal.nD Cert.ReferenceAIdeal.τ).loc Cert.ReferenceAIdeal.main_v0)),
      θ_run (Cert.KernelAIdeal.defs (F := Ideal)) (onTc (τ := Cert.KernelAIdeal.τ) (Cert.KernelAIdeal.main (F := Ideal))) ⟨m, fun _ => 0, g⟩ (fun r => ∀ c : Dev Cert.KernelAIdeal.nD,
          r.2.mem ((c.tc : Thread Cert.KernelAIdeal.nD Cert.KernelAIdeal.τ).loc Cert.KernelAIdeal.main_v1) = v0
          ∧ r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0))
      ∧ θ_run (Cert.ReferenceAIdeal.defs (F := Ideal)) (onTc (τ := Cert.ReferenceAIdeal.τ) (Cert.ReferenceAIdeal.main (F := Ideal))) ⟨m', fun _ => 0, g'⟩ (fun r =>
          r.2.mem (((0 : Dev Cert.ReferenceAIdeal.nD).tc : Thread Cert.ReferenceAIdeal.nD Cert.ReferenceAIdeal.τ).loc Cert.ReferenceAIdeal.main_v0) = v0
          ∧ r.2.mem (((0 : Dev Cert.ReferenceAIdeal.nD).tc : Thread Cert.ReferenceAIdeal.nD Cert.ReferenceAIdeal.τ).loc Cert.ReferenceAIdeal.main_arg0) = m' (((0 : Dev Cert.ReferenceAIdeal.nD).tc : Thread Cert.ReferenceAIdeal.nD Cert.ReferenceAIdeal.τ).loc Cert.ReferenceAIdeal.main_arg0))

def bitexact_KernelA_ReferenceA [hKernelA : Cert.KernelA.Facts] [hReferenceA : Cert.ReferenceA.Facts] : Prop :=
  ∀ (m : (ℓ : Loc Cert.KernelA.nD Cert.KernelA.τ Cert.KernelA.sig) → Buf (Elt Bits) ℓ) (g : Dev Cert.KernelA.nD → PrngReg)
    (m' : (ℓ : Loc Cert.ReferenceA.nD Cert.ReferenceA.τ Cert.ReferenceA.sig) → Buf (Elt Bits) ℓ) (g' : Dev Cert.ReferenceA.nD → PrngReg), Pre_KernelA m →
    (∀ c : Dev Cert.KernelA.nD,
      m ((c.tc : Thread Cert.KernelA.nD Cert.KernelA.τ).loc Cert.KernelA.main_arg0) = Layout.block ⟨2, ![1024, 640]⟩ ⟨2, ![8192, 640]⟩ 0 8 c (m' (((0 : Dev Cert.ReferenceA.nD).tc : Thread Cert.ReferenceA.nD Cert.ReferenceA.τ).loc Cert.ReferenceA.main_arg0))) →
    ∃ (v0 : Buf (Elt Bits) (((0 : Dev Cert.ReferenceA.nD).tc : Thread Cert.ReferenceA.nD Cert.ReferenceA.τ).loc Cert.ReferenceA.main_v0)),
      θ_run (Cert.KernelA.defs (F := Bits)) (onTc (τ := Cert.KernelA.τ) (Cert.KernelA.main (F := Bits))) ⟨m, fun _ => 0, g⟩ (fun r => ∀ c : Dev Cert.KernelA.nD,
          r.2.mem ((c.tc : Thread Cert.KernelA.nD Cert.KernelA.τ).loc Cert.KernelA.main_v1) = v0
          ∧ r.2.mem ((c.tc : Thread Cert.KernelA.nD Cert.KernelA.τ).loc Cert.KernelA.main_arg0) = m ((c.tc : Thread Cert.KernelA.nD Cert.KernelA.τ).loc Cert.KernelA.main_arg0))
      ∧ θ_run (Cert.ReferenceA.defs (F := Bits)) (onTc (τ := Cert.ReferenceA.τ) (Cert.ReferenceA.main (F := Bits))) ⟨m', fun _ => 0, g'⟩ (fun r =>
          r.2.mem (((0 : Dev Cert.ReferenceA.nD).tc : Thread Cert.ReferenceA.nD Cert.ReferenceA.τ).loc Cert.ReferenceA.main_v0) = v0
          ∧ r.2.mem (((0 : Dev Cert.ReferenceA.nD).tc : Thread Cert.ReferenceA.nD Cert.ReferenceA.τ).loc Cert.ReferenceA.main_arg0) = m' (((0 : Dev Cert.ReferenceA.nD).tc : Thread Cert.ReferenceA.nD Cert.ReferenceA.τ).loc Cert.ReferenceA.main_arg0))

def preserves_KernelUI_KernelUIIdeal : Prop :=
  True

def algebraic_KernelUIIdeal_ReferenceUIIdeal [hKernelUIIdeal : Cert.KernelUIIdeal.Facts] [hReferenceUIIdeal : Cert.ReferenceUIIdeal.Facts] : Prop :=
  ∀ (m : (ℓ : Loc Cert.KernelUIIdeal.nD Cert.KernelUIIdeal.τ Cert.KernelUIIdeal.sig) → Buf (Elt Ideal) ℓ) (g : Dev Cert.KernelUIIdeal.nD → PrngReg)
    (m' : (ℓ : Loc Cert.ReferenceUIIdeal.nD Cert.ReferenceUIIdeal.τ Cert.ReferenceUIIdeal.sig) → Buf (Elt Ideal) ℓ) (g' : Dev Cert.ReferenceUIIdeal.nD → PrngReg), Pre_KernelUIIdeal m →
    (∀ c : Dev Cert.KernelUIIdeal.nD,
      m' ((c.tc : Thread Cert.ReferenceUIIdeal.nD Cert.ReferenceUIIdeal.τ).loc Cert.ReferenceUIIdeal.main_arg0) = m ((c.tc : Thread Cert.KernelUIIdeal.nD Cert.KernelUIIdeal.τ).loc Cert.KernelUIIdeal.main_arg0)
      ∧ m' ((c.tc : Thread Cert.ReferenceUIIdeal.nD Cert.ReferenceUIIdeal.τ).loc Cert.ReferenceUIIdeal.main_arg1) = m ((c.tc : Thread Cert.KernelUIIdeal.nD Cert.KernelUIIdeal.τ).loc Cert.KernelUIIdeal.main_arg1)
      ∧ m' ((c.tc : Thread Cert.ReferenceUIIdeal.nD Cert.ReferenceUIIdeal.τ).loc Cert.ReferenceUIIdeal.main_arg2) = m ((c.tc : Thread Cert.KernelUIIdeal.nD Cert.KernelUIIdeal.τ).loc Cert.KernelUIIdeal.main_arg2)
      ∧ m' ((c.tc : Thread Cert.ReferenceUIIdeal.nD Cert.ReferenceUIIdeal.τ).loc Cert.ReferenceUIIdeal.main_arg3) = m ((c.tc : Thread Cert.KernelUIIdeal.nD Cert.KernelUIIdeal.τ).loc Cert.KernelUIIdeal.main_arg3)) →
    ∃ (v0 : (c : Dev Cert.KernelUIIdeal.nD) → Buf (Elt Ideal) ((c.tc : Thread Cert.KernelUIIdeal.nD Cert.KernelUIIdeal.τ).loc Cert.KernelUIIdeal.main_v0_0)) (v1 : (c : Dev Cert.KernelUIIdeal.nD) → Buf (Elt Ideal) ((c.tc : Thread Cert.KernelUIIdeal.nD Cert.KernelUIIdeal.τ).loc Cert.KernelUIIdeal.main_v0_1)) (v2 : (c : Dev Cert.KernelUIIdeal.nD) → Buf (Elt Ideal) ((c.tc : Thread Cert.KernelUIIdeal.nD Cert.KernelUIIdeal.τ).loc Cert.KernelUIIdeal.main_v0_2)) (v3 : (c : Dev Cert.KernelUIIdeal.nD) → Buf (Elt Ideal) ((c.tc : Thread Cert.KernelUIIdeal.nD Cert.KernelUIIdeal.τ).loc Cert.KernelUIIdeal.main_v0_3)),
      θ_run (Cert.KernelUIIdeal.defs (F := Ideal)) (onTc (τ := Cert.KernelUIIdeal.τ) (Cert.KernelUIIdeal.main (F := Ideal))) ⟨m, fun _ => 0, g⟩ (fun r => ∀ c : Dev Cert.KernelUIIdeal.nD,
          r.2.mem ((c.tc : Thread Cert.KernelUIIdeal.nD Cert.KernelUIIdeal.τ).loc Cert.KernelUIIdeal.main_v0_0) = v0 c
          ∧ r.2.mem ((c.tc : Thread Cert.KernelUIIdeal.nD Cert.KernelUIIdeal.τ).loc Cert.KernelUIIdeal.main_v0_1) = v1 c
          ∧ r.2.mem ((c.tc : Thread Cert.KernelUIIdeal.nD Cert.KernelUIIdeal.τ).loc Cert.KernelUIIdeal.main_v0_2) = v2 c
          ∧ r.2.mem ((c.tc : Thread Cert.KernelUIIdeal.nD Cert.KernelUIIdeal.τ).loc Cert.KernelUIIdeal.main_v0_3) = v3 c
          ∧ r.2.mem ((c.tc : Thread Cert.KernelUIIdeal.nD Cert.KernelUIIdeal.τ).loc Cert.KernelUIIdeal.main_arg0) = m ((c.tc : Thread Cert.KernelUIIdeal.nD Cert.KernelUIIdeal.τ).loc Cert.KernelUIIdeal.main_arg0)
          ∧ r.2.mem ((c.tc : Thread Cert.KernelUIIdeal.nD Cert.KernelUIIdeal.τ).loc Cert.KernelUIIdeal.main_arg1) = m ((c.tc : Thread Cert.KernelUIIdeal.nD Cert.KernelUIIdeal.τ).loc Cert.KernelUIIdeal.main_arg1)
          ∧ r.2.mem ((c.tc : Thread Cert.KernelUIIdeal.nD Cert.KernelUIIdeal.τ).loc Cert.KernelUIIdeal.main_arg2) = m ((c.tc : Thread Cert.KernelUIIdeal.nD Cert.KernelUIIdeal.τ).loc Cert.KernelUIIdeal.main_arg2)
          ∧ r.2.mem ((c.tc : Thread Cert.KernelUIIdeal.nD Cert.KernelUIIdeal.τ).loc Cert.KernelUIIdeal.main_arg3) = m ((c.tc : Thread Cert.KernelUIIdeal.nD Cert.KernelUIIdeal.τ).loc Cert.KernelUIIdeal.main_arg3))
      ∧ θ_run (Cert.ReferenceUIIdeal.defs (F := Ideal)) (onTc (τ := Cert.ReferenceUIIdeal.τ) (Cert.ReferenceUIIdeal.main (F := Ideal))) ⟨m', fun _ => 0, g'⟩ (fun r => ∀ c : Dev Cert.ReferenceUIIdeal.nD,
          r.2.mem ((c.tc : Thread Cert.ReferenceUIIdeal.nD Cert.ReferenceUIIdeal.τ).loc Cert.ReferenceUIIdeal.main_v1) = v0 c
          ∧ r.2.mem ((c.tc : Thread Cert.ReferenceUIIdeal.nD Cert.ReferenceUIIdeal.τ).loc Cert.ReferenceUIIdeal.main_v25) = v1 c
          ∧ r.2.mem ((c.tc : Thread Cert.ReferenceUIIdeal.nD Cert.ReferenceUIIdeal.τ).loc Cert.ReferenceUIIdeal.main_v6) = v2 c
          ∧ r.2.mem ((c.tc : Thread Cert.ReferenceUIIdeal.nD Cert.ReferenceUIIdeal.τ).loc Cert.ReferenceUIIdeal.main_v12) = v3 c
          ∧ r.2.mem ((c.tc : Thread Cert.ReferenceUIIdeal.nD Cert.ReferenceUIIdeal.τ).loc Cert.ReferenceUIIdeal.main_arg0) = m' ((c.tc : Thread Cert.ReferenceUIIdeal.nD Cert.ReferenceUIIdeal.τ).loc Cert.ReferenceUIIdeal.main_arg0)
          ∧ r.2.mem ((c.tc : Thread Cert.ReferenceUIIdeal.nD Cert.ReferenceUIIdeal.τ).loc Cert.ReferenceUIIdeal.main_arg1) = m' ((c.tc : Thread Cert.ReferenceUIIdeal.nD Cert.ReferenceUIIdeal.τ).loc Cert.ReferenceUIIdeal.main_arg1)
          ∧ r.2.mem ((c.tc : Thread Cert.ReferenceUIIdeal.nD Cert.ReferenceUIIdeal.τ).loc Cert.ReferenceUIIdeal.main_arg2) = m' ((c.tc : Thread Cert.ReferenceUIIdeal.nD Cert.ReferenceUIIdeal.τ).loc Cert.ReferenceUIIdeal.main_arg2)
          ∧ r.2.mem ((c.tc : Thread Cert.ReferenceUIIdeal.nD Cert.ReferenceUIIdeal.τ).loc Cert.ReferenceUIIdeal.main_arg3) = m' ((c.tc : Thread Cert.ReferenceUIIdeal.nD Cert.ReferenceUIIdeal.τ).loc Cert.ReferenceUIIdeal.main_arg3))

def preserves_KernelUO_KernelUOIdeal : Prop :=
  True

def algebraic_KernelUOIdeal_ReferenceUOIdeal [hKernelUOIdeal : Cert.KernelUOIdeal.Facts] [hReferenceUOIdeal : Cert.ReferenceUOIdeal.Facts] : Prop :=
  ∀ (m : (ℓ : Loc Cert.KernelUOIdeal.nD Cert.KernelUOIdeal.τ Cert.KernelUOIdeal.sig) → Buf (Elt Ideal) ℓ) (g : Dev Cert.KernelUOIdeal.nD → PrngReg)
    (m' : (ℓ : Loc Cert.ReferenceUOIdeal.nD Cert.ReferenceUOIdeal.τ Cert.ReferenceUOIdeal.sig) → Buf (Elt Ideal) ℓ) (g' : Dev Cert.ReferenceUOIdeal.nD → PrngReg), Pre_KernelUOIdeal m →
    (∀ c : Dev Cert.KernelUOIdeal.nD,
      m' ((c.tc : Thread Cert.ReferenceUOIdeal.nD Cert.ReferenceUOIdeal.τ).loc Cert.ReferenceUOIdeal.main_arg0) = m ((c.tc : Thread Cert.KernelUOIdeal.nD Cert.KernelUOIdeal.τ).loc Cert.KernelUOIdeal.main_arg0)
      ∧ m' ((c.tc : Thread Cert.ReferenceUOIdeal.nD Cert.ReferenceUOIdeal.τ).loc Cert.ReferenceUOIdeal.main_arg1) = m ((c.tc : Thread Cert.KernelUOIdeal.nD Cert.KernelUOIdeal.τ).loc Cert.KernelUOIdeal.main_arg1)
      ∧ m' ((c.tc : Thread Cert.ReferenceUOIdeal.nD Cert.ReferenceUOIdeal.τ).loc Cert.ReferenceUOIdeal.main_arg2) = m ((c.tc : Thread Cert.KernelUOIdeal.nD Cert.KernelUOIdeal.τ).loc Cert.KernelUOIdeal.main_arg2)
      ∧ m' ((c.tc : Thread Cert.ReferenceUOIdeal.nD Cert.ReferenceUOIdeal.τ).loc Cert.ReferenceUOIdeal.main_arg3) = m ((c.tc : Thread Cert.KernelUOIdeal.nD Cert.KernelUOIdeal.τ).loc Cert.KernelUOIdeal.main_arg3)) →
    ∃ (v0 : (c : Dev Cert.KernelUOIdeal.nD) → Buf (Elt Ideal) ((c.tc : Thread Cert.KernelUOIdeal.nD Cert.KernelUOIdeal.τ).loc Cert.KernelUOIdeal.main_v0_0)) (v1 : (c : Dev Cert.KernelUOIdeal.nD) → Buf (Elt Ideal) ((c.tc : Thread Cert.KernelUOIdeal.nD Cert.KernelUOIdeal.τ).loc Cert.KernelUOIdeal.main_v0_1)) (v2 : (c : Dev Cert.KernelUOIdeal.nD) → Buf (Elt Ideal) ((c.tc : Thread Cert.KernelUOIdeal.nD Cert.KernelUOIdeal.τ).loc Cert.KernelUOIdeal.main_v0_2)) (v3 : (c : Dev Cert.KernelUOIdeal.nD) → Buf (Elt Ideal) ((c.tc : Thread Cert.KernelUOIdeal.nD Cert.KernelUOIdeal.τ).loc Cert.KernelUOIdeal.main_v0_3)),
      θ_run (Cert.KernelUOIdeal.defs (F := Ideal)) (onTc (τ := Cert.KernelUOIdeal.τ) (Cert.KernelUOIdeal.main (F := Ideal))) ⟨m, fun _ => 0, g⟩ (fun r => ∀ c : Dev Cert.KernelUOIdeal.nD,
          r.2.mem ((c.tc : Thread Cert.KernelUOIdeal.nD Cert.KernelUOIdeal.τ).loc Cert.KernelUOIdeal.main_v0_0) = v0 c
          ∧ r.2.mem ((c.tc : Thread Cert.KernelUOIdeal.nD Cert.KernelUOIdeal.τ).loc Cert.KernelUOIdeal.main_v0_1) = v1 c
          ∧ r.2.mem ((c.tc : Thread Cert.KernelUOIdeal.nD Cert.KernelUOIdeal.τ).loc Cert.KernelUOIdeal.main_v0_2) = v2 c
          ∧ r.2.mem ((c.tc : Thread Cert.KernelUOIdeal.nD Cert.KernelUOIdeal.τ).loc Cert.KernelUOIdeal.main_v0_3) = v3 c
          ∧ r.2.mem ((c.tc : Thread Cert.KernelUOIdeal.nD Cert.KernelUOIdeal.τ).loc Cert.KernelUOIdeal.main_arg0) = m ((c.tc : Thread Cert.KernelUOIdeal.nD Cert.KernelUOIdeal.τ).loc Cert.KernelUOIdeal.main_arg0)
          ∧ r.2.mem ((c.tc : Thread Cert.KernelUOIdeal.nD Cert.KernelUOIdeal.τ).loc Cert.KernelUOIdeal.main_arg1) = m ((c.tc : Thread Cert.KernelUOIdeal.nD Cert.KernelUOIdeal.τ).loc Cert.KernelUOIdeal.main_arg1)
          ∧ r.2.mem ((c.tc : Thread Cert.KernelUOIdeal.nD Cert.KernelUOIdeal.τ).loc Cert.KernelUOIdeal.main_arg2) = m ((c.tc : Thread Cert.KernelUOIdeal.nD Cert.KernelUOIdeal.τ).loc Cert.KernelUOIdeal.main_arg2)
          ∧ r.2.mem ((c.tc : Thread Cert.KernelUOIdeal.nD Cert.KernelUOIdeal.τ).loc Cert.KernelUOIdeal.main_arg3) = m ((c.tc : Thread Cert.KernelUOIdeal.nD Cert.KernelUOIdeal.τ).loc Cert.KernelUOIdeal.main_arg3))
      ∧ θ_run (Cert.ReferenceUOIdeal.defs (F := Ideal)) (onTc (τ := Cert.ReferenceUOIdeal.τ) (Cert.ReferenceUOIdeal.main (F := Ideal))) ⟨m', fun _ => 0, g'⟩ (fun r => ∀ c : Dev Cert.ReferenceUOIdeal.nD,
          r.2.mem ((c.tc : Thread Cert.ReferenceUOIdeal.nD Cert.ReferenceUOIdeal.τ).loc Cert.ReferenceUOIdeal.main_v1) = v0 c
          ∧ r.2.mem ((c.tc : Thread Cert.ReferenceUOIdeal.nD Cert.ReferenceUOIdeal.τ).loc Cert.ReferenceUOIdeal.main_v25) = v1 c
          ∧ r.2.mem ((c.tc : Thread Cert.ReferenceUOIdeal.nD Cert.ReferenceUOIdeal.τ).loc Cert.ReferenceUOIdeal.main_v6) = v2 c
          ∧ r.2.mem ((c.tc : Thread Cert.ReferenceUOIdeal.nD Cert.ReferenceUOIdeal.τ).loc Cert.ReferenceUOIdeal.main_v12) = v3 c
          ∧ r.2.mem ((c.tc : Thread Cert.ReferenceUOIdeal.nD Cert.ReferenceUOIdeal.τ).loc Cert.ReferenceUOIdeal.main_arg0) = m' ((c.tc : Thread Cert.ReferenceUOIdeal.nD Cert.ReferenceUOIdeal.τ).loc Cert.ReferenceUOIdeal.main_arg0)
          ∧ r.2.mem ((c.tc : Thread Cert.ReferenceUOIdeal.nD Cert.ReferenceUOIdeal.τ).loc Cert.ReferenceUOIdeal.main_arg1) = m' ((c.tc : Thread Cert.ReferenceUOIdeal.nD Cert.ReferenceUOIdeal.τ).loc Cert.ReferenceUOIdeal.main_arg1)
          ∧ r.2.mem ((c.tc : Thread Cert.ReferenceUOIdeal.nD Cert.ReferenceUOIdeal.τ).loc Cert.ReferenceUOIdeal.main_arg2) = m' ((c.tc : Thread Cert.ReferenceUOIdeal.nD Cert.ReferenceUOIdeal.τ).loc Cert.ReferenceUOIdeal.main_arg2)
          ∧ r.2.mem ((c.tc : Thread Cert.ReferenceUOIdeal.nD Cert.ReferenceUOIdeal.τ).loc Cert.ReferenceUOIdeal.main_arg3) = m' ((c.tc : Thread Cert.ReferenceUOIdeal.nD Cert.ReferenceUOIdeal.τ).loc Cert.ReferenceUOIdeal.main_arg3))

def preserves_KernelUG_KernelUGIdeal : Prop :=
  True

def algebraic_KernelUGIdeal_ReferenceUGIdeal [hKernelUGIdeal : Cert.KernelUGIdeal.Facts] [hReferenceUGIdeal : Cert.ReferenceUGIdeal.Facts] : Prop :=
  ∀ (m : (ℓ : Loc Cert.KernelUGIdeal.nD Cert.KernelUGIdeal.τ Cert.KernelUGIdeal.sig) → Buf (Elt Ideal) ℓ) (g : Dev Cert.KernelUGIdeal.nD → PrngReg)
    (m' : (ℓ : Loc Cert.ReferenceUGIdeal.nD Cert.ReferenceUGIdeal.τ Cert.ReferenceUGIdeal.sig) → Buf (Elt Ideal) ℓ) (g' : Dev Cert.ReferenceUGIdeal.nD → PrngReg), Pre_KernelUGIdeal m →
    (∀ c : Dev Cert.KernelUGIdeal.nD,
      m' ((c.tc : Thread Cert.ReferenceUGIdeal.nD Cert.ReferenceUGIdeal.τ).loc Cert.ReferenceUGIdeal.main_arg0) = m ((c.tc : Thread Cert.KernelUGIdeal.nD Cert.KernelUGIdeal.τ).loc Cert.KernelUGIdeal.main_arg0)
      ∧ m' ((c.tc : Thread Cert.ReferenceUGIdeal.nD Cert.ReferenceUGIdeal.τ).loc Cert.ReferenceUGIdeal.main_arg1) = m ((c.tc : Thread Cert.KernelUGIdeal.nD Cert.KernelUGIdeal.τ).loc Cert.KernelUGIdeal.main_arg1)
      ∧ m' ((c.tc : Thread Cert.ReferenceUGIdeal.nD Cert.ReferenceUGIdeal.τ).loc Cert.ReferenceUGIdeal.main_arg2) = m ((c.tc : Thread Cert.KernelUGIdeal.nD Cert.KernelUGIdeal.τ).loc Cert.KernelUGIdeal.main_arg2)
      ∧ m' ((c.tc : Thread Cert.ReferenceUGIdeal.nD Cert.ReferenceUGIdeal.τ).loc Cert.ReferenceUGIdeal.main_arg3) = m ((c.tc : Thread Cert.KernelUGIdeal.nD Cert.KernelUGIdeal.τ).loc Cert.KernelUGIdeal.main_arg3)) →
    ∃ (v0 : (c : Dev Cert.KernelUGIdeal.nD) → Buf (Elt Ideal) ((c.tc : Thread Cert.KernelUGIdeal.nD Cert.KernelUGIdeal.τ).loc Cert.KernelUGIdeal.main_v0_0)) (v1 : (c : Dev Cert.KernelUGIdeal.nD) → Buf (Elt Ideal) ((c.tc : Thread Cert.KernelUGIdeal.nD Cert.KernelUGIdeal.τ).loc Cert.KernelUGIdeal.main_v0_1)) (v2 : (c : Dev Cert.KernelUGIdeal.nD) → Buf (Elt Ideal) ((c.tc : Thread Cert.KernelUGIdeal.nD Cert.KernelUGIdeal.τ).loc Cert.KernelUGIdeal.main_v0_2)) (v3 : (c : Dev Cert.KernelUGIdeal.nD) → Buf (Elt Ideal) ((c.tc : Thread Cert.KernelUGIdeal.nD Cert.KernelUGIdeal.τ).loc Cert.KernelUGIdeal.main_v0_3)),
      θ_run (Cert.KernelUGIdeal.defs (F := Ideal)) (onTc (τ := Cert.KernelUGIdeal.τ) (Cert.KernelUGIdeal.main (F := Ideal))) ⟨m, fun _ => 0, g⟩ (fun r => ∀ c : Dev Cert.KernelUGIdeal.nD,
          r.2.mem ((c.tc : Thread Cert.KernelUGIdeal.nD Cert.KernelUGIdeal.τ).loc Cert.KernelUGIdeal.main_v0_0) = v0 c
          ∧ r.2.mem ((c.tc : Thread Cert.KernelUGIdeal.nD Cert.KernelUGIdeal.τ).loc Cert.KernelUGIdeal.main_v0_1) = v1 c
          ∧ r.2.mem ((c.tc : Thread Cert.KernelUGIdeal.nD Cert.KernelUGIdeal.τ).loc Cert.KernelUGIdeal.main_v0_2) = v2 c
          ∧ r.2.mem ((c.tc : Thread Cert.KernelUGIdeal.nD Cert.KernelUGIdeal.τ).loc Cert.KernelUGIdeal.main_v0_3) = v3 c
          ∧ r.2.mem ((c.tc : Thread Cert.KernelUGIdeal.nD Cert.KernelUGIdeal.τ).loc Cert.KernelUGIdeal.main_arg0) = m ((c.tc : Thread Cert.KernelUGIdeal.nD Cert.KernelUGIdeal.τ).loc Cert.KernelUGIdeal.main_arg0)
          ∧ r.2.mem ((c.tc : Thread Cert.KernelUGIdeal.nD Cert.KernelUGIdeal.τ).loc Cert.KernelUGIdeal.main_arg1) = m ((c.tc : Thread Cert.KernelUGIdeal.nD Cert.KernelUGIdeal.τ).loc Cert.KernelUGIdeal.main_arg1)
          ∧ r.2.mem ((c.tc : Thread Cert.KernelUGIdeal.nD Cert.KernelUGIdeal.τ).loc Cert.KernelUGIdeal.main_arg2) = m ((c.tc : Thread Cert.KernelUGIdeal.nD Cert.KernelUGIdeal.τ).loc Cert.KernelUGIdeal.main_arg2)
          ∧ r.2.mem ((c.tc : Thread Cert.KernelUGIdeal.nD Cert.KernelUGIdeal.τ).loc Cert.KernelUGIdeal.main_arg3) = m ((c.tc : Thread Cert.KernelUGIdeal.nD Cert.KernelUGIdeal.τ).loc Cert.KernelUGIdeal.main_arg3))
      ∧ θ_run (Cert.ReferenceUGIdeal.defs (F := Ideal)) (onTc (τ := Cert.ReferenceUGIdeal.τ) (Cert.ReferenceUGIdeal.main (F := Ideal))) ⟨m', fun _ => 0, g'⟩ (fun r => ∀ c : Dev Cert.ReferenceUGIdeal.nD,
          r.2.mem ((c.tc : Thread Cert.ReferenceUGIdeal.nD Cert.ReferenceUGIdeal.τ).loc Cert.ReferenceUGIdeal.main_v1) = v0 c
          ∧ r.2.mem ((c.tc : Thread Cert.ReferenceUGIdeal.nD Cert.ReferenceUGIdeal.τ).loc Cert.ReferenceUGIdeal.main_v25) = v1 c
          ∧ r.2.mem ((c.tc : Thread Cert.ReferenceUGIdeal.nD Cert.ReferenceUGIdeal.τ).loc Cert.ReferenceUGIdeal.main_v6) = v2 c
          ∧ r.2.mem ((c.tc : Thread Cert.ReferenceUGIdeal.nD Cert.ReferenceUGIdeal.τ).loc Cert.ReferenceUGIdeal.main_v12) = v3 c
          ∧ r.2.mem ((c.tc : Thread Cert.ReferenceUGIdeal.nD Cert.ReferenceUGIdeal.τ).loc Cert.ReferenceUGIdeal.main_arg0) = m' ((c.tc : Thread Cert.ReferenceUGIdeal.nD Cert.ReferenceUGIdeal.τ).loc Cert.ReferenceUGIdeal.main_arg0)
          ∧ r.2.mem ((c.tc : Thread Cert.ReferenceUGIdeal.nD Cert.ReferenceUGIdeal.τ).loc Cert.ReferenceUGIdeal.main_arg1) = m' ((c.tc : Thread Cert.ReferenceUGIdeal.nD Cert.ReferenceUGIdeal.τ).loc Cert.ReferenceUGIdeal.main_arg1)
          ∧ r.2.mem ((c.tc : Thread Cert.ReferenceUGIdeal.nD Cert.ReferenceUGIdeal.τ).loc Cert.ReferenceUGIdeal.main_arg2) = m' ((c.tc : Thread Cert.ReferenceUGIdeal.nD Cert.ReferenceUGIdeal.τ).loc Cert.ReferenceUGIdeal.main_arg2)
          ∧ r.2.mem ((c.tc : Thread Cert.ReferenceUGIdeal.nD Cert.ReferenceUGIdeal.τ).loc Cert.ReferenceUGIdeal.main_arg3) = m' ((c.tc : Thread Cert.ReferenceUGIdeal.nD Cert.ReferenceUGIdeal.τ).loc Cert.ReferenceUGIdeal.main_arg3))

def preserves_KernelUF_KernelUFIdeal : Prop :=
  True

def algebraic_KernelUFIdeal_ReferenceUFIdeal [hKernelUFIdeal : Cert.KernelUFIdeal.Facts] [hReferenceUFIdeal : Cert.ReferenceUFIdeal.Facts] : Prop :=
  ∀ (m : (ℓ : Loc Cert.KernelUFIdeal.nD Cert.KernelUFIdeal.τ Cert.KernelUFIdeal.sig) → Buf (Elt Ideal) ℓ) (g : Dev Cert.KernelUFIdeal.nD → PrngReg)
    (m' : (ℓ : Loc Cert.ReferenceUFIdeal.nD Cert.ReferenceUFIdeal.τ Cert.ReferenceUFIdeal.sig) → Buf (Elt Ideal) ℓ) (g' : Dev Cert.ReferenceUFIdeal.nD → PrngReg), Pre_KernelUFIdeal m →
    (∀ c : Dev Cert.KernelUFIdeal.nD,
      m' ((c.tc : Thread Cert.ReferenceUFIdeal.nD Cert.ReferenceUFIdeal.τ).loc Cert.ReferenceUFIdeal.main_arg0) = m ((c.tc : Thread Cert.KernelUFIdeal.nD Cert.KernelUFIdeal.τ).loc Cert.KernelUFIdeal.main_arg0)
      ∧ m' ((c.tc : Thread Cert.ReferenceUFIdeal.nD Cert.ReferenceUFIdeal.τ).loc Cert.ReferenceUFIdeal.main_arg1) = m ((c.tc : Thread Cert.KernelUFIdeal.nD Cert.KernelUFIdeal.τ).loc Cert.KernelUFIdeal.main_arg1)
      ∧ m' ((c.tc : Thread Cert.ReferenceUFIdeal.nD Cert.ReferenceUFIdeal.τ).loc Cert.ReferenceUFIdeal.main_arg2) = m ((c.tc : Thread Cert.KernelUFIdeal.nD Cert.KernelUFIdeal.τ).loc Cert.KernelUFIdeal.main_arg2)
      ∧ m' ((c.tc : Thread Cert.ReferenceUFIdeal.nD Cert.ReferenceUFIdeal.τ).loc Cert.ReferenceUFIdeal.main_arg3) = m ((c.tc : Thread Cert.KernelUFIdeal.nD Cert.KernelUFIdeal.τ).loc Cert.KernelUFIdeal.main_arg3)) →
    ∃ (v0 : (c : Dev Cert.KernelUFIdeal.nD) → Buf (Elt Ideal) ((c.tc : Thread Cert.KernelUFIdeal.nD Cert.KernelUFIdeal.τ).loc Cert.KernelUFIdeal.main_v0_0)) (v1 : (c : Dev Cert.KernelUFIdeal.nD) → Buf (Elt Ideal) ((c.tc : Thread Cert.KernelUFIdeal.nD Cert.KernelUFIdeal.τ).loc Cert.KernelUFIdeal.main_v0_1)) (v2 : (c : Dev Cert.KernelUFIdeal.nD) → Buf (Elt Ideal) ((c.tc : Thread Cert.KernelUFIdeal.nD Cert.KernelUFIdeal.τ).loc Cert.KernelUFIdeal.main_v0_2)) (v3 : (c : Dev Cert.KernelUFIdeal.nD) → Buf (Elt Ideal) ((c.tc : Thread Cert.KernelUFIdeal.nD Cert.KernelUFIdeal.τ).loc Cert.KernelUFIdeal.main_v0_3)),
      θ_run (Cert.KernelUFIdeal.defs (F := Ideal)) (onTc (τ := Cert.KernelUFIdeal.τ) (Cert.KernelUFIdeal.main (F := Ideal))) ⟨m, fun _ => 0, g⟩ (fun r => ∀ c : Dev Cert.KernelUFIdeal.nD,
          r.2.mem ((c.tc : Thread Cert.KernelUFIdeal.nD Cert.KernelUFIdeal.τ).loc Cert.KernelUFIdeal.main_v0_0) = v0 c
          ∧ r.2.mem ((c.tc : Thread Cert.KernelUFIdeal.nD Cert.KernelUFIdeal.τ).loc Cert.KernelUFIdeal.main_v0_1) = v1 c
          ∧ r.2.mem ((c.tc : Thread Cert.KernelUFIdeal.nD Cert.KernelUFIdeal.τ).loc Cert.KernelUFIdeal.main_v0_2) = v2 c
          ∧ r.2.mem ((c.tc : Thread Cert.KernelUFIdeal.nD Cert.KernelUFIdeal.τ).loc Cert.KernelUFIdeal.main_v0_3) = v3 c
          ∧ r.2.mem ((c.tc : Thread Cert.KernelUFIdeal.nD Cert.KernelUFIdeal.τ).loc Cert.KernelUFIdeal.main_arg0) = m ((c.tc : Thread Cert.KernelUFIdeal.nD Cert.KernelUFIdeal.τ).loc Cert.KernelUFIdeal.main_arg0)
          ∧ r.2.mem ((c.tc : Thread Cert.KernelUFIdeal.nD Cert.KernelUFIdeal.τ).loc Cert.KernelUFIdeal.main_arg1) = m ((c.tc : Thread Cert.KernelUFIdeal.nD Cert.KernelUFIdeal.τ).loc Cert.KernelUFIdeal.main_arg1)
          ∧ r.2.mem ((c.tc : Thread Cert.KernelUFIdeal.nD Cert.KernelUFIdeal.τ).loc Cert.KernelUFIdeal.main_arg2) = m ((c.tc : Thread Cert.KernelUFIdeal.nD Cert.KernelUFIdeal.τ).loc Cert.KernelUFIdeal.main_arg2)
          ∧ r.2.mem ((c.tc : Thread Cert.KernelUFIdeal.nD Cert.KernelUFIdeal.τ).loc Cert.KernelUFIdeal.main_arg3) = m ((c.tc : Thread Cert.KernelUFIdeal.nD Cert.KernelUFIdeal.τ).loc Cert.KernelUFIdeal.main_arg3))
      ∧ θ_run (Cert.ReferenceUFIdeal.defs (F := Ideal)) (onTc (τ := Cert.ReferenceUFIdeal.τ) (Cert.ReferenceUFIdeal.main (F := Ideal))) ⟨m', fun _ => 0, g'⟩ (fun r => ∀ c : Dev Cert.ReferenceUFIdeal.nD,
          r.2.mem ((c.tc : Thread Cert.ReferenceUFIdeal.nD Cert.ReferenceUFIdeal.τ).loc Cert.ReferenceUFIdeal.main_v1) = v0 c
          ∧ r.2.mem ((c.tc : Thread Cert.ReferenceUFIdeal.nD Cert.ReferenceUFIdeal.τ).loc Cert.ReferenceUFIdeal.main_v25) = v1 c
          ∧ r.2.mem ((c.tc : Thread Cert.ReferenceUFIdeal.nD Cert.ReferenceUFIdeal.τ).loc Cert.ReferenceUFIdeal.main_v6) = v2 c
          ∧ r.2.mem ((c.tc : Thread Cert.ReferenceUFIdeal.nD Cert.ReferenceUFIdeal.τ).loc Cert.ReferenceUFIdeal.main_v12) = v3 c
          ∧ r.2.mem ((c.tc : Thread Cert.ReferenceUFIdeal.nD Cert.ReferenceUFIdeal.τ).loc Cert.ReferenceUFIdeal.main_arg0) = m' ((c.tc : Thread Cert.ReferenceUFIdeal.nD Cert.ReferenceUFIdeal.τ).loc Cert.ReferenceUFIdeal.main_arg0)
          ∧ r.2.mem ((c.tc : Thread Cert.ReferenceUFIdeal.nD Cert.ReferenceUFIdeal.τ).loc Cert.ReferenceUFIdeal.main_arg1) = m' ((c.tc : Thread Cert.ReferenceUFIdeal.nD Cert.ReferenceUFIdeal.τ).loc Cert.ReferenceUFIdeal.main_arg1)
          ∧ r.2.mem ((c.tc : Thread Cert.ReferenceUFIdeal.nD Cert.ReferenceUFIdeal.τ).loc Cert.ReferenceUFIdeal.main_arg2) = m' ((c.tc : Thread Cert.ReferenceUFIdeal.nD Cert.ReferenceUFIdeal.τ).loc Cert.ReferenceUFIdeal.main_arg2)
          ∧ r.2.mem ((c.tc : Thread Cert.ReferenceUFIdeal.nD Cert.ReferenceUFIdeal.τ).loc Cert.ReferenceUFIdeal.main_arg3) = m' ((c.tc : Thread Cert.ReferenceUFIdeal.nD Cert.ReferenceUFIdeal.τ).loc Cert.ReferenceUFIdeal.main_arg3))

def preserves_KernelUM_KernelUMIdeal : Prop :=
  True

def algebraic_KernelUMIdeal_ReferenceUMIdeal [hKernelUMIdeal : Cert.KernelUMIdeal.Facts] [hReferenceUMIdeal : Cert.ReferenceUMIdeal.Facts] : Prop :=
  ∀ (m : (ℓ : Loc Cert.KernelUMIdeal.nD Cert.KernelUMIdeal.τ Cert.KernelUMIdeal.sig) → Buf (Elt Ideal) ℓ) (g : Dev Cert.KernelUMIdeal.nD → PrngReg)
    (m' : (ℓ : Loc Cert.ReferenceUMIdeal.nD Cert.ReferenceUMIdeal.τ Cert.ReferenceUMIdeal.sig) → Buf (Elt Ideal) ℓ) (g' : Dev Cert.ReferenceUMIdeal.nD → PrngReg), Pre_KernelUMIdeal m →
    (∀ c : Dev Cert.KernelUMIdeal.nD,
      m' ((c.tc : Thread Cert.ReferenceUMIdeal.nD Cert.ReferenceUMIdeal.τ).loc Cert.ReferenceUMIdeal.main_arg0) = m ((c.tc : Thread Cert.KernelUMIdeal.nD Cert.KernelUMIdeal.τ).loc Cert.KernelUMIdeal.main_arg0)
      ∧ m' ((c.tc : Thread Cert.ReferenceUMIdeal.nD Cert.ReferenceUMIdeal.τ).loc Cert.ReferenceUMIdeal.main_arg1) = m ((c.tc : Thread Cert.KernelUMIdeal.nD Cert.KernelUMIdeal.τ).loc Cert.KernelUMIdeal.main_arg1)
      ∧ m' ((c.tc : Thread Cert.ReferenceUMIdeal.nD Cert.ReferenceUMIdeal.τ).loc Cert.ReferenceUMIdeal.main_arg2) = m ((c.tc : Thread Cert.KernelUMIdeal.nD Cert.KernelUMIdeal.τ).loc Cert.KernelUMIdeal.main_arg2)
      ∧ m' ((c.tc : Thread Cert.ReferenceUMIdeal.nD Cert.ReferenceUMIdeal.τ).loc Cert.ReferenceUMIdeal.main_arg3) = m ((c.tc : Thread Cert.KernelUMIdeal.nD Cert.KernelUMIdeal.τ).loc Cert.KernelUMIdeal.main_arg3)) →
    ∃ (v0 : (c : Dev Cert.KernelUMIdeal.nD) → Buf (Elt Ideal) ((c.tc : Thread Cert.KernelUMIdeal.nD Cert.KernelUMIdeal.τ).loc Cert.KernelUMIdeal.main_v0_0)) (v1 : (c : Dev Cert.KernelUMIdeal.nD) → Buf (Elt Ideal) ((c.tc : Thread Cert.KernelUMIdeal.nD Cert.KernelUMIdeal.τ).loc Cert.KernelUMIdeal.main_v0_1)) (v2 : (c : Dev Cert.KernelUMIdeal.nD) → Buf (Elt Ideal) ((c.tc : Thread Cert.KernelUMIdeal.nD Cert.KernelUMIdeal.τ).loc Cert.KernelUMIdeal.main_v0_2)) (v3 : (c : Dev Cert.KernelUMIdeal.nD) → Buf (Elt Ideal) ((c.tc : Thread Cert.KernelUMIdeal.nD Cert.KernelUMIdeal.τ).loc Cert.KernelUMIdeal.main_v0_3)),
      θ_run (Cert.KernelUMIdeal.defs (F := Ideal)) (onTc (τ := Cert.KernelUMIdeal.τ) (Cert.KernelUMIdeal.main (F := Ideal))) ⟨m, fun _ => 0, g⟩ (fun r => ∀ c : Dev Cert.KernelUMIdeal.nD,
          r.2.mem ((c.tc : Thread Cert.KernelUMIdeal.nD Cert.KernelUMIdeal.τ).loc Cert.KernelUMIdeal.main_v0_0) = v0 c
          ∧ r.2.mem ((c.tc : Thread Cert.KernelUMIdeal.nD Cert.KernelUMIdeal.τ).loc Cert.KernelUMIdeal.main_v0_1) = v1 c
          ∧ r.2.mem ((c.tc : Thread Cert.KernelUMIdeal.nD Cert.KernelUMIdeal.τ).loc Cert.KernelUMIdeal.main_v0_2) = v2 c
          ∧ r.2.mem ((c.tc : Thread Cert.KernelUMIdeal.nD Cert.KernelUMIdeal.τ).loc Cert.KernelUMIdeal.main_v0_3) = v3 c
          ∧ r.2.mem ((c.tc : Thread Cert.KernelUMIdeal.nD Cert.KernelUMIdeal.τ).loc Cert.KernelUMIdeal.main_arg0) = m ((c.tc : Thread Cert.KernelUMIdeal.nD Cert.KernelUMIdeal.τ).loc Cert.KernelUMIdeal.main_arg0)
          ∧ r.2.mem ((c.tc : Thread Cert.KernelUMIdeal.nD Cert.KernelUMIdeal.τ).loc Cert.KernelUMIdeal.main_arg1) = m ((c.tc : Thread Cert.KernelUMIdeal.nD Cert.KernelUMIdeal.τ).loc Cert.KernelUMIdeal.main_arg1)
          ∧ r.2.mem ((c.tc : Thread Cert.KernelUMIdeal.nD Cert.KernelUMIdeal.τ).loc Cert.KernelUMIdeal.main_arg2) = m ((c.tc : Thread Cert.KernelUMIdeal.nD Cert.KernelUMIdeal.τ).loc Cert.KernelUMIdeal.main_arg2)
          ∧ r.2.mem ((c.tc : Thread Cert.KernelUMIdeal.nD Cert.KernelUMIdeal.τ).loc Cert.KernelUMIdeal.main_arg3) = m ((c.tc : Thread Cert.KernelUMIdeal.nD Cert.KernelUMIdeal.τ).loc Cert.KernelUMIdeal.main_arg3))
      ∧ θ_run (Cert.ReferenceUMIdeal.defs (F := Ideal)) (onTc (τ := Cert.ReferenceUMIdeal.τ) (Cert.ReferenceUMIdeal.main (F := Ideal))) ⟨m', fun _ => 0, g'⟩ (fun r => ∀ c : Dev Cert.ReferenceUMIdeal.nD,
          r.2.mem ((c.tc : Thread Cert.ReferenceUMIdeal.nD Cert.ReferenceUMIdeal.τ).loc Cert.ReferenceUMIdeal.main_v0) = v0 c
          ∧ r.2.mem ((c.tc : Thread Cert.ReferenceUMIdeal.nD Cert.ReferenceUMIdeal.τ).loc Cert.ReferenceUMIdeal.main_v24) = v1 c
          ∧ r.2.mem ((c.tc : Thread Cert.ReferenceUMIdeal.nD Cert.ReferenceUMIdeal.τ).loc Cert.ReferenceUMIdeal.main_v5) = v2 c
          ∧ r.2.mem ((c.tc : Thread Cert.ReferenceUMIdeal.nD Cert.ReferenceUMIdeal.τ).loc Cert.ReferenceUMIdeal.main_v11) = v3 c
          ∧ r.2.mem ((c.tc : Thread Cert.ReferenceUMIdeal.nD Cert.ReferenceUMIdeal.τ).loc Cert.ReferenceUMIdeal.main_arg0) = m' ((c.tc : Thread Cert.ReferenceUMIdeal.nD Cert.ReferenceUMIdeal.τ).loc Cert.ReferenceUMIdeal.main_arg0)
          ∧ r.2.mem ((c.tc : Thread Cert.ReferenceUMIdeal.nD Cert.ReferenceUMIdeal.τ).loc Cert.ReferenceUMIdeal.main_arg1) = m' ((c.tc : Thread Cert.ReferenceUMIdeal.nD Cert.ReferenceUMIdeal.τ).loc Cert.ReferenceUMIdeal.main_arg1)
          ∧ r.2.mem ((c.tc : Thread Cert.ReferenceUMIdeal.nD Cert.ReferenceUMIdeal.τ).loc Cert.ReferenceUMIdeal.main_arg2) = m' ((c.tc : Thread Cert.ReferenceUMIdeal.nD Cert.ReferenceUMIdeal.τ).loc Cert.ReferenceUMIdeal.main_arg2)
          ∧ r.2.mem ((c.tc : Thread Cert.ReferenceUMIdeal.nD Cert.ReferenceUMIdeal.τ).loc Cert.ReferenceUMIdeal.main_arg3) = m' ((c.tc : Thread Cert.ReferenceUMIdeal.nD Cert.ReferenceUMIdeal.τ).loc Cert.ReferenceUMIdeal.main_arg3))

def preserves_KernelUC_KernelUCIdeal : Prop :=
  True

def algebraic_KernelUCIdeal_ReferenceUCIdeal [hKernelUCIdeal : Cert.KernelUCIdeal.Facts] [hReferenceUCIdeal : Cert.ReferenceUCIdeal.Facts] : Prop :=
  ∀ (m : (ℓ : Loc Cert.KernelUCIdeal.nD Cert.KernelUCIdeal.τ Cert.KernelUCIdeal.sig) → Buf (Elt Ideal) ℓ) (g : Dev Cert.KernelUCIdeal.nD → PrngReg)
    (m' : (ℓ : Loc Cert.ReferenceUCIdeal.nD Cert.ReferenceUCIdeal.τ Cert.ReferenceUCIdeal.sig) → Buf (Elt Ideal) ℓ) (g' : Dev Cert.ReferenceUCIdeal.nD → PrngReg), Pre_KernelUCIdeal m →
    (∀ c : Dev Cert.KernelUCIdeal.nD,
      m' ((c.tc : Thread Cert.ReferenceUCIdeal.nD Cert.ReferenceUCIdeal.τ).loc Cert.ReferenceUCIdeal.main_arg0) = m ((c.tc : Thread Cert.KernelUCIdeal.nD Cert.KernelUCIdeal.τ).loc Cert.KernelUCIdeal.main_arg0)
      ∧ m' ((c.tc : Thread Cert.ReferenceUCIdeal.nD Cert.ReferenceUCIdeal.τ).loc Cert.ReferenceUCIdeal.main_arg1) = m ((c.tc : Thread Cert.KernelUCIdeal.nD Cert.KernelUCIdeal.τ).loc Cert.KernelUCIdeal.main_arg1)
      ∧ m' ((c.tc : Thread Cert.ReferenceUCIdeal.nD Cert.ReferenceUCIdeal.τ).loc Cert.ReferenceUCIdeal.main_arg2) = m ((c.tc : Thread Cert.KernelUCIdeal.nD Cert.KernelUCIdeal.τ).loc Cert.KernelUCIdeal.main_arg2)
      ∧ m' ((c.tc : Thread Cert.ReferenceUCIdeal.nD Cert.ReferenceUCIdeal.τ).loc Cert.ReferenceUCIdeal.main_arg3) = m ((c.tc : Thread Cert.KernelUCIdeal.nD Cert.KernelUCIdeal.τ).loc Cert.KernelUCIdeal.main_arg3)) →
    ∃ (v0 : (c : Dev Cert.KernelUCIdeal.nD) → Buf (Elt Ideal) ((c.tc : Thread Cert.KernelUCIdeal.nD Cert.KernelUCIdeal.τ).loc Cert.KernelUCIdeal.main_v0_0)) (v1 : (c : Dev Cert.KernelUCIdeal.nD) → Buf (Elt Ideal) ((c.tc : Thread Cert.KernelUCIdeal.nD Cert.KernelUCIdeal.τ).loc Cert.KernelUCIdeal.main_v0_1)) (v2 : (c : Dev Cert.KernelUCIdeal.nD) → Buf (Elt Ideal) ((c.tc : Thread Cert.KernelUCIdeal.nD Cert.KernelUCIdeal.τ).loc Cert.KernelUCIdeal.main_v0_2)) (v3 : (c : Dev Cert.KernelUCIdeal.nD) → Buf (Elt Ideal) ((c.tc : Thread Cert.KernelUCIdeal.nD Cert.KernelUCIdeal.τ).loc Cert.KernelUCIdeal.main_v0_3)),
      θ_run (Cert.KernelUCIdeal.defs (F := Ideal)) (onTc (τ := Cert.KernelUCIdeal.τ) (Cert.KernelUCIdeal.main (F := Ideal))) ⟨m, fun _ => 0, g⟩ (fun r => ∀ c : Dev Cert.KernelUCIdeal.nD,
          r.2.mem ((c.tc : Thread Cert.KernelUCIdeal.nD Cert.KernelUCIdeal.τ).loc Cert.KernelUCIdeal.main_v0_0) = v0 c
          ∧ r.2.mem ((c.tc : Thread Cert.KernelUCIdeal.nD Cert.KernelUCIdeal.τ).loc Cert.KernelUCIdeal.main_v0_1) = v1 c
          ∧ r.2.mem ((c.tc : Thread Cert.KernelUCIdeal.nD Cert.KernelUCIdeal.τ).loc Cert.KernelUCIdeal.main_v0_2) = v2 c
          ∧ r.2.mem ((c.tc : Thread Cert.KernelUCIdeal.nD Cert.KernelUCIdeal.τ).loc Cert.KernelUCIdeal.main_v0_3) = v3 c
          ∧ r.2.mem ((c.tc : Thread Cert.KernelUCIdeal.nD Cert.KernelUCIdeal.τ).loc Cert.KernelUCIdeal.main_arg0) = m ((c.tc : Thread Cert.KernelUCIdeal.nD Cert.KernelUCIdeal.τ).loc Cert.KernelUCIdeal.main_arg0)
          ∧ r.2.mem ((c.tc : Thread Cert.KernelUCIdeal.nD Cert.KernelUCIdeal.τ).loc Cert.KernelUCIdeal.main_arg1) = m ((c.tc : Thread Cert.KernelUCIdeal.nD Cert.KernelUCIdeal.τ).loc Cert.KernelUCIdeal.main_arg1)
          ∧ r.2.mem ((c.tc : Thread Cert.KernelUCIdeal.nD Cert.KernelUCIdeal.τ).loc Cert.KernelUCIdeal.main_arg2) = m ((c.tc : Thread Cert.KernelUCIdeal.nD Cert.KernelUCIdeal.τ).loc Cert.KernelUCIdeal.main_arg2)
          ∧ r.2.mem ((c.tc : Thread Cert.KernelUCIdeal.nD Cert.KernelUCIdeal.τ).loc Cert.KernelUCIdeal.main_arg3) = m ((c.tc : Thread Cert.KernelUCIdeal.nD Cert.KernelUCIdeal.τ).loc Cert.KernelUCIdeal.main_arg3))
      ∧ θ_run (Cert.ReferenceUCIdeal.defs (F := Ideal)) (onTc (τ := Cert.ReferenceUCIdeal.τ) (Cert.ReferenceUCIdeal.main (F := Ideal))) ⟨m', fun _ => 0, g'⟩ (fun r => ∀ c : Dev Cert.ReferenceUCIdeal.nD,
          r.2.mem ((c.tc : Thread Cert.ReferenceUCIdeal.nD Cert.ReferenceUCIdeal.τ).loc Cert.ReferenceUCIdeal.main_v0) = v0 c
          ∧ r.2.mem ((c.tc : Thread Cert.ReferenceUCIdeal.nD Cert.ReferenceUCIdeal.τ).loc Cert.ReferenceUCIdeal.main_v24) = v1 c
          ∧ r.2.mem ((c.tc : Thread Cert.ReferenceUCIdeal.nD Cert.ReferenceUCIdeal.τ).loc Cert.ReferenceUCIdeal.main_v5) = v2 c
          ∧ r.2.mem ((c.tc : Thread Cert.ReferenceUCIdeal.nD Cert.ReferenceUCIdeal.τ).loc Cert.ReferenceUCIdeal.main_v11) = v3 c
          ∧ r.2.mem ((c.tc : Thread Cert.ReferenceUCIdeal.nD Cert.ReferenceUCIdeal.τ).loc Cert.ReferenceUCIdeal.main_arg0) = m' ((c.tc : Thread Cert.ReferenceUCIdeal.nD Cert.ReferenceUCIdeal.τ).loc Cert.ReferenceUCIdeal.main_arg0)
          ∧ r.2.mem ((c.tc : Thread Cert.ReferenceUCIdeal.nD Cert.ReferenceUCIdeal.τ).loc Cert.ReferenceUCIdeal.main_arg1) = m' ((c.tc : Thread Cert.ReferenceUCIdeal.nD Cert.ReferenceUCIdeal.τ).loc Cert.ReferenceUCIdeal.main_arg1)
          ∧ r.2.mem ((c.tc : Thread Cert.ReferenceUCIdeal.nD Cert.ReferenceUCIdeal.τ).loc Cert.ReferenceUCIdeal.main_arg2) = m' ((c.tc : Thread Cert.ReferenceUCIdeal.nD Cert.ReferenceUCIdeal.τ).loc Cert.ReferenceUCIdeal.main_arg2)
          ∧ r.2.mem ((c.tc : Thread Cert.ReferenceUCIdeal.nD Cert.ReferenceUCIdeal.τ).loc Cert.ReferenceUCIdeal.main_arg3) = m' ((c.tc : Thread Cert.ReferenceUCIdeal.nD Cert.ReferenceUCIdeal.τ).loc Cert.ReferenceUCIdeal.main_arg3))

def preserves_KernelUS_KernelUSIdeal : Prop :=
  True

def algebraic_KernelUSIdeal_ReferenceUSIdeal [hKernelUSIdeal : Cert.KernelUSIdeal.Facts] [hReferenceUSIdeal : Cert.ReferenceUSIdeal.Facts] : Prop :=
  ∀ (m : (ℓ : Loc Cert.KernelUSIdeal.nD Cert.KernelUSIdeal.τ Cert.KernelUSIdeal.sig) → Buf (Elt Ideal) ℓ) (g : Dev Cert.KernelUSIdeal.nD → PrngReg)
    (m' : (ℓ : Loc Cert.ReferenceUSIdeal.nD Cert.ReferenceUSIdeal.τ Cert.ReferenceUSIdeal.sig) → Buf (Elt Ideal) ℓ) (g' : Dev Cert.ReferenceUSIdeal.nD → PrngReg), Pre_KernelUSIdeal m →
    (∀ c : Dev Cert.KernelUSIdeal.nD,
      m' ((c.tc : Thread Cert.ReferenceUSIdeal.nD Cert.ReferenceUSIdeal.τ).loc Cert.ReferenceUSIdeal.main_arg0) = m ((c.tc : Thread Cert.KernelUSIdeal.nD Cert.KernelUSIdeal.τ).loc Cert.KernelUSIdeal.main_arg0)
      ∧ m' ((c.tc : Thread Cert.ReferenceUSIdeal.nD Cert.ReferenceUSIdeal.τ).loc Cert.ReferenceUSIdeal.main_arg1) = m ((c.tc : Thread Cert.KernelUSIdeal.nD Cert.KernelUSIdeal.τ).loc Cert.KernelUSIdeal.main_arg1)
      ∧ m' ((c.tc : Thread Cert.ReferenceUSIdeal.nD Cert.ReferenceUSIdeal.τ).loc Cert.ReferenceUSIdeal.main_arg2) = m ((c.tc : Thread Cert.KernelUSIdeal.nD Cert.KernelUSIdeal.τ).loc Cert.KernelUSIdeal.main_arg2)
      ∧ m' ((c.tc : Thread Cert.ReferenceUSIdeal.nD Cert.ReferenceUSIdeal.τ).loc Cert.ReferenceUSIdeal.main_arg3) = m ((c.tc : Thread Cert.KernelUSIdeal.nD Cert.KernelUSIdeal.τ).loc Cert.KernelUSIdeal.main_arg3)) →
    ∃ (v0 : (c : Dev Cert.KernelUSIdeal.nD) → Buf (Elt Ideal) ((c.tc : Thread Cert.KernelUSIdeal.nD Cert.KernelUSIdeal.τ).loc Cert.KernelUSIdeal.main_v0_0)) (v1 : (c : Dev Cert.KernelUSIdeal.nD) → Buf (Elt Ideal) ((c.tc : Thread Cert.KernelUSIdeal.nD Cert.KernelUSIdeal.τ).loc Cert.KernelUSIdeal.main_v0_1)) (v2 : (c : Dev Cert.KernelUSIdeal.nD) → Buf (Elt Ideal) ((c.tc : Thread Cert.KernelUSIdeal.nD Cert.KernelUSIdeal.τ).loc Cert.KernelUSIdeal.main_v0_2)) (v3 : (c : Dev Cert.KernelUSIdeal.nD) → Buf (Elt Ideal) ((c.tc : Thread Cert.KernelUSIdeal.nD Cert.KernelUSIdeal.τ).loc Cert.KernelUSIdeal.main_v0_3)),
      θ_run (Cert.KernelUSIdeal.defs (F := Ideal)) (onTc (τ := Cert.KernelUSIdeal.τ) (Cert.KernelUSIdeal.main (F := Ideal))) ⟨m, fun _ => 0, g⟩ (fun r => ∀ c : Dev Cert.KernelUSIdeal.nD,
          r.2.mem ((c.tc : Thread Cert.KernelUSIdeal.nD Cert.KernelUSIdeal.τ).loc Cert.KernelUSIdeal.main_v0_0) = v0 c
          ∧ r.2.mem ((c.tc : Thread Cert.KernelUSIdeal.nD Cert.KernelUSIdeal.τ).loc Cert.KernelUSIdeal.main_v0_1) = v1 c
          ∧ r.2.mem ((c.tc : Thread Cert.KernelUSIdeal.nD Cert.KernelUSIdeal.τ).loc Cert.KernelUSIdeal.main_v0_2) = v2 c
          ∧ r.2.mem ((c.tc : Thread Cert.KernelUSIdeal.nD Cert.KernelUSIdeal.τ).loc Cert.KernelUSIdeal.main_v0_3) = v3 c
          ∧ r.2.mem ((c.tc : Thread Cert.KernelUSIdeal.nD Cert.KernelUSIdeal.τ).loc Cert.KernelUSIdeal.main_arg0) = m ((c.tc : Thread Cert.KernelUSIdeal.nD Cert.KernelUSIdeal.τ).loc Cert.KernelUSIdeal.main_arg0)
          ∧ r.2.mem ((c.tc : Thread Cert.KernelUSIdeal.nD Cert.KernelUSIdeal.τ).loc Cert.KernelUSIdeal.main_arg1) = m ((c.tc : Thread Cert.KernelUSIdeal.nD Cert.KernelUSIdeal.τ).loc Cert.KernelUSIdeal.main_arg1)
          ∧ r.2.mem ((c.tc : Thread Cert.KernelUSIdeal.nD Cert.KernelUSIdeal.τ).loc Cert.KernelUSIdeal.main_arg2) = m ((c.tc : Thread Cert.KernelUSIdeal.nD Cert.KernelUSIdeal.τ).loc Cert.KernelUSIdeal.main_arg2)
          ∧ r.2.mem ((c.tc : Thread Cert.KernelUSIdeal.nD Cert.KernelUSIdeal.τ).loc Cert.KernelUSIdeal.main_arg3) = m ((c.tc : Thread Cert.KernelUSIdeal.nD Cert.KernelUSIdeal.τ).loc Cert.KernelUSIdeal.main_arg3))
      ∧ θ_run (Cert.ReferenceUSIdeal.defs (F := Ideal)) (onTc (τ := Cert.ReferenceUSIdeal.τ) (Cert.ReferenceUSIdeal.main (F := Ideal))) ⟨m', fun _ => 0, g'⟩ (fun r => ∀ c : Dev Cert.ReferenceUSIdeal.nD,
          r.2.mem ((c.tc : Thread Cert.ReferenceUSIdeal.nD Cert.ReferenceUSIdeal.τ).loc Cert.ReferenceUSIdeal.main_v0) = v0 c
          ∧ r.2.mem ((c.tc : Thread Cert.ReferenceUSIdeal.nD Cert.ReferenceUSIdeal.τ).loc Cert.ReferenceUSIdeal.main_v24) = v1 c
          ∧ r.2.mem ((c.tc : Thread Cert.ReferenceUSIdeal.nD Cert.ReferenceUSIdeal.τ).loc Cert.ReferenceUSIdeal.main_v5) = v2 c
          ∧ r.2.mem ((c.tc : Thread Cert.ReferenceUSIdeal.nD Cert.ReferenceUSIdeal.τ).loc Cert.ReferenceUSIdeal.main_v11) = v3 c
          ∧ r.2.mem ((c.tc : Thread Cert.ReferenceUSIdeal.nD Cert.ReferenceUSIdeal.τ).loc Cert.ReferenceUSIdeal.main_arg0) = m' ((c.tc : Thread Cert.ReferenceUSIdeal.nD Cert.ReferenceUSIdeal.τ).loc Cert.ReferenceUSIdeal.main_arg0)
          ∧ r.2.mem ((c.tc : Thread Cert.ReferenceUSIdeal.nD Cert.ReferenceUSIdeal.τ).loc Cert.ReferenceUSIdeal.main_arg1) = m' ((c.tc : Thread Cert.ReferenceUSIdeal.nD Cert.ReferenceUSIdeal.τ).loc Cert.ReferenceUSIdeal.main_arg1)
          ∧ r.2.mem ((c.tc : Thread Cert.ReferenceUSIdeal.nD Cert.ReferenceUSIdeal.τ).loc Cert.ReferenceUSIdeal.main_arg2) = m' ((c.tc : Thread Cert.ReferenceUSIdeal.nD Cert.ReferenceUSIdeal.τ).loc Cert.ReferenceUSIdeal.main_arg2)
          ∧ r.2.mem ((c.tc : Thread Cert.ReferenceUSIdeal.nD Cert.ReferenceUSIdeal.τ).loc Cert.ReferenceUSIdeal.main_arg3) = m' ((c.tc : Thread Cert.ReferenceUSIdeal.nD Cert.ReferenceUSIdeal.τ).loc Cert.ReferenceUSIdeal.main_arg3))

def preserves_KernelH_KernelHIdeal : Prop :=
  True

def algebraic_KernelHIdeal_ReferenceHIdeal [hKernelHIdeal : Cert.KernelHIdeal.Facts] [hReferenceHIdeal : Cert.ReferenceHIdeal.Facts] : Prop :=
  ∀ (m : (ℓ : Loc Cert.KernelHIdeal.nD Cert.KernelHIdeal.τ Cert.KernelHIdeal.sig) → Buf (Elt Ideal) ℓ) (g : Dev Cert.KernelHIdeal.nD → PrngReg)
    (m' : (ℓ : Loc Cert.ReferenceHIdeal.nD Cert.ReferenceHIdeal.τ Cert.ReferenceHIdeal.sig) → Buf (Elt Ideal) ℓ) (g' : Dev Cert.ReferenceHIdeal.nD → PrngReg), Pre_KernelHIdeal m →
    (∀ c : Dev Cert.KernelHIdeal.nD,
      m' ((c.tc : Thread Cert.ReferenceHIdeal.nD Cert.ReferenceHIdeal.τ).loc Cert.ReferenceHIdeal.main_arg0) = m ((c.tc : Thread Cert.KernelHIdeal.nD Cert.KernelHIdeal.τ).loc Cert.KernelHIdeal.main_arg0)
      ∧ m' ((c.tc : Thread Cert.ReferenceHIdeal.nD Cert.ReferenceHIdeal.τ).loc Cert.ReferenceHIdeal.main_arg1) = m ((c.tc : Thread Cert.KernelHIdeal.nD Cert.KernelHIdeal.τ).loc Cert.KernelHIdeal.main_arg1)) →
    ∃ (v0 : (c : Dev Cert.KernelHIdeal.nD) → Buf (Elt Ideal) ((c.tc : Thread Cert.KernelHIdeal.nD Cert.KernelHIdeal.τ).loc Cert.KernelHIdeal.main_v0_0)) (v1 : (c : Dev Cert.KernelHIdeal.nD) → Buf (Elt Ideal) ((c.tc : Thread Cert.KernelHIdeal.nD Cert.KernelHIdeal.τ).loc Cert.KernelHIdeal.main_v0_1)),
      θ_run (Cert.KernelHIdeal.defs (F := Ideal)) (onTc (τ := Cert.KernelHIdeal.τ) (Cert.KernelHIdeal.main (F := Ideal))) ⟨m, fun _ => 0, g⟩ (fun r => ∀ c : Dev Cert.KernelHIdeal.nD,
          r.2.mem ((c.tc : Thread Cert.KernelHIdeal.nD Cert.KernelHIdeal.τ).loc Cert.KernelHIdeal.main_v0_0) = v0 c
          ∧ r.2.mem ((c.tc : Thread Cert.KernelHIdeal.nD Cert.KernelHIdeal.τ).loc Cert.KernelHIdeal.main_v0_1) = v1 c
          ∧ r.2.mem ((c.tc : Thread Cert.KernelHIdeal.nD Cert.KernelHIdeal.τ).loc Cert.KernelHIdeal.main_arg0) = m ((c.tc : Thread Cert.KernelHIdeal.nD Cert.KernelHIdeal.τ).loc Cert.KernelHIdeal.main_arg0)
          ∧ r.2.mem ((c.tc : Thread Cert.KernelHIdeal.nD Cert.KernelHIdeal.τ).loc Cert.KernelHIdeal.main_arg1) = m ((c.tc : Thread Cert.KernelHIdeal.nD Cert.KernelHIdeal.τ).loc Cert.KernelHIdeal.main_arg1))
      ∧ θ_run (Cert.ReferenceHIdeal.defs (F := Ideal)) (onTc (τ := Cert.ReferenceHIdeal.τ) (Cert.ReferenceHIdeal.main (F := Ideal))) ⟨m', fun _ => 0, g'⟩ (fun r => ∀ c : Dev Cert.ReferenceHIdeal.nD,
          r.2.mem ((c.tc : Thread Cert.ReferenceHIdeal.nD Cert.ReferenceHIdeal.τ).loc Cert.ReferenceHIdeal.main_v9) = v0 c
          ∧ r.2.mem ((c.tc : Thread Cert.ReferenceHIdeal.nD Cert.ReferenceHIdeal.τ).loc Cert.ReferenceHIdeal.main_v10) = v1 c
          ∧ r.2.mem ((c.tc : Thread Cert.ReferenceHIdeal.nD Cert.ReferenceHIdeal.τ).loc Cert.ReferenceHIdeal.main_arg0) = m' ((c.tc : Thread Cert.ReferenceHIdeal.nD Cert.ReferenceHIdeal.τ).loc Cert.ReferenceHIdeal.main_arg0)
          ∧ r.2.mem ((c.tc : Thread Cert.ReferenceHIdeal.nD Cert.ReferenceHIdeal.τ).loc Cert.ReferenceHIdeal.main_arg1) = m' ((c.tc : Thread Cert.ReferenceHIdeal.nD Cert.ReferenceHIdeal.τ).loc Cert.ReferenceHIdeal.main_arg1))

def preserves_KernelC_KernelCIdeal : Prop :=
  True

def algebraic_KernelCIdeal_ReferenceCIdeal [hKernelCIdeal : Cert.KernelCIdeal.Facts] [hReferenceCIdeal : Cert.ReferenceCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg)
    (m' : (ℓ : Loc Cert.ReferenceCIdeal.nD Cert.ReferenceCIdeal.τ Cert.ReferenceCIdeal.sig) → Buf (Elt Ideal) ℓ) (g' : Dev Cert.ReferenceCIdeal.nD → PrngReg), Pre_KernelCIdeal m →
    (∀ c : Dev Cert.KernelCIdeal.nD,
      m' ((c.tc : Thread Cert.ReferenceCIdeal.nD Cert.ReferenceCIdeal.τ).loc Cert.ReferenceCIdeal.main_arg0) = m ((c.tc : Thread Cert.KernelCIdeal.nD Cert.KernelCIdeal.τ).loc Cert.KernelCIdeal.main_arg0)
      ∧ m' ((c.tc : Thread Cert.ReferenceCIdeal.nD Cert.ReferenceCIdeal.τ).loc Cert.ReferenceCIdeal.main_arg1) = m ((c.tc : Thread Cert.KernelCIdeal.nD Cert.KernelCIdeal.τ).loc Cert.KernelCIdeal.main_arg1)
      ∧ m' ((c.tc : Thread Cert.ReferenceCIdeal.nD Cert.ReferenceCIdeal.τ).loc Cert.ReferenceCIdeal.main_arg2) = m ((c.tc : Thread Cert.KernelCIdeal.nD Cert.KernelCIdeal.τ).loc Cert.KernelCIdeal.main_arg2)) →
    ∃ (v0 : (c : Dev Cert.KernelCIdeal.nD) → Buf (Elt Ideal) ((c.tc : Thread Cert.KernelCIdeal.nD Cert.KernelCIdeal.τ).loc Cert.KernelCIdeal.main_v0)),
      θ_run (Cert.KernelCIdeal.defs (F := Ideal)) (onTc (τ := Cert.KernelCIdeal.τ) (Cert.KernelCIdeal.main (F := Ideal))) ⟨m, fun _ => 0, g⟩ (fun r => ∀ c : Dev Cert.KernelCIdeal.nD,
          r.2.mem ((c.tc : Thread Cert.KernelCIdeal.nD Cert.KernelCIdeal.τ).loc Cert.KernelCIdeal.main_v0) = v0 c
          ∧ r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
          ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
          ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2))
      ∧ θ_run (Cert.ReferenceCIdeal.defs (F := Ideal)) (onTc (τ := Cert.ReferenceCIdeal.τ) (Cert.ReferenceCIdeal.main (F := Ideal))) ⟨m', fun _ => 0, g'⟩ (fun r => ∀ c : Dev Cert.ReferenceCIdeal.nD,
          r.2.mem ((c.tc : Thread Cert.ReferenceCIdeal.nD Cert.ReferenceCIdeal.τ).loc Cert.ReferenceCIdeal.main_v4) = v0 c
          ∧ r.2.mem ((c.tc : Thread Cert.ReferenceCIdeal.nD Cert.ReferenceCIdeal.τ).loc Cert.ReferenceCIdeal.main_arg0) = m' ((c.tc : Thread Cert.ReferenceCIdeal.nD Cert.ReferenceCIdeal.τ).loc Cert.ReferenceCIdeal.main_arg0)
          ∧ r.2.mem ((c.tc : Thread Cert.ReferenceCIdeal.nD Cert.ReferenceCIdeal.τ).loc Cert.ReferenceCIdeal.main_arg1) = m' ((c.tc : Thread Cert.ReferenceCIdeal.nD Cert.ReferenceCIdeal.τ).loc Cert.ReferenceCIdeal.main_arg1)
          ∧ r.2.mem ((c.tc : Thread Cert.ReferenceCIdeal.nD Cert.ReferenceCIdeal.τ).loc Cert.ReferenceCIdeal.main_arg2) = m' ((c.tc : Thread Cert.ReferenceCIdeal.nD Cert.ReferenceCIdeal.τ).loc Cert.ReferenceCIdeal.main_arg2))

def preserves_KernelW_KernelWIdeal : Prop :=
  True

def algebraic_KernelWIdeal_ReferenceWIdeal [hKernelWIdeal : Cert.KernelWIdeal.Facts] [hReferenceWIdeal : Cert.ReferenceWIdeal.Facts] : Prop :=
  ∀ (m : (ℓ : Loc Cert.KernelWIdeal.nD Cert.KernelWIdeal.τ Cert.KernelWIdeal.sig) → Buf (Elt Ideal) ℓ) (g : Dev Cert.KernelWIdeal.nD → PrngReg)
    (m' : (ℓ : Loc Cert.ReferenceWIdeal.nD Cert.ReferenceWIdeal.τ Cert.ReferenceWIdeal.sig) → Buf (Elt Ideal) ℓ) (g' : Dev Cert.ReferenceWIdeal.nD → PrngReg), Pre_KernelWIdeal m →
    (∀ c : Dev Cert.KernelWIdeal.nD,
      m' ((c.tc : Thread Cert.ReferenceWIdeal.nD Cert.ReferenceWIdeal.τ).loc Cert.ReferenceWIdeal.main_arg0) = m ((c.tc : Thread Cert.KernelWIdeal.nD Cert.KernelWIdeal.τ).loc Cert.KernelWIdeal.main_arg0)
      ∧ m' ((c.tc : Thread Cert.ReferenceWIdeal.nD Cert.ReferenceWIdeal.τ).loc Cert.ReferenceWIdeal.main_arg1) = m ((c.tc : Thread Cert.KernelWIdeal.nD Cert.KernelWIdeal.τ).loc Cert.KernelWIdeal.main_arg1)) →
    ∃ (v0 : (c : Dev Cert.KernelWIdeal.nD) → Buf (Elt Ideal) ((c.tc : Thread Cert.KernelWIdeal.nD Cert.KernelWIdeal.τ).loc Cert.KernelWIdeal.main_v0)),
      θ_run (Cert.KernelWIdeal.defs (F := Ideal)) (onTc (τ := Cert.KernelWIdeal.τ) (Cert.KernelWIdeal.main (F := Ideal))) ⟨m, fun _ => 0, g⟩ (fun r => ∀ c : Dev Cert.KernelWIdeal.nD,
          r.2.mem ((c.tc : Thread Cert.KernelWIdeal.nD Cert.KernelWIdeal.τ).loc Cert.KernelWIdeal.main_v0) = v0 c
          ∧ r.2.mem ((c.tc : Thread Cert.KernelWIdeal.nD Cert.KernelWIdeal.τ).loc Cert.KernelWIdeal.main_arg0) = m ((c.tc : Thread Cert.KernelWIdeal.nD Cert.KernelWIdeal.τ).loc Cert.KernelWIdeal.main_arg0)
          ∧ r.2.mem ((c.tc : Thread Cert.KernelWIdeal.nD Cert.KernelWIdeal.τ).loc Cert.KernelWIdeal.main_arg1) = m ((c.tc : Thread Cert.KernelWIdeal.nD Cert.KernelWIdeal.τ).loc Cert.KernelWIdeal.main_arg1))
      ∧ θ_run (Cert.ReferenceWIdeal.defs (F := Ideal)) (onTc (τ := Cert.ReferenceWIdeal.τ) (Cert.ReferenceWIdeal.main (F := Ideal))) ⟨m', fun _ => 0, g'⟩ (fun r => ∀ c : Dev Cert.ReferenceWIdeal.nD,
          r.2.mem ((c.tc : Thread Cert.ReferenceWIdeal.nD Cert.ReferenceWIdeal.τ).loc Cert.ReferenceWIdeal.main_v3) = v0 c
          ∧ r.2.mem ((c.tc : Thread Cert.ReferenceWIdeal.nD Cert.ReferenceWIdeal.τ).loc Cert.ReferenceWIdeal.main_arg0) = m' ((c.tc : Thread Cert.ReferenceWIdeal.nD Cert.ReferenceWIdeal.τ).loc Cert.ReferenceWIdeal.main_arg0)
          ∧ r.2.mem ((c.tc : Thread Cert.ReferenceWIdeal.nD Cert.ReferenceWIdeal.τ).loc Cert.ReferenceWIdeal.main_arg1) = m' ((c.tc : Thread Cert.ReferenceWIdeal.nD Cert.ReferenceWIdeal.τ).loc Cert.ReferenceWIdeal.main_arg1))

def preserves_KernelN_KernelNIdeal : Prop :=
  True

def algebraic_KernelNIdeal_ReferenceNIdeal [hKernelNIdeal : Cert.KernelNIdeal.Facts] [hReferenceNIdeal : Cert.ReferenceNIdeal.Facts] : Prop :=
  ∀ (m : (ℓ : Loc Cert.KernelNIdeal.nD Cert.KernelNIdeal.τ Cert.KernelNIdeal.sig) → Buf (Elt Ideal) ℓ) (g : Dev Cert.KernelNIdeal.nD → PrngReg)
    (m' : (ℓ : Loc Cert.ReferenceNIdeal.nD Cert.ReferenceNIdeal.τ Cert.ReferenceNIdeal.sig) → Buf (Elt Ideal) ℓ) (g' : Dev Cert.ReferenceNIdeal.nD → PrngReg), Pre_KernelNIdeal m →
    (∀ c : Dev Cert.KernelNIdeal.nD,
      m' ((c.tc : Thread Cert.ReferenceNIdeal.nD Cert.ReferenceNIdeal.τ).loc Cert.ReferenceNIdeal.main_arg0) = m ((c.tc : Thread Cert.KernelNIdeal.nD Cert.KernelNIdeal.τ).loc Cert.KernelNIdeal.main_arg0)
      ∧ m' ((c.tc : Thread Cert.ReferenceNIdeal.nD Cert.ReferenceNIdeal.τ).loc Cert.ReferenceNIdeal.main_arg1) = m ((c.tc : Thread Cert.KernelNIdeal.nD Cert.KernelNIdeal.τ).loc Cert.KernelNIdeal.main_arg1)
      ∧ m' ((c.tc : Thread Cert.ReferenceNIdeal.nD Cert.ReferenceNIdeal.τ).loc Cert.ReferenceNIdeal.main_arg2) = m ((c.tc : Thread Cert.KernelNIdeal.nD Cert.KernelNIdeal.τ).loc Cert.KernelNIdeal.main_arg2)
      ∧ m' ((c.tc : Thread Cert.ReferenceNIdeal.nD Cert.ReferenceNIdeal.τ).loc Cert.ReferenceNIdeal.main_arg3) = m ((c.tc : Thread Cert.KernelNIdeal.nD Cert.KernelNIdeal.τ).loc Cert.KernelNIdeal.main_arg3)
      ∧ m' ((c.tc : Thread Cert.ReferenceNIdeal.nD Cert.ReferenceNIdeal.τ).loc Cert.ReferenceNIdeal.main_arg4) = m ((c.tc : Thread Cert.KernelNIdeal.nD Cert.KernelNIdeal.τ).loc Cert.KernelNIdeal.main_arg4)
      ∧ m' ((c.tc : Thread Cert.ReferenceNIdeal.nD Cert.ReferenceNIdeal.τ).loc Cert.ReferenceNIdeal.main_arg5) = m ((c.tc : Thread Cert.KernelNIdeal.nD Cert.KernelNIdeal.τ).loc Cert.KernelNIdeal.main_arg5)) →
    ∃ (v0 : (c : Dev Cert.KernelNIdeal.nD) → Buf (Elt Ideal) ((c.tc : Thread Cert.KernelNIdeal.nD Cert.KernelNIdeal.τ).loc Cert.KernelNIdeal.main_v0_0)) (v1 : (c : Dev Cert.KernelNIdeal.nD) → Buf (Elt Ideal) ((c.tc : Thread Cert.KernelNIdeal.nD Cert.KernelNIdeal.τ).loc Cert.KernelNIdeal.main_v0_1)) (v2 : (c : Dev Cert.KernelNIdeal.nD) → Buf (Elt Ideal) ((c.tc : Thread Cert.KernelNIdeal.nD Cert.KernelNIdeal.τ).loc Cert.KernelNIdeal.main_v0_2)) (v3 : (c : Dev Cert.KernelNIdeal.nD) → Buf (Elt Ideal) ((c.tc : Thread Cert.KernelNIdeal.nD Cert.KernelNIdeal.τ).loc Cert.KernelNIdeal.main_v0_3)),
      θ_run (Cert.KernelNIdeal.defs (F := Ideal)) (onTc (τ := Cert.KernelNIdeal.τ) (Cert.KernelNIdeal.main (F := Ideal))) ⟨m, fun _ => 0, g⟩ (fun r => ∀ c : Dev Cert.KernelNIdeal.nD,
          r.2.mem ((c.tc : Thread Cert.KernelNIdeal.nD Cert.KernelNIdeal.τ).loc Cert.KernelNIdeal.main_v0_0) = v0 c
          ∧ r.2.mem ((c.tc : Thread Cert.KernelNIdeal.nD Cert.KernelNIdeal.τ).loc Cert.KernelNIdeal.main_v0_1) = v1 c
          ∧ r.2.mem ((c.tc : Thread Cert.KernelNIdeal.nD Cert.KernelNIdeal.τ).loc Cert.KernelNIdeal.main_v0_2) = v2 c
          ∧ r.2.mem ((c.tc : Thread Cert.KernelNIdeal.nD Cert.KernelNIdeal.τ).loc Cert.KernelNIdeal.main_v0_3) = v3 c
          ∧ r.2.mem ((c.tc : Thread Cert.KernelNIdeal.nD Cert.KernelNIdeal.τ).loc Cert.KernelNIdeal.main_arg0) = m ((c.tc : Thread Cert.KernelNIdeal.nD Cert.KernelNIdeal.τ).loc Cert.KernelNIdeal.main_arg0)
          ∧ r.2.mem ((c.tc : Thread Cert.KernelNIdeal.nD Cert.KernelNIdeal.τ).loc Cert.KernelNIdeal.main_arg1) = m ((c.tc : Thread Cert.KernelNIdeal.nD Cert.KernelNIdeal.τ).loc Cert.KernelNIdeal.main_arg1)
          ∧ r.2.mem ((c.tc : Thread Cert.KernelNIdeal.nD Cert.KernelNIdeal.τ).loc Cert.KernelNIdeal.main_arg2) = m ((c.tc : Thread Cert.KernelNIdeal.nD Cert.KernelNIdeal.τ).loc Cert.KernelNIdeal.main_arg2)
          ∧ r.2.mem ((c.tc : Thread Cert.KernelNIdeal.nD Cert.KernelNIdeal.τ).loc Cert.KernelNIdeal.main_arg3) = m ((c.tc : Thread Cert.KernelNIdeal.nD Cert.KernelNIdeal.τ).loc Cert.KernelNIdeal.main_arg3)
          ∧ r.2.mem ((c.tc : Thread Cert.KernelNIdeal.nD Cert.KernelNIdeal.τ).loc Cert.KernelNIdeal.main_arg4) = m ((c.tc : Thread Cert.KernelNIdeal.nD Cert.KernelNIdeal.τ).loc Cert.KernelNIdeal.main_arg4)
          ∧ r.2.mem ((c.tc : Thread Cert.KernelNIdeal.nD Cert.KernelNIdeal.τ).loc Cert.KernelNIdeal.main_arg5) = m ((c.tc : Thread Cert.KernelNIdeal.nD Cert.KernelNIdeal.τ).loc Cert.KernelNIdeal.main_arg5))
      ∧ θ_run (Cert.ReferenceNIdeal.defs (F := Ideal)) (onTc (τ := Cert.ReferenceNIdeal.τ) (Cert.ReferenceNIdeal.main (F := Ideal))) ⟨m', fun _ => 0, g'⟩ (fun r => ∀ c : Dev Cert.ReferenceNIdeal.nD,
          r.2.mem ((c.tc : Thread Cert.ReferenceNIdeal.nD Cert.ReferenceNIdeal.τ).loc Cert.ReferenceNIdeal.main_v48) = v0 c
          ∧ r.2.mem ((c.tc : Thread Cert.ReferenceNIdeal.nD Cert.ReferenceNIdeal.τ).loc Cert.ReferenceNIdeal.main_v31) = v1 c
          ∧ r.2.mem ((c.tc : Thread Cert.ReferenceNIdeal.nD Cert.ReferenceNIdeal.τ).loc Cert.ReferenceNIdeal.main_v26) = v2 c
          ∧ r.2.mem ((c.tc : Thread Cert.ReferenceNIdeal.nD Cert.ReferenceNIdeal.τ).loc Cert.ReferenceNIdeal.main_v23) = v3 c
          ∧ r.2.mem ((c.tc : Thread Cert.ReferenceNIdeal.nD Cert.ReferenceNIdeal.τ).loc Cert.ReferenceNIdeal.main_arg0) = m' ((c.tc : Thread Cert.ReferenceNIdeal.nD Cert.ReferenceNIdeal.τ).loc Cert.ReferenceNIdeal.main_arg0)
          ∧ r.2.mem ((c.tc : Thread Cert.ReferenceNIdeal.nD Cert.ReferenceNIdeal.τ).loc Cert.ReferenceNIdeal.main_arg1) = m' ((c.tc : Thread Cert.ReferenceNIdeal.nD Cert.ReferenceNIdeal.τ).loc Cert.ReferenceNIdeal.main_arg1)
          ∧ r.2.mem ((c.tc : Thread Cert.ReferenceNIdeal.nD Cert.ReferenceNIdeal.τ).loc Cert.ReferenceNIdeal.main_arg2) = m' ((c.tc : Thread Cert.ReferenceNIdeal.nD Cert.ReferenceNIdeal.τ).loc Cert.ReferenceNIdeal.main_arg2)
          ∧ r.2.mem ((c.tc : Thread Cert.ReferenceNIdeal.nD Cert.ReferenceNIdeal.τ).loc Cert.ReferenceNIdeal.main_arg3) = m' ((c.tc : Thread Cert.ReferenceNIdeal.nD Cert.ReferenceNIdeal.τ).loc Cert.ReferenceNIdeal.main_arg3)
          ∧ r.2.mem ((c.tc : Thread Cert.ReferenceNIdeal.nD Cert.ReferenceNIdeal.τ).loc Cert.ReferenceNIdeal.main_arg4) = m' ((c.tc : Thread Cert.ReferenceNIdeal.nD Cert.ReferenceNIdeal.τ).loc Cert.ReferenceNIdeal.main_arg4)
          ∧ r.2.mem ((c.tc : Thread Cert.ReferenceNIdeal.nD Cert.ReferenceNIdeal.τ).loc Cert.ReferenceNIdeal.main_arg5) = m' ((c.tc : Thread Cert.ReferenceNIdeal.nD Cert.ReferenceNIdeal.τ).loc Cert.ReferenceNIdeal.main_arg5))

def preserves_KernelXN_KernelXNIdeal : Prop :=
  True

def algebraic_KernelXNIdeal_ReferenceXNIdeal [hKernelXNIdeal : Cert.KernelXNIdeal.Facts] [hReferenceXNIdeal : Cert.ReferenceXNIdeal.Facts] : Prop :=
  ∀ (m : (ℓ : Loc Cert.KernelXNIdeal.nD Cert.KernelXNIdeal.τ Cert.KernelXNIdeal.sig) → Buf (Elt Ideal) ℓ) (g : Dev Cert.KernelXNIdeal.nD → PrngReg)
    (m' : (ℓ : Loc Cert.ReferenceXNIdeal.nD Cert.ReferenceXNIdeal.τ Cert.ReferenceXNIdeal.sig) → Buf (Elt Ideal) ℓ) (g' : Dev Cert.ReferenceXNIdeal.nD → PrngReg), Pre_KernelXNIdeal m →
    (∀ c : Dev Cert.KernelXNIdeal.nD,
      m' ((c.tc : Thread Cert.ReferenceXNIdeal.nD Cert.ReferenceXNIdeal.τ).loc Cert.ReferenceXNIdeal.main_arg0) = m ((c.tc : Thread Cert.KernelXNIdeal.nD Cert.KernelXNIdeal.τ).loc Cert.KernelXNIdeal.main_arg0)
      ∧ m' ((c.tc : Thread Cert.ReferenceXNIdeal.nD Cert.ReferenceXNIdeal.τ).loc Cert.ReferenceXNIdeal.main_arg1) = m ((c.tc : Thread Cert.KernelXNIdeal.nD Cert.KernelXNIdeal.τ).loc Cert.KernelXNIdeal.main_arg1)
      ∧ m' ((c.tc : Thread Cert.ReferenceXNIdeal.nD Cert.ReferenceXNIdeal.τ).loc Cert.ReferenceXNIdeal.main_arg2) = m ((c.tc : Thread Cert.KernelXNIdeal.nD Cert.KernelXNIdeal.τ).loc Cert.KernelXNIdeal.main_arg2)
      ∧ m' ((c.tc : Thread Cert.ReferenceXNIdeal.nD Cert.ReferenceXNIdeal.τ).loc Cert.ReferenceXNIdeal.main_arg3) = m ((c.tc : Thread Cert.KernelXNIdeal.nD Cert.KernelXNIdeal.τ).loc Cert.KernelXNIdeal.main_arg3)) →
    ∃ (v0 : (c : Dev Cert.KernelXNIdeal.nD) → Buf (Elt Ideal) ((c.tc : Thread Cert.KernelXNIdeal.nD Cert.KernelXNIdeal.τ).loc Cert.KernelXNIdeal.main_v0)),
      θ_run (Cert.KernelXNIdeal.defs (F := Ideal)) (onTc (τ := Cert.KernelXNIdeal.τ) (Cert.KernelXNIdeal.main (F := Ideal))) ⟨m, fun _ => 0, g⟩ (fun r => ∀ c : Dev Cert.KernelXNIdeal.nD,
          r.2.mem ((c.tc : Thread Cert.KernelXNIdeal.nD Cert.KernelXNIdeal.τ).loc Cert.KernelXNIdeal.main_v0) = v0 c
          ∧ r.2.mem ((c.tc : Thread Cert.KernelXNIdeal.nD Cert.KernelXNIdeal.τ).loc Cert.KernelXNIdeal.main_arg0) = m ((c.tc : Thread Cert.KernelXNIdeal.nD Cert.KernelXNIdeal.τ).loc Cert.KernelXNIdeal.main_arg0)
          ∧ r.2.mem ((c.tc : Thread Cert.KernelXNIdeal.nD Cert.KernelXNIdeal.τ).loc Cert.KernelXNIdeal.main_arg1) = m ((c.tc : Thread Cert.KernelXNIdeal.nD Cert.KernelXNIdeal.τ).loc Cert.KernelXNIdeal.main_arg1)
          ∧ r.2.mem ((c.tc : Thread Cert.KernelXNIdeal.nD Cert.KernelXNIdeal.τ).loc Cert.KernelXNIdeal.main_arg2) = m ((c.tc : Thread Cert.KernelXNIdeal.nD Cert.KernelXNIdeal.τ).loc Cert.KernelXNIdeal.main_arg2)
          ∧ r.2.mem ((c.tc : Thread Cert.KernelXNIdeal.nD Cert.KernelXNIdeal.τ).loc Cert.KernelXNIdeal.main_arg3) = m ((c.tc : Thread Cert.KernelXNIdeal.nD Cert.KernelXNIdeal.τ).loc Cert.KernelXNIdeal.main_arg3))
      ∧ θ_run (Cert.ReferenceXNIdeal.defs (F := Ideal)) (onTc (τ := Cert.ReferenceXNIdeal.τ) (Cert.ReferenceXNIdeal.main (F := Ideal))) ⟨m', fun _ => 0, g'⟩ (fun r => ∀ c : Dev Cert.ReferenceXNIdeal.nD,
          r.2.mem ((c.tc : Thread Cert.ReferenceXNIdeal.nD Cert.ReferenceXNIdeal.τ).loc Cert.ReferenceXNIdeal.main_v18) = v0 c
          ∧ r.2.mem ((c.tc : Thread Cert.ReferenceXNIdeal.nD Cert.ReferenceXNIdeal.τ).loc Cert.ReferenceXNIdeal.main_arg0) = m' ((c.tc : Thread Cert.ReferenceXNIdeal.nD Cert.ReferenceXNIdeal.τ).loc Cert.ReferenceXNIdeal.main_arg0)
          ∧ r.2.mem ((c.tc : Thread Cert.ReferenceXNIdeal.nD Cert.ReferenceXNIdeal.τ).loc Cert.ReferenceXNIdeal.main_arg1) = m' ((c.tc : Thread Cert.ReferenceXNIdeal.nD Cert.ReferenceXNIdeal.τ).loc Cert.ReferenceXNIdeal.main_arg1)
          ∧ r.2.mem ((c.tc : Thread Cert.ReferenceXNIdeal.nD Cert.ReferenceXNIdeal.τ).loc Cert.ReferenceXNIdeal.main_arg2) = m' ((c.tc : Thread Cert.ReferenceXNIdeal.nD Cert.ReferenceXNIdeal.τ).loc Cert.ReferenceXNIdeal.main_arg2)
          ∧ r.2.mem ((c.tc : Thread Cert.ReferenceXNIdeal.nD Cert.ReferenceXNIdeal.τ).loc Cert.ReferenceXNIdeal.main_arg3) = m' ((c.tc : Thread Cert.ReferenceXNIdeal.nD Cert.ReferenceXNIdeal.τ).loc Cert.ReferenceXNIdeal.main_arg3))

def preserves_KernelXI_KernelXIIdeal : Prop :=
  True

def algebraic_KernelXIIdeal_ReferenceXIIdeal [hKernelXIIdeal : Cert.KernelXIIdeal.Facts] [hReferenceXIIdeal : Cert.ReferenceXIIdeal.Facts] : Prop :=
  ∀ (m : (ℓ : Loc Cert.KernelXIIdeal.nD Cert.KernelXIIdeal.τ Cert.KernelXIIdeal.sig) → Buf (Elt Ideal) ℓ) (g : Dev Cert.KernelXIIdeal.nD → PrngReg)
    (m' : (ℓ : Loc Cert.ReferenceXIIdeal.nD Cert.ReferenceXIIdeal.τ Cert.ReferenceXIIdeal.sig) → Buf (Elt Ideal) ℓ) (g' : Dev Cert.ReferenceXIIdeal.nD → PrngReg), Pre_KernelXIIdeal m →
    (∀ c : Dev Cert.KernelXIIdeal.nD,
      m' ((c.tc : Thread Cert.ReferenceXIIdeal.nD Cert.ReferenceXIIdeal.τ).loc Cert.ReferenceXIIdeal.main_arg0) = m ((c.tc : Thread Cert.KernelXIIdeal.nD Cert.KernelXIIdeal.τ).loc Cert.KernelXIIdeal.main_arg0)
      ∧ m' ((c.tc : Thread Cert.ReferenceXIIdeal.nD Cert.ReferenceXIIdeal.τ).loc Cert.ReferenceXIIdeal.main_arg1) = m ((c.tc : Thread Cert.KernelXIIdeal.nD Cert.KernelXIIdeal.τ).loc Cert.KernelXIIdeal.main_arg1)) →
    ∃ (v0 : (c : Dev Cert.KernelXIIdeal.nD) → Buf (Elt Ideal) ((c.tc : Thread Cert.KernelXIIdeal.nD Cert.KernelXIIdeal.τ).loc Cert.KernelXIIdeal.main_v0)),
      θ_run (Cert.KernelXIIdeal.defs (F := Ideal)) (onTc (τ := Cert.KernelXIIdeal.τ) (Cert.KernelXIIdeal.main (F := Ideal))) ⟨m, fun _ => 0, g⟩ (fun r => ∀ c : Dev Cert.KernelXIIdeal.nD,
          r.2.mem ((c.tc : Thread Cert.KernelXIIdeal.nD Cert.KernelXIIdeal.τ).loc Cert.KernelXIIdeal.main_v0) = v0 c
          ∧ r.2.mem ((c.tc : Thread Cert.KernelXIIdeal.nD Cert.KernelXIIdeal.τ).loc Cert.KernelXIIdeal.main_arg0) = m ((c.tc : Thread Cert.KernelXIIdeal.nD Cert.KernelXIIdeal.τ).loc Cert.KernelXIIdeal.main_arg0)
          ∧ r.2.mem ((c.tc : Thread Cert.KernelXIIdeal.nD Cert.KernelXIIdeal.τ).loc Cert.KernelXIIdeal.main_arg1) = m ((c.tc : Thread Cert.KernelXIIdeal.nD Cert.KernelXIIdeal.τ).loc Cert.KernelXIIdeal.main_arg1))
      ∧ θ_run (Cert.ReferenceXIIdeal.defs (F := Ideal)) (onTc (τ := Cert.ReferenceXIIdeal.τ) (Cert.ReferenceXIIdeal.main (F := Ideal))) ⟨m', fun _ => 0, g'⟩ (fun r => ∀ c : Dev Cert.ReferenceXIIdeal.nD,
          r.2.mem ((c.tc : Thread Cert.ReferenceXIIdeal.nD Cert.ReferenceXIIdeal.τ).loc Cert.ReferenceXIIdeal.main_v3) = v0 c
          ∧ r.2.mem ((c.tc : Thread Cert.ReferenceXIIdeal.nD Cert.ReferenceXIIdeal.τ).loc Cert.ReferenceXIIdeal.main_arg0) = m' ((c.tc : Thread Cert.ReferenceXIIdeal.nD Cert.ReferenceXIIdeal.τ).loc Cert.ReferenceXIIdeal.main_arg0)
          ∧ r.2.mem ((c.tc : Thread Cert.ReferenceXIIdeal.nD Cert.ReferenceXIIdeal.τ).loc Cert.ReferenceXIIdeal.main_arg1) = m' ((c.tc : Thread Cert.ReferenceXIIdeal.nD Cert.ReferenceXIIdeal.τ).loc Cert.ReferenceXIIdeal.main_arg1))

def preserves_KernelXS_KernelXSIdeal : Prop :=
  True

def algebraic_KernelXSIdeal_ReferenceXSIdeal [hKernelXSIdeal : Cert.KernelXSIdeal.Facts] [hReferenceXSIdeal : Cert.ReferenceXSIdeal.Facts] : Prop :=
  ∀ (m : (ℓ : Loc Cert.KernelXSIdeal.nD Cert.KernelXSIdeal.τ Cert.KernelXSIdeal.sig) → Buf (Elt Ideal) ℓ) (g : Dev Cert.KernelXSIdeal.nD → PrngReg)
    (m' : (ℓ : Loc Cert.ReferenceXSIdeal.nD Cert.ReferenceXSIdeal.τ Cert.ReferenceXSIdeal.sig) → Buf (Elt Ideal) ℓ) (g' : Dev Cert.ReferenceXSIdeal.nD → PrngReg), Pre_KernelXSIdeal m →
    (∀ c : Dev Cert.KernelXSIdeal.nD,
      m' ((c.tc : Thread Cert.ReferenceXSIdeal.nD Cert.ReferenceXSIdeal.τ).loc Cert.ReferenceXSIdeal.main_arg0) = m ((c.tc : Thread Cert.KernelXSIdeal.nD Cert.KernelXSIdeal.τ).loc Cert.KernelXSIdeal.main_arg0)) →
    ∃ (v0 : (c : Dev Cert.KernelXSIdeal.nD) → Buf (Elt Ideal) ((c.tc : Thread Cert.KernelXSIdeal.nD Cert.KernelXSIdeal.τ).loc Cert.KernelXSIdeal.main_v0)),
      θ_run (Cert.KernelXSIdeal.defs (F := Ideal)) (onTc (τ := Cert.KernelXSIdeal.τ) (Cert.KernelXSIdeal.main (F := Ideal))) ⟨m, fun _ => 0, g⟩ (fun r => ∀ c : Dev Cert.KernelXSIdeal.nD,
          r.2.mem ((c.tc : Thread Cert.KernelXSIdeal.nD Cert.KernelXSIdeal.τ).loc Cert.KernelXSIdeal.main_v0) = v0 c
          ∧ r.2.mem ((c.tc : Thread Cert.KernelXSIdeal.nD Cert.KernelXSIdeal.τ).loc Cert.KernelXSIdeal.main_arg0) = m ((c.tc : Thread Cert.KernelXSIdeal.nD Cert.KernelXSIdeal.τ).loc Cert.KernelXSIdeal.main_arg0))
      ∧ θ_run (Cert.ReferenceXSIdeal.defs (F := Ideal)) (onTc (τ := Cert.ReferenceXSIdeal.τ) (Cert.ReferenceXSIdeal.main (F := Ideal))) ⟨m', fun _ => 0, g'⟩ (fun r => ∀ c : Dev Cert.ReferenceXSIdeal.nD,
          r.2.mem ((c.tc : Thread Cert.ReferenceXSIdeal.nD Cert.ReferenceXSIdeal.τ).loc Cert.ReferenceXSIdeal.main_v5) = v0 c
          ∧ r.2.mem ((c.tc : Thread Cert.ReferenceXSIdeal.nD Cert.ReferenceXSIdeal.τ).loc Cert.ReferenceXSIdeal.main_arg0) = m' ((c.tc : Thread Cert.ReferenceXSIdeal.nD Cert.ReferenceXSIdeal.τ).loc Cert.ReferenceXSIdeal.main_arg0))

def preserves_KernelXO_KernelXOIdeal : Prop :=
  True

def algebraic_KernelXOIdeal_ReferenceXOIdeal [hKernelXOIdeal : Cert.KernelXOIdeal.Facts] [hReferenceXOIdeal : Cert.ReferenceXOIdeal.Facts] : Prop :=
  ∀ (m : (ℓ : Loc Cert.KernelXOIdeal.nD Cert.KernelXOIdeal.τ Cert.KernelXOIdeal.sig) → Buf (Elt Ideal) ℓ) (g : Dev Cert.KernelXOIdeal.nD → PrngReg)
    (m' : (ℓ : Loc Cert.ReferenceXOIdeal.nD Cert.ReferenceXOIdeal.τ Cert.ReferenceXOIdeal.sig) → Buf (Elt Ideal) ℓ) (g' : Dev Cert.ReferenceXOIdeal.nD → PrngReg), Pre_KernelXOIdeal m →
    (∀ c : Dev Cert.KernelXOIdeal.nD,
      m' ((c.tc : Thread Cert.ReferenceXOIdeal.nD Cert.ReferenceXOIdeal.τ).loc Cert.ReferenceXOIdeal.main_arg0) = m ((c.tc : Thread Cert.KernelXOIdeal.nD Cert.KernelXOIdeal.τ).loc Cert.KernelXOIdeal.main_arg0)
      ∧ m' ((c.tc : Thread Cert.ReferenceXOIdeal.nD Cert.ReferenceXOIdeal.τ).loc Cert.ReferenceXOIdeal.main_arg1) = m ((c.tc : Thread Cert.KernelXOIdeal.nD Cert.KernelXOIdeal.τ).loc Cert.KernelXOIdeal.main_arg1)) →
    ∃ (v0 : (c : Dev Cert.KernelXOIdeal.nD) → Buf (Elt Ideal) ((c.tc : Thread Cert.KernelXOIdeal.nD Cert.KernelXOIdeal.τ).loc Cert.KernelXOIdeal.main_v0)),
      θ_run (Cert.KernelXOIdeal.defs (F := Ideal)) (onTc (τ := Cert.KernelXOIdeal.τ) (Cert.KernelXOIdeal.main (F := Ideal))) ⟨m, fun _ => 0, g⟩ (fun r => ∀ c : Dev Cert.KernelXOIdeal.nD,
          r.2.mem ((c.tc : Thread Cert.KernelXOIdeal.nD Cert.KernelXOIdeal.τ).loc Cert.KernelXOIdeal.main_v0) = v0 c
          ∧ r.2.mem ((c.tc : Thread Cert.KernelXOIdeal.nD Cert.KernelXOIdeal.τ).loc Cert.KernelXOIdeal.main_arg0) = m ((c.tc : Thread Cert.KernelXOIdeal.nD Cert.KernelXOIdeal.τ).loc Cert.KernelXOIdeal.main_arg0)
          ∧ r.2.mem ((c.tc : Thread Cert.KernelXOIdeal.nD Cert.KernelXOIdeal.τ).loc Cert.KernelXOIdeal.main_arg1) = m ((c.tc : Thread Cert.KernelXOIdeal.nD Cert.KernelXOIdeal.τ).loc Cert.KernelXOIdeal.main_arg1))
      ∧ θ_run (Cert.ReferenceXOIdeal.defs (F := Ideal)) (onTc (τ := Cert.ReferenceXOIdeal.τ) (Cert.ReferenceXOIdeal.main (F := Ideal))) ⟨m', fun _ => 0, g'⟩ (fun r => ∀ c : Dev Cert.ReferenceXOIdeal.nD,
          r.2.mem ((c.tc : Thread Cert.ReferenceXOIdeal.nD Cert.ReferenceXOIdeal.τ).loc Cert.ReferenceXOIdeal.main_v2) = v0 c
          ∧ r.2.mem ((c.tc : Thread Cert.ReferenceXOIdeal.nD Cert.ReferenceXOIdeal.τ).loc Cert.ReferenceXOIdeal.main_arg0) = m' ((c.tc : Thread Cert.ReferenceXOIdeal.nD Cert.ReferenceXOIdeal.τ).loc Cert.ReferenceXOIdeal.main_arg0)
          ∧ r.2.mem ((c.tc : Thread Cert.ReferenceXOIdeal.nD Cert.ReferenceXOIdeal.τ).loc Cert.ReferenceXOIdeal.main_arg1) = m' ((c.tc : Thread Cert.ReferenceXOIdeal.nD Cert.ReferenceXOIdeal.τ).loc Cert.ReferenceXOIdeal.main_arg1))

def preserves_KernelXR_KernelXRIdeal : Prop :=
  True

def algebraic_KernelXRIdeal_ReferenceXRIdeal [hKernelXRIdeal : Cert.KernelXRIdeal.Facts] [hReferenceXRIdeal : Cert.ReferenceXRIdeal.Facts] : Prop :=
  ∀ (m : (ℓ : Loc Cert.KernelXRIdeal.nD Cert.KernelXRIdeal.τ Cert.KernelXRIdeal.sig) → Buf (Elt Ideal) ℓ) (g : Dev Cert.KernelXRIdeal.nD → PrngReg)
    (m' : (ℓ : Loc Cert.ReferenceXRIdeal.nD Cert.ReferenceXRIdeal.τ Cert.ReferenceXRIdeal.sig) → Buf (Elt Ideal) ℓ) (g' : Dev Cert.ReferenceXRIdeal.nD → PrngReg), Pre_KernelXRIdeal m →
    (∀ c : Dev Cert.KernelXRIdeal.nD,
      m' ((c.tc : Thread Cert.ReferenceXRIdeal.nD Cert.ReferenceXRIdeal.τ).loc Cert.ReferenceXRIdeal.main_arg0) = m ((c.tc : Thread Cert.KernelXRIdeal.nD Cert.KernelXRIdeal.τ).loc Cert.KernelXRIdeal.main_arg0)
      ∧ m' ((c.tc : Thread Cert.ReferenceXRIdeal.nD Cert.ReferenceXRIdeal.τ).loc Cert.ReferenceXRIdeal.main_arg1) = m ((c.tc : Thread Cert.KernelXRIdeal.nD Cert.KernelXRIdeal.τ).loc Cert.KernelXRIdeal.main_arg1)
      ∧ m' ((c.tc : Thread Cert.ReferenceXRIdeal.nD Cert.ReferenceXRIdeal.τ).loc Cert.ReferenceXRIdeal.main_arg2) = m ((c.tc : Thread Cert.KernelXRIdeal.nD Cert.KernelXRIdeal.τ).loc Cert.KernelXRIdeal.main_arg2)) →
    ∃ (v0 : (c : Dev Cert.KernelXRIdeal.nD) → Buf (Elt Ideal) ((c.tc : Thread Cert.KernelXRIdeal.nD Cert.KernelXRIdeal.τ).loc Cert.KernelXRIdeal.main_v0)),
      θ_run (Cert.KernelXRIdeal.defs (F := Ideal)) (onTc (τ := Cert.KernelXRIdeal.τ) (Cert.KernelXRIdeal.main (F := Ideal))) ⟨m, fun _ => 0, g⟩ (fun r => ∀ c : Dev Cert.KernelXRIdeal.nD,
          r.2.mem ((c.tc : Thread Cert.KernelXRIdeal.nD Cert.KernelXRIdeal.τ).loc Cert.KernelXRIdeal.main_v0) = v0 c
          ∧ r.2.mem ((c.tc : Thread Cert.KernelXRIdeal.nD Cert.KernelXRIdeal.τ).loc Cert.KernelXRIdeal.main_arg0) = m ((c.tc : Thread Cert.KernelXRIdeal.nD Cert.KernelXRIdeal.τ).loc Cert.KernelXRIdeal.main_arg0)
          ∧ r.2.mem ((c.tc : Thread Cert.KernelXRIdeal.nD Cert.KernelXRIdeal.τ).loc Cert.KernelXRIdeal.main_arg1) = m ((c.tc : Thread Cert.KernelXRIdeal.nD Cert.KernelXRIdeal.τ).loc Cert.KernelXRIdeal.main_arg1)
          ∧ r.2.mem ((c.tc : Thread Cert.KernelXRIdeal.nD Cert.KernelXRIdeal.τ).loc Cert.KernelXRIdeal.main_arg2) = m ((c.tc : Thread Cert.KernelXRIdeal.nD Cert.KernelXRIdeal.τ).loc Cert.KernelXRIdeal.main_arg2))
      ∧ θ_run (Cert.ReferenceXRIdeal.defs (F := Ideal)) (onTc (τ := Cert.ReferenceXRIdeal.τ) (Cert.ReferenceXRIdeal.main (F := Ideal))) ⟨m', fun _ => 0, g'⟩ (fun r => ∀ c : Dev Cert.ReferenceXRIdeal.nD,
          r.2.mem ((c.tc : Thread Cert.ReferenceXRIdeal.nD Cert.ReferenceXRIdeal.τ).loc Cert.ReferenceXRIdeal.main_v2) = v0 c
          ∧ r.2.mem ((c.tc : Thread Cert.ReferenceXRIdeal.nD Cert.ReferenceXRIdeal.τ).loc Cert.ReferenceXRIdeal.main_arg0) = m' ((c.tc : Thread Cert.ReferenceXRIdeal.nD Cert.ReferenceXRIdeal.τ).loc Cert.ReferenceXRIdeal.main_arg0)
          ∧ r.2.mem ((c.tc : Thread Cert.ReferenceXRIdeal.nD Cert.ReferenceXRIdeal.τ).loc Cert.ReferenceXRIdeal.main_arg1) = m' ((c.tc : Thread Cert.ReferenceXRIdeal.nD Cert.ReferenceXRIdeal.τ).loc Cert.ReferenceXRIdeal.main_arg1)
          ∧ r.2.mem ((c.tc : Thread Cert.ReferenceXRIdeal.nD Cert.ReferenceXRIdeal.τ).loc Cert.ReferenceXRIdeal.main_arg2) = m' ((c.tc : Thread Cert.ReferenceXRIdeal.nD Cert.ReferenceXRIdeal.τ).loc Cert.ReferenceXRIdeal.main_arg2))

def preserves_KernelYR_KernelYRIdeal : Prop :=
  True

def algebraic_KernelYRIdeal_ReferenceYRIdeal [hKernelYRIdeal : Cert.KernelYRIdeal.Facts] [hReferenceYRIdeal : Cert.ReferenceYRIdeal.Facts] : Prop :=
  ∀ (m : (ℓ : Loc Cert.KernelYRIdeal.nD Cert.KernelYRIdeal.τ Cert.KernelYRIdeal.sig) → Buf (Elt Ideal) ℓ) (g : Dev Cert.KernelYRIdeal.nD → PrngReg)
    (m' : (ℓ : Loc Cert.ReferenceYRIdeal.nD Cert.ReferenceYRIdeal.τ Cert.ReferenceYRIdeal.sig) → Buf (Elt Ideal) ℓ) (g' : Dev Cert.ReferenceYRIdeal.nD → PrngReg), Pre_KernelYRIdeal m →
    (∀ c : Dev Cert.KernelYRIdeal.nD,
      m' ((c.tc : Thread Cert.ReferenceYRIdeal.nD Cert.ReferenceYRIdeal.τ).loc Cert.ReferenceYRIdeal.main_arg0) = m ((c.tc : Thread Cert.KernelYRIdeal.nD Cert.KernelYRIdeal.τ).loc Cert.KernelYRIdeal.main_arg0)
      ∧ m' ((c.tc : Thread Cert.ReferenceYRIdeal.nD Cert.ReferenceYRIdeal.τ).loc Cert.ReferenceYRIdeal.main_arg1) = m ((c.tc : Thread Cert.KernelYRIdeal.nD Cert.KernelYRIdeal.τ).loc Cert.KernelYRIdeal.main_arg1)
      ∧ m' ((c.tc : Thread Cert.ReferenceYRIdeal.nD Cert.ReferenceYRIdeal.τ).loc Cert.ReferenceYRIdeal.main_arg2) = m ((c.tc : Thread Cert.KernelYRIdeal.nD Cert.KernelYRIdeal.τ).loc Cert.KernelYRIdeal.main_arg2)
      ∧ m' ((c.tc : Thread Cert.ReferenceYRIdeal.nD Cert.ReferenceYRIdeal.τ).loc Cert.ReferenceYRIdeal.main_arg3) = m ((c.tc : Thread Cert.KernelYRIdeal.nD Cert.KernelYRIdeal.τ).loc Cert.KernelYRIdeal.main_arg3)) →
    ∃ (v0 : (c : Dev Cert.KernelYRIdeal.nD) → Buf (Elt Ideal) ((c.tc : Thread Cert.KernelYRIdeal.nD Cert.KernelYRIdeal.τ).loc Cert.KernelYRIdeal.main_v0_0)) (v1 : (c : Dev Cert.KernelYRIdeal.nD) → Buf (Elt Ideal) ((c.tc : Thread Cert.KernelYRIdeal.nD Cert.KernelYRIdeal.τ).loc Cert.KernelYRIdeal.main_v0_1)) (v2 : (c : Dev Cert.KernelYRIdeal.nD) → Buf (Elt Ideal) ((c.tc : Thread Cert.KernelYRIdeal.nD Cert.KernelYRIdeal.τ).loc Cert.KernelYRIdeal.main_v0_2)),
      θ_run (Cert.KernelYRIdeal.defs (F := Ideal)) (onTc (τ := Cert.KernelYRIdeal.τ) (Cert.KernelYRIdeal.main (F := Ideal))) ⟨m, fun _ => 0, g⟩ (fun r => ∀ c : Dev Cert.KernelYRIdeal.nD,
          r.2.mem ((c.tc : Thread Cert.KernelYRIdeal.nD Cert.KernelYRIdeal.τ).loc Cert.KernelYRIdeal.main_v0_0) = v0 c
          ∧ r.2.mem ((c.tc : Thread Cert.KernelYRIdeal.nD Cert.KernelYRIdeal.τ).loc Cert.KernelYRIdeal.main_v0_1) = v1 c
          ∧ r.2.mem ((c.tc : Thread Cert.KernelYRIdeal.nD Cert.KernelYRIdeal.τ).loc Cert.KernelYRIdeal.main_v0_2) = v2 c
          ∧ r.2.mem ((c.tc : Thread Cert.KernelYRIdeal.nD Cert.KernelYRIdeal.τ).loc Cert.KernelYRIdeal.main_arg0) = m ((c.tc : Thread Cert.KernelYRIdeal.nD Cert.KernelYRIdeal.τ).loc Cert.KernelYRIdeal.main_arg0)
          ∧ r.2.mem ((c.tc : Thread Cert.KernelYRIdeal.nD Cert.KernelYRIdeal.τ).loc Cert.KernelYRIdeal.main_arg1) = m ((c.tc : Thread Cert.KernelYRIdeal.nD Cert.KernelYRIdeal.τ).loc Cert.KernelYRIdeal.main_arg1)
          ∧ r.2.mem ((c.tc : Thread Cert.KernelYRIdeal.nD Cert.KernelYRIdeal.τ).loc Cert.KernelYRIdeal.main_arg2) = m ((c.tc : Thread Cert.KernelYRIdeal.nD Cert.KernelYRIdeal.τ).loc Cert.KernelYRIdeal.main_arg2)
          ∧ r.2.mem ((c.tc : Thread Cert.KernelYRIdeal.nD Cert.KernelYRIdeal.τ).loc Cert.KernelYRIdeal.main_arg3) = m ((c.tc : Thread Cert.KernelYRIdeal.nD Cert.KernelYRIdeal.τ).loc Cert.KernelYRIdeal.main_arg3))
      ∧ θ_run (Cert.ReferenceYRIdeal.defs (F := Ideal)) (onTc (τ := Cert.ReferenceYRIdeal.τ) (Cert.ReferenceYRIdeal.main (F := Ideal))) ⟨m', fun _ => 0, g'⟩ (fun r => ∀ c : Dev Cert.ReferenceYRIdeal.nD,
          r.2.mem ((c.tc : Thread Cert.ReferenceYRIdeal.nD Cert.ReferenceYRIdeal.τ).loc Cert.ReferenceYRIdeal.main_arg3) = v0 c
          ∧ r.2.mem ((c.tc : Thread Cert.ReferenceYRIdeal.nD Cert.ReferenceYRIdeal.τ).loc Cert.ReferenceYRIdeal.main_v9) = v1 c
          ∧ r.2.mem ((c.tc : Thread Cert.ReferenceYRIdeal.nD Cert.ReferenceYRIdeal.τ).loc Cert.ReferenceYRIdeal.main_v8) = v2 c
          ∧ r.2.mem ((c.tc : Thread Cert.ReferenceYRIdeal.nD Cert.ReferenceYRIdeal.τ).loc Cert.ReferenceYRIdeal.main_arg0) = m' ((c.tc : Thread Cert.ReferenceYRIdeal.nD Cert.ReferenceYRIdeal.τ).loc Cert.ReferenceYRIdeal.main_arg0)
          ∧ r.2.mem ((c.tc : Thread Cert.ReferenceYRIdeal.nD Cert.ReferenceYRIdeal.τ).loc Cert.ReferenceYRIdeal.main_arg1) = m' ((c.tc : Thread Cert.ReferenceYRIdeal.nD Cert.ReferenceYRIdeal.τ).loc Cert.ReferenceYRIdeal.main_arg1)
          ∧ r.2.mem ((c.tc : Thread Cert.ReferenceYRIdeal.nD Cert.ReferenceYRIdeal.τ).loc Cert.ReferenceYRIdeal.main_arg2) = m' ((c.tc : Thread Cert.ReferenceYRIdeal.nD Cert.ReferenceYRIdeal.τ).loc Cert.ReferenceYRIdeal.main_arg2)
          ∧ r.2.mem ((c.tc : Thread Cert.ReferenceYRIdeal.nD Cert.ReferenceYRIdeal.τ).loc Cert.ReferenceYRIdeal.main_arg3) = m' ((c.tc : Thread Cert.ReferenceYRIdeal.nD Cert.ReferenceYRIdeal.τ).loc Cert.ReferenceYRIdeal.main_arg3))

def preserves_KernelYO_KernelYOIdeal : Prop :=
  True

def algebraic_KernelYOIdeal_ReferenceYOIdeal [hKernelYOIdeal : Cert.KernelYOIdeal.Facts] [hReferenceYOIdeal : Cert.ReferenceYOIdeal.Facts] : Prop :=
  ∀ (m : (ℓ : Loc Cert.KernelYOIdeal.nD Cert.KernelYOIdeal.τ Cert.KernelYOIdeal.sig) → Buf (Elt Ideal) ℓ) (g : Dev Cert.KernelYOIdeal.nD → PrngReg)
    (m' : (ℓ : Loc Cert.ReferenceYOIdeal.nD Cert.ReferenceYOIdeal.τ Cert.ReferenceYOIdeal.sig) → Buf (Elt Ideal) ℓ) (g' : Dev Cert.ReferenceYOIdeal.nD → PrngReg), Pre_KernelYOIdeal m →
    (∀ c : Dev Cert.KernelYOIdeal.nD,
      m' ((c.tc : Thread Cert.ReferenceYOIdeal.nD Cert.ReferenceYOIdeal.τ).loc Cert.ReferenceYOIdeal.main_arg0) = m ((c.tc : Thread Cert.KernelYOIdeal.nD Cert.KernelYOIdeal.τ).loc Cert.KernelYOIdeal.main_arg0)
      ∧ m' ((c.tc : Thread Cert.ReferenceYOIdeal.nD Cert.ReferenceYOIdeal.τ).loc Cert.ReferenceYOIdeal.main_arg1) = m ((c.tc : Thread Cert.KernelYOIdeal.nD Cert.KernelYOIdeal.τ).loc Cert.KernelYOIdeal.main_arg1)) →
    ∃ (v0 : (c : Dev Cert.KernelYOIdeal.nD) → Buf (Elt Ideal) ((c.tc : Thread Cert.KernelYOIdeal.nD Cert.KernelYOIdeal.τ).loc Cert.KernelYOIdeal.main_v0)),
      θ_run (Cert.KernelYOIdeal.defs (F := Ideal)) (onTc (τ := Cert.KernelYOIdeal.τ) (Cert.KernelYOIdeal.main (F := Ideal))) ⟨m, fun _ => 0, g⟩ (fun r => ∀ c : Dev Cert.KernelYOIdeal.nD,
          r.2.mem ((c.tc : Thread Cert.KernelYOIdeal.nD Cert.KernelYOIdeal.τ).loc Cert.KernelYOIdeal.main_v0) = v0 c
          ∧ r.2.mem ((c.tc : Thread Cert.KernelYOIdeal.nD Cert.KernelYOIdeal.τ).loc Cert.KernelYOIdeal.main_arg0) = m ((c.tc : Thread Cert.KernelYOIdeal.nD Cert.KernelYOIdeal.τ).loc Cert.KernelYOIdeal.main_arg0)
          ∧ r.2.mem ((c.tc : Thread Cert.KernelYOIdeal.nD Cert.KernelYOIdeal.τ).loc Cert.KernelYOIdeal.main_arg1) = m ((c.tc : Thread Cert.KernelYOIdeal.nD Cert.KernelYOIdeal.τ).loc Cert.KernelYOIdeal.main_arg1))
      ∧ θ_run (Cert.ReferenceYOIdeal.defs (F := Ideal)) (onTc (τ := Cert.ReferenceYOIdeal.τ) (Cert.ReferenceYOIdeal.main (F := Ideal))) ⟨m', fun _ => 0, g'⟩ (fun r => ∀ c : Dev Cert.ReferenceYOIdeal.nD,
          r.2.mem ((c.tc : Thread Cert.ReferenceYOIdeal.nD Cert.ReferenceYOIdeal.τ).loc Cert.ReferenceYOIdeal.main_v3) = v0 c
          ∧ r.2.mem ((c.tc : Thread Cert.ReferenceYOIdeal.nD Cert.ReferenceYOIdeal.τ).loc Cert.ReferenceYOIdeal.main_arg0) = m' ((c.tc : Thread Cert.ReferenceYOIdeal.nD Cert.ReferenceYOIdeal.τ).loc Cert.ReferenceYOIdeal.main_arg0)
          ∧ r.2.mem ((c.tc : Thread Cert.ReferenceYOIdeal.nD Cert.ReferenceYOIdeal.τ).loc Cert.ReferenceYOIdeal.main_arg1) = m' ((c.tc : Thread Cert.ReferenceYOIdeal.nD Cert.ReferenceYOIdeal.τ).loc Cert.ReferenceYOIdeal.main_arg1))

def preserves_KernelYOW_KernelYOWIdeal : Prop :=
  True

def algebraic_KernelYOWIdeal_ReferenceYOWIdeal [hKernelYOWIdeal : Cert.KernelYOWIdeal.Facts] [hReferenceYOWIdeal : Cert.ReferenceYOWIdeal.Facts] : Prop :=
  ∀ (m : (ℓ : Loc Cert.KernelYOWIdeal.nD Cert.KernelYOWIdeal.τ Cert.KernelYOWIdeal.sig) → Buf (Elt Ideal) ℓ) (g : Dev Cert.KernelYOWIdeal.nD → PrngReg)
    (m' : (ℓ : Loc Cert.ReferenceYOWIdeal.nD Cert.ReferenceYOWIdeal.τ Cert.ReferenceYOWIdeal.sig) → Buf (Elt Ideal) ℓ) (g' : Dev Cert.ReferenceYOWIdeal.nD → PrngReg), Pre_KernelYOWIdeal m →
    (∀ c : Dev Cert.KernelYOWIdeal.nD,
      m' ((c.tc : Thread Cert.ReferenceYOWIdeal.nD Cert.ReferenceYOWIdeal.τ).loc Cert.ReferenceYOWIdeal.main_arg0) = m ((c.tc : Thread Cert.KernelYOWIdeal.nD Cert.KernelYOWIdeal.τ).loc Cert.KernelYOWIdeal.main_arg0)
      ∧ m' ((c.tc : Thread Cert.ReferenceYOWIdeal.nD Cert.ReferenceYOWIdeal.τ).loc Cert.ReferenceYOWIdeal.main_arg1) = m ((c.tc : Thread Cert.KernelYOWIdeal.nD Cert.KernelYOWIdeal.τ).loc Cert.KernelYOWIdeal.main_arg1)) →
    ∃ (v0 : (c : Dev Cert.KernelYOWIdeal.nD) → Buf (Elt Ideal) ((c.tc : Thread Cert.KernelYOWIdeal.nD Cert.KernelYOWIdeal.τ).loc Cert.KernelYOWIdeal.main_v0)),
      θ_run (Cert.KernelYOWIdeal.defs (F := Ideal)) (onTc (τ := Cert.KernelYOWIdeal.τ) (Cert.KernelYOWIdeal.main (F := Ideal))) ⟨m, fun _ => 0, g⟩ (fun r => ∀ c : Dev Cert.KernelYOWIdeal.nD,
          r.2.mem ((c.tc : Thread Cert.KernelYOWIdeal.nD Cert.KernelYOWIdeal.τ).loc Cert.KernelYOWIdeal.main_v0) = v0 c
          ∧ r.2.mem ((c.tc : Thread Cert.KernelYOWIdeal.nD Cert.KernelYOWIdeal.τ).loc Cert.KernelYOWIdeal.main_arg0) = m ((c.tc : Thread Cert.KernelYOWIdeal.nD Cert.KernelYOWIdeal.τ).loc Cert.KernelYOWIdeal.main_arg0)
          ∧ r.2.mem ((c.tc : Thread Cert.KernelYOWIdeal.nD Cert.KernelYOWIdeal.τ).loc Cert.KernelYOWIdeal.main_arg1) = m ((c.tc : Thread Cert.KernelYOWIdeal.nD Cert.KernelYOWIdeal.τ).loc Cert.KernelYOWIdeal.main_arg1))
      ∧ θ_run (Cert.ReferenceYOWIdeal.defs (F := Ideal)) (onTc (τ := Cert.ReferenceYOWIdeal.τ) (Cert.ReferenceYOWIdeal.main (F := Ideal))) ⟨m', fun _ => 0, g'⟩ (fun r => ∀ c : Dev Cert.ReferenceYOWIdeal.nD,
          r.2.mem ((c.tc : Thread Cert.ReferenceYOWIdeal.nD Cert.ReferenceYOWIdeal.τ).loc Cert.ReferenceYOWIdeal.main_v3) = v0 c
          ∧ r.2.mem ((c.tc : Thread Cert.ReferenceYOWIdeal.nD Cert.ReferenceYOWIdeal.τ).loc Cert.ReferenceYOWIdeal.main_arg0) = m' ((c.tc : Thread Cert.ReferenceYOWIdeal.nD Cert.ReferenceYOWIdeal.τ).loc Cert.ReferenceYOWIdeal.main_arg0)
          ∧ r.2.mem ((c.tc : Thread Cert.ReferenceYOWIdeal.nD Cert.ReferenceYOWIdeal.τ).loc Cert.ReferenceYOWIdeal.main_arg1) = m' ((c.tc : Thread Cert.ReferenceYOWIdeal.nD Cert.ReferenceYOWIdeal.τ).loc Cert.ReferenceYOWIdeal.main_arg1))

def preserves_KernelYS_KernelYSIdeal : Prop :=
  True

def algebraic_KernelYSIdeal_ReferenceYSIdeal [hKernelYSIdeal : Cert.KernelYSIdeal.Facts] [hReferenceYSIdeal : Cert.ReferenceYSIdeal.Facts] : Prop :=
  ∀ (m : (ℓ : Loc Cert.KernelYSIdeal.nD Cert.KernelYSIdeal.τ Cert.KernelYSIdeal.sig) → Buf (Elt Ideal) ℓ) (g : Dev Cert.KernelYSIdeal.nD → PrngReg)
    (m' : (ℓ : Loc Cert.ReferenceYSIdeal.nD Cert.ReferenceYSIdeal.τ Cert.ReferenceYSIdeal.sig) → Buf (Elt Ideal) ℓ) (g' : Dev Cert.ReferenceYSIdeal.nD → PrngReg), Pre_KernelYSIdeal m →
    (∀ c : Dev Cert.KernelYSIdeal.nD,
      m' ((c.tc : Thread Cert.ReferenceYSIdeal.nD Cert.ReferenceYSIdeal.τ).loc Cert.ReferenceYSIdeal.main_arg0) = m ((c.tc : Thread Cert.KernelYSIdeal.nD Cert.KernelYSIdeal.τ).loc Cert.KernelYSIdeal.main_arg0)
      ∧ m' ((c.tc : Thread Cert.ReferenceYSIdeal.nD Cert.ReferenceYSIdeal.τ).loc Cert.ReferenceYSIdeal.main_arg1) = m ((c.tc : Thread Cert.KernelYSIdeal.nD Cert.KernelYSIdeal.τ).loc Cert.KernelYSIdeal.main_arg1)) →
    ∃ (v0 : (c : Dev Cert.KernelYSIdeal.nD) → Buf (Elt Ideal) ((c.tc : Thread Cert.KernelYSIdeal.nD Cert.KernelYSIdeal.τ).loc Cert.KernelYSIdeal.main_v0)),
      θ_run (Cert.KernelYSIdeal.defs (F := Ideal)) (onTc (τ := Cert.KernelYSIdeal.τ) (Cert.KernelYSIdeal.main (F := Ideal))) ⟨m, fun _ => 0, g⟩ (fun r => ∀ c : Dev Cert.KernelYSIdeal.nD,
          r.2.mem ((c.tc : Thread Cert.KernelYSIdeal.nD Cert.KernelYSIdeal.τ).loc Cert.KernelYSIdeal.main_v0) = v0 c
          ∧ r.2.mem ((c.tc : Thread Cert.KernelYSIdeal.nD Cert.KernelYSIdeal.τ).loc Cert.KernelYSIdeal.main_arg0) = m ((c.tc : Thread Cert.KernelYSIdeal.nD Cert.KernelYSIdeal.τ).loc Cert.KernelYSIdeal.main_arg0)
          ∧ r.2.mem ((c.tc : Thread Cert.KernelYSIdeal.nD Cert.KernelYSIdeal.τ).loc Cert.KernelYSIdeal.main_arg1) = m ((c.tc : Thread Cert.KernelYSIdeal.nD Cert.KernelYSIdeal.τ).loc Cert.KernelYSIdeal.main_arg1))
      ∧ θ_run (Cert.ReferenceYSIdeal.defs (F := Ideal)) (onTc (τ := Cert.ReferenceYSIdeal.τ) (Cert.ReferenceYSIdeal.main (F := Ideal))) ⟨m', fun _ => 0, g'⟩ (fun r => ∀ c : Dev Cert.ReferenceYSIdeal.nD,
          r.2.mem ((c.tc : Thread Cert.ReferenceYSIdeal.nD Cert.ReferenceYSIdeal.τ).loc Cert.ReferenceYSIdeal.main_v10) = v0 c
          ∧ r.2.mem ((c.tc : Thread Cert.ReferenceYSIdeal.nD Cert.ReferenceYSIdeal.τ).loc Cert.ReferenceYSIdeal.main_arg0) = m' ((c.tc : Thread Cert.ReferenceYSIdeal.nD Cert.ReferenceYSIdeal.τ).loc Cert.ReferenceYSIdeal.main_arg0)
          ∧ r.2.mem ((c.tc : Thread Cert.ReferenceYSIdeal.nD Cert.ReferenceYSIdeal.τ).loc Cert.ReferenceYSIdeal.main_arg1) = m' ((c.tc : Thread Cert.ReferenceYSIdeal.nD Cert.ReferenceYSIdeal.τ).loc Cert.ReferenceYSIdeal.main_arg1))

def preserves_KernelYI_KernelYIIdeal : Prop :=
  True

def algebraic_KernelYIIdeal_ReferenceYIIdeal [hKernelYIIdeal : Cert.KernelYIIdeal.Facts] [hReferenceYIIdeal : Cert.ReferenceYIIdeal.Facts] : Prop :=
  ∀ (m : (ℓ : Loc Cert.KernelYIIdeal.nD Cert.KernelYIIdeal.τ Cert.KernelYIIdeal.sig) → Buf (Elt Ideal) ℓ) (g : Dev Cert.KernelYIIdeal.nD → PrngReg)
    (m' : (ℓ : Loc Cert.ReferenceYIIdeal.nD Cert.ReferenceYIIdeal.τ Cert.ReferenceYIIdeal.sig) → Buf (Elt Ideal) ℓ) (g' : Dev Cert.ReferenceYIIdeal.nD → PrngReg), Pre_KernelYIIdeal m →
    (∀ c : Dev Cert.KernelYIIdeal.nD,
      m' ((c.tc : Thread Cert.ReferenceYIIdeal.nD Cert.ReferenceYIIdeal.τ).loc Cert.ReferenceYIIdeal.main_arg0) = m ((c.tc : Thread Cert.KernelYIIdeal.nD Cert.KernelYIIdeal.τ).loc Cert.KernelYIIdeal.main_arg0)
      ∧ m' ((c.tc : Thread Cert.ReferenceYIIdeal.nD Cert.ReferenceYIIdeal.τ).loc Cert.ReferenceYIIdeal.main_arg1) = m ((c.tc : Thread Cert.KernelYIIdeal.nD Cert.KernelYIIdeal.τ).loc Cert.KernelYIIdeal.main_arg1)) →
    ∃ (v0 : (c : Dev Cert.KernelYIIdeal.nD) → Buf (Elt Ideal) ((c.tc : Thread Cert.KernelYIIdeal.nD Cert.KernelYIIdeal.τ).loc Cert.KernelYIIdeal.main_v0)),
      θ_run (Cert.KernelYIIdeal.defs (F := Ideal)) (onTc (τ := Cert.KernelYIIdeal.τ) (Cert.KernelYIIdeal.main (F := Ideal))) ⟨m, fun _ => 0, g⟩ (fun r => ∀ c : Dev Cert.KernelYIIdeal.nD,
          r.2.mem ((c.tc : Thread Cert.KernelYIIdeal.nD Cert.KernelYIIdeal.τ).loc Cert.KernelYIIdeal.main_v0) = v0 c
          ∧ r.2.mem ((c.tc : Thread Cert.KernelYIIdeal.nD Cert.KernelYIIdeal.τ).loc Cert.KernelYIIdeal.main_arg0) = m ((c.tc : Thread Cert.KernelYIIdeal.nD Cert.KernelYIIdeal.τ).loc Cert.KernelYIIdeal.main_arg0)
          ∧ r.2.mem ((c.tc : Thread Cert.KernelYIIdeal.nD Cert.KernelYIIdeal.τ).loc Cert.KernelYIIdeal.main_arg1) = m ((c.tc : Thread Cert.KernelYIIdeal.nD Cert.KernelYIIdeal.τ).loc Cert.KernelYIIdeal.main_arg1))
      ∧ θ_run (Cert.ReferenceYIIdeal.defs (F := Ideal)) (onTc (τ := Cert.ReferenceYIIdeal.τ) (Cert.ReferenceYIIdeal.main (F := Ideal))) ⟨m', fun _ => 0, g'⟩ (fun r => ∀ c : Dev Cert.ReferenceYIIdeal.nD,
          r.2.mem ((c.tc : Thread Cert.ReferenceYIIdeal.nD Cert.ReferenceYIIdeal.τ).loc Cert.ReferenceYIIdeal.main_v2) = v0 c
          ∧ r.2.mem ((c.tc : Thread Cert.ReferenceYIIdeal.nD Cert.ReferenceYIIdeal.τ).loc Cert.ReferenceYIIdeal.main_arg0) = m' ((c.tc : Thread Cert.ReferenceYIIdeal.nD Cert.ReferenceYIIdeal.τ).loc Cert.ReferenceYIIdeal.main_arg0)
          ∧ r.2.mem ((c.tc : Thread Cert.ReferenceYIIdeal.nD Cert.ReferenceYIIdeal.τ).loc Cert.ReferenceYIIdeal.main_arg1) = m' ((c.tc : Thread Cert.ReferenceYIIdeal.nD Cert.ReferenceYIIdeal.τ).loc Cert.ReferenceYIIdeal.main_arg1))

def preserves_KernelYIW_KernelYIWIdeal : Prop :=
  True

def algebraic_KernelYIWIdeal_ReferenceYIWIdeal [hKernelYIWIdeal : Cert.KernelYIWIdeal.Facts] [hReferenceYIWIdeal : Cert.ReferenceYIWIdeal.Facts] : Prop :=
  ∀ (m : (ℓ : Loc Cert.KernelYIWIdeal.nD Cert.KernelYIWIdeal.τ Cert.KernelYIWIdeal.sig) → Buf (Elt Ideal) ℓ) (g : Dev Cert.KernelYIWIdeal.nD → PrngReg)
    (m' : (ℓ : Loc Cert.ReferenceYIWIdeal.nD Cert.ReferenceYIWIdeal.τ Cert.ReferenceYIWIdeal.sig) → Buf (Elt Ideal) ℓ) (g' : Dev Cert.ReferenceYIWIdeal.nD → PrngReg), Pre_KernelYIWIdeal m →
    (∀ c : Dev Cert.KernelYIWIdeal.nD,
      m' ((c.tc : Thread Cert.ReferenceYIWIdeal.nD Cert.ReferenceYIWIdeal.τ).loc Cert.ReferenceYIWIdeal.main_arg0) = m ((c.tc : Thread Cert.KernelYIWIdeal.nD Cert.KernelYIWIdeal.τ).loc Cert.KernelYIWIdeal.main_arg0)
      ∧ m' ((c.tc : Thread Cert.ReferenceYIWIdeal.nD Cert.ReferenceYIWIdeal.τ).loc Cert.ReferenceYIWIdeal.main_arg1) = m ((c.tc : Thread Cert.KernelYIWIdeal.nD Cert.KernelYIWIdeal.τ).loc Cert.KernelYIWIdeal.main_arg1)) →
    ∃ (v0 : (c : Dev Cert.KernelYIWIdeal.nD) → Buf (Elt Ideal) ((c.tc : Thread Cert.KernelYIWIdeal.nD Cert.KernelYIWIdeal.τ).loc Cert.KernelYIWIdeal.main_v0)),
      θ_run (Cert.KernelYIWIdeal.defs (F := Ideal)) (onTc (τ := Cert.KernelYIWIdeal.τ) (Cert.KernelYIWIdeal.main (F := Ideal))) ⟨m, fun _ => 0, g⟩ (fun r => ∀ c : Dev Cert.KernelYIWIdeal.nD,
          r.2.mem ((c.tc : Thread Cert.KernelYIWIdeal.nD Cert.KernelYIWIdeal.τ).loc Cert.KernelYIWIdeal.main_v0) = v0 c
          ∧ r.2.mem ((c.tc : Thread Cert.KernelYIWIdeal.nD Cert.KernelYIWIdeal.τ).loc Cert.KernelYIWIdeal.main_arg0) = m ((c.tc : Thread Cert.KernelYIWIdeal.nD Cert.KernelYIWIdeal.τ).loc Cert.KernelYIWIdeal.main_arg0)
          ∧ r.2.mem ((c.tc : Thread Cert.KernelYIWIdeal.nD Cert.KernelYIWIdeal.τ).loc Cert.KernelYIWIdeal.main_arg1) = m ((c.tc : Thread Cert.KernelYIWIdeal.nD Cert.KernelYIWIdeal.τ).loc Cert.KernelYIWIdeal.main_arg1))
      ∧ θ_run (Cert.ReferenceYIWIdeal.defs (F := Ideal)) (onTc (τ := Cert.ReferenceYIWIdeal.τ) (Cert.ReferenceYIWIdeal.main (F := Ideal))) ⟨m', fun _ => 0, g'⟩ (fun r => ∀ c : Dev Cert.ReferenceYIWIdeal.nD,
          r.2.mem ((c.tc : Thread Cert.ReferenceYIWIdeal.nD Cert.ReferenceYIWIdeal.τ).loc Cert.ReferenceYIWIdeal.main_v3) = v0 c
          ∧ r.2.mem ((c.tc : Thread Cert.ReferenceYIWIdeal.nD Cert.ReferenceYIWIdeal.τ).loc Cert.ReferenceYIWIdeal.main_arg0) = m' ((c.tc : Thread Cert.ReferenceYIWIdeal.nD Cert.ReferenceYIWIdeal.τ).loc Cert.ReferenceYIWIdeal.main_arg0)
          ∧ r.2.mem ((c.tc : Thread Cert.ReferenceYIWIdeal.nD Cert.ReferenceYIWIdeal.τ).loc Cert.ReferenceYIWIdeal.main_arg1) = m' ((c.tc : Thread Cert.ReferenceYIWIdeal.nD Cert.ReferenceYIWIdeal.τ).loc Cert.ReferenceYIWIdeal.main_arg1))

def preserves_KernelZI_KernelZIIdeal : Prop :=
  True

def algebraic_KernelZIIdeal_ReferenceZIIdeal [hKernelZIIdeal : Cert.KernelZIIdeal.Facts] [hReferenceZIIdeal : Cert.ReferenceZIIdeal.Facts] : Prop :=
  ∀ (m : (ℓ : Loc Cert.KernelZIIdeal.nD Cert.KernelZIIdeal.τ Cert.KernelZIIdeal.sig) → Buf (Elt Ideal) ℓ) (g : Dev Cert.KernelZIIdeal.nD → PrngReg)
    (m' : (ℓ : Loc Cert.ReferenceZIIdeal.nD Cert.ReferenceZIIdeal.τ Cert.ReferenceZIIdeal.sig) → Buf (Elt Ideal) ℓ) (g' : Dev Cert.ReferenceZIIdeal.nD → PrngReg), Pre_KernelZIIdeal m →
    (∀ c : Dev Cert.KernelZIIdeal.nD,
      m' ((c.tc : Thread Cert.ReferenceZIIdeal.nD Cert.ReferenceZIIdeal.τ).loc Cert.ReferenceZIIdeal.main_arg0) = m ((c.tc : Thread Cert.KernelZIIdeal.nD Cert.KernelZIIdeal.τ).loc Cert.KernelZIIdeal.main_arg0)
      ∧ m' ((c.tc : Thread Cert.ReferenceZIIdeal.nD Cert.ReferenceZIIdeal.τ).loc Cert.ReferenceZIIdeal.main_arg1) = m ((c.tc : Thread Cert.KernelZIIdeal.nD Cert.KernelZIIdeal.τ).loc Cert.KernelZIIdeal.main_arg1)) →
    ∃ (v0 : (c : Dev Cert.KernelZIIdeal.nD) → Buf (Elt Ideal) ((c.tc : Thread Cert.KernelZIIdeal.nD Cert.KernelZIIdeal.τ).loc Cert.KernelZIIdeal.main_v0)),
      θ_run (Cert.KernelZIIdeal.defs (F := Ideal)) (onTc (τ := Cert.KernelZIIdeal.τ) (Cert.KernelZIIdeal.main (F := Ideal))) ⟨m, fun _ => 0, g⟩ (fun r => ∀ c : Dev Cert.KernelZIIdeal.nD,
          r.2.mem ((c.tc : Thread Cert.KernelZIIdeal.nD Cert.KernelZIIdeal.τ).loc Cert.KernelZIIdeal.main_v0) = v0 c
          ∧ r.2.mem ((c.tc : Thread Cert.KernelZIIdeal.nD Cert.KernelZIIdeal.τ).loc Cert.KernelZIIdeal.main_arg0) = m ((c.tc : Thread Cert.KernelZIIdeal.nD Cert.KernelZIIdeal.τ).loc Cert.KernelZIIdeal.main_arg0)
          ∧ r.2.mem ((c.tc : Thread Cert.KernelZIIdeal.nD Cert.KernelZIIdeal.τ).loc Cert.KernelZIIdeal.main_arg1) = m ((c.tc : Thread Cert.KernelZIIdeal.nD Cert.KernelZIIdeal.τ).loc Cert.KernelZIIdeal.main_arg1))
      ∧ θ_run (Cert.ReferenceZIIdeal.defs (F := Ideal)) (onTc (τ := Cert.ReferenceZIIdeal.τ) (Cert.ReferenceZIIdeal.main (F := Ideal))) ⟨m', fun _ => 0, g'⟩ (fun r => ∀ c : Dev Cert.ReferenceZIIdeal.nD,
          r.2.mem ((c.tc : Thread Cert.ReferenceZIIdeal.nD Cert.ReferenceZIIdeal.τ).loc Cert.ReferenceZIIdeal.main_v2) = v0 c
          ∧ r.2.mem ((c.tc : Thread Cert.ReferenceZIIdeal.nD Cert.ReferenceZIIdeal.τ).loc Cert.ReferenceZIIdeal.main_arg0) = m' ((c.tc : Thread Cert.ReferenceZIIdeal.nD Cert.ReferenceZIIdeal.τ).loc Cert.ReferenceZIIdeal.main_arg0)
          ∧ r.2.mem ((c.tc : Thread Cert.ReferenceZIIdeal.nD Cert.ReferenceZIIdeal.τ).loc Cert.ReferenceZIIdeal.main_arg1) = m' ((c.tc : Thread Cert.ReferenceZIIdeal.nD Cert.ReferenceZIIdeal.τ).loc Cert.ReferenceZIIdeal.main_arg1))

def preserves_KernelZO_KernelZOIdeal : Prop :=
  True

def algebraic_KernelZOIdeal_ReferenceZOIdeal [hKernelZOIdeal : Cert.KernelZOIdeal.Facts] [hReferenceZOIdeal : Cert.ReferenceZOIdeal.Facts] : Prop :=
  ∀ (m : (ℓ : Loc Cert.KernelZOIdeal.nD Cert.KernelZOIdeal.τ Cert.KernelZOIdeal.sig) → Buf (Elt Ideal) ℓ) (g : Dev Cert.KernelZOIdeal.nD → PrngReg)
    (m' : (ℓ : Loc Cert.ReferenceZOIdeal.nD Cert.ReferenceZOIdeal.τ Cert.ReferenceZOIdeal.sig) → Buf (Elt Ideal) ℓ) (g' : Dev Cert.ReferenceZOIdeal.nD → PrngReg), Pre_KernelZOIdeal m →
    (∀ c : Dev Cert.KernelZOIdeal.nD,
      m' ((c.tc : Thread Cert.ReferenceZOIdeal.nD Cert.ReferenceZOIdeal.τ).loc Cert.ReferenceZOIdeal.main_arg0) = m ((c.tc : Thread Cert.KernelZOIdeal.nD Cert.KernelZOIdeal.τ).loc Cert.KernelZOIdeal.main_arg0)
      ∧ m' ((c.tc : Thread Cert.ReferenceZOIdeal.nD Cert.ReferenceZOIdeal.τ).loc Cert.ReferenceZOIdeal.main_arg1) = m ((c.tc : Thread Cert.KernelZOIdeal.nD Cert.KernelZOIdeal.τ).loc Cert.KernelZOIdeal.main_arg1)) →
    ∃ (v0 : (c : Dev Cert.KernelZOIdeal.nD) → Buf (Elt Ideal) ((c.tc : Thread Cert.KernelZOIdeal.nD Cert.KernelZOIdeal.τ).loc Cert.KernelZOIdeal.main_v0)),
      θ_run (Cert.KernelZOIdeal.defs (F := Ideal)) (onTc (τ := Cert.KernelZOIdeal.τ) (Cert.KernelZOIdeal.main (F := Ideal))) ⟨m, fun _ => 0, g⟩ (fun r => ∀ c : Dev Cert.KernelZOIdeal.nD,
          r.2.mem ((c.tc : Thread Cert.KernelZOIdeal.nD Cert.KernelZOIdeal.τ).loc Cert.KernelZOIdeal.main_v0) = v0 c
          ∧ r.2.mem ((c.tc : Thread Cert.KernelZOIdeal.nD Cert.KernelZOIdeal.τ).loc Cert.KernelZOIdeal.main_arg0) = m ((c.tc : Thread Cert.KernelZOIdeal.nD Cert.KernelZOIdeal.τ).loc Cert.KernelZOIdeal.main_arg0)
          ∧ r.2.mem ((c.tc : Thread Cert.KernelZOIdeal.nD Cert.KernelZOIdeal.τ).loc Cert.KernelZOIdeal.main_arg1) = m ((c.tc : Thread Cert.KernelZOIdeal.nD Cert.KernelZOIdeal.τ).loc Cert.KernelZOIdeal.main_arg1))
      ∧ θ_run (Cert.ReferenceZOIdeal.defs (F := Ideal)) (onTc (τ := Cert.ReferenceZOIdeal.τ) (Cert.ReferenceZOIdeal.main (F := Ideal))) ⟨m', fun _ => 0, g'⟩ (fun r => ∀ c : Dev Cert.ReferenceZOIdeal.nD,
          r.2.mem ((c.tc : Thread Cert.ReferenceZOIdeal.nD Cert.ReferenceZOIdeal.τ).loc Cert.ReferenceZOIdeal.main_v2) = v0 c
          ∧ r.2.mem ((c.tc : Thread Cert.ReferenceZOIdeal.nD Cert.ReferenceZOIdeal.τ).loc Cert.ReferenceZOIdeal.main_arg0) = m' ((c.tc : Thread Cert.ReferenceZOIdeal.nD Cert.ReferenceZOIdeal.τ).loc Cert.ReferenceZOIdeal.main_arg0)
          ∧ r.2.mem ((c.tc : Thread Cert.ReferenceZOIdeal.nD Cert.ReferenceZOIdeal.τ).loc Cert.ReferenceZOIdeal.main_arg1) = m' ((c.tc : Thread Cert.ReferenceZOIdeal.nD Cert.ReferenceZOIdeal.τ).loc Cert.ReferenceZOIdeal.main_arg1))

def preserves_KernelZOX_KernelZOXIdeal : Prop :=
  True

def algebraic_KernelZOXIdeal_ReferenceZOXIdeal [hKernelZOXIdeal : Cert.KernelZOXIdeal.Facts] [hReferenceZOXIdeal : Cert.ReferenceZOXIdeal.Facts] : Prop :=
  ∀ (m : (ℓ : Loc Cert.KernelZOXIdeal.nD Cert.KernelZOXIdeal.τ Cert.KernelZOXIdeal.sig) → Buf (Elt Ideal) ℓ) (g : Dev Cert.KernelZOXIdeal.nD → PrngReg)
    (m' : (ℓ : Loc Cert.ReferenceZOXIdeal.nD Cert.ReferenceZOXIdeal.τ Cert.ReferenceZOXIdeal.sig) → Buf (Elt Ideal) ℓ) (g' : Dev Cert.ReferenceZOXIdeal.nD → PrngReg), Pre_KernelZOXIdeal m →
    (∀ c : Dev Cert.KernelZOXIdeal.nD,
      m' ((c.tc : Thread Cert.ReferenceZOXIdeal.nD Cert.ReferenceZOXIdeal.τ).loc Cert.ReferenceZOXIdeal.main_arg0) = m ((c.tc : Thread Cert.KernelZOXIdeal.nD Cert.KernelZOXIdeal.τ).loc Cert.KernelZOXIdeal.main_arg0)
      ∧ m' ((c.tc : Thread Cert.ReferenceZOXIdeal.nD Cert.ReferenceZOXIdeal.τ).loc Cert.ReferenceZOXIdeal.main_arg1) = m ((c.tc : Thread Cert.KernelZOXIdeal.nD Cert.KernelZOXIdeal.τ).loc Cert.KernelZOXIdeal.main_arg1)) →
    ∃ (v0 : (c : Dev Cert.KernelZOXIdeal.nD) → Buf (Elt Ideal) ((c.tc : Thread Cert.KernelZOXIdeal.nD Cert.KernelZOXIdeal.τ).loc Cert.KernelZOXIdeal.main_v0)),
      θ_run (Cert.KernelZOXIdeal.defs (F := Ideal)) (onTc (τ := Cert.KernelZOXIdeal.τ) (Cert.KernelZOXIdeal.main (F := Ideal))) ⟨m, fun _ => 0, g⟩ (fun r => ∀ c : Dev Cert.KernelZOXIdeal.nD,
          r.2.mem ((c.tc : Thread Cert.KernelZOXIdeal.nD Cert.KernelZOXIdeal.τ).loc Cert.KernelZOXIdeal.main_v0) = v0 c
          ∧ r.2.mem ((c.tc : Thread Cert.KernelZOXIdeal.nD Cert.KernelZOXIdeal.τ).loc Cert.KernelZOXIdeal.main_arg0) = m ((c.tc : Thread Cert.KernelZOXIdeal.nD Cert.KernelZOXIdeal.τ).loc Cert.KernelZOXIdeal.main_arg0)
          ∧ r.2.mem ((c.tc : Thread Cert.KernelZOXIdeal.nD Cert.KernelZOXIdeal.τ).loc Cert.KernelZOXIdeal.main_arg1) = m ((c.tc : Thread Cert.KernelZOXIdeal.nD Cert.KernelZOXIdeal.τ).loc Cert.KernelZOXIdeal.main_arg1))
      ∧ θ_run (Cert.ReferenceZOXIdeal.defs (F := Ideal)) (onTc (τ := Cert.ReferenceZOXIdeal.τ) (Cert.ReferenceZOXIdeal.main (F := Ideal))) ⟨m', fun _ => 0, g'⟩ (fun r => ∀ c : Dev Cert.ReferenceZOXIdeal.nD,
          r.2.mem ((c.tc : Thread Cert.ReferenceZOXIdeal.nD Cert.ReferenceZOXIdeal.τ).loc Cert.ReferenceZOXIdeal.main_v2) = v0 c
          ∧ r.2.mem ((c.tc : Thread Cert.ReferenceZOXIdeal.nD Cert.ReferenceZOXIdeal.τ).loc Cert.ReferenceZOXIdeal.main_arg0) = m' ((c.tc : Thread Cert.ReferenceZOXIdeal.nD Cert.ReferenceZOXIdeal.τ).loc Cert.ReferenceZOXIdeal.main_arg0)
          ∧ r.2.mem ((c.tc : Thread Cert.ReferenceZOXIdeal.nD Cert.ReferenceZOXIdeal.τ).loc Cert.ReferenceZOXIdeal.main_arg1) = m' ((c.tc : Thread Cert.ReferenceZOXIdeal.nD Cert.ReferenceZOXIdeal.τ).loc Cert.ReferenceZOXIdeal.main_arg1))

def preserves_KernelZOW_KernelZOWIdeal : Prop :=
  True

def algebraic_KernelZOWIdeal_ReferenceZOWIdeal [hKernelZOWIdeal : Cert.KernelZOWIdeal.Facts] [hReferenceZOWIdeal : Cert.ReferenceZOWIdeal.Facts] : Prop :=
  ∀ (m : (ℓ : Loc Cert.KernelZOWIdeal.nD Cert.KernelZOWIdeal.τ Cert.KernelZOWIdeal.sig) → Buf (Elt Ideal) ℓ) (g : Dev Cert.KernelZOWIdeal.nD → PrngReg)
    (m' : (ℓ : Loc Cert.ReferenceZOWIdeal.nD Cert.ReferenceZOWIdeal.τ Cert.ReferenceZOWIdeal.sig) → Buf (Elt Ideal) ℓ) (g' : Dev Cert.ReferenceZOWIdeal.nD → PrngReg), Pre_KernelZOWIdeal m →
    (∀ c : Dev Cert.KernelZOWIdeal.nD,
      m' ((c.tc : Thread Cert.ReferenceZOWIdeal.nD Cert.ReferenceZOWIdeal.τ).loc Cert.ReferenceZOWIdeal.main_arg0) = m ((c.tc : Thread Cert.KernelZOWIdeal.nD Cert.KernelZOWIdeal.τ).loc Cert.KernelZOWIdeal.main_arg0)
      ∧ m' ((c.tc : Thread Cert.ReferenceZOWIdeal.nD Cert.ReferenceZOWIdeal.τ).loc Cert.ReferenceZOWIdeal.main_arg1) = m ((c.tc : Thread Cert.KernelZOWIdeal.nD Cert.KernelZOWIdeal.τ).loc Cert.KernelZOWIdeal.main_arg1)) →
    ∃ (v0 : (c : Dev Cert.KernelZOWIdeal.nD) → Buf (Elt Ideal) ((c.tc : Thread Cert.KernelZOWIdeal.nD Cert.KernelZOWIdeal.τ).loc Cert.KernelZOWIdeal.main_v0)),
      θ_run (Cert.KernelZOWIdeal.defs (F := Ideal)) (onTc (τ := Cert.KernelZOWIdeal.τ) (Cert.KernelZOWIdeal.main (F := Ideal))) ⟨m, fun _ => 0, g⟩ (fun r => ∀ c : Dev Cert.KernelZOWIdeal.nD,
          r.2.mem ((c.tc : Thread Cert.KernelZOWIdeal.nD Cert.KernelZOWIdeal.τ).loc Cert.KernelZOWIdeal.main_v0) = v0 c
          ∧ r.2.mem ((c.tc : Thread Cert.KernelZOWIdeal.nD Cert.KernelZOWIdeal.τ).loc Cert.KernelZOWIdeal.main_arg0) = m ((c.tc : Thread Cert.KernelZOWIdeal.nD Cert.KernelZOWIdeal.τ).loc Cert.KernelZOWIdeal.main_arg0)
          ∧ r.2.mem ((c.tc : Thread Cert.KernelZOWIdeal.nD Cert.KernelZOWIdeal.τ).loc Cert.KernelZOWIdeal.main_arg1) = m ((c.tc : Thread Cert.KernelZOWIdeal.nD Cert.KernelZOWIdeal.τ).loc Cert.KernelZOWIdeal.main_arg1))
      ∧ θ_run (Cert.ReferenceZOWIdeal.defs (F := Ideal)) (onTc (τ := Cert.ReferenceZOWIdeal.τ) (Cert.ReferenceZOWIdeal.main (F := Ideal))) ⟨m', fun _ => 0, g'⟩ (fun r => ∀ c : Dev Cert.ReferenceZOWIdeal.nD,
          r.2.mem ((c.tc : Thread Cert.ReferenceZOWIdeal.nD Cert.ReferenceZOWIdeal.τ).loc Cert.ReferenceZOWIdeal.main_v3) = v0 c
          ∧ r.2.mem ((c.tc : Thread Cert.ReferenceZOWIdeal.nD Cert.ReferenceZOWIdeal.τ).loc Cert.ReferenceZOWIdeal.main_arg0) = m' ((c.tc : Thread Cert.ReferenceZOWIdeal.nD Cert.ReferenceZOWIdeal.τ).loc Cert.ReferenceZOWIdeal.main_arg0)
          ∧ r.2.mem ((c.tc : Thread Cert.ReferenceZOWIdeal.nD Cert.ReferenceZOWIdeal.τ).loc Cert.ReferenceZOWIdeal.main_arg1) = m' ((c.tc : Thread Cert.ReferenceZOWIdeal.nD Cert.ReferenceZOWIdeal.τ).loc Cert.ReferenceZOWIdeal.main_arg1))

def preserves_KernelZIX_KernelZIXIdeal : Prop :=
  True

def algebraic_KernelZIXIdeal_ReferenceZIXIdeal [hKernelZIXIdeal : Cert.KernelZIXIdeal.Facts] [hReferenceZIXIdeal : Cert.ReferenceZIXIdeal.Facts] : Prop :=
  ∀ (m : (ℓ : Loc Cert.KernelZIXIdeal.nD Cert.KernelZIXIdeal.τ Cert.KernelZIXIdeal.sig) → Buf (Elt Ideal) ℓ) (g : Dev Cert.KernelZIXIdeal.nD → PrngReg)
    (m' : (ℓ : Loc Cert.ReferenceZIXIdeal.nD Cert.ReferenceZIXIdeal.τ Cert.ReferenceZIXIdeal.sig) → Buf (Elt Ideal) ℓ) (g' : Dev Cert.ReferenceZIXIdeal.nD → PrngReg), Pre_KernelZIXIdeal m →
    (∀ c : Dev Cert.KernelZIXIdeal.nD,
      m' ((c.tc : Thread Cert.ReferenceZIXIdeal.nD Cert.ReferenceZIXIdeal.τ).loc Cert.ReferenceZIXIdeal.main_arg0) = m ((c.tc : Thread Cert.KernelZIXIdeal.nD Cert.KernelZIXIdeal.τ).loc Cert.KernelZIXIdeal.main_arg0)
      ∧ m' ((c.tc : Thread Cert.ReferenceZIXIdeal.nD Cert.ReferenceZIXIdeal.τ).loc Cert.ReferenceZIXIdeal.main_arg1) = m ((c.tc : Thread Cert.KernelZIXIdeal.nD Cert.KernelZIXIdeal.τ).loc Cert.KernelZIXIdeal.main_arg1)) →
    ∃ (v0 : (c : Dev Cert.KernelZIXIdeal.nD) → Buf (Elt Ideal) ((c.tc : Thread Cert.KernelZIXIdeal.nD Cert.KernelZIXIdeal.τ).loc Cert.KernelZIXIdeal.main_v0)),
      θ_run (Cert.KernelZIXIdeal.defs (F := Ideal)) (onTc (τ := Cert.KernelZIXIdeal.τ) (Cert.KernelZIXIdeal.main (F := Ideal))) ⟨m, fun _ => 0, g⟩ (fun r => ∀ c : Dev Cert.KernelZIXIdeal.nD,
          r.2.mem ((c.tc : Thread Cert.KernelZIXIdeal.nD Cert.KernelZIXIdeal.τ).loc Cert.KernelZIXIdeal.main_v0) = v0 c
          ∧ r.2.mem ((c.tc : Thread Cert.KernelZIXIdeal.nD Cert.KernelZIXIdeal.τ).loc Cert.KernelZIXIdeal.main_arg0) = m ((c.tc : Thread Cert.KernelZIXIdeal.nD Cert.KernelZIXIdeal.τ).loc Cert.KernelZIXIdeal.main_arg0)
          ∧ r.2.mem ((c.tc : Thread Cert.KernelZIXIdeal.nD Cert.KernelZIXIdeal.τ).loc Cert.KernelZIXIdeal.main_arg1) = m ((c.tc : Thread Cert.KernelZIXIdeal.nD Cert.KernelZIXIdeal.τ).loc Cert.KernelZIXIdeal.main_arg1))
      ∧ θ_run (Cert.ReferenceZIXIdeal.defs (F := Ideal)) (onTc (τ := Cert.ReferenceZIXIdeal.τ) (Cert.ReferenceZIXIdeal.main (F := Ideal))) ⟨m', fun _ => 0, g'⟩ (fun r => ∀ c : Dev Cert.ReferenceZIXIdeal.nD,
          r.2.mem ((c.tc : Thread Cert.ReferenceZIXIdeal.nD Cert.ReferenceZIXIdeal.τ).loc Cert.ReferenceZIXIdeal.main_v2) = v0 c
          ∧ r.2.mem ((c.tc : Thread Cert.ReferenceZIXIdeal.nD Cert.ReferenceZIXIdeal.τ).loc Cert.ReferenceZIXIdeal.main_arg0) = m' ((c.tc : Thread Cert.ReferenceZIXIdeal.nD Cert.ReferenceZIXIdeal.τ).loc Cert.ReferenceZIXIdeal.main_arg0)
          ∧ r.2.mem ((c.tc : Thread Cert.ReferenceZIXIdeal.nD Cert.ReferenceZIXIdeal.τ).loc Cert.ReferenceZIXIdeal.main_arg1) = m' ((c.tc : Thread Cert.ReferenceZIXIdeal.nD Cert.ReferenceZIXIdeal.τ).loc Cert.ReferenceZIXIdeal.main_arg1))

def preserves_KernelZIW_KernelZIWIdeal : Prop :=
  True

def algebraic_KernelZIWIdeal_ReferenceZIWIdeal [hKernelZIWIdeal : Cert.KernelZIWIdeal.Facts] [hReferenceZIWIdeal : Cert.ReferenceZIWIdeal.Facts] : Prop :=
  ∀ (m : (ℓ : Loc Cert.KernelZIWIdeal.nD Cert.KernelZIWIdeal.τ Cert.KernelZIWIdeal.sig) → Buf (Elt Ideal) ℓ) (g : Dev Cert.KernelZIWIdeal.nD → PrngReg)
    (m' : (ℓ : Loc Cert.ReferenceZIWIdeal.nD Cert.ReferenceZIWIdeal.τ Cert.ReferenceZIWIdeal.sig) → Buf (Elt Ideal) ℓ) (g' : Dev Cert.ReferenceZIWIdeal.nD → PrngReg), Pre_KernelZIWIdeal m →
    (∀ c : Dev Cert.KernelZIWIdeal.nD,
      m' ((c.tc : Thread Cert.ReferenceZIWIdeal.nD Cert.ReferenceZIWIdeal.τ).loc Cert.ReferenceZIWIdeal.main_arg0) = m ((c.tc : Thread Cert.KernelZIWIdeal.nD Cert.KernelZIWIdeal.τ).loc Cert.KernelZIWIdeal.main_arg0)
      ∧ m' ((c.tc : Thread Cert.ReferenceZIWIdeal.nD Cert.ReferenceZIWIdeal.τ).loc Cert.ReferenceZIWIdeal.main_arg1) = m ((c.tc : Thread Cert.KernelZIWIdeal.nD Cert.KernelZIWIdeal.τ).loc Cert.KernelZIWIdeal.main_arg1)) →
    ∃ (v0 : (c : Dev Cert.KernelZIWIdeal.nD) → Buf (Elt Ideal) ((c.tc : Thread Cert.KernelZIWIdeal.nD Cert.KernelZIWIdeal.τ).loc Cert.KernelZIWIdeal.main_v0)),
      θ_run (Cert.KernelZIWIdeal.defs (F := Ideal)) (onTc (τ := Cert.KernelZIWIdeal.τ) (Cert.KernelZIWIdeal.main (F := Ideal))) ⟨m, fun _ => 0, g⟩ (fun r => ∀ c : Dev Cert.KernelZIWIdeal.nD,
          r.2.mem ((c.tc : Thread Cert.KernelZIWIdeal.nD Cert.KernelZIWIdeal.τ).loc Cert.KernelZIWIdeal.main_v0) = v0 c
          ∧ r.2.mem ((c.tc : Thread Cert.KernelZIWIdeal.nD Cert.KernelZIWIdeal.τ).loc Cert.KernelZIWIdeal.main_arg0) = m ((c.tc : Thread Cert.KernelZIWIdeal.nD Cert.KernelZIWIdeal.τ).loc Cert.KernelZIWIdeal.main_arg0)
          ∧ r.2.mem ((c.tc : Thread Cert.KernelZIWIdeal.nD Cert.KernelZIWIdeal.τ).loc Cert.KernelZIWIdeal.main_arg1) = m ((c.tc : Thread Cert.KernelZIWIdeal.nD Cert.KernelZIWIdeal.τ).loc Cert.KernelZIWIdeal.main_arg1))
      ∧ θ_run (Cert.ReferenceZIWIdeal.defs (F := Ideal)) (onTc (τ := Cert.ReferenceZIWIdeal.τ) (Cert.ReferenceZIWIdeal.main (F := Ideal))) ⟨m', fun _ => 0, g'⟩ (fun r => ∀ c : Dev Cert.ReferenceZIWIdeal.nD,
          r.2.mem ((c.tc : Thread Cert.ReferenceZIWIdeal.nD Cert.ReferenceZIWIdeal.τ).loc Cert.ReferenceZIWIdeal.main_v3) = v0 c
          ∧ r.2.mem ((c.tc : Thread Cert.ReferenceZIWIdeal.nD Cert.ReferenceZIWIdeal.τ).loc Cert.ReferenceZIWIdeal.main_arg0) = m' ((c.tc : Thread Cert.ReferenceZIWIdeal.nD Cert.ReferenceZIWIdeal.τ).loc Cert.ReferenceZIWIdeal.main_arg0)
          ∧ r.2.mem ((c.tc : Thread Cert.ReferenceZIWIdeal.nD Cert.ReferenceZIWIdeal.τ).loc Cert.ReferenceZIWIdeal.main_arg1) = m' ((c.tc : Thread Cert.ReferenceZIWIdeal.nD Cert.ReferenceZIWIdeal.τ).loc Cert.ReferenceZIWIdeal.main_arg1))

def bitexact_KernelXR_ReferenceXR [hKernelXR : Cert.KernelXR.Facts] [hReferenceXR : Cert.ReferenceXR.Facts] : Prop :=
  ∀ (m : (ℓ : Loc Cert.KernelXR.nD Cert.KernelXR.τ Cert.KernelXR.sig) → Buf (Elt Bits) ℓ) (g : Dev Cert.KernelXR.nD → PrngReg)
    (m' : (ℓ : Loc Cert.ReferenceXR.nD Cert.ReferenceXR.τ Cert.ReferenceXR.sig) → Buf (Elt Bits) ℓ) (g' : Dev Cert.ReferenceXR.nD → PrngReg), Pre_KernelXR m →
    (∀ c : Dev Cert.KernelXR.nD,
      m' ((c.tc : Thread Cert.ReferenceXR.nD Cert.ReferenceXR.τ).loc Cert.ReferenceXR.main_arg0) = m ((c.tc : Thread Cert.KernelXR.nD Cert.KernelXR.τ).loc Cert.KernelXR.main_arg0)
      ∧ m' ((c.tc : Thread Cert.ReferenceXR.nD Cert.ReferenceXR.τ).loc Cert.ReferenceXR.main_arg1) = m ((c.tc : Thread Cert.KernelXR.nD Cert.KernelXR.τ).loc Cert.KernelXR.main_arg1)
      ∧ m' ((c.tc : Thread Cert.ReferenceXR.nD Cert.ReferenceXR.τ).loc Cert.ReferenceXR.main_arg2) = m ((c.tc : Thread Cert.KernelXR.nD Cert.KernelXR.τ).loc Cert.KernelXR.main_arg2)) →
    ∃ (v0 : (c : Dev Cert.KernelXR.nD) → Buf (Elt Bits) ((c.tc : Thread Cert.KernelXR.nD Cert.KernelXR.τ).loc Cert.KernelXR.main_v0)),
      θ_run (Cert.KernelXR.defs (F := Bits)) (onTc (τ := Cert.KernelXR.τ) (Cert.KernelXR.main (F := Bits))) ⟨m, fun _ => 0, g⟩ (fun r => ∀ c : Dev Cert.KernelXR.nD,
          r.2.mem ((c.tc : Thread Cert.KernelXR.nD Cert.KernelXR.τ).loc Cert.KernelXR.main_v0) = v0 c
          ∧ r.2.mem ((c.tc : Thread Cert.KernelXR.nD Cert.KernelXR.τ).loc Cert.KernelXR.main_arg0) = m ((c.tc : Thread Cert.KernelXR.nD Cert.KernelXR.τ).loc Cert.KernelXR.main_arg0)
          ∧ r.2.mem ((c.tc : Thread Cert.KernelXR.nD Cert.KernelXR.τ).loc Cert.KernelXR.main_arg1) = m ((c.tc : Thread Cert.KernelXR.nD Cert.KernelXR.τ).loc Cert.KernelXR.main_arg1)
          ∧ r.2.mem ((c.tc : Thread Cert.KernelXR.nD Cert.KernelXR.τ).loc Cert.KernelXR.main_arg2) = m ((c.tc : Thread Cert.KernelXR.nD Cert.KernelXR.τ).loc Cert.KernelXR.main_arg2))
      ∧ θ_run (Cert.ReferenceXR.defs (F := Bits)) (onTc (τ := Cert.ReferenceXR.τ) (Cert.ReferenceXR.main (F := Bits))) ⟨m', fun _ => 0, g'⟩ (fun r => ∀ c : Dev Cert.ReferenceXR.nD,
          r.2.mem ((c.tc : Thread Cert.ReferenceXR.nD Cert.ReferenceXR.τ).loc Cert.ReferenceXR.main_v2) = v0 c
          ∧ r.2.mem ((c.tc : Thread Cert.ReferenceXR.nD Cert.ReferenceXR.τ).loc Cert.ReferenceXR.main_arg0) = m' ((c.tc : Thread Cert.ReferenceXR.nD Cert.ReferenceXR.τ).loc Cert.ReferenceXR.main_arg0)
          ∧ r.2.mem ((c.tc : Thread Cert.ReferenceXR.nD Cert.ReferenceXR.τ).loc Cert.ReferenceXR.main_arg1) = m' ((c.tc : Thread Cert.ReferenceXR.nD Cert.ReferenceXR.τ).loc Cert.ReferenceXR.main_arg1)
          ∧ r.2.mem ((c.tc : Thread Cert.ReferenceXR.nD Cert.ReferenceXR.τ).loc Cert.ReferenceXR.main_arg2) = m' ((c.tc : Thread Cert.ReferenceXR.nD Cert.ReferenceXR.τ).loc Cert.ReferenceXR.main_arg2))

def Claim : Prop :=
  ∃ (hKernel : Cert.Kernel.Facts) (hKernelIdeal : Cert.KernelIdeal.Facts) (hReferenceIdeal : Cert.ReferenceIdeal.Facts) (hReference : Cert.Reference.Facts) (hKernelF : Cert.KernelF.Facts) (hKernelFIdeal : Cert.KernelFIdeal.Facts) (hReferenceFIdeal : Cert.ReferenceFIdeal.Facts) (hReferenceF : Cert.ReferenceF.Facts) (hKernelB : Cert.KernelB.Facts) (hKernelBIdeal : Cert.KernelBIdeal.Facts) (hReferenceBIdeal : Cert.ReferenceBIdeal.Facts) (hReferenceB : Cert.ReferenceB.Facts) (hKernelA : Cert.KernelA.Facts) (hKernelAIdeal : Cert.KernelAIdeal.Facts) (hReferenceAIdeal : Cert.ReferenceAIdeal.Facts) (hReferenceA : Cert.ReferenceA.Facts) (hKernelUI : Cert.KernelUI.Facts) (hKernelUIIdeal : Cert.KernelUIIdeal.Facts) (hReferenceUIIdeal : Cert.ReferenceUIIdeal.Facts) (hKernelUO : Cert.KernelUO.Facts) (hKernelUOIdeal : Cert.KernelUOIdeal.Facts) (hReferenceUOIdeal : Cert.ReferenceUOIdeal.Facts) (hKernelUG : Cert.KernelUG.Facts) (hKernelUGIdeal : Cert.KernelUGIdeal.Facts) (hReferenceUGIdeal : Cert.ReferenceUGIdeal.Facts) (hKernelUF : Cert.KernelUF.Facts) (hKernelUFIdeal : Cert.KernelUFIdeal.Facts) (hReferenceUFIdeal : Cert.ReferenceUFIdeal.Facts) (hKernelUM : Cert.KernelUM.Facts) (hKernelUMIdeal : Cert.KernelUMIdeal.Facts) (hReferenceUMIdeal : Cert.ReferenceUMIdeal.Facts) (hKernelUC : Cert.KernelUC.Facts) (hKernelUCIdeal : Cert.KernelUCIdeal.Facts) (hReferenceUCIdeal : Cert.ReferenceUCIdeal.Facts) (hKernelUS : Cert.KernelUS.Facts) (hKernelUSIdeal : Cert.KernelUSIdeal.Facts) (hReferenceUSIdeal : Cert.ReferenceUSIdeal.Facts) (hKernelH : Cert.KernelH.Facts) (hKernelHIdeal : Cert.KernelHIdeal.Facts) (hReferenceHIdeal : Cert.ReferenceHIdeal.Facts) (hKernelC : Cert.KernelC.Facts) (hKernelCIdeal : Cert.KernelCIdeal.Facts) (hReferenceCIdeal : Cert.ReferenceCIdeal.Facts) (hKernelW : Cert.KernelW.Facts) (hKernelWIdeal : Cert.KernelWIdeal.Facts) (hReferenceWIdeal : Cert.ReferenceWIdeal.Facts) (hKernelN : Cert.KernelN.Facts) (hKernelNIdeal : Cert.KernelNIdeal.Facts) (hReferenceNIdeal : Cert.ReferenceNIdeal.Facts) (hKernelXN : Cert.KernelXN.Facts) (hKernelXNIdeal : Cert.KernelXNIdeal.Facts) (hReferenceXNIdeal : Cert.ReferenceXNIdeal.Facts) (hKernelXI : Cert.KernelXI.Facts) (hKernelXIIdeal : Cert.KernelXIIdeal.Facts) (hReferenceXIIdeal : Cert.ReferenceXIIdeal.Facts) (hKernelXS : Cert.KernelXS.Facts) (hKernelXSIdeal : Cert.KernelXSIdeal.Facts) (hReferenceXSIdeal : Cert.ReferenceXSIdeal.Facts) (hKernelXO : Cert.KernelXO.Facts) (hKernelXOIdeal : Cert.KernelXOIdeal.Facts) (hReferenceXOIdeal : Cert.ReferenceXOIdeal.Facts) (hKernelXR : Cert.KernelXR.Facts) (hKernelXRIdeal : Cert.KernelXRIdeal.Facts) (hReferenceXRIdeal : Cert.ReferenceXRIdeal.Facts) (hKernelYR : Cert.KernelYR.Facts) (hKernelYRIdeal : Cert.KernelYRIdeal.Facts) (hReferenceYRIdeal : Cert.ReferenceYRIdeal.Facts) (hKernelYO : Cert.KernelYO.Facts) (hKernelYOIdeal : Cert.KernelYOIdeal.Facts) (hReferenceYOIdeal : Cert.ReferenceYOIdeal.Facts) (hKernelYOW : Cert.KernelYOW.Facts) (hKernelYOWIdeal : Cert.KernelYOWIdeal.Facts) (hReferenceYOWIdeal : Cert.ReferenceYOWIdeal.Facts) (hKernelYS : Cert.KernelYS.Facts) (hKernelYSIdeal : Cert.KernelYSIdeal.Facts) (hReferenceYSIdeal : Cert.ReferenceYSIdeal.Facts) (hKernelYI : Cert.KernelYI.Facts) (hKernelYIIdeal : Cert.KernelYIIdeal.Facts) (hReferenceYIIdeal : Cert.ReferenceYIIdeal.Facts) (hKernelYIW : Cert.KernelYIW.Facts) (hKernelYIWIdeal : Cert.KernelYIWIdeal.Facts) (hReferenceYIWIdeal : Cert.ReferenceYIWIdeal.Facts) (hKernelZI : Cert.KernelZI.Facts) (hKernelZIIdeal : Cert.KernelZIIdeal.Facts) (hReferenceZIIdeal : Cert.ReferenceZIIdeal.Facts) (hKernelZO : Cert.KernelZO.Facts) (hKernelZOIdeal : Cert.KernelZOIdeal.Facts) (hReferenceZOIdeal : Cert.ReferenceZOIdeal.Facts) (hKernelZOX : Cert.KernelZOX.Facts) (hKernelZOXIdeal : Cert.KernelZOXIdeal.Facts) (hReferenceZOXIdeal : Cert.ReferenceZOXIdeal.Facts) (hKernelZOW : Cert.KernelZOW.Facts) (hKernelZOWIdeal : Cert.KernelZOWIdeal.Facts) (hReferenceZOWIdeal : Cert.ReferenceZOWIdeal.Facts) (hKernelZIX : Cert.KernelZIX.Facts) (hKernelZIXIdeal : Cert.KernelZIXIdeal.Facts) (hReferenceZIXIdeal : Cert.ReferenceZIXIdeal.Facts) (hKernelZIW : Cert.KernelZIW.Facts) (hKernelZIWIdeal : Cert.KernelZIWIdeal.Facts) (hReferenceZIWIdeal : Cert.ReferenceZIWIdeal.Facts) (hReferenceXR : Cert.ReferenceXR.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_KernelF (hKernelF := hKernelF)
    ∧ quiescent_KernelFIdeal (hKernelFIdeal := hKernelFIdeal)
    ∧ quiescent_ReferenceFIdeal (hReferenceFIdeal := hReferenceFIdeal)
    ∧ quiescent_ReferenceF (hReferenceF := hReferenceF)
    ∧ quiescent_KernelB (hKernelB := hKernelB)
    ∧ quiescent_KernelBIdeal (hKernelBIdeal := hKernelBIdeal)
    ∧ quiescent_ReferenceBIdeal (hReferenceBIdeal := hReferenceBIdeal)
    ∧ quiescent_ReferenceB (hReferenceB := hReferenceB)
    ∧ quiescent_KernelA (hKernelA := hKernelA)
    ∧ quiescent_KernelAIdeal (hKernelAIdeal := hKernelAIdeal)
    ∧ quiescent_ReferenceAIdeal (hReferenceAIdeal := hReferenceAIdeal)
    ∧ quiescent_ReferenceA (hReferenceA := hReferenceA)
    ∧ quiescent_KernelUI (hKernelUI := hKernelUI)
    ∧ quiescent_KernelUIIdeal (hKernelUIIdeal := hKernelUIIdeal)
    ∧ quiescent_ReferenceUIIdeal (hReferenceUIIdeal := hReferenceUIIdeal)
    ∧ quiescent_KernelUO (hKernelUO := hKernelUO)
    ∧ quiescent_KernelUOIdeal (hKernelUOIdeal := hKernelUOIdeal)
    ∧ quiescent_ReferenceUOIdeal (hReferenceUOIdeal := hReferenceUOIdeal)
    ∧ quiescent_KernelUG (hKernelUG := hKernelUG)
    ∧ quiescent_KernelUGIdeal (hKernelUGIdeal := hKernelUGIdeal)
    ∧ quiescent_ReferenceUGIdeal (hReferenceUGIdeal := hReferenceUGIdeal)
    ∧ quiescent_KernelUF (hKernelUF := hKernelUF)
    ∧ quiescent_KernelUFIdeal (hKernelUFIdeal := hKernelUFIdeal)
    ∧ quiescent_ReferenceUFIdeal (hReferenceUFIdeal := hReferenceUFIdeal)
    ∧ quiescent_KernelUM (hKernelUM := hKernelUM)
    ∧ quiescent_KernelUMIdeal (hKernelUMIdeal := hKernelUMIdeal)
    ∧ quiescent_ReferenceUMIdeal (hReferenceUMIdeal := hReferenceUMIdeal)
    ∧ quiescent_KernelUC (hKernelUC := hKernelUC)
    ∧ quiescent_KernelUCIdeal (hKernelUCIdeal := hKernelUCIdeal)
    ∧ quiescent_ReferenceUCIdeal (hReferenceUCIdeal := hReferenceUCIdeal)
    ∧ quiescent_KernelUS (hKernelUS := hKernelUS)
    ∧ quiescent_KernelUSIdeal (hKernelUSIdeal := hKernelUSIdeal)
    ∧ quiescent_ReferenceUSIdeal (hReferenceUSIdeal := hReferenceUSIdeal)
    ∧ quiescent_KernelH (hKernelH := hKernelH)
    ∧ quiescent_KernelHIdeal (hKernelHIdeal := hKernelHIdeal)
    ∧ quiescent_ReferenceHIdeal (hReferenceHIdeal := hReferenceHIdeal)
    ∧ quiescent_KernelC (hKernelC := hKernelC)
    ∧ quiescent_KernelCIdeal (hKernelCIdeal := hKernelCIdeal)
    ∧ quiescent_ReferenceCIdeal (hReferenceCIdeal := hReferenceCIdeal)
    ∧ quiescent_KernelW (hKernelW := hKernelW)
    ∧ quiescent_KernelWIdeal (hKernelWIdeal := hKernelWIdeal)
    ∧ quiescent_ReferenceWIdeal (hReferenceWIdeal := hReferenceWIdeal)
    ∧ quiescent_KernelN (hKernelN := hKernelN)
    ∧ quiescent_KernelNIdeal (hKernelNIdeal := hKernelNIdeal)
    ∧ quiescent_ReferenceNIdeal (hReferenceNIdeal := hReferenceNIdeal)
    ∧ quiescent_KernelXN (hKernelXN := hKernelXN)
    ∧ quiescent_KernelXNIdeal (hKernelXNIdeal := hKernelXNIdeal)
    ∧ quiescent_ReferenceXNIdeal (hReferenceXNIdeal := hReferenceXNIdeal)
    ∧ quiescent_KernelXI (hKernelXI := hKernelXI)
    ∧ quiescent_KernelXIIdeal (hKernelXIIdeal := hKernelXIIdeal)
    ∧ quiescent_ReferenceXIIdeal (hReferenceXIIdeal := hReferenceXIIdeal)
    ∧ quiescent_KernelXS (hKernelXS := hKernelXS)
    ∧ quiescent_KernelXSIdeal (hKernelXSIdeal := hKernelXSIdeal)
    ∧ quiescent_ReferenceXSIdeal (hReferenceXSIdeal := hReferenceXSIdeal)
    ∧ quiescent_KernelXO (hKernelXO := hKernelXO)
    ∧ quiescent_KernelXOIdeal (hKernelXOIdeal := hKernelXOIdeal)
    ∧ quiescent_ReferenceXOIdeal (hReferenceXOIdeal := hReferenceXOIdeal)
    ∧ quiescent_KernelXR (hKernelXR := hKernelXR)
    ∧ quiescent_KernelXRIdeal (hKernelXRIdeal := hKernelXRIdeal)
    ∧ quiescent_ReferenceXRIdeal (hReferenceXRIdeal := hReferenceXRIdeal)
    ∧ quiescent_KernelYR (hKernelYR := hKernelYR)
    ∧ quiescent_KernelYRIdeal (hKernelYRIdeal := hKernelYRIdeal)
    ∧ quiescent_ReferenceYRIdeal (hReferenceYRIdeal := hReferenceYRIdeal)
    ∧ quiescent_KernelYO (hKernelYO := hKernelYO)
    ∧ quiescent_KernelYOIdeal (hKernelYOIdeal := hKernelYOIdeal)
    ∧ quiescent_ReferenceYOIdeal (hReferenceYOIdeal := hReferenceYOIdeal)
    ∧ quiescent_KernelYOW (hKernelYOW := hKernelYOW)
    ∧ quiescent_KernelYOWIdeal (hKernelYOWIdeal := hKernelYOWIdeal)
    ∧ quiescent_ReferenceYOWIdeal (hReferenceYOWIdeal := hReferenceYOWIdeal)
    ∧ quiescent_KernelYS (hKernelYS := hKernelYS)
    ∧ quiescent_KernelYSIdeal (hKernelYSIdeal := hKernelYSIdeal)
    ∧ quiescent_ReferenceYSIdeal (hReferenceYSIdeal := hReferenceYSIdeal)
    ∧ quiescent_KernelYI (hKernelYI := hKernelYI)
    ∧ quiescent_KernelYIIdeal (hKernelYIIdeal := hKernelYIIdeal)
    ∧ quiescent_ReferenceYIIdeal (hReferenceYIIdeal := hReferenceYIIdeal)
    ∧ quiescent_KernelYIW (hKernelYIW := hKernelYIW)
    ∧ quiescent_KernelYIWIdeal (hKernelYIWIdeal := hKernelYIWIdeal)
    ∧ quiescent_ReferenceYIWIdeal (hReferenceYIWIdeal := hReferenceYIWIdeal)
    ∧ quiescent_KernelZI (hKernelZI := hKernelZI)
    ∧ quiescent_KernelZIIdeal (hKernelZIIdeal := hKernelZIIdeal)
    ∧ quiescent_ReferenceZIIdeal (hReferenceZIIdeal := hReferenceZIIdeal)
    ∧ quiescent_KernelZO (hKernelZO := hKernelZO)
    ∧ quiescent_KernelZOIdeal (hKernelZOIdeal := hKernelZOIdeal)
    ∧ quiescent_ReferenceZOIdeal (hReferenceZOIdeal := hReferenceZOIdeal)
    ∧ quiescent_KernelZOX (hKernelZOX := hKernelZOX)
    ∧ quiescent_KernelZOXIdeal (hKernelZOXIdeal := hKernelZOXIdeal)
    ∧ quiescent_ReferenceZOXIdeal (hReferenceZOXIdeal := hReferenceZOXIdeal)
    ∧ quiescent_KernelZOW (hKernelZOW := hKernelZOW)
    ∧ quiescent_KernelZOWIdeal (hKernelZOWIdeal := hKernelZOWIdeal)
    ∧ quiescent_ReferenceZOWIdeal (hReferenceZOWIdeal := hReferenceZOWIdeal)
    ∧ quiescent_KernelZIX (hKernelZIX := hKernelZIX)
    ∧ quiescent_KernelZIXIdeal (hKernelZIXIdeal := hKernelZIXIdeal)
    ∧ quiescent_ReferenceZIXIdeal (hReferenceZIXIdeal := hReferenceZIXIdeal)
    ∧ quiescent_KernelZIW (hKernelZIW := hKernelZIW)
    ∧ quiescent_KernelZIWIdeal (hKernelZIWIdeal := hKernelZIWIdeal)
    ∧ quiescent_ReferenceZIWIdeal (hReferenceZIWIdeal := hReferenceZIWIdeal)
    ∧ quiescent_ReferenceXR (hReferenceXR := hReferenceXR)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_KernelF_KernelFIdeal
    ∧ algebraic_KernelFIdeal_ReferenceFIdeal (hKernelFIdeal := hKernelFIdeal) (hReferenceFIdeal := hReferenceFIdeal)
    ∧ bitexact_KernelF_ReferenceF (hKernelF := hKernelF) (hReferenceF := hReferenceF)
    ∧ preserves_KernelB_KernelBIdeal
    ∧ algebraic_KernelBIdeal_ReferenceBIdeal (hKernelBIdeal := hKernelBIdeal) (hReferenceBIdeal := hReferenceBIdeal)
    ∧ bitexact_KernelB_ReferenceB (hKernelB := hKernelB) (hReferenceB := hReferenceB)
    ∧ preserves_KernelA_KernelAIdeal
    ∧ algebraic_KernelAIdeal_ReferenceAIdeal (hKernelAIdeal := hKernelAIdeal) (hReferenceAIdeal := hReferenceAIdeal)
    ∧ bitexact_KernelA_ReferenceA (hKernelA := hKernelA) (hReferenceA := hReferenceA)
    ∧ preserves_KernelUI_KernelUIIdeal
    ∧ algebraic_KernelUIIdeal_ReferenceUIIdeal (hKernelUIIdeal := hKernelUIIdeal) (hReferenceUIIdeal := hReferenceUIIdeal)
    ∧ preserves_KernelUO_KernelUOIdeal
    ∧ algebraic_KernelUOIdeal_ReferenceUOIdeal (hKernelUOIdeal := hKernelUOIdeal) (hReferenceUOIdeal := hReferenceUOIdeal)
    ∧ preserves_KernelUG_KernelUGIdeal
    ∧ algebraic_KernelUGIdeal_ReferenceUGIdeal (hKernelUGIdeal := hKernelUGIdeal) (hReferenceUGIdeal := hReferenceUGIdeal)
    ∧ preserves_KernelUF_KernelUFIdeal
    ∧ algebraic_KernelUFIdeal_ReferenceUFIdeal (hKernelUFIdeal := hKernelUFIdeal) (hReferenceUFIdeal := hReferenceUFIdeal)
    ∧ preserves_KernelUM_KernelUMIdeal
    ∧ algebraic_KernelUMIdeal_ReferenceUMIdeal (hKernelUMIdeal := hKernelUMIdeal) (hReferenceUMIdeal := hReferenceUMIdeal)
    ∧ preserves_KernelUC_KernelUCIdeal
    ∧ algebraic_KernelUCIdeal_ReferenceUCIdeal (hKernelUCIdeal := hKernelUCIdeal) (hReferenceUCIdeal := hReferenceUCIdeal)
    ∧ preserves_KernelUS_KernelUSIdeal
    ∧ algebraic_KernelUSIdeal_ReferenceUSIdeal (hKernelUSIdeal := hKernelUSIdeal) (hReferenceUSIdeal := hReferenceUSIdeal)
    ∧ preserves_KernelH_KernelHIdeal
    ∧ algebraic_KernelHIdeal_ReferenceHIdeal (hKernelHIdeal := hKernelHIdeal) (hReferenceHIdeal := hReferenceHIdeal)
    ∧ preserves_KernelC_KernelCIdeal
    ∧ algebraic_KernelCIdeal_ReferenceCIdeal (hKernelCIdeal := hKernelCIdeal) (hReferenceCIdeal := hReferenceCIdeal)
    ∧ preserves_KernelW_KernelWIdeal
    ∧ algebraic_KernelWIdeal_ReferenceWIdeal (hKernelWIdeal := hKernelWIdeal) (hReferenceWIdeal := hReferenceWIdeal)
    ∧ preserves_KernelN_KernelNIdeal
    ∧ algebraic_KernelNIdeal_ReferenceNIdeal (hKernelNIdeal := hKernelNIdeal) (hReferenceNIdeal := hReferenceNIdeal)
    ∧ preserves_KernelXN_KernelXNIdeal
    ∧ algebraic_KernelXNIdeal_ReferenceXNIdeal (hKernelXNIdeal := hKernelXNIdeal) (hReferenceXNIdeal := hReferenceXNIdeal)
    ∧ preserves_KernelXI_KernelXIIdeal
    ∧ algebraic_KernelXIIdeal_ReferenceXIIdeal (hKernelXIIdeal := hKernelXIIdeal) (hReferenceXIIdeal := hReferenceXIIdeal)
    ∧ preserves_KernelXS_KernelXSIdeal
    ∧ algebraic_KernelXSIdeal_ReferenceXSIdeal (hKernelXSIdeal := hKernelXSIdeal) (hReferenceXSIdeal := hReferenceXSIdeal)
    ∧ preserves_KernelXO_KernelXOIdeal
    ∧ algebraic_KernelXOIdeal_ReferenceXOIdeal (hKernelXOIdeal := hKernelXOIdeal) (hReferenceXOIdeal := hReferenceXOIdeal)
    ∧ preserves_KernelXR_KernelXRIdeal
    ∧ algebraic_KernelXRIdeal_ReferenceXRIdeal (hKernelXRIdeal := hKernelXRIdeal) (hReferenceXRIdeal := hReferenceXRIdeal)
    ∧ preserves_KernelYR_KernelYRIdeal
    ∧ algebraic_KernelYRIdeal_ReferenceYRIdeal (hKernelYRIdeal := hKernelYRIdeal) (hReferenceYRIdeal := hReferenceYRIdeal)
    ∧ preserves_KernelYO_KernelYOIdeal
    ∧ algebraic_KernelYOIdeal_ReferenceYOIdeal (hKernelYOIdeal := hKernelYOIdeal) (hReferenceYOIdeal := hReferenceYOIdeal)
    ∧ preserves_KernelYOW_KernelYOWIdeal
    ∧ algebraic_KernelYOWIdeal_ReferenceYOWIdeal (hKernelYOWIdeal := hKernelYOWIdeal) (hReferenceYOWIdeal := hReferenceYOWIdeal)
    ∧ preserves_KernelYS_KernelYSIdeal
    ∧ algebraic_KernelYSIdeal_ReferenceYSIdeal (hKernelYSIdeal := hKernelYSIdeal) (hReferenceYSIdeal := hReferenceYSIdeal)
    ∧ preserves_KernelYI_KernelYIIdeal
    ∧ algebraic_KernelYIIdeal_ReferenceYIIdeal (hKernelYIIdeal := hKernelYIIdeal) (hReferenceYIIdeal := hReferenceYIIdeal)
    ∧ preserves_KernelYIW_KernelYIWIdeal
    ∧ algebraic_KernelYIWIdeal_ReferenceYIWIdeal (hKernelYIWIdeal := hKernelYIWIdeal) (hReferenceYIWIdeal := hReferenceYIWIdeal)
    ∧ preserves_KernelZI_KernelZIIdeal
    ∧ algebraic_KernelZIIdeal_ReferenceZIIdeal (hKernelZIIdeal := hKernelZIIdeal) (hReferenceZIIdeal := hReferenceZIIdeal)
    ∧ preserves_KernelZO_KernelZOIdeal
    ∧ algebraic_KernelZOIdeal_ReferenceZOIdeal (hKernelZOIdeal := hKernelZOIdeal) (hReferenceZOIdeal := hReferenceZOIdeal)
    ∧ preserves_KernelZOX_KernelZOXIdeal
    ∧ algebraic_KernelZOXIdeal_ReferenceZOXIdeal (hKernelZOXIdeal := hKernelZOXIdeal) (hReferenceZOXIdeal := hReferenceZOXIdeal)
    ∧ preserves_KernelZOW_KernelZOWIdeal
    ∧ algebraic_KernelZOWIdeal_ReferenceZOWIdeal (hKernelZOWIdeal := hKernelZOWIdeal) (hReferenceZOWIdeal := hReferenceZOWIdeal)
    ∧ preserves_KernelZIX_KernelZIXIdeal
    ∧ algebraic_KernelZIXIdeal_ReferenceZIXIdeal (hKernelZIXIdeal := hKernelZIXIdeal) (hReferenceZIXIdeal := hReferenceZIXIdeal)
    ∧ preserves_KernelZIW_KernelZIWIdeal
    ∧ algebraic_KernelZIWIdeal_ReferenceZIWIdeal (hKernelZIWIdeal := hKernelZIWIdeal) (hReferenceZIWIdeal := hReferenceZIWIdeal)
    ∧ bitexact_KernelXR_ReferenceXR (hKernelXR := hKernelXR) (hReferenceXR := hReferenceXR)
-- ==== Kernel.lean ====
abbrev S8x1024x640 : Shape := ⟨3, ![8, 1024, 640]⟩
abbrev S8x128x1024 : Shape := ⟨3, ![8, 128, 1024]⟩
abbrev S14 : Shape := ⟨1, ![14]⟩
abbrev S8x128 : Shape := ⟨2, ![8, 128]⟩
abbrev S2 : Shape := ⟨1, ![2]⟩
abbrev S_ : Shape := ⟨0, ![]⟩
abbrev S1 : Shape := ⟨1, ![1]⟩
abbrev S1x1024x640 : Shape := ⟨3, ![1, 1024, 640]⟩
abbrev S1024x640 : Shape := ⟨2, ![1024, 640]⟩
abbrev S1x128x1024 : Shape := ⟨3, ![1, 128, 1024]⟩
abbrev S128x1024 : Shape := ⟨2, ![128, 1024]⟩

abbrev nBuf : Space → Nat
  | .hbm => 8
  | .vmem => 2
  | .smem => 0
  | _ => 0

abbrev bufTy : (tb : Table) → Fin (tcTables nBuf tb) → BufTy
  | .hbm, ⟨0, _⟩ => ⟨S8x1024x640, .bf16⟩
  | .hbm, ⟨1, _⟩ => ⟨S8x128x1024, .bf16⟩
  | .hbm, ⟨2, _⟩ => ⟨S8x1024x640, .bf16⟩
  | .hbm, ⟨3, _⟩ => ⟨S8x128x1024, .bf16⟩
  | .hbm, ⟨4, _⟩ => ⟨S8x1024x640, .bf16⟩
  | .hbm, ⟨5, _⟩ => ⟨S8x128x1024, .bf16⟩
  | .hbm, ⟨6, _⟩ => ⟨S8x128, .f32⟩
  | .hbm, ⟨7, _⟩ => ⟨S8x128, .f32⟩
  | .local _ .vmem, ⟨0, _⟩ => ⟨S8x128, .f32⟩
  | .local _ .vmem, ⟨1, _⟩ => ⟨S8x128, .f32⟩
  | _, _ => ⟨S8x1024x640, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 32 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3_2 : Ref sig .tc := ⟨.hbm, 4, rfl⟩
abbrev main_v3_3 : Ref sig .tc := ⟨.hbm, 5, rfl⟩
abbrev main_v3_6 : Ref sig .tc := ⟨.hbm, 6, rfl⟩
abbrev main_v4_4 : Ref sig .tc := ⟨.hbm, 7, rfl⟩
abbrev cc0_stg0_0 : Ref sig .tc := ⟨.vmem, 0, rfl⟩
abbrev cc1_stg0_0 : Ref sig .tc := ⟨.vmem, 1, rfl⟩
abbrev cc0_sem0_0 : DmaSem sig := 28
abbrev cc1_sem0_0 : DmaSem sig := 31
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v26 : BitVec 32 := Scalar.muli v2 c4_i32_18
  let v27 : BitVec 32 := Scalar.addi c0_i32 v26
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v28 : BitVec 32 := Scalar.muli v5 c2_i32_19
  let v29 : BitVec 32 := Scalar.addi v27 v28
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_20 : BitVec 32 := 1#32
  let v30 : BitVec 32 := Scalar.muli v9 c1_i32_20
  let v31 : BitVec 32 := Scalar.addi v29 v30
  v31.toNat
def k0_dev2 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v32 : BitVec 32 := Scalar.muli v2 c4_i32_22
  let v33 : BitVec 32 := Scalar.addi c0_i32_23 v32
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_24 : BitVec 32 := 2#32
  let v34 : BitVec 32 := Scalar.muli v10 c2_i32_24
  let v35 : BitVec 32 := Scalar.addi v33 v34
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v36 : BitVec 32 := Scalar.muli v8 c1_i32_25
  let v37 : BitVec 32 := Scalar.addi v35 v36
  v37.toNat
def k0_dev3 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v38 : BitVec 32 := Scalar.muli v2 c4_i32_27
  let v39 : BitVec 32 := Scalar.addi c0_i32_28 v38
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_29 : BitVec 32 := 2#32
  let v40 : BitVec 32 := Scalar.muli v11 c2_i32_29
  let v41 : BitVec 32 := Scalar.addi v39 v40
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_30 : BitVec 32 := 1#32
  let v42 : BitVec 32 := Scalar.muli v12 c1_i32_30
  let v43 : BitVec 32 := Scalar.addi v41 v42
  v43.toNat
def k0_dev4 (d0 : Dev nD) : Nat :=
  let c0_i32_33 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_7 v2
  let c4_i32_32 : BitVec 32 := 4#32
  let v44 : BitVec 32 := Scalar.muli v13 c4_i32_32
  let v45 : BitVec 32 := Scalar.addi c0_i32_33 v44
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_34 : BitVec 32 := 2#32
  let v46 : BitVec 32 := Scalar.muli v5 c2_i32_34
  let v47 : BitVec 32 := Scalar.addi v45 v46
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_35 : BitVec 32 := 1#32
  let v48 : BitVec 32 := Scalar.muli v8 c1_i32_35
  let v49 : BitVec 32 := Scalar.addi v47 v48
  v49.toNat
def k0_dev5 (d0 : Dev nD) : Nat :=
  let c0_i32_38 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_8 v2
  let c4_i32_37 : BitVec 32 := 4#32
  let v50 : BitVec 32 := Scalar.muli v14 c4_i32_37
  let v51 : BitVec 32 := Scalar.addi c0_i32_38 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_39 : BitVec 32 := 2#32
  let v52 : BitVec 32 := Scalar.muli v5 c2_i32_39
  let v53 : BitVec 32 := Scalar.addi v51 v52
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let c1_i32_40 : BitVec 32 := 1#32
  let v54 : BitVec 32 := Scalar.muli v15 c1_i32_40
  let v55 : BitVec 32 := Scalar.addi v53 v54
  v55.toNat
def k0_dev6 (d0 : Dev nD) : Nat :=
  let c0_i32_43 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_10 v2
  let c4_i32_42 : BitVec 32 := 4#32
  let v56 : BitVec 32 := Scalar.muli v16 c4_i32_42
  let v57 : BitVec 32 := Scalar.addi c0_i32_43 v56
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_11 v5
  let c2_i32_44 : BitVec 32 := 2#32
  let v58 : BitVec 32 := Scalar.muli v17 c2_i32_44
  let v59 : BitVec 32 := Scalar.addi v57 v58
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v60 : BitVec 32 := Scalar.muli v8 c1_i32_45
  let v61 : BitVec 32 := Scalar.addi v59 v60
  v61.toNat
def k0_dev7 (d0 : Dev nD) : Nat :=
  let c0_i32_48 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_12 v2
  let c4_i32_47 : BitVec 32 := 4#32
  let v62 : BitVec 32 := Scalar.muli v18 c4_i32_47
  let v63 : BitVec 32 := Scalar.addi c0_i32_48 v62
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_13 v5
  let c2_i32_49 : BitVec 32 := 2#32
  let v64 : BitVec 32 := Scalar.muli v19 c2_i32_49
  let v65 : BitVec 32 := Scalar.addi v63 v64
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_14 v8
  let c1_i32_50 : BitVec 32 := 1#32
  let v66 : BitVec 32 := Scalar.muli v20 c1_i32_50
  let v67 : BitVec 32 := Scalar.addi v65 v66
  v67.toNat
def k0_off1 (d0 : Dev nD) : Fin 3 → Nat :=
  let c4_i32_15 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c4_i32_15 v2
  let c2_i32_16 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.muli c2_i32_16 v5
  let v23 : BitVec 32 := Scalar.addi v21 v22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.addi v23 v8
  let c0_i32_86 : BitVec 32 := 0#32
  let c0_i32_87 : BitVec 32 := 0#32
  ![v24.toNat, 0, 0]
def k0_off2 (d0 : Dev nD) : Fin 3 → Nat :=
  let c4_i32_15 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c4_i32_15 v2
  let c2_i32_16 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.muli c2_i32_16 v5
  let v23 : BitVec 32 := Scalar.addi v21 v22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.addi v23 v8
  let c0_i32_91 : BitVec 32 := 0#32
  let c0_i32_92 : BitVec 32 := 0#32
  ![v24.toNat, 0, 0]
def k0_off3 (d0 : Dev nD) : Fin 3 → Nat :=
  let c4_i32_58 : BitVec 32 := 4#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v78 : BitVec 32 := Scalar.muli c4_i32_58 v70
  let c2_i32_59 : BitVec 32 := 2#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v79 : BitVec 32 := Scalar.muli c2_i32_59 v73
  let v80 : BitVec 32 := Scalar.addi v78 v79
  let c1_i32_57 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v77 : BitVec 32 := Scalar.subi c1_i32_57 v76
  let v81 : BitVec 32 := Scalar.addi v80 v77
  let c0_i32_103 : BitVec 32 := 0#32
  let c0_i32_104 : BitVec 32 := 0#32
  ![v81.toNat, 0, 0]
def k0_dev8 (d0 : Dev nD) : Nat :=
  let c0_i32_98 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_97 : BitVec 32 := 4#32
  let v133 : BitVec 32 := Scalar.muli v70 c4_i32_97
  let v134 : BitVec 32 := Scalar.addi c0_i32_98 v133
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_99 : BitVec 32 := 2#32
  let v135 : BitVec 32 := Scalar.muli v73 c2_i32_99
  let v136 : BitVec 32 := Scalar.addi v134 v135
  let c1_i32_57 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v77 : BitVec 32 := Scalar.subi c1_i32_57 v76
  let c1_i32_100 : BitVec 32 := 1#32
  let v137 : BitVec 32 := Scalar.muli v77 c1_i32_100
  let v138 : BitVec 32 := Scalar.addi v136 v137
  v138.toNat
def k0_off4 (d0 : Dev nD) : Fin 3 → Nat :=
  let c4_i32_61 : BitVec 32 := 4#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v83 : BitVec 32 := Scalar.muli c4_i32_61 v70
  let c2_i32_62 : BitVec 32 := 2#32
  let c1_i32_60 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v82 : BitVec 32 := Scalar.subi c1_i32_60 v73
  let v84 : BitVec 32 := Scalar.muli c2_i32_62 v82
  let v85 : BitVec 32 := Scalar.addi v83 v84
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v86 : BitVec 32 := Scalar.addi v85 v76
  let c0_i32_113 : BitVec 32 := 0#32
  let c0_i32_114 : BitVec 32 := 0#32
  ![v86.toNat, 0, 0]
def k0_dev9 (d0 : Dev nD) : Nat :=
  let c0_i32_108 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_107 : BitVec 32 := 4#32
  let v147 : BitVec 32 := Scalar.muli v70 c4_i32_107
  let v148 : BitVec 32 := Scalar.addi c0_i32_108 v147
  let c1_i32_60 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v82 : BitVec 32 := Scalar.subi c1_i32_60 v73
  let c2_i32_109 : BitVec 32 := 2#32
  let v149 : BitVec 32 := Scalar.muli v82 c2_i32_109
  let v150 : BitVec 32 := Scalar.addi v148 v149
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_110 : BitVec 32 := 1#32
  let v151 : BitVec 32 := Scalar.muli v76 c1_i32_110
  let v152 : BitVec 32 := Scalar.addi v150 v151
  v152.toNat
def k0_off5 (d0 : Dev nD) : Fin 3 → Nat :=
  let c4_i32_65 : BitVec 32 := 4#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v89 : BitVec 32 := Scalar.muli c4_i32_65 v70
  let c2_i32_66 : BitVec 32 := 2#32
  let c1_i32_63 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v87 : BitVec 32 := Scalar.subi c1_i32_63 v73
  let v90 : BitVec 32 := Scalar.muli c2_i32_66 v87
  let v91 : BitVec 32 := Scalar.addi v89 v90
  let c1_i32_64 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v88 : BitVec 32 := Scalar.subi c1_i32_64 v76
  let v92 : BitVec 32 := Scalar.addi v91 v88
  let c0_i32_123 : BitVec 32 := 0#32
  let c0_i32_124 : BitVec 32 := 0#32
  ![v92.toNat, 0, 0]
def k0_dev10 (d0 : Dev nD) : Nat :=
  let c0_i32_118 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_117 : BitVec 32 := 4#32
  let v161 : BitVec 32 := Scalar.muli v70 c4_i32_117
  let v162 : BitVec 32 := Scalar.addi c0_i32_118 v161
  let c1_i32_63 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v87 : BitVec 32 := Scalar.subi c1_i32_63 v73
  let c2_i32_119 : BitVec 32 := 2#32
  let v163 : BitVec 32 := Scalar.muli v87 c2_i32_119
  let v164 : BitVec 32 := Scalar.addi v162 v163
  let c1_i32_64 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v88 : BitVec 32 := Scalar.subi c1_i32_64 v76
  let c1_i32_120 : BitVec 32 := 1#32
  let v165 : BitVec 32 := Scalar.muli v88 c1_i32_120
  let v166 : BitVec 32 := Scalar.addi v164 v165
  v166.toNat
def k0_off6 (d0 : Dev nD) : Fin 3 → Nat :=
  let c4_i32_68 : BitVec 32 := 4#32
  let c1_i32_67 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v93 : BitVec 32 := Scalar.subi c1_i32_67 v70
  let v94 : BitVec 32 := Scalar.muli c4_i32_68 v93
  let c2_i32_69 : BitVec 32 := 2#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v95 : BitVec 32 := Scalar.muli c2_i32_69 v73
  let v96 : BitVec 32 := Scalar.addi v94 v95
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v97 : BitVec 32 := Scalar.addi v96 v76
  let c0_i32_132 : BitVec 32 := 0#32
  let c0_i32_133 : BitVec 32 := 0#32
  ![v97.toNat, 0, 0]
def k0_dev11 (d0 : Dev nD) : Nat :=
  let c0_i32_127 : BitVec 32 := 0#32
  let c1_i32_67 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v93 : BitVec 32 := Scalar.subi c1_i32_67 v70
  let c4_i32_126 : BitVec 32 := 4#32
  let v175 : BitVec 32 := Scalar.muli v93 c4_i32_126
  let v176 : BitVec 32 := Scalar.addi c0_i32_127 v175
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_128 : BitVec 32 := 2#32
  let v177 : BitVec 32 := Scalar.muli v73 c2_i32_128
  let v178 : BitVec 32 := Scalar.addi v176 v177
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_129 : BitVec 32 := 1#32
  let v179 : BitVec 32 := Scalar.muli v76 c1_i32_129
  let v180 : BitVec 32 := Scalar.addi v178 v179
  v180.toNat
def k0_off7 (d0 : Dev nD) : Fin 3 → Nat :=
  let c4_i32_72 : BitVec 32 := 4#32
  let c1_i32_70 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v98 : BitVec 32 := Scalar.subi c1_i32_70 v70
  let v100 : BitVec 32 := Scalar.muli c4_i32_72 v98
  let c2_i32_73 : BitVec 32 := 2#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v101 : BitVec 32 := Scalar.muli c2_i32_73 v73
  let v102 : BitVec 32 := Scalar.addi v100 v101
  let c1_i32_71 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v99 : BitVec 32 := Scalar.subi c1_i32_71 v76
  let v103 : BitVec 32 := Scalar.addi v102 v99
  let c0_i32_142 : BitVec 32 := 0#32
  let c0_i32_143 : BitVec 32 := 0#32
  ![v103.toNat, 0, 0]
def k0_dev12 (d0 : Dev nD) : Nat :=
  let c0_i32_137 : BitVec 32 := 0#32
  let c1_i32_70 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v98 : BitVec 32 := Scalar.subi c1_i32_70 v70
  let c4_i32_136 : BitVec 32 := 4#32
  let v189 : BitVec 32 := Scalar.muli v98 c4_i32_136
  let v190 : BitVec 32 := Scalar.addi c0_i32_137 v189
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_138 : BitVec 32 := 2#32
  let v191 : BitVec 32 := Scalar.muli v73 c2_i32_138
  let v192 : BitVec 32 := Scalar.addi v190 v191
  let c1_i32_71 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v99 : BitVec 32 := Scalar.subi c1_i32_71 v76
  let c1_i32_139 : BitVec 32 := 1#32
  let v193 : BitVec 32 := Scalar.muli v99 c1_i32_139
  let v194 : BitVec 32 := Scalar.addi v192 v193
  v194.toNat
def k0_off8 (d0 : Dev nD) : Fin 3 → Nat :=
  let c4_i32_76 : BitVec 32 := 4#32
  let c1_i32_74 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v104 : BitVec 32 := Scalar.subi c1_i32_74 v70
  let v106 : BitVec 32 := Scalar.muli c4_i32_76 v104
  let c2_i32_77 : BitVec 32 := 2#32
  let c1_i32_75 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v105 : BitVec 32 := Scalar.subi c1_i32_75 v73
  let v107 : BitVec 32 := Scalar.muli c2_i32_77 v105
  let v108 : BitVec 32 := Scalar.addi v106 v107
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v109 : BitVec 32 := Scalar.addi v108 v76
  let c0_i32_151 : BitVec 32 := 0#32
  let c0_i32_152 : BitVec 32 := 0#32
  ![v109.toNat, 0, 0]
def k0_dev13 (d0 : Dev nD) : Nat :=
  let c0_i32_146 : BitVec 32 := 0#32
  let c1_i32_74 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v104 : BitVec 32 := Scalar.subi c1_i32_74 v70
  let c4_i32_145 : BitVec 32 := 4#32
  let v203 : BitVec 32 := Scalar.muli v104 c4_i32_145
  let v204 : BitVec 32 := Scalar.addi c0_i32_146 v203
  let c1_i32_75 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v105 : BitVec 32 := Scalar.subi c1_i32_75 v73
  let c2_i32_147 : BitVec 32 := 2#32
  let v205 : BitVec 32 := Scalar.muli v105 c2_i32_147
  let v206 : BitVec 32 := Scalar.addi v204 v205
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_148 : BitVec 32 := 1#32
  let v207 : BitVec 32 := Scalar.muli v76 c1_i32_148
  let v208 : BitVec 32 := Scalar.addi v206 v207
  v208.toNat
def k0_off9 (d0 : Dev nD) : Fin 3 → Nat :=
  let c4_i32_81 : BitVec 32 := 4#32
  let c1_i32_78 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v110 : BitVec 32 := Scalar.subi c1_i32_78 v70
  let v113 : BitVec 32 := Scalar.muli c4_i32_81 v110
  let c2_i32_82 : BitVec 32 := 2#32
  let c1_i32_79 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v111 : BitVec 32 := Scalar.subi c1_i32_79 v73
  let v114 : BitVec 32 := Scalar.muli c2_i32_82 v111
  let v115 : BitVec 32 := Scalar.addi v113 v114
  let c1_i32_80 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v112 : BitVec 32 := Scalar.subi c1_i32_80 v76
  let v116 : BitVec 32 := Scalar.addi v115 v112
  let c0_i32_160 : BitVec 32 := 0#32
  let c0_i32_161 : BitVec 32 := 0#32
  ![v116.toNat, 0, 0]
def k0_dev14 (d0 : Dev nD) : Nat :=
  let c0_i32_155 : BitVec 32 := 0#32
  let c1_i32_78 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v110 : BitVec 32 := Scalar.subi c1_i32_78 v70
  let c4_i32_154 : BitVec 32 := 4#32
  let v217 : BitVec 32 := Scalar.muli v110 c4_i32_154
  let v218 : BitVec 32 := Scalar.addi c0_i32_155 v217
  let c1_i32_79 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v111 : BitVec 32 := Scalar.subi c1_i32_79 v73
  let c2_i32_156 : BitVec 32 := 2#32
  let v219 : BitVec 32 := Scalar.muli v111 c2_i32_156
  let v220 : BitVec 32 := Scalar.addi v218 v219
  let c1_i32_80 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v112 : BitVec 32 := Scalar.subi c1_i32_80 v76
  let c1_i32_157 : BitVec 32 := 1#32
  let v221 : BitVec 32 := Scalar.muli v112 c1_i32_157
  let v222 : BitVec 32 := Scalar.addi v220 v221
  v222.toNat
def k0_off10 (d0 : Dev nD) : Fin 3 → Nat :=
  let c4_i32_58 : BitVec 32 := 4#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v78 : BitVec 32 := Scalar.muli c4_i32_58 v70
  let c2_i32_59 : BitVec 32 := 2#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v79 : BitVec 32 := Scalar.muli c2_i32_59 v73
  let v80 : BitVec 32 := Scalar.addi v78 v79
  let c1_i32_57 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v77 : BitVec 32 := Scalar.subi c1_i32_57 v76
  let v81 : BitVec 32 := Scalar.addi v80 v77
  let c0_i32_170 : BitVec 32 := 0#32
  let c0_i32_171 : BitVec 32 := 0#32
  ![v81.toNat, 0, 0]
def k0_dev15 (d0 : Dev nD) : Nat :=
  let c0_i32_165 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_164 : BitVec 32 := 4#32
  let v231 : BitVec 32 := Scalar.muli v70 c4_i32_164
  let v232 : BitVec 32 := Scalar.addi c0_i32_165 v231
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_166 : BitVec 32 := 2#32
  let v233 : BitVec 32 := Scalar.muli v73 c2_i32_166
  let v234 : BitVec 32 := Scalar.addi v232 v233
  let c1_i32_57 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v77 : BitVec 32 := Scalar.subi c1_i32_57 v76
  let c1_i32_167 : BitVec 32 := 1#32
  let v235 : BitVec 32 := Scalar.muli v77 c1_i32_167
  let v236 : BitVec 32 := Scalar.addi v234 v235
  v236.toNat
def k0_off11 (d0 : Dev nD) : Fin 3 → Nat :=
  let c4_i32_61 : BitVec 32 := 4#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v83 : BitVec 32 := Scalar.muli c4_i32_61 v70
  let c2_i32_62 : BitVec 32 := 2#32
  let c1_i32_60 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v82 : BitVec 32 := Scalar.subi c1_i32_60 v73
  let v84 : BitVec 32 := Scalar.muli c2_i32_62 v82
  let v85 : BitVec 32 := Scalar.addi v83 v84
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v86 : BitVec 32 := Scalar.addi v85 v76
  let c0_i32_179 : BitVec 32 := 0#32
  let c0_i32_180 : BitVec 32 := 0#32
  ![v86.toNat, 0, 0]
def k0_dev16 (d0 : Dev nD) : Nat :=
  let c0_i32_174 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_173 : BitVec 32 := 4#32
  let v245 : BitVec 32 := Scalar.muli v70 c4_i32_173
  let v246 : BitVec 32 := Scalar.addi c0_i32_174 v245
  let c1_i32_60 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v82 : BitVec 32 := Scalar.subi c1_i32_60 v73
  let c2_i32_175 : BitVec 32 := 2#32
  let v247 : BitVec 32 := Scalar.muli v82 c2_i32_175
  let v248 : BitVec 32 := Scalar.addi v246 v247
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_176 : BitVec 32 := 1#32
  let v249 : BitVec 32 := Scalar.muli v76 c1_i32_176
  let v250 : BitVec 32 := Scalar.addi v248 v249
  v250.toNat
def k0_off12 (d0 : Dev nD) : Fin 3 → Nat :=
  let c4_i32_65 : BitVec 32 := 4#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v89 : BitVec 32 := Scalar.muli c4_i32_65 v70
  let c2_i32_66 : BitVec 32 := 2#32
  let c1_i32_63 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v87 : BitVec 32 := Scalar.subi c1_i32_63 v73
  let v90 : BitVec 32 := Scalar.muli c2_i32_66 v87
  let v91 : BitVec 32 := Scalar.addi v89 v90
  let c1_i32_64 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v88 : BitVec 32 := Scalar.subi c1_i32_64 v76
  let v92 : BitVec 32 := Scalar.addi v91 v88
  let c0_i32_188 : BitVec 32 := 0#32
  let c0_i32_189 : BitVec 32 := 0#32
  ![v92.toNat, 0, 0]
def k0_dev17 (d0 : Dev nD) : Nat :=
  let c0_i32_183 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_182 : BitVec 32 := 4#32
  let v259 : BitVec 32 := Scalar.muli v70 c4_i32_182
  let v260 : BitVec 32 := Scalar.addi c0_i32_183 v259
  let c1_i32_63 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v87 : BitVec 32 := Scalar.subi c1_i32_63 v73
  let c2_i32_184 : BitVec 32 := 2#32
  let v261 : BitVec 32 := Scalar.muli v87 c2_i32_184
  let v262 : BitVec 32 := Scalar.addi v260 v261
  let c1_i32_64 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v88 : BitVec 32 := Scalar.subi c1_i32_64 v76
  let c1_i32_185 : BitVec 32 := 1#32
  let v263 : BitVec 32 := Scalar.muli v88 c1_i32_185
  let v264 : BitVec 32 := Scalar.addi v262 v263
  v264.toNat
def k0_off13 (d0 : Dev nD) : Fin 3 → Nat :=
  let c4_i32_68 : BitVec 32 := 4#32
  let c1_i32_67 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v93 : BitVec 32 := Scalar.subi c1_i32_67 v70
  let v94 : BitVec 32 := Scalar.muli c4_i32_68 v93
  let c2_i32_69 : BitVec 32 := 2#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v95 : BitVec 32 := Scalar.muli c2_i32_69 v73
  let v96 : BitVec 32 := Scalar.addi v94 v95
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v97 : BitVec 32 := Scalar.addi v96 v76
  let c0_i32_197 : BitVec 32 := 0#32
  let c0_i32_198 : BitVec 32 := 0#32
  ![v97.toNat, 0, 0]
def k0_dev18 (d0 : Dev nD) : Nat :=
  let c0_i32_192 : BitVec 32 := 0#32
  let c1_i32_67 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v93 : BitVec 32 := Scalar.subi c1_i32_67 v70
  let c4_i32_191 : BitVec 32 := 4#32
  let v273 : BitVec 32 := Scalar.muli v93 c4_i32_191
  let v274 : BitVec 32 := Scalar.addi c0_i32_192 v273
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_193 : BitVec 32 := 2#32
  let v275 : BitVec 32 := Scalar.muli v73 c2_i32_193
  let v276 : BitVec 32 := Scalar.addi v274 v275
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_194 : BitVec 32 := 1#32
  let v277 : BitVec 32 := Scalar.muli v76 c1_i32_194
  let v278 : BitVec 32 := Scalar.addi v276 v277
  v278.toNat
def k0_off14 (d0 : Dev nD) : Fin 3 → Nat :=
  let c4_i32_72 : BitVec 32 := 4#32
  let c1_i32_70 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v98 : BitVec 32 := Scalar.subi c1_i32_70 v70
  let v100 : BitVec 32 := Scalar.muli c4_i32_72 v98
  let c2_i32_73 : BitVec 32 := 2#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v101 : BitVec 32 := Scalar.muli c2_i32_73 v73
  let v102 : BitVec 32 := Scalar.addi v100 v101
  let c1_i32_71 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v99 : BitVec 32 := Scalar.subi c1_i32_71 v76
  let v103 : BitVec 32 := Scalar.addi v102 v99
  let c0_i32_206 : BitVec 32 := 0#32
  let c0_i32_207 : BitVec 32 := 0#32
  ![v103.toNat, 0, 0]
def k0_dev19 (d0 : Dev nD) : Nat :=
  let c0_i32_201 : BitVec 32 := 0#32
  let c1_i32_70 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v98 : BitVec 32 := Scalar.subi c1_i32_70 v70
  let c4_i32_200 : BitVec 32 := 4#32
  let v287 : BitVec 32 := Scalar.muli v98 c4_i32_200
  let v288 : BitVec 32 := Scalar.addi c0_i32_201 v287
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_202 : BitVec 32 := 2#32
  let v289 : BitVec 32 := Scalar.muli v73 c2_i32_202
  let v290 : BitVec 32 := Scalar.addi v288 v289
  let c1_i32_71 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v99 : BitVec 32 := Scalar.subi c1_i32_71 v76
  let c1_i32_203 : BitVec 32 := 1#32
  let v291 : BitVec 32 := Scalar.muli v99 c1_i32_203
  let v292 : BitVec 32 := Scalar.addi v290 v291
  v292.toNat
def k0_off15 (d0 : Dev nD) : Fin 3 → Nat :=
  let c4_i32_76 : BitVec 32 := 4#32
  let c1_i32_74 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v104 : BitVec 32 := Scalar.subi c1_i32_74 v70
  let v106 : BitVec 32 := Scalar.muli c4_i32_76 v104
  let c2_i32_77 : BitVec 32 := 2#32
  let c1_i32_75 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v105 : BitVec 32 := Scalar.subi c1_i32_75 v73
  let v107 : BitVec 32 := Scalar.muli c2_i32_77 v105
  let v108 : BitVec 32 := Scalar.addi v106 v107
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v109 : BitVec 32 := Scalar.addi v108 v76
  let c0_i32_215 : BitVec 32 := 0#32
  let c0_i32_216 : BitVec 32 := 0#32
  ![v109.toNat, 0, 0]
def k0_dev20 (d0 : Dev nD) : Nat :=
  let c0_i32_210 : BitVec 32 := 0#32
  let c1_i32_74 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v104 : BitVec 32 := Scalar.subi c1_i32_74 v70
  let c4_i32_209 : BitVec 32 := 4#32
  let v301 : BitVec 32 := Scalar.muli v104 c4_i32_209
  let v302 : BitVec 32 := Scalar.addi c0_i32_210 v301
  let c1_i32_75 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v105 : BitVec 32 := Scalar.subi c1_i32_75 v73
  let c2_i32_211 : BitVec 32 := 2#32
  let v303 : BitVec 32 := Scalar.muli v105 c2_i32_211
  let v304 : BitVec 32 := Scalar.addi v302 v303
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_212 : BitVec 32 := 1#32
  let v305 : BitVec 32 := Scalar.muli v76 c1_i32_212
  let v306 : BitVec 32 := Scalar.addi v304 v305
  v306.toNat
def k0_off16 (d0 : Dev nD) : Fin 3 → Nat :=
  let c4_i32_81 : BitVec 32 := 4#32
  let c1_i32_78 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v110 : BitVec 32 := Scalar.subi c1_i32_78 v70
  let v113 : BitVec 32 := Scalar.muli c4_i32_81 v110
  let c2_i32_82 : BitVec 32 := 2#32
  let c1_i32_79 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v111 : BitVec 32 := Scalar.subi c1_i32_79 v73
  let v114 : BitVec 32 := Scalar.muli c2_i32_82 v111
  let v115 : BitVec 32 := Scalar.addi v113 v114
  let c1_i32_80 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v112 : BitVec 32 := Scalar.subi c1_i32_80 v76
  let v116 : BitVec 32 := Scalar.addi v115 v112
  let c0_i32_224 : BitVec 32 := 0#32
  let c0_i32_225 : BitVec 32 := 0#32
  ![v116.toNat, 0, 0]
def k0_dev21 (d0 : Dev nD) : Nat :=
  let c0_i32_219 : BitVec 32 := 0#32
  let c1_i32_78 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v110 : BitVec 32 := Scalar.subi c1_i32_78 v70
  let c4_i32_218 : BitVec 32 := 4#32
  let v315 : BitVec 32 := Scalar.muli v110 c4_i32_218
  let v316 : BitVec 32 := Scalar.addi c0_i32_219 v315
  let c1_i32_79 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v111 : BitVec 32 := Scalar.subi c1_i32_79 v73
  let c2_i32_220 : BitVec 32 := 2#32
  let v317 : BitVec 32 := Scalar.muli v111 c2_i32_220
  let v318 : BitVec 32 := Scalar.addi v316 v317
  let c1_i32_80 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v112 : BitVec 32 := Scalar.subi c1_i32_80 v76
  let c1_i32_221 : BitVec 32 := 1#32
  let v319 : BitVec 32 := Scalar.muli v112 c1_i32_221
  let v320 : BitVec 32 := Scalar.addi v318 v319
  v320.toNat
abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev grid1 : Pipeline.Grid := .none

def k1_off1 (d0 : Dev nD) : Fin 3 → Nat :=
  let c4_i32_4 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c4_i32_4 v2
  let c2_i32_5 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.muli c2_i32_5 v5
  let v12 : BitVec 32 := Scalar.addi v10 v11
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v13 : BitVec 32 := Scalar.addi v12 v9
  let c0_i32_33 : BitVec 32 := 0#32
  let c0_i32_34 : BitVec 32 := 0#32
  ![v13.toNat, 0, 0]
def k1_off2 (d0 : Dev nD) : Fin 3 → Nat :=
  let c4_i32_29 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v49 : BitVec 32 := Scalar.muli c4_i32_29 v2
  let c2_i32_30 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v50 : BitVec 32 := Scalar.muli c2_i32_30 v5
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.addi v51 v8
  let c0_i32_35 : BitVec 32 := 0#32
  let c0_i32_36 : BitVec 32 := 0#32
  ![v52.toNat, 0, 0]
def k1_off3 (d0 : Dev nD) : Fin 3 → Nat :=
  let c4_i32_7 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c4_i32_7 v2
  let c2_i32_8 : BitVec 32 := 2#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let v16 : BitVec 32 := Scalar.muli c2_i32_8 v14
  let v17 : BitVec 32 := Scalar.addi v15 v16
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.addi v17 v8
  let c0_i32_50 : BitVec 32 := 0#32
  let c0_i32_51 : BitVec 32 := 0#32
  ![v18.toNat, 0, 0]
def k1_off4 (d0 : Dev nD) : Fin 3 → Nat :=
  let c4_i32_11 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c4_i32_11 v2
  let c2_i32_12 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_9 v5
  let v22 : BitVec 32 := Scalar.muli c2_i32_12 v19
  let v23 : BitVec 32 := Scalar.addi v21 v22
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_10 v8
  let v24 : BitVec 32 := Scalar.addi v23 v20
  let c0_i32_67 : BitVec 32 := 0#32
  let c0_i32_68 : BitVec 32 := 0#32
  ![v24.toNat, 0, 0]
def k1_off5 (d0 : Dev nD) : Fin 3 → Nat :=
  let c4_i32_14 : BitVec 32 := 4#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_13 v2
  let v26 : BitVec 32 := Scalar.muli c4_i32_14 v25
  let c2_i32_15 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.muli c2_i32_15 v5
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.addi v28 v8
  let c0_i32_83 : BitVec 32 := 0#32
  let c0_i32_84 : BitVec 32 := 0#32
  ![v29.toNat, 0, 0]
def k1_off6 (d0 : Dev nD) : Fin 3 → Nat :=
  let c4_i32_18 : BitVec 32 := 4#32
  let c1_i32_16 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v30 : BitVec 32 := Scalar.subi c1_i32_16 v2
  let v32 : BitVec 32 := Scalar.muli c4_i32_18 v30
  let c2_i32_19 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v33 : BitVec 32 := Scalar.muli c2_i32_19 v5
  let v34 : BitVec 32 := Scalar.addi v32 v33
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v31 : BitVec 32 := Scalar.subi c1_i32_17 v8
  let v35 : BitVec 32 := Scalar.addi v34 v31
  let c0_i32_100 : BitVec 32 := 0#32
  let c0_i32_101 : BitVec 32 := 0#32
  ![v35.toNat, 0, 0]
def k1_off7 (d0 : Dev nD) : Fin 3 → Nat :=
  let c4_i32_22 : BitVec 32 := 4#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.subi c1_i32_20 v2
  let v38 : BitVec 32 := Scalar.muli c4_i32_22 v36
  let c2_i32_23 : BitVec 32 := 2#32
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v37 : BitVec 32 := Scalar.subi c1_i32_21 v5
  let v39 : BitVec 32 := Scalar.muli c2_i32_23 v37
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.addi v40 v8
  let c0_i32_116 : BitVec 32 := 0#32
  let c0_i32_117 : BitVec 32 := 0#32
  ![v41.toNat, 0, 0]
def k1_off8 (d0 : Dev nD) : Fin 3 → Nat :=
  let c4_i32_27 : BitVec 32 := 4#32
  let c1_i32_24 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v42 : BitVec 32 := Scalar.subi c1_i32_24 v2
  let v45 : BitVec 32 := Scalar.muli c4_i32_27 v42
  let c2_i32_28 : BitVec 32 := 2#32
  let c1_i32_25 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v43 : BitVec 32 := Scalar.subi c1_i32_25 v5
  let v46 : BitVec 32 := Scalar.muli c2_i32_28 v43
  let v47 : BitVec 32 := Scalar.addi v45 v46
  let c1_i32_26 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v44 : BitVec 32 := Scalar.subi c1_i32_26 v8
  let v48 : BitVec 32 := Scalar.addi v47 v44
  let c0_i32_132 : BitVec 32 := 0#32
  let c0_i32_133 : BitVec 32 := 0#32
  ![v48.toNat, 0, 0]
def k1_off9 (d0 : Dev nD) : Fin 3 → Nat :=
  let c4_i32_4 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c4_i32_4 v2
  let c2_i32_5 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.muli c2_i32_5 v5
  let v12 : BitVec 32 := Scalar.addi v10 v11
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v13 : BitVec 32 := Scalar.addi v12 v9
  let c0_i32_148 : BitVec 32 := 0#32
  let c0_i32_149 : BitVec 32 := 0#32
  ![v13.toNat, 0, 0]
def k1_off10 (d0 : Dev nD) : Fin 3 → Nat :=
  let c4_i32_29 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v49 : BitVec 32 := Scalar.muli c4_i32_29 v2
  let c2_i32_30 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v50 : BitVec 32 := Scalar.muli c2_i32_30 v5
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.addi v51 v8
  let c0_i32_150 : BitVec 32 := 0#32
  let c0_i32_151 : BitVec 32 := 0#32
  ![v52.toNat, 0, 0]
def k1_off11 (d0 : Dev nD) : Fin 3 → Nat :=
  let c4_i32_7 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c4_i32_7 v2
  let c2_i32_8 : BitVec 32 := 2#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let v16 : BitVec 32 := Scalar.muli c2_i32_8 v14
  let v17 : BitVec 32 := Scalar.addi v15 v16
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.addi v17 v8
  let c0_i32_164 : BitVec 32 := 0#32
  let c0_i32_165 : BitVec 32 := 0#32
  ![v18.toNat, 0, 0]
def k1_off12 (d0 : Dev nD) : Fin 3 → Nat :=
  let c4_i32_11 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c4_i32_11 v2
  let c2_i32_12 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_9 v5
  let v22 : BitVec 32 := Scalar.muli c2_i32_12 v19
  let v23 : BitVec 32 := Scalar.addi v21 v22
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_10 v8
  let v24 : BitVec 32 := Scalar.addi v23 v20
  let c0_i32_180 : BitVec 32 := 0#32
  let c0_i32_181 : BitVec 32 := 0#32
  ![v24.toNat, 0, 0]
def k1_off13 (d0 : Dev nD) : Fin 3 → Nat :=
  let c4_i32_14 : BitVec 32 := 4#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_13 v2
  let v26 : BitVec 32 := Scalar.muli c4_i32_14 v25
  let c2_i32_15 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.muli c2_i32_15 v5
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.addi v28 v8
  let c0_i32_196 : BitVec 32 := 0#32
  let c0_i32_197 : BitVec 32 := 0#32
  ![v29.toNat, 0, 0]
def k1_off14 (d0 : Dev nD) : Fin 3 → Nat :=
  let c4_i32_18 : BitVec 32 := 4#32
  let c1_i32_16 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v30 : BitVec 32 := Scalar.subi c1_i32_16 v2
  let v32 : BitVec 32 := Scalar.muli c4_i32_18 v30
  let c2_i32_19 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v33 : BitVec 32 := Scalar.muli c2_i32_19 v5
  let v34 : BitVec 32 := Scalar.addi v32 v33
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v31 : BitVec 32 := Scalar.subi c1_i32_17 v8
  let v35 : BitVec 32 := Scalar.addi v34 v31
  let c0_i32_212 : BitVec 32 := 0#32
  let c0_i32_213 : BitVec 32 := 0#32
  ![v35.toNat, 0, 0]
def k1_off15 (d0 : Dev nD) : Fin 3 → Nat :=
  let c4_i32_22 : BitVec 32 := 4#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.subi c1_i32_20 v2
  let v38 : BitVec 32 := Scalar.muli c4_i32_22 v36
  let c2_i32_23 : BitVec 32 := 2#32
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v37 : BitVec 32 := Scalar.subi c1_i32_21 v5
  let v39 : BitVec 32 := Scalar.muli c2_i32_23 v37
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.addi v40 v8
  let c0_i32_228 : BitVec 32 := 0#32
  let c0_i32_229 : BitVec 32 := 0#32
  ![v41.toNat, 0, 0]
def k1_off16 (d0 : Dev nD) : Fin 3 → Nat :=
  let c4_i32_27 : BitVec 32 := 4#32
  let c1_i32_24 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v42 : BitVec 32 := Scalar.subi c1_i32_24 v2
  let v45 : BitVec 32 := Scalar.muli c4_i32_27 v42
  let c2_i32_28 : BitVec 32 := 2#32
  let c1_i32_25 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v43 : BitVec 32 := Scalar.subi c1_i32_25 v5
  let v46 : BitVec 32 := Scalar.muli c2_i32_28 v43
  let v47 : BitVec 32 := Scalar.addi v45 v46
  let c1_i32_26 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v44 : BitVec 32 := Scalar.subi c1_i32_26 v8
  let v48 : BitVec 32 := Scalar.addi v47 v44
  let c0_i32_244 : BitVec 32 := 0#32
  let c0_i32_245 : BitVec 32 := 0#32
  ![v48.toNat, 0, 0]
abbrev stage1_0 : Fin 1 → Memref sig .tc .vmem S8x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
-- ==== KernelIdeal.lean ====
abbrev S8x1024x640 : Shape := ⟨3, ![8, 1024, 640]⟩
abbrev S8x128x1024 : Shape := ⟨3, ![8, 128, 1024]⟩
abbrev S14 : Shape := ⟨1, ![14]⟩
abbrev S8x128 : Shape := ⟨2, ![8, 128]⟩
abbrev S2 : Shape := ⟨1, ![2]⟩
abbrev S_ : Shape := ⟨0, ![]⟩
abbrev S1 : Shape := ⟨1, ![1]⟩
abbrev S1x1024x640 : Shape := ⟨3, ![1, 1024, 640]⟩
abbrev S1024x640 : Shape := ⟨2, ![1024, 640]⟩
abbrev S1x128x1024 : Shape := ⟨3, ![1, 128, 1024]⟩
abbrev S128x1024 : Shape := ⟨2, ![128, 1024]⟩

abbrev nBuf : Space → Nat
  | .hbm => 8
  | .vmem => 2
  | .smem => 0
  | _ => 0

abbrev bufTy : (tb : Table) → Fin (tcTables nBuf tb) → BufTy
  | .hbm, ⟨0, _⟩ => ⟨S8x1024x640, .bf16⟩
  | .hbm, ⟨1, _⟩ => ⟨S8x128x1024, .bf16⟩
  | .hbm, ⟨2, _⟩ => ⟨S8x1024x640, .bf16⟩
  | .hbm, ⟨3, _⟩ => ⟨S8x128x1024, .bf16⟩
  | .hbm, ⟨4, _⟩ => ⟨S8x1024x640, .bf16⟩
  | .hbm, ⟨5, _⟩ => ⟨S8x128x1024, .bf16⟩
  | .hbm, ⟨6, _⟩ => ⟨S8x128, .f32⟩
  | .hbm, ⟨7, _⟩ => ⟨S8x128, .f32⟩
  | .local _ .vmem, ⟨0, _⟩ => ⟨S8x128, .f32⟩
  | .local _ .vmem, ⟨1, _⟩ => ⟨S8x128, .f32⟩
  | _, _ => ⟨S8x1024x640, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 32 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3_2 : Ref sig .tc := ⟨.hbm, 4, rfl⟩
abbrev main_v3_3 : Ref sig .tc := ⟨.hbm, 5, rfl⟩
abbrev main_v3_6 : Ref sig .tc := ⟨.hbm, 6, rfl⟩
abbrev main_v4_4 : Ref sig .tc := ⟨.hbm, 7, rfl⟩
abbrev cc0_stg0_0 : Ref sig .tc := ⟨.vmem, 0, rfl⟩
abbrev cc1_stg0_0 : Ref sig .tc := ⟨.vmem, 1, rfl⟩
abbrev cc0_sem0_0 : DmaSem sig := 28
abbrev cc1_sem0_0 : DmaSem sig := 31
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v26 : BitVec 32 := Scalar.muli v2 c4_i32_18
  let v27 : BitVec 32 := Scalar.addi c0_i32 v26
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v28 : BitVec 32 := Scalar.muli v5 c2_i32_19
  let v29 : BitVec 32 := Scalar.addi v27 v28
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_20 : BitVec 32 := 1#32
  let v30 : BitVec 32 := Scalar.muli v9 c1_i32_20
  let v31 : BitVec 32 := Scalar.addi v29 v30
  v31.toNat
def k0_dev2 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v32 : BitVec 32 := Scalar.muli v2 c4_i32_22
  let v33 : BitVec 32 := Scalar.addi c0_i32_23 v32
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_24 : BitVec 32 := 2#32
  let v34 : BitVec 32 := Scalar.muli v10 c2_i32_24
  let v35 : BitVec 32 := Scalar.addi v33 v34
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v36 : BitVec 32 := Scalar.muli v8 c1_i32_25
  let v37 : BitVec 32 := Scalar.addi v35 v36
  v37.toNat
def k0_dev3 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v38 : BitVec 32 := Scalar.muli v2 c4_i32_27
  let v39 : BitVec 32 := Scalar.addi c0_i32_28 v38
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_29 : BitVec 32 := 2#32
  let v40 : BitVec 32 := Scalar.muli v11 c2_i32_29
  let v41 : BitVec 32 := Scalar.addi v39 v40
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_30 : BitVec 32 := 1#32
  let v42 : BitVec 32 := Scalar.muli v12 c1_i32_30
  let v43 : BitVec 32 := Scalar.addi v41 v42
  v43.toNat
def k0_dev4 (d0 : Dev nD) : Nat :=
  let c0_i32_33 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_7 v2
  let c4_i32_32 : BitVec 32 := 4#32
  let v44 : BitVec 32 := Scalar.muli v13 c4_i32_32
  let v45 : BitVec 32 := Scalar.addi c0_i32_33 v44
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_34 : BitVec 32 := 2#32
  let v46 : BitVec 32 := Scalar.muli v5 c2_i32_34
  let v47 : BitVec 32 := Scalar.addi v45 v46
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_35 : BitVec 32 := 1#32
  let v48 : BitVec 32 := Scalar.muli v8 c1_i32_35
  let v49 : BitVec 32 := Scalar.addi v47 v48
  v49.toNat
def k0_dev5 (d0 : Dev nD) : Nat :=
  let c0_i32_38 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_8 v2
  let c4_i32_37 : BitVec 32 := 4#32
  let v50 : BitVec 32 := Scalar.muli v14 c4_i32_37
  let v51 : BitVec 32 := Scalar.addi c0_i32_38 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_39 : BitVec 32 := 2#32
  let v52 : BitVec 32 := Scalar.muli v5 c2_i32_39
  let v53 : BitVec 32 := Scalar.addi v51 v52
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let c1_i32_40 : BitVec 32 := 1#32
  let v54 : BitVec 32 := Scalar.muli v15 c1_i32_40
  let v55 : BitVec 32 := Scalar.addi v53 v54
  v55.toNat
def k0_dev6 (d0 : Dev nD) : Nat :=
  let c0_i32_43 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_10 v2
  let c4_i32_42 : BitVec 32 := 4#32
  let v56 : BitVec 32 := Scalar.muli v16 c4_i32_42
  let v57 : BitVec 32 := Scalar.addi c0_i32_43 v56
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_11 v5
  let c2_i32_44 : BitVec 32 := 2#32
  let v58 : BitVec 32 := Scalar.muli v17 c2_i32_44
  let v59 : BitVec 32 := Scalar.addi v57 v58
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v60 : BitVec 32 := Scalar.muli v8 c1_i32_45
  let v61 : BitVec 32 := Scalar.addi v59 v60
  v61.toNat
def k0_dev7 (d0 : Dev nD) : Nat :=
  let c0_i32_48 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_12 v2
  let c4_i32_47 : BitVec 32 := 4#32
  let v62 : BitVec 32 := Scalar.muli v18 c4_i32_47
  let v63 : BitVec 32 := Scalar.addi c0_i32_48 v62
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_13 v5
  let c2_i32_49 : BitVec 32 := 2#32
  let v64 : BitVec 32 := Scalar.muli v19 c2_i32_49
  let v65 : BitVec 32 := Scalar.addi v63 v64
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_14 v8
  let c1_i32_50 : BitVec 32 := 1#32
  let v66 : BitVec 32 := Scalar.muli v20 c1_i32_50
  let v67 : BitVec 32 := Scalar.addi v65 v66
  v67.toNat
def k0_off1 (d0 : Dev nD) : Fin 3 → Nat :=
  let c4_i32_15 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c4_i32_15 v2
  let c2_i32_16 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.muli c2_i32_16 v5
  let v23 : BitVec 32 := Scalar.addi v21 v22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.addi v23 v8
  let c0_i32_86 : BitVec 32 := 0#32
  let c0_i32_87 : BitVec 32 := 0#32
  ![v24.toNat, 0, 0]
def k0_off2 (d0 : Dev nD) : Fin 3 → Nat :=
  let c4_i32_15 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c4_i32_15 v2
  let c2_i32_16 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.muli c2_i32_16 v5
  let v23 : BitVec 32 := Scalar.addi v21 v22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.addi v23 v8
  let c0_i32_91 : BitVec 32 := 0#32
  let c0_i32_92 : BitVec 32 := 0#32
  ![v24.toNat, 0, 0]
def k0_off3 (d0 : Dev nD) : Fin 3 → Nat :=
  let c4_i32_58 : BitVec 32 := 4#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v78 : BitVec 32 := Scalar.muli c4_i32_58 v70
  let c2_i32_59 : BitVec 32 := 2#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v79 : BitVec 32 := Scalar.muli c2_i32_59 v73
  let v80 : BitVec 32 := Scalar.addi v78 v79
  let c1_i32_57 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v77 : BitVec 32 := Scalar.subi c1_i32_57 v76
  let v81 : BitVec 32 := Scalar.addi v80 v77
  let c0_i32_103 : BitVec 32 := 0#32
  let c0_i32_104 : BitVec 32 := 0#32
  ![v81.toNat, 0, 0]
def k0_dev8 (d0 : Dev nD) : Nat :=
  let c0_i32_98 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_97 : BitVec 32 := 4#32
  let v133 : BitVec 32 := Scalar.muli v70 c4_i32_97
  let v134 : BitVec 32 := Scalar.addi c0_i32_98 v133
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_99 : BitVec 32 := 2#32
  let v135 : BitVec 32 := Scalar.muli v73 c2_i32_99
  let v136 : BitVec 32 := Scalar.addi v134 v135
  let c1_i32_57 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v77 : BitVec 32 := Scalar.subi c1_i32_57 v76
  let c1_i32_100 : BitVec 32 := 1#32
  let v137 : BitVec 32 := Scalar.muli v77 c1_i32_100
  let v138 : BitVec 32 := Scalar.addi v136 v137
  v138.toNat
def k0_off4 (d0 : Dev nD) : Fin 3 → Nat :=
  let c4_i32_61 : BitVec 32 := 4#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v83 : BitVec 32 := Scalar.muli c4_i32_61 v70
  let c2_i32_62 : BitVec 32 := 2#32
  let c1_i32_60 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v82 : BitVec 32 := Scalar.subi c1_i32_60 v73
  let v84 : BitVec 32 := Scalar.muli c2_i32_62 v82
  let v85 : BitVec 32 := Scalar.addi v83 v84
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v86 : BitVec 32 := Scalar.addi v85 v76
  let c0_i32_113 : BitVec 32 := 0#32
  let c0_i32_114 : BitVec 32 := 0#32
  ![v86.toNat, 0, 0]
def k0_dev9 (d0 : Dev nD) : Nat :=
  let c0_i32_108 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_107 : BitVec 32 := 4#32
  let v147 : BitVec 32 := Scalar.muli v70 c4_i32_107
  let v148 : BitVec 32 := Scalar.addi c0_i32_108 v147
  let c1_i32_60 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v82 : BitVec 32 := Scalar.subi c1_i32_60 v73
  let c2_i32_109 : BitVec 32 := 2#32
  let v149 : BitVec 32 := Scalar.muli v82 c2_i32_109
  let v150 : BitVec 32 := Scalar.addi v148 v149
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_110 : BitVec 32 := 1#32
  let v151 : BitVec 32 := Scalar.muli v76 c1_i32_110
  let v152 : BitVec 32 := Scalar.addi v150 v151
  v152.toNat
def k0_off5 (d0 : Dev nD) : Fin 3 → Nat :=
  let c4_i32_65 : BitVec 32 := 4#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v89 : BitVec 32 := Scalar.muli c4_i32_65 v70
  let c2_i32_66 : BitVec 32 := 2#32
  let c1_i32_63 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v87 : BitVec 32 := Scalar.subi c1_i32_63 v73
  let v90 : BitVec 32 := Scalar.muli c2_i32_66 v87
  let v91 : BitVec 32 := Scalar.addi v89 v90
  let c1_i32_64 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v88 : BitVec 32 := Scalar.subi c1_i32_64 v76
  let v92 : BitVec 32 := Scalar.addi v91 v88
  let c0_i32_123 : BitVec 32 := 0#32
  let c0_i32_124 : BitVec 32 := 0#32
  ![v92.toNat, 0, 0]
def k0_dev10 (d0 : Dev nD) : Nat :=
  let c0_i32_118 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_117 : BitVec 32 := 4#32
  let v161 : BitVec 32 := Scalar.muli v70 c4_i32_117
  let v162 : BitVec 32 := Scalar.addi c0_i32_118 v161
  let c1_i32_63 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v87 : BitVec 32 := Scalar.subi c1_i32_63 v73
  let c2_i32_119 : BitVec 32 := 2#32
  let v163 : BitVec 32 := Scalar.muli v87 c2_i32_119
  let v164 : BitVec 32 := Scalar.addi v162 v163
  let c1_i32_64 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v88 : BitVec 32 := Scalar.subi c1_i32_64 v76
  let c1_i32_120 : BitVec 32 := 1#32
  let v165 : BitVec 32 := Scalar.muli v88 c1_i32_120
  let v166 : BitVec 32 := Scalar.addi v164 v165
  v166.toNat
def k0_off6 (d0 : Dev nD) : Fin 3 → Nat :=
  let c4_i32_68 : BitVec 32 := 4#32
  let c1_i32_67 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v93 : BitVec 32 := Scalar.subi c1_i32_67 v70
  let v94 : BitVec 32 := Scalar.muli c4_i32_68 v93
  let c2_i32_69 : BitVec 32 := 2#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v95 : BitVec 32 := Scalar.muli c2_i32_69 v73
  let v96 : BitVec 32 := Scalar.addi v94 v95
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v97 : BitVec 32 := Scalar.addi v96 v76
  let c0_i32_132 : BitVec 32 := 0#32
  let c0_i32_133 : BitVec 32 := 0#32
  ![v97.toNat, 0, 0]
def k0_dev11 (d0 : Dev nD) : Nat :=
  let c0_i32_127 : BitVec 32 := 0#32
  let c1_i32_67 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v93 : BitVec 32 := Scalar.subi c1_i32_67 v70
  let c4_i32_126 : BitVec 32 := 4#32
  let v175 : BitVec 32 := Scalar.muli v93 c4_i32_126
  let v176 : BitVec 32 := Scalar.addi c0_i32_127 v175
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_128 : BitVec 32 := 2#32
  let v177 : BitVec 32 := Scalar.muli v73 c2_i32_128
  let v178 : BitVec 32 := Scalar.addi v176 v177
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_129 : BitVec 32 := 1#32
  let v179 : BitVec 32 := Scalar.muli v76 c1_i32_129
  let v180 : BitVec 32 := Scalar.addi v178 v179
  v180.toNat
def k0_off7 (d0 : Dev nD) : Fin 3 → Nat :=
  let c4_i32_72 : BitVec 32 := 4#32
  let c1_i32_70 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v98 : BitVec 32 := Scalar.subi c1_i32_70 v70
  let v100 : BitVec 32 := Scalar.muli c4_i32_72 v98
  let c2_i32_73 : BitVec 32 := 2#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v101 : BitVec 32 := Scalar.muli c2_i32_73 v73
  let v102 : BitVec 32 := Scalar.addi v100 v101
  let c1_i32_71 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v99 : BitVec 32 := Scalar.subi c1_i32_71 v76
  let v103 : BitVec 32 := Scalar.addi v102 v99
  let c0_i32_142 : BitVec 32 := 0#32
  let c0_i32_143 : BitVec 32 := 0#32
  ![v103.toNat, 0, 0]
def k0_dev12 (d0 : Dev nD) : Nat :=
  let c0_i32_137 : BitVec 32 := 0#32
  let c1_i32_70 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v98 : BitVec 32 := Scalar.subi c1_i32_70 v70
  let c4_i32_136 : BitVec 32 := 4#32
  let v189 : BitVec 32 := Scalar.muli v98 c4_i32_136
  let v190 : BitVec 32 := Scalar.addi c0_i32_137 v189
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_138 : BitVec 32 := 2#32
  let v191 : BitVec 32 := Scalar.muli v73 c2_i32_138
  let v192 : BitVec 32 := Scalar.addi v190 v191
  let c1_i32_71 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v99 : BitVec 32 := Scalar.subi c1_i32_71 v76
  let c1_i32_139 : BitVec 32 := 1#32
  let v193 : BitVec 32 := Scalar.muli v99 c1_i32_139
  let v194 : BitVec 32 := Scalar.addi v192 v193
  v194.toNat
def k0_off8 (d0 : Dev nD) : Fin 3 → Nat :=
  let c4_i32_76 : BitVec 32 := 4#32
  let c1_i32_74 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v104 : BitVec 32 := Scalar.subi c1_i32_74 v70
  let v106 : BitVec 32 := Scalar.muli c4_i32_76 v104
  let c2_i32_77 : BitVec 32 := 2#32
  let c1_i32_75 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v105 : BitVec 32 := Scalar.subi c1_i32_75 v73
  let v107 : BitVec 32 := Scalar.muli c2_i32_77 v105
  let v108 : BitVec 32 := Scalar.addi v106 v107
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v109 : BitVec 32 := Scalar.addi v108 v76
  let c0_i32_151 : BitVec 32 := 0#32
  let c0_i32_152 : BitVec 32 := 0#32
  ![v109.toNat, 0, 0]
def k0_dev13 (d0 : Dev nD) : Nat :=
  let c0_i32_146 : BitVec 32 := 0#32
  let c1_i32_74 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v104 : BitVec 32 := Scalar.subi c1_i32_74 v70
  let c4_i32_145 : BitVec 32 := 4#32
  let v203 : BitVec 32 := Scalar.muli v104 c4_i32_145
  let v204 : BitVec 32 := Scalar.addi c0_i32_146 v203
  let c1_i32_75 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v105 : BitVec 32 := Scalar.subi c1_i32_75 v73
  let c2_i32_147 : BitVec 32 := 2#32
  let v205 : BitVec 32 := Scalar.muli v105 c2_i32_147
  let v206 : BitVec 32 := Scalar.addi v204 v205
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_148 : BitVec 32 := 1#32
  let v207 : BitVec 32 := Scalar.muli v76 c1_i32_148
  let v208 : BitVec 32 := Scalar.addi v206 v207
  v208.toNat
def k0_off9 (d0 : Dev nD) : Fin 3 → Nat :=
  let c4_i32_81 : BitVec 32 := 4#32
  let c1_i32_78 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v110 : BitVec 32 := Scalar.subi c1_i32_78 v70
  let v113 : BitVec 32 := Scalar.muli c4_i32_81 v110
  let c2_i32_82 : BitVec 32 := 2#32
  let c1_i32_79 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v111 : BitVec 32 := Scalar.subi c1_i32_79 v73
  let v114 : BitVec 32 := Scalar.muli c2_i32_82 v111
  let v115 : BitVec 32 := Scalar.addi v113 v114
  let c1_i32_80 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v112 : BitVec 32 := Scalar.subi c1_i32_80 v76
  let v116 : BitVec 32 := Scalar.addi v115 v112
  let c0_i32_160 : BitVec 32 := 0#32
  let c0_i32_161 : BitVec 32 := 0#32
  ![v116.toNat, 0, 0]
def k0_dev14 (d0 : Dev nD) : Nat :=
  let c0_i32_155 : BitVec 32 := 0#32
  let c1_i32_78 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v110 : BitVec 32 := Scalar.subi c1_i32_78 v70
  let c4_i32_154 : BitVec 32 := 4#32
  let v217 : BitVec 32 := Scalar.muli v110 c4_i32_154
  let v218 : BitVec 32 := Scalar.addi c0_i32_155 v217
  let c1_i32_79 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v111 : BitVec 32 := Scalar.subi c1_i32_79 v73
  let c2_i32_156 : BitVec 32 := 2#32
  let v219 : BitVec 32 := Scalar.muli v111 c2_i32_156
  let v220 : BitVec 32 := Scalar.addi v218 v219
  let c1_i32_80 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v112 : BitVec 32 := Scalar.subi c1_i32_80 v76
  let c1_i32_157 : BitVec 32 := 1#32
  let v221 : BitVec 32 := Scalar.muli v112 c1_i32_157
  let v222 : BitVec 32 := Scalar.addi v220 v221
  v222.toNat
def k0_off10 (d0 : Dev nD) : Fin 3 → Nat :=
  let c4_i32_58 : BitVec 32 := 4#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v78 : BitVec 32 := Scalar.muli c4_i32_58 v70
  let c2_i32_59 : BitVec 32 := 2#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v79 : BitVec 32 := Scalar.muli c2_i32_59 v73
  let v80 : BitVec 32 := Scalar.addi v78 v79
  let c1_i32_57 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v77 : BitVec 32 := Scalar.subi c1_i32_57 v76
  let v81 : BitVec 32 := Scalar.addi v80 v77
  let c0_i32_170 : BitVec 32 := 0#32
  let c0_i32_171 : BitVec 32 := 0#32
  ![v81.toNat, 0, 0]
def k0_dev15 (d0 : Dev nD) : Nat :=
  let c0_i32_165 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_164 : BitVec 32 := 4#32
  let v231 : BitVec 32 := Scalar.muli v70 c4_i32_164
  let v232 : BitVec 32 := Scalar.addi c0_i32_165 v231
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_166 : BitVec 32 := 2#32
  let v233 : BitVec 32 := Scalar.muli v73 c2_i32_166
  let v234 : BitVec 32 := Scalar.addi v232 v233
  let c1_i32_57 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v77 : BitVec 32 := Scalar.subi c1_i32_57 v76
  let c1_i32_167 : BitVec 32 := 1#32
  let v235 : BitVec 32 := Scalar.muli v77 c1_i32_167
  let v236 : BitVec 32 := Scalar.addi v234 v235
  v236.toNat
def k0_off11 (d0 : Dev nD) : Fin 3 → Nat :=
  let c4_i32_61 : BitVec 32 := 4#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v83 : BitVec 32 := Scalar.muli c4_i32_61 v70
  let c2_i32_62 : BitVec 32 := 2#32
  let c1_i32_60 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v82 : BitVec 32 := Scalar.subi c1_i32_60 v73
  let v84 : BitVec 32 := Scalar.muli c2_i32_62 v82
  let v85 : BitVec 32 := Scalar.addi v83 v84
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v86 : BitVec 32 := Scalar.addi v85 v76
  let c0_i32_179 : BitVec 32 := 0#32
  let c0_i32_180 : BitVec 32 := 0#32
  ![v86.toNat, 0, 0]
def k0_dev16 (d0 : Dev nD) : Nat :=
  let c0_i32_174 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_173 : BitVec 32 := 4#32
  let v245 : BitVec 32 := Scalar.muli v70 c4_i32_173
  let v246 : BitVec 32 := Scalar.addi c0_i32_174 v245
  let c1_i32_60 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v82 : BitVec 32 := Scalar.subi c1_i32_60 v73
  let c2_i32_175 : BitVec 32 := 2#32
  let v247 : BitVec 32 := Scalar.muli v82 c2_i32_175
  let v248 : BitVec 32 := Scalar.addi v246 v247
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_176 : BitVec 32 := 1#32
  let v249 : BitVec 32 := Scalar.muli v76 c1_i32_176
  let v250 : BitVec 32 := Scalar.addi v248 v249
  v250.toNat
def k0_off12 (d0 : Dev nD) : Fin 3 → Nat :=
  let c4_i32_65 : BitVec 32 := 4#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v89 : BitVec 32 := Scalar.muli c4_i32_65 v70
  let c2_i32_66 : BitVec 32 := 2#32
  let c1_i32_63 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v87 : BitVec 32 := Scalar.subi c1_i32_63 v73
  let v90 : BitVec 32 := Scalar.muli c2_i32_66 v87
  let v91 : BitVec 32 := Scalar.addi v89 v90
  let c1_i32_64 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v88 : BitVec 32 := Scalar.subi c1_i32_64 v76
  let v92 : BitVec 32 := Scalar.addi v91 v88
  let c0_i32_188 : BitVec 32 := 0#32
  let c0_i32_189 : BitVec 32 := 0#32
  ![v92.toNat, 0, 0]
def k0_dev17 (d0 : Dev nD) : Nat :=
  let c0_i32_183 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_182 : BitVec 32 := 4#32
  let v259 : BitVec 32 := Scalar.muli v70 c4_i32_182
  let v260 : BitVec 32 := Scalar.addi c0_i32_183 v259
  let c1_i32_63 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v87 : BitVec 32 := Scalar.subi c1_i32_63 v73
  let c2_i32_184 : BitVec 32 := 2#32
  let v261 : BitVec 32 := Scalar.muli v87 c2_i32_184
  let v262 : BitVec 32 := Scalar.addi v260 v261
  let c1_i32_64 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v88 : BitVec 32 := Scalar.subi c1_i32_64 v76
  let c1_i32_185 : BitVec 32 := 1#32
  let v263 : BitVec 32 := Scalar.muli v88 c1_i32_185
  let v264 : BitVec 32 := Scalar.addi v262 v263
  v264.toNat
def k0_off13 (d0 : Dev nD) : Fin 3 → Nat :=
  let c4_i32_68 : BitVec 32 := 4#32
  let c1_i32_67 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v93 : BitVec 32 := Scalar.subi c1_i32_67 v70
  let v94 : BitVec 32 := Scalar.muli c4_i32_68 v93
  let c2_i32_69 : BitVec 32 := 2#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v95 : BitVec 32 := Scalar.muli c2_i32_69 v73
  let v96 : BitVec 32 := Scalar.addi v94 v95
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v97 : BitVec 32 := Scalar.addi v96 v76
  let c0_i32_197 : BitVec 32 := 0#32
  let c0_i32_198 : BitVec 32 := 0#32
  ![v97.toNat, 0, 0]
def k0_dev18 (d0 : Dev nD) : Nat :=
  let c0_i32_192 : BitVec 32 := 0#32
  let c1_i32_67 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v93 : BitVec 32 := Scalar.subi c1_i32_67 v70
  let c4_i32_191 : BitVec 32 := 4#32
  let v273 : BitVec 32 := Scalar.muli v93 c4_i32_191
  let v274 : BitVec 32 := Scalar.addi c0_i32_192 v273
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_193 : BitVec 32 := 2#32
  let v275 : BitVec 32 := Scalar.muli v73 c2_i32_193
  let v276 : BitVec 32 := Scalar.addi v274 v275
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_194 : BitVec 32 := 1#32
  let v277 : BitVec 32 := Scalar.muli v76 c1_i32_194
  let v278 : BitVec 32 := Scalar.addi v276 v277
  v278.toNat
def k0_off14 (d0 : Dev nD) : Fin 3 → Nat :=
  let c4_i32_72 : BitVec 32 := 4#32
  let c1_i32_70 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v98 : BitVec 32 := Scalar.subi c1_i32_70 v70
  let v100 : BitVec 32 := Scalar.muli c4_i32_72 v98
  let c2_i32_73 : BitVec 32 := 2#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v101 : BitVec 32 := Scalar.muli c2_i32_73 v73
  let v102 : BitVec 32 := Scalar.addi v100 v101
  let c1_i32_71 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v99 : BitVec 32 := Scalar.subi c1_i32_71 v76
  let v103 : BitVec 32 := Scalar.addi v102 v99
  let c0_i32_206 : BitVec 32 := 0#32
  let c0_i32_207 : BitVec 32 := 0#32
  ![v103.toNat, 0, 0]
def k0_dev19 (d0 : Dev nD) : Nat :=
  let c0_i32_201 : BitVec 32 := 0#32
  let c1_i32_70 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v98 : BitVec 32 := Scalar.subi c1_i32_70 v70
  let c4_i32_200 : BitVec 32 := 4#32
  let v287 : BitVec 32 := Scalar.muli v98 c4_i32_200
  let v288 : BitVec 32 := Scalar.addi c0_i32_201 v287
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_202 : BitVec 32 := 2#32
  let v289 : BitVec 32 := Scalar.muli v73 c2_i32_202
  let v290 : BitVec 32 := Scalar.addi v288 v289
  let c1_i32_71 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v99 : BitVec 32 := Scalar.subi c1_i32_71 v76
  let c1_i32_203 : BitVec 32 := 1#32
  let v291 : BitVec 32 := Scalar.muli v99 c1_i32_203
  let v292 : BitVec 32 := Scalar.addi v290 v291
  v292.toNat
def k0_off15 (d0 : Dev nD) : Fin 3 → Nat :=
  let c4_i32_76 : BitVec 32 := 4#32
  let c1_i32_74 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v104 : BitVec 32 := Scalar.subi c1_i32_74 v70
  let v106 : BitVec 32 := Scalar.muli c4_i32_76 v104
  let c2_i32_77 : BitVec 32 := 2#32
  let c1_i32_75 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v105 : BitVec 32 := Scalar.subi c1_i32_75 v73
  let v107 : BitVec 32 := Scalar.muli c2_i32_77 v105
  let v108 : BitVec 32 := Scalar.addi v106 v107
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v109 : BitVec 32 := Scalar.addi v108 v76
  let c0_i32_215 : BitVec 32 := 0#32
  let c0_i32_216 : BitVec 32 := 0#32
  ![v109.toNat, 0, 0]
def k0_dev20 (d0 : Dev nD) : Nat :=
  let c0_i32_210 : BitVec 32 := 0#32
  let c1_i32_74 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v104 : BitVec 32 := Scalar.subi c1_i32_74 v70
  let c4_i32_209 : BitVec 32 := 4#32
  let v301 : BitVec 32 := Scalar.muli v104 c4_i32_209
  let v302 : BitVec 32 := Scalar.addi c0_i32_210 v301
  let c1_i32_75 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v105 : BitVec 32 := Scalar.subi c1_i32_75 v73
  let c2_i32_211 : BitVec 32 := 2#32
  let v303 : BitVec 32 := Scalar.muli v105 c2_i32_211
  let v304 : BitVec 32 := Scalar.addi v302 v303
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_212 : BitVec 32 := 1#32
  let v305 : BitVec 32 := Scalar.muli v76 c1_i32_212
  let v306 : BitVec 32 := Scalar.addi v304 v305
  v306.toNat
def k0_off16 (d0 : Dev nD) : Fin 3 → Nat :=
  let c4_i32_81 : BitVec 32 := 4#32
  let c1_i32_78 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v110 : BitVec 32 := Scalar.subi c1_i32_78 v70
  let v113 : BitVec 32 := Scalar.muli c4_i32_81 v110
  let c2_i32_82 : BitVec 32 := 2#32
  let c1_i32_79 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v111 : BitVec 32 := Scalar.subi c1_i32_79 v73
  let v114 : BitVec 32 := Scalar.muli c2_i32_82 v111
  let v115 : BitVec 32 := Scalar.addi v113 v114
  let c1_i32_80 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v112 : BitVec 32 := Scalar.subi c1_i32_80 v76
  let v116 : BitVec 32 := Scalar.addi v115 v112
  let c0_i32_224 : BitVec 32 := 0#32
  let c0_i32_225 : BitVec 32 := 0#32
  ![v116.toNat, 0, 0]
def k0_dev21 (d0 : Dev nD) : Nat :=
  let c0_i32_219 : BitVec 32 := 0#32
  let c1_i32_78 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v110 : BitVec 32 := Scalar.subi c1_i32_78 v70
  let c4_i32_218 : BitVec 32 := 4#32
  let v315 : BitVec 32 := Scalar.muli v110 c4_i32_218
  let v316 : BitVec 32 := Scalar.addi c0_i32_219 v315
  let c1_i32_79 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v111 : BitVec 32 := Scalar.subi c1_i32_79 v73
  let c2_i32_220 : BitVec 32 := 2#32
  let v317 : BitVec 32 := Scalar.muli v111 c2_i32_220
  let v318 : BitVec 32 := Scalar.addi v316 v317
  let c1_i32_80 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v112 : BitVec 32 := Scalar.subi c1_i32_80 v76
  let c1_i32_221 : BitVec 32 := 1#32
  let v319 : BitVec 32 := Scalar.muli v112 c1_i32_221
  let v320 : BitVec 32 := Scalar.addi v318 v319
  v320.toNat
abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev grid1 : Pipeline.Grid := .none

def k1_off1 (d0 : Dev nD) : Fin 3 → Nat :=
  let c4_i32_4 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c4_i32_4 v2
  let c2_i32_5 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.muli c2_i32_5 v5
  let v12 : BitVec 32 := Scalar.addi v10 v11
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v13 : BitVec 32 := Scalar.addi v12 v9
  let c0_i32_33 : BitVec 32 := 0#32
  let c0_i32_34 : BitVec 32 := 0#32
  ![v13.toNat, 0, 0]
def k1_off2 (d0 : Dev nD) : Fin 3 → Nat :=
  let c4_i32_29 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v49 : BitVec 32 := Scalar.muli c4_i32_29 v2
  let c2_i32_30 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v50 : BitVec 32 := Scalar.muli c2_i32_30 v5
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.addi v51 v8
  let c0_i32_35 : BitVec 32 := 0#32
  let c0_i32_36 : BitVec 32 := 0#32
  ![v52.toNat, 0, 0]
def k1_off3 (d0 : Dev nD) : Fin 3 → Nat :=
  let c4_i32_7 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c4_i32_7 v2
  let c2_i32_8 : BitVec 32 := 2#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let v16 : BitVec 32 := Scalar.muli c2_i32_8 v14
  let v17 : BitVec 32 := Scalar.addi v15 v16
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.addi v17 v8
  let c0_i32_50 : BitVec 32 := 0#32
  let c0_i32_51 : BitVec 32 := 0#32
  ![v18.toNat, 0, 0]
def k1_off4 (d0 : Dev nD) : Fin 3 → Nat :=
  let c4_i32_11 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c4_i32_11 v2
  let c2_i32_12 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_9 v5
  let v22 : BitVec 32 := Scalar.muli c2_i32_12 v19
  let v23 : BitVec 32 := Scalar.addi v21 v22
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_10 v8
  let v24 : BitVec 32 := Scalar.addi v23 v20
  let c0_i32_67 : BitVec 32 := 0#32
  let c0_i32_68 : BitVec 32 := 0#32
  ![v24.toNat, 0, 0]
def k1_off5 (d0 : Dev nD) : Fin 3 → Nat :=
  let c4_i32_14 : BitVec 32 := 4#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_13 v2
  let v26 : BitVec 32 := Scalar.muli c4_i32_14 v25
  let c2_i32_15 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.muli c2_i32_15 v5
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.addi v28 v8
  let c0_i32_83 : BitVec 32 := 0#32
  let c0_i32_84 : BitVec 32 := 0#32
  ![v29.toNat, 0, 0]
def k1_off6 (d0 : Dev nD) : Fin 3 → Nat :=
  let c4_i32_18 : BitVec 32 := 4#32
  let c1_i32_16 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v30 : BitVec 32 := Scalar.subi c1_i32_16 v2
  let v32 : BitVec 32 := Scalar.muli c4_i32_18 v30
  let c2_i32_19 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v33 : BitVec 32 := Scalar.muli c2_i32_19 v5
  let v34 : BitVec 32 := Scalar.addi v32 v33
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v31 : BitVec 32 := Scalar.subi c1_i32_17 v8
  let v35 : BitVec 32 := Scalar.addi v34 v31
  let c0_i32_100 : BitVec 32 := 0#32
  let c0_i32_101 : BitVec 32 := 0#32
  ![v35.toNat, 0, 0]
def k1_off7 (d0 : Dev nD) : Fin 3 → Nat :=
  let c4_i32_22 : BitVec 32 := 4#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.subi c1_i32_20 v2
  let v38 : BitVec 32 := Scalar.muli c4_i32_22 v36
  let c2_i32_23 : BitVec 32 := 2#32
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v37 : BitVec 32 := Scalar.subi c1_i32_21 v5
  let v39 : BitVec 32 := Scalar.muli c2_i32_23 v37
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.addi v40 v8
  let c0_i32_116 : BitVec 32 := 0#32
  let c0_i32_117 : BitVec 32 := 0#32
  ![v41.toNat, 0, 0]
def k1_off8 (d0 : Dev nD) : Fin 3 → Nat :=
  let c4_i32_27 : BitVec 32 := 4#32
  let c1_i32_24 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v42 : BitVec 32 := Scalar.subi c1_i32_24 v2
  let v45 : BitVec 32 := Scalar.muli c4_i32_27 v42
  let c2_i32_28 : BitVec 32 := 2#32
  let c1_i32_25 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v43 : BitVec 32 := Scalar.subi c1_i32_25 v5
  let v46 : BitVec 32 := Scalar.muli c2_i32_28 v43
  let v47 : BitVec 32 := Scalar.addi v45 v46
  let c1_i32_26 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v44 : BitVec 32 := Scalar.subi c1_i32_26 v8
  let v48 : BitVec 32 := Scalar.addi v47 v44
  let c0_i32_132 : BitVec 32 := 0#32
  let c0_i32_133 : BitVec 32 := 0#32
  ![v48.toNat, 0, 0]
def k1_off9 (d0 : Dev nD) : Fin 3 → Nat :=
  let c4_i32_4 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c4_i32_4 v2
  let c2_i32_5 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.muli c2_i32_5 v5
  let v12 : BitVec 32 := Scalar.addi v10 v11
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v13 : BitVec 32 := Scalar.addi v12 v9
  let c0_i32_148 : BitVec 32 := 0#32
  let c0_i32_149 : BitVec 32 := 0#32
  ![v13.toNat, 0, 0]
def k1_off10 (d0 : Dev nD) : Fin 3 → Nat :=
  let c4_i32_29 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v49 : BitVec 32 := Scalar.muli c4_i32_29 v2
  let c2_i32_30 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v50 : BitVec 32 := Scalar.muli c2_i32_30 v5
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.addi v51 v8
  let c0_i32_150 : BitVec 32 := 0#32
  let c0_i32_151 : BitVec 32 := 0#32
  ![v52.toNat, 0, 0]
def k1_off11 (d0 : Dev nD) : Fin 3 → Nat :=
  let c4_i32_7 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c4_i32_7 v2
  let c2_i32_8 : BitVec 32 := 2#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let v16 : BitVec 32 := Scalar.muli c2_i32_8 v14
  let v17 : BitVec 32 := Scalar.addi v15 v16
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.addi v17 v8
  let c0_i32_164 : BitVec 32 := 0#32
  let c0_i32_165 : BitVec 32 := 0#32
  ![v18.toNat, 0, 0]
def k1_off12 (d0 : Dev nD) : Fin 3 → Nat :=
  let c4_i32_11 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c4_i32_11 v2
  let c2_i32_12 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_9 v5
  let v22 : BitVec 32 := Scalar.muli c2_i32_12 v19
  let v23 : BitVec 32 := Scalar.addi v21 v22
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_10 v8
  let v24 : BitVec 32 := Scalar.addi v23 v20
  let c0_i32_180 : BitVec 32 := 0#32
  let c0_i32_181 : BitVec 32 := 0#32
  ![v24.toNat, 0, 0]
def k1_off13 (d0 : Dev nD) : Fin 3 → Nat :=
  let c4_i32_14 : BitVec 32 := 4#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_13 v2
  let v26 : BitVec 32 := Scalar.muli c4_i32_14 v25
  let c2_i32_15 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.muli c2_i32_15 v5
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.addi v28 v8
  let c0_i32_196 : BitVec 32 := 0#32
  let c0_i32_197 : BitVec 32 := 0#32
  ![v29.toNat, 0, 0]
def k1_off14 (d0 : Dev nD) : Fin 3 → Nat :=
  let c4_i32_18 : BitVec 32 := 4#32
  let c1_i32_16 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v30 : BitVec 32 := Scalar.subi c1_i32_16 v2
  let v32 : BitVec 32 := Scalar.muli c4_i32_18 v30
  let c2_i32_19 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v33 : BitVec 32 := Scalar.muli c2_i32_19 v5
  let v34 : BitVec 32 := Scalar.addi v32 v33
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v31 : BitVec 32 := Scalar.subi c1_i32_17 v8
  let v35 : BitVec 32 := Scalar.addi v34 v31
  let c0_i32_212 : BitVec 32 := 0#32
  let c0_i32_213 : BitVec 32 := 0#32
  ![v35.toNat, 0, 0]
def k1_off15 (d0 : Dev nD) : Fin 3 → Nat :=
  let c4_i32_22 : BitVec 32 := 4#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.subi c1_i32_20 v2
  let v38 : BitVec 32 := Scalar.muli c4_i32_22 v36
  let c2_i32_23 : BitVec 32 := 2#32
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v37 : BitVec 32 := Scalar.subi c1_i32_21 v5
  let v39 : BitVec 32 := Scalar.muli c2_i32_23 v37
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.addi v40 v8
  let c0_i32_228 : BitVec 32 := 0#32
  let c0_i32_229 : BitVec 32 := 0#32
  ![v41.toNat, 0, 0]
def k1_off16 (d0 : Dev nD) : Fin 3 → Nat :=
  let c4_i32_27 : BitVec 32 := 4#32
  let c1_i32_24 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v42 : BitVec 32 := Scalar.subi c1_i32_24 v2
  let v45 : BitVec 32 := Scalar.muli c4_i32_27 v42
  let c2_i32_28 : BitVec 32 := 2#32
  let c1_i32_25 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v43 : BitVec 32 := Scalar.subi c1_i32_25 v5
  let v46 : BitVec 32 := Scalar.muli c2_i32_28 v43
  let v47 : BitVec 32 := Scalar.addi v45 v46
  let c1_i32_26 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v44 : BitVec 32 := Scalar.subi c1_i32_26 v8
  let v48 : BitVec 32 := Scalar.addi v47 v44
  let c0_i32_244 : BitVec 32 := 0#32
  let c0_i32_245 : BitVec 32 := 0#32
  ![v48.toNat, 0, 0]
abbrev stage1_0 : Fin 1 → Memref sig .tc .vmem S8x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
-- ==== ReferenceIdeal.lean ====
abbrev S64x1024x640 : Shape := ⟨3, ![64, 1024, 640]⟩
abbrev S64x128x1024 : Shape := ⟨3, ![64, 128, 1024]⟩
abbrev S8x8x1024x640 : Shape := ⟨4, ![8, 8, 1024, 640]⟩
abbrev S8x8x128x1024 : Shape := ⟨4, ![8, 8, 128, 1024]⟩

abbrev nBuf : Space → Nat
  | .hbm => 8
  | .vmem => 0
  | .smem => 0
  | _ => 0

abbrev bufTy : (tb : Table) → Fin (tcTables nBuf tb) → BufTy
  | .hbm, ⟨0, _⟩ => ⟨S64x1024x640, .bf16⟩
  | .hbm, ⟨1, _⟩ => ⟨S64x128x1024, .bf16⟩
  | .hbm, ⟨2, _⟩ => ⟨S8x8x1024x640, .bf16⟩
  | .hbm, ⟨3, _⟩ => ⟨S8x8x1024x640, .bf16⟩
  | .hbm, ⟨4, _⟩ => ⟨S64x1024x640, .bf16⟩
  | .hbm, ⟨5, _⟩ => ⟨S8x8x128x1024, .bf16⟩
  | .hbm, ⟨6, _⟩ => ⟨S8x8x128x1024, .bf16⟩
  | .hbm, ⟨7, _⟩ => ⟨S64x128x1024, .bf16⟩
  | _, _ => ⟨S64x1024x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Reference.lean ====
abbrev S64x1024x640 : Shape := ⟨3, ![64, 1024, 640]⟩
abbrev S64x128x1024 : Shape := ⟨3, ![64, 128, 1024]⟩
abbrev S8x8x1024x640 : Shape := ⟨4, ![8, 8, 1024, 640]⟩
abbrev S8x8x128x1024 : Shape := ⟨4, ![8, 8, 128, 1024]⟩

abbrev nBuf : Space → Nat
  | .hbm => 8
  | .vmem => 0
  | .smem => 0
  | _ => 0

abbrev bufTy : (tb : Table) → Fin (tcTables nBuf tb) → BufTy
  | .hbm, ⟨0, _⟩ => ⟨S64x1024x640, .bf16⟩
  | .hbm, ⟨1, _⟩ => ⟨S64x128x1024, .bf16⟩
  | .hbm, ⟨2, _⟩ => ⟨S8x8x1024x640, .bf16⟩
  | .hbm, ⟨3, _⟩ => ⟨S8x8x1024x640, .bf16⟩
  | .hbm, ⟨4, _⟩ => ⟨S64x1024x640, .bf16⟩
  | .hbm, ⟨5, _⟩ => ⟨S8x8x128x1024, .bf16⟩
  | .hbm, ⟨6, _⟩ => ⟨S8x8x128x1024, .bf16⟩
  | .hbm, ⟨7, _⟩ => ⟨S64x128x1024, .bf16⟩
  | _, _ => ⟨S64x1024x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelF.lean ====
abbrev S8x1024x768 : Shape := ⟨3, ![8, 1024, 768]⟩
abbrev S8x352x1024 : Shape := ⟨3, ![8, 352, 1024]⟩
abbrev S14 : Shape := ⟨1, ![14]⟩
abbrev S8x128 : Shape := ⟨2, ![8, 128]⟩
abbrev S2 : Shape := ⟨1, ![2]⟩
abbrev S_ : Shape := ⟨0, ![]⟩
abbrev S1 : Shape := ⟨1, ![1]⟩
abbrev S1x1024x768 : Shape := ⟨3, ![1, 1024, 768]⟩
abbrev S1024x768 : Shape := ⟨2, ![1024, 768]⟩
abbrev S1x352x1024 : Shape := ⟨3, ![1, 352, 1024]⟩
abbrev S352x1024 : Shape := ⟨2, ![352, 1024]⟩

abbrev nBuf : Space → Nat
  | .hbm => 8
  | .vmem => 2
  | .smem => 0
  | _ => 0

abbrev bufTy : (tb : Table) → Fin (tcTables nBuf tb) → BufTy
  | .hbm, ⟨0, _⟩ => ⟨S8x1024x768, .bf16⟩
  | .hbm, ⟨1, _⟩ => ⟨S8x352x1024, .bf16⟩
  | .hbm, ⟨2, _⟩ => ⟨S8x1024x768, .bf16⟩
  | .hbm, ⟨3, _⟩ => ⟨S8x352x1024, .bf16⟩
  | .hbm, ⟨4, _⟩ => ⟨S8x1024x768, .bf16⟩
  | .hbm, ⟨5, _⟩ => ⟨S8x352x1024, .bf16⟩
  | .hbm, ⟨6, _⟩ => ⟨S8x128, .f32⟩
  | .hbm, ⟨7, _⟩ => ⟨S8x128, .f32⟩
  | .local _ .vmem, ⟨0, _⟩ => ⟨S8x128, .f32⟩
  | .local _ .vmem, ⟨1, _⟩ => ⟨S8x128, .f32⟩
  | _, _ => ⟨S8x1024x768, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 32 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3_2 : Ref sig .tc := ⟨.hbm, 4, rfl⟩
abbrev main_v3_3 : Ref sig .tc := ⟨.hbm, 5, rfl⟩
abbrev main_v3_6 : Ref sig .tc := ⟨.hbm, 6, rfl⟩
abbrev main_v4_4 : Ref sig .tc := ⟨.hbm, 7, rfl⟩
abbrev cc0_stg0_0 : Ref sig .tc := ⟨.vmem, 0, rfl⟩
abbrev cc1_stg0_0 : Ref sig .tc := ⟨.vmem, 1, rfl⟩
abbrev cc0_sem0_0 : DmaSem sig := 28
abbrev cc1_sem0_0 : DmaSem sig := 31
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v26 : BitVec 32 := Scalar.muli v2 c4_i32_18
  let v27 : BitVec 32 := Scalar.addi c0_i32 v26
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v28 : BitVec 32 := Scalar.muli v5 c2_i32_19
  let v29 : BitVec 32 := Scalar.addi v27 v28
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_20 : BitVec 32 := 1#32
  let v30 : BitVec 32 := Scalar.muli v9 c1_i32_20
  let v31 : BitVec 32 := Scalar.addi v29 v30
  v31.toNat
def k0_dev2 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v32 : BitVec 32 := Scalar.muli v2 c4_i32_22
  let v33 : BitVec 32 := Scalar.addi c0_i32_23 v32
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_24 : BitVec 32 := 2#32
  let v34 : BitVec 32 := Scalar.muli v10 c2_i32_24
  let v35 : BitVec 32 := Scalar.addi v33 v34
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v36 : BitVec 32 := Scalar.muli v8 c1_i32_25
  let v37 : BitVec 32 := Scalar.addi v35 v36
  v37.toNat
def k0_dev3 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v38 : BitVec 32 := Scalar.muli v2 c4_i32_27
  let v39 : BitVec 32 := Scalar.addi c0_i32_28 v38
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_29 : BitVec 32 := 2#32
  let v40 : BitVec 32 := Scalar.muli v11 c2_i32_29
  let v41 : BitVec 32 := Scalar.addi v39 v40
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_30 : BitVec 32 := 1#32
  let v42 : BitVec 32 := Scalar.muli v12 c1_i32_30
  let v43 : BitVec 32 := Scalar.addi v41 v42
  v43.toNat
def k0_dev4 (d0 : Dev nD) : Nat :=
  let c0_i32_33 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_7 v2
  let c4_i32_32 : BitVec 32 := 4#32
  let v44 : BitVec 32 := Scalar.muli v13 c4_i32_32
  let v45 : BitVec 32 := Scalar.addi c0_i32_33 v44
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_34 : BitVec 32 := 2#32
  let v46 : BitVec 32 := Scalar.muli v5 c2_i32_34
  let v47 : BitVec 32 := Scalar.addi v45 v46
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_35 : BitVec 32 := 1#32
  let v48 : BitVec 32 := Scalar.muli v8 c1_i32_35
  let v49 : BitVec 32 := Scalar.addi v47 v48
  v49.toNat
def k0_dev5 (d0 : Dev nD) : Nat :=
  let c0_i32_38 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_8 v2
  let c4_i32_37 : BitVec 32 := 4#32
  let v50 : BitVec 32 := Scalar.muli v14 c4_i32_37
  let v51 : BitVec 32 := Scalar.addi c0_i32_38 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_39 : BitVec 32 := 2#32
  let v52 : BitVec 32 := Scalar.muli v5 c2_i32_39
  let v53 : BitVec 32 := Scalar.addi v51 v52
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let c1_i32_40 : BitVec 32 := 1#32
  let v54 : BitVec 32 := Scalar.muli v15 c1_i32_40
  let v55 : BitVec 32 := Scalar.addi v53 v54
  v55.toNat
def k0_dev6 (d0 : Dev nD) : Nat :=
  let c0_i32_43 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_10 v2
  let c4_i32_42 : BitVec 32 := 4#32
  let v56 : BitVec 32 := Scalar.muli v16 c4_i32_42
  let v57 : BitVec 32 := Scalar.addi c0_i32_43 v56
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_11 v5
  let c2_i32_44 : BitVec 32 := 2#32
  let v58 : BitVec 32 := Scalar.muli v17 c2_i32_44
  let v59 : BitVec 32 := Scalar.addi v57 v58
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v60 : BitVec 32 := Scalar.muli v8 c1_i32_45
  let v61 : BitVec 32 := Scalar.addi v59 v60
  v61.toNat
def k0_dev7 (d0 : Dev nD) : Nat :=
  let c0_i32_48 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_12 v2
  let c4_i32_47 : BitVec 32 := 4#32
  let v62 : BitVec 32 := Scalar.muli v18 c4_i32_47
  let v63 : BitVec 32 := Scalar.addi c0_i32_48 v62
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_13 v5
  let c2_i32_49 : BitVec 32 := 2#32
  let v64 : BitVec 32 := Scalar.muli v19 c2_i32_49
  let v65 : BitVec 32 := Scalar.addi v63 v64
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_14 v8
  let c1_i32_50 : BitVec 32 := 1#32
  let v66 : BitVec 32 := Scalar.muli v20 c1_i32_50
  let v67 : BitVec 32 := Scalar.addi v65 v66
  v67.toNat
def k0_off1 (d0 : Dev nD) : Fin 3 → Nat :=
  let c4_i32_15 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c4_i32_15 v2
  let c2_i32_16 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.muli c2_i32_16 v5
  let v23 : BitVec 32 := Scalar.addi v21 v22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.addi v23 v8
  let c0_i32_86 : BitVec 32 := 0#32
  let c0_i32_87 : BitVec 32 := 0#32
  ![v24.toNat, 0, 0]
def k0_off2 (d0 : Dev nD) : Fin 3 → Nat :=
  let c4_i32_15 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c4_i32_15 v2
  let c2_i32_16 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.muli c2_i32_16 v5
  let v23 : BitVec 32 := Scalar.addi v21 v22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.addi v23 v8
  let c0_i32_91 : BitVec 32 := 0#32
  let c0_i32_92 : BitVec 32 := 0#32
  ![v24.toNat, 0, 0]
def k0_off3 (d0 : Dev nD) : Fin 3 → Nat :=
  let c4_i32_58 : BitVec 32 := 4#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v78 : BitVec 32 := Scalar.muli c4_i32_58 v70
  let c2_i32_59 : BitVec 32 := 2#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v79 : BitVec 32 := Scalar.muli c2_i32_59 v73
  let v80 : BitVec 32 := Scalar.addi v78 v79
  let c1_i32_57 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v77 : BitVec 32 := Scalar.subi c1_i32_57 v76
  let v81 : BitVec 32 := Scalar.addi v80 v77
  let c0_i32_103 : BitVec 32 := 0#32
  let c0_i32_104 : BitVec 32 := 0#32
  ![v81.toNat, 0, 0]
def k0_dev8 (d0 : Dev nD) : Nat :=
  let c0_i32_98 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_97 : BitVec 32 := 4#32
  let v133 : BitVec 32 := Scalar.muli v70 c4_i32_97
  let v134 : BitVec 32 := Scalar.addi c0_i32_98 v133
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_99 : BitVec 32 := 2#32
  let v135 : BitVec 32 := Scalar.muli v73 c2_i32_99
  let v136 : BitVec 32 := Scalar.addi v134 v135
  let c1_i32_57 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v77 : BitVec 32 := Scalar.subi c1_i32_57 v76
  let c1_i32_100 : BitVec 32 := 1#32
  let v137 : BitVec 32 := Scalar.muli v77 c1_i32_100
  let v138 : BitVec 32 := Scalar.addi v136 v137
  v138.toNat
def k0_off4 (d0 : Dev nD) : Fin 3 → Nat :=
  let c4_i32_61 : BitVec 32 := 4#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v83 : BitVec 32 := Scalar.muli c4_i32_61 v70
  let c2_i32_62 : BitVec 32 := 2#32
  let c1_i32_60 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v82 : BitVec 32 := Scalar.subi c1_i32_60 v73
  let v84 : BitVec 32 := Scalar.muli c2_i32_62 v82
  let v85 : BitVec 32 := Scalar.addi v83 v84
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v86 : BitVec 32 := Scalar.addi v85 v76
  let c0_i32_113 : BitVec 32 := 0#32
  let c0_i32_114 : BitVec 32 := 0#32
  ![v86.toNat, 0, 0]
def k0_dev9 (d0 : Dev nD) : Nat :=
  let c0_i32_108 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_107 : BitVec 32 := 4#32
  let v147 : BitVec 32 := Scalar.muli v70 c4_i32_107
  let v148 : BitVec 32 := Scalar.addi c0_i32_108 v147
  let c1_i32_60 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v82 : BitVec 32 := Scalar.subi c1_i32_60 v73
  let c2_i32_109 : BitVec 32 := 2#32
  let v149 : BitVec 32 := Scalar.muli v82 c2_i32_109
  let v150 : BitVec 32 := Scalar.addi v148 v149
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_110 : BitVec 32 := 1#32
  let v151 : BitVec 32 := Scalar.muli v76 c1_i32_110
  let v152 : BitVec 32 := Scalar.addi v150 v151
  v152.toNat
def k0_off5 (d0 : Dev nD) : Fin 3 → Nat :=
  let c4_i32_65 : BitVec 32 := 4#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v89 : BitVec 32 := Scalar.muli c4_i32_65 v70
  let c2_i32_66 : BitVec 32 := 2#32
  let c1_i32_63 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v87 : BitVec 32 := Scalar.subi c1_i32_63 v73
  let v90 : BitVec 32 := Scalar.muli c2_i32_66 v87
  let v91 : BitVec 32 := Scalar.addi v89 v90
  let c1_i32_64 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v88 : BitVec 32 := Scalar.subi c1_i32_64 v76
  let v92 : BitVec 32 := Scalar.addi v91 v88
  let c0_i32_123 : BitVec 32 := 0#32
  let c0_i32_124 : BitVec 32 := 0#32
  ![v92.toNat, 0, 0]
def k0_dev10 (d0 : Dev nD) : Nat :=
  let c0_i32_118 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_117 : BitVec 32 := 4#32
  let v161 : BitVec 32 := Scalar.muli v70 c4_i32_117
  let v162 : BitVec 32 := Scalar.addi c0_i32_118 v161
  let c1_i32_63 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v87 : BitVec 32 := Scalar.subi c1_i32_63 v73
  let c2_i32_119 : BitVec 32 := 2#32
  let v163 : BitVec 32 := Scalar.muli v87 c2_i32_119
  let v164 : BitVec 32 := Scalar.addi v162 v163
  let c1_i32_64 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v88 : BitVec 32 := Scalar.subi c1_i32_64 v76
  let c1_i32_120 : BitVec 32 := 1#32
  let v165 : BitVec 32 := Scalar.muli v88 c1_i32_120
  let v166 : BitVec 32 := Scalar.addi v164 v165
  v166.toNat
def k0_off6 (d0 : Dev nD) : Fin 3 → Nat :=
  let c4_i32_68 : BitVec 32 := 4#32
  let c1_i32_67 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v93 : BitVec 32 := Scalar.subi c1_i32_67 v70
  let v94 : BitVec 32 := Scalar.muli c4_i32_68 v93
  let c2_i32_69 : BitVec 32 := 2#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v95 : BitVec 32 := Scalar.muli c2_i32_69 v73
  let v96 : BitVec 32 := Scalar.addi v94 v95
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v97 : BitVec 32 := Scalar.addi v96 v76
  let c0_i32_132 : BitVec 32 := 0#32
  let c0_i32_133 : BitVec 32 := 0#32
  ![v97.toNat, 0, 0]
def k0_dev11 (d0 : Dev nD) : Nat :=
  let c0_i32_127 : BitVec 32 := 0#32
  let c1_i32_67 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v93 : BitVec 32 := Scalar.subi c1_i32_67 v70
  let c4_i32_126 : BitVec 32 := 4#32
  let v175 : BitVec 32 := Scalar.muli v93 c4_i32_126
  let v176 : BitVec 32 := Scalar.addi c0_i32_127 v175
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_128 : BitVec 32 := 2#32
  let v177 : BitVec 32 := Scalar.muli v73 c2_i32_128
  let v178 : BitVec 32 := Scalar.addi v176 v177
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_129 : BitVec 32 := 1#32
  let v179 : BitVec 32 := Scalar.muli v76 c1_i32_129
  let v180 : BitVec 32 := Scalar.addi v178 v179
  v180.toNat
def k0_off7 (d0 : Dev nD) : Fin 3 → Nat :=
  let c4_i32_72 : BitVec 32 := 4#32
  let c1_i32_70 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v98 : BitVec 32 := Scalar.subi c1_i32_70 v70
  let v100 : BitVec 32 := Scalar.muli c4_i32_72 v98
  let c2_i32_73 : BitVec 32 := 2#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v101 : BitVec 32 := Scalar.muli c2_i32_73 v73
  let v102 : BitVec 32 := Scalar.addi v100 v101
  let c1_i32_71 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v99 : BitVec 32 := Scalar.subi c1_i32_71 v76
  let v103 : BitVec 32 := Scalar.addi v102 v99
  let c0_i32_142 : BitVec 32 := 0#32
  let c0_i32_143 : BitVec 32 := 0#32
  ![v103.toNat, 0, 0]
def k0_dev12 (d0 : Dev nD) : Nat :=
  let c0_i32_137 : BitVec 32 := 0#32
  let c1_i32_70 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v98 : BitVec 32 := Scalar.subi c1_i32_70 v70
  let c4_i32_136 : BitVec 32 := 4#32
  let v189 : BitVec 32 := Scalar.muli v98 c4_i32_136
  let v190 : BitVec 32 := Scalar.addi c0_i32_137 v189
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_138 : BitVec 32 := 2#32
  let v191 : BitVec 32 := Scalar.muli v73 c2_i32_138
  let v192 : BitVec 32 := Scalar.addi v190 v191
  let c1_i32_71 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v99 : BitVec 32 := Scalar.subi c1_i32_71 v76
  let c1_i32_139 : BitVec 32 := 1#32
  let v193 : BitVec 32 := Scalar.muli v99 c1_i32_139
  let v194 : BitVec 32 := Scalar.addi v192 v193
  v194.toNat
def k0_off8 (d0 : Dev nD) : Fin 3 → Nat :=
  let c4_i32_76 : BitVec 32 := 4#32
  let c1_i32_74 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v104 : BitVec 32 := Scalar.subi c1_i32_74 v70
  let v106 : BitVec 32 := Scalar.muli c4_i32_76 v104
  let c2_i32_77 : BitVec 32 := 2#32
  let c1_i32_75 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v105 : BitVec 32 := Scalar.subi c1_i32_75 v73
  let v107 : BitVec 32 := Scalar.muli c2_i32_77 v105
  let v108 : BitVec 32 := Scalar.addi v106 v107
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v109 : BitVec 32 := Scalar.addi v108 v76
  let c0_i32_151 : BitVec 32 := 0#32
  let c0_i32_152 : BitVec 32 := 0#32
  ![v109.toNat, 0, 0]
def k0_dev13 (d0 : Dev nD) : Nat :=
  let c0_i32_146 : BitVec 32 := 0#32
  let c1_i32_74 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v104 : BitVec 32 := Scalar.subi c1_i32_74 v70
  let c4_i32_145 : BitVec 32 := 4#32
  let v203 : BitVec 32 := Scalar.muli v104 c4_i32_145
  let v204 : BitVec 32 := Scalar.addi c0_i32_146 v203
  let c1_i32_75 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v105 : BitVec 32 := Scalar.subi c1_i32_75 v73
  let c2_i32_147 : BitVec 32 := 2#32
  let v205 : BitVec 32 := Scalar.muli v105 c2_i32_147
  let v206 : BitVec 32 := Scalar.addi v204 v205
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_148 : BitVec 32 := 1#32
  let v207 : BitVec 32 := Scalar.muli v76 c1_i32_148
  let v208 : BitVec 32 := Scalar.addi v206 v207
  v208.toNat
def k0_off9 (d0 : Dev nD) : Fin 3 → Nat :=
  let c4_i32_81 : BitVec 32 := 4#32
  let c1_i32_78 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v110 : BitVec 32 := Scalar.subi c1_i32_78 v70
  let v113 : BitVec 32 := Scalar.muli c4_i32_81 v110
  let c2_i32_82 : BitVec 32 := 2#32
  let c1_i32_79 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v111 : BitVec 32 := Scalar.subi c1_i32_79 v73
  let v114 : BitVec 32 := Scalar.muli c2_i32_82 v111
  let v115 : BitVec 32 := Scalar.addi v113 v114
  let c1_i32_80 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v112 : BitVec 32 := Scalar.subi c1_i32_80 v76
  let v116 : BitVec 32 := Scalar.addi v115 v112
  let c0_i32_160 : BitVec 32 := 0#32
  let c0_i32_161 : BitVec 32 := 0#32
  ![v116.toNat, 0, 0]
def k0_dev14 (d0 : Dev nD) : Nat :=
  let c0_i32_155 : BitVec 32 := 0#32
  let c1_i32_78 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v110 : BitVec 32 := Scalar.subi c1_i32_78 v70
  let c4_i32_154 : BitVec 32 := 4#32
  let v217 : BitVec 32 := Scalar.muli v110 c4_i32_154
  let v218 : BitVec 32 := Scalar.addi c0_i32_155 v217
  let c1_i32_79 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v111 : BitVec 32 := Scalar.subi c1_i32_79 v73
  let c2_i32_156 : BitVec 32 := 2#32
  let v219 : BitVec 32 := Scalar.muli v111 c2_i32_156
  let v220 : BitVec 32 := Scalar.addi v218 v219
  let c1_i32_80 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v112 : BitVec 32 := Scalar.subi c1_i32_80 v76
  let c1_i32_157 : BitVec 32 := 1#32
  let v221 : BitVec 32 := Scalar.muli v112 c1_i32_157
  let v222 : BitVec 32 := Scalar.addi v220 v221
  v222.toNat
def k0_off10 (d0 : Dev nD) : Fin 3 → Nat :=
  let c4_i32_58 : BitVec 32 := 4#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v78 : BitVec 32 := Scalar.muli c4_i32_58 v70
  let c2_i32_59 : BitVec 32 := 2#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v79 : BitVec 32 := Scalar.muli c2_i32_59 v73
  let v80 : BitVec 32 := Scalar.addi v78 v79
  let c1_i32_57 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v77 : BitVec 32 := Scalar.subi c1_i32_57 v76
  let v81 : BitVec 32 := Scalar.addi v80 v77
  let c0_i32_170 : BitVec 32 := 0#32
  let c0_i32_171 : BitVec 32 := 0#32
  ![v81.toNat, 0, 0]
def k0_dev15 (d0 : Dev nD) : Nat :=
  let c0_i32_165 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_164 : BitVec 32 := 4#32
  let v231 : BitVec 32 := Scalar.muli v70 c4_i32_164
  let v232 : BitVec 32 := Scalar.addi c0_i32_165 v231
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_166 : BitVec 32 := 2#32
  let v233 : BitVec 32 := Scalar.muli v73 c2_i32_166
  let v234 : BitVec 32 := Scalar.addi v232 v233
  let c1_i32_57 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v77 : BitVec 32 := Scalar.subi c1_i32_57 v76
  let c1_i32_167 : BitVec 32 := 1#32
  let v235 : BitVec 32 := Scalar.muli v77 c1_i32_167
  let v236 : BitVec 32 := Scalar.addi v234 v235
  v236.toNat
def k0_off11 (d0 : Dev nD) : Fin 3 → Nat :=
  let c4_i32_61 : BitVec 32 := 4#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v83 : BitVec 32 := Scalar.muli c4_i32_61 v70
  let c2_i32_62 : BitVec 32 := 2#32
  let c1_i32_60 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v82 : BitVec 32 := Scalar.subi c1_i32_60 v73
  let v84 : BitVec 32 := Scalar.muli c2_i32_62 v82
  let v85 : BitVec 32 := Scalar.addi v83 v84
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v86 : BitVec 32 := Scalar.addi v85 v76
  let c0_i32_179 : BitVec 32 := 0#32
  let c0_i32_180 : BitVec 32 := 0#32
  ![v86.toNat, 0, 0]
def k0_dev16 (d0 : Dev nD) : Nat :=
  let c0_i32_174 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_173 : BitVec 32 := 4#32
  let v245 : BitVec 32 := Scalar.muli v70 c4_i32_173
  let v246 : BitVec 32 := Scalar.addi c0_i32_174 v245
  let c1_i32_60 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v82 : BitVec 32 := Scalar.subi c1_i32_60 v73
  let c2_i32_175 : BitVec 32 := 2#32
  let v247 : BitVec 32 := Scalar.muli v82 c2_i32_175
  let v248 : BitVec 32 := Scalar.addi v246 v247
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_176 : BitVec 32 := 1#32
  let v249 : BitVec 32 := Scalar.muli v76 c1_i32_176
  let v250 : BitVec 32 := Scalar.addi v248 v249
  v250.toNat
def k0_off12 (d0 : Dev nD) : Fin 3 → Nat :=
  let c4_i32_65 : BitVec 32 := 4#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v89 : BitVec 32 := Scalar.muli c4_i32_65 v70
  let c2_i32_66 : BitVec 32 := 2#32
  let c1_i32_63 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v87 : BitVec 32 := Scalar.subi c1_i32_63 v73
  let v90 : BitVec 32 := Scalar.muli c2_i32_66 v87
  let v91 : BitVec 32 := Scalar.addi v89 v90
  let c1_i32_64 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v88 : BitVec 32 := Scalar.subi c1_i32_64 v76
  let v92 : BitVec 32 := Scalar.addi v91 v88
  let c0_i32_188 : BitVec 32 := 0#32
  let c0_i32_189 : BitVec 32 := 0#32
  ![v92.toNat, 0, 0]
def k0_dev17 (d0 : Dev nD) : Nat :=
  let c0_i32_183 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_182 : BitVec 32 := 4#32
  let v259 : BitVec 32 := Scalar.muli v70 c4_i32_182
  let v260 : BitVec 32 := Scalar.addi c0_i32_183 v259
  let c1_i32_63 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v87 : BitVec 32 := Scalar.subi c1_i32_63 v73
  let c2_i32_184 : BitVec 32 := 2#32
  let v261 : BitVec 32 := Scalar.muli v87 c2_i32_184
  let v262 : BitVec 32 := Scalar.addi v260 v261
  let c1_i32_64 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v88 : BitVec 32 := Scalar.subi c1_i32_64 v76
  let c1_i32_185 : BitVec 32 := 1#32
  let v263 : BitVec 32 := Scalar.muli v88 c1_i32_185
  let v264 : BitVec 32 := Scalar.addi v262 v263
  v264.toNat
def k0_off13 (d0 : Dev nD) : Fin 3 → Nat :=
  let c4_i32_68 : BitVec 32 := 4#32
  let c1_i32_67 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v93 : BitVec 32 := Scalar.subi c1_i32_67 v70
  let v94 : BitVec 32 := Scalar.muli c4_i32_68 v93
  let c2_i32_69 : BitVec 32 := 2#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v95 : BitVec 32 := Scalar.muli c2_i32_69 v73
  let v96 : BitVec 32 := Scalar.addi v94 v95
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v97 : BitVec 32 := Scalar.addi v96 v76
  let c0_i32_197 : BitVec 32 := 0#32
  let c0_i32_198 : BitVec 32 := 0#32
  ![v97.toNat, 0, 0]
def k0_dev18 (d0 : Dev nD) : Nat :=
  let c0_i32_192 : BitVec 32 := 0#32
  let c1_i32_67 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v93 : BitVec 32 := Scalar.subi c1_i32_67 v70
  let c4_i32_191 : BitVec 32 := 4#32
  let v273 : BitVec 32 := Scalar.muli v93 c4_i32_191
  let v274 : BitVec 32 := Scalar.addi c0_i32_192 v273
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_193 : BitVec 32 := 2#32
  let v275 : BitVec 32 := Scalar.muli v73 c2_i32_193
  let v276 : BitVec 32 := Scalar.addi v274 v275
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_194 : BitVec 32 := 1#32
  let v277 : BitVec 32 := Scalar.muli v76 c1_i32_194
  let v278 : BitVec 32 := Scalar.addi v276 v277
  v278.toNat
def k0_off14 (d0 : Dev nD) : Fin 3 → Nat :=
  let c4_i32_72 : BitVec 32 := 4#32
  let c1_i32_70 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v98 : BitVec 32 := Scalar.subi c1_i32_70 v70
  let v100 : BitVec 32 := Scalar.muli c4_i32_72 v98
  let c2_i32_73 : BitVec 32 := 2#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v101 : BitVec 32 := Scalar.muli c2_i32_73 v73
  let v102 : BitVec 32 := Scalar.addi v100 v101
  let c1_i32_71 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v99 : BitVec 32 := Scalar.subi c1_i32_71 v76
  let v103 : BitVec 32 := Scalar.addi v102 v99
  let c0_i32_206 : BitVec 32 := 0#32
  let c0_i32_207 : BitVec 32 := 0#32
  ![v103.toNat, 0, 0]
def k0_dev19 (d0 : Dev nD) : Nat :=
  let c0_i32_201 : BitVec 32 := 0#32
  let c1_i32_70 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v98 : BitVec 32 := Scalar.subi c1_i32_70 v70
  let c4_i32_200 : BitVec 32 := 4#32
  let v287 : BitVec 32 := Scalar.muli v98 c4_i32_200
  let v288 : BitVec 32 := Scalar.addi c0_i32_201 v287
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_202 : BitVec 32 := 2#32
  let v289 : BitVec 32 := Scalar.muli v73 c2_i32_202
  let v290 : BitVec 32 := Scalar.addi v288 v289
  let c1_i32_71 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v99 : BitVec 32 := Scalar.subi c1_i32_71 v76
  let c1_i32_203 : BitVec 32 := 1#32
  let v291 : BitVec 32 := Scalar.muli v99 c1_i32_203
  let v292 : BitVec 32 := Scalar.addi v290 v291
  v292.toNat
def k0_off15 (d0 : Dev nD) : Fin 3 → Nat :=
  let c4_i32_76 : BitVec 32 := 4#32
  let c1_i32_74 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v104 : BitVec 32 := Scalar.subi c1_i32_74 v70
  let v106 : BitVec 32 := Scalar.muli c4_i32_76 v104
  let c2_i32_77 : BitVec 32 := 2#32
  let c1_i32_75 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v105 : BitVec 32 := Scalar.subi c1_i32_75 v73
  let v107 : BitVec 32 := Scalar.muli c2_i32_77 v105
  let v108 : BitVec 32 := Scalar.addi v106 v107
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v109 : BitVec 32 := Scalar.addi v108 v76
  let c0_i32_215 : BitVec 32 := 0#32
  let c0_i32_216 : BitVec 32 := 0#32
  ![v109.toNat, 0, 0]
def k0_dev20 (d0 : Dev nD) : Nat :=
  let c0_i32_210 : BitVec 32 := 0#32
  let c1_i32_74 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v104 : BitVec 32 := Scalar.subi c1_i32_74 v70
  let c4_i32_209 : BitVec 32 := 4#32
  let v301 : BitVec 32 := Scalar.muli v104 c4_i32_209
  let v302 : BitVec 32 := Scalar.addi c0_i32_210 v301
  let c1_i32_75 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v105 : BitVec 32 := Scalar.subi c1_i32_75 v73
  let c2_i32_211 : BitVec 32 := 2#32
  let v303 : BitVec 32 := Scalar.muli v105 c2_i32_211
  let v304 : BitVec 32 := Scalar.addi v302 v303
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_212 : BitVec 32 := 1#32
  let v305 : BitVec 32 := Scalar.muli v76 c1_i32_212
  let v306 : BitVec 32 := Scalar.addi v304 v305
  v306.toNat
def k0_off16 (d0 : Dev nD) : Fin 3 → Nat :=
  let c4_i32_81 : BitVec 32 := 4#32
  let c1_i32_78 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v110 : BitVec 32 := Scalar.subi c1_i32_78 v70
  let v113 : BitVec 32 := Scalar.muli c4_i32_81 v110
  let c2_i32_82 : BitVec 32 := 2#32
  let c1_i32_79 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v111 : BitVec 32 := Scalar.subi c1_i32_79 v73
  let v114 : BitVec 32 := Scalar.muli c2_i32_82 v111
  let v115 : BitVec 32 := Scalar.addi v113 v114
  let c1_i32_80 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v112 : BitVec 32 := Scalar.subi c1_i32_80 v76
  let v116 : BitVec 32 := Scalar.addi v115 v112
  let c0_i32_224 : BitVec 32 := 0#32
  let c0_i32_225 : BitVec 32 := 0#32
  ![v116.toNat, 0, 0]
def k0_dev21 (d0 : Dev nD) : Nat :=
  let c0_i32_219 : BitVec 32 := 0#32
  let c1_i32_78 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v110 : BitVec 32 := Scalar.subi c1_i32_78 v70
  let c4_i32_218 : BitVec 32 := 4#32
  let v315 : BitVec 32 := Scalar.muli v110 c4_i32_218
  let v316 : BitVec 32 := Scalar.addi c0_i32_219 v315
  let c1_i32_79 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v111 : BitVec 32 := Scalar.subi c1_i32_79 v73
  let c2_i32_220 : BitVec 32 := 2#32
  let v317 : BitVec 32 := Scalar.muli v111 c2_i32_220
  let v318 : BitVec 32 := Scalar.addi v316 v317
  let c1_i32_80 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v112 : BitVec 32 := Scalar.subi c1_i32_80 v76
  let c1_i32_221 : BitVec 32 := 1#32
  let v319 : BitVec 32 := Scalar.muli v112 c1_i32_221
  let v320 : BitVec 32 := Scalar.addi v318 v319
  v320.toNat
abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev grid1 : Pipeline.Grid := .none

def k1_off1 (d0 : Dev nD) : Fin 3 → Nat :=
  let c4_i32_4 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c4_i32_4 v2
  let c2_i32_5 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.muli c2_i32_5 v5
  let v12 : BitVec 32 := Scalar.addi v10 v11
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v13 : BitVec 32 := Scalar.addi v12 v9
  let c0_i32_33 : BitVec 32 := 0#32
  let c0_i32_34 : BitVec 32 := 0#32
  ![v13.toNat, 0, 0]
def k1_off2 (d0 : Dev nD) : Fin 3 → Nat :=
  let c4_i32_29 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v49 : BitVec 32 := Scalar.muli c4_i32_29 v2
  let c2_i32_30 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v50 : BitVec 32 := Scalar.muli c2_i32_30 v5
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.addi v51 v8
  let c0_i32_35 : BitVec 32 := 0#32
  let c0_i32_36 : BitVec 32 := 0#32
  ![v52.toNat, 0, 0]
def k1_off3 (d0 : Dev nD) : Fin 3 → Nat :=
  let c4_i32_7 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c4_i32_7 v2
  let c2_i32_8 : BitVec 32 := 2#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let v16 : BitVec 32 := Scalar.muli c2_i32_8 v14
  let v17 : BitVec 32 := Scalar.addi v15 v16
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.addi v17 v8
  let c0_i32_50 : BitVec 32 := 0#32
  let c0_i32_51 : BitVec 32 := 0#32
  ![v18.toNat, 0, 0]
def k1_off4 (d0 : Dev nD) : Fin 3 → Nat :=
  let c4_i32_11 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c4_i32_11 v2
  let c2_i32_12 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_9 v5
  let v22 : BitVec 32 := Scalar.muli c2_i32_12 v19
  let v23 : BitVec 32 := Scalar.addi v21 v22
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_10 v8
  let v24 : BitVec 32 := Scalar.addi v23 v20
  let c0_i32_67 : BitVec 32 := 0#32
  let c0_i32_68 : BitVec 32 := 0#32
  ![v24.toNat, 0, 0]
def k1_off5 (d0 : Dev nD) : Fin 3 → Nat :=
  let c4_i32_14 : BitVec 32 := 4#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_13 v2
  let v26 : BitVec 32 := Scalar.muli c4_i32_14 v25
  let c2_i32_15 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.muli c2_i32_15 v5
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.addi v28 v8
  let c0_i32_83 : BitVec 32 := 0#32
  let c0_i32_84 : BitVec 32 := 0#32
  ![v29.toNat, 0, 0]
def k1_off6 (d0 : Dev nD) : Fin 3 → Nat :=
  let c4_i32_18 : BitVec 32 := 4#32
  let c1_i32_16 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v30 : BitVec 32 := Scalar.subi c1_i32_16 v2
  let v32 : BitVec 32 := Scalar.muli c4_i32_18 v30
  let c2_i32_19 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v33 : BitVec 32 := Scalar.muli c2_i32_19 v5
  let v34 : BitVec 32 := Scalar.addi v32 v33
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v31 : BitVec 32 := Scalar.subi c1_i32_17 v8
  let v35 : BitVec 32 := Scalar.addi v34 v31
  let c0_i32_100 : BitVec 32 := 0#32
  let c0_i32_101 : BitVec 32 := 0#32
  ![v35.toNat, 0, 0]
def k1_off7 (d0 : Dev nD) : Fin 3 → Nat :=
  let c4_i32_22 : BitVec 32 := 4#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.subi c1_i32_20 v2
  let v38 : BitVec 32 := Scalar.muli c4_i32_22 v36
  let c2_i32_23 : BitVec 32 := 2#32
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v37 : BitVec 32 := Scalar.subi c1_i32_21 v5
  let v39 : BitVec 32 := Scalar.muli c2_i32_23 v37
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.addi v40 v8
  let c0_i32_116 : BitVec 32 := 0#32
  let c0_i32_117 : BitVec 32 := 0#32
  ![v41.toNat, 0, 0]
def k1_off8 (d0 : Dev nD) : Fin 3 → Nat :=
  let c4_i32_27 : BitVec 32 := 4#32
  let c1_i32_24 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v42 : BitVec 32 := Scalar.subi c1_i32_24 v2
  let v45 : BitVec 32 := Scalar.muli c4_i32_27 v42
  let c2_i32_28 : BitVec 32 := 2#32
  let c1_i32_25 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v43 : BitVec 32 := Scalar.subi c1_i32_25 v5
  let v46 : BitVec 32 := Scalar.muli c2_i32_28 v43
  let v47 : BitVec 32 := Scalar.addi v45 v46
  let c1_i32_26 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v44 : BitVec 32 := Scalar.subi c1_i32_26 v8
  let v48 : BitVec 32 := Scalar.addi v47 v44
  let c0_i32_132 : BitVec 32 := 0#32
  let c0_i32_133 : BitVec 32 := 0#32
  ![v48.toNat, 0, 0]
def k1_off9 (d0 : Dev nD) : Fin 3 → Nat :=
  let c4_i32_4 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c4_i32_4 v2
  let c2_i32_5 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.muli c2_i32_5 v5
  let v12 : BitVec 32 := Scalar.addi v10 v11
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v13 : BitVec 32 := Scalar.addi v12 v9
  let c0_i32_148 : BitVec 32 := 0#32
  let c0_i32_149 : BitVec 32 := 0#32
  ![v13.toNat, 0, 0]
def k1_off10 (d0 : Dev nD) : Fin 3 → Nat :=
  let c4_i32_29 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v49 : BitVec 32 := Scalar.muli c4_i32_29 v2
  let c2_i32_30 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v50 : BitVec 32 := Scalar.muli c2_i32_30 v5
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.addi v51 v8
  let c0_i32_150 : BitVec 32 := 0#32
  let c0_i32_151 : BitVec 32 := 0#32
  ![v52.toNat, 0, 0]
def k1_off11 (d0 : Dev nD) : Fin 3 → Nat :=
  let c4_i32_7 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c4_i32_7 v2
  let c2_i32_8 : BitVec 32 := 2#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let v16 : BitVec 32 := Scalar.muli c2_i32_8 v14
  let v17 : BitVec 32 := Scalar.addi v15 v16
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.addi v17 v8
  let c0_i32_164 : BitVec 32 := 0#32
  let c0_i32_165 : BitVec 32 := 0#32
  ![v18.toNat, 0, 0]
def k1_off12 (d0 : Dev nD) : Fin 3 → Nat :=
  let c4_i32_11 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c4_i32_11 v2
  let c2_i32_12 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_9 v5
  let v22 : BitVec 32 := Scalar.muli c2_i32_12 v19
  let v23 : BitVec 32 := Scalar.addi v21 v22
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_10 v8
  let v24 : BitVec 32 := Scalar.addi v23 v20
  let c0_i32_180 : BitVec 32 := 0#32
  let c0_i32_181 : BitVec 32 := 0#32
  ![v24.toNat, 0, 0]
def k1_off13 (d0 : Dev nD) : Fin 3 → Nat :=
  let c4_i32_14 : BitVec 32 := 4#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_13 v2
  let v26 : BitVec 32 := Scalar.muli c4_i32_14 v25
  let c2_i32_15 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.muli c2_i32_15 v5
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.addi v28 v8
  let c0_i32_196 : BitVec 32 := 0#32
  let c0_i32_197 : BitVec 32 := 0#32
  ![v29.toNat, 0, 0]
def k1_off14 (d0 : Dev nD) : Fin 3 → Nat :=
  let c4_i32_18 : BitVec 32 := 4#32
  let c1_i32_16 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v30 : BitVec 32 := Scalar.subi c1_i32_16 v2
  let v32 : BitVec 32 := Scalar.muli c4_i32_18 v30
  let c2_i32_19 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v33 : BitVec 32 := Scalar.muli c2_i32_19 v5
  let v34 : BitVec 32 := Scalar.addi v32 v33
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v31 : BitVec 32 := Scalar.subi c1_i32_17 v8
  let v35 : BitVec 32 := Scalar.addi v34 v31
  let c0_i32_212 : BitVec 32 := 0#32
  let c0_i32_213 : BitVec 32 := 0#32
  ![v35.toNat, 0, 0]
def k1_off15 (d0 : Dev nD) : Fin 3 → Nat :=
  let c4_i32_22 : BitVec 32 := 4#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.subi c1_i32_20 v2
  let v38 : BitVec 32 := Scalar.muli c4_i32_22 v36
  let c2_i32_23 : BitVec 32 := 2#32
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v37 : BitVec 32 := Scalar.subi c1_i32_21 v5
  let v39 : BitVec 32 := Scalar.muli c2_i32_23 v37
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.addi v40 v8
  let c0_i32_228 : BitVec 32 := 0#32
  let c0_i32_229 : BitVec 32 := 0#32
  ![v41.toNat, 0, 0]
def k1_off16 (d0 : Dev nD) : Fin 3 → Nat :=
  let c4_i32_27 : BitVec 32 := 4#32
  let c1_i32_24 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v42 : BitVec 32 := Scalar.subi c1_i32_24 v2
  let v45 : BitVec 32 := Scalar.muli c4_i32_27 v42
  let c2_i32_28 : BitVec 32 := 2#32
  let c1_i32_25 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v43 : BitVec 32 := Scalar.subi c1_i32_25 v5
  let v46 : BitVec 32 := Scalar.muli c2_i32_28 v43
  let v47 : BitVec 32 := Scalar.addi v45 v46
  let c1_i32_26 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v44 : BitVec 32 := Scalar.subi c1_i32_26 v8
  let v48 : BitVec 32 := Scalar.addi v47 v44
  let c0_i32_244 : BitVec 32 := 0#32
  let c0_i32_245 : BitVec 32 := 0#32
  ![v48.toNat, 0, 0]
abbrev stage1_0 : Fin 1 → Memref sig .tc .vmem S8x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
-- ==== KernelFIdeal.lean ====
abbrev S8x1024x768 : Shape := ⟨3, ![8, 1024, 768]⟩
abbrev S8x352x1024 : Shape := ⟨3, ![8, 352, 1024]⟩
abbrev S14 : Shape := ⟨1, ![14]⟩
abbrev S8x128 : Shape := ⟨2, ![8, 128]⟩
abbrev S2 : Shape := ⟨1, ![2]⟩
abbrev S_ : Shape := ⟨0, ![]⟩
abbrev S1 : Shape := ⟨1, ![1]⟩
abbrev S1x1024x768 : Shape := ⟨3, ![1, 1024, 768]⟩
abbrev S1024x768 : Shape := ⟨2, ![1024, 768]⟩
abbrev S1x352x1024 : Shape := ⟨3, ![1, 352, 1024]⟩
abbrev S352x1024 : Shape := ⟨2, ![352, 1024]⟩

abbrev nBuf : Space → Nat
  | .hbm => 8
  | .vmem => 2
  | .smem => 0
  | _ => 0

abbrev bufTy : (tb : Table) → Fin (tcTables nBuf tb) → BufTy
  | .hbm, ⟨0, _⟩ => ⟨S8x1024x768, .bf16⟩
  | .hbm, ⟨1, _⟩ => ⟨S8x352x1024, .bf16⟩
  | .hbm, ⟨2, _⟩ => ⟨S8x1024x768, .bf16⟩
  | .hbm, ⟨3, _⟩ => ⟨S8x352x1024, .bf16⟩
  | .hbm, ⟨4, _⟩ => ⟨S8x1024x768, .bf16⟩
  | .hbm, ⟨5, _⟩ => ⟨S8x352x1024, .bf16⟩
  | .hbm, ⟨6, _⟩ => ⟨S8x128, .f32⟩
  | .hbm, ⟨7, _⟩ => ⟨S8x128, .f32⟩
  | .local _ .vmem, ⟨0, _⟩ => ⟨S8x128, .f32⟩
  | .local _ .vmem, ⟨1, _⟩ => ⟨S8x128, .f32⟩
  | _, _ => ⟨S8x1024x768, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 32 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3_2 : Ref sig .tc := ⟨.hbm, 4, rfl⟩
abbrev main_v3_3 : Ref sig .tc := ⟨.hbm, 5, rfl⟩
abbrev main_v3_6 : Ref sig .tc := ⟨.hbm, 6, rfl⟩
abbrev main_v4_4 : Ref sig .tc := ⟨.hbm, 7, rfl⟩
abbrev cc0_stg0_0 : Ref sig .tc := ⟨.vmem, 0, rfl⟩
abbrev cc1_stg0_0 : Ref sig .tc := ⟨.vmem, 1, rfl⟩
abbrev cc0_sem0_0 : DmaSem sig := 28
abbrev cc1_sem0_0 : DmaSem sig := 31
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v26 : BitVec 32 := Scalar.muli v2 c4_i32_18
  let v27 : BitVec 32 := Scalar.addi c0_i32 v26
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v28 : BitVec 32 := Scalar.muli v5 c2_i32_19
  let v29 : BitVec 32 := Scalar.addi v27 v28
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_20 : BitVec 32 := 1#32
  let v30 : BitVec 32 := Scalar.muli v9 c1_i32_20
  let v31 : BitVec 32 := Scalar.addi v29 v30
  v31.toNat
def k0_dev2 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v32 : BitVec 32 := Scalar.muli v2 c4_i32_22
  let v33 : BitVec 32 := Scalar.addi c0_i32_23 v32
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_24 : BitVec 32 := 2#32
  let v34 : BitVec 32 := Scalar.muli v10 c2_i32_24
  let v35 : BitVec 32 := Scalar.addi v33 v34
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v36 : BitVec 32 := Scalar.muli v8 c1_i32_25
  let v37 : BitVec 32 := Scalar.addi v35 v36
  v37.toNat
def k0_dev3 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v38 : BitVec 32 := Scalar.muli v2 c4_i32_27
  let v39 : BitVec 32 := Scalar.addi c0_i32_28 v38
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_29 : BitVec 32 := 2#32
  let v40 : BitVec 32 := Scalar.muli v11 c2_i32_29
  let v41 : BitVec 32 := Scalar.addi v39 v40
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_30 : BitVec 32 := 1#32
  let v42 : BitVec 32 := Scalar.muli v12 c1_i32_30
  let v43 : BitVec 32 := Scalar.addi v41 v42
  v43.toNat
def k0_dev4 (d0 : Dev nD) : Nat :=
  let c0_i32_33 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_7 v2
  let c4_i32_32 : BitVec 32 := 4#32
  let v44 : BitVec 32 := Scalar.muli v13 c4_i32_32
  let v45 : BitVec 32 := Scalar.addi c0_i32_33 v44
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_34 : BitVec 32 := 2#32
  let v46 : BitVec 32 := Scalar.muli v5 c2_i32_34
  let v47 : BitVec 32 := Scalar.addi v45 v46
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_35 : BitVec 32 := 1#32
  let v48 : BitVec 32 := Scalar.muli v8 c1_i32_35
  let v49 : BitVec 32 := Scalar.addi v47 v48
  v49.toNat
def k0_dev5 (d0 : Dev nD) : Nat :=
  let c0_i32_38 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_8 v2
  let c4_i32_37 : BitVec 32 := 4#32
  let v50 : BitVec 32 := Scalar.muli v14 c4_i32_37
  let v51 : BitVec 32 := Scalar.addi c0_i32_38 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_39 : BitVec 32 := 2#32
  let v52 : BitVec 32 := Scalar.muli v5 c2_i32_39
  let v53 : BitVec 32 := Scalar.addi v51 v52
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let c1_i32_40 : BitVec 32 := 1#32
  let v54 : BitVec 32 := Scalar.muli v15 c1_i32_40
  let v55 : BitVec 32 := Scalar.addi v53 v54
  v55.toNat
def k0_dev6 (d0 : Dev nD) : Nat :=
  let c0_i32_43 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_10 v2
  let c4_i32_42 : BitVec 32 := 4#32
  let v56 : BitVec 32 := Scalar.muli v16 c4_i32_42
  let v57 : BitVec 32 := Scalar.addi c0_i32_43 v56
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_11 v5
  let c2_i32_44 : BitVec 32 := 2#32
  let v58 : BitVec 32 := Scalar.muli v17 c2_i32_44
  let v59 : BitVec 32 := Scalar.addi v57 v58
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v60 : BitVec 32 := Scalar.muli v8 c1_i32_45
  let v61 : BitVec 32 := Scalar.addi v59 v60
  v61.toNat
def k0_dev7 (d0 : Dev nD) : Nat :=
  let c0_i32_48 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_12 v2
  let c4_i32_47 : BitVec 32 := 4#32
  let v62 : BitVec 32 := Scalar.muli v18 c4_i32_47
  let v63 : BitVec 32 := Scalar.addi c0_i32_48 v62
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_13 v5
  let c2_i32_49 : BitVec 32 := 2#32
  let v64 : BitVec 32 := Scalar.muli v19 c2_i32_49
  let v65 : BitVec 32 := Scalar.addi v63 v64
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_14 v8
  let c1_i32_50 : BitVec 32 := 1#32
  let v66 : BitVec 32 := Scalar.muli v20 c1_i32_50
  let v67 : BitVec 32 := Scalar.addi v65 v66
  v67.toNat
def k0_off1 (d0 : Dev nD) : Fin 3 → Nat :=
  let c4_i32_15 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c4_i32_15 v2
  let c2_i32_16 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.muli c2_i32_16 v5
  let v23 : BitVec 32 := Scalar.addi v21 v22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.addi v23 v8
  let c0_i32_86 : BitVec 32 := 0#32
  let c0_i32_87 : BitVec 32 := 0#32
  ![v24.toNat, 0, 0]
def k0_off2 (d0 : Dev nD) : Fin 3 → Nat :=
  let c4_i32_15 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c4_i32_15 v2
  let c2_i32_16 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.muli c2_i32_16 v5
  let v23 : BitVec 32 := Scalar.addi v21 v22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.addi v23 v8
  let c0_i32_91 : BitVec 32 := 0#32
  let c0_i32_92 : BitVec 32 := 0#32
  ![v24.toNat, 0, 0]
def k0_off3 (d0 : Dev nD) : Fin 3 → Nat :=
  let c4_i32_58 : BitVec 32 := 4#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v78 : BitVec 32 := Scalar.muli c4_i32_58 v70
  let c2_i32_59 : BitVec 32 := 2#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v79 : BitVec 32 := Scalar.muli c2_i32_59 v73
  let v80 : BitVec 32 := Scalar.addi v78 v79
  let c1_i32_57 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v77 : BitVec 32 := Scalar.subi c1_i32_57 v76
  let v81 : BitVec 32 := Scalar.addi v80 v77
  let c0_i32_103 : BitVec 32 := 0#32
  let c0_i32_104 : BitVec 32 := 0#32
  ![v81.toNat, 0, 0]
def k0_dev8 (d0 : Dev nD) : Nat :=
  let c0_i32_98 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_97 : BitVec 32 := 4#32
  let v133 : BitVec 32 := Scalar.muli v70 c4_i32_97
  let v134 : BitVec 32 := Scalar.addi c0_i32_98 v133
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_99 : BitVec 32 := 2#32
  let v135 : BitVec 32 := Scalar.muli v73 c2_i32_99
  let v136 : BitVec 32 := Scalar.addi v134 v135
  let c1_i32_57 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v77 : BitVec 32 := Scalar.subi c1_i32_57 v76
  let c1_i32_100 : BitVec 32 := 1#32
  let v137 : BitVec 32 := Scalar.muli v77 c1_i32_100
  let v138 : BitVec 32 := Scalar.addi v136 v137
  v138.toNat
def k0_off4 (d0 : Dev nD) : Fin 3 → Nat :=
  let c4_i32_61 : BitVec 32 := 4#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v83 : BitVec 32 := Scalar.muli c4_i32_61 v70
  let c2_i32_62 : BitVec 32 := 2#32
  let c1_i32_60 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v82 : BitVec 32 := Scalar.subi c1_i32_60 v73
  let v84 : BitVec 32 := Scalar.muli c2_i32_62 v82
  let v85 : BitVec 32 := Scalar.addi v83 v84
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v86 : BitVec 32 := Scalar.addi v85 v76
  let c0_i32_113 : BitVec 32 := 0#32
  let c0_i32_114 : BitVec 32 := 0#32
  ![v86.toNat, 0, 0]
def k0_dev9 (d0 : Dev nD) : Nat :=
  let c0_i32_108 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_107 : BitVec 32 := 4#32
  let v147 : BitVec 32 := Scalar.muli v70 c4_i32_107
  let v148 : BitVec 32 := Scalar.addi c0_i32_108 v147
  let c1_i32_60 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v82 : BitVec 32 := Scalar.subi c1_i32_60 v73
  let c2_i32_109 : BitVec 32 := 2#32
  let v149 : BitVec 32 := Scalar.muli v82 c2_i32_109
  let v150 : BitVec 32 := Scalar.addi v148 v149
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_110 : BitVec 32 := 1#32
  let v151 : BitVec 32 := Scalar.muli v76 c1_i32_110
  let v152 : BitVec 32 := Scalar.addi v150 v151
  v152.toNat
def k0_off5 (d0 : Dev nD) : Fin 3 → Nat :=
  let c4_i32_65 : BitVec 32 := 4#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v89 : BitVec 32 := Scalar.muli c4_i32_65 v70
  let c2_i32_66 : BitVec 32 := 2#32
  let c1_i32_63 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v87 : BitVec 32 := Scalar.subi c1_i32_63 v73
  let v90 : BitVec 32 := Scalar.muli c2_i32_66 v87
  let v91 : BitVec 32 := Scalar.addi v89 v90
  let c1_i32_64 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v88 : BitVec 32 := Scalar.subi c1_i32_64 v76
  let v92 : BitVec 32 := Scalar.addi v91 v88
  let c0_i32_123 : BitVec 32 := 0#32
  let c0_i32_124 : BitVec 32 := 0#32
  ![v92.toNat, 0, 0]
def k0_dev10 (d0 : Dev nD) : Nat :=
  let c0_i32_118 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_117 : BitVec 32 := 4#32
  let v161 : BitVec 32 := Scalar.muli v70 c4_i32_117
  let v162 : BitVec 32 := Scalar.addi c0_i32_118 v161
  let c1_i32_63 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v87 : BitVec 32 := Scalar.subi c1_i32_63 v73
  let c2_i32_119 : BitVec 32 := 2#32
  let v163 : BitVec 32 := Scalar.muli v87 c2_i32_119
  let v164 : BitVec 32 := Scalar.addi v162 v163
  let c1_i32_64 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v88 : BitVec 32 := Scalar.subi c1_i32_64 v76
  let c1_i32_120 : BitVec 32 := 1#32
  let v165 : BitVec 32 := Scalar.muli v88 c1_i32_120
  let v166 : BitVec 32 := Scalar.addi v164 v165
  v166.toNat
def k0_off6 (d0 : Dev nD) : Fin 3 → Nat :=
  let c4_i32_68 : BitVec 32 := 4#32
  let c1_i32_67 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v93 : BitVec 32 := Scalar.subi c1_i32_67 v70
  let v94 : BitVec 32 := Scalar.muli c4_i32_68 v93
  let c2_i32_69 : BitVec 32 := 2#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v95 : BitVec 32 := Scalar.muli c2_i32_69 v73
  let v96 : BitVec 32 := Scalar.addi v94 v95
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v97 : BitVec 32 := Scalar.addi v96 v76
  let c0_i32_132 : BitVec 32 := 0#32
  let c0_i32_133 : BitVec 32 := 0#32
  ![v97.toNat, 0, 0]
def k0_dev11 (d0 : Dev nD) : Nat :=
  let c0_i32_127 : BitVec 32 := 0#32
  let c1_i32_67 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v93 : BitVec 32 := Scalar.subi c1_i32_67 v70
  let c4_i32_126 : BitVec 32 := 4#32
  let v175 : BitVec 32 := Scalar.muli v93 c4_i32_126
  let v176 : BitVec 32 := Scalar.addi c0_i32_127 v175
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_128 : BitVec 32 := 2#32
  let v177 : BitVec 32 := Scalar.muli v73 c2_i32_128
  let v178 : BitVec 32 := Scalar.addi v176 v177
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_129 : BitVec 32 := 1#32
  let v179 : BitVec 32 := Scalar.muli v76 c1_i32_129
  let v180 : BitVec 32 := Scalar.addi v178 v179
  v180.toNat
def k0_off7 (d0 : Dev nD) : Fin 3 → Nat :=
  let c4_i32_72 : BitVec 32 := 4#32
  let c1_i32_70 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v98 : BitVec 32 := Scalar.subi c1_i32_70 v70
  let v100 : BitVec 32 := Scalar.muli c4_i32_72 v98
  let c2_i32_73 : BitVec 32 := 2#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v101 : BitVec 32 := Scalar.muli c2_i32_73 v73
  let v102 : BitVec 32 := Scalar.addi v100 v101
  let c1_i32_71 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v99 : BitVec 32 := Scalar.subi c1_i32_71 v76
  let v103 : BitVec 32 := Scalar.addi v102 v99
  let c0_i32_142 : BitVec 32 := 0#32
  let c0_i32_143 : BitVec 32 := 0#32
  ![v103.toNat, 0, 0]
def k0_dev12 (d0 : Dev nD) : Nat :=
  let c0_i32_137 : BitVec 32 := 0#32
  let c1_i32_70 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v98 : BitVec 32 := Scalar.subi c1_i32_70 v70
  let c4_i32_136 : BitVec 32 := 4#32
  let v189 : BitVec 32 := Scalar.muli v98 c4_i32_136
  let v190 : BitVec 32 := Scalar.addi c0_i32_137 v189
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_138 : BitVec 32 := 2#32
  let v191 : BitVec 32 := Scalar.muli v73 c2_i32_138
  let v192 : BitVec 32 := Scalar.addi v190 v191
  let c1_i32_71 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v99 : BitVec 32 := Scalar.subi c1_i32_71 v76
  let c1_i32_139 : BitVec 32 := 1#32
  let v193 : BitVec 32 := Scalar.muli v99 c1_i32_139
  let v194 : BitVec 32 := Scalar.addi v192 v193
  v194.toNat
def k0_off8 (d0 : Dev nD) : Fin 3 → Nat :=
  let c4_i32_76 : BitVec 32 := 4#32
  let c1_i32_74 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v104 : BitVec 32 := Scalar.subi c1_i32_74 v70
  let v106 : BitVec 32 := Scalar.muli c4_i32_76 v104
  let c2_i32_77 : BitVec 32 := 2#32
  let c1_i32_75 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v105 : BitVec 32 := Scalar.subi c1_i32_75 v73
  let v107 : BitVec 32 := Scalar.muli c2_i32_77 v105
  let v108 : BitVec 32 := Scalar.addi v106 v107
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v109 : BitVec 32 := Scalar.addi v108 v76
  let c0_i32_151 : BitVec 32 := 0#32
  let c0_i32_152 : BitVec 32 := 0#32
  ![v109.toNat, 0, 0]
def k0_dev13 (d0 : Dev nD) : Nat :=
  let c0_i32_146 : BitVec 32 := 0#32
  let c1_i32_74 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v104 : BitVec 32 := Scalar.subi c1_i32_74 v70
  let c4_i32_145 : BitVec 32 := 4#32
  let v203 : BitVec 32 := Scalar.muli v104 c4_i32_145
  let v204 : BitVec 32 := Scalar.addi c0_i32_146 v203
  let c1_i32_75 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v105 : BitVec 32 := Scalar.subi c1_i32_75 v73
  let c2_i32_147 : BitVec 32 := 2#32
  let v205 : BitVec 32 := Scalar.muli v105 c2_i32_147
  let v206 : BitVec 32 := Scalar.addi v204 v205
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_148 : BitVec 32 := 1#32
  let v207 : BitVec 32 := Scalar.muli v76 c1_i32_148
  let v208 : BitVec 32 := Scalar.addi v206 v207
  v208.toNat
def k0_off9 (d0 : Dev nD) : Fin 3 → Nat :=
  let c4_i32_81 : BitVec 32 := 4#32
  let c1_i32_78 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v110 : BitVec 32 := Scalar.subi c1_i32_78 v70
  let v113 : BitVec 32 := Scalar.muli c4_i32_81 v110
  let c2_i32_82 : BitVec 32 := 2#32
  let c1_i32_79 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v111 : BitVec 32 := Scalar.subi c1_i32_79 v73
  let v114 : BitVec 32 := Scalar.muli c2_i32_82 v111
  let v115 : BitVec 32 := Scalar.addi v113 v114
  let c1_i32_80 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v112 : BitVec 32 := Scalar.subi c1_i32_80 v76
  let v116 : BitVec 32 := Scalar.addi v115 v112
  let c0_i32_160 : BitVec 32 := 0#32
  let c0_i32_161 : BitVec 32 := 0#32
  ![v116.toNat, 0, 0]
def k0_dev14 (d0 : Dev nD) : Nat :=
  let c0_i32_155 : BitVec 32 := 0#32
  let c1_i32_78 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v110 : BitVec 32 := Scalar.subi c1_i32_78 v70
  let c4_i32_154 : BitVec 32 := 4#32
  let v217 : BitVec 32 := Scalar.muli v110 c4_i32_154
  let v218 : BitVec 32 := Scalar.addi c0_i32_155 v217
  let c1_i32_79 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v111 : BitVec 32 := Scalar.subi c1_i32_79 v73
  let c2_i32_156 : BitVec 32 := 2#32
  let v219 : BitVec 32 := Scalar.muli v111 c2_i32_156
  let v220 : BitVec 32 := Scalar.addi v218 v219
  let c1_i32_80 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v112 : BitVec 32 := Scalar.subi c1_i32_80 v76
  let c1_i32_157 : BitVec 32 := 1#32
  let v221 : BitVec 32 := Scalar.muli v112 c1_i32_157
  let v222 : BitVec 32 := Scalar.addi v220 v221
  v222.toNat
def k0_off10 (d0 : Dev nD) : Fin 3 → Nat :=
  let c4_i32_58 : BitVec 32 := 4#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v78 : BitVec 32 := Scalar.muli c4_i32_58 v70
  let c2_i32_59 : BitVec 32 := 2#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v79 : BitVec 32 := Scalar.muli c2_i32_59 v73
  let v80 : BitVec 32 := Scalar.addi v78 v79
  let c1_i32_57 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v77 : BitVec 32 := Scalar.subi c1_i32_57 v76
  let v81 : BitVec 32 := Scalar.addi v80 v77
  let c0_i32_170 : BitVec 32 := 0#32
  let c0_i32_171 : BitVec 32 := 0#32
  ![v81.toNat, 0, 0]
def k0_dev15 (d0 : Dev nD) : Nat :=
  let c0_i32_165 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_164 : BitVec 32 := 4#32
  let v231 : BitVec 32 := Scalar.muli v70 c4_i32_164
  let v232 : BitVec 32 := Scalar.addi c0_i32_165 v231
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_166 : BitVec 32 := 2#32
  let v233 : BitVec 32 := Scalar.muli v73 c2_i32_166
  let v234 : BitVec 32 := Scalar.addi v232 v233
  let c1_i32_57 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v77 : BitVec 32 := Scalar.subi c1_i32_57 v76
  let c1_i32_167 : BitVec 32 := 1#32
  let v235 : BitVec 32 := Scalar.muli v77 c1_i32_167
  let v236 : BitVec 32 := Scalar.addi v234 v235
  v236.toNat
def k0_off11 (d0 : Dev nD) : Fin 3 → Nat :=
  let c4_i32_61 : BitVec 32 := 4#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v83 : BitVec 32 := Scalar.muli c4_i32_61 v70
  let c2_i32_62 : BitVec 32 := 2#32
  let c1_i32_60 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v82 : BitVec 32 := Scalar.subi c1_i32_60 v73
  let v84 : BitVec 32 := Scalar.muli c2_i32_62 v82
  let v85 : BitVec 32 := Scalar.addi v83 v84
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v86 : BitVec 32 := Scalar.addi v85 v76
  let c0_i32_179 : BitVec 32 := 0#32
  let c0_i32_180 : BitVec 32 := 0#32
  ![v86.toNat, 0, 0]
def k0_dev16 (d0 : Dev nD) : Nat :=
  let c0_i32_174 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_173 : BitVec 32 := 4#32
  let v245 : BitVec 32 := Scalar.muli v70 c4_i32_173
  let v246 : BitVec 32 := Scalar.addi c0_i32_174 v245
  let c1_i32_60 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v82 : BitVec 32 := Scalar.subi c1_i32_60 v73
  let c2_i32_175 : BitVec 32 := 2#32
  let v247 : BitVec 32 := Scalar.muli v82 c2_i32_175
  let v248 : BitVec 32 := Scalar.addi v246 v247
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_176 : BitVec 32 := 1#32
  let v249 : BitVec 32 := Scalar.muli v76 c1_i32_176
  let v250 : BitVec 32 := Scalar.addi v248 v249
  v250.toNat
def k0_off12 (d0 : Dev nD) : Fin 3 → Nat :=
  let c4_i32_65 : BitVec 32 := 4#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v89 : BitVec 32 := Scalar.muli c4_i32_65 v70
  let c2_i32_66 : BitVec 32 := 2#32
  let c1_i32_63 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v87 : BitVec 32 := Scalar.subi c1_i32_63 v73
  let v90 : BitVec 32 := Scalar.muli c2_i32_66 v87
  let v91 : BitVec 32 := Scalar.addi v89 v90
  let c1_i32_64 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v88 : BitVec 32 := Scalar.subi c1_i32_64 v76
  let v92 : BitVec 32 := Scalar.addi v91 v88
  let c0_i32_188 : BitVec 32 := 0#32
  let c0_i32_189 : BitVec 32 := 0#32
  ![v92.toNat, 0, 0]
def k0_dev17 (d0 : Dev nD) : Nat :=
  let c0_i32_183 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_182 : BitVec 32 := 4#32
  let v259 : BitVec 32 := Scalar.muli v70 c4_i32_182
  let v260 : BitVec 32 := Scalar.addi c0_i32_183 v259
  let c1_i32_63 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v87 : BitVec 32 := Scalar.subi c1_i32_63 v73
  let c2_i32_184 : BitVec 32 := 2#32
  let v261 : BitVec 32 := Scalar.muli v87 c2_i32_184
  let v262 : BitVec 32 := Scalar.addi v260 v261
  let c1_i32_64 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v88 : BitVec 32 := Scalar.subi c1_i32_64 v76
  let c1_i32_185 : BitVec 32 := 1#32
  let v263 : BitVec 32 := Scalar.muli v88 c1_i32_185
  let v264 : BitVec 32 := Scalar.addi v262 v263
  v264.toNat
def k0_off13 (d0 : Dev nD) : Fin 3 → Nat :=
  let c4_i32_68 : BitVec 32 := 4#32
  let c1_i32_67 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v93 : BitVec 32 := Scalar.subi c1_i32_67 v70
  let v94 : BitVec 32 := Scalar.muli c4_i32_68 v93
  let c2_i32_69 : BitVec 32 := 2#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v95 : BitVec 32 := Scalar.muli c2_i32_69 v73
  let v96 : BitVec 32 := Scalar.addi v94 v95
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v97 : BitVec 32 := Scalar.addi v96 v76
  let c0_i32_197 : BitVec 32 := 0#32
  let c0_i32_198 : BitVec 32 := 0#32
  ![v97.toNat, 0, 0]
def k0_dev18 (d0 : Dev nD) : Nat :=
  let c0_i32_192 : BitVec 32 := 0#32
  let c1_i32_67 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v93 : BitVec 32 := Scalar.subi c1_i32_67 v70
  let c4_i32_191 : BitVec 32 := 4#32
  let v273 : BitVec 32 := Scalar.muli v93 c4_i32_191
  let v274 : BitVec 32 := Scalar.addi c0_i32_192 v273
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_193 : BitVec 32 := 2#32
  let v275 : BitVec 32 := Scalar.muli v73 c2_i32_193
  let v276 : BitVec 32 := Scalar.addi v274 v275
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_194 : BitVec 32 := 1#32
  let v277 : BitVec 32 := Scalar.muli v76 c1_i32_194
  let v278 : BitVec 32 := Scalar.addi v276 v277
  v278.toNat
def k0_off14 (d0 : Dev nD) : Fin 3 → Nat :=
  let c4_i32_72 : BitVec 32 := 4#32
  let c1_i32_70 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v98 : BitVec 32 := Scalar.subi c1_i32_70 v70
  let v100 : BitVec 32 := Scalar.muli c4_i32_72 v98
  let c2_i32_73 : BitVec 32 := 2#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v101 : BitVec 32 := Scalar.muli c2_i32_73 v73
  let v102 : BitVec 32 := Scalar.addi v100 v101
  let c1_i32_71 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v99 : BitVec 32 := Scalar.subi c1_i32_71 v76
  let v103 : BitVec 32 := Scalar.addi v102 v99
  let c0_i32_206 : BitVec 32 := 0#32
  let c0_i32_207 : BitVec 32 := 0#32
  ![v103.toNat, 0, 0]
def k0_dev19 (d0 : Dev nD) : Nat :=
  let c0_i32_201 : BitVec 32 := 0#32
  let c1_i32_70 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v98 : BitVec 32 := Scalar.subi c1_i32_70 v70
  let c4_i32_200 : BitVec 32 := 4#32
  let v287 : BitVec 32 := Scalar.muli v98 c4_i32_200
  let v288 : BitVec 32 := Scalar.addi c0_i32_201 v287
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_202 : BitVec 32 := 2#32
  let v289 : BitVec 32 := Scalar.muli v73 c2_i32_202
  let v290 : BitVec 32 := Scalar.addi v288 v289
  let c1_i32_71 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v99 : BitVec 32 := Scalar.subi c1_i32_71 v76
  let c1_i32_203 : BitVec 32 := 1#32
  let v291 : BitVec 32 := Scalar.muli v99 c1_i32_203
  let v292 : BitVec 32 := Scalar.addi v290 v291
  v292.toNat
def k0_off15 (d0 : Dev nD) : Fin 3 → Nat :=
  let c4_i32_76 : BitVec 32 := 4#32
  let c1_i32_74 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v104 : BitVec 32 := Scalar.subi c1_i32_74 v70
  let v106 : BitVec 32 := Scalar.muli c4_i32_76 v104
  let c2_i32_77 : BitVec 32 := 2#32
  let c1_i32_75 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v105 : BitVec 32 := Scalar.subi c1_i32_75 v73
  let v107 : BitVec 32 := Scalar.muli c2_i32_77 v105
  let v108 : BitVec 32 := Scalar.addi v106 v107
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v109 : BitVec 32 := Scalar.addi v108 v76
  let c0_i32_215 : BitVec 32 := 0#32
  let c0_i32_216 : BitVec 32 := 0#32
  ![v109.toNat, 0, 0]
def k0_dev20 (d0 : Dev nD) : Nat :=
  let c0_i32_210 : BitVec 32 := 0#32
  let c1_i32_74 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v104 : BitVec 32 := Scalar.subi c1_i32_74 v70
  let c4_i32_209 : BitVec 32 := 4#32
  let v301 : BitVec 32 := Scalar.muli v104 c4_i32_209
  let v302 : BitVec 32 := Scalar.addi c0_i32_210 v301
  let c1_i32_75 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v105 : BitVec 32 := Scalar.subi c1_i32_75 v73
  let c2_i32_211 : BitVec 32 := 2#32
  let v303 : BitVec 32 := Scalar.muli v105 c2_i32_211
  let v304 : BitVec 32 := Scalar.addi v302 v303
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_212 : BitVec 32 := 1#32
  let v305 : BitVec 32 := Scalar.muli v76 c1_i32_212
  let v306 : BitVec 32 := Scalar.addi v304 v305
  v306.toNat
def k0_off16 (d0 : Dev nD) : Fin 3 → Nat :=
  let c4_i32_81 : BitVec 32 := 4#32
  let c1_i32_78 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v110 : BitVec 32 := Scalar.subi c1_i32_78 v70
  let v113 : BitVec 32 := Scalar.muli c4_i32_81 v110
  let c2_i32_82 : BitVec 32 := 2#32
  let c1_i32_79 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v111 : BitVec 32 := Scalar.subi c1_i32_79 v73
  let v114 : BitVec 32 := Scalar.muli c2_i32_82 v111
  let v115 : BitVec 32 := Scalar.addi v113 v114
  let c1_i32_80 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v112 : BitVec 32 := Scalar.subi c1_i32_80 v76
  let v116 : BitVec 32 := Scalar.addi v115 v112
  let c0_i32_224 : BitVec 32 := 0#32
  let c0_i32_225 : BitVec 32 := 0#32
  ![v116.toNat, 0, 0]
def k0_dev21 (d0 : Dev nD) : Nat :=
  let c0_i32_219 : BitVec 32 := 0#32
  let c1_i32_78 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v110 : BitVec 32 := Scalar.subi c1_i32_78 v70
  let c4_i32_218 : BitVec 32 := 4#32
  let v315 : BitVec 32 := Scalar.muli v110 c4_i32_218
  let v316 : BitVec 32 := Scalar.addi c0_i32_219 v315
  let c1_i32_79 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v111 : BitVec 32 := Scalar.subi c1_i32_79 v73
  let c2_i32_220 : BitVec 32 := 2#32
  let v317 : BitVec 32 := Scalar.muli v111 c2_i32_220
  let v318 : BitVec 32 := Scalar.addi v316 v317
  let c1_i32_80 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v112 : BitVec 32 := Scalar.subi c1_i32_80 v76
  let c1_i32_221 : BitVec 32 := 1#32
  let v319 : BitVec 32 := Scalar.muli v112 c1_i32_221
  let v320 : BitVec 32 := Scalar.addi v318 v319
  v320.toNat
abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev grid1 : Pipeline.Grid := .none

def k1_off1 (d0 : Dev nD) : Fin 3 → Nat :=
  let c4_i32_4 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c4_i32_4 v2
  let c2_i32_5 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.muli c2_i32_5 v5
  let v12 : BitVec 32 := Scalar.addi v10 v11
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v13 : BitVec 32 := Scalar.addi v12 v9
  let c0_i32_33 : BitVec 32 := 0#32
  let c0_i32_34 : BitVec 32 := 0#32
  ![v13.toNat, 0, 0]
def k1_off2 (d0 : Dev nD) : Fin 3 → Nat :=
  let c4_i32_29 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v49 : BitVec 32 := Scalar.muli c4_i32_29 v2
  let c2_i32_30 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v50 : BitVec 32 := Scalar.muli c2_i32_30 v5
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.addi v51 v8
  let c0_i32_35 : BitVec 32 := 0#32
  let c0_i32_36 : BitVec 32 := 0#32
  ![v52.toNat, 0, 0]
def k1_off3 (d0 : Dev nD) : Fin 3 → Nat :=
  let c4_i32_7 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c4_i32_7 v2
  let c2_i32_8 : BitVec 32 := 2#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let v16 : BitVec 32 := Scalar.muli c2_i32_8 v14
  let v17 : BitVec 32 := Scalar.addi v15 v16
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.addi v17 v8
  let c0_i32_50 : BitVec 32 := 0#32
  let c0_i32_51 : BitVec 32 := 0#32
  ![v18.toNat, 0, 0]
def k1_off4 (d0 : Dev nD) : Fin 3 → Nat :=
  let c4_i32_11 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c4_i32_11 v2
  let c2_i32_12 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_9 v5
  let v22 : BitVec 32 := Scalar.muli c2_i32_12 v19
  let v23 : BitVec 32 := Scalar.addi v21 v22
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_10 v8
  let v24 : BitVec 32 := Scalar.addi v23 v20
  let c0_i32_67 : BitVec 32 := 0#32
  let c0_i32_68 : BitVec 32 := 0#32
  ![v24.toNat, 0, 0]
def k1_off5 (d0 : Dev nD) : Fin 3 → Nat :=
  let c4_i32_14 : BitVec 32 := 4#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_13 v2
  let v26 : BitVec 32 := Scalar.muli c4_i32_14 v25
  let c2_i32_15 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.muli c2_i32_15 v5
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.addi v28 v8
  let c0_i32_83 : BitVec 32 := 0#32
  let c0_i32_84 : BitVec 32 := 0#32
  ![v29.toNat, 0, 0]
def k1_off6 (d0 : Dev nD) : Fin 3 → Nat :=
  let c4_i32_18 : BitVec 32 := 4#32
  let c1_i32_16 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v30 : BitVec 32 := Scalar.subi c1_i32_16 v2
  let v32 : BitVec 32 := Scalar.muli c4_i32_18 v30
  let c2_i32_19 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v33 : BitVec 32 := Scalar.muli c2_i32_19 v5
  let v34 : BitVec 32 := Scalar.addi v32 v33
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v31 : BitVec 32 := Scalar.subi c1_i32_17 v8
  let v35 : BitVec 32 := Scalar.addi v34 v31
  let c0_i32_100 : BitVec 32 := 0#32
  let c0_i32_101 : BitVec 32 := 0#32
  ![v35.toNat, 0, 0]
def k1_off7 (d0 : Dev nD) : Fin 3 → Nat :=
  let c4_i32_22 : BitVec 32 := 4#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.subi c1_i32_20 v2
  let v38 : BitVec 32 := Scalar.muli c4_i32_22 v36
  let c2_i32_23 : BitVec 32 := 2#32
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v37 : BitVec 32 := Scalar.subi c1_i32_21 v5
  let v39 : BitVec 32 := Scalar.muli c2_i32_23 v37
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.addi v40 v8
  let c0_i32_116 : BitVec 32 := 0#32
  let c0_i32_117 : BitVec 32 := 0#32
  ![v41.toNat, 0, 0]
def k1_off8 (d0 : Dev nD) : Fin 3 → Nat :=
  let c4_i32_27 : BitVec 32 := 4#32
  let c1_i32_24 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v42 : BitVec 32 := Scalar.subi c1_i32_24 v2
  let v45 : BitVec 32 := Scalar.muli c4_i32_27 v42
  let c2_i32_28 : BitVec 32 := 2#32
  let c1_i32_25 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v43 : BitVec 32 := Scalar.subi c1_i32_25 v5
  let v46 : BitVec 32 := Scalar.muli c2_i32_28 v43
  let v47 : BitVec 32 := Scalar.addi v45 v46
  let c1_i32_26 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v44 : BitVec 32 := Scalar.subi c1_i32_26 v8
  let v48 : BitVec 32 := Scalar.addi v47 v44
  let c0_i32_132 : BitVec 32 := 0#32
  let c0_i32_133 : BitVec 32 := 0#32
  ![v48.toNat, 0, 0]
def k1_off9 (d0 : Dev nD) : Fin 3 → Nat :=
  let c4_i32_4 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c4_i32_4 v2
  let c2_i32_5 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.muli c2_i32_5 v5
  let v12 : BitVec 32 := Scalar.addi v10 v11
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v13 : BitVec 32 := Scalar.addi v12 v9
  let c0_i32_148 : BitVec 32 := 0#32
  let c0_i32_149 : BitVec 32 := 0#32
  ![v13.toNat, 0, 0]
def k1_off10 (d0 : Dev nD) : Fin 3 → Nat :=
  let c4_i32_29 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v49 : BitVec 32 := Scalar.muli c4_i32_29 v2
  let c2_i32_30 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v50 : BitVec 32 := Scalar.muli c2_i32_30 v5
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.addi v51 v8
  let c0_i32_150 : BitVec 32 := 0#32
  let c0_i32_151 : BitVec 32 := 0#32
  ![v52.toNat, 0, 0]
def k1_off11 (d0 : Dev nD) : Fin 3 → Nat :=
  let c4_i32_7 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c4_i32_7 v2
  let c2_i32_8 : BitVec 32 := 2#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let v16 : BitVec 32 := Scalar.muli c2_i32_8 v14
  let v17 : BitVec 32 := Scalar.addi v15 v16
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.addi v17 v8
  let c0_i32_164 : BitVec 32 := 0#32
  let c0_i32_165 : BitVec 32 := 0#32
  ![v18.toNat, 0, 0]
def k1_off12 (d0 : Dev nD) : Fin 3 → Nat :=
  let c4_i32_11 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c4_i32_11 v2
  let c2_i32_12 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_9 v5
  let v22 : BitVec 32 := Scalar.muli c2_i32_12 v19
  let v23 : BitVec 32 := Scalar.addi v21 v22
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_10 v8
  let v24 : BitVec 32 := Scalar.addi v23 v20
  let c0_i32_180 : BitVec 32 := 0#32
  let c0_i32_181 : BitVec 32 := 0#32
  ![v24.toNat, 0, 0]
def k1_off13 (d0 : Dev nD) : Fin 3 → Nat :=
  let c4_i32_14 : BitVec 32 := 4#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_13 v2
  let v26 : BitVec 32 := Scalar.muli c4_i32_14 v25
  let c2_i32_15 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.muli c2_i32_15 v5
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.addi v28 v8
  let c0_i32_196 : BitVec 32 := 0#32
  let c0_i32_197 : BitVec 32 := 0#32
  ![v29.toNat, 0, 0]
def k1_off14 (d0 : Dev nD) : Fin 3 → Nat :=
  let c4_i32_18 : BitVec 32 := 4#32
  let c1_i32_16 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v30 : BitVec 32 := Scalar.subi c1_i32_16 v2
  let v32 : BitVec 32 := Scalar.muli c4_i32_18 v30
  let c2_i32_19 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v33 : BitVec 32 := Scalar.muli c2_i32_19 v5
  let v34 : BitVec 32 := Scalar.addi v32 v33
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v31 : BitVec 32 := Scalar.subi c1_i32_17 v8
  let v35 : BitVec 32 := Scalar.addi v34 v31
  let c0_i32_212 : BitVec 32 := 0#32
  let c0_i32_213 : BitVec 32 := 0#32
  ![v35.toNat, 0, 0]
def k1_off15 (d0 : Dev nD) : Fin 3 → Nat :=
  let c4_i32_22 : BitVec 32 := 4#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.subi c1_i32_20 v2
  let v38 : BitVec 32 := Scalar.muli c4_i32_22 v36
  let c2_i32_23 : BitVec 32 := 2#32
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v37 : BitVec 32 := Scalar.subi c1_i32_21 v5
  let v39 : BitVec 32 := Scalar.muli c2_i32_23 v37
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.addi v40 v8
  let c0_i32_228 : BitVec 32 := 0#32
  let c0_i32_229 : BitVec 32 := 0#32
  ![v41.toNat, 0, 0]
def k1_off16 (d0 : Dev nD) : Fin 3 → Nat :=
  let c4_i32_27 : BitVec 32 := 4#32
  let c1_i32_24 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v42 : BitVec 32 := Scalar.subi c1_i32_24 v2
  let v45 : BitVec 32 := Scalar.muli c4_i32_27 v42
  let c2_i32_28 : BitVec 32 := 2#32
  let c1_i32_25 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v43 : BitVec 32 := Scalar.subi c1_i32_25 v5
  let v46 : BitVec 32 := Scalar.muli c2_i32_28 v43
  let v47 : BitVec 32 := Scalar.addi v45 v46
  let c1_i32_26 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v44 : BitVec 32 := Scalar.subi c1_i32_26 v8
  let v48 : BitVec 32 := Scalar.addi v47 v44
  let c0_i32_244 : BitVec 32 := 0#32
  let c0_i32_245 : BitVec 32 := 0#32
  ![v48.toNat, 0, 0]
abbrev stage1_0 : Fin 1 → Memref sig .tc .vmem S8x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
-- ==== ReferenceF.lean ====
abbrev S64x1024x768 : Shape := ⟨3, ![64, 1024, 768]⟩
abbrev S64x352x1024 : Shape := ⟨3, ![64, 352, 1024]⟩
abbrev S8x8x1024x768 : Shape := ⟨4, ![8, 8, 1024, 768]⟩
abbrev S8x8x352x1024 : Shape := ⟨4, ![8, 8, 352, 1024]⟩

abbrev nBuf : Space → Nat
  | .hbm => 8
  | .vmem => 0
  | .smem => 0
  | _ => 0

abbrev bufTy : (tb : Table) → Fin (tcTables nBuf tb) → BufTy
  | .hbm, ⟨0, _⟩ => ⟨S64x1024x768, .bf16⟩
  | .hbm, ⟨1, _⟩ => ⟨S64x352x1024, .bf16⟩
  | .hbm, ⟨2, _⟩ => ⟨S8x8x1024x768, .bf16⟩
  | .hbm, ⟨3, _⟩ => ⟨S8x8x1024x768, .bf16⟩
  | .hbm, ⟨4, _⟩ => ⟨S64x1024x768, .bf16⟩
  | .hbm, ⟨5, _⟩ => ⟨S8x8x352x1024, .bf16⟩
  | .hbm, ⟨6, _⟩ => ⟨S8x8x352x1024, .bf16⟩
  | .hbm, ⟨7, _⟩ => ⟨S64x352x1024, .bf16⟩
  | _, _ => ⟨S64x1024x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelB.lean ====
abbrev S128x1024 : Shape := ⟨2, ![128, 1024]⟩
abbrev S1024x768 : Shape := ⟨2, ![1024, 768]⟩
abbrev S352x1024 : Shape := ⟨2, ![352, 1024]⟩
abbrev S8x128x1024 : Shape := ⟨3, ![8, 128, 1024]⟩
abbrev S8x1024x768 : Shape := ⟨3, ![8, 1024, 768]⟩
abbrev S8x352x1024 : Shape := ⟨3, ![8, 352, 1024]⟩
abbrev S21 : Shape := ⟨1, ![21]⟩
abbrev S8x128 : Shape := ⟨2, ![8, 128]⟩
abbrev S3 : Shape := ⟨1, ![3]⟩
abbrev S_ : Shape := ⟨0, ![]⟩
abbrev S1 : Shape := ⟨1, ![1]⟩
abbrev S1x128x1024 : Shape := ⟨3, ![1, 128, 1024]⟩
abbrev S1x1024x768 : Shape := ⟨3, ![1, 1024, 768]⟩
abbrev S1x352x1024 : Shape := ⟨3, ![1, 352, 1024]⟩

abbrev nBuf : Space → Nat
  | .hbm => 11
  | .vmem => 2
  | .smem => 0
  | _ => 0

abbrev bufTy : (tb : Table) → Fin (tcTables nBuf tb) → BufTy
  | .hbm, ⟨0, _⟩ => ⟨S128x1024, .bf16⟩
  | .hbm, ⟨1, _⟩ => ⟨S1024x768, .bf16⟩
  | .hbm, ⟨2, _⟩ => ⟨S352x1024, .bf16⟩
  | .hbm, ⟨3, _⟩ => ⟨S8x128x1024, .bf16⟩
  | .hbm, ⟨4, _⟩ => ⟨S8x1024x768, .bf16⟩
  | .hbm, ⟨5, _⟩ => ⟨S8x352x1024, .bf16⟩
  | .hbm, ⟨6, _⟩ => ⟨S128x1024, .bf16⟩
  | .hbm, ⟨7, _⟩ => ⟨S1024x768, .bf16⟩
  | .hbm, ⟨8, _⟩ => ⟨S352x1024, .bf16⟩
  | .hbm, ⟨9, _⟩ => ⟨S8x128, .f32⟩
  | .hbm, ⟨10, _⟩ => ⟨S8x128, .f32⟩
  | .local _ .vmem, ⟨0, _⟩ => ⟨S8x128, .f32⟩
  | .local _ .vmem, ⟨1, _⟩ => ⟨S8x128, .f32⟩
  | _, _ => ⟨S128x1024, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 47 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => true
  | ⟨43, _⟩ => true
  | ⟨44, _⟩ => true
  | ⟨45, _⟩ => true
  | ⟨46, _⟩ => true
  | _ => false

abbrev sig : RefSig :=
  (ofTc nBuf bufTy 1 47 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_2 : Ref sig .tc := ⟨.hbm, 6, rfl⟩
abbrev main_v4_3 : Ref sig .tc := ⟨.hbm, 7, rfl⟩
abbrev main_v4_4 : Ref sig .tc := ⟨.hbm, 8, rfl⟩
abbrev main_v4_8 : Ref sig .tc := ⟨.hbm, 9, rfl⟩
abbrev main_v5_6 : Ref sig .tc := ⟨.hbm, 10, rfl⟩
abbrev cc0_stg0_0 : Ref sig .tc := ⟨.vmem, 0, rfl⟩
abbrev cc1_stg0_0 : Ref sig .tc := ⟨.vmem, 1, rfl⟩
abbrev cc0_sem0_0 : DmaSem sig := 42
abbrev cc1_sem0_0 : DmaSem sig := 46
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v26 : BitVec 32 := Scalar.muli v2 c4_i32_18
  let v27 : BitVec 32 := Scalar.addi c0_i32 v26
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v28 : BitVec 32 := Scalar.muli v5 c2_i32_19
  let v29 : BitVec 32 := Scalar.addi v27 v28
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_20 : BitVec 32 := 1#32
  let v30 : BitVec 32 := Scalar.muli v9 c1_i32_20
  let v31 : BitVec 32 := Scalar.addi v29 v30
  v31.toNat
def k0_dev2 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v32 : BitVec 32 := Scalar.muli v2 c4_i32_22
  let v33 : BitVec 32 := Scalar.addi c0_i32_23 v32
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_24 : BitVec 32 := 2#32
  let v34 : BitVec 32 := Scalar.muli v10 c2_i32_24
  let v35 : BitVec 32 := Scalar.addi v33 v34
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v36 : BitVec 32 := Scalar.muli v8 c1_i32_25
  let v37 : BitVec 32 := Scalar.addi v35 v36
  v37.toNat
def k0_dev3 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v38 : BitVec 32 := Scalar.muli v2 c4_i32_27
  let v39 : BitVec 32 := Scalar.addi c0_i32_28 v38
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_29 : BitVec 32 := 2#32
  let v40 : BitVec 32 := Scalar.muli v11 c2_i32_29
  let v41 : BitVec 32 := Scalar.addi v39 v40
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_30 : BitVec 32 := 1#32
  let v42 : BitVec 32 := Scalar.muli v12 c1_i32_30
  let v43 : BitVec 32 := Scalar.addi v41 v42
  v43.toNat
def k0_dev4 (d0 : Dev nD) : Nat :=
  let c0_i32_33 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_7 v2
  let c4_i32_32 : BitVec 32 := 4#32
  let v44 : BitVec 32 := Scalar.muli v13 c4_i32_32
  let v45 : BitVec 32 := Scalar.addi c0_i32_33 v44
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_34 : BitVec 32 := 2#32
  let v46 : BitVec 32 := Scalar.muli v5 c2_i32_34
  let v47 : BitVec 32 := Scalar.addi v45 v46
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_35 : BitVec 32 := 1#32
  let v48 : BitVec 32 := Scalar.muli v8 c1_i32_35
  let v49 : BitVec 32 := Scalar.addi v47 v48
  v49.toNat
def k0_dev5 (d0 : Dev nD) : Nat :=
  let c0_i32_38 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_8 v2
  let c4_i32_37 : BitVec 32 := 4#32
  let v50 : BitVec 32 := Scalar.muli v14 c4_i32_37
  let v51 : BitVec 32 := Scalar.addi c0_i32_38 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_39 : BitVec 32 := 2#32
  let v52 : BitVec 32 := Scalar.muli v5 c2_i32_39
  let v53 : BitVec 32 := Scalar.addi v51 v52
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let c1_i32_40 : BitVec 32 := 1#32
  let v54 : BitVec 32 := Scalar.muli v15 c1_i32_40
  let v55 : BitVec 32 := Scalar.addi v53 v54
  v55.toNat
def k0_dev6 (d0 : Dev nD) : Nat :=
  let c0_i32_43 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_10 v2
  let c4_i32_42 : BitVec 32 := 4#32
  let v56 : BitVec 32 := Scalar.muli v16 c4_i32_42
  let v57 : BitVec 32 := Scalar.addi c0_i32_43 v56
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_11 v5
  let c2_i32_44 : BitVec 32 := 2#32
  let v58 : BitVec 32 := Scalar.muli v17 c2_i32_44
  let v59 : BitVec 32 := Scalar.addi v57 v58
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v60 : BitVec 32 := Scalar.muli v8 c1_i32_45
  let v61 : BitVec 32 := Scalar.addi v59 v60
  v61.toNat
def k0_dev7 (d0 : Dev nD) : Nat :=
  let c0_i32_48 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_12 v2
  let c4_i32_47 : BitVec 32 := 4#32
  let v62 : BitVec 32 := Scalar.muli v18 c4_i32_47
  let v63 : BitVec 32 := Scalar.addi c0_i32_48 v62
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_13 v5
  let c2_i32_49 : BitVec 32 := 2#32
  let v64 : BitVec 32 := Scalar.muli v19 c2_i32_49
  let v65 : BitVec 32 := Scalar.addi v63 v64
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_14 v8
  let c1_i32_50 : BitVec 32 := 1#32
  let v66 : BitVec 32 := Scalar.muli v20 c1_i32_50
  let v67 : BitVec 32 := Scalar.addi v65 v66
  v67.toNat
def k0_off1 (d0 : Dev nD) : Fin 3 → Nat :=
  let c4_i32_15 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c4_i32_15 v2
  let c2_i32_16 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.muli c2_i32_16 v5
  let v23 : BitVec 32 := Scalar.addi v21 v22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.addi v23 v8
  let c0_i32_72 : BitVec 32 := 0#32
  let c0_i32_73 : BitVec 32 := 0#32
  ![v24.toNat, 0, 0]
def k0_off2 (d0 : Dev nD) : Fin 3 → Nat :=
  let c4_i32_15 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c4_i32_15 v2
  let c2_i32_16 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.muli c2_i32_16 v5
  let v23 : BitVec 32 := Scalar.addi v21 v22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.addi v23 v8
  let c0_i32_75 : BitVec 32 := 0#32
  let c0_i32_76 : BitVec 32 := 0#32
  ![v24.toNat, 0, 0]
def k0_off3 (d0 : Dev nD) : Fin 3 → Nat :=
  let c4_i32_15 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c4_i32_15 v2
  let c2_i32_16 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.muli c2_i32_16 v5
  let v23 : BitVec 32 := Scalar.addi v21 v22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.addi v23 v8
  let c0_i32_78 : BitVec 32 := 0#32
  let c0_i32_79 : BitVec 32 := 0#32
  ![v24.toNat, 0, 0]
def k0_dev8 (d0 : Dev nD) : Nat :=
  let c0_i32_83 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_82 : BitVec 32 := 4#32
  let v105 : BitVec 32 := Scalar.muli v70 c4_i32_82
  let v106 : BitVec 32 := Scalar.addi c0_i32_83 v105
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_84 : BitVec 32 := 2#32
  let v107 : BitVec 32 := Scalar.muli v73 c2_i32_84
  let v108 : BitVec 32 := Scalar.addi v106 v107
  let c1_i32_57 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v77 : BitVec 32 := Scalar.subi c1_i32_57 v76
  let c1_i32_85 : BitVec 32 := 1#32
  let v109 : BitVec 32 := Scalar.muli v77 c1_i32_85
  let v110 : BitVec 32 := Scalar.addi v108 v109
  v110.toNat
def k0_dev9 (d0 : Dev nD) : Nat :=
  let c0_i32_91 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_90 : BitVec 32 := 4#32
  let v117 : BitVec 32 := Scalar.muli v70 c4_i32_90
  let v118 : BitVec 32 := Scalar.addi c0_i32_91 v117
  let c1_i32_58 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v78 : BitVec 32 := Scalar.subi c1_i32_58 v73
  let c2_i32_92 : BitVec 32 := 2#32
  let v119 : BitVec 32 := Scalar.muli v78 c2_i32_92
  let v120 : BitVec 32 := Scalar.addi v118 v119
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_93 : BitVec 32 := 1#32
  let v121 : BitVec 32 := Scalar.muli v76 c1_i32_93
  let v122 : BitVec 32 := Scalar.addi v120 v121
  v122.toNat
def k0_dev10 (d0 : Dev nD) : Nat :=
  let c0_i32_99 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_98 : BitVec 32 := 4#32
  let v129 : BitVec 32 := Scalar.muli v70 c4_i32_98
  let v130 : BitVec 32 := Scalar.addi c0_i32_99 v129
  let c1_i32_59 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v79 : BitVec 32 := Scalar.subi c1_i32_59 v73
  let c2_i32_100 : BitVec 32 := 2#32
  let v131 : BitVec 32 := Scalar.muli v79 c2_i32_100
  let v132 : BitVec 32 := Scalar.addi v130 v131
  let c1_i32_60 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v80 : BitVec 32 := Scalar.subi c1_i32_60 v76
  let c1_i32_101 : BitVec 32 := 1#32
  let v133 : BitVec 32 := Scalar.muli v80 c1_i32_101
  let v134 : BitVec 32 := Scalar.addi v132 v133
  v134.toNat
def k0_dev11 (d0 : Dev nD) : Nat :=
  let c0_i32_106 : BitVec 32 := 0#32
  let c1_i32_61 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v81 : BitVec 32 := Scalar.subi c1_i32_61 v70
  let c4_i32_105 : BitVec 32 := 4#32
  let v141 : BitVec 32 := Scalar.muli v81 c4_i32_105
  let v142 : BitVec 32 := Scalar.addi c0_i32_106 v141
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_107 : BitVec 32 := 2#32
  let v143 : BitVec 32 := Scalar.muli v73 c2_i32_107
  let v144 : BitVec 32 := Scalar.addi v142 v143
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_108 : BitVec 32 := 1#32
  let v145 : BitVec 32 := Scalar.muli v76 c1_i32_108
  let v146 : BitVec 32 := Scalar.addi v144 v145
  v146.toNat
def k0_dev12 (d0 : Dev nD) : Nat :=
  let c0_i32_114 : BitVec 32 := 0#32
  let c1_i32_62 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v82 : BitVec 32 := Scalar.subi c1_i32_62 v70
  let c4_i32_113 : BitVec 32 := 4#32
  let v153 : BitVec 32 := Scalar.muli v82 c4_i32_113
  let v154 : BitVec 32 := Scalar.addi c0_i32_114 v153
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_115 : BitVec 32 := 2#32
  let v155 : BitVec 32 := Scalar.muli v73 c2_i32_115
  let v156 : BitVec 32 := Scalar.addi v154 v155
  let c1_i32_63 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v83 : BitVec 32 := Scalar.subi c1_i32_63 v76
  let c1_i32_116 : BitVec 32 := 1#32
  let v157 : BitVec 32 := Scalar.muli v83 c1_i32_116
  let v158 : BitVec 32 := Scalar.addi v156 v157
  v158.toNat
def k0_dev13 (d0 : Dev nD) : Nat :=
  let c0_i32_121 : BitVec 32 := 0#32
  let c1_i32_64 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v84 : BitVec 32 := Scalar.subi c1_i32_64 v70
  let c4_i32_120 : BitVec 32 := 4#32
  let v165 : BitVec 32 := Scalar.muli v84 c4_i32_120
  let v166 : BitVec 32 := Scalar.addi c0_i32_121 v165
  let c1_i32_65 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v85 : BitVec 32 := Scalar.subi c1_i32_65 v73
  let c2_i32_122 : BitVec 32 := 2#32
  let v167 : BitVec 32 := Scalar.muli v85 c2_i32_122
  let v168 : BitVec 32 := Scalar.addi v166 v167
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_123 : BitVec 32 := 1#32
  let v169 : BitVec 32 := Scalar.muli v76 c1_i32_123
  let v170 : BitVec 32 := Scalar.addi v168 v169
  v170.toNat
def k0_dev14 (d0 : Dev nD) : Nat :=
  let c0_i32_128 : BitVec 32 := 0#32
  let c1_i32_66 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v86 : BitVec 32 := Scalar.subi c1_i32_66 v70
  let c4_i32_127 : BitVec 32 := 4#32
  let v177 : BitVec 32 := Scalar.muli v86 c4_i32_127
  let v178 : BitVec 32 := Scalar.addi c0_i32_128 v177
  let c1_i32_67 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v87 : BitVec 32 := Scalar.subi c1_i32_67 v73
  let c2_i32_129 : BitVec 32 := 2#32
  let v179 : BitVec 32 := Scalar.muli v87 c2_i32_129
  let v180 : BitVec 32 := Scalar.addi v178 v179
  let c1_i32_68 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v88 : BitVec 32 := Scalar.subi c1_i32_68 v76
  let c1_i32_130 : BitVec 32 := 1#32
  let v181 : BitVec 32 := Scalar.muli v88 c1_i32_130
  let v182 : BitVec 32 := Scalar.addi v180 v181
  v182.toNat
def k0_dev15 (d0 : Dev nD) : Nat :=
  let c0_i32_136 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_135 : BitVec 32 := 4#32
  let v189 : BitVec 32 := Scalar.muli v70 c4_i32_135
  let v190 : BitVec 32 := Scalar.addi c0_i32_136 v189
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_137 : BitVec 32 := 2#32
  let v191 : BitVec 32 := Scalar.muli v73 c2_i32_137
  let v192 : BitVec 32 := Scalar.addi v190 v191
  let c1_i32_57 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v77 : BitVec 32 := Scalar.subi c1_i32_57 v76
  let c1_i32_138 : BitVec 32 := 1#32
  let v193 : BitVec 32 := Scalar.muli v77 c1_i32_138
  let v194 : BitVec 32 := Scalar.addi v192 v193
  v194.toNat
def k0_dev16 (d0 : Dev nD) : Nat :=
  let c0_i32_143 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_142 : BitVec 32 := 4#32
  let v201 : BitVec 32 := Scalar.muli v70 c4_i32_142
  let v202 : BitVec 32 := Scalar.addi c0_i32_143 v201
  let c1_i32_58 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v78 : BitVec 32 := Scalar.subi c1_i32_58 v73
  let c2_i32_144 : BitVec 32 := 2#32
  let v203 : BitVec 32 := Scalar.muli v78 c2_i32_144
  let v204 : BitVec 32 := Scalar.addi v202 v203
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_145 : BitVec 32 := 1#32
  let v205 : BitVec 32 := Scalar.muli v76 c1_i32_145
  let v206 : BitVec 32 := Scalar.addi v204 v205
  v206.toNat
def k0_dev17 (d0 : Dev nD) : Nat :=
  let c0_i32_150 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_149 : BitVec 32 := 4#32
  let v213 : BitVec 32 := Scalar.muli v70 c4_i32_149
  let v214 : BitVec 32 := Scalar.addi c0_i32_150 v213
  let c1_i32_59 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v79 : BitVec 32 := Scalar.subi c1_i32_59 v73
  let c2_i32_151 : BitVec 32 := 2#32
  let v215 : BitVec 32 := Scalar.muli v79 c2_i32_151
  let v216 : BitVec 32 := Scalar.addi v214 v215
  let c1_i32_60 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v80 : BitVec 32 := Scalar.subi c1_i32_60 v76
  let c1_i32_152 : BitVec 32 := 1#32
  let v217 : BitVec 32 := Scalar.muli v80 c1_i32_152
  let v218 : BitVec 32 := Scalar.addi v216 v217
  v218.toNat
def k0_dev18 (d0 : Dev nD) : Nat :=
  let c0_i32_157 : BitVec 32 := 0#32
  let c1_i32_61 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v81 : BitVec 32 := Scalar.subi c1_i32_61 v70
  let c4_i32_156 : BitVec 32 := 4#32
  let v225 : BitVec 32 := Scalar.muli v81 c4_i32_156
  let v226 : BitVec 32 := Scalar.addi c0_i32_157 v225
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_158 : BitVec 32 := 2#32
  let v227 : BitVec 32 := Scalar.muli v73 c2_i32_158
  let v228 : BitVec 32 := Scalar.addi v226 v227
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_159 : BitVec 32 := 1#32
  let v229 : BitVec 32 := Scalar.muli v76 c1_i32_159
  let v230 : BitVec 32 := Scalar.addi v228 v229
  v230.toNat
def k0_dev19 (d0 : Dev nD) : Nat :=
  let c0_i32_164 : BitVec 32 := 0#32
  let c1_i32_62 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v82 : BitVec 32 := Scalar.subi c1_i32_62 v70
  let c4_i32_163 : BitVec 32 := 4#32
  let v237 : BitVec 32 := Scalar.muli v82 c4_i32_163
  let v238 : BitVec 32 := Scalar.addi c0_i32_164 v237
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_165 : BitVec 32 := 2#32
  let v239 : BitVec 32 := Scalar.muli v73 c2_i32_165
  let v240 : BitVec 32 := Scalar.addi v238 v239
  let c1_i32_63 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v83 : BitVec 32 := Scalar.subi c1_i32_63 v76
  let c1_i32_166 : BitVec 32 := 1#32
  let v241 : BitVec 32 := Scalar.muli v83 c1_i32_166
  let v242 : BitVec 32 := Scalar.addi v240 v241
  v242.toNat
def k0_dev20 (d0 : Dev nD) : Nat :=
  let c0_i32_171 : BitVec 32 := 0#32
  let c1_i32_64 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v84 : BitVec 32 := Scalar.subi c1_i32_64 v70
  let c4_i32_170 : BitVec 32 := 4#32
  let v249 : BitVec 32 := Scalar.muli v84 c4_i32_170
  let v250 : BitVec 32 := Scalar.addi c0_i32_171 v249
  let c1_i32_65 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v85 : BitVec 32 := Scalar.subi c1_i32_65 v73
  let c2_i32_172 : BitVec 32 := 2#32
  let v251 : BitVec 32 := Scalar.muli v85 c2_i32_172
  let v252 : BitVec 32 := Scalar.addi v250 v251
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_173 : BitVec 32 := 1#32
  let v253 : BitVec 32 := Scalar.muli v76 c1_i32_173
  let v254 : BitVec 32 := Scalar.addi v252 v253
  v254.toNat
def k0_dev21 (d0 : Dev nD) : Nat :=
  let c0_i32_178 : BitVec 32 := 0#32
  let c1_i32_66 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v86 : BitVec 32 := Scalar.subi c1_i32_66 v70
  let c4_i32_177 : BitVec 32 := 4#32
  let v261 : BitVec 32 := Scalar.muli v86 c4_i32_177
  let v262 : BitVec 32 := Scalar.addi c0_i32_178 v261
  let c1_i32_67 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v87 : BitVec 32 := Scalar.subi c1_i32_67 v73
  let c2_i32_179 : BitVec 32 := 2#32
  let v263 : BitVec 32 := Scalar.muli v87 c2_i32_179
  let v264 : BitVec 32 := Scalar.addi v262 v263
  let c1_i32_68 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v88 : BitVec 32 := Scalar.subi c1_i32_68 v76
  let c1_i32_180 : BitVec 32 := 1#32
  let v265 : BitVec 32 := Scalar.muli v88 c1_i32_180
  let v266 : BitVec 32 := Scalar.addi v264 v265
  v266.toNat
def k0_dev22 (d0 : Dev nD) : Nat :=
  let c0_i32_185 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_184 : BitVec 32 := 4#32
  let v273 : BitVec 32 := Scalar.muli v70 c4_i32_184
  let v274 : BitVec 32 := Scalar.addi c0_i32_185 v273
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_186 : BitVec 32 := 2#32
  let v275 : BitVec 32 := Scalar.muli v73 c2_i32_186
  let v276 : BitVec 32 := Scalar.addi v274 v275
  let c1_i32_57 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v77 : BitVec 32 := Scalar.subi c1_i32_57 v76
  let c1_i32_187 : BitVec 32 := 1#32
  let v277 : BitVec 32 := Scalar.muli v77 c1_i32_187
  let v278 : BitVec 32 := Scalar.addi v276 v277
  v278.toNat
def k0_dev23 (d0 : Dev nD) : Nat :=
  let c0_i32_192 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_191 : BitVec 32 := 4#32
  let v285 : BitVec 32 := Scalar.muli v70 c4_i32_191
  let v286 : BitVec 32 := Scalar.addi c0_i32_192 v285
  let c1_i32_58 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v78 : BitVec 32 := Scalar.subi c1_i32_58 v73
  let c2_i32_193 : BitVec 32 := 2#32
  let v287 : BitVec 32 := Scalar.muli v78 c2_i32_193
  let v288 : BitVec 32 := Scalar.addi v286 v287
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_194 : BitVec 32 := 1#32
  let v289 : BitVec 32 := Scalar.muli v76 c1_i32_194
  let v290 : BitVec 32 := Scalar.addi v288 v289
  v290.toNat
def k0_dev24 (d0 : Dev nD) : Nat :=
  let c0_i32_199 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_198 : BitVec 32 := 4#32
  let v297 : BitVec 32 := Scalar.muli v70 c4_i32_198
  let v298 : BitVec 32 := Scalar.addi c0_i32_199 v297
  let c1_i32_59 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v79 : BitVec 32 := Scalar.subi c1_i32_59 v73
  let c2_i32_200 : BitVec 32 := 2#32
  let v299 : BitVec 32 := Scalar.muli v79 c2_i32_200
  let v300 : BitVec 32 := Scalar.addi v298 v299
  let c1_i32_60 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v80 : BitVec 32 := Scalar.subi c1_i32_60 v76
  let c1_i32_201 : BitVec 32 := 1#32
  let v301 : BitVec 32 := Scalar.muli v80 c1_i32_201
  let v302 : BitVec 32 := Scalar.addi v300 v301
  v302.toNat
def k0_dev25 (d0 : Dev nD) : Nat :=
  let c0_i32_206 : BitVec 32 := 0#32
  let c1_i32_61 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v81 : BitVec 32 := Scalar.subi c1_i32_61 v70
  let c4_i32_205 : BitVec 32 := 4#32
  let v309 : BitVec 32 := Scalar.muli v81 c4_i32_205
  let v310 : BitVec 32 := Scalar.addi c0_i32_206 v309
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_207 : BitVec 32 := 2#32
  let v311 : BitVec 32 := Scalar.muli v73 c2_i32_207
  let v312 : BitVec 32 := Scalar.addi v310 v311
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_208 : BitVec 32 := 1#32
  let v313 : BitVec 32 := Scalar.muli v76 c1_i32_208
  let v314 : BitVec 32 := Scalar.addi v312 v313
  v314.toNat
def k0_dev26 (d0 : Dev nD) : Nat :=
  let c0_i32_213 : BitVec 32 := 0#32
  let c1_i32_62 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v82 : BitVec 32 := Scalar.subi c1_i32_62 v70
  let c4_i32_212 : BitVec 32 := 4#32
  let v321 : BitVec 32 := Scalar.muli v82 c4_i32_212
  let v322 : BitVec 32 := Scalar.addi c0_i32_213 v321
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_214 : BitVec 32 := 2#32
  let v323 : BitVec 32 := Scalar.muli v73 c2_i32_214
  let v324 : BitVec 32 := Scalar.addi v322 v323
  let c1_i32_63 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v83 : BitVec 32 := Scalar.subi c1_i32_63 v76
  let c1_i32_215 : BitVec 32 := 1#32
  let v325 : BitVec 32 := Scalar.muli v83 c1_i32_215
  let v326 : BitVec 32 := Scalar.addi v324 v325
  v326.toNat
def k0_dev27 (d0 : Dev nD) : Nat :=
  let c0_i32_220 : BitVec 32 := 0#32
  let c1_i32_64 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v84 : BitVec 32 := Scalar.subi c1_i32_64 v70
  let c4_i32_219 : BitVec 32 := 4#32
  let v333 : BitVec 32 := Scalar.muli v84 c4_i32_219
  let v334 : BitVec 32 := Scalar.addi c0_i32_220 v333
  let c1_i32_65 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v85 : BitVec 32 := Scalar.subi c1_i32_65 v73
  let c2_i32_221 : BitVec 32 := 2#32
  let v335 : BitVec 32 := Scalar.muli v85 c2_i32_221
  let v336 : BitVec 32 := Scalar.addi v334 v335
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_222 : BitVec 32 := 1#32
  let v337 : BitVec 32 := Scalar.muli v76 c1_i32_222
  let v338 : BitVec 32 := Scalar.addi v336 v337
  v338.toNat
def k0_dev28 (d0 : Dev nD) : Nat :=
  let c0_i32_227 : BitVec 32 := 0#32
  let c1_i32_66 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v86 : BitVec 32 := Scalar.subi c1_i32_66 v70
  let c4_i32_226 : BitVec 32 := 4#32
  let v345 : BitVec 32 := Scalar.muli v86 c4_i32_226
  let v346 : BitVec 32 := Scalar.addi c0_i32_227 v345
  let c1_i32_67 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v87 : BitVec 32 := Scalar.subi c1_i32_67 v73
  let c2_i32_228 : BitVec 32 := 2#32
  let v347 : BitVec 32 := Scalar.muli v87 c2_i32_228
  let v348 : BitVec 32 := Scalar.addi v346 v347
  let c1_i32_68 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v88 : BitVec 32 := Scalar.subi c1_i32_68 v76
  let c1_i32_229 : BitVec 32 := 1#32
  let v349 : BitVec 32 := Scalar.muli v88 c1_i32_229
  let v350 : BitVec 32 := Scalar.addi v348 v349
  v350.toNat
abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev grid1 : Pipeline.Grid := .none

def k1_off1 (d0 : Dev nD) : Fin 3 → Nat :=
  let c4_i32_15 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c4_i32_15 v2
  let c2_i32_16 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.muli c2_i32_16 v5
  let v23 : BitVec 32 := Scalar.addi v21 v22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.addi v23 v8
  let c0_i32_19 : BitVec 32 := 0#32
  let c0_i32_20 : BitVec 32 := 0#32
  ![v24.toNat, 0, 0]
def k1_off2 (d0 : Dev nD) : Fin 3 → Nat :=
  let c4_i32_15 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c4_i32_15 v2
  let c2_i32_16 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.muli c2_i32_16 v5
  let v23 : BitVec 32 := Scalar.addi v21 v22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.addi v23 v8
  let c0_i32_106 : BitVec 32 := 0#32
  let c0_i32_107 : BitVec 32 := 0#32
  ![v24.toNat, 0, 0]
def k1_off3 (d0 : Dev nD) : Fin 3 → Nat :=
  let c4_i32_15 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c4_i32_15 v2
  let c2_i32_16 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.muli c2_i32_16 v5
  let v23 : BitVec 32 := Scalar.addi v21 v22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.addi v23 v8
  let c0_i32_190 : BitVec 32 := 0#32
  let c0_i32_191 : BitVec 32 := 0#32
  ![v24.toNat, 0, 0]
abbrev stage1_0 : Fin 1 → Memref sig .tc .vmem S8x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
-- ==== KernelBIdeal.lean ====
abbrev S128x1024 : Shape := ⟨2, ![128, 1024]⟩
abbrev S1024x768 : Shape := ⟨2, ![1024, 768]⟩
abbrev S352x1024 : Shape := ⟨2, ![352, 1024]⟩
abbrev S8x128x1024 : Shape := ⟨3, ![8, 128, 1024]⟩
abbrev S8x1024x768 : Shape := ⟨3, ![8, 1024, 768]⟩
abbrev S8x352x1024 : Shape := ⟨3, ![8, 352, 1024]⟩
abbrev S21 : Shape := ⟨1, ![21]⟩
abbrev S8x128 : Shape := ⟨2, ![8, 128]⟩
abbrev S3 : Shape := ⟨1, ![3]⟩
abbrev S_ : Shape := ⟨0, ![]⟩
abbrev S1 : Shape := ⟨1, ![1]⟩
abbrev S1x128x1024 : Shape := ⟨3, ![1, 128, 1024]⟩
abbrev S1x1024x768 : Shape := ⟨3, ![1, 1024, 768]⟩
abbrev S1x352x1024 : Shape := ⟨3, ![1, 352, 1024]⟩

abbrev nBuf : Space → Nat
  | .hbm => 11
  | .vmem => 2
  | .smem => 0
  | _ => 0

abbrev bufTy : (tb : Table) → Fin (tcTables nBuf tb) → BufTy
  | .hbm, ⟨0, _⟩ => ⟨S128x1024, .bf16⟩
  | .hbm, ⟨1, _⟩ => ⟨S1024x768, .bf16⟩
  | .hbm, ⟨2, _⟩ => ⟨S352x1024, .bf16⟩
  | .hbm, ⟨3, _⟩ => ⟨S8x128x1024, .bf16⟩
  | .hbm, ⟨4, _⟩ => ⟨S8x1024x768, .bf16⟩
  | .hbm, ⟨5, _⟩ => ⟨S8x352x1024, .bf16⟩
  | .hbm, ⟨6, _⟩ => ⟨S128x1024, .bf16⟩
  | .hbm, ⟨7, _⟩ => ⟨S1024x768, .bf16⟩
  | .hbm, ⟨8, _⟩ => ⟨S352x1024, .bf16⟩
  | .hbm, ⟨9, _⟩ => ⟨S8x128, .f32⟩
  | .hbm, ⟨10, _⟩ => ⟨S8x128, .f32⟩
  | .local _ .vmem, ⟨0, _⟩ => ⟨S8x128, .f32⟩
  | .local _ .vmem, ⟨1, _⟩ => ⟨S8x128, .f32⟩
  | _, _ => ⟨S128x1024, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 47 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => true
  | ⟨43, _⟩ => true
  | ⟨44, _⟩ => true
  | ⟨45, _⟩ => true
  | ⟨46, _⟩ => true
  | _ => false

abbrev sig : RefSig :=
  (ofTc nBuf bufTy 1 47 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_2 : Ref sig .tc := ⟨.hbm, 6, rfl⟩
abbrev main_v4_3 : Ref sig .tc := ⟨.hbm, 7, rfl⟩
abbrev main_v4_4 : Ref sig .tc := ⟨.hbm, 8, rfl⟩
abbrev main_v4_8 : Ref sig .tc := ⟨.hbm, 9, rfl⟩
abbrev main_v5_6 : Ref sig .tc := ⟨.hbm, 10, rfl⟩
abbrev cc0_stg0_0 : Ref sig .tc := ⟨.vmem, 0, rfl⟩
abbrev cc1_stg0_0 : Ref sig .tc := ⟨.vmem, 1, rfl⟩
abbrev cc0_sem0_0 : DmaSem sig := 42
abbrev cc1_sem0_0 : DmaSem sig := 46
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v26 : BitVec 32 := Scalar.muli v2 c4_i32_18
  let v27 : BitVec 32 := Scalar.addi c0_i32 v26
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v28 : BitVec 32 := Scalar.muli v5 c2_i32_19
  let v29 : BitVec 32 := Scalar.addi v27 v28
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_20 : BitVec 32 := 1#32
  let v30 : BitVec 32 := Scalar.muli v9 c1_i32_20
  let v31 : BitVec 32 := Scalar.addi v29 v30
  v31.toNat
def k0_dev2 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v32 : BitVec 32 := Scalar.muli v2 c4_i32_22
  let v33 : BitVec 32 := Scalar.addi c0_i32_23 v32
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_24 : BitVec 32 := 2#32
  let v34 : BitVec 32 := Scalar.muli v10 c2_i32_24
  let v35 : BitVec 32 := Scalar.addi v33 v34
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v36 : BitVec 32 := Scalar.muli v8 c1_i32_25
  let v37 : BitVec 32 := Scalar.addi v35 v36
  v37.toNat
def k0_dev3 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v38 : BitVec 32 := Scalar.muli v2 c4_i32_27
  let v39 : BitVec 32 := Scalar.addi c0_i32_28 v38
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_29 : BitVec 32 := 2#32
  let v40 : BitVec 32 := Scalar.muli v11 c2_i32_29
  let v41 : BitVec 32 := Scalar.addi v39 v40
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_30 : BitVec 32 := 1#32
  let v42 : BitVec 32 := Scalar.muli v12 c1_i32_30
  let v43 : BitVec 32 := Scalar.addi v41 v42
  v43.toNat
def k0_dev4 (d0 : Dev nD) : Nat :=
  let c0_i32_33 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_7 v2
  let c4_i32_32 : BitVec 32 := 4#32
  let v44 : BitVec 32 := Scalar.muli v13 c4_i32_32
  let v45 : BitVec 32 := Scalar.addi c0_i32_33 v44
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_34 : BitVec 32 := 2#32
  let v46 : BitVec 32 := Scalar.muli v5 c2_i32_34
  let v47 : BitVec 32 := Scalar.addi v45 v46
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_35 : BitVec 32 := 1#32
  let v48 : BitVec 32 := Scalar.muli v8 c1_i32_35
  let v49 : BitVec 32 := Scalar.addi v47 v48
  v49.toNat
def k0_dev5 (d0 : Dev nD) : Nat :=
  let c0_i32_38 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_8 v2
  let c4_i32_37 : BitVec 32 := 4#32
  let v50 : BitVec 32 := Scalar.muli v14 c4_i32_37
  let v51 : BitVec 32 := Scalar.addi c0_i32_38 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_39 : BitVec 32 := 2#32
  let v52 : BitVec 32 := Scalar.muli v5 c2_i32_39
  let v53 : BitVec 32 := Scalar.addi v51 v52
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let c1_i32_40 : BitVec 32 := 1#32
  let v54 : BitVec 32 := Scalar.muli v15 c1_i32_40
  let v55 : BitVec 32 := Scalar.addi v53 v54
  v55.toNat
def k0_dev6 (d0 : Dev nD) : Nat :=
  let c0_i32_43 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_10 v2
  let c4_i32_42 : BitVec 32 := 4#32
  let v56 : BitVec 32 := Scalar.muli v16 c4_i32_42
  let v57 : BitVec 32 := Scalar.addi c0_i32_43 v56
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_11 v5
  let c2_i32_44 : BitVec 32 := 2#32
  let v58 : BitVec 32 := Scalar.muli v17 c2_i32_44
  let v59 : BitVec 32 := Scalar.addi v57 v58
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v60 : BitVec 32 := Scalar.muli v8 c1_i32_45
  let v61 : BitVec 32 := Scalar.addi v59 v60
  v61.toNat
def k0_dev7 (d0 : Dev nD) : Nat :=
  let c0_i32_48 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_12 v2
  let c4_i32_47 : BitVec 32 := 4#32
  let v62 : BitVec 32 := Scalar.muli v18 c4_i32_47
  let v63 : BitVec 32 := Scalar.addi c0_i32_48 v62
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_13 v5
  let c2_i32_49 : BitVec 32 := 2#32
  let v64 : BitVec 32 := Scalar.muli v19 c2_i32_49
  let v65 : BitVec 32 := Scalar.addi v63 v64
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_14 v8
  let c1_i32_50 : BitVec 32 := 1#32
  let v66 : BitVec 32 := Scalar.muli v20 c1_i32_50
  let v67 : BitVec 32 := Scalar.addi v65 v66
  v67.toNat
def k0_off1 (d0 : Dev nD) : Fin 3 → Nat :=
  let c4_i32_15 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c4_i32_15 v2
  let c2_i32_16 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.muli c2_i32_16 v5
  let v23 : BitVec 32 := Scalar.addi v21 v22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.addi v23 v8
  let c0_i32_72 : BitVec 32 := 0#32
  let c0_i32_73 : BitVec 32 := 0#32
  ![v24.toNat, 0, 0]
def k0_off2 (d0 : Dev nD) : Fin 3 → Nat :=
  let c4_i32_15 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c4_i32_15 v2
  let c2_i32_16 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.muli c2_i32_16 v5
  let v23 : BitVec 32 := Scalar.addi v21 v22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.addi v23 v8
  let c0_i32_75 : BitVec 32 := 0#32
  let c0_i32_76 : BitVec 32 := 0#32
  ![v24.toNat, 0, 0]
def k0_off3 (d0 : Dev nD) : Fin 3 → Nat :=
  let c4_i32_15 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c4_i32_15 v2
  let c2_i32_16 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.muli c2_i32_16 v5
  let v23 : BitVec 32 := Scalar.addi v21 v22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.addi v23 v8
  let c0_i32_78 : BitVec 32 := 0#32
  let c0_i32_79 : BitVec 32 := 0#32
  ![v24.toNat, 0, 0]
def k0_dev8 (d0 : Dev nD) : Nat :=
  let c0_i32_83 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_82 : BitVec 32 := 4#32
  let v105 : BitVec 32 := Scalar.muli v70 c4_i32_82
  let v106 : BitVec 32 := Scalar.addi c0_i32_83 v105
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_84 : BitVec 32 := 2#32
  let v107 : BitVec 32 := Scalar.muli v73 c2_i32_84
  let v108 : BitVec 32 := Scalar.addi v106 v107
  let c1_i32_57 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v77 : BitVec 32 := Scalar.subi c1_i32_57 v76
  let c1_i32_85 : BitVec 32 := 1#32
  let v109 : BitVec 32 := Scalar.muli v77 c1_i32_85
  let v110 : BitVec 32 := Scalar.addi v108 v109
  v110.toNat
def k0_dev9 (d0 : Dev nD) : Nat :=
  let c0_i32_91 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_90 : BitVec 32 := 4#32
  let v117 : BitVec 32 := Scalar.muli v70 c4_i32_90
  let v118 : BitVec 32 := Scalar.addi c0_i32_91 v117
  let c1_i32_58 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v78 : BitVec 32 := Scalar.subi c1_i32_58 v73
  let c2_i32_92 : BitVec 32 := 2#32
  let v119 : BitVec 32 := Scalar.muli v78 c2_i32_92
  let v120 : BitVec 32 := Scalar.addi v118 v119
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_93 : BitVec 32 := 1#32
  let v121 : BitVec 32 := Scalar.muli v76 c1_i32_93
  let v122 : BitVec 32 := Scalar.addi v120 v121
  v122.toNat
def k0_dev10 (d0 : Dev nD) : Nat :=
  let c0_i32_99 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_98 : BitVec 32 := 4#32
  let v129 : BitVec 32 := Scalar.muli v70 c4_i32_98
  let v130 : BitVec 32 := Scalar.addi c0_i32_99 v129
  let c1_i32_59 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v79 : BitVec 32 := Scalar.subi c1_i32_59 v73
  let c2_i32_100 : BitVec 32 := 2#32
  let v131 : BitVec 32 := Scalar.muli v79 c2_i32_100
  let v132 : BitVec 32 := Scalar.addi v130 v131
  let c1_i32_60 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v80 : BitVec 32 := Scalar.subi c1_i32_60 v76
  let c1_i32_101 : BitVec 32 := 1#32
  let v133 : BitVec 32 := Scalar.muli v80 c1_i32_101
  let v134 : BitVec 32 := Scalar.addi v132 v133
  v134.toNat
def k0_dev11 (d0 : Dev nD) : Nat :=
  let c0_i32_106 : BitVec 32 := 0#32
  let c1_i32_61 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v81 : BitVec 32 := Scalar.subi c1_i32_61 v70
  let c4_i32_105 : BitVec 32 := 4#32
  let v141 : BitVec 32 := Scalar.muli v81 c4_i32_105
  let v142 : BitVec 32 := Scalar.addi c0_i32_106 v141
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_107 : BitVec 32 := 2#32
  let v143 : BitVec 32 := Scalar.muli v73 c2_i32_107
  let v144 : BitVec 32 := Scalar.addi v142 v143
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_108 : BitVec 32 := 1#32
  let v145 : BitVec 32 := Scalar.muli v76 c1_i32_108
  let v146 : BitVec 32 := Scalar.addi v144 v145
  v146.toNat
def k0_dev12 (d0 : Dev nD) : Nat :=
  let c0_i32_114 : BitVec 32 := 0#32
  let c1_i32_62 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v82 : BitVec 32 := Scalar.subi c1_i32_62 v70
  let c4_i32_113 : BitVec 32 := 4#32
  let v153 : BitVec 32 := Scalar.muli v82 c4_i32_113
  let v154 : BitVec 32 := Scalar.addi c0_i32_114 v153
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_115 : BitVec 32 := 2#32
  let v155 : BitVec 32 := Scalar.muli v73 c2_i32_115
  let v156 : BitVec 32 := Scalar.addi v154 v155
  let c1_i32_63 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v83 : BitVec 32 := Scalar.subi c1_i32_63 v76
  let c1_i32_116 : BitVec 32 := 1#32
  let v157 : BitVec 32 := Scalar.muli v83 c1_i32_116
  let v158 : BitVec 32 := Scalar.addi v156 v157
  v158.toNat
def k0_dev13 (d0 : Dev nD) : Nat :=
  let c0_i32_121 : BitVec 32 := 0#32
  let c1_i32_64 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v84 : BitVec 32 := Scalar.subi c1_i32_64 v70
  let c4_i32_120 : BitVec 32 := 4#32
  let v165 : BitVec 32 := Scalar.muli v84 c4_i32_120
  let v166 : BitVec 32 := Scalar.addi c0_i32_121 v165
  let c1_i32_65 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v85 : BitVec 32 := Scalar.subi c1_i32_65 v73
  let c2_i32_122 : BitVec 32 := 2#32
  let v167 : BitVec 32 := Scalar.muli v85 c2_i32_122
  let v168 : BitVec 32 := Scalar.addi v166 v167
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_123 : BitVec 32 := 1#32
  let v169 : BitVec 32 := Scalar.muli v76 c1_i32_123
  let v170 : BitVec 32 := Scalar.addi v168 v169
  v170.toNat
def k0_dev14 (d0 : Dev nD) : Nat :=
  let c0_i32_128 : BitVec 32 := 0#32
  let c1_i32_66 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v86 : BitVec 32 := Scalar.subi c1_i32_66 v70
  let c4_i32_127 : BitVec 32 := 4#32
  let v177 : BitVec 32 := Scalar.muli v86 c4_i32_127
  let v178 : BitVec 32 := Scalar.addi c0_i32_128 v177
  let c1_i32_67 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v87 : BitVec 32 := Scalar.subi c1_i32_67 v73
  let c2_i32_129 : BitVec 32 := 2#32
  let v179 : BitVec 32 := Scalar.muli v87 c2_i32_129
  let v180 : BitVec 32 := Scalar.addi v178 v179
  let c1_i32_68 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v88 : BitVec 32 := Scalar.subi c1_i32_68 v76
  let c1_i32_130 : BitVec 32 := 1#32
  let v181 : BitVec 32 := Scalar.muli v88 c1_i32_130
  let v182 : BitVec 32 := Scalar.addi v180 v181
  v182.toNat
def k0_dev15 (d0 : Dev nD) : Nat :=
  let c0_i32_136 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_135 : BitVec 32 := 4#32
  let v189 : BitVec 32 := Scalar.muli v70 c4_i32_135
  let v190 : BitVec 32 := Scalar.addi c0_i32_136 v189
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_137 : BitVec 32 := 2#32
  let v191 : BitVec 32 := Scalar.muli v73 c2_i32_137
  let v192 : BitVec 32 := Scalar.addi v190 v191
  let c1_i32_57 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v77 : BitVec 32 := Scalar.subi c1_i32_57 v76
  let c1_i32_138 : BitVec 32 := 1#32
  let v193 : BitVec 32 := Scalar.muli v77 c1_i32_138
  let v194 : BitVec 32 := Scalar.addi v192 v193
  v194.toNat
def k0_dev16 (d0 : Dev nD) : Nat :=
  let c0_i32_143 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_142 : BitVec 32 := 4#32
  let v201 : BitVec 32 := Scalar.muli v70 c4_i32_142
  let v202 : BitVec 32 := Scalar.addi c0_i32_143 v201
  let c1_i32_58 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v78 : BitVec 32 := Scalar.subi c1_i32_58 v73
  let c2_i32_144 : BitVec 32 := 2#32
  let v203 : BitVec 32 := Scalar.muli v78 c2_i32_144
  let v204 : BitVec 32 := Scalar.addi v202 v203
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_145 : BitVec 32 := 1#32
  let v205 : BitVec 32 := Scalar.muli v76 c1_i32_145
  let v206 : BitVec 32 := Scalar.addi v204 v205
  v206.toNat
def k0_dev17 (d0 : Dev nD) : Nat :=
  let c0_i32_150 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_149 : BitVec 32 := 4#32
  let v213 : BitVec 32 := Scalar.muli v70 c4_i32_149
  let v214 : BitVec 32 := Scalar.addi c0_i32_150 v213
  let c1_i32_59 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v79 : BitVec 32 := Scalar.subi c1_i32_59 v73
  let c2_i32_151 : BitVec 32 := 2#32
  let v215 : BitVec 32 := Scalar.muli v79 c2_i32_151
  let v216 : BitVec 32 := Scalar.addi v214 v215
  let c1_i32_60 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v80 : BitVec 32 := Scalar.subi c1_i32_60 v76
  let c1_i32_152 : BitVec 32 := 1#32
  let v217 : BitVec 32 := Scalar.muli v80 c1_i32_152
  let v218 : BitVec 32 := Scalar.addi v216 v217
  v218.toNat
def k0_dev18 (d0 : Dev nD) : Nat :=
  let c0_i32_157 : BitVec 32 := 0#32
  let c1_i32_61 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v81 : BitVec 32 := Scalar.subi c1_i32_61 v70
  let c4_i32_156 : BitVec 32 := 4#32
  let v225 : BitVec 32 := Scalar.muli v81 c4_i32_156
  let v226 : BitVec 32 := Scalar.addi c0_i32_157 v225
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_158 : BitVec 32 := 2#32
  let v227 : BitVec 32 := Scalar.muli v73 c2_i32_158
  let v228 : BitVec 32 := Scalar.addi v226 v227
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_159 : BitVec 32 := 1#32
  let v229 : BitVec 32 := Scalar.muli v76 c1_i32_159
  let v230 : BitVec 32 := Scalar.addi v228 v229
  v230.toNat
def k0_dev19 (d0 : Dev nD) : Nat :=
  let c0_i32_164 : BitVec 32 := 0#32
  let c1_i32_62 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v82 : BitVec 32 := Scalar.subi c1_i32_62 v70
  let c4_i32_163 : BitVec 32 := 4#32
  let v237 : BitVec 32 := Scalar.muli v82 c4_i32_163
  let v238 : BitVec 32 := Scalar.addi c0_i32_164 v237
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_165 : BitVec 32 := 2#32
  let v239 : BitVec 32 := Scalar.muli v73 c2_i32_165
  let v240 : BitVec 32 := Scalar.addi v238 v239
  let c1_i32_63 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v83 : BitVec 32 := Scalar.subi c1_i32_63 v76
  let c1_i32_166 : BitVec 32 := 1#32
  let v241 : BitVec 32 := Scalar.muli v83 c1_i32_166
  let v242 : BitVec 32 := Scalar.addi v240 v241
  v242.toNat
def k0_dev20 (d0 : Dev nD) : Nat :=
  let c0_i32_171 : BitVec 32 := 0#32
  let c1_i32_64 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v84 : BitVec 32 := Scalar.subi c1_i32_64 v70
  let c4_i32_170 : BitVec 32 := 4#32
  let v249 : BitVec 32 := Scalar.muli v84 c4_i32_170
  let v250 : BitVec 32 := Scalar.addi c0_i32_171 v249
  let c1_i32_65 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v85 : BitVec 32 := Scalar.subi c1_i32_65 v73
  let c2_i32_172 : BitVec 32 := 2#32
  let v251 : BitVec 32 := Scalar.muli v85 c2_i32_172
  let v252 : BitVec 32 := Scalar.addi v250 v251
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_173 : BitVec 32 := 1#32
  let v253 : BitVec 32 := Scalar.muli v76 c1_i32_173
  let v254 : BitVec 32 := Scalar.addi v252 v253
  v254.toNat
def k0_dev21 (d0 : Dev nD) : Nat :=
  let c0_i32_178 : BitVec 32 := 0#32
  let c1_i32_66 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v86 : BitVec 32 := Scalar.subi c1_i32_66 v70
  let c4_i32_177 : BitVec 32 := 4#32
  let v261 : BitVec 32 := Scalar.muli v86 c4_i32_177
  let v262 : BitVec 32 := Scalar.addi c0_i32_178 v261
  let c1_i32_67 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v87 : BitVec 32 := Scalar.subi c1_i32_67 v73
  let c2_i32_179 : BitVec 32 := 2#32
  let v263 : BitVec 32 := Scalar.muli v87 c2_i32_179
  let v264 : BitVec 32 := Scalar.addi v262 v263
  let c1_i32_68 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v88 : BitVec 32 := Scalar.subi c1_i32_68 v76
  let c1_i32_180 : BitVec 32 := 1#32
  let v265 : BitVec 32 := Scalar.muli v88 c1_i32_180
  let v266 : BitVec 32 := Scalar.addi v264 v265
  v266.toNat
def k0_dev22 (d0 : Dev nD) : Nat :=
  let c0_i32_185 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_184 : BitVec 32 := 4#32
  let v273 : BitVec 32 := Scalar.muli v70 c4_i32_184
  let v274 : BitVec 32 := Scalar.addi c0_i32_185 v273
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_186 : BitVec 32 := 2#32
  let v275 : BitVec 32 := Scalar.muli v73 c2_i32_186
  let v276 : BitVec 32 := Scalar.addi v274 v275
  let c1_i32_57 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v77 : BitVec 32 := Scalar.subi c1_i32_57 v76
  let c1_i32_187 : BitVec 32 := 1#32
  let v277 : BitVec 32 := Scalar.muli v77 c1_i32_187
  let v278 : BitVec 32 := Scalar.addi v276 v277
  v278.toNat
def k0_dev23 (d0 : Dev nD) : Nat :=
  let c0_i32_192 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_191 : BitVec 32 := 4#32
  let v285 : BitVec 32 := Scalar.muli v70 c4_i32_191
  let v286 : BitVec 32 := Scalar.addi c0_i32_192 v285
  let c1_i32_58 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v78 : BitVec 32 := Scalar.subi c1_i32_58 v73
  let c2_i32_193 : BitVec 32 := 2#32
  let v287 : BitVec 32 := Scalar.muli v78 c2_i32_193
  let v288 : BitVec 32 := Scalar.addi v286 v287
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_194 : BitVec 32 := 1#32
  let v289 : BitVec 32 := Scalar.muli v76 c1_i32_194
  let v290 : BitVec 32 := Scalar.addi v288 v289
  v290.toNat
def k0_dev24 (d0 : Dev nD) : Nat :=
  let c0_i32_199 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_198 : BitVec 32 := 4#32
  let v297 : BitVec 32 := Scalar.muli v70 c4_i32_198
  let v298 : BitVec 32 := Scalar.addi c0_i32_199 v297
  let c1_i32_59 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v79 : BitVec 32 := Scalar.subi c1_i32_59 v73
  let c2_i32_200 : BitVec 32 := 2#32
  let v299 : BitVec 32 := Scalar.muli v79 c2_i32_200
  let v300 : BitVec 32 := Scalar.addi v298 v299
  let c1_i32_60 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v80 : BitVec 32 := Scalar.subi c1_i32_60 v76
  let c1_i32_201 : BitVec 32 := 1#32
  let v301 : BitVec 32 := Scalar.muli v80 c1_i32_201
  let v302 : BitVec 32 := Scalar.addi v300 v301
  v302.toNat
def k0_dev25 (d0 : Dev nD) : Nat :=
  let c0_i32_206 : BitVec 32 := 0#32
  let c1_i32_61 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v81 : BitVec 32 := Scalar.subi c1_i32_61 v70
  let c4_i32_205 : BitVec 32 := 4#32
  let v309 : BitVec 32 := Scalar.muli v81 c4_i32_205
  let v310 : BitVec 32 := Scalar.addi c0_i32_206 v309
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_207 : BitVec 32 := 2#32
  let v311 : BitVec 32 := Scalar.muli v73 c2_i32_207
  let v312 : BitVec 32 := Scalar.addi v310 v311
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_208 : BitVec 32 := 1#32
  let v313 : BitVec 32 := Scalar.muli v76 c1_i32_208
  let v314 : BitVec 32 := Scalar.addi v312 v313
  v314.toNat
def k0_dev26 (d0 : Dev nD) : Nat :=
  let c0_i32_213 : BitVec 32 := 0#32
  let c1_i32_62 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v82 : BitVec 32 := Scalar.subi c1_i32_62 v70
  let c4_i32_212 : BitVec 32 := 4#32
  let v321 : BitVec 32 := Scalar.muli v82 c4_i32_212
  let v322 : BitVec 32 := Scalar.addi c0_i32_213 v321
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_214 : BitVec 32 := 2#32
  let v323 : BitVec 32 := Scalar.muli v73 c2_i32_214
  let v324 : BitVec 32 := Scalar.addi v322 v323
  let c1_i32_63 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v83 : BitVec 32 := Scalar.subi c1_i32_63 v76
  let c1_i32_215 : BitVec 32 := 1#32
  let v325 : BitVec 32 := Scalar.muli v83 c1_i32_215
  let v326 : BitVec 32 := Scalar.addi v324 v325
  v326.toNat
def k0_dev27 (d0 : Dev nD) : Nat :=
  let c0_i32_220 : BitVec 32 := 0#32
  let c1_i32_64 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v84 : BitVec 32 := Scalar.subi c1_i32_64 v70
  let c4_i32_219 : BitVec 32 := 4#32
  let v333 : BitVec 32 := Scalar.muli v84 c4_i32_219
  let v334 : BitVec 32 := Scalar.addi c0_i32_220 v333
  let c1_i32_65 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v85 : BitVec 32 := Scalar.subi c1_i32_65 v73
  let c2_i32_221 : BitVec 32 := 2#32
  let v335 : BitVec 32 := Scalar.muli v85 c2_i32_221
  let v336 : BitVec 32 := Scalar.addi v334 v335
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_222 : BitVec 32 := 1#32
  let v337 : BitVec 32 := Scalar.muli v76 c1_i32_222
  let v338 : BitVec 32 := Scalar.addi v336 v337
  v338.toNat
def k0_dev28 (d0 : Dev nD) : Nat :=
  let c0_i32_227 : BitVec 32 := 0#32
  let c1_i32_66 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v86 : BitVec 32 := Scalar.subi c1_i32_66 v70
  let c4_i32_226 : BitVec 32 := 4#32
  let v345 : BitVec 32 := Scalar.muli v86 c4_i32_226
  let v346 : BitVec 32 := Scalar.addi c0_i32_227 v345
  let c1_i32_67 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v87 : BitVec 32 := Scalar.subi c1_i32_67 v73
  let c2_i32_228 : BitVec 32 := 2#32
  let v347 : BitVec 32 := Scalar.muli v87 c2_i32_228
  let v348 : BitVec 32 := Scalar.addi v346 v347
  let c1_i32_68 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v88 : BitVec 32 := Scalar.subi c1_i32_68 v76
  let c1_i32_229 : BitVec 32 := 1#32
  let v349 : BitVec 32 := Scalar.muli v88 c1_i32_229
  let v350 : BitVec 32 := Scalar.addi v348 v349
  v350.toNat
abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev grid1 : Pipeline.Grid := .none

def k1_off1 (d0 : Dev nD) : Fin 3 → Nat :=
  let c4_i32_15 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c4_i32_15 v2
  let c2_i32_16 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.muli c2_i32_16 v5
  let v23 : BitVec 32 := Scalar.addi v21 v22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.addi v23 v8
  let c0_i32_19 : BitVec 32 := 0#32
  let c0_i32_20 : BitVec 32 := 0#32
  ![v24.toNat, 0, 0]
def k1_off2 (d0 : Dev nD) : Fin 3 → Nat :=
  let c4_i32_15 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c4_i32_15 v2
  let c2_i32_16 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.muli c2_i32_16 v5
  let v23 : BitVec 32 := Scalar.addi v21 v22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.addi v23 v8
  let c0_i32_106 : BitVec 32 := 0#32
  let c0_i32_107 : BitVec 32 := 0#32
  ![v24.toNat, 0, 0]
def k1_off3 (d0 : Dev nD) : Fin 3 → Nat :=
  let c4_i32_15 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c4_i32_15 v2
  let c2_i32_16 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.muli c2_i32_16 v5
  let v23 : BitVec 32 := Scalar.addi v21 v22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.addi v23 v8
  let c0_i32_190 : BitVec 32 := 0#32
  let c0_i32_191 : BitVec 32 := 0#32
  ![v24.toNat, 0, 0]
abbrev stage1_0 : Fin 1 → Memref sig .tc .vmem S8x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
-- ==== ReferenceBIdeal.lean ====
abbrev S1024x1024 : Shape := ⟨2, ![1024, 1024]⟩
abbrev S8192x768 : Shape := ⟨2, ![8192, 768]⟩
abbrev S2816x1024 : Shape := ⟨2, ![2816, 1024]⟩
abbrev S8x128x1024 : Shape := ⟨3, ![8, 128, 1024]⟩
abbrev S8x1024x768 : Shape := ⟨3, ![8, 1024, 768]⟩
abbrev S8x352x1024 : Shape := ⟨3, ![8, 352, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S8192x768, .bf16⟩
  | .hbm, ⟨2, _⟩ => ⟨S2816x1024, .bf16⟩
  | .hbm, ⟨3, _⟩ => ⟨S8x128x1024, .bf16⟩
  | .hbm, ⟨4, _⟩ => ⟨S8x1024x768, .bf16⟩
  | .hbm, ⟨5, _⟩ => ⟨S8x352x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ReferenceB.lean ====
abbrev S1024x1024 : Shape := ⟨2, ![1024, 1024]⟩
abbrev S8192x768 : Shape := ⟨2, ![8192, 768]⟩
abbrev S2816x1024 : Shape := ⟨2, ![2816, 1024]⟩
abbrev S8x128x1024 : Shape := ⟨3, ![8, 128, 1024]⟩
abbrev S8x1024x768 : Shape := ⟨3, ![8, 1024, 768]⟩
abbrev S8x352x1024 : Shape := ⟨3, ![8, 352, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S8192x768, .bf16⟩
  | .hbm, ⟨2, _⟩ => ⟨S2816x1024, .bf16⟩
  | .hbm, ⟨3, _⟩ => ⟨S8x128x1024, .bf16⟩
  | .hbm, ⟨4, _⟩ => ⟨S8x1024x768, .bf16⟩
  | .hbm, ⟨5, _⟩ => ⟨S8x352x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelA.lean ====
abbrev S1024x640 : Shape := ⟨2, ![1024, 640]⟩
abbrev S8x1024x640 : Shape := ⟨3, ![8, 1024, 640]⟩
abbrev S7 : Shape := ⟨1, ![7]⟩
abbrev S8x128 : Shape := ⟨2, ![8, 128]⟩
abbrev S1 : Shape := ⟨1, ![1]⟩
abbrev S_ : Shape := ⟨0, ![]⟩
abbrev S1x1024x640 : Shape := ⟨3, ![1, 1024, 640]⟩

abbrev nBuf : Space → Nat
  | .hbm => 5
  | .vmem => 2
  | .smem => 0
  | _ => 0

abbrev bufTy : (tb : Table) → Fin (tcTables nBuf tb) → BufTy
  | .hbm, ⟨0, _⟩ => ⟨S1024x640, .bf16⟩
  | .hbm, ⟨1, _⟩ => ⟨S8x1024x640, .bf16⟩
  | .hbm, ⟨2, _⟩ => ⟨S1024x640, .bf16⟩
  | .hbm, ⟨3, _⟩ => ⟨S8x128, .f32⟩
  | .hbm, ⟨4, _⟩ => ⟨S8x128, .f32⟩
  | .local _ .vmem, ⟨0, _⟩ => ⟨S8x128, .f32⟩
  | .local _ .vmem, ⟨1, _⟩ => ⟨S8x128, .f32⟩
  | _, _ => ⟨S1024x640, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev main_v2_2 : Ref sig .tc := ⟨.hbm, 2, rfl⟩
abbrev main_v2_4 : Ref sig .tc := ⟨.hbm, 3, rfl⟩
abbrev main_v3_2 : Ref sig .tc := ⟨.hbm, 4, rfl⟩
abbrev cc0_stg0_0 : Ref sig .tc := ⟨.vmem, 0, rfl⟩
abbrev cc1_stg0_0 : Ref sig .tc := ⟨.vmem, 1, rfl⟩
abbrev cc0_sem0_0 : DmaSem sig := 14
abbrev cc1_sem0_0 : DmaSem sig := 16
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v26 : BitVec 32 := Scalar.muli v2 c4_i32_18
  let v27 : BitVec 32 := Scalar.addi c0_i32 v26
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v28 : BitVec 32 := Scalar.muli v5 c2_i32_19
  let v29 : BitVec 32 := Scalar.addi v27 v28
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_20 : BitVec 32 := 1#32
  let v30 : BitVec 32 := Scalar.muli v9 c1_i32_20
  let v31 : BitVec 32 := Scalar.addi v29 v30
  v31.toNat
def k0_dev2 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v32 : BitVec 32 := Scalar.muli v2 c4_i32_22
  let v33 : BitVec 32 := Scalar.addi c0_i32_23 v32
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_24 : BitVec 32 := 2#32
  let v34 : BitVec 32 := Scalar.muli v10 c2_i32_24
  let v35 : BitVec 32 := Scalar.addi v33 v34
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v36 : BitVec 32 := Scalar.muli v8 c1_i32_25
  let v37 : BitVec 32 := Scalar.addi v35 v36
  v37.toNat
def k0_dev3 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v38 : BitVec 32 := Scalar.muli v2 c4_i32_27
  let v39 : BitVec 32 := Scalar.addi c0_i32_28 v38
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_29 : BitVec 32 := 2#32
  let v40 : BitVec 32 := Scalar.muli v11 c2_i32_29
  let v41 : BitVec 32 := Scalar.addi v39 v40
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_30 : BitVec 32 := 1#32
  let v42 : BitVec 32 := Scalar.muli v12 c1_i32_30
  let v43 : BitVec 32 := Scalar.addi v41 v42
  v43.toNat
def k0_dev4 (d0 : Dev nD) : Nat :=
  let c0_i32_33 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_7 v2
  let c4_i32_32 : BitVec 32 := 4#32
  let v44 : BitVec 32 := Scalar.muli v13 c4_i32_32
  let v45 : BitVec 32 := Scalar.addi c0_i32_33 v44
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_34 : BitVec 32 := 2#32
  let v46 : BitVec 32 := Scalar.muli v5 c2_i32_34
  let v47 : BitVec 32 := Scalar.addi v45 v46
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_35 : BitVec 32 := 1#32
  let v48 : BitVec 32 := Scalar.muli v8 c1_i32_35
  let v49 : BitVec 32 := Scalar.addi v47 v48
  v49.toNat
def k0_dev5 (d0 : Dev nD) : Nat :=
  let c0_i32_38 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_8 v2
  let c4_i32_37 : BitVec 32 := 4#32
  let v50 : BitVec 32 := Scalar.muli v14 c4_i32_37
  let v51 : BitVec 32 := Scalar.addi c0_i32_38 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_39 : BitVec 32 := 2#32
  let v52 : BitVec 32 := Scalar.muli v5 c2_i32_39
  let v53 : BitVec 32 := Scalar.addi v51 v52
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let c1_i32_40 : BitVec 32 := 1#32
  let v54 : BitVec 32 := Scalar.muli v15 c1_i32_40
  let v55 : BitVec 32 := Scalar.addi v53 v54
  v55.toNat
def k0_dev6 (d0 : Dev nD) : Nat :=
  let c0_i32_43 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_10 v2
  let c4_i32_42 : BitVec 32 := 4#32
  let v56 : BitVec 32 := Scalar.muli v16 c4_i32_42
  let v57 : BitVec 32 := Scalar.addi c0_i32_43 v56
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_11 v5
  let c2_i32_44 : BitVec 32 := 2#32
  let v58 : BitVec 32 := Scalar.muli v17 c2_i32_44
  let v59 : BitVec 32 := Scalar.addi v57 v58
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v60 : BitVec 32 := Scalar.muli v8 c1_i32_45
  let v61 : BitVec 32 := Scalar.addi v59 v60
  v61.toNat
def k0_dev7 (d0 : Dev nD) : Nat :=
  let c0_i32_48 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_12 v2
  let c4_i32_47 : BitVec 32 := 4#32
  let v62 : BitVec 32 := Scalar.muli v18 c4_i32_47
  let v63 : BitVec 32 := Scalar.addi c0_i32_48 v62
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_13 v5
  let c2_i32_49 : BitVec 32 := 2#32
  let v64 : BitVec 32 := Scalar.muli v19 c2_i32_49
  let v65 : BitVec 32 := Scalar.addi v63 v64
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_14 v8
  let c1_i32_50 : BitVec 32 := 1#32
  let v66 : BitVec 32 := Scalar.muli v20 c1_i32_50
  let v67 : BitVec 32 := Scalar.addi v65 v66
  v67.toNat
def k0_off1 (d0 : Dev nD) : Fin 3 → Nat :=
  let c4_i32_15 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c4_i32_15 v2
  let c2_i32_16 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.muli c2_i32_16 v5
  let v23 : BitVec 32 := Scalar.addi v21 v22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.addi v23 v8
  let c0_i32_72 : BitVec 32 := 0#32
  let c0_i32_73 : BitVec 32 := 0#32
  ![v24.toNat, 0, 0]
def k0_dev8 (d0 : Dev nD) : Nat :=
  let c0_i32_77 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_76 : BitVec 32 := 4#32
  let v97 : BitVec 32 := Scalar.muli v70 c4_i32_76
  let v98 : BitVec 32 := Scalar.addi c0_i32_77 v97
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_78 : BitVec 32 := 2#32
  let v99 : BitVec 32 := Scalar.muli v73 c2_i32_78
  let v100 : BitVec 32 := Scalar.addi v98 v99
  let c1_i32_57 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v77 : BitVec 32 := Scalar.subi c1_i32_57 v76
  let c1_i32_79 : BitVec 32 := 1#32
  let v101 : BitVec 32 := Scalar.muli v77 c1_i32_79
  let v102 : BitVec 32 := Scalar.addi v100 v101
  v102.toNat
def k0_dev9 (d0 : Dev nD) : Nat :=
  let c0_i32_85 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_84 : BitVec 32 := 4#32
  let v109 : BitVec 32 := Scalar.muli v70 c4_i32_84
  let v110 : BitVec 32 := Scalar.addi c0_i32_85 v109
  let c1_i32_58 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v78 : BitVec 32 := Scalar.subi c1_i32_58 v73
  let c2_i32_86 : BitVec 32 := 2#32
  let v111 : BitVec 32 := Scalar.muli v78 c2_i32_86
  let v112 : BitVec 32 := Scalar.addi v110 v111
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_87 : BitVec 32 := 1#32
  let v113 : BitVec 32 := Scalar.muli v76 c1_i32_87
  let v114 : BitVec 32 := Scalar.addi v112 v113
  v114.toNat
def k0_dev10 (d0 : Dev nD) : Nat :=
  let c0_i32_93 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_92 : BitVec 32 := 4#32
  let v121 : BitVec 32 := Scalar.muli v70 c4_i32_92
  let v122 : BitVec 32 := Scalar.addi c0_i32_93 v121
  let c1_i32_59 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v79 : BitVec 32 := Scalar.subi c1_i32_59 v73
  let c2_i32_94 : BitVec 32 := 2#32
  let v123 : BitVec 32 := Scalar.muli v79 c2_i32_94
  let v124 : BitVec 32 := Scalar.addi v122 v123
  let c1_i32_60 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v80 : BitVec 32 := Scalar.subi c1_i32_60 v76
  let c1_i32_95 : BitVec 32 := 1#32
  let v125 : BitVec 32 := Scalar.muli v80 c1_i32_95
  let v126 : BitVec 32 := Scalar.addi v124 v125
  v126.toNat
def k0_dev11 (d0 : Dev nD) : Nat :=
  let c0_i32_100 : BitVec 32 := 0#32
  let c1_i32_61 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v81 : BitVec 32 := Scalar.subi c1_i32_61 v70
  let c4_i32_99 : BitVec 32 := 4#32
  let v133 : BitVec 32 := Scalar.muli v81 c4_i32_99
  let v134 : BitVec 32 := Scalar.addi c0_i32_100 v133
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_101 : BitVec 32 := 2#32
  let v135 : BitVec 32 := Scalar.muli v73 c2_i32_101
  let v136 : BitVec 32 := Scalar.addi v134 v135
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_102 : BitVec 32 := 1#32
  let v137 : BitVec 32 := Scalar.muli v76 c1_i32_102
  let v138 : BitVec 32 := Scalar.addi v136 v137
  v138.toNat
def k0_dev12 (d0 : Dev nD) : Nat :=
  let c0_i32_108 : BitVec 32 := 0#32
  let c1_i32_62 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v82 : BitVec 32 := Scalar.subi c1_i32_62 v70
  let c4_i32_107 : BitVec 32 := 4#32
  let v145 : BitVec 32 := Scalar.muli v82 c4_i32_107
  let v146 : BitVec 32 := Scalar.addi c0_i32_108 v145
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_109 : BitVec 32 := 2#32
  let v147 : BitVec 32 := Scalar.muli v73 c2_i32_109
  let v148 : BitVec 32 := Scalar.addi v146 v147
  let c1_i32_63 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v83 : BitVec 32 := Scalar.subi c1_i32_63 v76
  let c1_i32_110 : BitVec 32 := 1#32
  let v149 : BitVec 32 := Scalar.muli v83 c1_i32_110
  let v150 : BitVec 32 := Scalar.addi v148 v149
  v150.toNat
def k0_dev13 (d0 : Dev nD) : Nat :=
  let c0_i32_115 : BitVec 32 := 0#32
  let c1_i32_64 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v84 : BitVec 32 := Scalar.subi c1_i32_64 v70
  let c4_i32_114 : BitVec 32 := 4#32
  let v157 : BitVec 32 := Scalar.muli v84 c4_i32_114
  let v158 : BitVec 32 := Scalar.addi c0_i32_115 v157
  let c1_i32_65 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v85 : BitVec 32 := Scalar.subi c1_i32_65 v73
  let c2_i32_116 : BitVec 32 := 2#32
  let v159 : BitVec 32 := Scalar.muli v85 c2_i32_116
  let v160 : BitVec 32 := Scalar.addi v158 v159
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_117 : BitVec 32 := 1#32
  let v161 : BitVec 32 := Scalar.muli v76 c1_i32_117
  let v162 : BitVec 32 := Scalar.addi v160 v161
  v162.toNat
def k0_dev14 (d0 : Dev nD) : Nat :=
  let c0_i32_122 : BitVec 32 := 0#32
  let c1_i32_66 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v86 : BitVec 32 := Scalar.subi c1_i32_66 v70
  let c4_i32_121 : BitVec 32 := 4#32
  let v169 : BitVec 32 := Scalar.muli v86 c4_i32_121
  let v170 : BitVec 32 := Scalar.addi c0_i32_122 v169
  let c1_i32_67 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v87 : BitVec 32 := Scalar.subi c1_i32_67 v73
  let c2_i32_123 : BitVec 32 := 2#32
  let v171 : BitVec 32 := Scalar.muli v87 c2_i32_123
  let v172 : BitVec 32 := Scalar.addi v170 v171
  let c1_i32_68 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v88 : BitVec 32 := Scalar.subi c1_i32_68 v76
  let c1_i32_124 : BitVec 32 := 1#32
  let v173 : BitVec 32 := Scalar.muli v88 c1_i32_124
  let v174 : BitVec 32 := Scalar.addi v172 v173
  v174.toNat
abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev grid1 : Pipeline.Grid := .none

def k1_off1 (d0 : Dev nD) : Fin 3 → Nat :=
  let c4_i32_15 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c4_i32_15 v2
  let c2_i32_16 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.muli c2_i32_16 v5
  let v23 : BitVec 32 := Scalar.addi v21 v22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.addi v23 v8
  let c0_i32_19 : BitVec 32 := 0#32
  let c0_i32_20 : BitVec 32 := 0#32
  ![v24.toNat, 0, 0]
abbrev stage1_0 : Fin 1 → Memref sig .tc .vmem S8x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
-- ==== KernelAIdeal.lean ====
abbrev S1024x640 : Shape := ⟨2, ![1024, 640]⟩
abbrev S8x1024x640 : Shape := ⟨3, ![8, 1024, 640]⟩
abbrev S7 : Shape := ⟨1, ![7]⟩
abbrev S8x128 : Shape := ⟨2, ![8, 128]⟩
abbrev S1 : Shape := ⟨1, ![1]⟩
abbrev S_ : Shape := ⟨0, ![]⟩
abbrev S1x1024x640 : Shape := ⟨3, ![1, 1024, 640]⟩

abbrev nBuf : Space → Nat
  | .hbm => 5
  | .vmem => 2
  | .smem => 0
  | _ => 0

abbrev bufTy : (tb : Table) → Fin (tcTables nBuf tb) → BufTy
  | .hbm, ⟨0, _⟩ => ⟨S1024x640, .bf16⟩
  | .hbm, ⟨1, _⟩ => ⟨S8x1024x640, .bf16⟩
  | .hbm, ⟨2, _⟩ => ⟨S1024x640, .bf16⟩
  | .hbm, ⟨3, _⟩ => ⟨S8x128, .f32⟩
  | .hbm, ⟨4, _⟩ => ⟨S8x128, .f32⟩
  | .local _ .vmem, ⟨0, _⟩ => ⟨S8x128, .f32⟩
  | .local _ .vmem, ⟨1, _⟩ => ⟨S8x128, .f32⟩
  | _, _ => ⟨S1024x640, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev main_v2_2 : Ref sig .tc := ⟨.hbm, 2, rfl⟩
abbrev main_v2_4 : Ref sig .tc := ⟨.hbm, 3, rfl⟩
abbrev main_v3_2 : Ref sig .tc := ⟨.hbm, 4, rfl⟩
abbrev cc0_stg0_0 : Ref sig .tc := ⟨.vmem, 0, rfl⟩
abbrev cc1_stg0_0 : Ref sig .tc := ⟨.vmem, 1, rfl⟩
abbrev cc0_sem0_0 : DmaSem sig := 14
abbrev cc1_sem0_0 : DmaSem sig := 16
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v26 : BitVec 32 := Scalar.muli v2 c4_i32_18
  let v27 : BitVec 32 := Scalar.addi c0_i32 v26
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v28 : BitVec 32 := Scalar.muli v5 c2_i32_19
  let v29 : BitVec 32 := Scalar.addi v27 v28
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_20 : BitVec 32 := 1#32
  let v30 : BitVec 32 := Scalar.muli v9 c1_i32_20
  let v31 : BitVec 32 := Scalar.addi v29 v30
  v31.toNat
def k0_dev2 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v32 : BitVec 32 := Scalar.muli v2 c4_i32_22
  let v33 : BitVec 32 := Scalar.addi c0_i32_23 v32
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_24 : BitVec 32 := 2#32
  let v34 : BitVec 32 := Scalar.muli v10 c2_i32_24
  let v35 : BitVec 32 := Scalar.addi v33 v34
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v36 : BitVec 32 := Scalar.muli v8 c1_i32_25
  let v37 : BitVec 32 := Scalar.addi v35 v36
  v37.toNat
def k0_dev3 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v38 : BitVec 32 := Scalar.muli v2 c4_i32_27
  let v39 : BitVec 32 := Scalar.addi c0_i32_28 v38
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_29 : BitVec 32 := 2#32
  let v40 : BitVec 32 := Scalar.muli v11 c2_i32_29
  let v41 : BitVec 32 := Scalar.addi v39 v40
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_30 : BitVec 32 := 1#32
  let v42 : BitVec 32 := Scalar.muli v12 c1_i32_30
  let v43 : BitVec 32 := Scalar.addi v41 v42
  v43.toNat
def k0_dev4 (d0 : Dev nD) : Nat :=
  let c0_i32_33 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_7 v2
  let c4_i32_32 : BitVec 32 := 4#32
  let v44 : BitVec 32 := Scalar.muli v13 c4_i32_32
  let v45 : BitVec 32 := Scalar.addi c0_i32_33 v44
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_34 : BitVec 32 := 2#32
  let v46 : BitVec 32 := Scalar.muli v5 c2_i32_34
  let v47 : BitVec 32 := Scalar.addi v45 v46
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_35 : BitVec 32 := 1#32
  let v48 : BitVec 32 := Scalar.muli v8 c1_i32_35
  let v49 : BitVec 32 := Scalar.addi v47 v48
  v49.toNat
def k0_dev5 (d0 : Dev nD) : Nat :=
  let c0_i32_38 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_8 v2
  let c4_i32_37 : BitVec 32 := 4#32
  let v50 : BitVec 32 := Scalar.muli v14 c4_i32_37
  let v51 : BitVec 32 := Scalar.addi c0_i32_38 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_39 : BitVec 32 := 2#32
  let v52 : BitVec 32 := Scalar.muli v5 c2_i32_39
  let v53 : BitVec 32 := Scalar.addi v51 v52
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let c1_i32_40 : BitVec 32 := 1#32
  let v54 : BitVec 32 := Scalar.muli v15 c1_i32_40
  let v55 : BitVec 32 := Scalar.addi v53 v54
  v55.toNat
def k0_dev6 (d0 : Dev nD) : Nat :=
  let c0_i32_43 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_10 v2
  let c4_i32_42 : BitVec 32 := 4#32
  let v56 : BitVec 32 := Scalar.muli v16 c4_i32_42
  let v57 : BitVec 32 := Scalar.addi c0_i32_43 v56
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_11 v5
  let c2_i32_44 : BitVec 32 := 2#32
  let v58 : BitVec 32 := Scalar.muli v17 c2_i32_44
  let v59 : BitVec 32 := Scalar.addi v57 v58
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v60 : BitVec 32 := Scalar.muli v8 c1_i32_45
  let v61 : BitVec 32 := Scalar.addi v59 v60
  v61.toNat
def k0_dev7 (d0 : Dev nD) : Nat :=
  let c0_i32_48 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_12 v2
  let c4_i32_47 : BitVec 32 := 4#32
  let v62 : BitVec 32 := Scalar.muli v18 c4_i32_47
  let v63 : BitVec 32 := Scalar.addi c0_i32_48 v62
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_13 v5
  let c2_i32_49 : BitVec 32 := 2#32
  let v64 : BitVec 32 := Scalar.muli v19 c2_i32_49
  let v65 : BitVec 32 := Scalar.addi v63 v64
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_14 v8
  let c1_i32_50 : BitVec 32 := 1#32
  let v66 : BitVec 32 := Scalar.muli v20 c1_i32_50
  let v67 : BitVec 32 := Scalar.addi v65 v66
  v67.toNat
def k0_off1 (d0 : Dev nD) : Fin 3 → Nat :=
  let c4_i32_15 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c4_i32_15 v2
  let c2_i32_16 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.muli c2_i32_16 v5
  let v23 : BitVec 32 := Scalar.addi v21 v22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.addi v23 v8
  let c0_i32_72 : BitVec 32 := 0#32
  let c0_i32_73 : BitVec 32 := 0#32
  ![v24.toNat, 0, 0]
def k0_dev8 (d0 : Dev nD) : Nat :=
  let c0_i32_77 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_76 : BitVec 32 := 4#32
  let v97 : BitVec 32 := Scalar.muli v70 c4_i32_76
  let v98 : BitVec 32 := Scalar.addi c0_i32_77 v97
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_78 : BitVec 32 := 2#32
  let v99 : BitVec 32 := Scalar.muli v73 c2_i32_78
  let v100 : BitVec 32 := Scalar.addi v98 v99
  let c1_i32_57 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v77 : BitVec 32 := Scalar.subi c1_i32_57 v76
  let c1_i32_79 : BitVec 32 := 1#32
  let v101 : BitVec 32 := Scalar.muli v77 c1_i32_79
  let v102 : BitVec 32 := Scalar.addi v100 v101
  v102.toNat
def k0_dev9 (d0 : Dev nD) : Nat :=
  let c0_i32_85 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_84 : BitVec 32 := 4#32
  let v109 : BitVec 32 := Scalar.muli v70 c4_i32_84
  let v110 : BitVec 32 := Scalar.addi c0_i32_85 v109
  let c1_i32_58 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v78 : BitVec 32 := Scalar.subi c1_i32_58 v73
  let c2_i32_86 : BitVec 32 := 2#32
  let v111 : BitVec 32 := Scalar.muli v78 c2_i32_86
  let v112 : BitVec 32 := Scalar.addi v110 v111
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_87 : BitVec 32 := 1#32
  let v113 : BitVec 32 := Scalar.muli v76 c1_i32_87
  let v114 : BitVec 32 := Scalar.addi v112 v113
  v114.toNat
def k0_dev10 (d0 : Dev nD) : Nat :=
  let c0_i32_93 : BitVec 32 := 0#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let c4_i32_92 : BitVec 32 := 4#32
  let v121 : BitVec 32 := Scalar.muli v70 c4_i32_92
  let v122 : BitVec 32 := Scalar.addi c0_i32_93 v121
  let c1_i32_59 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v79 : BitVec 32 := Scalar.subi c1_i32_59 v73
  let c2_i32_94 : BitVec 32 := 2#32
  let v123 : BitVec 32 := Scalar.muli v79 c2_i32_94
  let v124 : BitVec 32 := Scalar.addi v122 v123
  let c1_i32_60 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v80 : BitVec 32 := Scalar.subi c1_i32_60 v76
  let c1_i32_95 : BitVec 32 := 1#32
  let v125 : BitVec 32 := Scalar.muli v80 c1_i32_95
  let v126 : BitVec 32 := Scalar.addi v124 v125
  v126.toNat
def k0_dev11 (d0 : Dev nD) : Nat :=
  let c0_i32_100 : BitVec 32 := 0#32
  let c1_i32_61 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v81 : BitVec 32 := Scalar.subi c1_i32_61 v70
  let c4_i32_99 : BitVec 32 := 4#32
  let v133 : BitVec 32 := Scalar.muli v81 c4_i32_99
  let v134 : BitVec 32 := Scalar.addi c0_i32_100 v133
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_101 : BitVec 32 := 2#32
  let v135 : BitVec 32 := Scalar.muli v73 c2_i32_101
  let v136 : BitVec 32 := Scalar.addi v134 v135
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_102 : BitVec 32 := 1#32
  let v137 : BitVec 32 := Scalar.muli v76 c1_i32_102
  let v138 : BitVec 32 := Scalar.addi v136 v137
  v138.toNat
def k0_dev12 (d0 : Dev nD) : Nat :=
  let c0_i32_108 : BitVec 32 := 0#32
  let c1_i32_62 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v82 : BitVec 32 := Scalar.subi c1_i32_62 v70
  let c4_i32_107 : BitVec 32 := 4#32
  let v145 : BitVec 32 := Scalar.muli v82 c4_i32_107
  let v146 : BitVec 32 := Scalar.addi c0_i32_108 v145
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let c2_i32_109 : BitVec 32 := 2#32
  let v147 : BitVec 32 := Scalar.muli v73 c2_i32_109
  let v148 : BitVec 32 := Scalar.addi v146 v147
  let c1_i32_63 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v83 : BitVec 32 := Scalar.subi c1_i32_63 v76
  let c1_i32_110 : BitVec 32 := 1#32
  let v149 : BitVec 32 := Scalar.muli v83 c1_i32_110
  let v150 : BitVec 32 := Scalar.addi v148 v149
  v150.toNat
def k0_dev13 (d0 : Dev nD) : Nat :=
  let c0_i32_115 : BitVec 32 := 0#32
  let c1_i32_64 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v84 : BitVec 32 := Scalar.subi c1_i32_64 v70
  let c4_i32_114 : BitVec 32 := 4#32
  let v157 : BitVec 32 := Scalar.muli v84 c4_i32_114
  let v158 : BitVec 32 := Scalar.addi c0_i32_115 v157
  let c1_i32_65 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v85 : BitVec 32 := Scalar.subi c1_i32_65 v73
  let c2_i32_116 : BitVec 32 := 2#32
  let v159 : BitVec 32 := Scalar.muli v85 c2_i32_116
  let v160 : BitVec 32 := Scalar.addi v158 v159
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let c1_i32_117 : BitVec 32 := 1#32
  let v161 : BitVec 32 := Scalar.muli v76 c1_i32_117
  let v162 : BitVec 32 := Scalar.addi v160 v161
  v162.toNat
def k0_dev14 (d0 : Dev nD) : Nat :=
  let c0_i32_122 : BitVec 32 := 0#32
  let c1_i32_66 : BitVec 32 := 1#32
  let v68 : BitVec 32 := Dev.word d0
  let c4_i32_52 : BitVec 32 := 4#32
  let v69 : BitVec 32 := Scalar.divsi v68 c4_i32_52
  let c2_i32_51 : BitVec 32 := 2#32
  let v70 : BitVec 32 := Scalar.remsi v69 c2_i32_51
  let v86 : BitVec 32 := Scalar.subi c1_i32_66 v70
  let c4_i32_121 : BitVec 32 := 4#32
  let v169 : BitVec 32 := Scalar.muli v86 c4_i32_121
  let v170 : BitVec 32 := Scalar.addi c0_i32_122 v169
  let c1_i32_67 : BitVec 32 := 1#32
  let v71 : BitVec 32 := Dev.word d0
  let c2_i32_54 : BitVec 32 := 2#32
  let v72 : BitVec 32 := Scalar.divsi v71 c2_i32_54
  let c2_i32_53 : BitVec 32 := 2#32
  let v73 : BitVec 32 := Scalar.remsi v72 c2_i32_53
  let v87 : BitVec 32 := Scalar.subi c1_i32_67 v73
  let c2_i32_123 : BitVec 32 := 2#32
  let v171 : BitVec 32 := Scalar.muli v87 c2_i32_123
  let v172 : BitVec 32 := Scalar.addi v170 v171
  let c1_i32_68 : BitVec 32 := 1#32
  let v74 : BitVec 32 := Dev.word d0
  let c1_i32_56 : BitVec 32 := 1#32
  let v75 : BitVec 32 := Scalar.divsi v74 c1_i32_56
  let c2_i32_55 : BitVec 32 := 2#32
  let v76 : BitVec 32 := Scalar.remsi v75 c2_i32_55
  let v88 : BitVec 32 := Scalar.subi c1_i32_68 v76
  let c1_i32_124 : BitVec 32 := 1#32
  let v173 : BitVec 32 := Scalar.muli v88 c1_i32_124
  let v174 : BitVec 32 := Scalar.addi v172 v173
  v174.toNat
abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev grid1 : Pipeline.Grid := .none

def k1_off1 (d0 : Dev nD) : Fin 3 → Nat :=
  let c4_i32_15 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c4_i32_15 v2
  let c2_i32_16 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.muli c2_i32_16 v5
  let v23 : BitVec 32 := Scalar.addi v21 v22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.addi v23 v8
  let c0_i32_19 : BitVec 32 := 0#32
  let c0_i32_20 : BitVec 32 := 0#32
  ![v24.toNat, 0, 0]
abbrev stage1_0 : Fin 1 → Memref sig .tc .vmem S8x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
-- ==== ReferenceA.lean ====
abbrev S8192x640 : Shape := ⟨2, ![8192, 640]⟩
abbrev S8x1024x640 : Shape := ⟨3, ![8, 1024, 640]⟩

abbrev nBuf : Space → Nat
  | .hbm => 2
  | .vmem => 0
  | .smem => 0
  | _ => 0

abbrev bufTy : (tb : Table) → Fin (tcTables nBuf tb) → BufTy
  | .hbm, ⟨0, _⟩ => ⟨S8192x640, .bf16⟩
  | .hbm, ⟨1, _⟩ => ⟨S8x1024x640, .bf16⟩
  | _, _ => ⟨S8192x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== KernelUI.lean ====
abbrev S4096x640 : Shape := ⟨2, ![4096, 640]⟩
abbrev S8x4096x640 : Shape := ⟨3, ![8, 4096, 640]⟩
abbrev S256x640 : Shape := ⟨2, ![256, 640]⟩
abbrev S8x256x640 : Shape := ⟨3, ![8, 256, 640]⟩
abbrev S1x256x640 : Shape := ⟨3, ![1, 256, 640]⟩

abbrev nBuf : Space → Nat
  | .hbm => 8
  | .vmem => 16
  | .smem => 0
  | _ => 0

abbrev bufTy : (tb : Table) → Fin (tcTables nBuf tb) → BufTy
  | .hbm, ⟨0, _⟩ => ⟨S4096x640, .f32⟩
  | .hbm, ⟨1, _⟩ => ⟨S4096x640, .f32⟩
  | .hbm, ⟨2, _⟩ => ⟨S4096x640, .f32⟩
  | .hbm, ⟨3, _⟩ => ⟨S8x4096x640, .bf16⟩
  | .hbm, ⟨4, _⟩ => ⟨S4096x640, .f32⟩
  | .hbm, ⟨5, _⟩ => ⟨S4096x640, .f32⟩
  | .hbm, ⟨6, _⟩ => ⟨S4096x640, .f32⟩
  | .hbm, ⟨7, _⟩ => ⟨S4096x640, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S8x256x640, .bf16⟩
  | .local _ .vmem, ⟨7, _⟩ => ⟨S8x256x640, .bf16⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | .local _ .vmem, ⟨14, _⟩ => ⟨S256x640, .f32⟩
  | .local _ .vmem, ⟨15, _⟩ => ⟨S256x640, .f32⟩
  | _, _ => ⟨S4096x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelUIIdeal.lean ====
abbrev S4096x640 : Shape := ⟨2, ![4096, 640]⟩
abbrev S8x4096x640 : Shape := ⟨3, ![8, 4096, 640]⟩
abbrev S256x640 : Shape := ⟨2, ![256, 640]⟩
abbrev S8x256x640 : Shape := ⟨3, ![8, 256, 640]⟩
abbrev S1x256x640 : Shape := ⟨3, ![1, 256, 640]⟩

abbrev nBuf : Space → Nat
  | .hbm => 8
  | .vmem => 16
  | .smem => 0
  | _ => 0

abbrev bufTy : (tb : Table) → Fin (tcTables nBuf tb) → BufTy
  | .hbm, ⟨0, _⟩ => ⟨S4096x640, .f32⟩
  | .hbm, ⟨1, _⟩ => ⟨S4096x640, .f32⟩
  | .hbm, ⟨2, _⟩ => ⟨S4096x640, .f32⟩
  | .hbm, ⟨3, _⟩ => ⟨S8x4096x640, .bf16⟩
  | .hbm, ⟨4, _⟩ => ⟨S4096x640, .f32⟩
  | .hbm, ⟨5, _⟩ => ⟨S4096x640, .f32⟩
  | .hbm, ⟨6, _⟩ => ⟨S4096x640, .f32⟩
  | .hbm, ⟨7, _⟩ => ⟨S4096x640, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S8x256x640, .bf16⟩
  | .local _ .vmem, ⟨7, _⟩ => ⟨S8x256x640, .bf16⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | .local _ .vmem, ⟨14, _⟩ => ⟨S256x640, .f32⟩
  | .local _ .vmem, ⟨15, _⟩ => ⟨S256x640, .f32⟩
  | _, _ => ⟨S4096x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceUIIdeal.lean ====
abbrev S4096x640 : Shape := ⟨2, ![4096, 640]⟩
abbrev S8x4096x640 : Shape := ⟨3, ![8, 4096, 640]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x640, .f32⟩
  | .hbm, ⟨1, _⟩ => ⟨S4096x640, .f32⟩
  | .hbm, ⟨2, _⟩ => ⟨S4096x640, .f32⟩
  | .hbm, ⟨3, _⟩ => ⟨S8x4096x640, .bf16⟩
  | .hbm, ⟨4, _⟩ => ⟨S8x4096x640, .f32⟩
  | .hbm, ⟨5, _⟩ => ⟨S_, .f32⟩
  | .hbm, ⟨6, _⟩ => ⟨S4096x640, .f32⟩
  | .hbm, ⟨7, _⟩ => ⟨S_, .f32⟩
  | .hbm, ⟨8, _⟩ => ⟨S4096x640, .f32⟩
  | .hbm, ⟨9, _⟩ => ⟨S4096x640, .f32⟩
  | .hbm, ⟨10, _⟩ => ⟨S_, .f32⟩
  | .hbm, ⟨11, _⟩ => ⟨S4096x640, .f32⟩
  | .hbm, ⟨12, _⟩ => ⟨S4096x640, .f32⟩
  | .hbm, ⟨13, _⟩ => ⟨S4096x640, .f32⟩
  | .hbm, ⟨14, _⟩ => ⟨S_, .f32⟩
  | .hbm, ⟨15, _⟩ => ⟨S4096x640, .f32⟩
  | .hbm, ⟨16, _⟩ => ⟨S4096x640, .f32⟩
  | .hbm, ⟨17, _⟩ => ⟨S4096x640, .f32⟩
  | .hbm, ⟨18, _⟩ => ⟨S_, .f32⟩
  | .hbm, ⟨19, _⟩ => ⟨S4096x640, .f32⟩
  | .hbm, ⟨20, _⟩ => ⟨S4096x640, .f32⟩
  | .hbm, ⟨21, _⟩ => ⟨S4096x640, .f32⟩
  | .hbm, ⟨22, _⟩ => ⟨S_, .f32⟩
  | .hbm, ⟨23, _⟩ => ⟨S4096x640, .f32⟩
  | .hbm, ⟨24, _⟩ => ⟨S4096x640, .f32⟩
  | .hbm, ⟨25, _⟩ => ⟨S_, .f32⟩
  | .hbm, ⟨26, _⟩ => ⟨S4096x640, .f32⟩
  | .hbm, ⟨27, _⟩ => ⟨S4096x640, .f32⟩
  | .hbm, ⟨28, _⟩ => ⟨S4096x640, .f32⟩
  | .hbm, ⟨29, _⟩ => ⟨S_, .f32⟩
  | .hbm, ⟨30, _⟩ => ⟨S4096x640, .f32⟩
  | .hbm, ⟨31, _⟩ => ⟨S4096x640, .f32⟩
  | .hbm, ⟨32, _⟩ => ⟨S4096x640, .f32⟩
  | .hbm, ⟨33, _⟩ => ⟨S_, .f32⟩
  | .hbm, ⟨34, _⟩ => ⟨S4096x640, .f32⟩
  | .hbm, ⟨35, _⟩ => ⟨S4096x640, .f32⟩
  | .hbm, ⟨36, _⟩ => ⟨S4096x640, .f32⟩
  | .hbm, ⟨37, _⟩ => ⟨S_, .f32⟩
  | .hbm, ⟨38, _⟩ => ⟨S4096x640, .f32⟩
  | .hbm, ⟨39, _⟩ => ⟨S4096x640, .f32⟩
  | _, _ => ⟨S4096x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelUO.lean ====
abbrev S512x1024 : Shape := ⟨2, ![512, 1024]⟩
abbrev S8x512x1024 : Shape := ⟨3, ![8, 512, 1024]⟩
abbrev S256x1024 : Shape := ⟨2, ![256, 1024]⟩
abbrev S8x256x1024 : Shape := ⟨3, ![8, 256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S8x512x1024, .bf16⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x256x1024, .bf16⟩
  | .local _ .vmem, ⟨7, _⟩ => ⟨S8x256x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelUOIdeal.lean ====
abbrev S512x1024 : Shape := ⟨2, ![512, 1024]⟩
abbrev S8x512x1024 : Shape := ⟨3, ![8, 512, 1024]⟩
abbrev S256x1024 : Shape := ⟨2, ![256, 1024]⟩
abbrev S8x256x1024 : Shape := ⟨3, ![8, 256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S8x512x1024, .bf16⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x256x1024, .bf16⟩
  | .local _ .vmem, ⟨7, _⟩ => ⟨S8x256x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceUOIdeal.lean ====
abbrev S512x1024 : Shape := ⟨2, ![512, 1024]⟩
abbrev S8x512x1024 : Shape := ⟨3, ![8, 512, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S8x512x1024, .bf16⟩
  | .hbm, ⟨4, _⟩ => ⟨S8x512x1024, .f32⟩
  | .hbm, ⟨5, _⟩ => ⟨S_, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelUG.lean ====
abbrev S4096x768 : Shape := ⟨2, ![4096, 768]⟩
abbrev S8x4096x768 : Shape := ⟨3, ![8, 4096, 768]⟩
abbrev S256x768 : Shape := ⟨2, ![256, 768]⟩
abbrev S8x256x768 : Shape := ⟨3, ![8, 256, 768]⟩
abbrev S1x256x768 : Shape := ⟨3, ![1, 256, 768]⟩

abbrev nBuf : Space → Nat
  | .hbm => 8
  | .vmem => 16
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S8x4096x768, .bf16⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S8x256x768, .bf16⟩
  | .local _ .vmem, ⟨7, _⟩ => ⟨S8x256x768, .bf16⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelUGIdeal.lean ====
abbrev S4096x768 : Shape := ⟨2, ![4096, 768]⟩
abbrev S8x4096x768 : Shape := ⟨3, ![8, 4096, 768]⟩
abbrev S256x768 : Shape := ⟨2, ![256, 768]⟩
abbrev S8x256x768 : Shape := ⟨3, ![8, 256, 768]⟩
abbrev S1x256x768 : Shape := ⟨3, ![1, 256, 768]⟩

abbrev nBuf : Space → Nat
  | .hbm => 8
  | .vmem => 16
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S8x4096x768, .bf16⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S8x256x768, .bf16⟩
  | .local _ .vmem, ⟨7, _⟩ => ⟨S8x256x768, .bf16⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceUGIdeal.lean ====
abbrev S4096x768 : Shape := ⟨2, ![4096, 768]⟩
abbrev S8x4096x768 : Shape := ⟨3, ![8, 4096, 768]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S8x4096x768, .bf16⟩
  | .hbm, ⟨4, _⟩ => ⟨S8x4096x768, .f32⟩
  | .hbm, ⟨5, _⟩ => ⟨S_, .f32⟩
  | .hbm, ⟨6, _⟩ => ⟨S4096x768, .f32⟩
  | .hbm, ⟨7, _⟩ => ⟨S_, .f32⟩
  | .hbm, ⟨8, _⟩ => ⟨S4096x768, .f32⟩
  | .hbm, ⟨9, _⟩ => ⟨S4096x768, .f32⟩
  | .hbm, ⟨10, _⟩ => ⟨S_, .f32⟩
  | .hbm, ⟨11, _⟩ => ⟨S4096x768, .f32⟩
  | .hbm, ⟨12, _⟩ => ⟨S4096x768, .f32⟩
  | .hbm, ⟨13, _⟩ => ⟨S4096x768, .f32⟩
  | .hbm, ⟨14, _⟩ => ⟨S_, .f32⟩
  | .hbm, ⟨15, _⟩ => ⟨S4096x768, .f32⟩
  | .hbm, ⟨16, _⟩ => ⟨S4096x768, .f32⟩
  | .hbm, ⟨17, _⟩ => ⟨S4096x768, .f32⟩
  | .hbm, ⟨18, _⟩ => ⟨S_, .f32⟩
  | .hbm, ⟨19, _⟩ => ⟨S4096x768, .f32⟩
  | .hbm, ⟨20, _⟩ => ⟨S4096x768, .f32⟩
  | .hbm, ⟨21, _⟩ => ⟨S4096x768, .f32⟩
  | .hbm, ⟨22, _⟩ => ⟨S_, .f32⟩
  | .hbm, ⟨23, _⟩ => ⟨S4096x768, .f32⟩
  | .hbm, ⟨24, _⟩ => ⟨S4096x768, .f32⟩
  | .hbm, ⟨25, _⟩ => ⟨S_, .f32⟩
  | .hbm, ⟨26, _⟩ => ⟨S4096x768, .f32⟩
  | .hbm, ⟨27, _⟩ => ⟨S4096x768, .f32⟩
  | .hbm, ⟨28, _⟩ => ⟨S4096x768, .f32⟩
  | .hbm, ⟨29, _⟩ => ⟨S_, .f32⟩
  | .hbm, ⟨30, _⟩ => ⟨S4096x768, .f32⟩
  | .hbm, ⟨31, _⟩ => ⟨S4096x768, .f32⟩
  | .hbm, ⟨32, _⟩ => ⟨S4096x768, .f32⟩
  | .hbm, ⟨33, _⟩ => ⟨S_, .f32⟩
  | .hbm, ⟨34, _⟩ => ⟨S4096x768, .f32⟩
  | .hbm, ⟨35, _⟩ => ⟨S4096x768, .f32⟩
  | .hbm, ⟨36, _⟩ => ⟨S4096x768, .f32⟩
  | .hbm, ⟨37, _⟩ => ⟨S_, .f32⟩
  | .hbm, ⟨38, _⟩ => ⟨S4096x768, .f32⟩
  | .hbm, ⟨39, _⟩ => ⟨S4096x768, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelUF.lean ====
abbrev S1408x1024 : Shape := ⟨2, ![1408, 1024]⟩
abbrev S8x1408x1024 : Shape := ⟨3, ![8, 1408, 1024]⟩
abbrev S352x1024 : Shape := ⟨2, ![352, 1024]⟩
abbrev S8x352x1024 : Shape := ⟨3, ![8, 352, 1024]⟩
abbrev S1x352x1024 : Shape := ⟨3, ![1, 352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S8x1408x1024, .bf16⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S8x352x1024, .bf16⟩
  | .local _ .vmem, ⟨7, _⟩ => ⟨S8x352x1024, .bf16⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x352x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelUFIdeal.lean ====
abbrev S1408x1024 : Shape := ⟨2, ![1408, 1024]⟩
abbrev S8x1408x1024 : Shape := ⟨3, ![8, 1408, 1024]⟩
abbrev S352x1024 : Shape := ⟨2, ![352, 1024]⟩
abbrev S8x352x1024 : Shape := ⟨3, ![8, 352, 1024]⟩
abbrev S1x352x1024 : Shape := ⟨3, ![1, 352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S8x1408x1024, .bf16⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S8x352x1024, .bf16⟩
  | .local _ .vmem, ⟨7, _⟩ => ⟨S8x352x1024, .bf16⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x352x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceUFIdeal.lean ====
abbrev S1408x1024 : Shape := ⟨2, ![1408, 1024]⟩
abbrev S8x1408x1024 : Shape := ⟨3, ![8, 1408, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S8x1408x1024, .bf16⟩
  | .hbm, ⟨4, _⟩ => ⟨S8x1408x1024, .f32⟩
  | .hbm, ⟨5, _⟩ => ⟨S_, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S_, .f32⟩
  | .hbm, ⟨11, _⟩ => ⟨S1408x1024, .f32⟩
  | .hbm, ⟨12, _⟩ => ⟨S1408x1024, .f32⟩
  | .hbm, ⟨13, _⟩ => ⟨S1408x1024, .f32⟩
  | .hbm, ⟨14, _⟩ => ⟨S_, .f32⟩
  | .hbm, ⟨15, _⟩ => ⟨S1408x1024, .f32⟩
  | .hbm, ⟨16, _⟩ => ⟨S1408x1024, .f32⟩
  | .hbm, ⟨17, _⟩ => ⟨S1408x1024, .f32⟩
  | .hbm, ⟨18, _⟩ => ⟨S_, .f32⟩
  | .hbm, ⟨19, _⟩ => ⟨S1408x1024, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S_, .f32⟩
  | .hbm, ⟨26, _⟩ => ⟨S1408x1024, .f32⟩
  | .hbm, ⟨27, _⟩ => ⟨S1408x1024, .f32⟩
  | .hbm, ⟨28, _⟩ => ⟨S1408x1024, .f32⟩
  | .hbm, ⟨29, _⟩ => ⟨S_, .f32⟩
  | .hbm, ⟨30, _⟩ => ⟨S1408x1024, .f32⟩
  | .hbm, ⟨31, _⟩ => ⟨S1408x1024, .f32⟩
  | .hbm, ⟨32, _⟩ => ⟨S1408x1024, .f32⟩
  | .hbm, ⟨33, _⟩ => ⟨S_, .f32⟩
  | .hbm, ⟨34, _⟩ => ⟨S1408x1024, .f32⟩
  | .hbm, ⟨35, _⟩ => ⟨S1408x1024, .f32⟩
  | .hbm, ⟨36, _⟩ => ⟨S1408x1024, .f32⟩
  | .hbm, ⟨37, _⟩ => ⟨S_, .f32⟩
  | .hbm, ⟨38, _⟩ => ⟨S1408x1024, .f32⟩
  | .hbm, ⟨39, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelUM.lean ====
abbrev S4096x768 : Shape := ⟨2, ![4096, 768]⟩
abbrev S1x4096x768 : Shape := ⟨3, ![1, 4096, 768]⟩
abbrev S256x768 : Shape := ⟨2, ![256, 768]⟩
abbrev S1x256x768 : Shape := ⟨3, ![1, 256, 768]⟩

abbrev nBuf : Space → Nat
  | .hbm => 8
  | .vmem => 16
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S1x4096x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S1x256x768, .f32⟩
  | .local _ .vmem, ⟨7, _⟩ => ⟨S1x256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelUMIdeal.lean ====
abbrev S4096x768 : Shape := ⟨2, ![4096, 768]⟩
abbrev S1x4096x768 : Shape := ⟨3, ![1, 4096, 768]⟩
abbrev S256x768 : Shape := ⟨2, ![256, 768]⟩
abbrev S1x256x768 : Shape := ⟨3, ![1, 256, 768]⟩

abbrev nBuf : Space → Nat
  | .hbm => 8
  | .vmem => 16
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S1x4096x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S1x256x768, .f32⟩
  | .local _ .vmem, ⟨7, _⟩ => ⟨S1x256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceUMIdeal.lean ====
abbrev S4096x768 : Shape := ⟨2, ![4096, 768]⟩
abbrev S1x4096x768 : Shape := ⟨3, ![1, 4096, 768]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S1x4096x768, .f32⟩
  | .hbm, ⟨4, _⟩ => ⟨S_, .f32⟩
  | .hbm, ⟨5, _⟩ => ⟨S4096x768, .f32⟩
  | .hbm, ⟨6, _⟩ => ⟨S_, .f32⟩
  | .hbm, ⟨7, _⟩ => ⟨S4096x768, .f32⟩
  | .hbm, ⟨8, _⟩ => ⟨S4096x768, .f32⟩
  | .hbm, ⟨9, _⟩ => ⟨S_, .f32⟩
  | .hbm, ⟨10, _⟩ => ⟨S4096x768, .f32⟩
  | .hbm, ⟨11, _⟩ => ⟨S4096x768, .f32⟩
  | .hbm, ⟨12, _⟩ => ⟨S4096x768, .f32⟩
  | .hbm, ⟨13, _⟩ => ⟨S_, .f32⟩
  | .hbm, ⟨14, _⟩ => ⟨S4096x768, .f32⟩
  | .hbm, ⟨15, _⟩ => ⟨S4096x768, .f32⟩
  | .hbm, ⟨16, _⟩ => ⟨S4096x768, .f32⟩
  | .hbm, ⟨17, _⟩ => ⟨S_, .f32⟩
  | .hbm, ⟨18, _⟩ => ⟨S4096x768, .f32⟩
  | .hbm, ⟨19, _⟩ => ⟨S4096x768, .f32⟩
  | .hbm, ⟨20, _⟩ => ⟨S4096x768, .f32⟩
  | .hbm, ⟨21, _⟩ => ⟨S_, .f32⟩
  | .hbm, ⟨22, _⟩ => ⟨S4096x768, .f32⟩
  | .hbm, ⟨23, _⟩ => ⟨S4096x768, .f32⟩
  | .hbm, ⟨24, _⟩ => ⟨S_, .f32⟩
  | .hbm, ⟨25, _⟩ => ⟨S4096x768, .f32⟩
  | .hbm, ⟨26, _⟩ => ⟨S4096x768, .f32⟩
  | .hbm, ⟨27, _⟩ => ⟨S4096x768, .f32⟩
  | .hbm, ⟨28, _⟩ => ⟨S_, .f32⟩
  | .hbm, ⟨29, _⟩ => ⟨S4096x768, .f32⟩
  | .hbm, ⟨30, _⟩ => ⟨S4096x768, .f32⟩
  | .hbm, ⟨31, _⟩ => ⟨S4096x768, .f32⟩
  | .hbm, ⟨32, _⟩ => ⟨S_, .f32⟩
  | .hbm, ⟨33, _⟩ => ⟨S4096x768, .f32⟩
  | .hbm, ⟨34, _⟩ => ⟨S4096x768, .f32⟩
  | .hbm, ⟨35, _⟩ => ⟨S4096x768, .f32⟩
  | .hbm, ⟨36, _⟩ => ⟨S_, .f32⟩
  | .hbm, ⟨37, _⟩ => ⟨S4096x768, .f32⟩
  | .hbm, ⟨38, _⟩ => ⟨S4096x768, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelUC.lean ====
abbrev S16x256 : Shape := ⟨2, ![16, 256]⟩
abbrev S8x16x256 : Shape := ⟨3, ![8, 16, 256]⟩
abbrev S1x16x256 : Shape := ⟨3, ![1, 16, 256]⟩

abbrev nBuf : Space → Nat
  | .hbm => 8
  | .vmem => 8
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S8x16x256, .f32⟩
  | .hbm, ⟨4, _⟩ => ⟨S16x256, .f32⟩
  | .hbm, ⟨5, _⟩ => ⟨S16x256, .f32⟩
  | .hbm, ⟨6, _⟩ => ⟨S16x256, .f32⟩
  | .hbm, ⟨7, _⟩ => ⟨S16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S8x16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | .local _ .vmem, ⟨7, _⟩ => ⟨S16x256, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== KernelUCIdeal.lean ====
abbrev S16x256 : Shape := ⟨2, ![16, 256]⟩
abbrev S8x16x256 : Shape := ⟨3, ![8, 16, 256]⟩
abbrev S1x16x256 : Shape := ⟨3, ![1, 16, 256]⟩

abbrev nBuf : Space → Nat
  | .hbm => 8
  | .vmem => 8
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S8x16x256, .f32⟩
  | .hbm, ⟨4, _⟩ => ⟨S16x256, .f32⟩
  | .hbm, ⟨5, _⟩ => ⟨S16x256, .f32⟩
  | .hbm, ⟨6, _⟩ => ⟨S16x256, .f32⟩
  | .hbm, ⟨7, _⟩ => ⟨S16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S8x16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | .local _ .vmem, ⟨7, _⟩ => ⟨S16x256, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceUCIdeal.lean ====
abbrev S16x256 : Shape := ⟨2, ![16, 256]⟩
abbrev S8x16x256 : Shape := ⟨3, ![8, 16, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S8x16x256, .f32⟩
  | .hbm, ⟨4, _⟩ => ⟨S_, .f32⟩
  | .hbm, ⟨5, _⟩ => ⟨S16x256, .f32⟩
  | .hbm, ⟨6, _⟩ => ⟨S_, .f32⟩
  | .hbm, ⟨7, _⟩ => ⟨S16x256, .f32⟩
  | .hbm, ⟨8, _⟩ => ⟨S16x256, .f32⟩
  | .hbm, ⟨9, _⟩ => ⟨S_, .f32⟩
  | .hbm, ⟨10, _⟩ => ⟨S16x256, .f32⟩
  | .hbm, ⟨11, _⟩ => ⟨S16x256, .f32⟩
  | .hbm, ⟨12, _⟩ => ⟨S16x256, .f32⟩
  | .hbm, ⟨13, _⟩ => ⟨S_, .f32⟩
  | .hbm, ⟨14, _⟩ => ⟨S16x256, .f32⟩
  | .hbm, ⟨15, _⟩ => ⟨S16x256, .f32⟩
  | .hbm, ⟨16, _⟩ => ⟨S16x256, .f32⟩
  | .hbm, ⟨17, _⟩ => ⟨S_, .f32⟩
  | .hbm, ⟨18, _⟩ => ⟨S16x256, .f32⟩
  | .hbm, ⟨19, _⟩ => ⟨S16x256, .f32⟩
  | .hbm, ⟨20, _⟩ => ⟨S16x256, .f32⟩
  | .hbm, ⟨21, _⟩ => ⟨S_, .f32⟩
  | .hbm, ⟨22, _⟩ => ⟨S16x256, .f32⟩
  | .hbm, ⟨23, _⟩ => ⟨S16x256, .f32⟩
  | .hbm, ⟨24, _⟩ => ⟨S_, .f32⟩
  | .hbm, ⟨25, _⟩ => ⟨S16x256, .f32⟩
  | .hbm, ⟨26, _⟩ => ⟨S16x256, .f32⟩
  | .hbm, ⟨27, _⟩ => ⟨S16x256, .f32⟩
  | .hbm, ⟨28, _⟩ => ⟨S_, .f32⟩
  | .hbm, ⟨29, _⟩ => ⟨S16x256, .f32⟩
  | .hbm, ⟨30, _⟩ => ⟨S16x256, .f32⟩
  | .hbm, ⟨31, _⟩ => ⟨S16x256, .f32⟩
  | .hbm, ⟨32, _⟩ => ⟨S_, .f32⟩
  | .hbm, ⟨33, _⟩ => ⟨S16x256, .f32⟩
  | .hbm, ⟨34, _⟩ => ⟨S16x256, .f32⟩
  | .hbm, ⟨35, _⟩ => ⟨S16x256, .f32⟩
  | .hbm, ⟨36, _⟩ => ⟨S_, .f32⟩
  | .hbm, ⟨37, _⟩ => ⟨S16x256, .f32⟩
  | .hbm, ⟨38, _⟩ => ⟨S16x256, .f32⟩
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelUS.lean ====
abbrev S2400x128 : Shape := ⟨2, ![2400, 128]⟩
abbrev S8x2400x128 : Shape := ⟨3, ![8, 2400, 128]⟩
abbrev S800x128 : Shape := ⟨2, ![800, 128]⟩
abbrev S8x800x128 : Shape := ⟨3, ![8, 800, 128]⟩
abbrev S1x800x128 : Shape := ⟨3, ![1, 800, 128]⟩

abbrev nBuf : Space → Nat
  | .hbm => 8
  | .vmem => 16
  | .smem => 0
  | _ => 0

abbrev bufTy : (tb : Table) → Fin (tcTables nBuf tb) → BufTy
  | .hbm, ⟨0, _⟩ => ⟨S2400x128, .f32⟩
  | .hbm, ⟨1, _⟩ => ⟨S2400x128, .f32⟩
  | .hbm, ⟨2, _⟩ => ⟨S2400x128, .f32⟩
  | .hbm, ⟨3, _⟩ => ⟨S8x2400x128, .f32⟩
  | .hbm, ⟨4, _⟩ => ⟨S2400x128, .f32⟩
  | .hbm, ⟨5, _⟩ => ⟨S2400x128, .f32⟩
  | .hbm, ⟨6, _⟩ => ⟨S2400x128, .f32⟩
  | .hbm, ⟨7, _⟩ => ⟨S2400x128, .f32⟩
  | .local _ .vmem, ⟨0, _⟩ => ⟨S800x128, .f32⟩
  | .local _ .vmem, ⟨1, _⟩ => ⟨S800x128, .f32⟩
  | .local _ .vmem, ⟨2, _⟩ => ⟨S800x128, .f32⟩
  | .local _ .vmem, ⟨3, _⟩ => ⟨S800x128, .f32⟩
  | .local _ .vmem, ⟨4, _⟩ => ⟨S800x128, .f32⟩
  | .local _ .vmem, ⟨5, _⟩ => ⟨S800x128, .f32⟩
  | .local _ .vmem, ⟨6, _⟩ => ⟨S8x800x128, .f32⟩
  | .local _ .vmem, ⟨7, _⟩ => ⟨S8x800x128, .f32⟩
  | .local _ .vmem, ⟨8, _⟩ => ⟨S800x128, .f32⟩
  | .local _ .vmem, ⟨9, _⟩ => ⟨S800x128, .f32⟩
  | .local _ .vmem, ⟨10, _⟩ => ⟨S800x128, .f32⟩
  | .local _ .vmem, ⟨11, _⟩ => ⟨S800x128, .f32⟩
  | .local _ .vmem, ⟨12, _⟩ => ⟨S800x128, .f32⟩
  | .local _ .vmem, ⟨13, _⟩ => ⟨S800x128, .f32⟩
  | .local _ .vmem, ⟨14, _⟩ => ⟨S800x128, .f32⟩
  | .local _ .vmem, ⟨15, _⟩ => ⟨S800x128, .f32⟩
  | _, _ => ⟨S2400x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S800x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S800x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S800x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x800x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S800x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S800x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S800x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S800x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceUSIdeal.lean ====
abbrev S2400x128 : Shape := ⟨2, ![2400, 128]⟩
abbrev S8x2400x128 : Shape := ⟨3, ![8, 2400, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2400x128, .f32⟩
  | .hbm, ⟨1, _⟩ => ⟨S2400x128, .f32⟩
  | .hbm, ⟨2, _⟩ => ⟨S2400x128, .f32⟩
  | .hbm, ⟨3, _⟩ => ⟨S8x2400x128, .f32⟩
  | .hbm, ⟨4, _⟩ => ⟨S_, .f32⟩
  | .hbm, ⟨5, _⟩ => ⟨S2400x128, .f32⟩
  | .hbm, ⟨6, _⟩ => ⟨S_, .f32⟩
  | .hbm, ⟨7, _⟩ => ⟨S2400x128, .f32⟩
  | .hbm, ⟨8, _⟩ => ⟨S2400x128, .f32⟩
  | .hbm, ⟨9, _⟩ => ⟨S_, .f32⟩
  | .hbm, ⟨10, _⟩ => ⟨S2400x128, .f32⟩
  | .hbm, ⟨11, _⟩ => ⟨S2400x128, .f32⟩
  | .hbm, ⟨12, _⟩ => ⟨S2400x128, .f32⟩
  | .hbm, ⟨13, _⟩ => ⟨S_, .f32⟩
  | .hbm, ⟨14, _⟩ => ⟨S2400x128, .f32⟩
  | .hbm, ⟨15, _⟩ => ⟨S2400x128, .f32⟩
  | .hbm, ⟨16, _⟩ => ⟨S2400x128, .f32⟩
  | .hbm, ⟨17, _⟩ => ⟨S_, .f32⟩
  | .hbm, ⟨18, _⟩ => ⟨S2400x128, .f32⟩
  | .hbm, ⟨19, _⟩ => ⟨S2400x128, .f32⟩
  | .hbm, ⟨20, _⟩ => ⟨S2400x128, .f32⟩
  | .hbm, ⟨21, _⟩ => ⟨S_, .f32⟩
  | .hbm, ⟨22, _⟩ => ⟨S2400x128, .f32⟩
  | .hbm, ⟨23, _⟩ => ⟨S2400x128, .f32⟩
  | .hbm, ⟨24, _⟩ => ⟨S_, .f32⟩
  | .hbm, ⟨25, _⟩ => ⟨S2400x128, .f32⟩
  | .hbm, ⟨26, _⟩ => ⟨S2400x128, .f32⟩
  | .hbm, ⟨27, _⟩ => ⟨S2400x128, .f32⟩
  | .hbm, ⟨28, _⟩ => ⟨S_, .f32⟩
  | .hbm, ⟨29, _⟩ => ⟨S2400x128, .f32⟩
  | .hbm, ⟨30, _⟩ => ⟨S2400x128, .f32⟩
  | .hbm, ⟨31, _⟩ => ⟨S2400x128, .f32⟩
  | .hbm, ⟨32, _⟩ => ⟨S_, .f32⟩
  | .hbm, ⟨33, _⟩ => ⟨S2400x128, .f32⟩
  | .hbm, ⟨34, _⟩ => ⟨S2400x128, .f32⟩
  | .hbm, ⟨35, _⟩ => ⟨S2400x128, .f32⟩
  | .hbm, ⟨36, _⟩ => ⟨S_, .f32⟩
  | .hbm, ⟨37, _⟩ => ⟨S2400x128, .f32⟩
  | .hbm, ⟨38, _⟩ => ⟨S2400x128, .f32⟩
  | _, _ => ⟨S2400x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelH.lean ====
abbrev S4096x1024 : Shape := ⟨2, ![4096, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceHIdeal.lean ====
abbrev S4096x1024 : Shape := ⟨2, ![4096, 1024]⟩
abbrev S_ : Shape := ⟨0, ![]⟩
abbrev S4096 : Shape := ⟨1, ![4096]⟩
abbrev S8x128 : Shape := ⟨2, ![8, 128]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== KernelC.lean ====
abbrev S8x1024 : Shape := ⟨2, ![8, 1024]⟩
abbrev S4x1024x768 : Shape := ⟨3, ![4, 1024, 768]⟩
abbrev S4x1x768 : Shape := ⟨3, ![4, 1, 768]⟩
abbrev S4x8x768 : Shape := ⟨3, ![4, 8, 768]⟩
abbrev S1x1024x768 : Shape := ⟨3, ![1, 1024, 768]⟩
abbrev S1x1x768 : Shape := ⟨3, ![1, 1, 768]⟩
abbrev S1x8x768 : Shape := ⟨3, ![1, 8, 768]⟩
abbrev S1024x768 : Shape := ⟨2, ![1024, 768]⟩
abbrev S8x768 : Shape := ⟨2, ![8, 768]⟩
abbrev S1x768 : Shape := ⟨2, ![1, 768]⟩

abbrev nBuf : Space → Nat
  | .hbm => 4
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x768, .f32⟩
  | .hbm, ⟨2, _⟩ => ⟨S4x1x768, .f32⟩
  | .hbm, ⟨3, _⟩ => ⟨S4x8x768, .f32⟩
  | .local _ .vmem, ⟨0, _⟩ => ⟨S8x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x1x768, .f32⟩
  | .local _ .vmem, ⟨4, _⟩ => ⟨S1x1x768, .f32⟩
  | .local _ .vmem, ⟨5, _⟩ => ⟨S1x8x768, .f32⟩
  | .local _ .vmem, ⟨6, _⟩ => ⟨S1x8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceCIdeal.lean ====
abbrev S8x1024 : Shape := ⟨2, ![8, 1024]⟩
abbrev S4x1024x768 : Shape := ⟨3, ![4, 1024, 768]⟩
abbrev S4x1x768 : Shape := ⟨3, ![4, 1, 768]⟩
abbrev S_ : Shape := ⟨0, ![]⟩
abbrev S4x768x8 : Shape := ⟨3, ![4, 768, 8]⟩
abbrev S4x8x768 : Shape := ⟨3, ![4, 8, 768]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x768, .f32⟩
  | .hbm, ⟨2, _⟩ => ⟨S4x1x768, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S4x768x8, .f32⟩
  | .hbm, ⟨13, _⟩ => ⟨S4x8x768, .f32⟩
  | .hbm, ⟨14, _⟩ => ⟨S4x8x768, .f32⟩
  | .hbm, ⟨15, _⟩ => ⟨S4x8x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== KernelW.lean ====
abbrev S8x1024 : Shape := ⟨2, ![8, 1024]⟩
abbrev S4x8x768 : Shape := ⟨3, ![4, 8, 768]⟩
abbrev S1x4x1024x768 : Shape := ⟨4, ![1, 4, 1024, 768]⟩
abbrev S1x8x768 : Shape := ⟨3, ![1, 8, 768]⟩
abbrev S1x1x1024x768 : Shape := ⟨4, ![1, 1, 1024, 768]⟩
abbrev S8x768 : Shape := ⟨2, ![8, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S4x8x768, .f32⟩
  | .hbm, ⟨2, _⟩ => ⟨S1x4x1024x768, .f32⟩
  | .local _ .vmem, ⟨0, _⟩ => ⟨S8x1024, .f32⟩
  | .local _ .vmem, ⟨1, _⟩ => ⟨S1x8x768, .f32⟩
  | .local _ .vmem, ⟨2, _⟩ => ⟨S1x8x768, .f32⟩
  | .local _ .vmem, ⟨3, _⟩ => ⟨S1x1x1024x768, .f32⟩
  | .local _ .vmem, ⟨4, _⟩ => ⟨S1x1x1024x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceWIdeal.lean ====
abbrev S8x1024 : Shape := ⟨2, ![8, 1024]⟩
abbrev S4x8x768 : Shape := ⟨3, ![4, 8, 768]⟩
abbrev S_ : Shape := ⟨0, ![]⟩
abbrev S4x768x1024 : Shape := ⟨3, ![4, 768, 1024]⟩
abbrev S4x1024x768 : Shape := ⟨3, ![4, 1024, 768]⟩
abbrev S1x4x1024x768 : Shape := ⟨4, ![1, 4, 1024, 768]⟩

abbrev nBuf : Space → Nat
  | .hbm => 14
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x8x768, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S4x768x1024, .f32⟩
  | .hbm, ⟨12, _⟩ => ⟨S4x1024x768, .f32⟩
  | .hbm, ⟨13, _⟩ => ⟨S1x4x1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩

abbrev nD : Nat := 1
abbrev τ : Topo := Topo.v7x

variable {F : FTy → Type} [FloatOps F]
-- ==== KernelN.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceNIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== KernelXN.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceXNIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== KernelXI.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceXIIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelXS.lean ====
abbrev S4096x5632 : Shape := ⟨2, ![4096, 5632]⟩
abbrev S4096x2816 : Shape := ⟨2, ![4096, 2816]⟩
abbrev S256x5632 : Shape := ⟨2, ![256, 5632]⟩
abbrev S256x2816 : Shape := ⟨2, ![256, 2816]⟩

abbrev nBuf : Space → Nat
  | .hbm => 2
  | .vmem => 4
  | .smem => 0
  | _ => 0

abbrev bufTy : (tb : Table) → Fin (tcTables nBuf tb) → BufTy
  | .hbm, ⟨0, _⟩ => ⟨S4096x5632, .bf16⟩
  | .hbm, ⟨1, _⟩ => ⟨S4096x2816, .bf16⟩
  | .local _ .vmem, ⟨0, _⟩ => ⟨S256x5632, .bf16⟩
  | .local _ .vmem, ⟨1, _⟩ => ⟨S256x5632, .bf16⟩
  | .local _ .vmem, ⟨2, _⟩ => ⟨S256x2816, .bf16⟩
  | .local _ .vmem, ⟨3, _⟩ => ⟨S256x2816, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceXSIdeal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== KernelXO.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceXOIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelXR.lean ====
abbrev S4096x1024 : Shape := ⟨2, ![4096, 1024]⟩
abbrev S1x1024 : Shape := ⟨2, ![1, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelYR.lean ====
abbrev S4096x1024 : Shape := ⟨2, ![4096, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceYRIdeal.lean ====
abbrev S4096x1024 : Shape := ⟨2, ![4096, 1024]⟩
abbrev S1x1024 : Shape := ⟨2, ![1, 1024]⟩
abbrev S_ : Shape := ⟨0, ![]⟩
abbrev S1024 : Shape := ⟨1, ![1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== KernelYO.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceYOIdeal.lean ====
abbrev S4096x1024 : Shape := ⟨2, ![4096, 1024]⟩
abbrev S2816x1024 : Shape := ⟨2, ![2816, 1024]⟩
abbrev S4096x2816 : Shape := ⟨2, ![4096, 2816]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x1024, .f32⟩
  | .hbm, ⟨3, _⟩ => ⟨S2816x1024, .f32⟩
  | .hbm, ⟨4, _⟩ => ⟨S4096x2816, .f32⟩
  | .hbm, ⟨5, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelYOW.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceYOWIdeal.lean ====
abbrev S4096x2816 : Shape := ⟨2, ![4096, 2816]⟩
abbrev S4096x1024 : Shape := ⟨2, ![4096, 1024]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S2816x1024, .f32⟩
  | .hbm, ⟨5, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelYS.lean ====
abbrev S4096x5632 : Shape := ⟨2, ![4096, 5632]⟩
abbrev S4096x2816 : Shape := ⟨2, ![4096, 2816]⟩
abbrev S256x5632 : Shape := ⟨2, ![256, 5632]⟩
abbrev S256x2816 : Shape := ⟨2, ![256, 2816]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2816, .bf16⟩
  | .hbm, ⟨2, _⟩ => ⟨S4096x5632, .bf16⟩
  | .local _ .vmem, ⟨0, _⟩ => ⟨S256x5632, .bf16⟩
  | .local _ .vmem, ⟨1, _⟩ => ⟨S256x5632, .bf16⟩
  | .local _ .vmem, ⟨2, _⟩ => ⟨S256x2816, .bf16⟩
  | .local _ .vmem, ⟨3, _⟩ => ⟨S256x2816, .bf16⟩
  | .local _ .vmem, ⟨4, _⟩ => ⟨S256x5632, .bf16⟩
  | .local _ .vmem, ⟨5, _⟩ => ⟨S256x5632, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceYSIdeal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2816, .bf16⟩
  | .hbm, ⟨2, _⟩ => ⟨S4096x5632, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x5632, .f32⟩
  | .hbm, ⟨27, _⟩ => ⟨S4096x5632, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v4_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v4_1 : Ref sig .tc := ⟨.hbm, 17, rfl⟩
abbrev main_v4_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩

abbrev nD : Nat := 1
abbrev τ : Topo := Topo.v7x

variable {F : FTy → Type} [FloatOps F]
-- ==== KernelYI.lean ====
abbrev S4096x5632 : Shape := ⟨2, ![4096, 5632]⟩
abbrev S1024x5632 : Shape := ⟨2, ![1024, 5632]⟩
abbrev S4096x1024 : Shape := ⟨2, ![4096, 1024]⟩
abbrev S512x5632 : Shape := ⟨2, ![512, 5632]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .local _ .vmem, ⟨0, _⟩ => ⟨S512x5632, .bf16⟩
  | .local _ .vmem, ⟨1, _⟩ => ⟨S512x5632, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceYIIdeal.lean ====
abbrev S4096x5632 : Shape := ⟨2, ![4096, 5632]⟩
abbrev S1024x5632 : Shape := ⟨2, ![1024, 5632]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x5632, .f32⟩
  | .hbm, ⟨3, _⟩ => ⟨S1024x5632, .f32⟩
  | .hbm, ⟨4, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelYIW.lean ====
abbrev S4096x1024 : Shape := ⟨2, ![4096, 1024]⟩
abbrev S4096x5632 : Shape := ⟨2, ![4096, 5632]⟩
abbrev S1024x5632 : Shape := ⟨2, ![1024, 5632]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S1024x5632, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceYIWIdeal.lean ====
abbrev S4096x1024 : Shape := ⟨2, ![4096, 1024]⟩
abbrev S4096x5632 : Shape := ⟨2, ![4096, 5632]⟩
abbrev S1024x5632 : Shape := ⟨2, ![1024, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x1024, .f32⟩
  | .hbm, ⟨3, _⟩ => ⟨S4096x5632, .f32⟩
  | .hbm, ⟨4, _⟩ => ⟨S1024x5632, .f32⟩
  | .hbm, ⟨5, _⟩ => ⟨S1024x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelZI.lean ====
abbrev S4096x1024 : Shape := ⟨2, ![4096, 1024]⟩
abbrev S1024x4992 : Shape := ⟨2, ![1024, 4992]⟩
abbrev S4096x4992 : Shape := ⟨2, ![4096, 4992]⟩
abbrev S1024x1024 : Shape := ⟨2, ![1024, 1024]⟩
abbrev S1024x1664 : Shape := ⟨2, ![1024, 1664]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x4992, .bf16⟩
  | .hbm, ⟨2, _⟩ => ⟨S4096x4992, .f32⟩
  | .local _ .vmem, ⟨0, _⟩ => ⟨S1024x1024, .bf16⟩
  | .local _ .vmem, ⟨1, _⟩ => ⟨S1024x1024, .bf16⟩
  | .local _ .vmem, ⟨2, _⟩ => ⟨S1024x1664, .bf16⟩
  | .local _ .vmem, ⟨3, _⟩ => ⟨S1024x1664, .bf16⟩
  | .local _ .vmem, ⟨4, _⟩ => ⟨S1024x1664, .f32⟩
  | .local _ .vmem, ⟨5, _⟩ => ⟨S1024x1664, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceZIIdeal.lean ====
abbrev S4096x1024 : Shape := ⟨2, ![4096, 1024]⟩
abbrev S1024x4992 : Shape := ⟨2, ![1024, 4992]⟩
abbrev S4096x4992 : Shape := ⟨2, ![4096, 4992]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4992, .bf16⟩
  | .hbm, ⟨2, _⟩ => ⟨S4096x1024, .f32⟩
  | .hbm, ⟨3, _⟩ => ⟨S1024x4992, .f32⟩
  | .hbm, ⟨4, _⟩ => ⟨S4096x4992, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelZO.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceZOIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelZOX.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceZOXIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelZOW.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceZOWIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelZIX.lean ====
abbrev S4096x4992 : Shape := ⟨2, ![4096, 4992]⟩
abbrev S1024x4992 : Shape := ⟨2, ![1024, 4992]⟩
abbrev S4096x1024 : Shape := ⟨2, ![4096, 1024]⟩
abbrev S512x4992 : Shape := ⟨2, ![512, 4992]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4992, .bf16⟩
  | .hbm, ⟨1, _⟩ => ⟨S1024x4992, .bf16⟩
  | .hbm, ⟨2, _⟩ => ⟨S4096x1024, .f32⟩
  | .local _ .vmem, ⟨0, _⟩ => ⟨S512x4992, .bf16⟩
  | .local _ .vmem, ⟨1, _⟩ => ⟨S512x4992, .bf16⟩
  | .local _ .vmem, ⟨2, _⟩ => ⟨S1024x4992, .bf16⟩
  | .local _ .vmem, ⟨3, _⟩ => ⟨S512x1024, .f32⟩
  | .local _ .vmem, ⟨4, _⟩ => ⟨S512x1024, .f32⟩
  | _, _ => ⟨S4096x4992, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4992 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x4992 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceZIXIdeal.lean ====
abbrev S4096x4992 : Shape := ⟨2, ![4096, 4992]⟩
abbrev S1024x4992 : Shape := ⟨2, ![1024, 4992]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x4992, .bf16⟩
  | .hbm, ⟨1, _⟩ => ⟨S1024x4992, .bf16⟩
  | .hbm, ⟨2, _⟩ => ⟨S4096x4992, .f32⟩
  | .hbm, ⟨3, _⟩ => ⟨S1024x4992, .f32⟩
  | .hbm, ⟨4, _⟩ => ⟨S4096x1024, .f32⟩
  | _, _ => ⟨S4096x4992, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelZIW.lean ====
abbrev S4096x1024 : Shape := ⟨2, ![4096, 1024]⟩
abbrev S4096x4992 : Shape := ⟨2, ![4096, 4992]⟩
abbrev S1024x4992 : Shape := ⟨2, ![1024, 4992]⟩
abbrev S4096x384 : Shape := ⟨2, ![4096, 384]⟩
abbrev S1024x384 : Shape := ⟨2, ![1024, 384]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x4992, .bf16⟩
  | .hbm, ⟨2, _⟩ => ⟨S1024x4992, .bf16⟩
  | .local _ .vmem, ⟨0, _⟩ => ⟨S4096x1024, .bf16⟩
  | .local _ .vmem, ⟨1, _⟩ => ⟨S4096x384, .bf16⟩
  | .local _ .vmem, ⟨2, _⟩ => ⟨S4096x384, .bf16⟩
  | .local _ .vmem, ⟨3, _⟩ => ⟨S1024x384, .bf16⟩
  | .local _ .vmem, ⟨4, _⟩ => ⟨S1024x384, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceZIWIdeal.lean ====
abbrev S4096x1024 : Shape := ⟨2, ![4096, 1024]⟩
abbrev S4096x4992 : Shape := ⟨2, ![4096, 4992]⟩
abbrev S1024x4992 : Shape := ⟨2, ![1024, 4992]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4992, .bf16⟩
  | .hbm, ⟨2, _⟩ => ⟨S4096x1024, .f32⟩
  | .hbm, ⟨3, _⟩ => ⟨S4096x4992, .f32⟩
  | .hbm, ⟨4, _⟩ => ⟨S1024x4992, .f32⟩
  | .hbm, ⟨5, _⟩ => ⟨S1024x4992, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ReferenceXR.lean ====
abbrev S4096x1024 : Shape := ⟨2, ![4096, 1024]⟩
abbrev S1x1024 : Shape := ⟨2, ![1, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Exchange.lean ====
/-
  The exchange protocol of eight devices, stated once over any signature, any values and any buffers.

  Device `c` and peer number `d` (0 to 6) of it: the peer is the device whose number differs from `c`'s by the bits of
  `d + 1`, so the relation is its own inverse (`peer_peer`). A plan (`Plan`) names the barrier semaphores, and for every
  exchanged array `a` and peer number `j` a send and a receive semaphore, and a local semaphore per array; it says what
  each semaphore's units hand over. Every semaphore cell has one round:
  * the barrier cell of `c` has seven duties of one unit, duty `d` paid by `peer c d`, which hands over the places of its
    own landing buffers that `c` will write;
  * the receive cell `(a, j)` of `c` has one duty, paid by the landing of the transfer of `peer c j`, which hands over the
    place it wrote, with what it holds;
  * the send cell and the local cell have one duty each, paid by the device's own transfer and copy.
  The module gives the schedule, what a device owes and in which order it pays it (`due`), the levels that make every
  wait admissible, the launch element and its distribution over the devices, and one lemma for every kind of operation.
-/
module

public import Idealize.ShloMosaic.Lib.Pipeline.Launch
public import Idealize.ShloMosaic.Lib.Pipeline.Regions
public import Idealize.ShloMosaic.Lib.Pipeline.Kit
public import Idealize.ShloMosaic.Lib.Tactic

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Lists of resources -/

section Lists

variable {M : Type} [URA M] {I : Type}

/-- The resources of a list's members, one after the other. -/
def all : List I → (I → sProp M) → sProp M
  | [], _ => iprop(emp)
  | i :: l, Φ => iprop(Φ i ∗ all l Φ)

theorem bigSep_toFinset_all [DecidableEq I] (l : List I) (hl : l.Nodup) (Φ : I → sProp M) : bigSep l.toFinset Φ = all l Φ := by
  induction l with
  | nil => rfl
  | cons i l ih =>
    obtain ⟨hi, hl⟩ := List.nodup_cons.mp hl
    rw [List.toFinset_cons, bigSep_insert (fun h => hi (List.mem_toFinset.mp h)), ih hl]; rfl

theorem bigSep_univ_all [Fintype I] [DecidableEq I] (l : List I) (h : Finset.univ = l.toFinset) (hl : l.Nodup) (Φ : I → sProp M) :
    bigSep Finset.univ Φ = all l Φ := by rw [h, bigSep_toFinset_all l hl]

theorem all_sep (l : List I) (Φ Ψ : I → sProp M) : all l (fun i => iprop(Φ i ∗ Ψ i)) ⊣⊢ iprop(all l Φ ∗ all l Ψ) := by
  induction l with
  | nil =>
    constructor
    · iintro H; isplitl <;> iempintro
    · iintro H; iempintro
  | cons i l ih =>
    constructor
    · show iprop((Φ i ∗ Ψ i) ∗ all l (fun i => iprop(Φ i ∗ Ψ i))) ⊢ iprop((Φ i ∗ all l Φ) ∗ (Ψ i ∗ all l Ψ))
      iintro ⟨⟨H1, H2⟩, H⟩
      ihave H' := ih.1 $$ H
      icases H' with ⟨H3, H4⟩
      isplitl [H1 H3]
      · isplitl [H1] <;> iassumption
      · isplitl [H2] <;> iassumption
    · show iprop((Φ i ∗ all l Φ) ∗ (Ψ i ∗ all l Ψ)) ⊢ iprop((Φ i ∗ Ψ i) ∗ all l (fun i => iprop(Φ i ∗ Ψ i)))
      iintro ⟨⟨H1, H3⟩, ⟨H2, H4⟩⟩
      isplitl [H1 H2]
      · isplitl [H1] <;> iassumption
      · iapply ih.2
        isplitl [H3] <;> iassumption

theorem all_mono (l : List I) {Φ Ψ : I → sProp M} (h : ∀ i, Φ i ⊢ Ψ i) : all l Φ ⊢ all l Ψ := by
  induction l with
  | nil => exact BI.Entails.refl _
  | cons i l ih => exact BI.sep_mono (h i) ih

theorem all_append (l l' : List I) (Φ : I → sProp M) : all (l ++ l') Φ ⊣⊢ iprop(all l Φ ∗ all l' Φ) := by
  induction l with
  | nil =>
    constructor
    · iintro H; isplitr; · iempintro
      iexact H
    · iintro ⟨-, H⟩; iexact H
  | cons i l ih =>
    constructor
    · show iprop(Φ i ∗ all (l ++ l') Φ) ⊢ iprop((Φ i ∗ all l Φ) ∗ all l' Φ)
      iintro ⟨H1, H⟩
      ihave H' := ih.1 $$ H
      icases H' with ⟨H2, H3⟩
      isplitr [H3]
      · isplitl [H1] <;> iassumption
      · iexact H3
    · show iprop((Φ i ∗ all l Φ) ∗ all l' Φ) ⊢ iprop(Φ i ∗ all (l ++ l') Φ)
      iintro ⟨⟨H1, H2⟩, H3⟩
      isplitl [H1]; · iexact H1
      iapply ih.2
      isplitl [H2] <;> iassumption

theorem all_map {J : Type} (l : List J) (f : J → I) (Φ : I → sProp M) : all (l.map f) Φ = all l (fun j => Φ (f j)) := by
  induction l with
  | nil => rfl
  | cons j l ih => show iprop(Φ (f j) ∗ all (l.map f) Φ) = iprop(Φ (f j) ∗ all l (fun j => Φ (f j))); rw [ih]

theorem all_comm {J : Type} (l : List I) (l' : List J) (Φ : I → J → sProp M) :
    all l (fun i => all l' (Φ i)) ⊢ all l' (fun j => all l (fun i => Φ i j)) := by
  induction l with
  | nil =>
    induction l' with
    | nil => exact BI.Entails.refl _
    | cons j l' ih =>
      show iprop(emp) ⊢ iprop(emp ∗ all l' (fun j => all ([] : List I) (fun i => Φ i j)))
      have ih' : iprop(emp) ⊢ all l' (fun j => all ([] : List I) (fun i => Φ i j)) := ih
      iintro H
      isplitr; · iempintro
      iapply ih'
      iexact H
  | cons i l ih =>
    show iprop(all l' (Φ i) ∗ all l (fun i => all l' (Φ i))) ⊢ all l' (fun j => iprop(Φ i j ∗ all l (fun i => Φ i j)))
    exact (sep_mono_right ih).trans (all_sep l' (Φ i) (fun j => all l (fun i => Φ i j))).2

theorem all_flatMap {J : Type} (l : List J) (f : J → List I) (Φ : I → sProp M) :
    all (l.flatMap f) Φ ⊣⊢ all l (fun j => all (f j) Φ) := by
  induction l with
  | nil => exact ⟨BI.Entails.refl _, BI.Entails.refl _⟩
  | cons j l ih =>
    rw [List.flatMap_cons]
    constructor
    · exact (all_append _ _ Φ).1.trans (sep_mono_right ih.1)
    · exact (sep_mono_right ih.2).trans (all_append _ _ Φ).2

/-- A list of resources under one persistent fact. -/
theorem all_with {R : sProp M} [BI.Persistent R] (l : List I) {Φ Ψ : I → sProp M} (h : ∀ i, iprop(R ∗ Φ i) ⊢ Ψ i) :
    iprop(R ∗ all l Φ) ⊢ all l Ψ := by
  induction l with
  | nil => iintro ⟨-, H⟩; iexact H
  | cons i l ih =>
    show iprop(R ∗ (Φ i ∗ all l Φ)) ⊢ iprop(Ψ i ∗ all l Ψ)
    iintro ⟨#HR, H1, H2⟩
    isplitl [H1]
    · iapply (h i); isplitr; · iexact HR
      iexact H1
    · iapply ih; isplitr; · iexact HR
      iexact H2

theorem all_fupd {Mask : Type} {Fr : Mask → sProp M} {E : Mask} (l : List I) (Φ : I → sProp M) :
    all l (fun i => iprop(|={E}[Fr]=> Φ i)) ⊢ |={E}[Fr]=> all l Φ := by
  induction l with
  | nil => exact fupd_intro
  | cons i l ih =>
    show iprop((|={E}[Fr]=> Φ i) ∗ all l (fun i => iprop(|={E}[Fr]=> Φ i))) ⊢ |={E}[Fr]=> iprop(Φ i ∗ all l Φ)
    iintro ⟨H1, H2⟩
    imod H1
    imod ih $$ H2 with H2
    imodintro
    isplitl [H1] <;> iassumption

end Lists

/-! ## The peers -/

set_option backward.proofsInPublic true in
/-- Peer number `d` of device `c`: the device whose number differs from `c`'s by the bits of `d + 1`. -/
def peer (c : Dev 8) (d : Fin 7) : Dev 8 :=
  ⟨c.val ^^^ (d.val + 1), Nat.xor_lt_two_pow (n := 3) c.isLt (by have := d.isLt; omega)⟩

theorem peer_peer (c : Dev 8) (d : Fin 7) : peer (peer c d) d = c := by revert c d; decide

/-- The peer relation of one number, as a permutation of the devices. -/
def peerEquiv (d : Fin 7) : Dev 8 ≃ Dev 8 := ⟨fun c => peer c d, fun c => peer c d, fun c => peer_peer c d, fun c => peer_peer c d⟩

/-- The seven peer numbers, in order. -/
abbrev seven : List (Fin 7) := [0, 1, 2, 3, 4, 5, 6]

/-! ## The plan -/

/-- The semaphores that the launch owns: a barrier per exchange, a send and a receive semaphore per array and peer. -/
abbrev UC (B A : Type) : Type := B ⊕ ((A × Fin 7) ⊕ (A × Fin 7))
/-- With the local semaphores, which belong to a kernel. -/
abbrev CX (B A : Type) : Type := UC B A ⊕ A

abbrev TPU7 : Topo := Topo.v7x

variable {sig : RefSig} {Val : EltTy → Type} {U : Type} [URA U] {B A : Type}

/-- The rounds algebra with seven duties a round. -/
abbrev UX (sig : RefSig) : Type := URounds (GSem 8 TPU7 sig) (Fin 7)

local notation "𝕄" => MT 8 TPU7 sig Unit Val ℕ U ℕ

variable (sig Val U B A) in
/-- A plan of exchanges between the eight devices. -/
structure Plan where
  /-- The semaphore of each kind of cell. -/
  osem : CX B A → SemLoc sig
  bar : B → Sem sig
  osem_bar : ∀ b, osem (.inl (.inl b)) = .reg (bar b)
  inj : Function.Injective osem
  /-- What a transfer of array `a` credits. -/
  amt : A → ℕ
  amt_pos : ∀ a, 0 < amt a
  /-- The arrays an exchange moves, in order. -/
  arrs : B → List A
  /-- The levels of the barriers and of the receive cells. -/
  lvB : B → ℕ
  lvA : A → ℕ
  /-- The place of device `c`'s landing buffer of `a` that `peer c d` writes, holding anything; -/
  free : Dev 8 → A → Fin 7 → sProp 𝕄
  /-- the same place once it is written; -/
  got : Dev 8 → A → Fin 7 → sProp 𝕄
  /-- the device's own place once it is written. -/
  own : Dev 8 → A → sProp 𝕄
  stFree : ∀ c a d, BI.Storable (upEmb : UEmb _ 𝕄) (free c a d)
  stGot : ∀ c a d, BI.Storable (upEmb : UEmb _ 𝕄) (got c a d)
  stOwn : ∀ c a, BI.Storable (upEmb : UEmb _ 𝕄) (own c a)

variable (P : Plan sig Val U B A)

namespace Plan

/-- The cell of device `c` a name stands for. -/
abbrev cell (c : Dev 8) (x : CX B A) : GSem 8 TPU7 sig := ((c : Thread 8 TPU7), P.osem x)

abbrev barC (c : Dev 8) (b : B) : GSem 8 TPU7 sig := P.cell c (.inl (.inl b))
abbrev sndC (c : Dev 8) (l : A × Fin 7) : GSem 8 TPU7 sig := P.cell c (.inl (.inr (.inl l)))
abbrev rcvC (c : Dev 8) (l : A × Fin 7) : GSem 8 TPU7 sig := P.cell c (.inl (.inr (.inr l)))
abbrev locC (c : Dev 8) (a : A) : GSem 8 TPU7 sig := P.cell c (.inr a)

open Classical in
/-- The name of a semaphore, if the plan names it. -/
def decode (sm : SemLoc sig) : Option (CX B A) := if h : ∃ x, P.osem x = sm then some h.choose else none

theorem decode_osem (x : CX B A) : P.decode (P.osem x) = some x := by
  have h : ∃ y, P.osem y = P.osem x := ⟨x, rfl⟩
  unfold decode
  rw [dif_pos h]
  exact congrArg some (P.inj h.choose_spec)

theorem decode_none (sm : SemLoc sig) (h : ∀ x, P.osem x ≠ sm) : P.decode sm = none := by
  unfold decode
  exact dif_neg fun ⟨x, hx⟩ => h x hx

/-- The duties of a cell's one round, -/
def dutiesOf : Option (CX B A) → Finset (Fin 7)
  | some (.inl (.inl _)) => Finset.univ
  | some _ => {0}
  | none => ∅

/-- the units of each of them, -/
def amountOf : Option (CX B A) → ℕ
  | some (.inl (.inr (.inl (a, _)))) => P.amt a
  | some (.inl (.inr (.inr (a, _)))) => P.amt a
  | some (.inr a) => P.amt a
  | _ => 1

/-- what they hand over on device `c`. -/
def payOf (c : Dev 8) (d : Fin 7) : Option (CX B A) → sProp 𝕄
  | some (.inl (.inl b)) => all (P.arrs b) fun a => P.free (peer c d) a d
  | some (.inl (.inr (.inr (a, j)))) => P.got c a j
  | some (.inr a) => P.own c a
  | _ => iprop(emp)

/-- The schedule: round 0 of the cells above. -/
def Rd : Rounds.Schedule (GSem 8 TPU7 sig) (Fin 7) 𝕄 where
  duties g r := if r = 0 ∧ g.1.2 = .tc then dutiesOf (P.decode g.2) else ∅
  unitless _ := False
  amount g _ _ := P.amountOf (P.decode g.2)
  payload g _ d := P.payOf g.1.1 d (P.decode g.2)
  amount_pos g _ _ _ := by
    unfold amountOf
    split <;> first | exact P.amt_pos _ | exact Nat.one_pos

theorem storable_all {I : Type} (l : List I) (Φ : I → sProp 𝕄) (h : ∀ i, BI.Storable (upEmb : UEmb _ 𝕄) (Φ i)) :
    BI.Storable (upEmb : UEmb _ 𝕄) (all l Φ) := by
  induction l with
  | nil => show BI.Storable upEmb iprop(emp); infer_instance
  | cons i l ih =>
    have := h i
    have := ih
    show BI.Storable upEmb iprop(Φ i ∗ all l Φ)
    infer_instance

instance Rd_storable (g : GSem 8 TPU7 sig) (r : ℕ) (d : Fin 7) : BI.Storable (upEmb : UEmb _ 𝕄) (P.Rd.payload g r d) := by
  show BI.Storable upEmb (P.payOf g.1.1 d (P.decode g.2))
  unfold payOf
  split
  · exact storable_all _ _ fun a => P.stFree _ _ _
  · exact P.stGot _ _ _
  · exact P.stOwn _ _
  · infer_instance

section Sched

variable (c : Dev 8)

theorem duties_cell (x : CX B A) : P.Rd.duties (P.cell c x) 0 = dutiesOf (some x) := by
  show (if (0 = 0 ∧ (P.cell c x).1.2 = .tc) then dutiesOf (P.decode (P.osem x)) else ∅) = _
  rw [if_pos ⟨rfl, rfl⟩, decode_osem]

theorem duties_later (g : GSem 8 TPU7 sig) : ∀ r, 1 ≤ r → P.Rd.duties g r = ∅ :=
  fun r hr => if_neg fun h => by omega

theorem amount_cell (x : CX B A) (d : Fin 7) : P.Rd.amount (P.cell c x) 0 d = P.amountOf (some x) := by
  show P.amountOf (P.decode (P.osem x)) = _; rw [decode_osem]

theorem payload_cell (x : CX B A) (d : Fin 7) : P.Rd.payload (P.cell c x) 0 d = P.payOf c d (some x) := by
  show P.payOf c d (P.decode (P.osem x)) = _; rw [decode_osem]

theorem expect_bar (b : B) : P.Rd.expect (P.barC c b) 0 = 7 := by
  unfold Schedule.expect Schedule.amountOf
  rw [duties_cell, Finset.sum_congr rfl fun d _ => P.amount_cell c _ d]
  rfl

theorem expect_one (x : CX B A) (h : dutiesOf (some x) = {0}) : P.Rd.expect (P.cell c x) 0 = P.amountOf (some x) := by
  unfold Schedule.expect Schedule.amountOf
  rw [duties_cell, h, Finset.sum_singleton, amount_cell]

theorem rest_one (x : CX B A) (h : dutiesOf (some x) = {0}) :
    bigSep (P.Rd.duties (P.cell c x) 0 \ ∅) (fun d => P.Rd.payload (P.cell c x) 0 d) = P.payOf c 0 (some x) := by
  rw [Finset.sdiff_empty, duties_cell, h, bigSep_singleton, payload_cell]

theorem rest_bar (b : B) :
    bigSep (P.Rd.duties (P.barC c b) 0 \ ∅) (fun d => P.Rd.payload (P.barC c b) 0 d)
      = all seven fun d => all (P.arrs b) fun a => P.free (peer c d) a d := by
  rw [Finset.sdiff_empty, duties_cell]
  show bigSep Finset.univ _ = _
  rw [bigSep_univ_all seven (by decide) (by decide)]
  exact congrArg (all seven) (funext fun d => P.payload_cell c _ d)

end Sched

/-! ## What a device owes -/

/-- A due: the unit of a barrier of a peer, or the credit of a receive cell of a peer. -/
abbrev Due (B A : Type) : Type := (B × Fin 7) ⊕ (A × Fin 7)

/-- The name of the cell a due is owed to, the peer number, the units. -/
def dueName : Due B A → CX B A
  | .inl (b, _) => .inl (.inl b)
  | .inr l => .inl (.inr (.inr l))
def dueNo : Due B A → Fin 7
  | .inl (_, d) => d
  | .inr (_, j) => j
def dueAmt : Due B A → ℕ
  | .inl _ => 1
  | .inr (a, _) => P.amt a
def dueLv : Due B A → ℕ
  | .inl (b, _) => P.lvB b
  | .inr (a, _) => P.lvA a

/-- What device `c` owes for a list of dues; the head is paid first. -/
def due (c : Dev 8) : List (Due B A) → CellTallies 8 TPU7 sig Unit
  | [] => 0
  | x :: l => due c l + tallyAt (P.cell (peer c (dueNo x)) (dueName x)) () (P.dueAmt x)

/-- Every thread's indices; the levels of the cells. -/
def L (g : GSem 8 TPU7 sig) : Finset Unit := if g.1.2 = .tc then {()} else ∅
def lvOf : Option (CX B A) → ℕ
  | some (.inl (.inl b)) => P.lvB b
  | some (.inl (.inr (.inr (a, _)))) => P.lvA a
  | _ => 0
def lv (g : GSem 8 TPU7 sig) (_ : Unit) : ℕ := P.lvOf (P.decode g.2)

theorem L_of_ne (g : GSem 8 TPU7 sig) (h : g.1.2 ≠ .tc) : L g = ∅ := if_neg h
theorem L_tc (c : Dev 8) (sm : SemLoc sig) : L ((c : Thread 8 TPU7), sm) = {()} := if_pos rfl

theorem due_pos (c : Dev 8) (l : List (Due B A)) (g : GSem 8 TPU7 sig) (u : Unit) (h : 0 < P.due c l g u) :
    ∃ x ∈ l, g = P.cell (peer c (dueNo x)) (dueName x) := by
  induction l with
  | nil => exact absurd h (Nat.lt_irrefl 0)
  | cons x l ih =>
    by_cases hg : g = P.cell (peer c (dueNo x)) (dueName x)
    · exact ⟨x, List.mem_cons_self, hg⟩
    · have h2 : 0 < P.due c l g u := by
        have h' : 0 < (P.due c l + tallyAt (P.cell (peer c (dueNo x)) (dueName x)) () (P.dueAmt x)) g u := h
        rw [Pi.add_apply, Finsupp.add_apply, tallyAt_apply, if_neg fun ⟨h1, _⟩ => hg h1, Nat.add_zero] at h'
        exact h'
      obtain ⟨y, hy, hgy⟩ := ih h2
      exact ⟨y, List.mem_cons_of_mem _ hy, hgy⟩

theorem lv_due (c : Dev 8) (x : Due B A) (u : Unit) : P.lv (P.cell (peer c (dueNo x)) (dueName x)) u = P.dueLv x := by
  show P.lvOf (P.decode (P.osem (dueName x))) = _
  rw [decode_osem]
  rcases x with ⟨b, d⟩ | ⟨a, j⟩ <;> rfl

/-- A wait is admissible under dues whose levels are all above its cell's. -/
theorem mayWait (c : Dev 8) (sm : SemLoc sig) (l : List (Due B A)) (n : ℕ) (hn : P.lvOf (P.decode sm) ≤ n)
    (hl : ∀ x ∈ l, n < P.dueLv x) :
    (levAts L P.lv : sProp 𝕄) ⊢ MayWait (c : Thread 8 TPU7) sm () (P.due c l) :=
  MayOwe.of_cut (L := L) (lev := P.lv) n
    (fun p hp => by rw [Finset.mem_singleton.mp hp, L_tc]; exact Finset.mem_singleton_self _)
    (fun g u hg => by
      obtain ⟨x, _, rfl⟩ := P.due_pos c l g u hg
      rw [L_tc]; exact Finset.mem_singleton_self _)
    (fun p hp => by rw [Finset.mem_singleton.mp hp]; exact hn)
    (fun g u hg => by
      obtain ⟨x, hx, rfl⟩ := P.due_pos c l g u hg
      rw [P.lv_due]; exact hl x hx)

/-- Each device's launch credit holds the units that its peers owe its cells. -/
theorem creds (c : Dev 8) (l : List (Due B A)) :
    (Pipeline.launchCred (fun d => P.due d l) c : sProp 𝕄)
      ⊢ all l fun x => cred (tallyAt (P.cell c (dueName x)) () (P.dueAmt x)) := by
  induction l with
  | nil => exact Entails.of_eq (Pipeline.launchCred_zero c)
  | cons x l ih =>
    show (Pipeline.launchCred (fun d => P.due d l + tallyAt (P.cell (peer d (dueNo x)) (dueName x)) () (P.dueAmt x)) c : sProp 𝕄)
      ⊢ iprop(cred (tallyAt (P.cell c (dueName x)) () (P.dueAmt x)) ∗ all l fun x => cred (tallyAt (P.cell c (dueName x)) () (P.dueAmt x)))
    rw [Pipeline.launchCred_add]
    iintro ⟨H1, H2⟩
    isplitl [H2]
    · iapply (Pipeline.launchCred_tallyAt (P.osem (dueName x)) (fun d => peer d (dueNo x)) (fun d => peer d (dueNo x))
        (fun c => peer_peer c _) (fun c => peer_peer c _) () (P.dueAmt x) c)
      iexact H2
    · iapply ih; iexact H1

/-- Unit credits of one cell add up. -/
theorem cred_units {I : Type} (g : GSem 8 TPU7 sig) (l : List I) :
    (all l fun _ => (cred (tallyAt g () 1) : sProp 𝕄)) ⊢ cred (tallyAt g () l.length) := by
  induction l with
  | nil =>
    show iprop(emp) ⊢ (cred (tallyAt g () 0) : sProp 𝕄)
    rw [tallyAt_zero, cred_zero]
  | cons i l ih =>
    show iprop(cred (tallyAt g () 1) ∗ all l fun _ => (cred (tallyAt g () 1) : sProp 𝕄)) ⊢ cred (tallyAt g () (l.length + 1))
    rw [Nat.add_comm, ← tallyAt_add]
    exact (sep_mono_right ih).trans (cred_add _ _).2

/-! ## The ghost state -/

variable [DecidableEq B] [DecidableEq A] [Fintype B] [Fintype A] (E : Emb (UX sig) (MT 8 TPU7 sig Unit Val ℕ U ℕ))

/-- Every device's record of every cell the launch owns. -/
def records (K : Dev 8 × UC B A → ℕ) : sProp 𝕄 :=
  iprop((bigSep Finset.univ fun cu : Dev 8 × UC B A => cellInv E P.Rd (K cu) (P.cell cu.1 (.inl cu.2)))
    ∗ bigSep Finset.univ fun cu : Dev 8 × UC B A => reached E (P.cell cu.1 (.inl cu.2)) 0)

instance records_persistent (K : Dev 8 × UC B A → ℕ) : BI.Persistent (P.records E K) := by unfold records; infer_instance

theorem records_inv (K : Dev 8 × UC B A → ℕ) (c : Dev 8) (u : UC B A) :
    P.records E K ⊢ cellInv E P.Rd (K (c, u)) (P.cell c (.inl u)) := by
  have h : (bigSep Finset.univ fun cu : Dev 8 × UC B A => cellInv E P.Rd (K cu) (P.cell cu.1 (.inl cu.2)))
      ⊢ cellInv E P.Rd (K (c, u)) (P.cell c (.inl u)) := bigSep_elim (Finset.mem_univ (c, u))
  unfold records
  iintro ⟨H, -⟩
  iapply h; iexact H

theorem records_reached (K : Dev 8 × UC B A → ℕ) (c : Dev 8) (u : UC B A) :
    P.records E K ⊢ reached E (P.cell c (.inl u)) 0 := by
  have h : (bigSep Finset.univ fun cu : Dev 8 × UC B A => reached E (P.cell cu.1 (.inl cu.2)) 0)
      ⊢ reached E (P.cell c (.inl u)) 0 := bigSep_elim (Finset.mem_univ (c, u))
  unfold records
  iintro ⟨-, H⟩
  iapply h; iexact H

/-- What stays with device `c`: its positions on the cells the launch owns and the tokens of the duties it pays. -/
def linear (c : Dev 8) : sProp 𝕄 :=
  iprop((bigSep Finset.univ fun u : UC B A => atPos E (P.cell c (.inl u)) 0 ∅ 0)
    ∗ (bigSep Finset.univ fun bd : B × Fin 7 => dutyTok E (P.barC (peer c bd.2) bd.1) 0 bd.2)
    ∗ (bigSep Finset.univ fun l : A × Fin 7 => dutyTok E (P.sndC c l) 0 0)
    ∗ (bigSep Finset.univ fun l : A × Fin 7 => dutyTok E (P.rcvC (peer c l.2) l) 0 0))

/-- The ghost state of the local cell of array `a`, before its semaphore is at hand; -/
def locRaw (c : Dev 8) (a : A) : sProp 𝕄 :=
  iprop(roundState E P.Rd (P.locC c a) 0 ∗ atPos E (P.locC c a) 0 ∅ 0 ∗ reached E (P.locC c a) 0 ∗ dutyTok E (P.locC c a) 0 0)
/-- and after: the cell's record in place of its round state. -/
def locUp (c : Dev 8) (a : A) : sProp 𝕄 :=
  iprop((∃ κ : ℕ, cellInv E P.Rd κ (P.locC c a)) ∗ atPos E (P.locC c a) 0 ∅ 0 ∗ reached E (P.locC c a) 0 ∗ dutyTok E (P.locC c a) 0 0)

/-- A local cell's semaphore at zero makes its record. -/
theorem locUp_intro (c : Dev 8) (a : A) [E.LandsIn (upEmb : UEmb _ 𝕄)] :
    iprop(semVal (P.locC c a) 0 ∗ P.locRaw E c a) ⊢ |={Set.univ}=> P.locUp E c a := by
  unfold locRaw locUp
  iintro ⟨Hs, Hst, Hat, Hr, Ht⟩
  imod ((Rounds.body_intro E P.Rd (P.locC c a)).trans inv_alloc) $$ [Hs Hst] with Hinv
  · isplitl [Hs] <;> iassumption
  imodintro
  isplitl [Hinv]; · iexact Hinv
  isplitl [Hat]; · iexact Hat
  isplitl [Hr] <;> iassumption

/-- A cell past its round is closed by its owner, its counter at zero. -/
theorem close [E.LandsIn (upEmb : UEmb _ 𝕄)] (κ : ℕ) (g : GSem 8 TPU7 sig) :
    iprop(cellInv E P.Rd κ g ∗ atPos E g (0 + 1) ∅ 0) ⊢ (|={Set.univ}=> semVal g 0 : sProp 𝕄) :=
  Rounds.cell_close E P.Rd (Set.mem_univ κ) id (P.duties_later g)

/-! ## The launch -/

/-- The tokens of one device's own cells. -/
abbrev TK (B A : Type) : Type := (B × Fin 7) ⊕ (((A × Fin 7) ⊕ (A × Fin 7)) ⊕ A)
def tkName : TK B A → CX B A
  | .inl (b, _) => .inl (.inl b)
  | .inr (.inl (.inl l)) => .inl (.inr (.inl l))
  | .inr (.inl (.inr l)) => .inl (.inr (.inr l))
  | .inr (.inr a) => .inr a
def tkDuty : TK B A → Fin 7
  | .inl (_, d) => d
  | .inr _ => 0

theorem cell_inj : Function.Injective (fun cx : Dev 8 × CX B A => P.cell cx.1 cx.2) := by
  rintro ⟨c, x⟩ ⟨c', x'⟩ h
  have h1 : c = c' := congrArg (fun g : GSem 8 TPU7 sig => g.1.1) h
  have h2 : x = x' := P.inj (congrArg Prod.snd h)
  rw [h1, h2]

theorem tk_inj (x y : TK B A) (h : tkName x = tkName y) (h' : tkDuty x = tkDuty y) : x = y := by
  rcases x with ⟨b, d⟩ | (l | l) | a <;> rcases y with ⟨b', d'⟩ | (l' | l') | a' <;>
    simp_all [tkName, tkDuty]

theorem tok_inj : Function.Injective (fun cx : Dev 8 × TK B A => ((P.cell cx.1 (tkName cx.2), 0, tkDuty cx.2) : GSem 8 TPU7 sig × ℕ × Fin 7)) := by
  rintro ⟨c, x⟩ ⟨c', x'⟩ h
  have h1 := P.cell_inj (a₁ := (c, tkName x)) (a₂ := (c', tkName x')) (congrArg Prod.fst h)
  have h2 : tkDuty x = tkDuty x' := congrArg (fun p : GSem 8 TPU7 sig × ℕ × Fin 7 => p.2.2) h
  have h3 : c = c' := congrArg Prod.fst h1
  rw [h3, tk_inj x x' (congrArg Prod.snd h1) h2]

/-- The cells and the tokens the launch element funds. -/
def cellSet : Finset (GSem 8 TPU7 sig) := Finset.univ.map ⟨_, P.cell_inj⟩
def tokSet : Finset (GSem 8 TPU7 sig × ℕ × Fin 7) := Finset.univ.map ⟨_, P.tok_inj⟩

/-- What the launch element deals device `c`. -/
def deal (c : Dev 8) : sProp 𝕄 :=
  iprop((bigSep Finset.univ fun u : UC B A => roundState E P.Rd (P.cell c (.inl u)) 0)
    ∗ (bigSep Finset.univ fun u : UC B A => reached E (P.cell c (.inl u)) 0)
    ∗ (bigSep Finset.univ fun u : UC B A => atPos E (P.cell c (.inl u)) 0 ∅ 0)
    ∗ (bigSep Finset.univ fun bd : B × Fin 7 => dutyTok E (P.barC c bd.1) 0 bd.2)
    ∗ (bigSep Finset.univ fun l : A × Fin 7 => dutyTok E (P.sndC c l) 0 0)
    ∗ (bigSep Finset.univ fun l : A × Fin 7 => dutyTok E (P.rcvC c l) 0 0)
    ∗ (bigSep Finset.univ fun a : A => P.locRaw E c a))

theorem fund : BI.own (E (initOf P.cellSet P.tokSet)) ⊢ (|==> bigSep Finset.univ (P.deal E) : sProp 𝕄) := by
  have hX (Φ : GSem 8 TPU7 sig → sProp 𝕄) : bigSep P.cellSet Φ
      = bigSep Finset.univ fun c : Dev 8 => iprop((bigSep Finset.univ fun u : UC B A => Φ (P.cell c (.inl u))) ∗ bigSep Finset.univ fun a : A => Φ (P.locC c a)) := by
    unfold cellSet; rw [bigSep_map, bigSep_univ_prod]
    exact bigSep_congr fun c _ => bigSep_univ_sum _
  have hT : bigSep P.tokSet (fun x => (dutyTok E x.1 x.2.1 x.2.2 : sProp 𝕄))
      = bigSep Finset.univ fun c : Dev 8 => iprop((bigSep Finset.univ fun bd : B × Fin 7 => dutyTok E (P.barC c bd.1) 0 bd.2)
        ∗ (((bigSep Finset.univ fun l : A × Fin 7 => dutyTok E (P.sndC c l) 0 0) ∗ (bigSep Finset.univ fun l : A × Fin 7 => dutyTok E (P.rcvC c l) 0 0))
        ∗ (bigSep Finset.univ fun a : A => dutyTok E (P.locC c a) 0 0))) := by
    unfold tokSet; rw [bigSep_map, bigSep_univ_prod]
    refine bigSep_congr fun c _ => ?_
    rw [bigSep_univ_sum, bigSep_univ_sum, bigSep_univ_sum]
    rfl
  iintro HX
  imod (Rounds.fund E P.Rd P.cellSet P.tokSet) $$ HX with ⟨Hst, Hr, Hat, Htok⟩
  imodintro
  ihave Hst' := (Entails.of_eq (hX fun g => roundState E P.Rd g 0)) $$ Hst
  ihave Hat' := (Entails.of_eq (hX fun g => atPos E g 0 ∅ 0)) $$ Hat
  ihave Hr' := (Entails.of_eq (hX fun g => reached E g 0)) $$ Hr
  ihave Htok' := (Entails.of_eq hT) $$ Htok
  unfold deal locRaw
  simp only [bigSep_sep']
  icases Hst' with ⟨Hst1, Hst2⟩
  icases Hat' with ⟨Hat1, Hat2⟩
  icases Hr' with ⟨Hr1, Hr2⟩
  icases Htok' with ⟨Ht1, ⟨Ht2, Ht3⟩, Ht4⟩
  isplitl [Hst1]; · iexact Hst1
  isplitl [Hr1]; · iexact Hr1
  isplitl [Hat1]; · iexact Hat1
  isplitl [Ht1]; · iexact Ht1
  isplitl [Ht2]; · iexact Ht2
  isplitl [Ht3]; · iexact Ht3
  isplitl [Hst2]; · iexact Hst2
  isplitl [Hat2]; · iexact Hat2
  isplitl [Hr2]; · iexact Hr2
  iexact Ht4

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The tokens of the barrier cells and of the receive cells handed to the devices that pay them. -/
theorem bar_around :
    (bigSep Finset.univ fun c : Dev 8 => bigSep Finset.univ fun bd : B × Fin 7 => (dutyTok E (P.barC c bd.1) 0 bd.2 : sProp 𝕄))
      = bigSep Finset.univ fun c : Dev 8 => bigSep Finset.univ fun bd : B × Fin 7 => dutyTok E (P.barC (peer c bd.2) bd.1) 0 bd.2 := by
  rw [bigSep_univ_comm, bigSep_univ_comm (fun (c : Dev 8) (bd : B × Fin 7) => (dutyTok E (P.barC (peer c bd.2) bd.1) 0 bd.2 : sProp 𝕄))]
  exact bigSep_congr fun bd _ => bigSep_univ_equiv (peerEquiv bd.2) (fun c : Dev 8 => (dutyTok E (P.barC c bd.1) 0 bd.2 : sProp 𝕄))

theorem rcv_around :
    (bigSep Finset.univ fun c : Dev 8 => bigSep Finset.univ fun l : A × Fin 7 => (dutyTok E (P.rcvC c l) 0 0 : sProp 𝕄))
      = bigSep Finset.univ fun c : Dev 8 => bigSep Finset.univ fun l : A × Fin 7 => dutyTok E (P.rcvC (peer c l.2) l) 0 0 := by
  rw [bigSep_univ_comm, bigSep_univ_comm (fun (c : Dev 8) (l : A × Fin 7) => (dutyTok E (P.rcvC (peer c l.2) l) 0 0 : sProp 𝕄))]
  exact bigSep_congr fun l _ => bigSep_univ_equiv (peerEquiv l.2) (fun c : Dev 8 => (dutyTok E (P.rcvC c l) 0 0 : sProp 𝕄))

/-- From the semaphores at zero and what the launch element deals: one map of names for all records, and every device's
    own part. -/
theorem start [E.LandsIn (upEmb : UEmb _ 𝕄)] :
    (bigSep Finset.univ fun c : Dev 8 => iprop((bigSep Finset.univ fun u : UC B A => semVal (P.cell c (.inl u)) 0) ∗ P.deal E c))
      ⊢ (|={Set.univ}=> bigSep Finset.univ fun c : Dev 8 =>
          iprop((∃ K, P.records E K) ∗ P.linear E c ∗ bigSep Finset.univ fun a : A => P.locRaw E c a) : sProp 𝕄) := by
  unfold deal
  simp only [bigSep_sep']
  iintro ⟨Hs, Hst, Hr, Hat, Ht1, Ht2, Ht3, Hl⟩
  imod (show iprop((bigSep Finset.univ fun c : Dev 8 => bigSep Finset.univ fun u : UC B A => (semVal (P.cell c (.inl u)) 0 : sProp 𝕄))
        ∗ (bigSep Finset.univ fun c : Dev 8 => bigSep Finset.univ fun u : UC B A => roundState E P.Rd (P.cell c (.inl u)) 0))
      ⊢ (|={Set.univ}=> bigSep Finset.univ fun cu : Dev 8 × UC B A => iprop(∃ κ : ℕ, cellInv E P.Rd κ (P.cell cu.1 (.inl cu.2))) : sProp 𝕄) from by
        rw [← bigSep_univ_prod (fun cu : Dev 8 × UC B A => (semVal (P.cell cu.1 (.inl cu.2)) 0 : sProp 𝕄)),
          ← bigSep_univ_prod (fun cu : Dev 8 × UC B A => (roundState E P.Rd (P.cell cu.1 (.inl cu.2)) 0 : sProp 𝕄)), ← bigSep_sep']
        exact (bigSep_mono fun cu _ => (Rounds.body_intro E P.Rd (P.cell cu.1 (.inl cu.2))).trans inv_alloc).trans (bigSep_fupd _ _)) $$ [Hs Hst] with HI
  · isplitl [Hs] <;> iassumption
  imodintro
  ihave HK := (BI.bigSep_exists_pi Finset.univ (fun (cu : Dev 8 × UC B A) (κ : ℕ) => (cellInv E P.Rd κ (P.cell cu.1 (.inl cu.2)) : sProp 𝕄))) $$ HI
  icases HK with ⟨%K, HI⟩
  ihave Hr' := (Entails.of_eq (bigSep_univ_prod (fun cu : Dev 8 × UC B A => (reached E (P.cell cu.1 (.inl cu.2)) 0 : sProp 𝕄))).symm) $$ Hr
  ihave Ht1' := (Entails.of_eq (P.bar_around E)) $$ Ht1
  ihave Ht3' := (Entails.of_eq (P.rcv_around E)) $$ Ht3
  isplitl [HI Hr']
  · iapply (BI.bigSep_of_persistent (Finset.univ : Finset (Dev 8)) (iprop(∃ K, P.records E K)))
    iexists K
    unfold records
    isplitl [HI] <;> iassumption
  unfold linear
  simp only [bigSep_sep']
  isplitr [Hl]
  · isplitl [Hat]; · iexact Hat
    isplitl [Ht1']; · iexact Ht1'
    isplitl [Ht2] <;> iassumption
  · iexact Hl

end Plan

end Cert.Exchange

end
-- ==== Proof.Steps.lean ====
/-
  One lemma for every kind of operation of an exchange, over any plan.

  Each is stated with a frame: from what the rest of the program needs after the operation it concludes what the program
  needs before it, so that a kernel's run is these lemmas in program order. What is still to do and what is done are lists
  of resources, the next one at the head.
-/
module

public import proofs.«01_k».proof.Proof.Exchange

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {sig : RefSig} {Val : EltTy → Type} {U : Type} [URA U] {B A : Type}

theorem all_cons {M : Type} [URA M] {I : Type} (i : I) (l : List I) (Φ : I → sProp M) : all (i :: l) Φ = iprop(Φ i ∗ all l Φ) := rfl

namespace Plan

variable (P : Plan sig Val U B A)

theorem payOf_loc (c : Dev 8) (d : Fin 7) (a : A) : P.payOf c d (some (.inr a)) = P.own c a := rfl
theorem payOf_rcv (c : Dev 8) (d : Fin 7) (x : A × Fin 7) : P.payOf c d (some (.inl (.inr (.inr x)))) = P.got c x.1 x.2 := rfl

/-- What device `c` owes, whatever it has waited for. -/
def owing (c : Dev 8) (l : List (Due B A)) : sProp (MT 8 TPU7 sig Unit Val ℕ U ℕ) := iprop(∃ W, owes (c : Thread 8 TPU7) (P.due c l) W)

variable [DecidableEq B] [DecidableEq A] [Fintype B] [Fintype A] (E : Emb (UX sig) (MT 8 TPU7 sig Unit Val ℕ U ℕ))

/-- What every step may use: the records of the cells and the levels. -/
def ctx (K : Dev 8 × UC B A → ℕ) : sProp (MT 8 TPU7 sig Unit Val ℕ U ℕ) := iprop(P.records E K ∗ levAts L P.lv)

instance ctx_persistent (K : Dev 8 × UC B A → ℕ) : BI.Persistent (P.ctx E K) := by unfold ctx; infer_instance

theorem ctx_inv (K : Dev 8 × UC B A → ℕ) (c : Dev 8) (u : UC B A) : P.ctx E K ⊢ cellInv E P.Rd (K (c, u)) (P.cell c (.inl u)) := by
  unfold ctx
  iintro ⟨H, -⟩
  iapply (P.records_inv E K c u); iexact H

theorem ctx_reached (K : Dev 8 × UC B A → ℕ) (c : Dev 8) (u : UC B A) : P.ctx E K ⊢ reached E (P.cell c (.inl u)) 0 := by
  unfold ctx
  iintro ⟨H, -⟩
  iapply (P.records_reached E K c u); iexact H

/-- What a signal to peer `d` spends. -/
def toSignal (c : Dev 8) (b : B) (d : Fin 7) : sProp (MT 8 TPU7 sig Unit Val ℕ U ℕ) :=
  iprop(dutyTok E (P.barC (peer c d) b) 0 d ∗ all (P.arrs b) fun a => P.free c a d)

/-- What a wait on a cell of one round spends. -/
def toWait (c : Dev 8) (x : CX B A) (n : ℕ) : sProp (MT 8 TPU7 sig Unit Val ℕ U ℕ) :=
  iprop(atPos E (P.cell c x) 0 ∅ 0 ∗ cred (tallyAt (P.cell c x) () n))

/-- What a transfer of lane `x` spends besides its source. -/
def toSend (c : Dev 8) (S : A × Fin 7 → sProp (MT 8 TPU7 sig Unit Val ℕ U ℕ)) (x : A × Fin 7) : sProp (MT 8 TPU7 sig Unit Val ℕ U ℕ) :=
  iprop(dutyTok E (P.sndC c x) 0 0 ∗ dutyTok E (P.rcvC (peer c x.2) x) 0 0 ∗ S x ∗ P.free (peer c x.2) x.1 x.2)

/-- A local copy in flight. -/
def inFlight (c : Dev 8) (a : A) : sProp (MT 8 TPU7 sig Unit Val ℕ U ℕ) :=
  iprop((∃ κ : ℕ, cellInv E P.Rd κ (P.locC c a)) ∗ P.toWait E c (.inr a) (P.amt a))

/-- A lane whose two waits are still to come, and after them. -/
def lane (c : Dev 8) (x : A × Fin 7) : sProp (MT 8 TPU7 sig Unit Val ℕ U ℕ) :=
  iprop(P.toWait E c (.inl (.inr (.inl x))) (P.amt x.1) ∗ P.toWait E c (.inl (.inr (.inr x))) (P.amt x.1))
def laneDone (c : Dev 8) (x : A × Fin 7) : sProp (MT 8 TPU7 sig Unit Val ℕ U ℕ) :=
  iprop(semVal (P.sndC c x) 0 ∗ semVal (P.rcvC c x) 0 ∗ P.got c x.1 x.2)

variable {Λ : Labels} {defs : Defs 8 TPU7 sig Val Λ} (𝒱 : Variants)

section Steps

variable (K : Dev 8 × UC B A → ℕ) (c : Dev 8) {l : List (Due B A)} {Rest : sProp (MT 8 TPU7 sig Unit Val ℕ U ℕ)}
variable {α : Type} {Q : α → sProp (MT 8 TPU7 sig Unit Val ℕ U ℕ)}
variable [E.LandsIn (upEmb : UEmb _ (MT 8 TPU7 sig Unit Val ℕ U ℕ))]

/-- A signal to a peer's barrier. -/
theorem step_signal {b : B} {d : Fin 7} {ds : List (Fin 7)} {n : Dev 8} (hn : n = peer c d) {sem : Sem sig} (hsem : sem = P.bar b)
    {kk : Int} (hk : kk = ((1 : ℕ) : Int)) {k : PUnit → Prog (TpuEff 8 TPU7 sig Val Λ .tc) α}
    (h : iprop(P.ctx E K ∗ P.owing c l ∗ all ds (P.toSignal E c b) ∗ Rest)
      ⊢ wp frame (wpE defs 𝒱 (c : Thread 8 TPU7) none) Set.univ (k ⟨⟩) Q) :
    iprop(P.ctx E K ∗ P.owing c (.inl (b, d) :: l) ∗ all (d :: ds) (P.toSignal E c b) ∗ Rest)
      ⊢ wp frame (wpE defs 𝒱 (c : Thread 8 TPU7) none) Set.univ (.op (.semSignal (n : Thread 8 TPU7) sem kk) k) Q := by
  subst hn hsem hk
  unfold owing at *
  rw [all_cons]
  unfold toSignal
  iintro ⟨#Hc, ⟨%W, HO⟩, ⟨⟨Htok, Hfree⟩, Hds⟩, HR⟩
  iapply (Rounds.wp_signal 𝒱 E P.Rd (c : Thread 8 TPU7) none (dst := (peer c d : Thread 8 TPU7)) (sem := P.bar b) (r := 0) (d := d)
      (κ := K (peer c d, .inl b)) (k' := 1)
      (by rw [← P.osem_bar b]; exact (P.duties_cell (peer c d) (.inl (.inl b))).symm ▸ Finset.mem_univ d)
      (by rw [← P.osem_bar b]; exact P.amount_cell (peer c d) (.inl (.inl b)) d) () (P.due c l)
      (by rw [← P.osem_bar b])) $$ [HO Htok Hfree]
  · rw [← P.osem_bar b]
    isplitr; · iapply (P.ctx_inv E K (peer c d) (.inl b)); iexact Hc
    isplitl [HO]; · iexact HO
    isplitl [Htok]; · iexact Htok
    isplitl [Hfree]
    · iapply (Entails.of_eq (P.payload_cell (peer c d) (.inl (.inl b)) d).symm)
      iapply (Entails.of_eq (show (all (P.arrs b) fun a => P.free c a d) = P.payOf (peer c d) d (some (.inl (.inl b))) from by
        show _ = all (P.arrs b) fun a => P.free (peer (peer c d) d) a d
        rw [peer_peer]))
      iexact Hfree
    · iapply (P.ctx_reached E K (peer c d) (.inl b)); iexact Hc
  iintro HO
  iapply h
  isplitr; · iexact Hc
  isplitl [HO]; · iexists W; iexact HO
  isplitl [Hds]; · iexact Hds
  iexact HR

/-- The wait for the seven signals on the own barrier. -/
theorem step_bar {b : B} (hl : ∀ x ∈ l, P.lvB b < P.dueLv x) {sem : Sem sig} (hsem : sem = P.bar b)
    {kk : Int} (hk : kk = ((7 : ℕ) : Int)) {k : PUnit → Prog (TpuEff 8 TPU7 sig Val Λ .tc) α}
    (h : iprop(P.ctx E K ∗ P.owing c l ∗ (all seven fun d => all (P.arrs b) fun a => P.free (peer c d) a d) ∗ semVal (P.barC c b) 0 ∗ Rest)
      ⊢ wp frame (wpE defs 𝒱 (c : Thread 8 TPU7) none) Set.univ (k ⟨⟩) Q) :
    iprop(P.ctx E K ∗ P.owing c l ∗ P.toWait E c (.inl (.inl b)) 7 ∗ Rest)
      ⊢ wp frame (wpE defs 𝒱 (c : Thread 8 TPU7) none) Set.univ (.op (.semWait sem kk) k) Q := by
  subst hsem hk
  unfold owing toWait at *
  iintro ⟨#Hc, ⟨%W, HO⟩, ⟨Hat, Hcr⟩, HR⟩
  iapply (Rounds.wp_wait_rest_token 𝒱 E P.Rd (c : Thread 8 TPU7) none (κ := K (c, .inl b)) (sm := .reg (P.bar b)) (k' := 7)
      (wpE_semWait_eq 𝒱 (c : Thread 8 TPU7) none Set.univ) (Set.mem_univ _) () (O := P.due c l) (W := W) (R := 0) (m := 0) (T := ∅)
      (by rw [Nat.zero_add, ← P.osem_bar b]; exact (P.expect_bar c b).symm)) $$ [HO Hat Hcr]
  · rw [← P.osem_bar b]
    isplitr; · iapply (P.ctx_inv E K c (.inl b)); iexact Hc
    isplitl [Hcr]; · iexact Hcr
    isplitl [HO]; · iexact HO
    isplitr
    · iapply (P.mayWait c _ l (P.lvB b) (by rw [decode_osem]; exact le_rfl) hl)
      unfold ctx; icases Hc with ⟨-, #Hl⟩; iexact Hl
    iexact Hat
  rw [← P.osem_bar b]
  iintro ⟨HO, Hat, -, Hpay⟩
  ihave Hp := (Entails.of_eq (P.rest_bar c b)) $$ Hpay
  imod (P.close E (K (c, .inl b)) (P.barC c b)) $$ [Hat] with Hz
  · isplitr; · iapply (P.ctx_inv E K c (.inl b)); iexact Hc
    iexact Hat
  iapply h
  isplitr; · iexact Hc
  isplitl [HO]; · iexists _; iexact HO
  isplitl [Hp]; · iexact Hp
  isplitl [Hz] <;> iassumption

/-- A local copy. -/
theorem step_copy {X : sProp (MT 8 TPU7 sig Unit Val ℕ U ℕ)} {a : A} {tl done : List A} {res : A → sProp (MT 8 TPU7 sig Unit Val ℕ U ℕ)}
    {sp sp' : Space} {s : Shape} {e : EltTy}
    {src : Memref sig .tc sp s e} {dst : Memref sig .tc sp' s e} {sem : SemLoc sig} (hsem : sem = P.osem (.inr a))
    {q : PosShare TreeShare} {fs : Buf Val (src.view.loc (c : Thread 8 TPU7))}
    (hres : res a ⊢ iprop((src.view.loc (c : Thread 8 TPU7) ↦[src.view.set]{q} fs) ∗ ∃ fd, dst.view.loc (c : Thread 8 TPU7) ↦[dst.view.set]{fullShare} fd))
    (hN : dst.view.amount sem = P.amt a)
    (hpay : ∀ fd : Buf Val (dst.view.loc (c : Thread 8 TPU7)),
      (dst.view.loc (c : Thread 8 TPU7) ↦[dst.view.set]{fullShare} (dst.view.write Val fd (src.view.read Val fs) Finset.univ)) ⊢ P.own c a)
    {hsrc : src.view.WordExact} {hdst : dst.view.WordExact} {hty : DmaTarget.Typed (nD := 8) (τ := TPU7) (p := .tc) sp sem (.here dst)}
    {k : PUnit → Prog (TpuEff 8 TPU7 sig Val Λ .tc) α}
    (h : iprop(X ∗ (all tl fun a => iprop(P.locUp E c a ∗ res a)) ∗ all (a :: done) (P.inFlight E c) ∗ Rest)
      ⊢ wp frame (wpE defs 𝒱 (c : Thread 8 TPU7) none) Set.univ (k ⟨⟩) Q) :
    iprop(X ∗ (all (a :: tl) fun a => iprop(P.locUp E c a ∗ res a)) ∗ all done (P.inFlight E c) ∗ Rest)
      ⊢ wp frame (wpE defs 𝒱 (c : Thread 8 TPU7) none) Set.univ (.op (.enqueueDma src (.here dst) sem hsrc hdst hty) k) Q := by
  subst hsem
  rw [all_cons] at h ⊢
  unfold locUp
  iintro ⟨HX, ⟨⟨⟨⟨%κ, #Hi⟩, Hat, Hr, Ht⟩, Hres⟩, Has⟩, Hd, HR⟩
  ihave Hres' := hres $$ Hres
  icases Hres' with ⟨Hs, ⟨%fd, Hd'⟩⟩
  iapply (Rounds.wp_copy_pointsTo 𝒱 E P.Rd (c : Thread 8 TPU7) none (κ := κ) (r := 0) (d := 0) (q := q) (fs := fs) (fd := fd)
      (by exact (P.duties_cell c (.inr a)).symm ▸ Finset.mem_singleton_self _) () (P.amt a) hN (P.amount_cell c (.inr a) 0)
      (by
        refine BIBase.Entails.trans ?_ (Entails.of_eq (P.payload_cell c (.inr a) 0).symm)
        iintro ⟨H, -⟩
        ihave H' := hpay fd $$ H
        iapply (Entails.of_eq (P.payOf_loc c 0 a).symm); iexact H')) $$ [Hs Hd' Ht Hr]
  · isplitr; · iexact Hi
    isplitl [Hs]; · iexact Hs
    isplitl [Hd']; · iexact Hd'
    isplitl [Ht] <;> iassumption
  iintro Hcr
  iapply h
  isplitl [HX]; · iexact HX
  isplitl [Has]; · unfold locUp; iexact Has
  isplitr [HR]
  · isplitr [Hd]
    · unfold inFlight toWait
      isplitr; · iexists κ; iexact Hi
      isplitl [Hat] <;> iassumption
    · iexact Hd
  · iexact HR

/-- A transfer to a peer. -/
theorem step_send {x : A × Fin 7} {xs done : List (A × Fin 7)} {S : A × Fin 7 → sProp (MT 8 TPU7 sig Unit Val ℕ U ℕ)}
    {n : Dev 8} (hn : n = peer c x.2) {sp sp' : Space} {s : Shape} {e : EltTy}
    {src : Memref sig .tc sp s e} {dst : Memref sig .tc sp' s e}
    {sS sem : SemLoc sig} (hsS : sS = P.osem (.inl (.inr (.inl x)))) (hsem : sem = P.osem (.inl (.inr (.inr x))))
    {q : PosShare TreeShare} {fs : Buf Val (src.view.loc (c : Thread 8 TPU7))}
    (hsrcR : S x ⊢ (src.view.loc (c : Thread 8 TPU7) ↦[src.view.set]{q} fs))
    (hfree : P.free (peer c x.2) x.1 x.2 ⊢ iprop(∃ fd, dst.view.loc (peer c x.2 : Thread 8 TPU7) ↦[dst.view.set]{fullShare} fd))
    (hN : dst.view.amount sem = P.amt x.1)
    (hgot : ∀ fd : Buf Val (dst.view.loc (peer c x.2 : Thread 8 TPU7)),
      (dst.view.loc (peer c x.2 : Thread 8 TPU7) ↦[dst.view.set]{fullShare} (dst.view.write Val fd (src.view.read Val fs) Finset.univ))
        ⊢ P.got (peer c x.2) x.1 x.2)
    {hsc : dst.view.ref.isScScratch = false} {hsrc : src.view.WordExact} {hdst : dst.view.WordExact}
    {hty : DmaTarget.Typed sp sem (.remote (Dev.tc n : Thread 8 TPU7) dst sS hsc)}
    {k : PUnit → Prog (TpuEff 8 TPU7 sig Val Λ .tc) α}
    (h : iprop(P.ctx E K ∗ P.owing c l ∗ all xs (P.toSend E c S) ∗ (all (x :: done) fun x => cred (tallyAt (P.sndC c x) () (P.amt x.1))) ∗ Rest)
      ⊢ wp frame (wpE defs 𝒱 (c : Thread 8 TPU7) none) Set.univ (k ⟨⟩) Q) :
    iprop(P.ctx E K ∗ P.owing c (.inr x :: l) ∗ all (x :: xs) (P.toSend E c S) ∗ (all done fun x => cred (tallyAt (P.sndC c x) () (P.amt x.1))) ∗ Rest)
      ⊢ wp frame (wpE defs 𝒱 (c : Thread 8 TPU7) none) Set.univ
          (.op (.enqueueDma src (.remote (Dev.tc n : Thread 8 TPU7) dst sS hsc) sem hsrc hdst hty) k) Q := by
  subst hn hsS hsem
  rw [all_cons] at h ⊢
  unfold owing toSend at *
  iintro ⟨#Hc, ⟨%W, HO⟩, ⟨⟨Hts, Htr, Hs, Hf⟩, Hxs⟩, Hd, HR⟩
  ihave Hs' := hsrcR $$ Hs
  ihave Hf' := hfree $$ Hf
  icases Hf' with ⟨%fd, Hf'⟩
  iapply (Rounds.wp_send_pointsTo 𝒱 E P.Rd (c : Thread 8 TPU7) none (κ₁ := K (c, .inr (.inl x))) (κ₂ := K (peer c x.2, .inr (.inr x)))
      (r₁ := 0) (r₂ := 0) (d₁ := 0) (d₂ := 0) (q := q) (fs := fs) (fd := fd)
      (by exact (P.duties_cell c (.inl (.inr (.inl x)))).symm ▸ Finset.mem_singleton_self _)
      (by exact (P.duties_cell (peer c x.2) (.inl (.inr (.inr x)))).symm ▸ Finset.mem_singleton_self _)
      () () (P.amt x.1) hN (P.amount_cell c (.inl (.inr (.inl x))) 0) (P.amount_cell (peer c x.2) (.inl (.inr (.inr x))) 0)
      (P.due c l) rfl (W := W)
      (by
        refine BIBase.Entails.trans ?_ (Entails.of_eq (P.payload_cell c (.inl (.inr (.inl x))) 0).symm)
        show _ ⊢ iprop(emp)
        iintro -; iempintro)
      (by exact (hgot fd).trans (Entails.of_eq (P.payload_cell (peer c x.2) (.inl (.inr (.inr x))) 0).symm))) $$ [HO Hts Htr Hs' Hf']
  · isplitr; · iapply (P.ctx_inv E K c (.inr (.inl x))); iexact Hc
    isplitr; · iapply (P.ctx_inv E K (peer c x.2) (.inr (.inr x))); iexact Hc
    isplitl [Hs']; · iexact Hs'
    isplitl [Hf']; · iexact Hf'
    isplitl [HO]; · iexact HO
    isplitl [Hts]; · iexact Hts
    isplitr; · iapply (P.ctx_reached E K c (.inr (.inl x))); iexact Hc
    isplitl [Htr]; · iexact Htr
    iapply (P.ctx_reached E K (peer c x.2) (.inr (.inr x))); iexact Hc
  iintro ⟨Hcr, HO⟩
  iapply h
  isplitr; · iexact Hc
  isplitl [HO]; · iexists W; iexact HO
  isplitl [Hxs]; · iexact Hxs
  isplitr [HR]
  · isplitl [Hcr] <;> iassumption
  · iexact HR

/-- The wait for a local copy. -/
theorem step_local {a : A} {tl done : List A} (hl : ∀ x ∈ l, 0 < P.dueLv x) {sem : DmaSem sig} (hsem : (.dma sem : SemLoc sig) = P.osem (.inr a))
    {sp sp' : Space} {s s' : Shape} {e e' : EltTy} {κ' : Kind}
    {src : Memref sig .tc sp' s' e'} {dst : Memref sig κ' sp s e} (hN : dst.view.dmaCredit = P.amt a)
    {hsrc : src.view.WordExact} {hdst : dst.view.WordExact}
    {k : PUnit → Prog (TpuEff 8 TPU7 sig Val Λ .tc) α}
    (h : iprop(P.ctx E K ∗ P.owing c l ∗ all tl (P.inFlight E c) ∗ (all (a :: done) fun a => iprop(semVal (P.locC c a) 0 ∗ P.own c a)) ∗ Rest)
      ⊢ wp frame (wpE defs 𝒱 (c : Thread 8 TPU7) none) Set.univ (k ⟨⟩) Q) :
    iprop(P.ctx E K ∗ P.owing c l ∗ all (a :: tl) (P.inFlight E c) ∗ (all done fun a => iprop(semVal (P.locC c a) 0 ∗ P.own c a)) ∗ Rest)
      ⊢ wp frame (wpE defs 𝒱 (c : Thread 8 TPU7) none) Set.univ (.op (.waitDma2 sem src dst hsrc hdst) k) Q := by
  rw [all_cons] at h ⊢
  unfold owing inFlight toWait at *
  iintro ⟨#Hc, ⟨%W, HO⟩, ⟨⟨⟨%κ, #Hi⟩, Hat, Hcr⟩, Has⟩, Hd, HR⟩
  iapply (Rounds.wp_wait_rest_token 𝒱 E P.Rd (c : Thread 8 TPU7) none (κ := κ) (sm := .dma sem) (k' := dst.view.dmaCredit)
      (wpE_waitDma2_eq 𝒱 (c : Thread 8 TPU7) none Set.univ) (Set.mem_univ _) () (O := P.due c l) (W := W) (R := 0) (m := 0) (T := ∅)
      (by rw [Nat.zero_add, hsem, hN]; exact (P.expect_one c (.inr a) rfl).symm)) $$ [HO Hat Hcr]
  · rw [hsem, hN]
    isplitr; · iexact Hi
    isplitl [Hcr]; · iexact Hcr
    isplitl [HO]; · iexact HO
    isplitr
    · iapply (P.mayWait c _ l 0 (by rw [decode_osem]; exact le_rfl) hl)
      unfold ctx; icases Hc with ⟨-, #Hl⟩; iexact Hl
    iexact Hat
  rw [hsem]
  iintro ⟨HO, Hat, -, Hpay⟩
  ihave Hp := (Entails.of_eq ((P.rest_one c (.inr a) rfl).trans (P.payOf_loc c 0 a))) $$ Hpay
  imod (P.close E κ (P.locC c a)) $$ [Hat] with Hz
  · isplitr; · iexact Hi
    iexact Hat
  iapply h
  isplitr; · iexact Hc
  isplitl [HO]; · iexists _; iexact HO
  isplitl [Has]; · iexact Has
  isplitr [HR]
  · isplitr [Hd]
    · isplitl [Hz]; · iexact Hz
      iexact Hp
    · iexact Hd
  · iexact HR

/-- The wait on one cell of one duty that the launch owns; the cell closes. -/
theorem step_wait {x : UC B A} (hx : dutiesOf (B := B) (A := A) (some (.inl x)) = {0}) {lvl : ℕ} (hlv : P.lvOf (some (.inl x)) = lvl)
    (hl : ∀ y ∈ l, lvl < P.dueLv y)
    {sem : DmaSem sig} (hsem : (.dma sem : SemLoc sig) = P.osem (.inl x))
    {sp sp' : Space} {s s' : Shape} {e e' : EltTy} {κ' : Kind}
    {src : Memref sig .tc sp' s' e'} {dst : Memref sig κ' sp s e} (hN : dst.view.dmaCredit = P.amountOf (some (.inl x)))
    {hsrc : src.view.WordExact} {hdst : dst.view.WordExact}
    {k : PUnit → Prog (TpuEff 8 TPU7 sig Val Λ .tc) α}
    (h : iprop(P.ctx E K ∗ P.owing c l ∗ (semVal (P.cell c (.inl x)) 0 ∗ P.payOf c 0 (some (.inl x))) ∗ Rest)
      ⊢ wp frame (wpE defs 𝒱 (c : Thread 8 TPU7) none) Set.univ (k ⟨⟩) Q) :
    iprop(P.ctx E K ∗ P.owing c l ∗ P.toWait E c (.inl x) (P.amountOf (some (.inl x))) ∗ Rest)
      ⊢ wp frame (wpE defs 𝒱 (c : Thread 8 TPU7) none) Set.univ (.op (.waitDma2 sem src dst hsrc hdst) k) Q := by
  unfold owing toWait at *
  iintro ⟨#Hc, ⟨%W, HO⟩, ⟨Hat, Hcr⟩, HR⟩
  iapply (Rounds.wp_wait_rest_token 𝒱 E P.Rd (c : Thread 8 TPU7) none (κ := K (c, x)) (sm := .dma sem) (k' := dst.view.dmaCredit)
      (wpE_waitDma2_eq 𝒱 (c : Thread 8 TPU7) none Set.univ) (Set.mem_univ _) () (O := P.due c l) (W := W) (R := 0) (m := 0) (T := ∅)
      (by rw [Nat.zero_add, hsem, hN]; exact (P.expect_one c (.inl x) hx).symm)) $$ [HO Hat Hcr]
  · rw [hsem, hN]
    isplitr; · iapply (P.ctx_inv E K c x); iexact Hc
    isplitl [Hcr]; · iexact Hcr
    isplitl [HO]; · iexact HO
    isplitr
    · iapply (P.mayWait c _ l lvl (by rw [decode_osem]; exact hlv.le) hl)
      unfold ctx; icases Hc with ⟨-, #Hl⟩; iexact Hl
    iexact Hat
  rw [hsem]
  iintro ⟨HO, Hat, -, Hpay⟩
  ihave Hp := (Entails.of_eq (P.rest_one c (.inl x) hx)) $$ Hpay
  imod (P.close E (K (c, x)) (P.cell c (.inl x))) $$ [Hat] with Hz
  · isplitr; · iapply (P.ctx_inv E K c x); iexact Hc
    iexact Hat
  iapply h
  isplitr; · iexact Hc
  isplitl [HO]; · iexists _; iexact HO
  isplitl [Hz Hp]
  · isplitl [Hz] <;> iassumption
  · iexact HR

/-- A lane's two waits. -/
theorem step_lane {x : A × Fin 7} {xs done : List (A × Fin 7)} (hl : ∀ y ∈ l, P.lvA x.1 < P.dueLv y)
    {sS sR : DmaSem sig} (hS : (.dma sS : SemLoc sig) = P.osem (.inl (.inr (.inl x)))) (hR : (.dma sR : SemLoc sig) = P.osem (.inl (.inr (.inr x))))
    {sp₁ sp₁' sp₂ sp₂' : Space} {s₁ s₁' s₂ s₂' : Shape} {e₁ e₁' e₂ e₂' : EltTy} {κ₁ κ₂ : Kind}
    {src₁ : Memref sig .tc sp₁' s₁' e₁'} {dst₁ : Memref sig κ₁ sp₁ s₁ e₁} (hN₁ : dst₁.view.dmaCredit = P.amt x.1)
    {src₂ : Memref sig .tc sp₂' s₂' e₂'} {dst₂ : Memref sig κ₂ sp₂ s₂ e₂} (hN₂ : dst₂.view.dmaCredit = P.amt x.1)
    {hsrc₁ : src₁.view.WordExact} {hdst₁ : dst₁.view.WordExact} {hsrc₂ : src₂.view.WordExact} {hdst₂ : dst₂.view.WordExact}
    {k : PUnit → Prog (TpuEff 8 TPU7 sig Val Λ .tc) α}
    (h : iprop(P.ctx E K ∗ P.owing c l ∗ all xs (P.lane E c) ∗ all (x :: done) (P.laneDone c) ∗ Rest)
      ⊢ wp frame (wpE defs 𝒱 (c : Thread 8 TPU7) none) Set.univ (k ⟨⟩) Q) :
    iprop(P.ctx E K ∗ P.owing c l ∗ all (x :: xs) (P.lane E c) ∗ all done (P.laneDone c) ∗ Rest)
      ⊢ wp frame (wpE defs 𝒱 (c : Thread 8 TPU7) none) Set.univ
          (.op (.waitDma2 sS src₁ dst₁ hsrc₁ hdst₁) fun _ => .op (.waitDma2 sR src₂ dst₂ hsrc₂ hdst₂) k) Q := by
  have hlt : ∀ y ∈ l, 0 < P.dueLv y := fun y hy => Nat.lt_of_le_of_lt (Nat.zero_le _) (hl y hy)
  have h2 := P.step_wait E 𝒱 K c (defs := defs) (x := .inr (.inr x)) rfl rfl hl hR (src := src₂) (dst := dst₂) hN₂ (hsrc := hsrc₂) (hdst := hdst₂) (k := k)
    (Rest := iprop((semVal (P.sndC c x) 0 ∗ all xs (P.lane E c)) ∗ all done (P.laneDone c) ∗ Rest)) (Q := Q)
    (by
      refine BIBase.Entails.trans ?_ h
      iintro ⟨Hc, HO, ⟨Hz, Hp⟩, ⟨Hs, Hxs⟩, Hd, HR⟩
      isplitl [Hc]; · iexact Hc
      isplitl [HO]; · iexact HO
      isplitl [Hxs]; · iexact Hxs
      isplitr [HR]
      · rw [all_cons]
        isplitr [Hd]
        · unfold laneDone
          isplitl [Hs]; · iexact Hs
          isplitl [Hz]; · iexact Hz
          iapply (Entails.of_eq (P.payOf_rcv c 0 x)); iexact Hp
        · iexact Hd
      · iexact HR)
  refine BIBase.Entails.trans ?_ (P.step_wait E 𝒱 K c (defs := defs) (x := .inr (.inl x)) rfl rfl hlt hS (src := src₁) (dst := dst₁) hN₁ (hsrc := hsrc₁) (hdst := hdst₁)
    (k := fun _ => .op (.waitDma2 sR src₂ dst₂ hsrc₂ hdst₂) k)
    (Rest := iprop((P.toWait E c (.inl (.inr (.inr x))) (P.amt x.1) ∗ all xs (P.lane E c)) ∗ all done (P.laneDone c) ∗ Rest)) (Q := Q)
    (by
      refine BIBase.Entails.trans ?_ h2
      iintro ⟨Hc, HO, ⟨Hz, -⟩, ⟨Hs, Hxs⟩, Hd, HR⟩
      isplitl [Hc]; · iexact Hc
      isplitl [HO]; · iexact HO
      isplitl [Hs]; · iexact Hs
      isplitl [Hz Hxs]
      · isplitl [Hz] <;> iassumption
      isplitl [Hd] <;> iassumption))
  rw [all_cons]
  unfold lane
  iintro ⟨Hc, HO, ⟨⟨H1, H2⟩, Hxs⟩, Hd, HR⟩
  isplitl [Hc]; · iexact Hc
  isplitl [HO]; · iexact HO
  isplitl [H1]; · iexact H1
  isplitl [H2 Hxs]
  · isplitl [H2] <;> iassumption
  isplitl [Hd] <;> iassumption

end Steps

end Plan

end Cert.Exchange

end
-- ==== Proof.Slots.lean ====
/-
  Arrays of eight slots: the elements of a slot, an array's points-to as those of its slots, and what a transfer from a
  slot of one array to a slot of another leaves there.
-/
module

public import proofs.«01_k».proof.Proof.Exchange
public import Idealize.ShloMosaic.Lib.Pipeline.Value

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-- Eight slots of `r` rows of `w`. -/
abbrev S3 (r w : ℕ) : Shape := ⟨3, ![8, r, w]⟩
/-- One slot. -/
abbrev S1 (r w : ℕ) : Shape := ⟨3, ![1, r, w]⟩
/-- The same, without the first axis. -/
abbrev S2 (r w : ℕ) : Shape := ⟨2, ![r, w]⟩

variable {r w : ℕ}

/-- The slot of an element. -/
def slotOf (i : (S3 r w).Idx) : Dev 8 := ⟨(i 0).val, (i 0).isLt⟩

/-- The elements of slot `j`. -/
def slot (r w : ℕ) (j : Dev 8) : Finset (S3 r w).Idx := Finset.univ.filter fun i => slotOf i = j

theorem mem_slot {j : Dev 8} {i : (S3 r w).Idx} : i ∈ slot r w j ↔ slotOf i = j := by simp [slot]

/-- The same place of slot `j`. -/
def move (j : Dev 8) (i : (S3 r w).Idx) : (S3 r w).Idx := fun a => if h : a = 0 then ⟨j.val, by subst h; exact j.isLt⟩ else i a

theorem slotOf_move (j : Dev 8) (i : (S3 r w).Idx) : slotOf (move j i) = j := by
  unfold slotOf move; simp

theorem move_move (j k : Dev 8) (i : (S3 r w).Idx) : move j (move k i) = move j i := by
  funext a
  unfold move
  by_cases h : a = 0
  · rw [dif_pos h, dif_pos h]
  · rw [dif_neg h, dif_neg h, dif_neg h]

theorem move_self {j : Dev 8} {i : (S3 r w).Idx} (h : slotOf i = j) : move j i = i := by
  funext a
  unfold move
  by_cases ha : a = 0
  · rw [dif_pos ha]
    subst ha; subst h
    rfl
  · rw [dif_neg ha]

theorem slot_unique (j k : Dev 8) (i : (S3 r w).Idx) (hj : i ∈ slot r w j) (hk : i ∈ slot r w k) : j = k :=
  (mem_slot.mp hj).symm.trans (mem_slot.mp hk)

theorem slot_exists (i : (S3 r w).Idx) : ∃ j, i ∈ slot r w j := ⟨slotOf i, mem_slot.mpr rfl⟩

/-- The elements of the rectangle that is slot `j`. -/
theorem unit_set {off : Fin 3 → ℕ} (j : Dev 8) (h : off = ![j.val, 0, 0])
    (inb : ∀ a, off a + (S1 r w).size a ≤ (S3 r w).size a) :
    (Rect.unit (s := S3 r w) off (S1 r w).size inb).set = slot r w j := by
  subst h
  ext i
  rw [Rect.mem_set_unit, mem_slot]
  constructor
  · intro hh
    obtain ⟨h1, h2⟩ := hh 0
    apply Fin.ext
    have h1 : j.val ≤ (i 0).val := h1
    have h2 : (i 0).val < j.val + 1 := h2
    show (i 0).val = j.val
    omega
  · rintro rfl a
    have := (i a).isLt
    fin_cases a
    · exact ⟨le_rfl, Nat.lt_succ_self _⟩
    · exact ⟨Nat.zero_le _, by simpa using this⟩
    · exact ⟨Nat.zero_le _, by simpa using this⟩

/-- The places of two slots' rectangles differ in the slot only. -/
theorem unit_move {offS offD : Fin 3 → ℕ} (s d : Dev 8) (hS : offS = ![s.val, 0, 0]) (hD : offD = ![d.val, 0, 0])
    (inbS : ∀ a, offS a + (S1 r w).size a ≤ (S3 r w).size a) (inbD : ∀ a, offD a + (S1 r w).size a ≤ (S3 r w).size a)
    (z : (S1 r w).Idx) :
    (Rect.unit (s := S3 r w) offS (S1 r w).size inbS).emb z = move s ((Rect.unit (s := S3 r w) offD (S1 r w).size inbD).emb z) := by
  subst hS hD
  funext a
  apply Fin.ext
  have hz := (z 0).isLt
  have hz : (z 0).val < 1 := hz
  unfold move
  by_cases h : a = 0
  · subst h
    rw [dif_pos rfl]
    show s.val + 1 * (z 0).val = s.val
    omega
  · rw [dif_neg h]
    show (![s.val, 0, 0] : Fin 3 → ℕ) a + 1 * (z a).val = (![d.val, 0, 0] : Fin 3 → ℕ) a + 1 * (z a).val
    fin_cases a
    · exact absurd rfl h
    · rfl
    · rfl

/-- The slot of a place of a slot's rectangle. -/
theorem unit_slot {off : Fin 3 → ℕ} (j : Dev 8) (h : off = ![j.val, 0, 0])
    (inb : ∀ a, off a + (S1 r w).size a ≤ (S3 r w).size a) (z : (S1 r w).Idx) :
    slotOf ((Rect.unit (s := S3 r w) off (S1 r w).size inb).emb z) = j := by
  rw [← mem_slot, ← unit_set j h inb, ← Rect.map_emb_univ]
  exact Finset.mem_map_of_mem _ (Finset.mem_univ z)

/-- What lands on device `c` when every device sends its slot `c`: in slot `j`, slot `c` of device `j`'s array. -/
def landed {V : Type} (X : Dev 8 → (S3 r w).Idx → V) (c : Dev 8) : (S3 r w).Idx → V := fun i => X (slotOf i) (move c i)

/-- Slot `c` of device `p`'s array, placed in slot `p`, is what device `c` is to receive there. -/
theorem landed_unit {V : Type} (X : Dev 8 → (S3 r w).Idx → V) {offS offD : Fin 3 → ℕ} (p c : Dev 8)
    (hS : offS = ![c.val, 0, 0]) (hD : offD = ![p.val, 0, 0])
    (inbS : ∀ a, offS a + (S1 r w).size a ≤ (S3 r w).size a) (inbD : ∀ a, offD a + (S1 r w).size a ≤ (S3 r w).size a)
    (z : (S1 r w).Idx) :
    landed X c ((Rect.unit (s := S3 r w) offD (S1 r w).size inbD).emb z) = X p ((Rect.unit (s := S3 r w) offS (S1 r w).size inbS).emb z) := by
  unfold landed
  rw [unit_slot p hD inbD z, unit_move c p hS hD inbS inbD z]

/-- The place of an element in its slot. -/
def place (i : (S3 r w).Idx) : (S2 r w).Idx
  | ⟨0, _⟩ => i 1
  | ⟨1, _⟩ => i 2

/-- A place of a slot as one of the slot with its first axis. -/
def lift (z : (S2 r w).Idx) : (S1 r w).Idx
  | ⟨0, _⟩ => (0 : Fin 1)
  | ⟨1, _⟩ => z 0
  | ⟨2, _⟩ => z 1

/-- The places of a slot's rectangle, without the first axis. -/
theorem unit_place {off : Fin 3 → ℕ} {j : Dev 8} (h : off = ![j.val, 0, 0])
    (inb : ∀ a, off a + (S1 r w).size a ≤ (S3 r w).size a) (hn : (S2 r w).numel = (S1 r w).numel) (z : (S2 r w).Idx) :
    place ((Rect.unit (s := S3 r w) off (S1 r w).size inb).emb (Shape.reshapeEquiv hn z)) = z := by
  have hz : Shape.reshapeEquiv hn z = lift z := Shape.reshapeEquiv_eq_of_rowMajor hn (by
    rw [Shape.rowMajor_val_three, Shape.rowMajor_val_two]
    show ((0 * r + (z 0).val) * w + (z 1).val) = (z 0).val * w + (z 1).val
    rw [Nat.zero_mul, Nat.zero_add])
  rw [hz]
  subst h
  funext a
  apply Fin.ext
  fin_cases a
  · show 0 + 1 * (z 0).val = (z 0).val
    omega
  · show 0 + 1 * (z 1).val = (z 1).val
    omega

/-- What every device ends with when every device sends its whole array: in slot `j`, device `j`'s array. -/
def gathered {V : Type} (X : Dev 8 → (S2 r w).Idx → V) : (S3 r w).Idx → V := fun i => X (slotOf i) (place i)

/-- A device and its seven peers are all devices. -/
theorem all_devices (c : Dev 8) : (Finset.univ : Finset (Dev 8)) = (c :: seven.map (peer c)).toFinset := by revert c; decide
theorem devices_nodup (c : Dev 8) : (c :: seven.map (peer c)).Nodup := by revert c; decide

section Memory

variable {sig : RefSig} {Val : EltTy → Type} {U : Type} [URA U]

local notation "𝕄" => MT 8 TPU7 sig Unit Val ℕ U ℕ

/-- A buffer is the slot of a device and those of its peers. -/
theorem by_slots {ℓ : Loc 8 TPU7 sig} {q : PosShare TreeShare} {f : Buf Val ℓ} (K : Dev 8 → Finset (Idx ℓ))
    (hd : ∀ j k i, i ∈ K j → i ∈ K k → j = k) (hu : ∀ i, ∃ j, i ∈ K j) (c : Dev 8) :
    (ℓ ↦{q} f : sProp 𝕄) = iprop((ℓ ↦[K c]{q} f) ∗ all seven fun d => ℓ ↦[K (peer c d)]{q} f) := by
  rw [show (ℓ ↦{q} f : sProp 𝕄) = (ℓ ↦[Finset.univ.biUnion K]{q} f) from by
      rw [show Finset.univ.biUnion K = Finset.univ from Finset.eq_univ_iff_forall.mpr fun i =>
        Finset.mem_biUnion.mpr ((hu i).imp fun j hj => ⟨Finset.mem_univ j, hj⟩)],
    pointsTo_biUnion Finset.univ K (fun j _ k _ h => Finset.disjoint_left.mpr fun i hi hk => h (hd j k i hi hk)), bigSep_univ_all _ (all_devices c) (devices_nodup c)]
  show iprop((ℓ ↦[K c]{q} f) ∗ all (seven.map (peer c)) fun j => (ℓ ↦[K j]{q} f : sProp 𝕄)) = _
  rw [all_map]

/-- What a whole write through a view leaves on the view's elements. -/
theorem write_view {κ : Kind} {sp : Space} {s : Shape} {e : EltTy} {v : View sig κ sp s e}
    (f g : v.ty.Contents Val) (x : s.Idx → Val e)
    (h : ∀ i, g (v.emb i) = _root_.cast (congrArg Val v.elt_eq.symm) (x i)) :
    ∀ i ∈ v.set, v.write Val f x Finset.univ i = g i := by
  intro i hi
  obtain ⟨j, -, rfl⟩ := Finset.mem_map.mp hi
  rw [View.write_emb_of_mem f x (Finset.mem_univ j), h]

end Memory

end Cert.Exchange

end
-- ==== Proof.Arrays.lean ====
/-
  The arrays of an exchange: what a device holds of one array's landing buffer and of the copy its transfers read, when
  each device sends every peer a slot of the copy and when it sends every peer the whole of it; and the operations of an
  exchange for an array of either kind.
-/
module

public import proofs.«01_k».proof.Proof.Steps
public import proofs.«01_k».proof.Proof.Slots
public import Idealize.SL.RA.TreeShare
public import Idealize.ShloMosaic.Lib.Pipeline.Value

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {sig : RefSig} {Val : EltTy → Type} {U : Type} [URA U]

local notation "𝕄" => MT 8 TPU7 sig Unit Val ℕ U ℕ

/-! ## A slot as the kernels address it -/

variable {r w : ℕ} {e : EltTy}

/-- Slot `off` of an array, without its first axis. -/
abbrev slotM (M : Memref sig .tc .hbm (S3 r w) e) (off : Fin 3 → ℕ) (inb : ∀ a, off a + (S1 r w).size a ≤ (S3 r w).size a)
    (sq : (S1 r w).Squeezes (S2 r w)) : Memref sig .tc .hbm (S2 r w) e :=
  (M.slice (Rect.unit (s := S3 r w) off (S1 r w).size inb) (fun _ => rfl)).squeeze (S2 r w) sq

/-- The elements of slot `j` of an array. -/
abbrev slotIn (M : Memref sig .tc .hbm (S3 r w) e) (j : Dev 8) : Finset M.view.ty.Idx := (slot r w j).map M.view.emb

theorem slotM_set (M : Memref sig .tc .hbm (S3 r w) e) {off : Fin 3 → ℕ} {inb : ∀ a, off a + (S1 r w).size a ≤ (S3 r w).size a}
    {sq : (S1 r w).Squeezes (S2 r w)} (j : Dev 8) (h : off = ![j.val, 0, 0]) : (slotM M off inb sq).view.set = slotIn M j := by
  show ((M.view.slice _).reshape _ _).set = _
  rw [View.set_reshape, View.set_slice, unit_set j h inb]

/-- What a transfer of one slot credits. -/
def slotAmt (M : Memref sig .tc .hbm (S3 r w) e) : ℕ := sig.dmaCredit .tc (Kind.tc.table .hbm) M.view.buf (S2 r w) e

/-- A whole array is its slots. -/
theorem array_slots (M : Memref sig .tc .hbm (S3 r w) e) (hM : M.IsWhole) (q : PosShare TreeShare) (c : Dev 8)
    (f : Buf Val (M.view.loc (c : Thread 8 TPU7))) :
    (M.view.loc (c : Thread 8 TPU7) ↦{q} f : sProp 𝕄)
      = iprop((M.view.loc (c : Thread 8 TPU7) ↦[slotIn M c]{q} f)
        ∗ all seven fun d => M.view.loc (c : Thread 8 TPU7) ↦[slotIn M (peer c d)]{q} f) :=
  by_slots (ℓ := M.view.loc (c : Thread 8 TPU7)) (slotIn M)
    (fun j k i hj hk => by
      obtain ⟨y, hy, rfl⟩ := Finset.mem_map.mp hj
      obtain ⟨z, hz, hzy⟩ := Finset.mem_map.mp hk
      obtain rfl := M.view.emb.injective hzy
      exact slot_unique j k z hy hz)
    (fun i => by
      have hi : i ∈ M.view.set := hM.set_eq_univ ▸ Finset.mem_univ i
      obtain ⟨y, -, rfl⟩ := Finset.mem_map.mp hi
      exact ⟨slotOf y, Finset.mem_map_of_mem _ (mem_slot.mpr rfl)⟩) c

/-- What a whole write through a view leaves, when the new contents are known by reading them back. -/
theorem write_read {κ : Kind} {sp : Space} {s : Shape} {v : View sig κ sp s e}
    (f g : v.ty.Contents Val) (x : s.Idx → Val e) (h : ∀ i, v.read Val g i = x i) :
    ∀ i ∈ v.set, v.write Val f x Finset.univ i = g i :=
  write_view f g x fun i => by rw [← h i, View.read_apply, cast_cast, cast_eq]

/-! ## What a device holds of an array -/

/-- Slot `j` of device `c`'s array, holding anything; -/
def someAt (M : Memref sig .tc .hbm (S3 r w) e) (c j : Dev 8) : sProp 𝕄 :=
  iprop(∃ f : Buf Val (M.view.loc (c : Thread 8 TPU7)), M.view.loc (c : Thread 8 TPU7) ↦[slotIn M j]{fullShare} f)
/-- holding the array's given contents. -/
def heldAt (M : Memref sig .tc .hbm (S3 r w) e) (g : (c : Dev 8) → Buf Val (M.view.loc (c : Thread 8 TPU7))) (c j : Dev 8) : sProp 𝕄 :=
  iprop(M.view.loc (c : Thread 8 TPU7) ↦[slotIn M j]{fullShare} g c)

instance someAt_storable (M : Memref sig .tc .hbm (S3 r w) e) (c j : Dev 8) : BI.Storable (upEmb : UEmb _ 𝕄) (someAt M c j) := by
  unfold someAt; infer_instance
instance heldAt_storable (M : Memref sig .tc .hbm (S3 r w) e) (g : (c : Dev 8) → Buf Val (M.view.loc (c : Thread 8 TPU7))) (c j : Dev 8) :
    BI.Storable (upEmb : UEmb _ 𝕄) (heldAt M g c j) := by
  unfold heldAt; infer_instance

theorem some_slots (M : Memref sig .tc .hbm (S3 r w) e) (hM : M.IsWhole) (c : Dev 8) :
    (iprop(∃ f : Buf Val (M.view.loc (c : Thread 8 TPU7)), M.view.loc (c : Thread 8 TPU7) ↦{fullShare} f) : sProp 𝕄)
      ⊢ iprop(someAt M c c ∗ all seven fun d => someAt M c (peer c d)) := by
  iintro ⟨%f, H⟩
  ihave H' := (Entails.of_eq (array_slots M hM fullShare c f)) $$ H
  icases H' with ⟨H1, H2⟩
  isplitl [H1]
  · unfold someAt; iexists f; iexact H1
  · iapply (all_mono seven fun d => (show (M.view.loc (c : Thread 8 TPU7) ↦[slotIn M (peer c d)]{fullShare} f : sProp 𝕄) ⊢ someAt M c (peer c d) from by
      unfold someAt; iintro H; iexists f; iexact H))
    iexact H2

variable (sig Val U) in
/-- One array of an exchange. -/
structure Arr where
  /-- What a transfer credits. -/
  amt : ℕ
  amt_pos : 0 < amt
  /-- Slot `j` of device `c`'s landing buffer before and after device `j` wrote it. -/
  blank : Dev 8 → Dev 8 → sProp 𝕄
  filled : Dev 8 → Dev 8 → sProp 𝕄
  /-- What the local copy reads, and what the transfer to peer `d` reads. -/
  mine : Dev 8 → sProp 𝕄
  send : Dev 8 → Fin 7 → sProp 𝕄
  /-- The copy, the landing buffer before the exchange, the landing buffer after it. -/
  src : Dev 8 → sProp 𝕄
  land : Dev 8 → sProp 𝕄
  done : Dev 8 → sProp 𝕄
  stBlank : ∀ c j, BI.Storable (upEmb : UEmb _ 𝕄) (blank c j)
  stFilled : ∀ c j, BI.Storable (upEmb : UEmb _ 𝕄) (filled c j)
  src_split : ∀ c, src c ⊢ iprop(mine c ∗ all seven (send c))
  land_split : ∀ c, land c ⊢ iprop(blank c c ∗ all seven fun d => blank c (peer c d))
  done_join : ∀ c, iprop(filled c c ∗ all seven fun d => filled c (peer c d)) ⊢ done c

/-- An array of which each device sends every peer a slot. -/
def scatterArr (L S : Memref sig .tc .hbm (S3 r w) e) (hL : L.IsWhole) (hS : S.IsWhole)
    (fS : (c : Dev 8) → Buf Val (S.view.loc (c : Thread 8 TPU7))) (g : (c : Dev 8) → Buf Val (L.view.loc (c : Thread 8 TPU7)))
    (hp : 0 < slotAmt L) : Arr sig Val U where
  amt := slotAmt L
  amt_pos := hp
  blank c j := someAt L c j
  filled c j := heldAt L g c j
  mine c := heldAt S fS c c
  send c d := heldAt S fS c (peer c d)
  src c := iprop(S.view.loc (c : Thread 8 TPU7) ↦{fullShare} fS c)
  land c := iprop(∃ f : Buf Val (L.view.loc (c : Thread 8 TPU7)), L.view.loc (c : Thread 8 TPU7) ↦{fullShare} f)
  done c := iprop(L.view.loc (c : Thread 8 TPU7) ↦{fullShare} g c)
  stBlank _ _ := inferInstance
  stFilled _ _ := inferInstance
  src_split c := Entails.of_eq (array_slots S hS fullShare c (fS c))
  land_split c := some_slots L hL c
  done_join c := Entails.of_eq (array_slots L hL fullShare c (g c)).symm

/-- What is left of a share after `n` readers took theirs, and what reader `n` takes. -/
def kept (q : PosShare TreeShare) : ℕ → PosShare TreeShare
  | 0 => q
  | n + 1 => (kept q n).left
def lent (q : PosShare TreeShare) (n : ℕ) : PosShare TreeShare := (kept q n).right

/-- A points-to cut in shares for `n` readers and one more. -/
theorem lend {ℓ : Loc 8 TPU7 sig} {I : Finset (Idx ℓ)} {f : Buf Val ℓ} (q : PosShare TreeShare) (k n : ℕ) :
    (ℓ ↦[I]{kept q k} f : sProp 𝕄) ⊢ iprop((ℓ ↦[I]{kept q (k + n)} f) ∗ all (List.range' k n) fun i => ℓ ↦[I]{lent q i} f) := by
  induction n generalizing k with
  | zero =>
    show _ ⊢ iprop((ℓ ↦[I]{kept q k} f) ∗ emp)
    iintro H; isplitl [H]; · iexact H
    iempintro
  | succ n ih =>
    rw [show k + (n + 1) = (k + 1) + n from by omega]
    show _ ⊢ iprop(_ ∗ ((ℓ ↦[I]{lent q k} f) ∗ all (List.range' (k + 1) n) fun i => ℓ ↦[I]{lent q i} f))
    refine (show (ℓ ↦[I]{kept q k} f : sProp 𝕄) ⊢ iprop((ℓ ↦[I]{kept q (k + 1)} f) ∗ ℓ ↦[I]{lent q k} f) from
      (pointsTo_share (PosShare.mem_left_op_right (kept q k))).1).trans ?_
    iintro ⟨H1, H2⟩
    ihave H1 := (ih (k + 1)) $$ H1
    icases H1 with ⟨H1, H3⟩
    isplitl [H1]; · iexact H1
    isplitl [H2] <;> iassumption

/-- An array that each device sends every peer whole: its copy is read by eight transfers at once, each with its share. -/
def gatherArr (L : Memref sig .tc .hbm (S3 r w) e) (S : Memref sig .tc .hbm (S2 r w) e) (hL : L.IsWhole) (hS : S.IsWhole)
    (fS : (c : Dev 8) → Buf Val (S.view.loc (c : Thread 8 TPU7))) (g : (c : Dev 8) → Buf Val (L.view.loc (c : Thread 8 TPU7)))
    (hp : 0 < slotAmt L) : Arr sig Val U where
  amt := slotAmt L
  amt_pos := hp
  blank c j := someAt L c j
  filled c j := heldAt L g c j
  mine c := iprop(S.view.loc (c : Thread 8 TPU7) ↦[S.view.set]{kept fullShare 7} fS c)
  send c d := iprop(S.view.loc (c : Thread 8 TPU7) ↦[S.view.set]{lent fullShare d.val} fS c)
  src c := iprop(S.view.loc (c : Thread 8 TPU7) ↦{fullShare} fS c)
  land c := iprop(∃ f : Buf Val (L.view.loc (c : Thread 8 TPU7)), L.view.loc (c : Thread 8 TPU7) ↦{fullShare} f)
  done c := iprop(L.view.loc (c : Thread 8 TPU7) ↦{fullShare} g c)
  stBlank _ _ := inferInstance
  stFilled _ _ := inferInstance
  src_split c := by
    rw [hS.set_eq_univ]
    refine (lend fullShare 0 7).trans (Entails.of_eq ?_)
    show iprop(_ ∗ all (seven.map Fin.val) fun i => (S.view.loc (c : Thread 8 TPU7) ↦{lent fullShare i} fS c : sProp 𝕄)) = _
    rw [all_map]
  land_split c := some_slots L hL c
  done_join c := Entails.of_eq (array_slots L hL fullShare c (g c)).symm

/-! ## An exchange -/

variable (sig Val U) in
/-- An exchange of arrays between the eight devices: the semaphores, the arrays in order, the transfers in order. -/
structure Ex (A : Type) where
  osem : CX Unit A → SemLoc sig
  bar : Sem sig
  osem_bar : osem (.inl (.inl ())) = .reg bar
  inj : Function.Injective osem
  arr : A → Arr sig Val U
  list : List A
  nodup : list.Nodup
  full : ∀ a, a ∈ list
  lanes : List (A × Fin 7)
  lanes_eq : lanes = list.flatMap fun a => seven.map fun d => (a, d)

variable {A : Type}

namespace Ex

variable (X : Ex sig Val U A)

/-- Its plan: the handshake hands over the slots that the peers write. -/
def plan : Plan sig Val U Unit A where
  osem := X.osem
  bar _ := X.bar
  osem_bar _ := X.osem_bar
  inj := X.inj
  amt a := (X.arr a).amt
  amt_pos a := (X.arr a).amt_pos
  arrs _ := X.list
  lvB _ := 1
  lvA _ := 2
  free c a d := (X.arr a).blank c (peer c d)
  got c a d := (X.arr a).filled c (peer c d)
  own c a := (X.arr a).filled c c
  stFree c a d := (X.arr a).stBlank c _
  stGot c a d := (X.arr a).stFilled c _
  stOwn c a := (X.arr a).stFilled c c

/-- What a local copy spends. -/
def home (c : Dev 8) (a : A) : sProp 𝕄 := iprop((X.arr a).mine c ∗ (X.arr a).blank c c)
/-- The source of each transfer. -/
def srcOf (c : Dev 8) (x : A × Fin 7) : sProp 𝕄 := (X.arr x.1).send c x.2

end Ex

/-- Array `a` of an exchange is one of which each device sends every peer a slot. -/
structure Scatters (X : Ex sig Val U A) (a : A) (L S : Memref sig .tc .hbm (S3 r w) e) where
  hL : L.IsWhole
  hS : S.IsWhole
  fS : (c : Dev 8) → Buf Val (S.view.loc (c : Thread 8 TPU7))
  g : (c : Dev 8) → Buf Val (L.view.loc (c : Thread 8 TPU7))
  hp : 0 < slotAmt L
  arr : X.arr a = scatterArr L S hL hS fS g hp
  /-- What is to land in slot `j` on device `c` is slot `c` of device `j`'s copy. -/
  lands : ∀ (c : Dev 8) (i : (S3 r w).Idx), L.view.read Val (g c) i = S.view.read Val (fS (slotOf i)) (move c i)

/-- Array `a` of an exchange is one that each device sends every peer whole. -/
structure Gathers (X : Ex sig Val U A) (a : A) (L : Memref sig .tc .hbm (S3 r w) e) (S : Memref sig .tc .hbm (S2 r w) e) where
  hL : L.IsWhole
  hS : S.IsWhole
  fS : (c : Dev 8) → Buf Val (S.view.loc (c : Thread 8 TPU7))
  g : (c : Dev 8) → Buf Val (L.view.loc (c : Thread 8 TPU7))
  hp : 0 < slotAmt L
  arr : X.arr a = gatherArr L S hL hS fS g hp
  /-- What is to land in slot `j` is device `j`'s copy. -/
  lands : ∀ (c : Dev 8) (i : (S3 r w).Idx), L.view.read Val (g c) i = S.view.read Val (fS (slotOf i)) (place i)

section Landing

variable {L : Memref sig .tc .hbm (S3 r w) e} {off : Fin 3 → ℕ} {inb : ∀ a, off a + (S1 r w).size a ≤ (S3 r w).size a}
  {sq : (S1 r w).Squeezes (S2 r w)}

/-- A landing slot given away, -/
theorem someAt_slot (c j : Dev 8) (h : off = ![j.val, 0, 0]) :
    (someAt L c j : sProp 𝕄) ⊢ iprop(∃ fd : Buf Val ((slotM L off inb sq).view.loc (c : Thread 8 TPU7)),
      (slotM L off inb sq).view.loc (c : Thread 8 TPU7) ↦[(slotM L off inb sq).view.set]{fullShare} fd) := by
  rw [slotM_set L j h]; exact Entails.of_eq rfl

/-- and once it is written. -/
theorem heldAt_slot {g : (c : Dev 8) → Buf Val (L.view.loc (c : Thread 8 TPU7))} (c j : Dev 8) (h : off = ![j.val, 0, 0])
    (fd : Buf Val ((slotM L off inb sq).view.loc (c : Thread 8 TPU7))) (x : (S2 r w).Idx → Val e)
    (hx : ∀ z, (slotM L off inb sq).view.read Val (g c) z = x z) :
    ((slotM L off inb sq).view.loc (c : Thread 8 TPU7) ↦[(slotM L off inb sq).view.set]{fullShare}
        ((slotM L off inb sq).view.write Val fd x Finset.univ) : sProp 𝕄) ⊢ heldAt L g c j := by
  refine BIBase.Entails.trans (Entails.of_eq ?_) (Entails.of_eq (rfl : (L.view.loc (c : Thread 8 TPU7) ↦[slotIn L j]{fullShare} g c : sProp 𝕄) = _))
  rw [← slotM_set (inb := inb) (sq := sq) L j h]
  exact pointsTo_congr (write_read (v := (slotM L off inb sq).view) fd (g c) x hx)

end Landing

variable [DecidableEq A] [Fintype A] (E : Emb (UX sig) (MT 8 TPU7 sig Unit Val ℕ U ℕ)) [E.LandsIn (upEmb : UEmb _ (MT 8 TPU7 sig Unit Val ℕ U ℕ))]
variable {Λ : Labels} {defs : Defs 8 TPU7 sig Val Λ} (𝒱 : Variants)
variable {X : Ex sig Val U A} {a : A}

namespace Scatters

variable {L S : Memref sig .tc .hbm (S3 r w) e} (H : Scatters X a L S)
include H

variable {off offS : Fin 3 → ℕ} {inb : ∀ a, off a + (S1 r w).size a ≤ (S3 r w).size a}
  {inbS : ∀ a, offS a + (S1 r w).size a ≤ (S3 r w).size a} {sq sqS : (S1 r w).Squeezes (S2 r w)}

omit [DecidableEq A] [Fintype A] in
theorem written (c p : Dev 8) (hS : offS = ![c.val, 0, 0]) (hD : off = ![p.val, 0, 0])
    (fd : Buf Val ((slotM L off inb sq).view.loc (c : Thread 8 TPU7))) :
    ((slotM L off inb sq).view.loc (c : Thread 8 TPU7) ↦[(slotM L off inb sq).view.set]{fullShare}
        ((slotM L off inb sq).view.write Val fd ((slotM S offS inbS sqS).view.read Val (H.fS p)) Finset.univ) : sProp 𝕄) ⊢ (X.arr a).filled c p := by
  rw [H.arr]
  refine heldAt_slot c p hD fd _ fun z => ?_
  refine (H.lands c ((Rect.unit (s := S3 r w) off (S1 r w).size inb).emb (Shape.reshapeEquiv (Shape.Squeezes.numel_eq sq) z))).trans ?_
  rw [unit_slot p hD inb, ← unit_move c p hS hD inbS inb]
  rfl

omit [DecidableEq A] [Fintype A] in
theorem reads (c j : Dev 8) (h : offS = ![j.val, 0, 0]) :
    (heldAt S H.fS c j : sProp 𝕄) ⊢ ((slotM S offS inbS sqS).view.loc (c : Thread 8 TPU7) ↦[(slotM S offS inbS sqS).view.set]{fullShare} H.fS c) := by
  rw [slotM_set S j h]; exact Entails.of_eq rfl

/-- The local copy. -/
theorem copy (c : Dev 8) {Y Rest : sProp 𝕄} {tl done : List A} {sem : SemLoc sig} (hsem : sem = X.osem (.inr a))
    (hS : offS = ![c.val, 0, 0]) (hD : off = ![c.val, 0, 0])
    {hsrc : (slotM S offS inbS sqS).view.WordExact} {hdst : (slotM L off inb sq).view.WordExact}
    {hty : DmaTarget.Typed (nD := 8) (τ := TPU7) (p := .tc) .hbm sem (.here (slotM L off inb sq))} (hcr : (slotM L off inb sq).view.amount sem = slotAmt L)
    {α : Type} {k : PUnit → Prog (TpuEff 8 TPU7 sig Val Λ .tc) α} {Q : α → sProp 𝕄}
    (h : iprop(Y ∗ (all tl fun a => iprop(X.plan.locUp E c a ∗ X.home c a)) ∗ all (a :: done) (X.plan.inFlight E c) ∗ Rest)
      ⊢ wp frame (wpE defs 𝒱 (c : Thread 8 TPU7) none) Set.univ (k ⟨⟩) Q) :
    iprop(Y ∗ (all (a :: tl) fun a => iprop(X.plan.locUp E c a ∗ X.home c a)) ∗ all done (X.plan.inFlight E c) ∗ Rest)
      ⊢ wp frame (wpE defs 𝒱 (c : Thread 8 TPU7) none) Set.univ
          (.op (.enqueueDma (slotM S offS inbS sqS) (.here (slotM L off inb sq)) sem hsrc hdst hty) k) Q :=
  X.plan.step_copy E 𝒱 c (res := X.home c) (src := slotM S offS inbS sqS) (dst := slotM L off inb sq) (q := fullShare) (fs := H.fS c)
    hsem (by unfold Ex.home; rw [H.arr]; exact BI.sep_mono (H.reads c c hS) (someAt_slot c c hD))
    (hcr.trans (by show _ = (X.arr a).amt; rw [H.arr]; rfl))
    (fun fd => H.written c c hS hD fd) h

/-- A transfer. -/
theorem send (K : Dev 8 × UC Unit A → ℕ) (c : Dev 8) (j : Fin 7) {Rest : sProp 𝕄} {l : List (Plan.Due Unit A)} {xs done : List (A × Fin 7)}
    {n : Dev 8} (hn : n = peer c j)
    {sS sem : SemLoc sig} (hsS : sS = X.osem (.inl (.inr (.inl (a, j))))) (hsem : sem = X.osem (.inl (.inr (.inr (a, j)))))
    (hS : offS = ![(peer c j).val, 0, 0]) (hD : off = ![c.val, 0, 0]) (hcr : (slotM L off inb sq).view.amount sem = slotAmt L)
    {hsc : (slotM L off inb sq).view.ref.isScScratch = false} {hsrc : (slotM S offS inbS sqS).view.WordExact} {hdst : (slotM L off inb sq).view.WordExact}
    {hty : DmaTarget.Typed .hbm sem (.remote (Dev.tc n : Thread 8 TPU7) (slotM L off inb sq) sS hsc)}
    {α : Type} {k : PUnit → Prog (TpuEff 8 TPU7 sig Val Λ .tc) α} {Q : α → sProp 𝕄}
    (h : iprop(X.plan.ctx E K ∗ X.plan.owing c l ∗ all xs (X.plan.toSend E c (X.srcOf c))
        ∗ (all ((a, j) :: done) fun x => cred (tallyAt (X.plan.sndC c x) () (X.plan.amt x.1))) ∗ Rest)
      ⊢ wp frame (wpE defs 𝒱 (c : Thread 8 TPU7) none) Set.univ (k ⟨⟩) Q) :
    iprop(X.plan.ctx E K ∗ X.plan.owing c (.inr (a, j) :: l) ∗ all ((a, j) :: xs) (X.plan.toSend E c (X.srcOf c))
        ∗ (all done fun x => cred (tallyAt (X.plan.sndC c x) () (X.plan.amt x.1))) ∗ Rest)
      ⊢ wp frame (wpE defs 𝒱 (c : Thread 8 TPU7) none) Set.univ
          (.op (.enqueueDma (slotM S offS inbS sqS) (.remote (Dev.tc n : Thread 8 TPU7) (slotM L off inb sq) sS hsc) sem hsrc hdst hty) k) Q :=
  X.plan.step_send E 𝒱 K c (x := (a, j)) hn (src := slotM S offS inbS sqS) (dst := slotM L off inb sq) (q := fullShare) (fs := H.fS c)
    hsS hsem (by unfold Ex.srcOf; rw [H.arr]; exact H.reads c (peer c j) hS)
    (by
      show (X.arr a).blank (peer c j) (peer (peer c j) j) ⊢ _
      rw [peer_peer, H.arr]; exact someAt_slot (peer c j) c hD)
    (hcr.trans (by show _ = (X.arr a).amt; rw [H.arr]; rfl))
    (fun fd => (H.written (peer c j) c hS hD fd).trans (Entails.of_eq (by
      show (X.arr a).filled (peer c j) c = (X.arr a).filled (peer c j) (peer (peer c j) j)
      rw [peer_peer]))) h

/-- Its two waits. -/
theorem wait (K : Dev 8 × UC Unit A → ℕ) (c : Dev 8) (j : Fin 7) {Rest : sProp 𝕄} {xs done : List (A × Fin 7)} {sS sR : DmaSem sig}
    (hS : (.dma sS : SemLoc sig) = X.osem (.inl (.inr (.inl (a, j))))) (hR : (.dma sR : SemLoc sig) = X.osem (.inl (.inr (.inr (a, j)))))
    (hcr : slotAmt S = slotAmt L)
    {h₁ : (slotM L off inb sq).view.WordExact} {h₂ : (slotM S offS inbS sqS).view.WordExact} {h₃ : (slotM S offS inbS sqS).view.WordExact}
    {h₄ : (slotM L off inb sq).view.WordExact}
    {α : Type} {k : PUnit → Prog (TpuEff 8 TPU7 sig Val Λ .tc) α} {Q : α → sProp 𝕄}
    (h : iprop(X.plan.ctx E K ∗ X.plan.owing c [] ∗ all xs (X.plan.lane E c) ∗ all ((a, j) :: done) (X.plan.laneDone c) ∗ Rest)
      ⊢ wp frame (wpE defs 𝒱 (c : Thread 8 TPU7) none) Set.univ (k ⟨⟩) Q) :
    iprop(X.plan.ctx E K ∗ X.plan.owing c [] ∗ all ((a, j) :: xs) (X.plan.lane E c) ∗ all done (X.plan.laneDone c) ∗ Rest)
      ⊢ wp frame (wpE defs 𝒱 (c : Thread 8 TPU7) none) Set.univ
          (.op (.waitDma2 sS (slotM L off inb sq) (slotM S offS inbS sqS) h₁ h₂) fun _ =>
            .op (.waitDma2 sR (slotM S offS inbS sqS) (slotM L off inb sq) h₃ h₄) k) Q :=
  X.plan.step_lane E 𝒱 K c (x := (a, j)) (src₁ := slotM L off inb sq) (dst₁ := slotM S offS inbS sqS) (src₂ := slotM S offS inbS sqS)
    (dst₂ := slotM L off inb sq) (fun _ hx => absurd hx List.not_mem_nil) hS hR
    (show slotAmt S = (X.arr a).amt from hcr.trans (by rw [H.arr]; rfl)) (show slotAmt L = (X.arr a).amt from (by rw [H.arr]; rfl)) h

end Scatters

namespace Gathers

variable {L : Memref sig .tc .hbm (S3 r w) e} {S : Memref sig .tc .hbm (S2 r w) e} (H : Gathers X a L S)
include H

variable {off : Fin 3 → ℕ} {inb : ∀ a, off a + (S1 r w).size a ≤ (S3 r w).size a} {sq : (S1 r w).Squeezes (S2 r w)}

omit [DecidableEq A] [Fintype A] in
theorem written (c p : Dev 8) (hD : off = ![p.val, 0, 0]) (fd : Buf Val ((slotM L off inb sq).view.loc (c : Thread 8 TPU7))) :
    ((slotM L off inb sq).view.loc (c : Thread 8 TPU7) ↦[(slotM L off inb sq).view.set]{fullShare}
        ((slotM L off inb sq).view.write Val fd (S.view.read Val (H.fS p)) Finset.univ) : sProp 𝕄) ⊢ (X.arr a).filled c p := by
  rw [H.arr]
  refine heldAt_slot c p hD fd _ fun z => ?_
  refine (H.lands c ((Rect.unit (s := S3 r w) off (S1 r w).size inb).emb (Shape.reshapeEquiv (Shape.Squeezes.numel_eq sq) z))).trans ?_
  rw [unit_slot p hD inb, unit_place hD inb (Shape.Squeezes.numel_eq sq) z]

/-- The local copy. -/
theorem copy (c : Dev 8) {Y Rest : sProp 𝕄} {tl done : List A} {sem : SemLoc sig} (hsem : sem = X.osem (.inr a))
    (hD : off = ![c.val, 0, 0])
    {hsrc : S.view.WordExact} {hdst : (slotM L off inb sq).view.WordExact}
    {hty : DmaTarget.Typed (nD := 8) (τ := TPU7) (p := .tc) .hbm sem (.here (slotM L off inb sq))} (hcr : (slotM L off inb sq).view.amount sem = slotAmt L)
    {α : Type} {k : PUnit → Prog (TpuEff 8 TPU7 sig Val Λ .tc) α} {Q : α → sProp 𝕄}
    (h : iprop(Y ∗ (all tl fun a => iprop(X.plan.locUp E c a ∗ X.home c a)) ∗ all (a :: done) (X.plan.inFlight E c) ∗ Rest)
      ⊢ wp frame (wpE defs 𝒱 (c : Thread 8 TPU7) none) Set.univ (k ⟨⟩) Q) :
    iprop(Y ∗ (all (a :: tl) fun a => iprop(X.plan.locUp E c a ∗ X.home c a)) ∗ all done (X.plan.inFlight E c) ∗ Rest)
      ⊢ wp frame (wpE defs 𝒱 (c : Thread 8 TPU7) none) Set.univ
          (.op (.enqueueDma S (.here (slotM L off inb sq)) sem hsrc hdst hty) k) Q :=
  X.plan.step_copy E 𝒱 c (res := X.home c) (src := S) (dst := slotM L off inb sq) (q := kept fullShare 7) (fs := H.fS c)
    hsem (by unfold Ex.home; rw [H.arr]; exact BI.sep_mono (BI.Entails.refl _) (someAt_slot c c hD))
    (hcr.trans (by show _ = (X.arr a).amt; rw [H.arr]; rfl))
    (fun fd => H.written c c hD fd) h

/-- A transfer. -/
theorem send (K : Dev 8 × UC Unit A → ℕ) (c : Dev 8) (j : Fin 7) {Rest : sProp 𝕄} {l : List (Plan.Due Unit A)} {xs done : List (A × Fin 7)}
    {n : Dev 8} (hn : n = peer c j)
    {sS sem : SemLoc sig} (hsS : sS = X.osem (.inl (.inr (.inl (a, j))))) (hsem : sem = X.osem (.inl (.inr (.inr (a, j)))))
    (hD : off = ![c.val, 0, 0]) (hcr : (slotM L off inb sq).view.amount sem = slotAmt L)
    {hsc : (slotM L off inb sq).view.ref.isScScratch = false} {hsrc : S.view.WordExact} {hdst : (slotM L off inb sq).view.WordExact}
    {hty : DmaTarget.Typed .hbm sem (.remote (Dev.tc n : Thread 8 TPU7) (slotM L off inb sq) sS hsc)}
    {α : Type} {k : PUnit → Prog (TpuEff 8 TPU7 sig Val Λ .tc) α} {Q : α → sProp 𝕄}
    (h : iprop(X.plan.ctx E K ∗ X.plan.owing c l ∗ all xs (X.plan.toSend E c (X.srcOf c))
        ∗ (all ((a, j) :: done) fun x => cred (tallyAt (X.plan.sndC c x) () (X.plan.amt x.1))) ∗ Rest)
      ⊢ wp frame (wpE defs 𝒱 (c : Thread 8 TPU7) none) Set.univ (k ⟨⟩) Q) :
    iprop(X.plan.ctx E K ∗ X.plan.owing c (.inr (a, j) :: l) ∗ all ((a, j) :: xs) (X.plan.toSend E c (X.srcOf c))
        ∗ (all done fun x => cred (tallyAt (X.plan.sndC c x) () (X.plan.amt x.1))) ∗ Rest)
      ⊢ wp frame (wpE defs 𝒱 (c : Thread 8 TPU7) none) Set.univ
          (.op (.enqueueDma S (.remote (Dev.tc n : Thread 8 TPU7) (slotM L off inb sq) sS hsc) sem hsrc hdst hty) k) Q :=
  X.plan.step_send E 𝒱 K c (x := (a, j)) hn (src := S) (dst := slotM L off inb sq) (q := lent fullShare j.val) (fs := H.fS c)
    hsS hsem (by unfold Ex.srcOf; rw [H.arr]; exact BI.Entails.refl _)
    (by
      show (X.arr a).blank (peer c j) (peer (peer c j) j) ⊢ _
      rw [peer_peer, H.arr]; exact someAt_slot (peer c j) c hD)
    (hcr.trans (by show _ = (X.arr a).amt; rw [H.arr]; rfl))
    (fun fd => (H.written (peer c j) c hD fd).trans (Entails.of_eq (by
      show (X.arr a).filled (peer c j) c = (X.arr a).filled (peer c j) (peer (peer c j) j)
      rw [peer_peer]))) h

/-- Its two waits. -/
theorem wait (K : Dev 8 × UC Unit A → ℕ) (c : Dev 8) (j : Fin 7) {Rest : sProp 𝕄} {xs done : List (A × Fin 7)} {sS sR : DmaSem sig}
    (hS : (.dma sS : SemLoc sig) = X.osem (.inl (.inr (.inl (a, j))))) (hR : (.dma sR : SemLoc sig) = X.osem (.inl (.inr (.inr (a, j)))))
    (hcr : S.view.dmaCredit = slotAmt L)
    {h₁ : (slotM L off inb sq).view.WordExact} {h₂ : S.view.WordExact} {h₃ : S.view.WordExact} {h₄ : (slotM L off inb sq).view.WordExact}
    {α : Type} {k : PUnit → Prog (TpuEff 8 TPU7 sig Val Λ .tc) α} {Q : α → sProp 𝕄}
    (h : iprop(X.plan.ctx E K ∗ X.plan.owing c [] ∗ all xs (X.plan.lane E c) ∗ all ((a, j) :: done) (X.plan.laneDone c) ∗ Rest)
      ⊢ wp frame (wpE defs 𝒱 (c : Thread 8 TPU7) none) Set.univ (k ⟨⟩) Q) :
    iprop(X.plan.ctx E K ∗ X.plan.owing c [] ∗ all ((a, j) :: xs) (X.plan.lane E c) ∗ all done (X.plan.laneDone c) ∗ Rest)
      ⊢ wp frame (wpE defs 𝒱 (c : Thread 8 TPU7) none) Set.univ
          (.op (.waitDma2 sS (slotM L off inb sq) S h₁ h₂) fun _ => .op (.waitDma2 sR S (slotM L off inb sq) h₃ h₄) k) Q :=
  X.plan.step_lane E 𝒱 K c (x := (a, j)) (src₁ := slotM L off inb sq) (dst₁ := S) (src₂ := S)
    (dst₂ := slotM L off inb sq) (fun _ hx => absurd hx List.not_mem_nil) hS hR
    (show S.view.dmaCredit = (X.arr a).amt from hcr.trans (by rw [H.arr]; rfl)) (show slotAmt L = (X.arr a).amt from (by rw [H.arr]; rfl)) h

end Gathers

end Cert.Exchange

end
-- ==== Proof.Ghost.lean ====
/-
  What a device holds between the launch and the end: before the start kernel, while it runs, between the two kernels,
  after the wait kernel, and how each state follows from the one before. Over any exchange.
-/
module

public import proofs.«01_k».proof.Proof.Arrays
public import Idealize.ShloMosaic.Lib.Pipeline.Regions
public import Idealize.ShloMosaic.Lib.Pipeline.Kit

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Lists -/

theorem all_perm {M : Type} [URA M] {I : Type} {l l' : List I} (h : l.Perm l') (Φ : I → sProp M) : all l Φ ⊢ all l' Φ := by
  induction h with
  | nil => exact BI.Entails.refl _
  | cons x _ ih =>
    rw [all_cons, all_cons]
    iintro ⟨H1, H2⟩
    isplitl [H1]; · iexact H1
    iapply ih; iexact H2
  | swap x y l =>
    simp only [all_cons]
    iintro ⟨H1, H2, H3⟩
    isplitl [H2]; · iexact H2
    isplitl [H1] <;> iassumption
  | trans _ _ ih1 ih2 => exact ih1.trans ih2

theorem all_reverse {M : Type} [URA M] {I : Type} (l : List I) (Φ : I → sProp M) : all l.reverse Φ ⊢ all l Φ :=
  all_perm l.reverse_perm Φ

variable {sig : RefSig} {Val : EltTy → Type} {U : Type} [URA U] {A : Type}

local notation "𝕄" => MT 8 TPU7 sig Unit Val ℕ U ℕ

namespace Ex

variable (X : Ex sig Val U A)

/-- What a device owes for its transfers, -/
def sends : List (Plan.Due Unit A) := X.lanes.map Sum.inr
/-- and with the signals before them. -/
def dues : List (Plan.Due Unit A) := (seven.map fun d => Sum.inl ((), d)) ++ X.sends

theorem sends_level : ∀ x ∈ X.sends, X.plan.lvB () < X.plan.dueLv x := by
  intro x hx
  obtain ⟨y, -, rfl⟩ := List.mem_map.mp hx
  exact Nat.one_lt_two

/-- The transfers by array. -/
theorem by_array {M : Type} [URA M] (Φ : A × Fin 7 → sProp M) : all X.lanes Φ ⊣⊢ all X.list fun a => all seven fun d => Φ (a, d) := by
  rw [X.lanes_eq, show (fun a : A => all seven fun d => Φ (a, d)) = fun a => all (seven.map fun d => (a, d)) Φ from
    funext fun a => (all_map seven (fun d => (a, d)) Φ).symm]
  exact all_flatMap X.list _ Φ

theorem by_lanes {M : Type} [URA M] (Φ : A → Fin 7 → sProp M) :
    (all seven fun d => all X.list fun a => Φ a d) ⊢ all X.lanes fun x => Φ x.1 x.2 :=
  (all_comm seven X.list fun d a => Φ a d).trans (X.by_array fun x => Φ x.1 x.2).2

variable [DecidableEq A] [Fintype A] (E : Emb (UX sig) (MT 8 TPU7 sig Unit Val ℕ U ℕ)) (c : Dev 8)

/-- What each device owes at the launch. -/
def O₀ (c : Dev 8) : CellTallies 8 TPU7 sig Unit := X.plan.due c X.dues

/-! ## The states -/

/-- The tokens of the transfers and their sources. -/
def toks : sProp 𝕄 :=
  all X.lanes fun x => iprop(dutyTok E (X.plan.sndC c x) 0 0 ∗ dutyTok E (X.plan.rcvC (peer c x.2) x) 0 0 ∗ X.srcOf c x)
/-- What the local copies spend. -/
def homes : sProp 𝕄 := all X.list fun a => iprop(X.plan.locUp E c a ∗ X.home c a)
/-- What the start kernel needs besides the records, -/
def startNeeds : sProp 𝕄 :=
  iprop(all seven (X.plan.toSignal E c ()) ∗ X.plan.toWait E c (.inl (.inl ())) 7 ∗ X.homes E c ∗ X.toks E c)
/-- and what it leaves. -/
def startLeaves : sProp 𝕄 :=
  iprop((all X.lanes.reverse fun x => cred (tallyAt (X.plan.sndC c x) () (X.plan.amt x.1)))
    ∗ (all X.list.reverse fun a => iprop(semVal (X.plan.locC c a) 0 ∗ X.plan.own c a))
    ∗ semVal (X.plan.barC c ()) 0)

/-- A lane before its transfer starts: the positions on its two cells and the credit of its receive cell. -/
def idle : sProp 𝕄 :=
  all X.lanes fun x => iprop(atPos E (X.plan.sndC c x) 0 ∅ 0 ∗ X.plan.toWait E c (.inl (.inr (.inr x))) (X.plan.amt x.1))

/-- After the launch. -/
def ready : sProp 𝕄 := iprop((∃ K, X.plan.ctx E K)
  ∗ (all seven fun d => dutyTok E (X.plan.barC (peer c d) ()) 0 d)
  ∗ X.plan.toWait E c (.inl (.inl ())) 7
  ∗ (all X.lanes fun x => iprop(dutyTok E (X.plan.sndC c x) 0 0 ∗ dutyTok E (X.plan.rcvC (peer c x.2) x) 0 0))
  ∗ X.idle E c
  ∗ all X.list (X.plan.locRaw E c))

/-- As the start kernel begins. -/
def begun : sProp 𝕄 := iprop((∃ K, X.plan.ctx E K) ∗ X.startNeeds E c ∗ X.idle E c)

/-- Between the kernels. -/
def mid : sProp 𝕄 := iprop((∃ K, X.plan.ctx E K) ∗ (all X.lanes (X.plan.lane E c)) ∗ (all X.list (X.plan.own c))
  ∗ semVal (X.plan.barC c ()) 0)

/-- The start kernel's own semaphores, at zero. -/
def locals : sProp 𝕄 := all X.list fun a => semVal (X.plan.locC c a) 0

/-- The semaphores the launch owns, all at zero. -/
def zeros : sProp 𝕄 := bigSep Finset.univ fun u : UC Unit A => semVal (X.plan.cell c (.inl u)) 0

/-- At the end. -/
def ended : sProp 𝕄 := iprop((all X.list fun a => (X.arr a).done c) ∗ X.zeros c)

/-! ## From each to the next -/

theorem over_unit {M : Type} [URA M] (Φ : Unit → sProp M) : bigSep Finset.univ Φ = Φ () := by
  rw [show (Finset.univ : Finset Unit) = {()} from rfl, bigSep_singleton]
theorem over_arrays {M : Type} [URA M] (Φ : A → sProp M) : bigSep Finset.univ Φ = all X.list Φ :=
  bigSep_univ_all X.list (Finset.eq_univ_iff_forall.mpr fun a => List.mem_toFinset.mpr (X.full a)).symm X.nodup Φ
theorem over_lanes {M : Type} [URA M] (Φ : A × Fin 7 → sProp M) : bigSep Finset.univ Φ ⊣⊢ all X.lanes Φ := by
  rw [BI.bigSep_univ_prod, X.over_arrays]
  have h : (fun a : A => bigSep Finset.univ fun d => Φ (a, d)) = fun a => all seven fun d => Φ (a, d) :=
    funext fun a => bigSep_univ_all seven (by decide) (by decide) _
  rw [h]
  exact ⟨(X.by_array Φ).2, (X.by_array Φ).1⟩
theorem over_bar {M : Type} [URA M] (Φ : Unit × Fin 7 → sProp M) : bigSep Finset.univ Φ = all seven fun d => Φ ((), d) := by
  rw [BI.bigSep_univ_prod, over_unit]
  exact bigSep_univ_all seven (by decide) (by decide) _
theorem over_cells {M : Type} [URA M] (Φ : UC Unit A → sProp M) : bigSep Finset.univ Φ
    ⊣⊢ iprop(Φ (.inl ()) ∗ (all X.lanes fun x => Φ (.inr (.inl x))) ∗ all X.lanes fun x => Φ (.inr (.inr x))) := by
  rw [BI.bigSep_univ_sum, BI.bigSep_univ_sum, over_unit]
  exact ⟨BI.sep_mono (BI.Entails.refl _) (BI.sep_mono (X.over_lanes _).1 (X.over_lanes _).1),
    BI.sep_mono (BI.Entails.refl _) (BI.sep_mono (X.over_lanes _).2 (X.over_lanes _).2)⟩

theorem credits : (Pipeline.launchCred X.O₀ c : sProp 𝕄)
    ⊢ iprop(cred (tallyAt (X.plan.barC c ()) () 7) ∗ all X.lanes fun x => cred (tallyAt (X.plan.rcvC c x) () (X.plan.amt x.1))) := by
  refine (X.plan.creds c X.dues).trans ((all_append _ _ _).1.trans ?_)
  refine BI.sep_mono ?_ ?_
  · rw [all_map]
    exact Plan.cred_units (X.plan.barC c ()) seven
  · unfold sends
    rw [all_map]
    exact BI.Entails.refl _

theorem ready_intro : iprop((∃ K, X.plan.records E K) ∗ X.plan.linear E c ∗ (bigSep Finset.univ fun a => X.plan.locRaw E c a)
      ∗ levAts Plan.L X.plan.lv ∗ Pipeline.launchCred X.O₀ c) ⊢ (X.ready E c : sProp 𝕄) := by
  unfold Plan.linear ready idle Plan.toWait Plan.ctx
  rw [over_bar, X.over_arrays]
  iintro ⟨⟨%K, HK⟩, ⟨Ha, HtB, HtS, HtR⟩, Hl, Hlev, Hcr⟩
  ihave Ha := (X.over_cells fun u => atPos E (X.plan.cell c (.inl u)) 0 ∅ 0).1 $$ Ha
  icases Ha with ⟨HaB, HaS, HaR⟩
  ihave HtS := (X.over_lanes fun l => dutyTok E (X.plan.sndC c l) 0 0).1 $$ HtS
  ihave HtR := (X.over_lanes fun l => dutyTok E (X.plan.rcvC (peer c l.2) l) 0 0).1 $$ HtR
  ihave Hcr' := (X.credits c) $$ Hcr
  icases Hcr' with ⟨HcB, HcR⟩
  isplitl [HK Hlev]
  · iexists K; isplitl [HK] <;> iassumption
  isplitl [HtB]; · iexact HtB
  isplitl [HaB HcB]
  · isplitl [HaB] <;> iassumption
  isplitl [HtS HtR]
  · iapply (all_sep _ _ _).2
    isplitl [HtS] <;> iassumption
  isplitl [HaS HaR HcR]
  · iapply (all_sep _ _ _).2
    isplitl [HaS]; · iexact HaS
    iapply (all_sep _ _ _).2
    isplitl [HaR] <;> iassumption
  iexact Hl

variable [E.LandsIn (upEmb : UEmb _ (MT 8 TPU7 sig Unit Val ℕ U ℕ))]

theorem begun_intro :
    iprop(X.ready E c ∗ X.locals c ∗ (all X.list fun a => (X.arr a).src c) ∗ (all X.list fun a => (X.arr a).land c))
      ⊢ (|={Set.univ}=> X.begun E c : sProp 𝕄) := by
  have hup : iprop((all X.list fun a => semVal (X.plan.locC c a) 0) ∗ all X.list (X.plan.locRaw E c))
      ⊢ (|={Set.univ}=> all X.list (X.plan.locUp E c) : sProp 𝕄) :=
    (all_sep _ _ _).2.trans ((all_mono _ fun a => X.plan.locUp_intro E c a).trans (all_fupd _ _))
  have hsrc : (all X.list fun a => (X.arr a).src c) ⊢ (iprop((all X.list fun a => (X.arr a).mine c) ∗ all X.lanes (X.srcOf c)) : sProp 𝕄) :=
    ((all_mono _ fun a => (X.arr a).src_split c).trans (all_sep _ _ _).1).trans (sep_mono_right (X.by_array (X.srcOf c)).2)
  have hland : (all X.list fun a => (X.arr a).land c) ⊢ (iprop((all X.list fun a => (X.arr a).blank c c)
      ∗ all seven fun d => all X.list fun a => (X.arr a).blank c (peer c d)) : sProp 𝕄) :=
    ((all_mono _ fun a => (X.arr a).land_split c).trans (all_sep _ _ _).1).trans (sep_mono_right (all_comm _ _ _))
  unfold ready begun startNeeds locals toks homes
  iintro ⟨⟨HK, HtB, HwB, Ht, Hi, Hl⟩, Hz, Hs, Hb⟩
  ihave Hs := hsrc $$ Hs
  icases Hs with ⟨Hm, Hs⟩
  ihave Hb := hland $$ Hb
  icases Hb with ⟨Hb, HB⟩
  imod hup $$ [Hz Hl] with Hl
  · isplitl [Hz] <;> iassumption
  imodintro
  isplitl [HK]; · iexact HK
  isplitr [Hi]
  · isplitl [HtB HB]
    · iapply (show iprop((all seven fun d => dutyTok E (X.plan.barC (peer c d) ()) 0 d) ∗ all seven fun d => all X.list fun a => (X.arr a).blank c (peer c d))
        ⊢ (all seven (X.plan.toSignal E c ()) : sProp 𝕄) from (all_sep _ _ _).2)
      isplitl [HtB] <;> iassumption
    isplitl [HwB]; · iexact HwB
    isplitl [Hl Hm Hb]
    · iapply (all_sep _ _ _).2
      isplitl [Hl]; · iexact Hl
      iapply (show iprop((all X.list fun a => (X.arr a).mine c) ∗ all X.list fun a => (X.arr a).blank c c)
        ⊢ (all X.list (X.home c) : sProp 𝕄) from (all_sep _ _ _).2)
      isplitl [Hm] <;> iassumption
    iapply (all_mono X.lanes fun x => (show iprop(iprop(dutyTok E (X.plan.sndC c x) 0 0 ∗ dutyTok E (X.plan.rcvC (peer c x.2) x) 0 0) ∗ X.srcOf c x)
        ⊢ iprop(dutyTok E (X.plan.sndC c x) 0 0 ∗ dutyTok E (X.plan.rcvC (peer c x.2) x) 0 0 ∗ X.srcOf c x : sProp 𝕄) from sep_assoc.1))
    iapply (all_sep _ _ _).2
    isplitl [Ht] <;> iassumption
  iexact Hi

omit [E.LandsIn (upEmb : UEmb _ (MT 8 TPU7 sig Unit Val ℕ U ℕ))]

theorem mid_intro (K : Dev 8 × UC Unit A → ℕ) :
    iprop(X.plan.ctx E K ∗ X.startLeaves c ∗ X.idle E c) ⊢ iprop(X.mid E c ∗ X.locals c : sProp 𝕄) := by
  unfold startLeaves mid idle locals
  iintro ⟨HK, ⟨HcS, Hl, Hb⟩, Hi⟩
  ihave HcS := (all_reverse X.lanes fun x => cred (tallyAt (X.plan.sndC c x) () (X.plan.amt x.1))) $$ HcS
  ihave Hl := (all_reverse X.list fun a => iprop(semVal (X.plan.locC c a) 0 ∗ X.plan.own c a)) $$ Hl
  ihave Hl := (all_sep X.list (fun a => semVal (X.plan.locC c a) 0) (X.plan.own c)).1 $$ Hl
  icases Hl with ⟨Hz, Ho⟩
  isplitr [Hz]
  · isplitl [HK]; · iexists K; iexact HK
    isplitl [HcS Hi]
    · iapply (all_mono X.lanes fun x => (show iprop(cred (tallyAt (X.plan.sndC c x) () (X.plan.amt x.1))
          ∗ atPos E (X.plan.sndC c x) 0 ∅ 0 ∗ X.plan.toWait E c (.inl (.inr (.inr x))) (X.plan.amt x.1)) ⊢ (X.plan.lane E c x : sProp 𝕄) from by
        unfold Plan.lane
        iintro ⟨H1, H2, H3⟩
        isplitr [H3]
        · unfold Plan.toWait
          isplitl [H2] <;> iassumption
        iexact H3))
      iapply (all_sep _ _ _).2
      isplitl [HcS] <;> iassumption
    isplitl [Ho] <;> iassumption
  iexact Hz

omit [DecidableEq A] in
theorem ended_intro [DecidableEq A] :
    iprop((all X.lanes.reverse (X.plan.laneDone c)) ∗ (all X.list (X.plan.own c)) ∗ semVal (X.plan.barC c ()) 0) ⊢ (X.ended c : sProp 𝕄) := by
  unfold ended zeros
  iintro ⟨HL, Ho, Hb⟩
  ihave HL := (all_reverse X.lanes (X.plan.laneDone c)) $$ HL
  ihave HL := (show all X.lanes (X.plan.laneDone c)
      ⊢ iprop((all X.lanes fun x => semVal (X.plan.sndC c x) 0) ∗ (all X.lanes fun x => semVal (X.plan.rcvC c x) 0)
        ∗ all X.lanes fun x => X.plan.got c x.1 x.2 : sProp 𝕄) from
    (all_sep _ _ _).1.trans (sep_mono_right (all_sep _ _ _).1)) $$ HL
  icases HL with ⟨HzS, HzR, Hg⟩
  ihave Hg := (X.by_array fun x => X.plan.got c x.1 x.2).1 $$ Hg
  isplitl [Hg Ho]
  · iapply (all_mono X.list fun a => (show iprop(X.plan.own c a ∗ all seven fun d => X.plan.got c a d) ⊢ ((X.arr a).done c : sProp 𝕄) from
      (X.arr a).done_join c))
    iapply (all_sep _ _ _).2
    isplitl [Ho] <;> iassumption
  iapply (X.over_cells fun u => semVal (X.plan.cell c (.inl u)) 0).2
  isplitl [Hb]; · iexact Hb
  isplitl [HzS]; · iexact HzS
  iexact HzR

/-- Every one of those counters reads zero. -/
theorem zeros_read (s' : Phys 8 TPU7 sig Val) :
    iprop(X.zeros c ∗ SI s') ⊢ (iprop(⌜∀ u, s'.mem.sem (X.plan.cell c (.inl u)) = 0⌝ ∗ SI s') : sProp 𝕄) := by
  have hr : iprop(X.zeros c ∗ SI s') ⊢ (⌜∀ u, s'.mem.sem (X.plan.cell c (.inl u)) = 0⌝ : sProp 𝕄) :=
    fun y hy u => ((BI.sep_mono (BI.bigSep_elim (Finset.mem_univ u)) (BI.Entails.refl _)).trans
      ((sep_comm.1.trans SI_read).trans (BI.pure_mono fun h => by simpa using h))) y hy
  iintro H
  ihave Hp := (persistent_entails_right hr) $$ H
  icases Hp with ⟨%h, -, HSI⟩
  isplitr; · ipureintro; exact h
  iexact HSI

/-! ## Within the start kernel -/

section Running

variable (K : Dev 8 × UC Unit A → ℕ) {R : sProp (MT 8 TPU7 sig Unit Val ℕ U ℕ)}

/-- Before the signals. -/
theorem at_signals : iprop(X.plan.ctx E K ∗ X.plan.owing c X.dues ∗ X.startNeeds E c ∗ R)
    ⊢ iprop(X.plan.ctx E K ∗ X.plan.owing c X.dues ∗ all seven (X.plan.toSignal E c ())
      ∗ (X.plan.toWait E c (.inl (.inl ())) 7 ∗ X.homes E c ∗ X.toks E c ∗ R)) := by
  unfold startNeeds
  iintro ⟨Hc, HO, ⟨H1, H2, H3, H4⟩, HR⟩
  isplitl [Hc]; · iexact Hc
  isplitl [HO]; · iexact HO
  isplitl [H1]; · iexact H1
  isplitl [H2]; · iexact H2
  isplitl [H3]; · iexact H3
  isplitl [H4] <;> iassumption

/-- Between the signals and the wait for the peers'. -/
theorem at_bar : iprop(X.plan.ctx E K ∗ X.plan.owing c X.sends ∗ all [] (X.plan.toSignal E c ())
      ∗ (X.plan.toWait E c (.inl (.inl ())) 7 ∗ X.homes E c ∗ X.toks E c ∗ R))
    ⊢ iprop(X.plan.ctx E K ∗ X.plan.owing c X.sends ∗ X.plan.toWait E c (.inl (.inl ())) 7 ∗ (X.homes E c ∗ X.toks E c ∗ R)) := by
  iintro ⟨Hc, HO, -, H2, HR⟩
  isplitl [Hc]; · iexact Hc
  isplitl [HO]; · iexact HO
  isplitl [H2] <;> iassumption

/-- Before the local copies. -/
theorem at_copies : iprop(X.plan.ctx E K ∗ X.plan.owing c X.sends
      ∗ (all seven fun d => all (X.plan.arrs ()) fun a => X.plan.free (peer c d) a d) ∗ semVal (X.plan.barC c ()) 0
      ∗ (X.homes E c ∗ X.toks E c ∗ R))
    ⊢ iprop((X.plan.ctx E K ∗ X.plan.owing c X.sends) ∗ (all X.list fun a => iprop(X.plan.locUp E c a ∗ X.home c a))
      ∗ all [] (X.plan.inFlight E c) ∗ (all X.lanes (X.plan.toSend E c (X.srcOf c)) ∗ semVal (X.plan.barC c ()) 0 ∗ R)) := by
  have hto : iprop(X.toks E c ∗ (all seven fun d => all (X.plan.arrs ()) fun a => X.plan.free (peer c d) a d))
      ⊢ (all X.lanes (X.plan.toSend E c (X.srcOf c)) : sProp 𝕄) := by
    unfold toks
    refine (sep_mono_right (X.by_lanes fun a d => X.plan.free (peer c d) a d)).trans ((all_sep X.lanes _ _).2.trans (all_mono X.lanes fun x => ?_))
    unfold Plan.toSend
    iintro ⟨⟨H1, H2, H3⟩, H4⟩
    isplitl [H1]; · iexact H1
    isplitl [H2]; · iexact H2
    isplitl [H3] <;> iassumption
  unfold homes
  iintro ⟨Hc, HO, Hfree, Hz, Hl, Ht, HR⟩
  ihave Hsend := hto $$ [Ht Hfree]
  · isplitl [Ht] <;> iassumption
  isplitl [Hc HO]
  · isplitl [Hc] <;> iassumption
  isplitl [Hl]; · iexact Hl
  isplitr; · iempintro
  isplitl [Hsend]; · iexact Hsend
  isplitl [Hz] <;> iassumption

/-- Before the transfers. -/
theorem at_sends {P : A → sProp 𝕄} : iprop((X.plan.ctx E K ∗ X.plan.owing c X.sends) ∗ all [] P
      ∗ all X.list.reverse (X.plan.inFlight E c) ∗ (all X.lanes (X.plan.toSend E c (X.srcOf c)) ∗ semVal (X.plan.barC c ()) 0 ∗ R))
    ⊢ iprop(X.plan.ctx E K ∗ X.plan.owing c X.sends ∗ all X.lanes (X.plan.toSend E c (X.srcOf c))
      ∗ (all [] fun x => cred (tallyAt (X.plan.sndC c x) () (X.plan.amt x.1)))
      ∗ (all X.list.reverse (X.plan.inFlight E c) ∗ semVal (X.plan.barC c ()) 0 ∗ R)) := by
  iintro ⟨⟨Hc, HO⟩, -, Hfl, Hs, Hz, HR⟩
  isplitl [Hc]; · iexact Hc
  isplitl [HO]; · iexact HO
  isplitl [Hs]; · iexact Hs
  isplitr; · iempintro
  isplitl [Hfl]; · iexact Hfl
  isplitl [Hz] <;> iassumption

/-- Before the waits for the local copies. -/
theorem at_locals {P : A × Fin 7 → sProp 𝕄} : iprop(X.plan.ctx E K ∗ X.plan.owing c [] ∗ all [] P
      ∗ (all X.lanes.reverse fun x => cred (tallyAt (X.plan.sndC c x) () (X.plan.amt x.1)))
      ∗ (all X.list.reverse (X.plan.inFlight E c) ∗ semVal (X.plan.barC c ()) 0 ∗ R))
    ⊢ iprop(X.plan.ctx E K ∗ X.plan.owing c [] ∗ all X.list (X.plan.inFlight E c)
      ∗ (all [] fun a => iprop(semVal (X.plan.locC c a) 0 ∗ X.plan.own c a))
      ∗ ((all X.lanes.reverse fun x => cred (tallyAt (X.plan.sndC c x) () (X.plan.amt x.1))) ∗ semVal (X.plan.barC c ()) 0 ∗ R)) := by
  iintro ⟨Hc, HO, -, Hd, Hfl, Hz, HR⟩
  ihave Hfl := (all_reverse X.list (X.plan.inFlight E c)) $$ Hfl
  isplitl [Hc]; · iexact Hc
  isplitl [HO]; · iexact HO
  isplitl [Hfl]; · iexact Hfl
  isplitr; · iempintro
  isplitl [Hd]; · iexact Hd
  isplitl [Hz] <;> iassumption

/-- At its end. -/
theorem at_end {P : A → sProp 𝕄} : iprop(X.plan.ctx E K ∗ X.plan.owing c [] ∗ all [] P
      ∗ (all X.list.reverse fun a => iprop(semVal (X.plan.locC c a) 0 ∗ X.plan.own c a))
      ∗ ((all X.lanes.reverse fun x => cred (tallyAt (X.plan.sndC c x) () (X.plan.amt x.1))) ∗ semVal (X.plan.barC c ()) 0 ∗ R))
    ⊢ iprop(X.plan.ctx E K ∗ X.plan.owing c [] ∗ X.startLeaves c ∗ R) := by
  unfold startLeaves
  iintro ⟨Hc, HO, -, Hl, Hd, Hz, HR⟩
  isplitl [Hc]; · iexact Hc
  isplitl [HO]; · iexact HO
  isplitr [HR]
  · isplitl [Hd]; · iexact Hd
    isplitl [Hl] <;> iassumption
  iexact HR

/-- As the wait kernel begins. -/
theorem at_waits : iprop(X.plan.ctx E K ∗ X.plan.owing c [] ∗ all X.lanes (X.plan.lane E c) ∗ R)
    ⊢ iprop(X.plan.ctx E K ∗ X.plan.owing c [] ∗ all X.lanes (X.plan.lane E c) ∗ all [] (X.plan.laneDone c) ∗ R) := by
  iintro ⟨Hc, HO, Hl, HR⟩
  isplitl [Hc]; · iexact Hc
  isplitl [HO]; · iexact HO
  isplitl [Hl]; · iexact Hl
  isplitr; · iempintro
  iexact HR

end Running

/-! ## The launch -/

/-- A wait for a window's transfer is below everything owed. -/
theorem stage_wait (q : DmaSem sig) (hq : ∀ x, X.osem x ≠ .dma q) (O : CellTallies 8 TPU7 sig Unit) (hO : O = X.O₀ c ∨ O = 0) :
    (levAts Plan.L X.plan.lv : sProp 𝕄) ⊢ MayWait (c : Thread 8 TPU7) (.dma q) () O := by
  rcases hO with rfl | rfl
  · refine X.plan.mayWait c (.dma q) X.dues 0 ?_ ?_
    · rw [X.plan.decode_none _ hq]; exact Nat.le_refl 0
    · intro x hx
      rcases x with ⟨_, d⟩ | ⟨a, d⟩
      · exact Nat.one_pos
      · exact Nat.two_pos
  · rw [MayWait_zero]; iintro -; iempintro

/-- From what the launch deals: the exchange's cells allocated for all devices at once, each device's part beside the
    rest of what it holds. -/
theorem init [E.LandsIn (upEmb : UEmb _ (MT 8 TPU7 sig Unit Val ℕ U ℕ))] {B T : Dev 8 → sProp 𝕄} (ρ : Dev 8 → PrngReg)
    (hs : ∀ c, (unscopedSems0 c : sProp 𝕄) = bigSep Finset.univ fun u : UC Unit A => semVal (X.plan.cell c (.inl u)) 0)
    (hT : ∀ c, iprop(B c ∗ X.ready E c ∗ owes (c : Thread 8 TPU7) (X.O₀ c) ∅) ⊢ T c) :
    iprop((bigSep Finset.univ fun c : Dev 8 => iprop(B c ∗ unscopedSems0 c ∗ owes (c : Thread 8 TPU7) (X.O₀ c) ∅
        ∗ Pipeline.launchCred X.O₀ c ∗ prngReg c (ρ c) ∗ X.plan.deal E c)) ∗ levAts Plan.L X.plan.lv)
      ⊢ (|={Set.univ}=> bigSep Finset.univ T : sProp 𝕄) := by
  have hcore (c : Dev 8) : iprop(B c ∗ unscopedSems0 c ∗ owes (c : Thread 8 TPU7) (X.O₀ c) ∅
        ∗ Pipeline.launchCred X.O₀ c ∗ prngReg c (ρ c) ∗ X.plan.deal E c)
      ⊢ (iprop(((bigSep Finset.univ fun u : UC Unit A => semVal (X.plan.cell c (.inl u)) 0) ∗ X.plan.deal E c)
          ∗ (B c ∗ Pipeline.launchCred X.O₀ c ∗ owes (c : Thread 8 TPU7) (X.O₀ c) ∅)) : sProp 𝕄) := by
    rw [hs c]
    iintro ⟨Hh, Hus, HO, Hcr, -, HG⟩
    isplitl [Hus HG]
    · isplitl [Hus] <;> iassumption
    isplitl [Hh]; · iexact Hh
    isplitl [Hcr] <;> iassumption
  have hdev (c : Dev 8) (_ : c ∈ Finset.univ) : iprop(levAts Plan.L X.plan.lv
      ∗ (((∃ K, X.plan.records E K) ∗ X.plan.linear E c ∗ bigSep Finset.univ fun a => X.plan.locRaw E c a)
      ∗ (B c ∗ Pipeline.launchCred X.O₀ c ∗ owes (c : Thread 8 TPU7) (X.O₀ c) ∅))) ⊢ T c := by
    refine BIBase.Entails.trans ?_ (hT c)
    iintro ⟨#Hla, ⟨HK, Hli, Hr⟩, Hh, Hcr, HO⟩
    isplitl [Hh]; · iexact Hh
    isplitr [HO]
    · iapply (X.ready_intro E c)
      isplitl [HK]; · iexact HK
      isplitl [Hli]; · iexact Hli
      isplitl [Hr]; · iexact Hr
      isplitr [Hcr]; · iexact Hla
      iexact Hcr
    · iexact HO
  iintro ⟨H, #Hla⟩
  have hall : (bigSep Finset.univ fun c : Dev 8 => iprop(B c ∗ unscopedSems0 c
        ∗ owes (c : Thread 8 TPU7) (X.O₀ c) ∅ ∗ Pipeline.launchCred X.O₀ c ∗ prngReg c (ρ c) ∗ X.plan.deal E c))
      ⊢ (iprop((bigSep Finset.univ fun c : Dev 8 => iprop((bigSep Finset.univ fun u : UC Unit A => semVal (X.plan.cell c (.inl u)) 0) ∗ X.plan.deal E c))
          ∗ bigSep Finset.univ fun c : Dev 8 => iprop(B c ∗ Pipeline.launchCred X.O₀ c ∗ owes (c : Thread 8 TPU7) (X.O₀ c) ∅)) : sProp 𝕄) :=
    (bigSep_mono fun c _ => hcore c).trans (Entails.of_eq (bigSep_sep' _ _ _))
  ihave H := hall $$ H
  icases H with ⟨HA, HB⟩
  imod (X.plan.start E) $$ HA with HG
  imodintro
  iapply (Plan.bigSep_with (R := levAts Plan.L X.plan.lv) hdev)
  isplitr; · iexact Hla
  iapply (Entails.of_eq (bigSep_sep' Finset.univ (fun c : Dev 8 => iprop((∃ K, X.plan.records E K) ∗ X.plan.linear E c ∗ bigSep Finset.univ fun a => X.plan.locRaw E c a))
    (fun c : Dev 8 => iprop(B c ∗ Pipeline.launchCred X.O₀ c ∗ owes (c : Thread 8 TPU7) (X.O₀ c) ∅))).symm)
  isplitl [HG] <;> iassumption

end Ex

/-! ## The semaphores -/

set_option backward.proofsInPublic true in
/-- The semaphore of each cell of an exchange of `n` arrays: the barrier, then the send and the receive arrays of `7 n`, then
    after the one of the token's window the start kernel's `n` local ones. -/
def semOf (n : ℕ) (bar : Sem sig) (hn : 15 * n + 1 ≤ sig.nDmaSem) : CX Unit (Fin n) → SemLoc sig
  | .inl (.inl _) => .reg bar
  | .inl (.inr (.inl (a, j))) => .dma ⟨7 * a.val + j.val, by have := a.isLt; have := j.isLt; omega⟩
  | .inl (.inr (.inr (a, j))) => .dma ⟨7 * n + (7 * a.val + j.val), by have := a.isLt; have := j.isLt; omega⟩
  | .inr a => .dma ⟨14 * n + 1 + a.val, by have := a.isLt; omega⟩

theorem semOf_inj (n : ℕ) (bar : Sem sig) (hn : 15 * n + 1 ≤ sig.nDmaSem) : Function.Injective (semOf n bar hn) := by
  intro x y h
  rcases x with (x | (⟨a, j⟩ | ⟨a, j⟩)) | a <;> rcases y with (y | (⟨b, k⟩ | ⟨b, k⟩)) | b <;>
    first
      | rfl
      | exact absurd h (by intro h; cases h)
      | (have h := congrArg (fun s : SemLoc sig => match s with | .dma d => d.val | .reg _ => 0) h
         simp only [semOf] at h
         have := a.isLt; have := b.isLt
         first
           | (have := j.isLt; have := k.isLt
              first
                | omega
                | (have ha : a = b := Fin.ext (by omega)
                   have hj : j = k := Fin.ext (by omega)
                   subst ha hj; rfl))
           | (have := j.isLt; omega)
           | (have := k.isLt; omega)
           | (have ha : a = b := Fin.ext (by omega)
              subst ha; rfl))

/-- None of them is the token's. -/
theorem semOf_token (n : ℕ) (bar : Sem sig) (hn : 15 * n + 1 ≤ sig.nDmaSem) (q : DmaSem sig) (hq : q.val = 14 * n) :
    ∀ x : CX Unit (Fin n), semOf n bar hn x ≠ .dma q := by
  intro x h
  rcases x with (x | (⟨a, j⟩ | ⟨a, j⟩)) | a
  · cases h
  all_goals
    have h := congrArg (fun s : SemLoc sig => match s with | .dma d => d.val | .reg _ => 0) h
    simp only [semOf] at h
    have := a.isLt
    first
      | (have := j.isLt; omega)
      | omega

/-! ## The calls' windows -/

open Idealize.ShloMosaic.Pipeline (Dat)

theorem no_prefs (Φ : Fin 0 → sProp 𝕄) : bigSep Finset.univ Φ = (BI.emp : sProp 𝕄) := bigSep_univ_eq_bigSepL [] (by decide) (by decide) Φ

/-- What the launch allocates outside the kernels. -/
def allBufs (sig : RefSig) : Finset (DevRef TPU7 sig) := (StableHlo.tcRefs TPU7 sig).filter fun b => ¬ b.isScoped

theorem unscopedBufs_held (c : Dev 8) (W : Valuation TPU7 sig Val) :
    (unscopedBufs c (fun b => W b) : sProp 𝕄) = StableHlo.held (c : Thread 8 TPU7) (allBufs sig) W := by
  unfold unscopedBufs StableHlo.held allBufs StableHlo.tcRefs
  rw [Finset.filter_map, BI.bigSep_map]
  rfl

/-- The core's `owes` as a point's `owesAt` and back. -/
theorem owesAt_intro {Λ₀ : Labels} {cfg : Pipeline.Cfg sig Λ₀} {c : Dev 8} (dat : Dat TPU7 Val Unit ℕ U ℕ cfg c) (t : Fin (cfg.N + 1))
    (O : CellTallies 8 TPU7 sig Unit) (h0 : dat.owed t = O) (W : Waits sig Unit) (hr : dat.recorded t = Set.univ := by first | rfl | skip) :
    (owes (c : Thread 8 TPU7) O W : sProp 𝕄) ⊢ (dat.owesAt () t : sProp 𝕄) := by
  unfold Dat.owesAt Pipeline.owesWithin Dat.bound; rw [h0, hr]
  iintro HO; iexists W; isplitr; · ipureintro; exact fun _ _ => Or.inl trivial
  iexact HO
theorem owesAt_elim {Λ₀ : Labels} {cfg : Pipeline.Cfg sig Λ₀} {c : Dev 8} (dat : Dat TPU7 Val Unit ℕ U ℕ cfg c) (t : Fin (cfg.N + 1))
    (O : CellTallies 8 TPU7 sig Unit) (h0 : dat.owed t = O) :
    (dat.owesAt () t : sProp 𝕄) ⊢ iprop(∃ W, owes (c : Thread 8 TPU7) O W) := by
  unfold Dat.owesAt Pipeline.owesWithin; rw [h0]
  iintro ⟨%W, -, HO⟩; iexists W; iexact HO

/-- A whole buffer, and one holding anything. -/
abbrev pt (c : Dev 8) (b : Ref sig .tc) (f : b.ty.Contents Val) : sProp 𝕄 := (Memref.whole b).view.loc (c : Thread 8 TPU7) ↦{fullShare} f
abbrev anyAt (c : Dev 8) (b : Ref sig .tc) : sProp 𝕄 := iprop(∃ f : (Proc.devRef .tc b : DevRef TPU7 sig).ty.Contents Val, pt c b f)
/-- The core owing nothing. -/
def clear (c : Dev 8) : sProp 𝕄 := iprop(∃ W, owes (c : Thread 8 TPU7) (0 : CellTallies 8 TPU7 sig Unit) W)

/-! ## Buffers held one after the other -/

theorem held_listed (c : Dev 8) (W : Valuation TPU7 sig Val) (S : Finset (DevRef TPU7 sig)) : ∀ (l : List (Ref sig .tc)),
    (l.map fun b => (Proc.devRef .tc b : DevRef TPU7 sig)).Nodup → (∀ b ∈ l, (Proc.devRef .tc b : DevRef TPU7 sig) ∉ S) →
    (StableHlo.held (c : Thread 8 TPU7) (l.foldr (fun b T => insert (Proc.devRef .tc b) T) S) W : sProp 𝕄)
      ⊢ iprop((all l fun b => pt c b (W b)) ∗ StableHlo.held (c : Thread 8 TPU7) S W)
  | [], _, _ => by
    iintro H; isplitr; · iempintro
    iexact H
  | b :: l, hn, hS => by
    have hb : (Proc.devRef .tc b : DevRef TPU7 sig) ∉ l.foldr (fun b T => insert (Proc.devRef .tc b) T) S := by
      have hmem : ∀ l' : List (Ref sig .tc), (Proc.devRef .tc b : DevRef TPU7 sig) ∈ l'.foldr (fun b T => insert (Proc.devRef .tc b) T) S →
          (Proc.devRef .tc b : DevRef TPU7 sig) ∈ l'.map (fun b => (Proc.devRef .tc b : DevRef TPU7 sig)) ∨ (Proc.devRef .tc b : DevRef TPU7 sig) ∈ S := by
        intro l'
        induction l' with
        | nil => exact Or.inr
        | cons x l' ih =>
          intro h
          rcases Finset.mem_insert.mp h with h | h
          · exact .inl (h ▸ List.mem_cons_self)
          · exact (ih h).imp (List.mem_cons_of_mem _) id
      intro h
      exact (hmem l h).elim (List.nodup_cons.mp hn).1 (hS b List.mem_cons_self)
    have ih := held_listed c W S l (List.nodup_cons.mp hn).2 fun x hx => hS x (List.mem_cons_of_mem _ hx)
    unfold StableHlo.held at ih ⊢
    rw [List.foldr_cons, bigSep_insert hb, all_cons]
    exact (sep_mono_right ih).trans sep_assoc.2

/-- From one allocation to the next, -/
theorem next_alloc {B : Type} {x y : B} {l l' : List B} {P Q : B → sProp 𝕄} {R : sProp 𝕄} :
    iprop(P x ∗ all l P ∗ all (y :: l') Q ∗ R) ⊢ iprop(Q y ∗ all (x :: l) P ∗ all l' Q ∗ R) := by
  rw [all_cons, all_cons]
  iintro ⟨H1, H2, ⟨H3, H4⟩, HR⟩
  isplitl [H3]; · iexact H3
  isplitl [H1 H2]
  · isplitl [H1] <;> iassumption
  isplitl [H4] <;> iassumption
/-- and after the last. -/
theorem last_alloc {B : Type} {x : B} {l : List B} {P Q : B → sProp 𝕄} {H R : sProp 𝕄} :
    iprop(P x ∗ all l P ∗ all [] Q ∗ (H ∗ R)) ⊢ iprop(H ∗ (all (x :: l) P ∗ R)) := by
  rw [all_cons]
  iintro ⟨H1, H2, -, HH, HR⟩
  isplitl [HH]; · iexact HH
  isplitr [HR]
  · isplitl [H1] <;> iassumption
  iexact HR

end Cert.Exchange

end
-- ==== Proof.Mix.lean ====
/-
  The exchange of the mixer's two gradient arrays: its semaphores and arrays, and the runs of its start kernel and of its
  wait kernel, one step of the exchange after the other.
-/
module

public import proofs.«01_k».proof.Proof.Ghost
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic

@[expose] public section

noncomputable section

namespace Cert.Mix

open Cert.KernelIdeal Cert.KernelIdeal.Gen Cert.Exchange
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the exchange's -/

abbrev UU : Type := URounds (GSem nD τ sig) Unit × UX sig

local notation "𝕄" => MT nD τ sig Unit (Elt F) ℕ UU ℕ

abbrev EP : Emb (URounds (GSem nD τ sig) Unit) (MT nD τ sig Unit (Elt F) ℕ UU ℕ) := embL
abbrev EX : Emb (UX sig) (MT nD τ sig Unit (Elt F) ℕ UU ℕ) := embR
abbrev 𝒱₀ : Variants := Variants.none

variable (m : (ℓ : Loc nD τ sig) → Buf (Elt F) ℓ)

/-! ## The exchange -/

/-- What device `d` holds before it. -/
def X0 (d : Dev nD) : (S3 1024 640).Idx → Elt F .bf16 := m ((d : Thread nD τ).loc main_arg0)
def X1 (d : Dev nD) : (S3 128 1024).Idx → Elt F .bf16 := m ((d : Thread nD τ).loc main_arg1)

/-- Its semaphores, and its two arrays: landing buffer and the copy that the transfers read. -/
def ex : Ex sig (Elt F) UU (Fin 2) where
  osem := semOf 2 (0 : Sem sig) (by decide)
  bar := 0
  osem_bar := rfl
  inj := semOf_inj _ _ _
  arr
    | 0 => scatterArr (r := 1024) (w := 640) (e := .bf16) (Memref.whole main_v1) (Memref.whole main_v3_2) (Memref.isWhole_whole _) (Memref.isWhole_whole _)
        (X0 m) (landed (X0 m)) (sig.dmaCredit_pos _ _ _ _ _ (by decide))
    | 1 => scatterArr (r := 128) (w := 1024) (e := .bf16) (Memref.whole main_v2) (Memref.whole main_v3_3) (Memref.isWhole_whole _) (Memref.isWhole_whole _)
        (X1 m) (landed (X1 m)) (sig.dmaCredit_pos _ _ _ _ _ (by decide))
  list := [0, 1]
  nodup := by decide
  full := by decide
  lanes := [(0, 0), (0, 1), (0, 2), (0, 3), (0, 4), (0, 5), (0, 6), (1, 0), (1, 1), (1, 2), (1, 3), (1, 4), (1, 5), (1, 6)]
  lanes_eq := rfl

/-- Each device sends every peer a slot of each. -/
def array0 : Scatters (ex m) 0 (Memref.whole main_v1 : Memref sig .tc .hbm (S3 1024 640) .bf16) (Memref.whole main_v3_2 : Memref sig .tc .hbm (S3 1024 640) .bf16) :=
  ⟨Memref.isWhole_whole _, Memref.isWhole_whole _, X0 m, landed (X0 m), sig.dmaCredit_pos _ _ _ _ _ (by decide), rfl, fun _ _ => rfl⟩
def array1 : Scatters (ex m) 1 (Memref.whole main_v2 : Memref sig .tc .hbm (S3 128 1024) .bf16) (Memref.whole main_v3_3 : Memref sig .tc .hbm (S3 128 1024) .bf16) :=
  ⟨Memref.isWhole_whole _, Memref.isWhole_whole _, X1 m, landed (X1 m), sig.dmaCredit_pos _ _ _ _ _ (by decide), rfl, fun _ _ => rfl⟩

/-! ## The addresses -/

theorem dev1_eq (c : Dev nD) : (⟨k0_dev1 c, k0_dev1_lt c⟩ : Dev nD) = peer c 0 := by revert c; decide +kernel
theorem dev8_eq (c : Dev nD) : (⟨k0_dev8 c, k0_dev8_lt c⟩ : Dev nD) = peer c 0 := by revert c; decide +kernel
theorem dev15_eq (c : Dev nD) : (⟨k0_dev15 c, k0_dev15_lt c⟩ : Dev nD) = peer c 0 := by revert c; decide +kernel
theorem dev2_eq (c : Dev nD) : (⟨k0_dev2 c, k0_dev2_lt c⟩ : Dev nD) = peer c 1 := by revert c; decide +kernel
theorem dev9_eq (c : Dev nD) : (⟨k0_dev9 c, k0_dev9_lt c⟩ : Dev nD) = peer c 1 := by revert c; decide +kernel
theorem dev16_eq (c : Dev nD) : (⟨k0_dev16 c, k0_dev16_lt c⟩ : Dev nD) = peer c 1 := by revert c; decide +kernel
theorem dev3_eq (c : Dev nD) : (⟨k0_dev3 c, k0_dev3_lt c⟩ : Dev nD) = peer c 2 := by revert c; decide +kernel
theorem dev10_eq (c : Dev nD) : (⟨k0_dev10 c, k0_dev10_lt c⟩ : Dev nD) = peer c 2 := by revert c; decide +kernel
theorem dev17_eq (c : Dev nD) : (⟨k0_dev17 c, k0_dev17_lt c⟩ : Dev nD) = peer c 2 := by revert c; decide +kernel
theorem dev4_eq (c : Dev nD) : (⟨k0_dev4 c, k0_dev4_lt c⟩ : Dev nD) = peer c 3 := by revert c; decide +kernel
theorem dev11_eq (c : Dev nD) : (⟨k0_dev11 c, k0_dev11_lt c⟩ : Dev nD) = peer c 3 := by revert c; decide +kernel
theorem dev18_eq (c : Dev nD) : (⟨k0_dev18 c, k0_dev18_lt c⟩ : Dev nD) = peer c 3 := by revert c; decide +kernel
theorem dev5_eq (c : Dev nD) : (⟨k0_dev5 c, k0_dev5_lt c⟩ : Dev nD) = peer c 4 := by revert c; decide +kernel
theorem dev12_eq (c : Dev nD) : (⟨k0_dev12 c, k0_dev12_lt c⟩ : Dev nD) = peer c 4 := by revert c; decide +kernel
theorem dev19_eq (c : Dev nD) : (⟨k0_dev19 c, k0_dev19_lt c⟩ : Dev nD) = peer c 4 := by revert c; decide +kernel
theorem dev6_eq (c : Dev nD) : (⟨k0_dev6 c, k0_dev6_lt c⟩ : Dev nD) = peer c 5 := by revert c; decide +kernel
theorem dev13_eq (c : Dev nD) : (⟨k0_dev13 c, k0_dev13_lt c⟩ : Dev nD) = peer c 5 := by revert c; decide +kernel
theorem dev20_eq (c : Dev nD) : (⟨k0_dev20 c, k0_dev20_lt c⟩ : Dev nD) = peer c 5 := by revert c; decide +kernel
theorem dev7_eq (c : Dev nD) : (⟨k0_dev7 c, k0_dev7_lt c⟩ : Dev nD) = peer c 6 := by revert c; decide +kernel
theorem dev14_eq (c : Dev nD) : (⟨k0_dev14 c, k0_dev14_lt c⟩ : Dev nD) = peer c 6 := by revert c; decide +kernel
theorem dev21_eq (c : Dev nD) : (⟨k0_dev21 c, k0_dev21_lt c⟩ : Dev nD) = peer c 6 := by revert c; decide +kernel
theorem off1_eq (c : Dev nD) : k0_off1 c = ![c.val, 0, 0] := by revert c; decide +kernel
theorem off2_eq (c : Dev nD) : k0_off2 c = ![c.val, 0, 0] := by revert c; decide +kernel
theorem off3_eq (c : Dev nD) : k0_off3 c = ![(peer c 0).val, 0, 0] := by revert c; decide +kernel
theorem off10_eq (c : Dev nD) : k0_off10 c = ![(peer c 0).val, 0, 0] := by revert c; decide +kernel
theorem off4_eq (c : Dev nD) : k0_off4 c = ![(peer c 1).val, 0, 0] := by revert c; decide +kernel
theorem off11_eq (c : Dev nD) : k0_off11 c = ![(peer c 1).val, 0, 0] := by revert c; decide +kernel
theorem off5_eq (c : Dev nD) : k0_off5 c = ![(peer c 2).val, 0, 0] := by revert c; decide +kernel
theorem off12_eq (c : Dev nD) : k0_off12 c = ![(peer c 2).val, 0, 0] := by revert c; decide +kernel
theorem off6_eq (c : Dev nD) : k0_off6 c = ![(peer c 3).val, 0, 0] := by revert c; decide +kernel
theorem off13_eq (c : Dev nD) : k0_off13 c = ![(peer c 3).val, 0, 0] := by revert c; decide +kernel
theorem off7_eq (c : Dev nD) : k0_off7 c = ![(peer c 4).val, 0, 0] := by revert c; decide +kernel
theorem off14_eq (c : Dev nD) : k0_off14 c = ![(peer c 4).val, 0, 0] := by revert c; decide +kernel
theorem off8_eq (c : Dev nD) : k0_off8 c = ![(peer c 5).val, 0, 0] := by revert c; decide +kernel
theorem off15_eq (c : Dev nD) : k0_off15 c = ![(peer c 5).val, 0, 0] := by revert c; decide +kernel
theorem off9_eq (c : Dev nD) : k0_off9 c = ![(peer c 6).val, 0, 0] := by revert c; decide +kernel
theorem off16_eq (c : Dev nD) : k0_off16 c = ![(peer c 6).val, 0, 0] := by revert c; decide +kernel

/-! ## The token -/

theorem hz : (![0, 0] : Fin 2 → Nat) = fun _ => 0 := funext fun a => by fin_cases a <;> rfl
abbrev r0 : Rect S8x128 := Rect.unit (s := S8x128) ![0, 0] S8x128.size inb_S8x128_S8x128_0_0
theorem write_stage0 (f w : (cc0_stg0_0 : Ref sig .tc).ty.Contents (Elt F)) :
    ((Memref.whole cc0_stg0_0 : Memref sig .tc .vmem S8x128 .f32).access r0 : View sig .tc _ _ _).write (Elt F) f w Finset.univ = w :=
  Memref.write_access_unit_zero_univ (Elt F) cc0_stg0_0 hz _ f w
theorem write_stage1 (f w : (cc1_stg0_0 : Ref sig .tc).ty.Contents (Elt F)) :
    ((Memref.whole cc1_stg0_0 : Memref sig .tc .vmem S8x128 .f32).access r0 : View sig .tc _ _ _).write (Elt F) f w Finset.univ = w :=
  Memref.write_access_unit_zero_univ (Elt F) cc1_stg0_0 hz _ f w

/-! ## The runs -/

variable (K : Dev 8 × UC Unit (Fin 2) → ℕ) (c : Dev nD)

set_option maxRecDepth 8000 in
set_option maxHeartbeats 800000 in
theorem start_run (f : Buf (Elt F) ((c : Thread nD τ).loc cc0_stg0_0)) {Rest : sProp 𝕄} {Q : PUnit → sProp 𝕄}
    (h : iprop((ex m).plan.ctx EX K ∗ (ex m).plan.owing c [] ∗ (ex m).startLeaves c
        ∗ (((c : Thread nD τ).loc cc0_stg0_0) ↦{fullShare} (k0_pay1 (F := F) : Buf (Elt F) ((c : Thread nD τ).loc cc0_stg0_0))) ∗ Rest) ⊢ Q ⟨⟩) :
    iprop((ex m).plan.ctx EX K ∗ (ex m).plan.owing c (ex m).dues ∗ (ex m).startNeeds EX c ∗ (((c : Thread nD τ).loc cc0_stg0_0) ↦{fullShare} f) ∗ Rest)
      ⊢ wp frame (wpE (defs₀ (F := F)) 𝒱₀ (c : Thread nD τ) none) Set.univ
        (cc0_a2a_start_m0 (Memref.whole main_v3_2) (Memref.isWhole_whole _) (Memref.whole main_v3_3) (Memref.isWhole_whole _) (Memref.whole main_v1) (Memref.isWhole_whole _) (Memref.whole main_v2) (Memref.isWhole_whole _) main_v3_0 main_v3_1
          (Memref.whole main_v3_2) (Memref.isWhole_whole _) (Memref.whole main_v3_3) (Memref.isWhole_whole _) (Memref.whole main_v1) (Memref.isWhole_whole _) (Memref.whole main_v2) (Memref.isWhole_whole _) (Memref.whole cc0_stg0_0) (Memref.isWhole_whole _) cc0_scratch0) Q := by
  simp only [cc0_a2a_start_m0_eq_skeleton]; unfold cc0_a2a_start_m0_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  simp only [semSignalWord, semWaitWord, Prog.lift, Prog.bind_op, Prog.bind_ret, Prog.pure_eq_ret, wp_deviceId]
  -- the handshake
  refine ((ex m).at_signals EX c K).trans ?_
  refine (ex m).plan.step_signal EX 𝒱₀ K c (dev1_eq c) rfl rfl ?_
  refine (ex m).plan.step_signal EX 𝒱₀ K c (dev2_eq c) rfl rfl ?_
  refine (ex m).plan.step_signal EX 𝒱₀ K c (dev3_eq c) rfl rfl ?_
  refine (ex m).plan.step_signal EX 𝒱₀ K c (dev4_eq c) rfl rfl ?_
  refine (ex m).plan.step_signal EX 𝒱₀ K c (dev5_eq c) rfl rfl ?_
  refine (ex m).plan.step_signal EX 𝒱₀ K c (dev6_eq c) rfl rfl ?_
  refine (ex m).plan.step_signal EX 𝒱₀ K c (dev7_eq c) rfl rfl ?_
  refine ((ex m).at_bar EX c K).trans ?_
  refine (ex m).plan.step_bar EX 𝒱₀ K c (b := ()) (ex m).sends_level rfl rfl ?_
  -- the local copies
  refine ((ex m).at_copies EX c K).trans ?_
  refine (array0 m).copy EX 𝒱₀ c rfl (off1_eq c) (off1_eq c) rfl ?_
  refine (array1 m).copy EX 𝒱₀ c rfl (off2_eq c) (off2_eq c) rfl ?_
  -- the transfers
  refine ((ex m).at_sends EX c K).trans ?_
  refine (array0 m).send EX 𝒱₀ K c 0 (dev8_eq c) rfl rfl (off3_eq c) (off1_eq c) rfl ?_
  refine (array0 m).send EX 𝒱₀ K c 1 (dev9_eq c) rfl rfl (off4_eq c) (off1_eq c) rfl ?_
  refine (array0 m).send EX 𝒱₀ K c 2 (dev10_eq c) rfl rfl (off5_eq c) (off1_eq c) rfl ?_
  refine (array0 m).send EX 𝒱₀ K c 3 (dev11_eq c) rfl rfl (off6_eq c) (off1_eq c) rfl ?_
  refine (array0 m).send EX 𝒱₀ K c 4 (dev12_eq c) rfl rfl (off7_eq c) (off1_eq c) rfl ?_
  refine (array0 m).send EX 𝒱₀ K c 5 (dev13_eq c) rfl rfl (off8_eq c) (off1_eq c) rfl ?_
  refine (array0 m).send EX 𝒱₀ K c 6 (dev14_eq c) rfl rfl (off9_eq c) (off1_eq c) rfl ?_
  refine (array1 m).send EX 𝒱₀ K c 0 (dev15_eq c) rfl rfl (off10_eq c) (off2_eq c) rfl ?_
  refine (array1 m).send EX 𝒱₀ K c 1 (dev16_eq c) rfl rfl (off11_eq c) (off2_eq c) rfl ?_
  refine (array1 m).send EX 𝒱₀ K c 2 (dev17_eq c) rfl rfl (off12_eq c) (off2_eq c) rfl ?_
  refine (array1 m).send EX 𝒱₀ K c 3 (dev18_eq c) rfl rfl (off13_eq c) (off2_eq c) rfl ?_
  refine (array1 m).send EX 𝒱₀ K c 4 (dev19_eq c) rfl rfl (off14_eq c) (off2_eq c) rfl ?_
  refine (array1 m).send EX 𝒱₀ K c 5 (dev20_eq c) rfl rfl (off15_eq c) (off2_eq c) rfl ?_
  refine (array1 m).send EX 𝒱₀ K c 6 (dev21_eq c) rfl rfl (off16_eq c) (off2_eq c) rfl ?_
  -- the waits for the local copies
  refine ((ex m).at_locals EX c K).trans ?_
  refine (ex m).plan.step_local EX 𝒱₀ K c (a := 0) (fun _ h => absurd h List.not_mem_nil) rfl rfl ?_
  refine (ex m).plan.step_local EX 𝒱₀ K c (a := 1) (fun _ h => absurd h List.not_mem_nil) rfl rfl ?_
  -- the token
  refine ((ex m).at_end EX c K).trans ?_
  iintro ⟨Hc, HO, Hl, Hf, HR⟩
  iapply (wp_load 𝒱₀ (c : Thread nD τ) none Set.univ (m := Memref.whole cc0_stg0_0) (Finset.subset_univ _)) $$ Hf; iintro Hf
  iapply (wp_store 𝒱₀ (c : Thread nD τ) none Set.univ (m := Memref.whole cc0_stg0_0) (r := r0) (Mk := Finset.univ) (Finset.subset_univ _)) $$ Hf; iintro Hf
  rw [write_stage0, wp_ret]; imodintro
  iapply h
  isplitl [Hc]; · iexact Hc
  isplitl [HO]; · iexact HO
  isplitl [Hl]; · iexact Hl
  isplitl [Hf] <;> iassumption

set_option maxRecDepth 8000 in
set_option maxHeartbeats 1000000 in
theorem wait_run (f : Buf (Elt F) ((c : Thread nD τ).loc cc1_stg0_0)) {Rest : sProp 𝕄} {Q : PUnit → sProp 𝕄}
    (h : iprop((ex m).plan.ctx EX K ∗ (ex m).plan.owing c [] ∗ all (ex m).lanes.reverse ((ex m).plan.laneDone c)
        ∗ (((c : Thread nD τ).loc cc1_stg0_0) ↦{fullShare} (k1_pay1 (F := F) : Buf (Elt F) ((c : Thread nD τ).loc cc1_stg0_0))) ∗ Rest) ⊢ Q ⟨⟩) :
    iprop((ex m).plan.ctx EX K ∗ (ex m).plan.owing c [] ∗ all (ex m).lanes ((ex m).plan.lane EX c) ∗ (((c : Thread nD τ).loc cc1_stg0_0) ↦{fullShare} f) ∗ Rest)
      ⊢ wp frame (wpE (defs₀ (F := F)) 𝒱₀ (c : Thread nD τ) none) Set.univ
        (cc1_a2a_wait_m0 (Memref.whole main_v3_2) (Memref.isWhole_whole _) (Memref.whole main_v3_3) (Memref.isWhole_whole _) (Memref.whole main_v1) (Memref.isWhole_whole _) (Memref.whole main_v2) (Memref.isWhole_whole _) main_v3_0 main_v3_1
          (Memref.whole main_v3_6) (Memref.isWhole_whole _) (Memref.whole main_v3_2) (Memref.isWhole_whole _) (Memref.whole main_v3_3) (Memref.isWhole_whole _) (Memref.whole main_v1) (Memref.isWhole_whole _) (Memref.whole main_v2) (Memref.isWhole_whole _) (Memref.whole cc1_stg0_0) (Memref.isWhole_whole _)) Q := by
  simp only [cc1_a2a_wait_m0_eq_skeleton]; unfold cc1_a2a_wait_m0_skel
  simp only [k1_part1_eq_skeleton, k1_part2_eq_skeleton, k1_part3_eq_skeleton, k1_part4_eq_skeleton, k1_part5_eq_skeleton,
    k1_part6_eq_skeleton, k1_part7_eq_skeleton, k1_part8_eq_skeleton, k1_part9_eq_skeleton, k1_part10_eq_skeleton]
  unfold k1_part1_skel k1_part2_skel k1_part3_skel k1_part4_skel k1_part5_skel k1_part6_skel k1_part7_skel k1_part8_skel k1_part9_skel k1_part10_skel
  simp only [Prog.lift, Prog.bind_op, Prog.bind_ret, Prog.pure_eq_ret, wp_deviceId]
  refine ((ex m).at_waits EX c K).trans ?_
  refine (array0 m).wait EX 𝒱₀ K c 0 rfl rfl rfl ?_
  refine (array0 m).wait EX 𝒱₀ K c 1 rfl rfl rfl ?_
  refine (array0 m).wait EX 𝒱₀ K c 2 rfl rfl rfl ?_
  refine (array0 m).wait EX 𝒱₀ K c 3 rfl rfl rfl ?_
  refine (array0 m).wait EX 𝒱₀ K c 4 rfl rfl rfl ?_
  refine (array0 m).wait EX 𝒱₀ K c 5 rfl rfl rfl ?_
  refine (array0 m).wait EX 𝒱₀ K c 6 rfl rfl rfl ?_
  refine (array1 m).wait EX 𝒱₀ K c 0 rfl rfl rfl ?_
  refine (array1 m).wait EX 𝒱₀ K c 1 rfl rfl rfl ?_
  refine (array1 m).wait EX 𝒱₀ K c 2 rfl rfl rfl ?_
  refine (array1 m).wait EX 𝒱₀ K c 3 rfl rfl rfl ?_
  refine (array1 m).wait EX 𝒱₀ K c 4 rfl rfl rfl ?_
  refine (array1 m).wait EX 𝒱₀ K c 5 rfl rfl rfl ?_
  refine (array1 m).wait EX 𝒱₀ K c 6 rfl rfl rfl ?_
  iintro ⟨Hc, HO, -, Hd, Hf, HR⟩
  iapply (wp_load 𝒱₀ (c : Thread nD τ) none Set.univ (m := Memref.whole cc1_stg0_0) (Finset.subset_univ _)) $$ Hf; iintro Hf
  iapply (wp_store 𝒱₀ (c : Thread nD τ) none Set.univ (m := Memref.whole cc1_stg0_0) (r := r0) (Mk := Finset.univ) (Finset.subset_univ _)) $$ Hf; iintro Hf
  rw [write_stage1, wp_ret]; imodintro
  iapply h
  isplitl [Hc]; · iexact Hc
  isplitl [HO]; · iexact HO
  isplitl [Hd]; · iexact Hd
  isplitl [Hf] <;> iassumption

end Cert.Mix

end
-- ==== Proof.MixLaunch.lean ====
/-
  The exchange of the mixer's two gradient arrays: the run on the eight devices. The two calls' proof data, @main as a list of segments, the launch, and what every
  final state holds.
-/
module

public import proofs.«01_k».proof.Proof.Mix

@[expose] public section

noncomputable section

namespace Cert.Mix

open Cert.KernelIdeal Cert.KernelIdeal.Gen Cert.Exchange
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The buffers -/

/-- The landing buffers, the arguments, the copies of them, the tokens. -/
abbrev landRefs : List (Ref sig .tc) := [main_v1, main_v2]
abbrev restRefs : List (Ref sig .tc) := [main_arg0, main_arg1, main_v3_2, main_v3_3, main_v3_6, main_v4_4]
/-- What the launch allocates besides the landing buffers. -/
def restBufs : Finset (DevRef τ sig) := restRefs.foldr (fun b T => insert (Proc.devRef .tc b) T) ∅

/-- The contents at the launch and after the copies. -/
def V₀ (c : Dev nD) : Valuation τ sig (Elt F) := fun b => m ((c : Dev nD), b)
def V₁ (c : Dev nD) : Valuation τ sig (Elt F) := StableHlo.after hostOps0_2 (V₀ m c)

omit [FloatOps F] in
theorem allBufs_split (c : Dev nD) (W : Valuation τ sig (Elt F)) : (StableHlo.held (c : Thread nD τ) (allBufs sig) W : sProp 𝕄)
    ⊢ iprop((all landRefs fun b => pt c b (W b)) ∗ StableHlo.held (c : Thread nD τ) restBufs W) := by
  rw [show allBufs sig = landRefs.foldr (fun b T => insert (Proc.devRef .tc b) T) restBufs from by decide]
  exact held_listed c W restBufs landRefs (by decide) (by decide)

omit [FloatOps F] in
theorem restBufs_split (c : Dev nD) (W : Valuation τ sig (Elt F)) : (StableHlo.held (c : Thread nD τ) restBufs W : sProp 𝕄)
    ⊢ all restRefs fun b => pt c b (W b) := by
  refine (held_listed c W ∅ restRefs (by decide) (by decide)).trans ?_
  iintro ⟨H, -⟩
  iexact H

theorem V₁_arg0 (c : Dev nD) : V₁ m c main_arg0 = m ((c : Thread nD τ).loc main_arg0) := by
  show StableHlo.after hostOps0_2 (V₀ m c) (Proc.devRef .tc main_arg0) = _
  after_results
  rfl
theorem V₁_arg1 (c : Dev nD) : V₁ m c main_arg1 = m ((c : Thread nD τ).loc main_arg1) := by
  show StableHlo.after hostOps0_2 (V₀ m c) (Proc.devRef .tc main_arg1) = _
  after_results
  rfl
theorem V₁_copy0 (c : Dev nD) : V₁ m c main_v3_2 = X0 m c := by
  show StableHlo.after hostOps0_2 (V₀ m c) (Proc.devRef .tc main_v3_2) = _
  after_results
  rfl
theorem V₁_copy1 (c : Dev nD) : V₁ m c main_v3_3 = X1 m c := by
  show StableHlo.after hostOps0_2 (V₀ m c) (Proc.devRef .tc main_v3_3) = _
  after_results
  rfl

/-- The arrays of the exchange, buffer by buffer. -/
theorem copies_eq (c : Dev nD) : (all (ex m).list fun a => ((ex m).arr a).src c) = (iprop(pt c main_v3_2 (X0 m c) ∗ pt c main_v3_3 (X1 m c) ∗ BI.emp) : sProp 𝕄) := rfl
theorem lands_eq (c : Dev nD) : (all (ex m).list fun a => ((ex m).arr a).land c) = (all landRefs (anyAt c) : sProp 𝕄) := rfl
theorem dones_eq (c : Dev nD) : (all (ex m).list fun a => ((ex m).arr a).done c) = (iprop(pt c main_v1 (landed (X0 m) c) ∗ pt c main_v2 (landed (X1 m) c) ∗ BI.emp) : sProp 𝕄) := rfl

/-! ## The proof data of the two calls -/

/-- A kernel's token buffer. -/
abbrev stage (c : Dev nD) (b : Ref sig .tc) : sProp 𝕄 := iprop(∃ f : Buf (Elt F) ((c : Thread nD τ).loc b), ((c : Thread nD τ).loc b) ↦{fullShare} f)

def dat0 (c : Dev nD) : Dat τ (Elt F) Unit ℕ UU ℕ cfg0 c where
  A w := match w with
    | ⟨0, _⟩ => V₁ m c main_v3_6
  after w _ := match w with
    | ⟨0, _⟩ => k0_pay1 (F := F)
  Φ t := if t.val = 0 then iprop((ex m).begun EX c ∗ stage c cc1_stg0_0) else iprop((ex m).mid EX c ∗ (ex m).locals c ∗ stage c cc1_stg0_0)
  q _ := fullShare
  owed t := if t.val = 0 then (ex m).O₀ c else 0
def dat1 (c : Dev nD) : Dat τ (Elt F) Unit ℕ UU ℕ cfg1 c where
  A w := match w with
    | ⟨0, _⟩ => V₁ m c main_v4_4
  after w _ := match w with
    | ⟨0, _⟩ => k1_pay1 (F := F)
  Φ t := if t.val = 0 then iprop((ex m).mid EX c ∗ stage c cc0_stg0_0) else iprop((ex m).ended c ∗ stage c cc0_stg0_0)
  q _ := fullShare
  owed _ := 0

abbrev adm : (p : Fin 2) → (pcfgs (F := F) p).Adm := fun p => (cfgs p).toPCfg_adm
def pdats : (p : Fin 2) → (c : Dev nD) → Dat τ (Elt F) Unit ℕ UU ℕ (Pipeline.pin (pcfgs (F := F)) adm p) c
  | 0 => dat0 m
  | 1 => dat1 m

theorem share0 (c : Dev nD) (w : Fin cfg0.W) : (dat0 m c).share w = fullShare := by unfold Dat.share; split <;> rfl
theorem share1 (c : Dev nD) (w : Fin cfg1.W) : (dat1 m c).share w = fullShare := by unfold Dat.share; split <;> rfl

theorem arrays0 (c : Dev nD) : pt c main_v3_6 (V₁ m c main_v3_6) ⊢ ((pdats (F := F) m 0 c).arrays ((pdats m 0 c).arrAt · 0) : sProp 𝕄) := by
  show _ ⊢ (bigSep Finset.univ fun w : Fin 1 => (cfg0.win w).arr.view.loc (c.tc : Thread nD τ) ↦[(cfg0.win w).arr.view.set]{(dat0 m c).share w} (dat0 m c).arrAt w 0 : sProp 𝕄)
  rw [bigSep_W0, share0]
  show _ ⊢ ((Memref.whole main_v3_6).view.loc (c.tc : Thread nD τ) ↦[(Memref.whole main_v3_6).view.set]{fullShare} V₁ m c main_v3_6 : sProp 𝕄)
  simp only [Memref.view_whole, View.set_whole]
  exact BI.Entails.refl _
theorem arrays1 (c : Dev nD) : pt c main_v4_4 (V₁ m c main_v4_4) ⊢ ((pdats (F := F) m 1 c).arrays ((pdats m 1 c).arrAt · 0) : sProp 𝕄) := by
  show _ ⊢ (bigSep Finset.univ fun w : Fin 1 => (cfg1.win w).arr.view.loc (c.tc : Thread nD τ) ↦[(cfg1.win w).arr.view.set]{(dat1 m c).share w} (dat1 m c).arrAt w 0 : sProp 𝕄)
  rw [bigSep_W1, share1]
  show _ ⊢ ((Memref.whole main_v4_4).view.loc (c.tc : Thread nD τ) ↦[(Memref.whole main_v4_4).view.set]{fullShare} V₁ m c main_v4_4 : sProp 𝕄)
  simp only [Memref.view_whole, View.set_whole]
  exact BI.Entails.refl _
theorem prefHeld0 (c : Dev nD) (q) (pf) : (Pipeline.prefHeld (Ix := Unit) (Name := ℕ) (U := UU) (Lvl := ℕ) (Val := Elt F) (pcfgs (F := F) 0).pre c q pf : sProp 𝕄) = BI.emp :=
  no_prefs _
theorem prefHeld1 (c : Dev nD) (q) (pf) : (Pipeline.prefHeld (Ix := Unit) (Name := ℕ) (U := UU) (Lvl := ℕ) (Val := Elt F) (pcfgs (F := F) 1).pre c q pf : sProp 𝕄) = BI.emp :=
  no_prefs _

theorem owed0_zero (c : Dev nD) : (pdats (F := F) m 0 c).owed 0 = (ex m).O₀ c := by
  show (if ((0 : Fin (cfg0.N + 1)).val = 0) then (ex m).O₀ c else 0) = (ex m).O₀ c; exact if_pos rfl
theorem owed0_first (c : Dev nD) : (dat0 (F := F) m c).owed t0_0.castSucc = (ex m).O₀ c := by
  show (if (t0_0.castSucc : Fin (cfg0.N + 1)).val = 0 then (ex m).O₀ c else 0) = (ex m).O₀ c; exact if_pos rfl
theorem owed0_last (c : Dev nD) : (pdats (F := F) m 0 c).owed (Fin.last _) = 0 := by
  show (if (Fin.last cfg0.N).val = 0 then (ex m).O₀ c else 0) = 0
  rw [Fin.val_last, if_neg (by rw [show cfg0.N = 1 from N_0]; decide)]

theorem owing_dues (c : Dev nD) : iprop(∃ W, owes (c : Thread nD τ) ((ex m).O₀ c) W) = ((ex m).plan.owing c (ex m).dues : sProp 𝕄) := rfl
theorem owing_nil (c : Dev nD) : ((ex m).plan.owing c [] : sProp 𝕄) = iprop(∃ W, owes (c : Thread nD τ) (0 : CellTallies nD τ sig Unit) W) := rfl

set_option maxRecDepth 8000 in
/-- The start kernel's body. -/
theorem body0 (c : Dev nD) : BodyObligation (dat0 (F := F) m c) defs₀ 𝒱₀ () Set.univ := fun t => by
  obtain rfl := fin_N0 t
  rw [bigSep_W0, bigSep_W0]
  show iprop(iprop((ex m).begun EX c ∗ stage c cc1_stg0_0) ∗ (dat0 m c).owesAt () t0_0.castSucc
      ∗ (∃ d, owns c (Memref.whole cc0_stg0_0) fullShare ((dat0 m c).before (0 : Fin 1) t0_0 d)))
    ⊢ wp frame (wpE (defs₀ (F := F)) 𝒱₀ c none) Set.univ (bodyAt0 t0_0) fun _ =>
      iprop(iprop((ex m).mid EX c ∗ (ex m).locals c ∗ stage c cc1_stg0_0)
        ∗ (dat0 m c).owesAt () t0_0.succ ∗ owns c (Memref.whole cc0_stg0_0) fullShare (k0_pay1 (F := F)))
  rw [owns_whole_eq]
  unfold Ex.begun
  iintro ⟨⟨⟨⟨%K, HK⟩, Hn, Hi⟩, Hf⟩, HO, ⟨%d, Hs⟩⟩
  ihave Hs := (Entails.of_eq (owns_whole_eq _ cc0_stg0_0 _ _)) $$ Hs
  icases Hs with ⟨%g, -, Hs⟩
  ihave HO := (owesAt_elim (dat0 m c) _ ((ex m).O₀ c) (owed0_first m c)) $$ HO
  iapply (start_run m K c g (Rest := iprop((ex m).idle EX c ∗ stage c cc1_stg0_0)) ?_)
  · rw [owing_nil]
    iintro ⟨HK, ⟨%W, HO⟩, Hl, Hs, Hi, Hf⟩
    ihave Hm := ((ex m).mid_intro EX c K) $$ [HK Hl Hi]
    · isplitl [HK]; · iexact HK
      isplitl [Hl] <;> iassumption
    icases Hm with ⟨Hm, Hz⟩
    isplitl [Hm Hz Hf]
    · isplitl [Hm]; · iexact Hm
      isplitl [Hz] <;> iassumption
    isplitl [HO]; · iapply (owesAt_intro (dat0 m c) t0_0.succ 0 (owed0_last m c) W); iexact HO
    iexists (k0_pay1 (F := F)); isplitr; · ipureintro; rfl
    iexact Hs
  isplitl [HK]; · iexact HK
  isplitl [HO]; · iapply (Entails.of_eq (owing_dues m c)); iexact HO
  isplitl [Hn]; · iexact Hn
  isplitl [Hs]; · iexact Hs
  isplitl [Hi] <;> iassumption

set_option maxRecDepth 8000 in
/-- The wait kernel's. -/
theorem body1 (c : Dev nD) : BodyObligation (dat1 (F := F) m c) defs₀ 𝒱₀ () Set.univ := fun t => by
  obtain rfl := fin_N1 t
  rw [bigSep_W1, bigSep_W1]
  show iprop(iprop((ex m).mid EX c ∗ stage c cc0_stg0_0) ∗ (dat1 m c).owesAt () t1_0.castSucc
      ∗ (∃ d, owns c (Memref.whole cc1_stg0_0) fullShare ((dat1 m c).before (0 : Fin 1) t1_0 d)))
    ⊢ wp frame (wpE (defs₀ (F := F)) 𝒱₀ c none) Set.univ (bodyAt1 t1_0) fun _ =>
      iprop(iprop((ex m).ended c ∗ stage c cc0_stg0_0)
        ∗ (dat1 m c).owesAt () t1_0.succ ∗ owns c (Memref.whole cc1_stg0_0) fullShare (k1_pay1 (F := F)))
  rw [owns_whole_eq]
  unfold Ex.mid
  iintro ⟨⟨⟨⟨%K, HK⟩, Hl, Ho, Hb⟩, Hf⟩, HO, ⟨%d, Hs⟩⟩
  ihave Hs := (Entails.of_eq (owns_whole_eq _ cc1_stg0_0 _ _)) $$ Hs
  icases Hs with ⟨%g, -, Hs⟩
  ihave HO := (owesAt_elim (dat1 m c) _ 0 rfl) $$ HO
  iapply (wait_run m K c g (Rest := iprop(((all (ex m).list ((ex m).plan.own c)) ∗ semVal ((ex m).plan.barC c ()) 0) ∗ stage c cc0_stg0_0)) ?_)
  · rw [owing_nil]
    iintro ⟨-, ⟨%W, HO⟩, Hd, Hs, Ho, Hf⟩
    isplitl [Hd Ho Hf]
    · isplitr [Hf]
      · iapply ((ex m).ended_intro c)
        isplitl [Hd] <;> iassumption
      iexact Hf
    isplitl [HO]; · iapply (owesAt_intro (dat1 m c) t1_0.succ 0 rfl W); iexact HO
    iexists (k1_pay1 (F := F)); isplitr; · ipureintro; rfl
    iexact Hs
  isplitl [HK]; · iexact HK
  isplitl [HO]; · iapply (Entails.of_eq (owing_nil m c).symm); iexact HO
  isplitl [Hl]; · iexact Hl
  isplitl [Hs]; · iexact Hs
  isplitl [Ho Hb]
  · isplitl [Ho] <;> iassumption
  iexact Hf

/-! ## The segments -/

local notation "ℍ" => Pipeline.HostSeg (Name := ℕ) (U := UU) (pcfgs (F := F)) defs₀ 𝒱₀ Plan.L (Plan.lv (Ex.plan (ex m)))
local notation "ℝ𝕊" => Pipeline.RegionSeg (pcfgs (F := F)) adm (pdats m) () defs₀ 𝒱₀ Plan.L (Plan.lv (Ex.plan (ex m)))

/-- What rides along the segments before the kernels. -/
def along (c : Dev nD) : sProp 𝕄 := iprop((ex m).ready EX c ∗ owes (c : Thread nD τ) ((ex m).O₀ c) ∅)
/-- The arguments as they were. -/
def args (c : Dev nD) : sProp 𝕄 := iprop(pt c main_arg0 (m ((c : Thread nD τ).loc main_arg0)) ∗ pt c main_arg1 (m ((c : Thread nD τ).loc main_arg1)))
/-- What is left of the arrays between the two kernels. -/
def rest (c : Dev nD) : sProp 𝕄 := iprop(args m c ∗ pt c main_v4_4 (V₁ m c main_v4_4))
/-- The landing buffers allocated, those yet to be, and the rest. -/
abbrev around (old new : List (Ref sig .tc)) (c : Dev nD) : sProp 𝕄 :=
  iprop(all old (anyAt c) ∗ (all new fun b => pt c b (V₀ m c b)) ∗ (StableHlo.held (c : Thread nD τ) restBufs (V₀ m c) ∗ along m c))

def seg0 : ℍ := Pipeline.HostSeg.alloc _ _ _ _ _ main_v1 ⟨by decide, rfl⟩ (V₀ m) (around m [] [main_v2])
def seg1 : ℍ := Pipeline.HostSeg.alloc _ _ _ _ _ main_v2 ⟨by decide, rfl⟩ (V₀ m) (around m [main_v1] [])

theorem copies_sub : ∀ op ∈ (hostOps0_2 : List (HloOp τ sig (Elt F))), op.bufs ⊆ restBufs := fun op h => by
  simp only [List.mem_cons, List.mem_nil_iff, or_false] at h
  rcases h with rfl | rfl
  · show ({Proc.devRef .tc main_arg0, Proc.devRef .tc main_v3_2} : Finset (DevRef τ sig)) ⊆ restBufs; decide
  · show ({Proc.devRef .tc main_arg1, Proc.devRef .tc main_v3_3} : Finset (DevRef τ sig)) ⊆ restBufs; decide
theorem copies_fresh : ∀ op ∈ (hostOps0_2 : List (HloOp τ sig (Elt F))), op.fresh = ∅ := fun op h => by
  simp only [List.mem_cons, List.mem_nil_iff, or_false] at h
  rcases h with rfl | rfl <;> rfl

def seg2 : ℍ := Pipeline.HostSeg.ofOps _ _ _ _ _ restBufs hostOps0_2 copies_sub copies_fresh (V₀ m)
  fun c => iprop(all [main_v2, main_v1] (anyAt c) ∗ along m c)

/-- The start kernel's own semaphores. -/
def locSem (a : Fin 2) : SemLoc sig := (ex (F := F) m).osem (.inr a)

theorem locSems (c : Dev nD) : (Pipeline.ownSems0 (locSem m) c : sProp 𝕄) = (ex m).locals c := by
  unfold Pipeline.ownSems0
  exact (ex m).over_arrays _

theorem locSems_own : Pipeline.OwnSemFacts spec0 (locSem m) := by
  show Pipeline.OwnSemFacts spec0 (fun a => semOf 2 (0 : Sem sig) (by decide) (.inr a))
  decide
theorem stage_sem : ∀ (w : Fin 1) (s : Fin (spec0 w).nbuf), (spec0 w).sem s = cc0_sem0_0 := by decide

/-- The start kernel's region. -/
def reg0 : ℝ𝕊 0 where
  win := winFacts0.to₀
  block_pos := block_pos0
  stage_whole := stage_whole0
  K := Fin 2
  osem := locSem m
  ho := locSems_own m
  hbody c := (body0 m c).loose
  hwaits c := Pipeline.cellsWaits_intro _ (pdats m) () 0 c fun w s t => by
    refine (ex m).stage_wait c (((Pipeline.pin (pcfgs (F := F)) adm 0).win w).sem s)
      ((stage_sem w s).symm ▸ semOf_token 2 (0 : Sem sig) (by decide) cc0_sem0_0 rfl) _ ?_
    show (if t.val = 0 then (ex m).O₀ c else 0) = (ex m).O₀ c ∨ (if t.val = 0 then (ex m).O₀ c else 0) = 0
    split
    · exact .inl rfl
    · exact .inr rfl
  pre c := iprop(StableHlo.held (c : Thread nD τ) restBufs (V₁ m c) ∗ (all [main_v2, main_v1] (anyAt c) ∗ along m c))
  post c := iprop(rest m c ∗ (ex m).mid EX c ∗ clear c)
  X := (ex m).begun EX
  Y := (ex m).mid EX
  Z := rest m
  hentry c := by
    rw [prefHeld0, locSems m c]
    unfold along rest args
    iintro ⟨⟨Hh, Hl, Hr, HO⟩, Hz, -⟩
    ihave Hh := (restBufs_split c (V₁ m c)) $$ Hh
    ihave Hh := (Entails.of_eq (show (all restRefs fun b => pt c b (V₁ m c b))
      = (iprop(pt c main_arg0 (V₁ m c main_arg0) ∗ pt c main_arg1 (V₁ m c main_arg1) ∗ pt c main_v3_2 (V₁ m c main_v3_2) ∗ pt c main_v3_3 (V₁ m c main_v3_3) ∗ pt c main_v3_6 (V₁ m c main_v3_6) ∗ pt c main_v4_4 (V₁ m c main_v4_4) ∗ BI.emp) : sProp 𝕄) from rfl)) $$ Hh
    rw [V₁_arg0, V₁_arg1, V₁_copy0, V₁_copy1]
    icases Hh with ⟨Ha0, Ha1, Hf0, Hf1, Ht, Ht', -⟩
    imod ((ex m).begun_intro EX c) $$ [Hr Hz Hf0 Hf1 Hl] with Hb
    · isplitl [Hr]; · iexact Hr
      isplitl [Hz]; · iexact Hz
      isplitr [Hl]
      · rw [copies_eq]
        isplitl [Hf0]; · iexact Hf0
        isplitl [Hf1]; · iexact Hf1
        iempintro
      · rw [lands_eq]
        iapply (show all [main_v2, main_v1] (anyAt c) ⊢ (all landRefs (anyAt c) : sProp 𝕄) from all_reverse landRefs (anyAt c)); iexact Hl
    imodintro
    isplitl [Ht]; · iapply (arrays0 m c); iexact Ht
    isplitr; · iempintro
    isplitl [HO]; · iapply (owesAt_intro (pdats m 0 c) 0 ((ex m).O₀ c) (owed0_zero m c)); iexact HO
    isplitl [Hb]; · iexact Hb
    isplitr [Ht']
    · isplitl [Ha0] <;> iassumption
    iexact Ht'
  hin c := by
    show iprop((ex m).begun EX c ∗ _ ∗ Pipeline.scopedRest spec0 c) ⊢ iprop((ex m).begun EX c ∗ stage c cc1_stg0_0)
    rw [scopedRest0_eq]
    iintro ⟨HX, -, Hs⟩
    isplitl [HX] <;> iassumption
  hout c := by
    rw [locSems m c]
    show iprop((ex m).mid EX c ∗ (ex m).locals c ∗ stage c cc1_stg0_0) ⊢ iprop((ex m).mid EX c ∗ (ex m).locals c ∗ Pipeline.scopedRest spec0 c)
    rw [scopedRest0_eq]
  hexit c := by
    unfold clear
    iintro ⟨-, HO, HY, HZ⟩
    imodintro
    isplitl [HZ]; · iexact HZ
    isplitl [HY]; · iexact HY
    iapply (owesAt_elim (pdats m 0 c) _ 0 (owed0_last m c)); iexact HO

/-- The wait kernel's region. -/
def reg1 : ℝ𝕊 1 where
  win := winFacts1.to₀
  block_pos := block_pos1
  stage_whole := stage_whole1
  K := PEmpty
  osem k := k.elim
  ho := Pipeline.OwnSemFacts.none _
  hbody c := (body1 m c).loose
  hwaits := Pipeline.hwaits_of_owed_zero _ _ _ _ Plan.L (Plan.lv (ex m).plan) 1 fun _ _ => rfl
  pre c := iprop(rest m c ∗ (ex m).mid EX c ∗ clear c)
  post c := iprop((args m c ∗ (ex m).ended c) ∗ clear c)
  X := (ex m).mid EX
  Y := (ex m).ended
  Z := args m
  hentry c := by
    rw [prefHeld1, Pipeline.ownSems0_none]
    unfold rest clear
    iintro ⟨⟨⟨Ha, Ht⟩, Hm, ⟨%W, HO⟩⟩, -, -⟩
    imodintro
    isplitl [Ht]; · iapply (arrays1 m c); iexact Ht
    isplitr; · iempintro
    isplitl [HO]; · iapply (owesAt_intro (pdats m 1 c) 0 0 rfl W); iexact HO
    isplitl [Hm] <;> iassumption
  hin c := by
    show iprop((ex m).mid EX c ∗ _ ∗ Pipeline.scopedRest spec1 c) ⊢ iprop((ex m).mid EX c ∗ stage c cc0_stg0_0)
    rw [scopedRest1_eq]
    iintro ⟨HX, -, Hs⟩
    isplitl [HX] <;> iassumption
  hout c := by
    rw [Pipeline.ownSems0_none]
    show iprop((ex m).ended c ∗ stage c cc0_stg0_0) ⊢ iprop((ex m).ended c ∗ BI.emp ∗ Pipeline.scopedRest spec1 c)
    rw [scopedRest1_eq]
    iintro ⟨H, Hs⟩
    isplitl [H]; · iexact H
    isplitr; · iempintro
    iexact Hs
  hexit c := by
    unfold clear
    iintro ⟨-, HO, HY, HZ⟩
    imodintro
    isplitl [HZ HY]
    · isplitl [HZ] <;> iassumption
    iapply (owesAt_elim (pdats m 1 c) _ 0 rfl); iexact HO

theorem seg0_prog : (seg0 (F := F) m).prog = StableHlo.seq (hostOps0 : List (HloOp τ sig (Elt F))) := by
  show (hlo rfl (StableHlo.allocateBuffer (τ := τ) (Val := Elt F) main_v1 ⟨by decide, rfl⟩) fun _ => .ret ⟨⟩) = StableHlo.seq [StableHlo.allocateBuffer main_v1]
  simp only [StableHlo.seq, Prog.bind_op, Prog.bind_ret]
  rfl
theorem seg1_prog : (seg1 (F := F) m).prog = StableHlo.seq (hostOps0_1 : List (HloOp τ sig (Elt F))) := by
  show (hlo rfl (StableHlo.allocateBuffer (τ := τ) (Val := Elt F) main_v2 ⟨by decide, rfl⟩) fun _ => .ret ⟨⟩) = StableHlo.seq [StableHlo.allocateBuffer main_v2]
  simp only [StableHlo.seq, Prog.bind_op, Prog.bind_ret]
  rfl
theorem seg2_prog : (seg2 (F := F) m).prog = StableHlo.seq (hostOps0_2 : List (HloOp τ sig (Elt F))) := rfl

/-- @main as the list. -/
def segs : List (Pipeline.Seg (pcfgs (F := F)) adm (pdats m) () defs₀ 𝒱₀ Plan.L (Plan.lv (ex m).plan)) :=
  [.host (seg0 m), .host (seg1 m), .host (seg2 m), .region (reg0 m), .region (reg1 m)]

theorem main_eq (c : Dev nD) : main (F := F) c = Pipeline.Seg.run (segs m) := by
  rw [main_chain]
  unfold segs
  simp only [Pipeline.Seg.run, seg0_prog, seg1_prog, seg2_prog, Pipeline.chain, Prog.lift, Prog.bind_op, Prog.bind_ret, Prog.pure_eq_ret]

/-! ## The launch -/

/-- The launch element: the pipeline library's at its staging cells, the exchange's at its own. -/
def u₀ : UU :=
  (initOf (Pipeline.cells (Pipeline.pin (pcfgs (F := F)) adm) cellOf_inj) (Pipeline.launchToks (Pipeline.pin (pcfgs (F := F)) adm) cellOf_inj),
    initOf (ex m).plan.cellSet (ex m).plan.tokSet)

/-- The semaphores outside the kernels are the cells of the exchange. -/
theorem sems_all : ((Finset.univ : Finset (SemLoc sig)).filter fun sm => ¬ sm.isScoped .tc)
    = Finset.univ.map ⟨fun u : UC Unit (Fin 2) => semOf 2 (0 : Sem sig) (by decide) (.inl u), fun _ _ h => Sum.inl_injective (semOf_inj _ _ _ h)⟩ := by
  decide

theorem sems_eq (c : Dev nD) : (unscopedSems0 c : sProp 𝕄) = bigSep Finset.univ fun u : UC Unit (Fin 2) => semVal ((ex m).plan.cell c (.inl u)) 0 := by
  unfold unscopedSems0
  rw [sems_all, BI.bigSep_map]
  rfl

abbrev T₀ (c : Dev nD) : sProp 𝕄 := iprop(pt c main_v1 (V₀ m c main_v1) ∗ around m [] [main_v2] c)
abbrev Tₙ (c : Dev nD) : sProp 𝕄 := iprop(args m c ∗ (ex m).ended c)

theorem launched (c : Dev nD) : iprop(unscopedBufs c (fun b => m ((c : Thread nD τ).loc b)) ∗ (ex m).ready EX c ∗ owes (c : Thread nD τ) ((ex m).O₀ c) ∅)
    ⊢ (T₀ m c : sProp 𝕄) := by
  rw [show unscopedBufs c (fun b => m ((c : Thread nD τ).loc b)) = (StableHlo.held (c : Thread nD τ) (allBufs sig) (V₀ m c) : sProp 𝕄) from unscopedBufs_held c (V₀ m c)]
  unfold T₀ around along
  iintro ⟨Hh, Hr, HO⟩
  ihave Hh := (allBufs_split c (V₀ m c)) $$ Hh
  rw [all_cons]
  icases Hh with ⟨⟨H1, H2⟩, Hh⟩
  isplitl [H1]; · iexact H1
  isplitr; · iempintro
  isplitl [H2]; · iexact H2
  isplitl [Hh]; · iexact Hh
  isplitl [Hr] <;> iassumption

theorem after_seg0 (c : Dev nD) : iprop(anyAt c main_v1 ∗ around m [] [main_v2] c)
    ⊢ (iprop(pt c main_v2 (V₀ m c main_v2) ∗ around m [main_v1] [] c) : sProp 𝕄) :=
  next_alloc (x := main_v1) (y := main_v2) (l := []) (l' := []) (P := anyAt c) (Q := fun b => pt c b (V₀ m c b))
theorem after_seg1 (c : Dev nD) : iprop(anyAt c main_v2 ∗ around m [main_v1] [] c)
    ⊢ (iprop(StableHlo.held (c : Thread nD τ) restBufs (V₀ m c) ∗ (all [main_v2, main_v1] (anyAt c) ∗ along m c)) : sProp 𝕄) :=
  last_alloc (x := main_v2) (l := [main_v1]) (P := anyAt c) (Q := fun b => pt c b (V₀ m c b))
theorem chained : Pipeline.Seg.Chains (T₀ m) (segs m) fun c => iprop(Tₙ m c ∗ ∃ W, owes (c : Thread nD τ) (0 : CellTallies nD τ sig Unit) W) :=
  ⟨fun c => .rfl, after_seg0 m, after_seg1 m, fun c => .rfl, fun c => .rfl, fun c => .rfl⟩

/-- What a final state shows of a device. -/
def Shown (c : Dev nD) (μ : (ℓ : Loc nD τ sig) → Buf (Elt F) ℓ) : Prop :=
  (μ ((c : Thread nD τ).loc main_arg0) = m ((c : Thread nD τ).loc main_arg0) ∧ μ ((c : Thread nD τ).loc main_arg1) = m ((c : Thread nD τ).loc main_arg1))
    ∧ μ ((c : Thread nD τ).loc main_v1) = landed (X0 m) c ∧ μ ((c : Thread nD τ).loc main_v2) = landed (X1 m) c

theorem read_end (c : Dev nD) (s' : Phys nD τ sig (Elt F)) : iprop(Tₙ m c ∗ SI s')
    ⊢ (|={Set.univ}=> iprop(⌜Shown m c s'.mem.mem ∧ ∀ u, s'.mem.sem ((ex m).plan.cell c (.inl u)) = 0⌝ ∗ SI s') : sProp 𝕄) := by
  unfold Tₙ args Ex.ended
  rw [dones_eq]
  iintro ⟨⟨⟨Ha0, Ha1⟩, ⟨H0, H1, -⟩, Hz⟩, HSI⟩
  icombine HSI Ha0 gives %ha0
  icombine HSI Ha1 gives %ha1
  icombine HSI H0 gives %h0
  icombine HSI H1 gives %h1
  ihave H := ((ex m).zeros_read c s') $$ [Hz HSI]
  · isplitl [Hz] <;> iassumption
  icases H with ⟨%hz, HSI⟩
  imodintro
  isplitr
  · ipureintro
    exact ⟨⟨⟨Buf.eq_of_forall_mem_univ ha0, Buf.eq_of_forall_mem_univ ha1⟩, Buf.eq_of_forall_mem_univ h0, Buf.eq_of_forall_mem_univ h1⟩, hz⟩
  iexact HSI

-- the launch theorem's implicit arguments are found by unifying its conclusion with this one, which takes unfolding plain
-- definitions in the type of an unknown
set_option backward.isDefEq.respectTransparency.types false in
/-- The run: at any float values, from any memory with zero counters, every weakly fair execution of @main on the eight
    devices terminates, and in every final state each device's arguments hold what they held, its landing buffers hold
    in slot `j` what device `j` had in slot `c`, and every semaphore counter is at zero. -/
theorem run_main : θ_run defs (onTc (τ := τ) (main (F := F))) (s₀ m ρ)
    (fun r => (∀ c : Dev nD, Shown m c r.2.mem) ∧ r.2.sem = fun _ => 0) :=
  Pipeline.θ_run_regions_kit_sems (pcfgs (F := F)) adm (pdats m) () cellOf_inj EP defs₀ 𝒱₀ Plan.L (ex m).plan.lv m ρ main (segs m)
    (fun c Q => by rw [main_eq m c])
    (by simp only [segs, Pipeline.Seg.pipes_host, Pipeline.Seg.pipes_region, Pipeline.Seg.pipes_nil]; decide)
    (O₀ := (ex m).O₀) (hL := Plan.L_of_ne) (G := (ex m).plan.deal EX) (u₀ := u₀ m)
    (hu₀ := by
      unfold u₀
      iintro Hu
      ihave H := (ownU_pair _ _) $$ Hu
      icases H with ⟨HP, HX⟩
      imod ((ex m).plan.fund EX) $$ HX with HG
      imodintro
      isplitl [HP]; · iexact HP
      iexact HG)
    (T₀ := T₀ m) (Tₙ := Tₙ m)
    (hch := chained m)
    (hinit := (ex m).init EX ρ (sems_eq m) (launched m))
    (QY := fun c s => Shown m c s.mem ∧ ∀ u, s.sem ((ex m).plan.cell c (.inl u)) = 0)
    (hfin := read_end m)
    (hQ := fun s h hs => ⟨fun c => (h c).1, sem_eq_zero hs fun c sm hsm => by
      have hsm := sems_all ▸ Finset.mem_filter.mpr ⟨Finset.mem_univ sm, by rw [hsm]; decide⟩
      obtain ⟨u, -, rfl⟩ := Finset.mem_map.mp hsm
      exact (h c).2 u⟩)

end Cert.Mix

end
-- ==== Proof.Value.lean ====
/-
  What an exchange computes of the whole arrays. Of slots sent one to each peer: when device `c` holds rows `8 c` to `8 c + 7`
  of an array of 64 rows, the rows it ends with are its own block of the array with sender and receiver exchanged. Of arrays
  sent whole: when device `c` holds block `c` of an array cut in eight, every device ends with the array, block by block.
-/
module

public import proofs.«01_k».proof.Proof.Slots
public import Idealize.ShloMosaic.Lib.Layout
public import Idealize.ShloMosaic.Lib.Pipeline.Value

@[expose] public section

noncomputable section

namespace Cert.Exchange

open Idealize.ShloMosaic

/-- The eight devices' slots, one after the other. -/
abbrev W3 (r w : ℕ) : Shape := ⟨3, ![64, r, w]⟩
/-- The same, by device and slot. -/
abbrev W4 (r w : ℕ) : Shape := ⟨4, ![8, 8, r, w]⟩

variable {r w : ℕ} {V : Type}

/-- An element by device, slot, row and column. -/
def at4 (p q : Dev 8) (i : (S3 r w).Idx) : (W4 r w).Idx
  | ⟨0, _⟩ => (p : Fin 8)
  | ⟨1, _⟩ => (q : Fin 8)
  | ⟨2, _⟩ => i 1
  | ⟨3, _⟩ => i 2

/-- The array with device and slot exchanged. -/
def swapped (a : (W3 r w).Idx → V) (h : (W3 r w).ShapeCasts (W4 r w)) (ht : (W4 r w).Transposes [1, 0, 2, 3] (W4 r w))
    (h' : (W4 r w).ShapeCasts (W3 r w)) : (W3 r w).Idx → V :=
  shapeCast (W3 r w) (transpose (W4 r w) [1, 0, 2, 3] (shapeCast (W4 r w) a h) ht) h'

/-- Element `i` of device `c`'s block has device `c` and the slot of `i`. -/
theorem pos_block (T : Layout.Tiles (S3 r w) (W3 r w) 0 8) (c : Dev 8) (i : (S3 r w).Idx) :
    ((W4 r w).rowMajor (at4 c (slotOf i) i)).val = ((W3 r w).rowMajor (T.idx c i)).val := by
  rw [Shape.rowMajor_val_four, Shape.rowMajor_val_three]
  show (((c.val * 8 + (i 0).val) * r + (i 1).val) * w + (i 2).val) = ((c.val * 8 + (i 0).val) * r + (i 1).val) * w + (i 2).val
  rfl

/-- Every device's block of the exchanged array is what the exchange of the blocks leaves with it. -/
theorem landed_blocks (T : Layout.Tiles (S3 r w) (W3 r w) 0 8) (a : (W3 r w).Idx → V)
    (h : (W3 r w).ShapeCasts (W4 r w)) (ht : (W4 r w).Transposes [1, 0, 2, 3] (W4 r w))
    (h' : (W4 r w).ShapeCasts (W3 r w)) (c : Dev 8) :
    landed (fun d => Layout.block (S3 r w) (W3 r w) 0 8 d a T) c = Layout.block (S3 r w) (W3 r w) 0 8 c (swapped a h ht h') T := by
  funext i
  rw [Layout.block_apply]
  unfold swapped
  rw [Idealize.ShloMosaic.shapeCast_apply _ h' (T.idx c i) (at4 c (slotOf i) i) (pos_block T c i),
    Idealize.ShloMosaic.transpose_apply [1, 0, 2, 3] _ ht (at4 c (slotOf i) i) (at4 (slotOf i) c i) (by
      intro b; fin_cases b <;> rfl),
    Idealize.ShloMosaic.shapeCast_apply a h (at4 (slotOf i) c i) (T.idx (slotOf i) (move c i)) (by
      rw [← pos_block T (slotOf i) (move c i), slotOf_move]; rfl)]
  rfl

/-- What every device ends with, of blocks sent whole, is the whole array by block. -/
theorem gathered_blocks {n : ℕ} (T : Layout.Tiles (S2 r w) ⟨2, ![n, w]⟩ 0 8) (a : (⟨2, ![n, w]⟩ : Shape).Idx → V)
    (h : (⟨2, ![n, w]⟩ : Shape).ShapeCasts (S3 r w)) :
    gathered (fun d => Layout.block (S2 r w) ⟨2, ![n, w]⟩ 0 8 d a T) = shapeCast (S3 r w) a h := by
  funext i
  show Layout.block (S2 r w) ⟨2, ![n, w]⟩ 0 8 (slotOf i) a T (place i) = _
  rw [Layout.block_apply]
  refine (Idealize.ShloMosaic.shapeCast_apply a h i (T.idx (slotOf i) (place i)) ?_).symm
  rw [Shape.rowMajor_val_three, Shape.rowMajor_val_two]
  rfl

end Cert.Exchange

end
-- ==== Proof.MixClaims.lean ====
/-
  The exchange of the mixer's two gradient arrays: the frames of the program, of its idealization and of the reference, and the two comparisons with the reference.
  One run, stated for any float values, serves all of the kernel's claims; what it leaves in the result arrays is compared
  with the reference once, also for any values.
-/
module

public import proofs.«01_k».proof.Defs
public import proofs.«01_k».proof.Proof.MixLaunch
public import proofs.«01_k».proof.Proof.Value
public import proofs.«01_k».proof.Proof.Gen.Kernel
public import proofs.«01_k».proof.Proof.Gen.Reference
public import proofs.«01_k».proof.Proof.Gen.ReferenceIdeal
public import proofs.«01_k».proof.Proof.Gen.Reference.Run
public import proofs.«01_k».proof.Proof.Gen.ReferenceIdeal.Run

@[expose] public section

noncomputable section

namespace Cert.Mix

open Idealize.ShloMosaic Idealize.SL.Sem Cert.Exchange

/-- The two kernels of the program as written are those of its idealization. -/
theorem kernels_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
  | 1, (t, s) => rfl
  | ⟨_ + 2, h⟩, _ => exact absurd h (Nat.not_lt.2 (Nat.le_add_left _ _))

/-- And so is what its calls mean. -/
theorem calls_eq : Cert.Kernel.defs (F := Bits) = Cert.KernelIdeal.defs (F := Bits) :=
  congrArg (Pipeline.defs (Cert.Kernel.pcfgs (F := Bits))) kernels_eq

/-- The run at the bits, of the program as written: its text is that of its idealization. -/
theorem run_bits (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (fun r =>
      (∀ c : Dev Cert.Kernel.nD, Shown (F := Bits) m c r.2.mem) ∧ r.2.sem = fun _ => 0) := by
  rw [calls_eq]
  exact run_main (F := Bits) m ρ

theorem frame_kernel : Cert.quiescent_Kernel := fun m ρ _ =>
  (θ_run Cert.Kernel.defs _ _).mono (fun _ h => ⟨fun c => (h.1 c).1, h.2⟩) (run_bits m ρ)

theorem frame_ideal : Cert.quiescent_KernelIdeal := fun m ρ _ =>
  (θ_run Cert.KernelIdeal.defs _ _).mono (fun _ h => ⟨fun c => (h.1 c).1, h.2⟩) (run_main (F := Ideal) m ρ)

theorem frame_reference_ideal : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem frame_reference : Cert.quiescent_Reference := fun m ρ _ =>
  (θ_run Cert.Reference.defs _ _).mono (fun r h => ⟨fun c => (h c).2.2, sem_eq_zero_of_no_sems (by decide) r.2⟩)
    (Cert.Reference.Value.run (F := Bits) m ρ)

theorem algebraic : Cert.algebraic_KernelIdeal_ReferenceIdeal := fun m ρ m' ρ' _ hm => by
  refine ⟨_, _, ?_, (θ_run Cert.ReferenceIdeal.defs _ _).mono (fun r h => h 0) (Cert.ReferenceIdeal.Value.run (F := Ideal) m' ρ')⟩
  refine (θ_run Cert.KernelIdeal.defs _ _).mono (fun r h c => ?_) (run_main (F := Ideal) m ρ)
  refine ⟨((h.1 c).2.1).trans ?_, ((h.1 c).2.2).trans ?_, (h.1 c).1⟩
  · exact (congrArg (fun X => landed X c) (funext fun d => (hm d).1)).trans (landed_blocks _ _ _ _ _ c)
  · exact (congrArg (fun X => landed X c) (funext fun d => (hm d).2)).trans (landed_blocks _ _ _ _ _ c)

theorem bitexact : Cert.bitexact_Kernel_Reference := fun m ρ m' ρ' _ hm => by
  refine ⟨_, _, ?_, (θ_run Cert.Reference.defs _ _).mono (fun r h => h 0) (Cert.Reference.Value.run (F := Bits) m' ρ')⟩
  refine (θ_run Cert.Kernel.defs _ _).mono (fun r h c => ?_) (run_bits m ρ)
  refine ⟨((h.1 c).2.1).trans ?_, ((h.1 c).2.2).trans ?_, (h.1 c).1⟩
  · exact (congrArg (fun X => landed X c) (funext fun d => (hm d).1)).trans (landed_blocks _ _ _ _ _ c)
  · exact (congrArg (fun X => landed X c) (funext fun d => (hm d).2)).trans (landed_blocks _ _ _ _ _ c)

end Cert.Mix

end
-- ==== Proof.Ffn.lean ====
/-
  The exchange of the feed-forward layer's two gradient arrays: its semaphores and arrays, and the runs of its start kernel and of its
  wait kernel, one step of the exchange after the other.
-/
module

public import proofs.«01_k».proof.Proof.Ghost
public import proofs.«01_k».proof.Proof.Gen.KernelFIdeal
public import proofs.«01_k».proof.Proof.Gen.KernelFIdeal.Skeleton
public import proofs.«01_k».proof.Proof.Gen.KernelFIdeal.Launch
public import proofs.«01_k».proof.Proof.Gen.KernelFIdeal.Points
public import Idealize.ShloMosaic.Lib.Tactic

@[expose] public section

noncomputable section

namespace Cert.Ffn

open Cert.KernelFIdeal Cert.KernelFIdeal.Gen Cert.Exchange
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the exchange's -/

abbrev UU : Type := URounds (GSem nD τ sig) Unit × UX sig

local notation "𝕄" => MT nD τ sig Unit (Elt F) ℕ UU ℕ

abbrev EP : Emb (URounds (GSem nD τ sig) Unit) (MT nD τ sig Unit (Elt F) ℕ UU ℕ) := embL
abbrev EX : Emb (UX sig) (MT nD τ sig Unit (Elt F) ℕ UU ℕ) := embR
abbrev 𝒱₀ : Variants := Variants.none

variable (m : (ℓ : Loc nD τ sig) → Buf (Elt F) ℓ)

/-! ## The exchange -/

/-- What device `d` holds before it. -/
def X0 (d : Dev nD) : (S3 1024 768).Idx → Elt F .bf16 := m ((d : Thread nD τ).loc main_arg0)
def X1 (d : Dev nD) : (S3 352 1024).Idx → Elt F .bf16 := m ((d : Thread nD τ).loc main_arg1)

/-- Its semaphores, and its two arrays: landing buffer and the copy that the transfers read. -/
def ex : Ex sig (Elt F) UU (Fin 2) where
  osem := semOf 2 (0 : Sem sig) (by decide)
  bar := 0
  osem_bar := rfl
  inj := semOf_inj _ _ _
  arr
    | 0 => scatterArr (r := 1024) (w := 768) (e := .bf16) (Memref.whole main_v1) (Memref.whole main_v3_2) (Memref.isWhole_whole _) (Memref.isWhole_whole _)
        (X0 m) (landed (X0 m)) (sig.dmaCredit_pos _ _ _ _ _ (by decide))
    | 1 => scatterArr (r := 352) (w := 1024) (e := .bf16) (Memref.whole main_v2) (Memref.whole main_v3_3) (Memref.isWhole_whole _) (Memref.isWhole_whole _)
        (X1 m) (landed (X1 m)) (sig.dmaCredit_pos _ _ _ _ _ (by decide))
  list := [0, 1]
  nodup := by decide
  full := by decide
  lanes := [(0, 0), (0, 1), (0, 2), (0, 3), (0, 4), (0, 5), (0, 6), (1, 0), (1, 1), (1, 2), (1, 3), (1, 4), (1, 5), (1, 6)]
  lanes_eq := rfl

/-- Each device sends every peer a slot of each. -/
def array0 : Scatters (ex m) 0 (Memref.whole main_v1 : Memref sig .tc .hbm (S3 1024 768) .bf16) (Memref.whole main_v3_2 : Memref sig .tc .hbm (S3 1024 768) .bf16) :=
  ⟨Memref.isWhole_whole _, Memref.isWhole_whole _, X0 m, landed (X0 m), sig.dmaCredit_pos _ _ _ _ _ (by decide), rfl, fun _ _ => rfl⟩
def array1 : Scatters (ex m) 1 (Memref.whole main_v2 : Memref sig .tc .hbm (S3 352 1024) .bf16) (Memref.whole main_v3_3 : Memref sig .tc .hbm (S3 352 1024) .bf16) :=
  ⟨Memref.isWhole_whole _, Memref.isWhole_whole _, X1 m, landed (X1 m), sig.dmaCredit_pos _ _ _ _ _ (by decide), rfl, fun _ _ => rfl⟩

/-! ## The addresses -/

theorem dev1_eq (c : Dev nD) : (⟨k0_dev1 c, k0_dev1_lt c⟩ : Dev nD) = peer c 0 := by revert c; decide +kernel
theorem dev8_eq (c : Dev nD) : (⟨k0_dev8 c, k0_dev8_lt c⟩ : Dev nD) = peer c 0 := by revert c; decide +kernel
theorem dev15_eq (c : Dev nD) : (⟨k0_dev15 c, k0_dev15_lt c⟩ : Dev nD) = peer c 0 := by revert c; decide +kernel
theorem dev2_eq (c : Dev nD) : (⟨k0_dev2 c, k0_dev2_lt c⟩ : Dev nD) = peer c 1 := by revert c; decide +kernel
theorem dev9_eq (c : Dev nD) : (⟨k0_dev9 c, k0_dev9_lt c⟩ : Dev nD) = peer c 1 := by revert c; decide +kernel
theorem dev16_eq (c : Dev nD) : (⟨k0_dev16 c, k0_dev16_lt c⟩ : Dev nD) = peer c 1 := by revert c; decide +kernel
theorem dev3_eq (c : Dev nD) : (⟨k0_dev3 c, k0_dev3_lt c⟩ : Dev nD) = peer c 2 := by revert c; decide +kernel
theorem dev10_eq (c : Dev nD) : (⟨k0_dev10 c, k0_dev10_lt c⟩ : Dev nD) = peer c 2 := by revert c; decide +kernel
theorem dev17_eq (c : Dev nD) : (⟨k0_dev17 c, k0_dev17_lt c⟩ : Dev nD) = peer c 2 := by revert c; decide +kernel
theorem dev4_eq (c : Dev nD) : (⟨k0_dev4 c, k0_dev4_lt c⟩ : Dev nD) = peer c 3 := by revert c; decide +kernel
theorem dev11_eq (c : Dev nD) : (⟨k0_dev11 c, k0_dev11_lt c⟩ : Dev nD) = peer c 3 := by revert c; decide +kernel
theorem dev18_eq (c : Dev nD) : (⟨k0_dev18 c, k0_dev18_lt c⟩ : Dev nD) = peer c 3 := by revert c; decide +kernel
theorem dev5_eq (c : Dev nD) : (⟨k0_dev5 c, k0_dev5_lt c⟩ : Dev nD) = peer c 4 := by revert c; decide +kernel
theorem dev12_eq (c : Dev nD) : (⟨k0_dev12 c, k0_dev12_lt c⟩ : Dev nD) = peer c 4 := by revert c; decide +kernel
theorem dev19_eq (c : Dev nD) : (⟨k0_dev19 c, k0_dev19_lt c⟩ : Dev nD) = peer c 4 := by revert c; decide +kernel
theorem dev6_eq (c : Dev nD) : (⟨k0_dev6 c, k0_dev6_lt c⟩ : Dev nD) = peer c 5 := by revert c; decide +kernel
theorem dev13_eq (c : Dev nD) : (⟨k0_dev13 c, k0_dev13_lt c⟩ : Dev nD) = peer c 5 := by revert c; decide +kernel
theorem dev20_eq (c : Dev nD) : (⟨k0_dev20 c, k0_dev20_lt c⟩ : Dev nD) = peer c 5 := by revert c; decide +kernel
theorem dev7_eq (c : Dev nD) : (⟨k0_dev7 c, k0_dev7_lt c⟩ : Dev nD) = peer c 6 := by revert c; decide +kernel
theorem dev14_eq (c : Dev nD) : (⟨k0_dev14 c, k0_dev14_lt c⟩ : Dev nD) = peer c 6 := by revert c; decide +kernel
theorem dev21_eq (c : Dev nD) : (⟨k0_dev21 c, k0_dev21_lt c⟩ : Dev nD) = peer c 6 := by revert c; decide +kernel
theorem off1_eq (c : Dev nD) : k0_off1 c = ![c.val, 0, 0] := by revert c; decide +kernel
theorem off2_eq (c : Dev nD) : k0_off2 c = ![c.val, 0, 0] := by revert c; decide +kernel
theorem off3_eq (c : Dev nD) : k0_off3 c = ![(peer c 0).val, 0, 0] := by revert c; decide +kernel
theorem off10_eq (c : Dev nD) : k0_off10 c = ![(peer c 0).val, 0, 0] := by revert c; decide +kernel
theorem off4_eq (c : Dev nD) : k0_off4 c = ![(peer c 1).val, 0, 0] := by revert c; decide +kernel
theorem off11_eq (c : Dev nD) : k0_off11 c = ![(peer c 1).val, 0, 0] := by revert c; decide +kernel
theorem off5_eq (c : Dev nD) : k0_off5 c = ![(peer c 2).val, 0, 0] := by revert c; decide +kernel
theorem off12_eq (c : Dev nD) : k0_off12 c = ![(peer c 2).val, 0, 0] := by revert c; decide +kernel
theorem off6_eq (c : Dev nD) : k0_off6 c = ![(peer c 3).val, 0, 0] := by revert c; decide +kernel
theorem off13_eq (c : Dev nD) : k0_off13 c = ![(peer c 3).val, 0, 0] := by revert c; decide +kernel
theorem off7_eq (c : Dev nD) : k0_off7 c = ![(peer c 4).val, 0, 0] := by revert c; decide +kernel
theorem off14_eq (c : Dev nD) : k0_off14 c = ![(peer c 4).val, 0, 0] := by revert c; decide +kernel
theorem off8_eq (c : Dev nD) : k0_off8 c = ![(peer c 5).val, 0, 0] := by revert c; decide +kernel
theorem off15_eq (c : Dev nD) : k0_off15 c = ![(peer c 5).val, 0, 0] := by revert c; decide +kernel
theorem off9_eq (c : Dev nD) : k0_off9 c = ![(peer c 6).val, 0, 0] := by revert c; decide +kernel
theorem off16_eq (c : Dev nD) : k0_off16 c = ![(peer c 6).val, 0, 0] := by revert c; decide +kernel

/-! ## The token -/

theorem hz : (![0, 0] : Fin 2 → Nat) = fun _ => 0 := funext fun a => by fin_cases a <;> rfl
abbrev r0 : Rect S8x128 := Rect.unit (s := S8x128) ![0, 0] S8x128.size inb_S8x128_S8x128_0_0
theorem write_stage0 (f w : (cc0_stg0_0 : Ref sig .tc).ty.Contents (Elt F)) :
    ((Memref.whole cc0_stg0_0 : Memref sig .tc .vmem S8x128 .f32).access r0 : View sig .tc _ _ _).write (Elt F) f w Finset.univ = w :=
  Memref.write_access_unit_zero_univ (Elt F) cc0_stg0_0 hz _ f w
theorem write_stage1 (f w : (cc1_stg0_0 : Ref sig .tc).ty.Contents (Elt F)) :
    ((Memref.whole cc1_stg0_0 : Memref sig .tc .vmem S8x128 .f32).access r0 : View sig .tc _ _ _).write (Elt F) f w Finset.univ = w :=
  Memref.write_access_unit_zero_univ (Elt F) cc1_stg0_0 hz _ f w

/-! ## The runs -/

variable (K : Dev 8 × UC Unit (Fin 2) → ℕ) (c : Dev nD)

set_option maxRecDepth 8000 in
set_option maxHeartbeats 800000 in
theorem start_run (f : Buf (Elt F) ((c : Thread nD τ).loc cc0_stg0_0)) {Rest : sProp 𝕄} {Q : PUnit → sProp 𝕄}
    (h : iprop((ex m).plan.ctx EX K ∗ (ex m).plan.owing c [] ∗ (ex m).startLeaves c
        ∗ (((c : Thread nD τ).loc cc0_stg0_0) ↦{fullShare} (k0_pay1 (F := F) : Buf (Elt F) ((c : Thread nD τ).loc cc0_stg0_0))) ∗ Rest) ⊢ Q ⟨⟩) :
    iprop((ex m).plan.ctx EX K ∗ (ex m).plan.owing c (ex m).dues ∗ (ex m).startNeeds EX c ∗ (((c : Thread nD τ).loc cc0_stg0_0) ↦{fullShare} f) ∗ Rest)
      ⊢ wp frame (wpE (defs₀ (F := F)) 𝒱₀ (c : Thread nD τ) none) Set.univ
        (cc0_a2a_start_f0 (Memref.whole main_v3_2) (Memref.isWhole_whole _) (Memref.whole main_v3_3) (Memref.isWhole_whole _) (Memref.whole main_v1) (Memref.isWhole_whole _) (Memref.whole main_v2) (Memref.isWhole_whole _) main_v3_0 main_v3_1
          (Memref.whole main_v3_2) (Memref.isWhole_whole _) (Memref.whole main_v3_3) (Memref.isWhole_whole _) (Memref.whole main_v1) (Memref.isWhole_whole _) (Memref.whole main_v2) (Memref.isWhole_whole _) (Memref.whole cc0_stg0_0) (Memref.isWhole_whole _) cc0_scratch0) Q := by
  simp only [cc0_a2a_start_f0_eq_skeleton]; unfold cc0_a2a_start_f0_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  simp only [semSignalWord, semWaitWord, Prog.lift, Prog.bind_op, Prog.bind_ret, Prog.pure_eq_ret, wp_deviceId]
  -- the handshake
  refine ((ex m).at_signals EX c K).trans ?_
  refine (ex m).plan.step_signal EX 𝒱₀ K c (dev1_eq c) rfl rfl ?_
  refine (ex m).plan.step_signal EX 𝒱₀ K c (dev2_eq c) rfl rfl ?_
  refine (ex m).plan.step_signal EX 𝒱₀ K c (dev3_eq c) rfl rfl ?_
  refine (ex m).plan.step_signal EX 𝒱₀ K c (dev4_eq c) rfl rfl ?_
  refine (ex m).plan.step_signal EX 𝒱₀ K c (dev5_eq c) rfl rfl ?_
  refine (ex m).plan.step_signal EX 𝒱₀ K c (dev6_eq c) rfl rfl ?_
  refine (ex m).plan.step_signal EX 𝒱₀ K c (dev7_eq c) rfl rfl ?_
  refine ((ex m).at_bar EX c K).trans ?_
  refine (ex m).plan.step_bar EX 𝒱₀ K c (b := ()) (ex m).sends_level rfl rfl ?_
  -- the local copies
  refine ((ex m).at_copies EX c K).trans ?_
  refine (array0 m).copy EX 𝒱₀ c rfl (off1_eq c) (off1_eq c) rfl ?_
  refine (array1 m).copy EX 𝒱₀ c rfl (off2_eq c) (off2_eq c) rfl ?_
  -- the transfers
  refine ((ex m).at_sends EX c K).trans ?_
  refine (array0 m).send EX 𝒱₀ K c 0 (dev8_eq c) rfl rfl (off3_eq c) (off1_eq c) rfl ?_
  refine (array0 m).send EX 𝒱₀ K c 1 (dev9_eq c) rfl rfl (off4_eq c) (off1_eq c) rfl ?_
  refine (array0 m).send EX 𝒱₀ K c 2 (dev10_eq c) rfl rfl (off5_eq c) (off1_eq c) rfl ?_
  refine (array0 m).send EX 𝒱₀ K c 3 (dev11_eq c) rfl rfl (off6_eq c) (off1_eq c) rfl ?_
  refine (array0 m).send EX 𝒱₀ K c 4 (dev12_eq c) rfl rfl (off7_eq c) (off1_eq c) rfl ?_
  refine (array0 m).send EX 𝒱₀ K c 5 (dev13_eq c) rfl rfl (off8_eq c) (off1_eq c) rfl ?_
  refine (array0 m).send EX 𝒱₀ K c 6 (dev14_eq c) rfl rfl (off9_eq c) (off1_eq c) rfl ?_
  refine (array1 m).send EX 𝒱₀ K c 0 (dev15_eq c) rfl rfl (off10_eq c) (off2_eq c) rfl ?_
  refine (array1 m).send EX 𝒱₀ K c 1 (dev16_eq c) rfl rfl (off11_eq c) (off2_eq c) rfl ?_
  refine (array1 m).send EX 𝒱₀ K c 2 (dev17_eq c) rfl rfl (off12_eq c) (off2_eq c) rfl ?_
  refine (array1 m).send EX 𝒱₀ K c 3 (dev18_eq c) rfl rfl (off13_eq c) (off2_eq c) rfl ?_
  refine (array1 m).send EX 𝒱₀ K c 4 (dev19_eq c) rfl rfl (off14_eq c) (off2_eq c) rfl ?_
  refine (array1 m).send EX 𝒱₀ K c 5 (dev20_eq c) rfl rfl (off15_eq c) (off2_eq c) rfl ?_
  refine (array1 m).send EX 𝒱₀ K c 6 (dev21_eq c) rfl rfl (off16_eq c) (off2_eq c) rfl ?_
  -- the waits for the local copies
  refine ((ex m).at_locals EX c K).trans ?_
  refine (ex m).plan.step_local EX 𝒱₀ K c (a := 0) (fun _ h => absurd h List.not_mem_nil) rfl rfl ?_
  refine (ex m).plan.step_local EX 𝒱₀ K c (a := 1) (fun _ h => absurd h List.not_mem_nil) rfl rfl ?_
  -- the token
  refine ((ex m).at_end EX c K).trans ?_
  iintro ⟨Hc, HO, Hl, Hf, HR⟩
  iapply (wp_load 𝒱₀ (c : Thread nD τ) none Set.univ (m := Memref.whole cc0_stg0_0) (Finset.subset_univ _)) $$ Hf; iintro Hf
  iapply (wp_store 𝒱₀ (c : Thread nD τ) none Set.univ (m := Memref.whole cc0_stg0_0) (r := r0) (Mk := Finset.univ) (Finset.subset_univ _)) $$ Hf; iintro Hf
  rw [write_stage0, wp_ret]; imodintro
  iapply h
  isplitl [Hc]; · iexact Hc
  isplitl [HO]; · iexact HO
  isplitl [Hl]; · iexact Hl
  isplitl [Hf] <;> iassumption

set_option maxRecDepth 8000 in
set_option maxHeartbeats 1000000 in
theorem wait_run (f : Buf (Elt F) ((c : Thread nD τ).loc cc1_stg0_0)) {Rest : sProp 𝕄} {Q : PUnit → sProp 𝕄}
    (h : iprop((ex m).plan.ctx EX K ∗ (ex m).plan.owing c [] ∗ all (ex m).lanes.reverse ((ex m).plan.laneDone c)
        ∗ (((c : Thread nD τ).loc cc1_stg0_0) ↦{fullShare} (k1_pay1 (F := F) : Buf (Elt F) ((c : Thread nD τ).loc cc1_stg0_0))) ∗ Rest) ⊢ Q ⟨⟩) :
    iprop((ex m).plan.ctx EX K ∗ (ex m).plan.owing c [] ∗ all (ex m).lanes ((ex m).plan.lane EX c) ∗ (((c : Thread nD τ).loc cc1_stg0_0) ↦{fullShare} f) ∗ Rest)
      ⊢ wp frame (wpE (defs₀ (F := F)) 𝒱₀ (c : Thread nD τ) none) Set.univ
        (cc1_a2a_wait_f0 (Memref.whole main_v3_2) (Memref.isWhole_whole _) (Memref.whole main_v3_3) (Memref.isWhole_whole _) (Memref.whole main_v1) (Memref.isWhole_whole _) (Memref.whole main_v2) (Memref.isWhole_whole _) main_v3_0 main_v3_1
          (Memref.whole main_v3_6) (Memref.isWhole_whole _) (Memref.whole main_v3_2) (Memref.isWhole_whole _) (Memref.whole main_v3_3) (Memref.isWhole_whole _) (Memref.whole main_v1) (Memref.isWhole_whole _) (Memref.whole main_v2) (Memref.isWhole_whole _) (Memref.whole cc1_stg0_0) (Memref.isWhole_whole _)) Q := by
  simp only [cc1_a2a_wait_f0_eq_skeleton]; unfold cc1_a2a_wait_f0_skel
  simp only [k1_part1_eq_skeleton, k1_part2_eq_skeleton, k1_part3_eq_skeleton, k1_part4_eq_skeleton, k1_part5_eq_skeleton,
    k1_part6_eq_skeleton, k1_part7_eq_skeleton, k1_part8_eq_skeleton, k1_part9_eq_skeleton, k1_part10_eq_skeleton]
  unfold k1_part1_skel k1_part2_skel k1_part3_skel k1_part4_skel k1_part5_skel k1_part6_skel k1_part7_skel k1_part8_skel k1_part9_skel k1_part10_skel
  simp only [Prog.lift, Prog.bind_op, Prog.bind_ret, Prog.pure_eq_ret, wp_deviceId]
  refine ((ex m).at_waits EX c K).trans ?_
  refine (array0 m).wait EX 𝒱₀ K c 0 rfl rfl rfl ?_
  refine (array0 m).wait EX 𝒱₀ K c 1 rfl rfl rfl ?_
  refine (array0 m).wait EX 𝒱₀ K c 2 rfl rfl rfl ?_
  refine (array0 m).wait EX 𝒱₀ K c 3 rfl rfl rfl ?_
  refine (array0 m).wait EX 𝒱₀ K c 4 rfl rfl rfl ?_
  refine (array0 m).wait EX 𝒱₀ K c 5 rfl rfl rfl ?_
  refine (array0 m).wait EX 𝒱₀ K c 6 rfl rfl rfl ?_
  refine (array1 m).wait EX 𝒱₀ K c 0 rfl rfl rfl ?_
  refine (array1 m).wait EX 𝒱₀ K c 1 rfl rfl rfl ?_
  refine (array1 m).wait EX 𝒱₀ K c 2 rfl rfl rfl ?_
  refine (array1 m).wait EX 𝒱₀ K c 3 rfl rfl rfl ?_
  refine (array1 m).wait EX 𝒱₀ K c 4 rfl rfl rfl ?_
  refine (array1 m).wait EX 𝒱₀ K c 5 rfl rfl rfl ?_
  refine (array1 m).wait EX 𝒱₀ K c 6 rfl rfl rfl ?_
  iintro ⟨Hc, HO, -, Hd, Hf, HR⟩
  iapply (wp_load 𝒱₀ (c : Thread nD τ) none Set.univ (m := Memref.whole cc1_stg0_0) (Finset.subset_univ _)) $$ Hf; iintro Hf
  iapply (wp_store 𝒱₀ (c : Thread nD τ) none Set.univ (m := Memref.whole cc1_stg0_0) (r := r0) (Mk := Finset.univ) (Finset.subset_univ _)) $$ Hf; iintro Hf
  rw [write_stage1, wp_ret]; imodintro
  iapply h
  isplitl [Hc]; · iexact Hc
  isplitl [HO]; · iexact HO
  isplitl [Hd]; · iexact Hd
  isplitl [Hf] <;> iassumption

end Cert.Ffn

end
-- ==== Proof.FfnLaunch.lean ====
/-
  The exchange of the feed-forward layer's two gradient arrays: the run on the eight devices. The two calls' proof data, @main as a list of segments, the launch, and what every
  final state holds.
-/
module

public import proofs.«01_k».proof.Proof.Ffn

@[expose] public section

noncomputable section

namespace Cert.Ffn

open Cert.KernelFIdeal Cert.KernelFIdeal.Gen Cert.Exchange
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The buffers -/

/-- The landing buffers, the arguments, the copies of them, the tokens. -/
abbrev landRefs : List (Ref sig .tc) := [main_v1, main_v2]
abbrev restRefs : List (Ref sig .tc) := [main_arg0, main_arg1, main_v3_2, main_v3_3, main_v3_6, main_v4_4]
/-- What the launch allocates besides the landing buffers. -/
def restBufs : Finset (DevRef τ sig) := restRefs.foldr (fun b T => insert (Proc.devRef .tc b) T) ∅

/-- The contents at the launch and after the copies. -/
def V₀ (c : Dev nD) : Valuation τ sig (Elt F) := fun b => m ((c : Dev nD), b)
def V₁ (c : Dev nD) : Valuation τ sig (Elt F) := StableHlo.after hostOps0_2 (V₀ m c)

omit [FloatOps F] in
theorem allBufs_split (c : Dev nD) (W : Valuation τ sig (Elt F)) : (StableHlo.held (c : Thread nD τ) (allBufs sig) W : sProp 𝕄)
    ⊢ iprop((all landRefs fun b => pt c b (W b)) ∗ StableHlo.held (c : Thread nD τ) restBufs W) := by
  rw [show allBufs sig = landRefs.foldr (fun b T => insert (Proc.devRef .tc b) T) restBufs from by decide]
  exact held_listed c W restBufs landRefs (by decide) (by decide)

omit [FloatOps F] in
theorem restBufs_split (c : Dev nD) (W : Valuation τ sig (Elt F)) : (StableHlo.held (c : Thread nD τ) restBufs W : sProp 𝕄)
    ⊢ all restRefs fun b => pt c b (W b) := by
  refine (held_listed c W ∅ restRefs (by decide) (by decide)).trans ?_
  iintro ⟨H, -⟩
  iexact H

theorem V₁_arg0 (c : Dev nD) : V₁ m c main_arg0 = m ((c : Thread nD τ).loc main_arg0) := by
  show StableHlo.after hostOps0_2 (V₀ m c) (Proc.devRef .tc main_arg0) = _
  after_results
  rfl
theorem V₁_arg1 (c : Dev nD) : V₁ m c main_arg1 = m ((c : Thread nD τ).loc main_arg1) := by
  show StableHlo.after hostOps0_2 (V₀ m c) (Proc.devRef .tc main_arg1) = _
  after_results
  rfl
theorem V₁_copy0 (c : Dev nD) : V₁ m c main_v3_2 = X0 m c := by
  show StableHlo.after hostOps0_2 (V₀ m c) (Proc.devRef .tc main_v3_2) = _
  after_results
  rfl
theorem V₁_copy1 (c : Dev nD) : V₁ m c main_v3_3 = X1 m c := by
  show StableHlo.after hostOps0_2 (V₀ m c) (Proc.devRef .tc main_v3_3) = _
  after_results
  rfl

/-- The arrays of the exchange, buffer by buffer. -/
theorem copies_eq (c : Dev nD) : (all (ex m).list fun a => ((ex m).arr a).src c) = (iprop(pt c main_v3_2 (X0 m c) ∗ pt c main_v3_3 (X1 m c) ∗ BI.emp) : sProp 𝕄) := rfl
theorem lands_eq (c : Dev nD) : (all (ex m).list fun a => ((ex m).arr a).land c) = (all landRefs (anyAt c) : sProp 𝕄) := rfl
theorem dones_eq (c : Dev nD) : (all (ex m).list fun a => ((ex m).arr a).done c) = (iprop(pt c main_v1 (landed (X0 m) c) ∗ pt c main_v2 (landed (X1 m) c) ∗ BI.emp) : sProp 𝕄) := rfl

/-! ## The proof data of the two calls -/

/-- A kernel's token buffer. -/
abbrev stage (c : Dev nD) (b : Ref sig .tc) : sProp 𝕄 := iprop(∃ f : Buf (Elt F) ((c : Thread nD τ).loc b), ((c : Thread nD τ).loc b) ↦{fullShare} f)

def dat0 (c : Dev nD) : Dat τ (Elt F) Unit ℕ UU ℕ cfg0 c where
  A w := match w with
    | ⟨0, _⟩ => V₁ m c main_v3_6
  after w _ := match w with
    | ⟨0, _⟩ => k0_pay1 (F := F)
  Φ t := if t.val = 0 then iprop((ex m).begun EX c ∗ stage c cc1_stg0_0) else iprop((ex m).mid EX c ∗ (ex m).locals c ∗ stage c cc1_stg0_0)
  q _ := fullShare
  owed t := if t.val = 0 then (ex m).O₀ c else 0
def dat1 (c : Dev nD) : Dat τ (Elt F) Unit ℕ UU ℕ cfg1 c where
  A w := match w with
    | ⟨0, _⟩ => V₁ m c main_v4_4
  after w _ := match w with
    | ⟨0, _⟩ => k1_pay1 (F := F)
  Φ t := if t.val = 0 then iprop((ex m).mid EX c ∗ stage c cc0_stg0_0) else iprop((ex m).ended c ∗ stage c cc0_stg0_0)
  q _ := fullShare
  owed _ := 0

abbrev adm : (p : Fin 2) → (pcfgs (F := F) p).Adm := fun p => (cfgs p).toPCfg_adm
def pdats : (p : Fin 2) → (c : Dev nD) → Dat τ (Elt F) Unit ℕ UU ℕ (Pipeline.pin (pcfgs (F := F)) adm p) c
  | 0 => dat0 m
  | 1 => dat1 m

theorem share0 (c : Dev nD) (w : Fin cfg0.W) : (dat0 m c).share w = fullShare := by unfold Dat.share; split <;> rfl
theorem share1 (c : Dev nD) (w : Fin cfg1.W) : (dat1 m c).share w = fullShare := by unfold Dat.share; split <;> rfl

theorem arrays0 (c : Dev nD) : pt c main_v3_6 (V₁ m c main_v3_6) ⊢ ((pdats (F := F) m 0 c).arrays ((pdats m 0 c).arrAt · 0) : sProp 𝕄) := by
  show _ ⊢ (bigSep Finset.univ fun w : Fin 1 => (cfg0.win w).arr.view.loc (c.tc : Thread nD τ) ↦[(cfg0.win w).arr.view.set]{(dat0 m c).share w} (dat0 m c).arrAt w 0 : sProp 𝕄)
  rw [bigSep_W0, share0]
  show _ ⊢ ((Memref.whole main_v3_6).view.loc (c.tc : Thread nD τ) ↦[(Memref.whole main_v3_6).view.set]{fullShare} V₁ m c main_v3_6 : sProp 𝕄)
  simp only [Memref.view_whole, View.set_whole]
  exact BI.Entails.refl _
theorem arrays1 (c : Dev nD) : pt c main_v4_4 (V₁ m c main_v4_4) ⊢ ((pdats (F := F) m 1 c).arrays ((pdats m 1 c).arrAt · 0) : sProp 𝕄) := by
  show _ ⊢ (bigSep Finset.univ fun w : Fin 1 => (cfg1.win w).arr.view.loc (c.tc : Thread nD τ) ↦[(cfg1.win w).arr.view.set]{(dat1 m c).share w} (dat1 m c).arrAt w 0 : sProp 𝕄)
  rw [bigSep_W1, share1]
  show _ ⊢ ((Memref.whole main_v4_4).view.loc (c.tc : Thread nD τ) ↦[(Memref.whole main_v4_4).view.set]{fullShare} V₁ m c main_v4_4 : sProp 𝕄)
  simp only [Memref.view_whole, View.set_whole]
  exact BI.Entails.refl _
theorem prefHeld0 (c : Dev nD) (q) (pf) : (Pipeline.prefHeld (Ix := Unit) (Name := ℕ) (U := UU) (Lvl := ℕ) (Val := Elt F) (pcfgs (F := F) 0).pre c q pf : sProp 𝕄) = BI.emp :=
  no_prefs _
theorem prefHeld1 (c : Dev nD) (q) (pf) : (Pipeline.prefHeld (Ix := Unit) (Name := ℕ) (U := UU) (Lvl := ℕ) (Val := Elt F) (pcfgs (F := F) 1).pre c q pf : sProp 𝕄) = BI.emp :=
  no_prefs _

theorem owed0_zero (c : Dev nD) : (pdats (F := F) m 0 c).owed 0 = (ex m).O₀ c := by
  show (if ((0 : Fin (cfg0.N + 1)).val = 0) then (ex m).O₀ c else 0) = (ex m).O₀ c; exact if_pos rfl
theorem owed0_first (c : Dev nD) : (dat0 (F := F) m c).owed t0_0.castSucc = (ex m).O₀ c := by
  show (if (t0_0.castSucc : Fin (cfg0.N + 1)).val = 0 then (ex m).O₀ c else 0) = (ex m).O₀ c; exact if_pos rfl
theorem owed0_last (c : Dev nD) : (pdats (F := F) m 0 c).owed (Fin.last _) = 0 := by
  show (if (Fin.last cfg0.N).val = 0 then (ex m).O₀ c else 0) = 0
  rw [Fin.val_last, if_neg (by rw [show cfg0.N = 1 from N_0]; decide)]

theorem owing_dues (c : Dev nD) : iprop(∃ W, owes (c : Thread nD τ) ((ex m).O₀ c) W) = ((ex m).plan.owing c (ex m).dues : sProp 𝕄) := rfl
theorem owing_nil (c : Dev nD) : ((ex m).plan.owing c [] : sProp 𝕄) = iprop(∃ W, owes (c : Thread nD τ) (0 : CellTallies nD τ sig Unit) W) := rfl

set_option maxRecDepth 8000 in
/-- The start kernel's body. -/
theorem body0 (c : Dev nD) : BodyObligation (dat0 (F := F) m c) defs₀ 𝒱₀ () Set.univ := fun t => by
  obtain rfl := fin_N0 t
  rw [bigSep_W0, bigSep_W0]
  show iprop(iprop((ex m).begun EX c ∗ stage c cc1_stg0_0) ∗ (dat0 m c).owesAt () t0_0.castSucc
      ∗ (∃ d, owns c (Memref.whole cc0_stg0_0) fullShare ((dat0 m c).before (0 : Fin 1) t0_0 d)))
    ⊢ wp frame (wpE (defs₀ (F := F)) 𝒱₀ c none) Set.univ (bodyAt0 t0_0) fun _ =>
      iprop(iprop((ex m).mid EX c ∗ (ex m).locals c ∗ stage c cc1_stg0_0)
        ∗ (dat0 m c).owesAt () t0_0.succ ∗ owns c (Memref.whole cc0_stg0_0) fullShare (k0_pay1 (F := F)))
  rw [owns_whole_eq]
  unfold Ex.begun
  iintro ⟨⟨⟨⟨%K, HK⟩, Hn, Hi⟩, Hf⟩, HO, ⟨%d, Hs⟩⟩
  ihave Hs := (Entails.of_eq (owns_whole_eq _ cc0_stg0_0 _ _)) $$ Hs
  icases Hs with ⟨%g, -, Hs⟩
  ihave HO := (owesAt_elim (dat0 m c) _ ((ex m).O₀ c) (owed0_first m c)) $$ HO
  iapply (start_run m K c g (Rest := iprop((ex m).idle EX c ∗ stage c cc1_stg0_0)) ?_)
  · rw [owing_nil]
    iintro ⟨HK, ⟨%W, HO⟩, Hl, Hs, Hi, Hf⟩
    ihave Hm := ((ex m).mid_intro EX c K) $$ [HK Hl Hi]
    · isplitl [HK]; · iexact HK
      isplitl [Hl] <;> iassumption
    icases Hm with ⟨Hm, Hz⟩
    isplitl [Hm Hz Hf]
    · isplitl [Hm]; · iexact Hm
      isplitl [Hz] <;> iassumption
    isplitl [HO]; · iapply (owesAt_intro (dat0 m c) t0_0.succ 0 (owed0_last m c) W); iexact HO
    iexists (k0_pay1 (F := F)); isplitr; · ipureintro; rfl
    iexact Hs
  isplitl [HK]; · iexact HK
  isplitl [HO]; · iapply (Entails.of_eq (owing_dues m c)); iexact HO
  isplitl [Hn]; · iexact Hn
  isplitl [Hs]; · iexact Hs
  isplitl [Hi] <;> iassumption

set_option maxRecDepth 8000 in
/-- The wait kernel's. -/
theorem body1 (c : Dev nD) : BodyObligation (dat1 (F := F) m c) defs₀ 𝒱₀ () Set.univ := fun t => by
  obtain rfl := fin_N1 t
  rw [bigSep_W1, bigSep_W1]
  show iprop(iprop((ex m).mid EX c ∗ stage c cc0_stg0_0) ∗ (dat1 m c).owesAt () t1_0.castSucc
      ∗ (∃ d, owns c (Memref.whole cc1_stg0_0) fullShare ((dat1 m c).before (0 : Fin 1) t1_0 d)))
    ⊢ wp frame (wpE (defs₀ (F := F)) 𝒱₀ c none) Set.univ (bodyAt1 t1_0) fun _ =>
      iprop(iprop((ex m).ended c ∗ stage c cc0_stg0_0)
        ∗ (dat1 m c).owesAt () t1_0.succ ∗ owns c (Memref.whole cc1_stg0_0) fullShare (k1_pay1 (F := F)))
  rw [owns_whole_eq]
  unfold Ex.mid
  iintro ⟨⟨⟨⟨%K, HK⟩, Hl, Ho, Hb⟩, Hf⟩, HO, ⟨%d, Hs⟩⟩
  ihave Hs := (Entails.of_eq (owns_whole_eq _ cc1_stg0_0 _ _)) $$ Hs
  icases Hs with ⟨%g, -, Hs⟩
  ihave HO := (owesAt_elim (dat1 m c) _ 0 rfl) $$ HO
  iapply (wait_run m K c g (Rest := iprop(((all (ex m).list ((ex m).plan.own c)) ∗ semVal ((ex m).plan.barC c ()) 0) ∗ stage c cc0_stg0_0)) ?_)
  · rw [owing_nil]
    iintro ⟨-, ⟨%W, HO⟩, Hd, Hs, Ho, Hf⟩
    isplitl [Hd Ho Hf]
    · isplitr [Hf]
      · iapply ((ex m).ended_intro c)
        isplitl [Hd] <;> iassumption
      iexact Hf
    isplitl [HO]; · iapply (owesAt_intro (dat1 m c) t1_0.succ 0 rfl W); iexact HO
    iexists (k1_pay1 (F := F)); isplitr; · ipureintro; rfl
    iexact Hs
  isplitl [HK]; · iexact HK
  isplitl [HO]; · iapply (Entails.of_eq (owing_nil m c).symm); iexact HO
  isplitl [Hl]; · iexact Hl
  isplitl [Hs]; · iexact Hs
  isplitl [Ho Hb]
  · isplitl [Ho] <;> iassumption
  iexact Hf

/-! ## The segments -/

local notation "ℍ" => Pipeline.HostSeg (Name := ℕ) (U := UU) (pcfgs (F := F)) defs₀ 𝒱₀ Plan.L (Plan.lv (Ex.plan (ex m)))
local notation "ℝ𝕊" => Pipeline.RegionSeg (pcfgs (F := F)) adm (pdats m) () defs₀ 𝒱₀ Plan.L (Plan.lv (Ex.plan (ex m)))

/-- What rides along the segments before the kernels. -/
def along (c : Dev nD) : sProp 𝕄 := iprop((ex m).ready EX c ∗ owes (c : Thread nD τ) ((ex m).O₀ c) ∅)
/-- The arguments as they were. -/
def args (c : Dev nD) : sProp 𝕄 := iprop(pt c main_arg0 (m ((c : Thread nD τ).loc main_arg0)) ∗ pt c main_arg1 (m ((c : Thread nD τ).loc main_arg1)))
/-- What is left of the arrays between the two kernels. -/
def rest (c : Dev nD) : sProp 𝕄 := iprop(args m c ∗ pt c main_v4_4 (V₁ m c main_v4_4))
/-- The landing buffers allocated, those yet to be, and the rest. -/
abbrev around (old new : List (Ref sig .tc)) (c : Dev nD) : sProp 𝕄 :=
  iprop(all old (anyAt c) ∗ (all new fun b => pt c b (V₀ m c b)) ∗ (StableHlo.held (c : Thread nD τ) restBufs (V₀ m c) ∗ along m c))

def seg0 : ℍ := Pipeline.HostSeg.alloc _ _ _ _ _ main_v1 ⟨by decide, rfl⟩ (V₀ m) (around m [] [main_v2])
def seg1 : ℍ := Pipeline.HostSeg.alloc _ _ _ _ _ main_v2 ⟨by decide, rfl⟩ (V₀ m) (around m [main_v1] [])

theorem copies_sub : ∀ op ∈ (hostOps0_2 : List (HloOp τ sig (Elt F))), op.bufs ⊆ restBufs := fun op h => by
  simp only [List.mem_cons, List.mem_nil_iff, or_false] at h
  rcases h with rfl | rfl
  · show ({Proc.devRef .tc main_arg0, Proc.devRef .tc main_v3_2} : Finset (DevRef τ sig)) ⊆ restBufs; decide
  · show ({Proc.devRef .tc main_arg1, Proc.devRef .tc main_v3_3} : Finset (DevRef τ sig)) ⊆ restBufs; decide
theorem copies_fresh : ∀ op ∈ (hostOps0_2 : List (HloOp τ sig (Elt F))), op.fresh = ∅ := fun op h => by
  simp only [List.mem_cons, List.mem_nil_iff, or_false] at h
  rcases h with rfl | rfl <;> rfl

def seg2 : ℍ := Pipeline.HostSeg.ofOps _ _ _ _ _ restBufs hostOps0_2 copies_sub copies_fresh (V₀ m)
  fun c => iprop(all [main_v2, main_v1] (anyAt c) ∗ along m c)

/-- The start kernel's own semaphores. -/
def locSem (a : Fin 2) : SemLoc sig := (ex (F := F) m).osem (.inr a)

theorem locSems (c : Dev nD) : (Pipeline.ownSems0 (locSem m) c : sProp 𝕄) = (ex m).locals c := by
  unfold Pipeline.ownSems0
  exact (ex m).over_arrays _

theorem locSems_own : Pipeline.OwnSemFacts spec0 (locSem m) := by
  show Pipeline.OwnSemFacts spec0 (fun a => semOf 2 (0 : Sem sig) (by decide) (.inr a))
  decide
theorem stage_sem : ∀ (w : Fin 1) (s : Fin (spec0 w).nbuf), (spec0 w).sem s = cc0_sem0_0 := by decide

/-- The start kernel's region. -/
def reg0 : ℝ𝕊 0 where
  win := winFacts0.to₀
  block_pos := block_pos0
  stage_whole := stage_whole0
  K := Fin 2
  osem := locSem m
  ho := locSems_own m
  hbody c := (body0 m c).loose
  hwaits c := Pipeline.cellsWaits_intro _ (pdats m) () 0 c fun w s t => by
    refine (ex m).stage_wait c (((Pipeline.pin (pcfgs (F := F)) adm 0).win w).sem s)
      ((stage_sem w s).symm ▸ semOf_token 2 (0 : Sem sig) (by decide) cc0_sem0_0 rfl) _ ?_
    show (if t.val = 0 then (ex m).O₀ c else 0) = (ex m).O₀ c ∨ (if t.val = 0 then (ex m).O₀ c else 0) = 0
    split
    · exact .inl rfl
    · exact .inr rfl
  pre c := iprop(StableHlo.held (c : Thread nD τ) restBufs (V₁ m c) ∗ (all [main_v2, main_v1] (anyAt c) ∗ along m c))
  post c := iprop(rest m c ∗ (ex m).mid EX c ∗ clear c)
  X := (ex m).begun EX
  Y := (ex m).mid EX
  Z := rest m
  hentry c := by
    rw [prefHeld0, locSems m c]
    unfold along rest args
    iintro ⟨⟨Hh, Hl, Hr, HO⟩, Hz, -⟩
    ihave Hh := (restBufs_split c (V₁ m c)) $$ Hh
    ihave Hh := (Entails.of_eq (show (all restRefs fun b => pt c b (V₁ m c b))
      = (iprop(pt c main_arg0 (V₁ m c main_arg0) ∗ pt c main_arg1 (V₁ m c main_arg1) ∗ pt c main_v3_2 (V₁ m c main_v3_2) ∗ pt c main_v3_3 (V₁ m c main_v3_3) ∗ pt c main_v3_6 (V₁ m c main_v3_6) ∗ pt c main_v4_4 (V₁ m c main_v4_4) ∗ BI.emp) : sProp 𝕄) from rfl)) $$ Hh
    rw [V₁_arg0, V₁_arg1, V₁_copy0, V₁_copy1]
    icases Hh with ⟨Ha0, Ha1, Hf0, Hf1, Ht, Ht', -⟩
    imod ((ex m).begun_intro EX c) $$ [Hr Hz Hf0 Hf1 Hl] with Hb
    · isplitl [Hr]; · iexact Hr
      isplitl [Hz]; · iexact Hz
      isplitr [Hl]
      · rw [copies_eq]
        isplitl [Hf0]; · iexact Hf0
        isplitl [Hf1]; · iexact Hf1
        iempintro
      · rw [lands_eq]
        iapply (show all [main_v2, main_v1] (anyAt c) ⊢ (all landRefs (anyAt c) : sProp 𝕄) from all_reverse landRefs (anyAt c)); iexact Hl
    imodintro
    isplitl [Ht]; · iapply (arrays0 m c); iexact Ht
    isplitr; · iempintro
    isplitl [HO]; · iapply (owesAt_intro (pdats m 0 c) 0 ((ex m).O₀ c) (owed0_zero m c)); iexact HO
    isplitl [Hb]; · iexact Hb
    isplitr [Ht']
    · isplitl [Ha0] <;> iassumption
    iexact Ht'
  hin c := by
    show iprop((ex m).begun EX c ∗ _ ∗ Pipeline.scopedRest spec0 c) ⊢ iprop((ex m).begun EX c ∗ stage c cc1_stg0_0)
    rw [scopedRest0_eq]
    iintro ⟨HX, -, Hs⟩
    isplitl [HX] <;> iassumption
  hout c := by
    rw [locSems m c]
    show iprop((ex m).mid EX c ∗ (ex m).locals c ∗ stage c cc1_stg0_0) ⊢ iprop((ex m).mid EX c ∗ (ex m).locals c ∗ Pipeline.scopedRest spec0 c)
    rw [scopedRest0_eq]
  hexit c := by
    unfold clear
    iintro ⟨-, HO, HY, HZ⟩
    imodintro
    isplitl [HZ]; · iexact HZ
    isplitl [HY]; · iexact HY
    iapply (owesAt_elim (pdats m 0 c) _ 0 (owed0_last m c)); iexact HO

/-- The wait kernel's region. -/
def reg1 : ℝ𝕊 1 where
  win := winFacts1.to₀
  block_pos := block_pos1
  stage_whole := stage_whole1
  K := PEmpty
  osem k := k.elim
  ho := Pipeline.OwnSemFacts.none _
  hbody c := (body1 m c).loose
  hwaits := Pipeline.hwaits_of_owed_zero _ _ _ _ Plan.L (Plan.lv (ex m).plan) 1 fun _ _ => rfl
  pre c := iprop(rest m c ∗ (ex m).mid EX c ∗ clear c)
  post c := iprop((args m c ∗ (ex m).ended c) ∗ clear c)
  X := (ex m).mid EX
  Y := (ex m).ended
  Z := args m
  hentry c := by
    rw [prefHeld1, Pipeline.ownSems0_none]
    unfold rest clear
    iintro ⟨⟨⟨Ha, Ht⟩, Hm, ⟨%W, HO⟩⟩, -, -⟩
    imodintro
    isplitl [Ht]; · iapply (arrays1 m c); iexact Ht
    isplitr; · iempintro
    isplitl [HO]; · iapply (owesAt_intro (pdats m 1 c) 0 0 rfl W); iexact HO
    isplitl [Hm] <;> iassumption
  hin c := by
    show iprop((ex m).mid EX c ∗ _ ∗ Pipeline.scopedRest spec1 c) ⊢ iprop((ex m).mid EX c ∗ stage c cc0_stg0_0)
    rw [scopedRest1_eq]
    iintro ⟨HX, -, Hs⟩
    isplitl [HX] <;> iassumption
  hout c := by
    rw [Pipeline.ownSems0_none]
    show iprop((ex m).ended c ∗ stage c cc0_stg0_0) ⊢ iprop((ex m).ended c ∗ BI.emp ∗ Pipeline.scopedRest spec1 c)
    rw [scopedRest1_eq]
    iintro ⟨H, Hs⟩
    isplitl [H]; · iexact H
    isplitr; · iempintro
    iexact Hs
  hexit c := by
    unfold clear
    iintro ⟨-, HO, HY, HZ⟩
    imodintro
    isplitl [HZ HY]
    · isplitl [HZ] <;> iassumption
    iapply (owesAt_elim (pdats m 1 c) _ 0 rfl); iexact HO

theorem seg0_prog : (seg0 (F := F) m).prog = StableHlo.seq (hostOps0 : List (HloOp τ sig (Elt F))) := by
  show (hlo rfl (StableHlo.allocateBuffer (τ := τ) (Val := Elt F) main_v1 ⟨by decide, rfl⟩) fun _ => .ret ⟨⟩) = StableHlo.seq [StableHlo.allocateBuffer main_v1]
  simp only [StableHlo.seq, Prog.bind_op, Prog.bind_ret]
  rfl
theorem seg1_prog : (seg1 (F := F) m).prog = StableHlo.seq (hostOps0_1 : List (HloOp τ sig (Elt F))) := by
  show (hlo rfl (StableHlo.allocateBuffer (τ := τ) (Val := Elt F) main_v2 ⟨by decide, rfl⟩) fun _ => .ret ⟨⟩) = StableHlo.seq [StableHlo.allocateBuffer main_v2]
  simp only [StableHlo.seq, Prog.bind_op, Prog.bind_ret]
  rfl
theorem seg2_prog : (seg2 (F := F) m).prog = StableHlo.seq (hostOps0_2 : List (HloOp τ sig (Elt F))) := rfl

/-- @main as the list. -/
def segs : List (Pipeline.Seg (pcfgs (F := F)) adm (pdats m) () defs₀ 𝒱₀ Plan.L (Plan.lv (ex m).plan)) :=
  [.host (seg0 m), .host (seg1 m), .host (seg2 m), .region (reg0 m), .region (reg1 m)]

theorem main_eq (c : Dev nD) : main (F := F) c = Pipeline.Seg.run (segs m) := by
  rw [main_chain]
  unfold segs
  simp only [Pipeline.Seg.run, seg0_prog, seg1_prog, seg2_prog, Pipeline.chain, Prog.lift, Prog.bind_op, Prog.bind_ret, Prog.pure_eq_ret]

/-! ## The launch -/

/-- The launch element: the pipeline library's at its staging cells, the exchange's at its own. -/
def u₀ : UU :=
  (initOf (Pipeline.cells (Pipeline.pin (pcfgs (F := F)) adm) cellOf_inj) (Pipeline.launchToks (Pipeline.pin (pcfgs (F := F)) adm) cellOf_inj),
    initOf (ex m).plan.cellSet (ex m).plan.tokSet)

/-- The semaphores outside the kernels are the cells of the exchange. -/
theorem sems_all : ((Finset.univ : Finset (SemLoc sig)).filter fun sm => ¬ sm.isScoped .tc)
    = Finset.univ.map ⟨fun u : UC Unit (Fin 2) => semOf 2 (0 : Sem sig) (by decide) (.inl u), fun _ _ h => Sum.inl_injective (semOf_inj _ _ _ h)⟩ := by
  decide

theorem sems_eq (c : Dev nD) : (unscopedSems0 c : sProp 𝕄) = bigSep Finset.univ fun u : UC Unit (Fin 2) => semVal ((ex m).plan.cell c (.inl u)) 0 := by
  unfold unscopedSems0
  rw [sems_all, BI.bigSep_map]
  rfl

abbrev T₀ (c : Dev nD) : sProp 𝕄 := iprop(pt c main_v1 (V₀ m c main_v1) ∗ around m [] [main_v2] c)
abbrev Tₙ (c : Dev nD) : sProp 𝕄 := iprop(args m c ∗ (ex m).ended c)

theorem launched (c : Dev nD) : iprop(unscopedBufs c (fun b => m ((c : Thread nD τ).loc b)) ∗ (ex m).ready EX c ∗ owes (c : Thread nD τ) ((ex m).O₀ c) ∅)
    ⊢ (T₀ m c : sProp 𝕄) := by
  rw [show unscopedBufs c (fun b => m ((c : Thread nD τ).loc b)) = (StableHlo.held (c : Thread nD τ) (allBufs sig) (V₀ m c) : sProp 𝕄) from unscopedBufs_held c (V₀ m c)]
  unfold T₀ around along
  iintro ⟨Hh, Hr, HO⟩
  ihave Hh := (allBufs_split c (V₀ m c)) $$ Hh
  rw [all_cons]
  icases Hh with ⟨⟨H1, H2⟩, Hh⟩
  isplitl [H1]; · iexact H1
  isplitr; · iempintro
  isplitl [H2]; · iexact H2
  isplitl [Hh]; · iexact Hh
  isplitl [Hr] <;> iassumption

theorem after_seg0 (c : Dev nD) : iprop(anyAt c main_v1 ∗ around m [] [main_v2] c)
    ⊢ (iprop(pt c main_v2 (V₀ m c main_v2) ∗ around m [main_v1] [] c) : sProp 𝕄) :=
  next_alloc (x := main_v1) (y := main_v2) (l := []) (l' := []) (P := anyAt c) (Q := fun b => pt c b (V₀ m c b))
theorem after_seg1 (c : Dev nD) : iprop(anyAt c main_v2 ∗ around m [main_v1] [] c)
    ⊢ (iprop(StableHlo.held (c : Thread nD τ) restBufs (V₀ m c) ∗ (all [main_v2, main_v1] (anyAt c) ∗ along m c)) : sProp 𝕄) :=
  last_alloc (x := main_v2) (l := [main_v1]) (P := anyAt c) (Q := fun b => pt c b (V₀ m c b))
theorem chained : Pipeline.Seg.Chains (T₀ m) (segs m) fun c => iprop(Tₙ m c ∗ ∃ W, owes (c : Thread nD τ) (0 : CellTallies nD τ sig Unit) W) :=
  ⟨fun c => .rfl, after_seg0 m, after_seg1 m, fun c => .rfl, fun c => .rfl, fun c => .rfl⟩

/-- What a final state shows of a device. -/
def Shown (c : Dev nD) (μ : (ℓ : Loc nD τ sig) → Buf (Elt F) ℓ) : Prop :=
  (μ ((c : Thread nD τ).loc main_arg0) = m ((c : Thread nD τ).loc main_arg0) ∧ μ ((c : Thread nD τ).loc main_arg1) = m ((c : Thread nD τ).loc main_arg1))
    ∧ μ ((c : Thread nD τ).loc main_v1) = landed (X0 m) c ∧ μ ((c : Thread nD τ).loc main_v2) = landed (X1 m) c

theorem read_end (c : Dev nD) (s' : Phys nD τ sig (Elt F)) : iprop(Tₙ m c ∗ SI s')
    ⊢ (|={Set.univ}=> iprop(⌜Shown m c s'.mem.mem ∧ ∀ u, s'.mem.sem ((ex m).plan.cell c (.inl u)) = 0⌝ ∗ SI s') : sProp 𝕄) := by
  unfold Tₙ args Ex.ended
  rw [dones_eq]
  iintro ⟨⟨⟨Ha0, Ha1⟩, ⟨H0, H1, -⟩, Hz⟩, HSI⟩
  icombine HSI Ha0 gives %ha0
  icombine HSI Ha1 gives %ha1
  icombine HSI H0 gives %h0
  icombine HSI H1 gives %h1
  ihave H := ((ex m).zeros_read c s') $$ [Hz HSI]
  · isplitl [Hz] <;> iassumption
  icases H with ⟨%hz, HSI⟩
  imodintro
  isplitr
  · ipureintro
    exact ⟨⟨⟨Buf.eq_of_forall_mem_univ ha0, Buf.eq_of_forall_mem_univ ha1⟩, Buf.eq_of_forall_mem_univ h0, Buf.eq_of_forall_mem_univ h1⟩, hz⟩
  iexact HSI

-- the launch theorem's implicit arguments are found by unifying its conclusion with this one, which takes unfolding plain
-- definitions in the type of an unknown
set_option backward.isDefEq.respectTransparency.types false in
/-- The run: at any float values, from any memory with zero counters, every weakly fair execution of @main on the eight
    devices terminates, and in every final state each device's arguments hold what they held, its landing buffers hold
    in slot `j` what device `j` had in slot `c`, and every semaphore counter is at zero. -/
theorem run_main : θ_run defs (onTc (τ := τ) (main (F := F))) (s₀ m ρ)
    (fun r => (∀ c : Dev nD, Shown m c r.2.mem) ∧ r.2.sem = fun _ => 0) :=
  Pipeline.θ_run_regions_kit_sems (pcfgs (F := F)) adm (pdats m) () cellOf_inj EP defs₀ 𝒱₀ Plan.L (ex m).plan.lv m ρ main (segs m)
    (fun c Q => by rw [main_eq m c])
    (by simp only [segs, Pipeline.Seg.pipes_host, Pipeline.Seg.pipes_region, Pipeline.Seg.pipes_nil]; decide)
    (O₀ := (ex m).O₀) (hL := Plan.L_of_ne) (G := (ex m).plan.deal EX) (u₀ := u₀ m)
    (hu₀ := by
      unfold u₀
      iintro Hu
      ihave H := (ownU_pair _ _) $$ Hu
      icases H with ⟨HP, HX⟩
      imod ((ex m).plan.fund EX) $$ HX with HG
      imodintro
      isplitl [HP]; · iexact HP
      iexact HG)
    (T₀ := T₀ m) (Tₙ := Tₙ m)
    (hch := chained m)
    (hinit := (ex m).init EX ρ (sems_eq m) (launched m))
    (QY := fun c s => Shown m c s.mem ∧ ∀ u, s.sem ((ex m).plan.cell c (.inl u)) = 0)
    (hfin := read_end m)
    (hQ := fun s h hs => ⟨fun c => (h c).1, sem_eq_zero hs fun c sm hsm => by
      have hsm := sems_all ▸ Finset.mem_filter.mpr ⟨Finset.mem_univ sm, by rw [hsm]; decide⟩
      obtain ⟨u, -, rfl⟩ := Finset.mem_map.mp hsm
      exact (h c).2 u⟩)

end Cert.Ffn

end
-- ==== Proof.FfnClaims.lean ====
/-
  The exchange of the feed-forward layer's two gradient arrays: the frames of the program, of its idealization and of the reference, and the two comparisons with the reference.
  One run, stated for any float values, serves all of the kernel's claims; what it leaves in the result arrays is compared
  with the reference once, also for any values.
-/
module

public import proofs.«01_k».proof.Defs
public import proofs.«01_k».proof.Proof.FfnLaunch
public import proofs.«01_k».proof.Proof.Value
public import proofs.«01_k».proof.Proof.Gen.KernelF
public import proofs.«01_k».proof.Proof.Gen.ReferenceF
public import proofs.«01_k».proof.Proof.Gen.ReferenceFIdeal
public import proofs.«01_k».proof.Proof.Gen.ReferenceF.Run
public import proofs.«01_k».proof.Proof.Gen.ReferenceFIdeal.Run

@[expose] public section

noncomputable section

namespace Cert.Ffn

open Idealize.ShloMosaic Idealize.SL.Sem Cert.Exchange

/-- The two kernels of the program as written are those of its idealization. -/
theorem kernels_eq : Cert.KernelF.defs₀ (F := Bits) = Cert.KernelFIdeal.defs₀ (F := Bits) := by
  unfold Cert.KernelF.defs₀ Cert.KernelFIdeal.defs₀
  refine congrArg Defs.onTc (funext fun l => funext fun a => ?_)
  match l, a with
  | 0, (t, s) => rfl
  | 1, (t, s) => rfl
  | ⟨_ + 2, h⟩, _ => exact absurd h (Nat.not_lt.2 (Nat.le_add_left _ _))

/-- And so is what its calls mean. -/
theorem calls_eq : Cert.KernelF.defs (F := Bits) = Cert.KernelFIdeal.defs (F := Bits) :=
  congrArg (Pipeline.defs (Cert.KernelF.pcfgs (F := Bits))) kernels_eq

/-- The run at the bits, of the program as written: its text is that of its idealization. -/
theorem run_bits (m : (ℓ : Loc Cert.KernelF.nD Cert.KernelF.τ Cert.KernelF.sig) → Buf (Elt Bits) ℓ) (ρ : Dev Cert.KernelF.nD → PrngReg) :
    θ_run (Cert.KernelF.defs (F := Bits)) (onTc (τ := Cert.KernelF.τ) (Cert.KernelF.main (F := Bits))) ⟨m, fun _ => 0, ρ⟩ (fun r =>
      (∀ c : Dev Cert.KernelF.nD, Shown (F := Bits) m c r.2.mem) ∧ r.2.sem = fun _ => 0) := by
  rw [calls_eq]
  exact run_main (F := Bits) m ρ

theorem frame_kernel : Cert.quiescent_KernelF := fun m ρ _ =>
  (θ_run Cert.KernelF.defs _ _).mono (fun _ h => ⟨fun c => (h.1 c).1, h.2⟩) (run_bits m ρ)

theorem frame_ideal : Cert.quiescent_KernelFIdeal := fun m ρ _ =>
  (θ_run Cert.KernelFIdeal.defs _ _).mono (fun _ h => ⟨fun c => (h.1 c).1, h.2⟩) (run_main (F := Ideal) m ρ)

theorem frame_reference_ideal : Cert.quiescent_ReferenceFIdeal := fun m ρ _ =>
  (θ_run Cert.ReferenceFIdeal.defs _ _).mono (fun r h => ⟨fun c => (h c).2.2, sem_eq_zero_of_no_sems (by decide) r.2⟩)
    (Cert.ReferenceFIdeal.Value.run (F := Ideal) m ρ)

theorem frame_reference : Cert.quiescent_ReferenceF := fun m ρ _ =>
  (θ_run Cert.ReferenceF.defs _ _).mono (fun r h => ⟨fun c => (h c).2.2, sem_eq_zero_of_no_sems (by decide) r.2⟩)
    (Cert.ReferenceF.Value.run (F := Bits) m ρ)

theorem algebraic : Cert.algebraic_KernelFIdeal_ReferenceFIdeal := fun m ρ m' ρ' _ hm => by
  refine ⟨_, _, ?_, (θ_run Cert.ReferenceFIdeal.defs _ _).mono (fun r h => h 0) (Cert.ReferenceFIdeal.Value.run (F := Ideal) m' ρ')⟩
  refine (θ_run Cert.KernelFIdeal.defs _ _).mono (fun r h c => ?_) (run_main (F := Ideal) m ρ)
  refine ⟨((h.1 c).2.1).trans ?_, ((h.1 c).2.2).trans ?_, (h.1 c).1⟩
  · exact (congrArg (fun X => landed X c) (funext fun d => (hm d).1)).trans (landed_blocks _ _ _ _ _ c)
  · exact (congrArg (fun X => landed X c) (funext fun d => (hm d).2)).trans (landed_blocks _ _ _ _ _ c)

theorem bitexact : Cert.bitexact_KernelF_ReferenceF := fun m ρ m' ρ' _ hm => by
  refine ⟨_, _, ?_, (θ_run Cert.ReferenceF.defs _ _).mono (fun r h => h 0) (Cert.ReferenceF.Value.run (F := Bits) m' ρ')⟩
  refine (θ_run Cert.KernelF.defs _ _).mono (fun r h c => ?_) (run_bits m ρ)
  refine ⟨((h.1 c).2.1).trans ?_, ((h.1 c).2.2).trans ?_, (h.1 c).1⟩
  · exact (congrArg (fun X => landed X c) (funext fun d => (hm d).1)).trans (landed_blocks _ _ _ _ _ c)
  · exact (congrArg (fun X => landed X c) (funext fun d => (hm d).2)).trans (landed_blocks _ _ _ _ _ c)

end Cert.Ffn

end
-- ==== Proof.Late.lean ====
/-
  The gathering of three arrays by every device: its semaphores and arrays, and the runs of its start kernel and of its wait kernel, one step of the exchange
  after the other.
-/
module

public import proofs.«01_k».proof.Proof.Ghost
public import proofs.«01_k».proof.Proof.Gen.KernelBIdeal
public import proofs.«01_k».proof.Proof.Gen.KernelBIdeal.Skeleton
public import proofs.«01_k».proof.Proof.Gen.KernelBIdeal.Launch
public import proofs.«01_k».proof.Proof.Gen.KernelBIdeal.Points
public import Idealize.ShloMosaic.Lib.Tactic

@[expose] public section

noncomputable section

namespace Cert.Late

open Cert.KernelBIdeal Cert.KernelBIdeal.Gen Cert.Exchange
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the exchange's -/

abbrev UU : Type := URounds (GSem nD τ sig) Unit × UX sig

local notation "𝕄" => MT nD τ sig Unit (Elt F) ℕ UU ℕ

abbrev EP : Emb (URounds (GSem nD τ sig) Unit) (MT nD τ sig Unit (Elt F) ℕ UU ℕ) := embL
abbrev EX : Emb (UX sig) (MT nD τ sig Unit (Elt F) ℕ UU ℕ) := embR
abbrev 𝒱₀ : Variants := Variants.none

variable (m : (ℓ : Loc nD τ sig) → Buf (Elt F) ℓ)

/-! ## The exchange -/

/-- What device `d` holds before it. -/
def X0 (d : Dev nD) : (S2 128 1024).Idx → Elt F .bf16 := m ((d : Thread nD τ).loc main_arg0)
def X1 (d : Dev nD) : (S2 1024 768).Idx → Elt F .bf16 := m ((d : Thread nD τ).loc main_arg1)
def X2 (d : Dev nD) : (S2 352 1024).Idx → Elt F .bf16 := m ((d : Thread nD τ).loc main_arg2)

/-- Its semaphores, and its three arrays: landing buffer and the copy that the transfers read. -/
def ex : Ex sig (Elt F) UU (Fin 3) where
  osem := semOf 3 (0 : Sem sig) (by decide)
  bar := 0
  osem_bar := rfl
  inj := semOf_inj _ _ _
  arr
    | 0 => gatherArr (r := 128) (w := 1024) (e := .bf16) (Memref.whole main_v1) (Memref.whole main_v4_2) (Memref.isWhole_whole _) (Memref.isWhole_whole _)
        (X0 m) (fun _ => gathered (X0 m)) (sig.dmaCredit_pos _ _ _ _ _ (by decide))
    | 1 => gatherArr (r := 1024) (w := 768) (e := .bf16) (Memref.whole main_v2) (Memref.whole main_v4_3) (Memref.isWhole_whole _) (Memref.isWhole_whole _)
        (X1 m) (fun _ => gathered (X1 m)) (sig.dmaCredit_pos _ _ _ _ _ (by decide))
    | 2 => gatherArr (r := 352) (w := 1024) (e := .bf16) (Memref.whole main_v3) (Memref.whole main_v4_4) (Memref.isWhole_whole _) (Memref.isWhole_whole _)
        (X2 m) (fun _ => gathered (X2 m)) (sig.dmaCredit_pos _ _ _ _ _ (by decide))
  list := [0, 1, 2]
  nodup := by decide
  full := by decide
  lanes := [(0, 0), (0, 1), (0, 2), (0, 3), (0, 4), (0, 5), (0, 6), (1, 0), (1, 1), (1, 2), (1, 3), (1, 4), (1, 5), (1, 6), (2, 0), (2, 1), (2, 2), (2, 3), (2, 4), (2, 5), (2, 6)]
  lanes_eq := rfl

/-- Each device sends every peer the whole of each. -/
def array0 : Gathers (ex m) 0 (Memref.whole main_v1 : Memref sig .tc .hbm (S3 128 1024) .bf16) (Memref.whole main_v4_2 : Memref sig .tc .hbm (S2 128 1024) .bf16) :=
  ⟨Memref.isWhole_whole _, Memref.isWhole_whole _, X0 m, fun _ => gathered (X0 m), sig.dmaCredit_pos _ _ _ _ _ (by decide), rfl, fun _ _ => rfl⟩
def array1 : Gathers (ex m) 1 (Memref.whole main_v2 : Memref sig .tc .hbm (S3 1024 768) .bf16) (Memref.whole main_v4_3 : Memref sig .tc .hbm (S2 1024 768) .bf16) :=
  ⟨Memref.isWhole_whole _, Memref.isWhole_whole _, X1 m, fun _ => gathered (X1 m), sig.dmaCredit_pos _ _ _ _ _ (by decide), rfl, fun _ _ => rfl⟩
def array2 : Gathers (ex m) 2 (Memref.whole main_v3 : Memref sig .tc .hbm (S3 352 1024) .bf16) (Memref.whole main_v4_4 : Memref sig .tc .hbm (S2 352 1024) .bf16) :=
  ⟨Memref.isWhole_whole _, Memref.isWhole_whole _, X2 m, fun _ => gathered (X2 m), sig.dmaCredit_pos _ _ _ _ _ (by decide), rfl, fun _ _ => rfl⟩

/-! ## The addresses -/

theorem dev1_eq (c : Dev nD) : (⟨k0_dev1 c, k0_dev1_lt c⟩ : Dev nD) = peer c 0 := by revert c; decide +kernel
theorem dev8_eq (c : Dev nD) : (⟨k0_dev8 c, k0_dev8_lt c⟩ : Dev nD) = peer c 0 := by revert c; decide +kernel
theorem dev15_eq (c : Dev nD) : (⟨k0_dev15 c, k0_dev15_lt c⟩ : Dev nD) = peer c 0 := by revert c; decide +kernel
theorem dev22_eq (c : Dev nD) : (⟨k0_dev22 c, k0_dev22_lt c⟩ : Dev nD) = peer c 0 := by revert c; decide +kernel
theorem dev2_eq (c : Dev nD) : (⟨k0_dev2 c, k0_dev2_lt c⟩ : Dev nD) = peer c 1 := by revert c; decide +kernel
theorem dev9_eq (c : Dev nD) : (⟨k0_dev9 c, k0_dev9_lt c⟩ : Dev nD) = peer c 1 := by revert c; decide +kernel
theorem dev16_eq (c : Dev nD) : (⟨k0_dev16 c, k0_dev16_lt c⟩ : Dev nD) = peer c 1 := by revert c; decide +kernel
theorem dev23_eq (c : Dev nD) : (⟨k0_dev23 c, k0_dev23_lt c⟩ : Dev nD) = peer c 1 := by revert c; decide +kernel
theorem dev3_eq (c : Dev nD) : (⟨k0_dev3 c, k0_dev3_lt c⟩ : Dev nD) = peer c 2 := by revert c; decide +kernel
theorem dev10_eq (c : Dev nD) : (⟨k0_dev10 c, k0_dev10_lt c⟩ : Dev nD) = peer c 2 := by revert c; decide +kernel
theorem dev17_eq (c : Dev nD) : (⟨k0_dev17 c, k0_dev17_lt c⟩ : Dev nD) = peer c 2 := by revert c; decide +kernel
theorem dev24_eq (c : Dev nD) : (⟨k0_dev24 c, k0_dev24_lt c⟩ : Dev nD) = peer c 2 := by revert c; decide +kernel
theorem dev4_eq (c : Dev nD) : (⟨k0_dev4 c, k0_dev4_lt c⟩ : Dev nD) = peer c 3 := by revert c; decide +kernel
theorem dev11_eq (c : Dev nD) : (⟨k0_dev11 c, k0_dev11_lt c⟩ : Dev nD) = peer c 3 := by revert c; decide +kernel
theorem dev18_eq (c : Dev nD) : (⟨k0_dev18 c, k0_dev18_lt c⟩ : Dev nD) = peer c 3 := by revert c; decide +kernel
theorem dev25_eq (c : Dev nD) : (⟨k0_dev25 c, k0_dev25_lt c⟩ : Dev nD) = peer c 3 := by revert c; decide +kernel
theorem dev5_eq (c : Dev nD) : (⟨k0_dev5 c, k0_dev5_lt c⟩ : Dev nD) = peer c 4 := by revert c; decide +kernel
theorem dev12_eq (c : Dev nD) : (⟨k0_dev12 c, k0_dev12_lt c⟩ : Dev nD) = peer c 4 := by revert c; decide +kernel
theorem dev19_eq (c : Dev nD) : (⟨k0_dev19 c, k0_dev19_lt c⟩ : Dev nD) = peer c 4 := by revert c; decide +kernel
theorem dev26_eq (c : Dev nD) : (⟨k0_dev26 c, k0_dev26_lt c⟩ : Dev nD) = peer c 4 := by revert c; decide +kernel
theorem dev6_eq (c : Dev nD) : (⟨k0_dev6 c, k0_dev6_lt c⟩ : Dev nD) = peer c 5 := by revert c; decide +kernel
theorem dev13_eq (c : Dev nD) : (⟨k0_dev13 c, k0_dev13_lt c⟩ : Dev nD) = peer c 5 := by revert c; decide +kernel
theorem dev20_eq (c : Dev nD) : (⟨k0_dev20 c, k0_dev20_lt c⟩ : Dev nD) = peer c 5 := by revert c; decide +kernel
theorem dev27_eq (c : Dev nD) : (⟨k0_dev27 c, k0_dev27_lt c⟩ : Dev nD) = peer c 5 := by revert c; decide +kernel
theorem dev7_eq (c : Dev nD) : (⟨k0_dev7 c, k0_dev7_lt c⟩ : Dev nD) = peer c 6 := by revert c; decide +kernel
theorem dev14_eq (c : Dev nD) : (⟨k0_dev14 c, k0_dev14_lt c⟩ : Dev nD) = peer c 6 := by revert c; decide +kernel
theorem dev21_eq (c : Dev nD) : (⟨k0_dev21 c, k0_dev21_lt c⟩ : Dev nD) = peer c 6 := by revert c; decide +kernel
theorem dev28_eq (c : Dev nD) : (⟨k0_dev28 c, k0_dev28_lt c⟩ : Dev nD) = peer c 6 := by revert c; decide +kernel
theorem off1_eq (c : Dev nD) : k0_off1 c = ![c.val, 0, 0] := by revert c; decide +kernel
theorem off2_eq (c : Dev nD) : k0_off2 c = ![c.val, 0, 0] := by revert c; decide +kernel
theorem off3_eq (c : Dev nD) : k0_off3 c = ![c.val, 0, 0] := by revert c; decide +kernel

/-! ## The token -/

theorem hz : (![0, 0] : Fin 2 → Nat) = fun _ => 0 := funext fun a => by fin_cases a <;> rfl
abbrev r0 : Rect S8x128 := Rect.unit (s := S8x128) ![0, 0] S8x128.size inb_S8x128_S8x128_0_0
theorem write_stage0 (f w : (cc0_stg0_0 : Ref sig .tc).ty.Contents (Elt F)) :
    ((Memref.whole cc0_stg0_0 : Memref sig .tc .vmem S8x128 .f32).access r0 : View sig .tc _ _ _).write (Elt F) f w Finset.univ = w :=
  Memref.write_access_unit_zero_univ (Elt F) cc0_stg0_0 hz _ f w
theorem write_stage1 (f w : (cc1_stg0_0 : Ref sig .tc).ty.Contents (Elt F)) :
    ((Memref.whole cc1_stg0_0 : Memref sig .tc .vmem S8x128 .f32).access r0 : View sig .tc _ _ _).write (Elt F) f w Finset.univ = w :=
  Memref.write_access_unit_zero_univ (Elt F) cc1_stg0_0 hz _ f w

/-! ## The runs -/

variable (K : Dev 8 × UC Unit (Fin 3) → ℕ) (c : Dev nD)

set_option maxRecDepth 8000 in
set_option maxHeartbeats 800000 in
theorem start_run (f : Buf (Elt F) ((c : Thread nD τ).loc cc0_stg0_0)) {Rest : sProp 𝕄} {Q : PUnit → sProp 𝕄}
    (h : iprop((ex m).plan.ctx EX K ∗ (ex m).plan.owing c [] ∗ (ex m).startLeaves c
        ∗ (((c : Thread nD τ).loc cc0_stg0_0) ↦{fullShare} (k0_pay1 (F := F) : Buf (Elt F) ((c : Thread nD τ).loc cc0_stg0_0))) ∗ Rest) ⊢ Q ⟨⟩) :
    iprop((ex m).plan.ctx EX K ∗ (ex m).plan.owing c (ex m).dues ∗ (ex m).startNeeds EX c ∗ (((c : Thread nD τ).loc cc0_stg0_0) ↦{fullShare} f) ∗ Rest)
      ⊢ wp frame (wpE (defs₀ (F := F)) 𝒱₀ (c : Thread nD τ) none) Set.univ
        (cc0_ag_start_b0 (Memref.whole main_v4_2) (Memref.isWhole_whole _) (Memref.whole main_v4_3) (Memref.isWhole_whole _) (Memref.whole main_v4_4) (Memref.isWhole_whole _) (Memref.whole main_v1) (Memref.isWhole_whole _) (Memref.whole main_v2) (Memref.isWhole_whole _) (Memref.whole main_v3) (Memref.isWhole_whole _) main_v4_0 main_v4_1
          (Memref.whole main_v4_2) (Memref.isWhole_whole _) (Memref.whole main_v4_3) (Memref.isWhole_whole _) (Memref.whole main_v4_4) (Memref.isWhole_whole _) (Memref.whole main_v1) (Memref.isWhole_whole _) (Memref.whole main_v2) (Memref.isWhole_whole _) (Memref.whole main_v3) (Memref.isWhole_whole _) (Memref.whole cc0_stg0_0) (Memref.isWhole_whole _) cc0_scratch0) Q := by
  simp only [cc0_ag_start_b0_eq_skeleton]; unfold cc0_ag_start_b0_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  simp only [semSignalWord, semWaitWord, Prog.lift, Prog.bind_op, Prog.bind_ret, Prog.pure_eq_ret, wp_deviceId]
  -- the handshake
  refine ((ex m).at_signals EX c K).trans ?_
  refine (ex m).plan.step_signal EX 𝒱₀ K c (dev1_eq c) rfl rfl ?_
  refine (ex m).plan.step_signal EX 𝒱₀ K c (dev2_eq c) rfl rfl ?_
  refine (ex m).plan.step_signal EX 𝒱₀ K c (dev3_eq c) rfl rfl ?_
  refine (ex m).plan.step_signal EX 𝒱₀ K c (dev4_eq c) rfl rfl ?_
  refine (ex m).plan.step_signal EX 𝒱₀ K c (dev5_eq c) rfl rfl ?_
  refine (ex m).plan.step_signal EX 𝒱₀ K c (dev6_eq c) rfl rfl ?_
  refine (ex m).plan.step_signal EX 𝒱₀ K c (dev7_eq c) rfl rfl ?_
  refine ((ex m).at_bar EX c K).trans ?_
  refine (ex m).plan.step_bar EX 𝒱₀ K c (b := ()) (ex m).sends_level rfl rfl ?_
  -- the local copies
  refine ((ex m).at_copies EX c K).trans ?_
  refine (array0 m).copy EX 𝒱₀ c rfl (off1_eq c) rfl ?_
  refine (array1 m).copy EX 𝒱₀ c rfl (off2_eq c) rfl ?_
  refine (array2 m).copy EX 𝒱₀ c rfl (off3_eq c) rfl ?_
  -- the transfers
  refine ((ex m).at_sends EX c K).trans ?_
  refine (array0 m).send EX 𝒱₀ K c 0 (dev8_eq c) rfl rfl (off1_eq c) rfl ?_
  refine (array0 m).send EX 𝒱₀ K c 1 (dev9_eq c) rfl rfl (off1_eq c) rfl ?_
  refine (array0 m).send EX 𝒱₀ K c 2 (dev10_eq c) rfl rfl (off1_eq c) rfl ?_
  refine (array0 m).send EX 𝒱₀ K c 3 (dev11_eq c) rfl rfl (off1_eq c) rfl ?_
  refine (array0 m).send EX 𝒱₀ K c 4 (dev12_eq c) rfl rfl (off1_eq c) rfl ?_
  refine (array0 m).send EX 𝒱₀ K c 5 (dev13_eq c) rfl rfl (off1_eq c) rfl ?_
  refine (array0 m).send EX 𝒱₀ K c 6 (dev14_eq c) rfl rfl (off1_eq c) rfl ?_
  refine (array1 m).send EX 𝒱₀ K c 0 (dev15_eq c) rfl rfl (off2_eq c) rfl ?_
  refine (array1 m).send EX 𝒱₀ K c 1 (dev16_eq c) rfl rfl (off2_eq c) rfl ?_
  refine (array1 m).send EX 𝒱₀ K c 2 (dev17_eq c) rfl rfl (off2_eq c) rfl ?_
  refine (array1 m).send EX 𝒱₀ K c 3 (dev18_eq c) rfl rfl (off2_eq c) rfl ?_
  refine (array1 m).send EX 𝒱₀ K c 4 (dev19_eq c) rfl rfl (off2_eq c) rfl ?_
  refine (array1 m).send EX 𝒱₀ K c 5 (dev20_eq c) rfl rfl (off2_eq c) rfl ?_
  refine (array1 m).send EX 𝒱₀ K c 6 (dev21_eq c) rfl rfl (off2_eq c) rfl ?_
  refine (array2 m).send EX 𝒱₀ K c 0 (dev22_eq c) rfl rfl (off3_eq c) rfl ?_
  refine (array2 m).send EX 𝒱₀ K c 1 (dev23_eq c) rfl rfl (off3_eq c) rfl ?_
  refine (array2 m).send EX 𝒱₀ K c 2 (dev24_eq c) rfl rfl (off3_eq c) rfl ?_
  refine (array2 m).send EX 𝒱₀ K c 3 (dev25_eq c) rfl rfl (off3_eq c) rfl ?_
  refine (array2 m).send EX 𝒱₀ K c 4 (dev26_eq c) rfl rfl (off3_eq c) rfl ?_
  refine (array2 m).send EX 𝒱₀ K c 5 (dev27_eq c) rfl rfl (off3_eq c) rfl ?_
  refine (array2 m).send EX 𝒱₀ K c 6 (dev28_eq c) rfl rfl (off3_eq c) rfl ?_
  -- the waits for the local copies
  refine ((ex m).at_locals EX c K).trans ?_
  refine (ex m).plan.step_local EX 𝒱₀ K c (a := 0) (fun _ h => absurd h List.not_mem_nil) rfl rfl ?_
  refine (ex m).plan.step_local EX 𝒱₀ K c (a := 1) (fun _ h => absurd h List.not_mem_nil) rfl rfl ?_
  refine (ex m).plan.step_local EX 𝒱₀ K c (a := 2) (fun _ h => absurd h List.not_mem_nil) rfl rfl ?_
  -- the token
  refine ((ex m).at_end EX c K).trans ?_
  iintro ⟨Hc, HO, Hl, Hf, HR⟩
  iapply (wp_load 𝒱₀ (c : Thread nD τ) none Set.univ (m := Memref.whole cc0_stg0_0) (Finset.subset_univ _)) $$ Hf; iintro Hf
  iapply (wp_store 𝒱₀ (c : Thread nD τ) none Set.univ (m := Memref.whole cc0_stg0_0) (r := r0) (Mk := Finset.univ) (Finset.subset_univ _)) $$ Hf; iintro Hf
  rw [write_stage0, wp_ret]; imodintro
  iapply h
  isplitl [Hc]; · iexact Hc
  isplitl [HO]; · iexact HO
  isplitl [Hl]; · iexact Hl
  isplitl [Hf] <;> iassumption

set_option maxRecDepth 8000 in
set_option maxHeartbeats 1000000 in
theorem wait_run (f : Buf (Elt F) ((c : Thread nD τ).loc cc1_stg0_0)) {Rest : sProp 𝕄} {Q : PUnit → sProp 𝕄}
    (h : iprop((ex m).plan.ctx EX K ∗ (ex m).plan.owing c [] ∗ all (ex m).lanes.reverse ((ex m).plan.laneDone c)
        ∗ (((c : Thread nD τ).loc cc1_stg0_0) ↦{fullShare} (k1_pay1 (F := F) : Buf (Elt F) ((c : Thread nD τ).loc cc1_stg0_0))) ∗ Rest) ⊢ Q ⟨⟩) :
    iprop((ex m).plan.ctx EX K ∗ (ex m).plan.owing c [] ∗ all (ex m).lanes ((ex m).plan.lane EX c) ∗ (((c : Thread nD τ).loc cc1_stg0_0) ↦{fullShare} f) ∗ Rest)
      ⊢ wp frame (wpE (defs₀ (F := F)) 𝒱₀ (c : Thread nD τ) none) Set.univ
        (cc1_ag_wait_b0 (Memref.whole main_v4_2) (Memref.isWhole_whole _) (Memref.whole main_v4_3) (Memref.isWhole_whole _) (Memref.whole main_v4_4) (Memref.isWhole_whole _) (Memref.whole main_v1) (Memref.isWhole_whole _) (Memref.whole main_v2) (Memref.isWhole_whole _) (Memref.whole main_v3) (Memref.isWhole_whole _) main_v4_0 main_v4_1
          (Memref.whole main_v4_8) (Memref.isWhole_whole _) (Memref.whole main_v4_2) (Memref.isWhole_whole _) (Memref.whole main_v4_3) (Memref.isWhole_whole _) (Memref.whole main_v4_4) (Memref.isWhole_whole _) (Memref.whole main_v1) (Memref.isWhole_whole _) (Memref.whole main_v2) (Memref.isWhole_whole _) (Memref.whole main_v3) (Memref.isWhole_whole _) (Memref.whole cc1_stg0_0) (Memref.isWhole_whole _)) Q := by
  simp only [cc1_ag_wait_b0_eq_skeleton]; unfold cc1_ag_wait_b0_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton]
  unfold k1_part1_skel k1_part2_skel k1_part3_skel k1_part4_skel k1_part5_skel k1_part6_skel k1_part7_skel k1_part8_skel k1_part9_skel k1_part10_skel k1_part11_skel
  simp only [Prog.lift, Prog.bind_op, Prog.bind_ret, Prog.pure_eq_ret, wp_deviceId]
  refine ((ex m).at_waits EX c K).trans ?_
  refine (array0 m).wait EX 𝒱₀ K c 0 rfl rfl rfl ?_
  refine (array0 m).wait EX 𝒱₀ K c 1 rfl rfl rfl ?_
  refine (array0 m).wait EX 𝒱₀ K c 2 rfl rfl rfl ?_
  refine (array0 m).wait EX 𝒱₀ K c 3 rfl rfl rfl ?_
  refine (array0 m).wait EX 𝒱₀ K c 4 rfl rfl rfl ?_
  refine (array0 m).wait EX 𝒱₀ K c 5 rfl rfl rfl ?_
  refine (array0 m).wait EX 𝒱₀ K c 6 rfl rfl rfl ?_
  refine (array1 m).wait EX 𝒱₀ K c 0 rfl rfl rfl ?_
  refine (array1 m).wait EX 𝒱₀ K c 1 rfl rfl rfl ?_
  refine (array1 m).wait EX 𝒱₀ K c 2 rfl rfl rfl ?_
  refine (array1 m).wait EX 𝒱₀ K c 3 rfl rfl rfl ?_
  refine (array1 m).wait EX 𝒱₀ K c 4 rfl rfl rfl ?_
  refine (array1 m).wait EX 𝒱₀ K c 5 rfl rfl rfl ?_
  refine (array1 m).wait EX 𝒱₀ K c 6 rfl rfl rfl ?_
  refine (array2 m).wait EX 𝒱₀ K c 0 rfl rfl rfl ?_
  refine (array2 m).wait EX 𝒱₀ K c 1 rfl rfl rfl ?_
  refine (array2 m).wait EX 𝒱₀ K c 2 rfl rfl rfl ?_
  refine (array2 m).wait EX 𝒱₀ K c 3 rfl rfl rfl ?_
  refine (array2 m).wait EX 𝒱₀ K c 4 rfl rfl rfl ?_
  refine (array2 m).wait EX 𝒱₀ K c 5 rfl rfl rfl ?_
  refine (array2 m).wait EX 𝒱₀ K c 6 rfl rfl rfl ?_
  iintro ⟨Hc, HO, -, Hd, Hf, HR⟩
  iapply (wp_load 𝒱₀ (c : Thread nD τ) none Set.univ (m := Memref.whole cc1_stg0_0) (Finset.subset_univ _)) $$ Hf; iintro Hf
  iapply (wp_store 𝒱₀ (c : Thread nD τ) none Set.univ (m := Memref.whole cc1_stg0_0) (r := r0) (Mk := Finset.univ) (Finset.subset_univ _)) $$ Hf; iintro Hf
  rw [write_stage1, wp_ret]; imodintro
  iapply h
  isplitl [Hc]; · iexact Hc
  isplitl [HO]; · iexact HO
  isplitl [Hd]; · iexact Hd
  isplitl [Hf] <;> iassumption

end Cert.Late

end
-- ==== Proof.LateLaunch.lean ====
/-
  The exchange of the three gathered arrays: the run on the eight devices. The two calls' proof data, @main as a list of segments, the launch, and what every
  final state holds.
-/
module

public import proofs.«01_k».proof.Proof.Late

@[expose] public section

noncomputable section

namespace Cert.Late

open Cert.KernelBIdeal Cert.KernelBIdeal.Gen Cert.Exchange
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The buffers -/

/-- The landing buffers, the arguments, the copies of them, the tokens. -/
abbrev landRefs : List (Ref sig .tc) := [main_v1, main_v2, main_v3]
abbrev restRefs : List (Ref sig .tc) := [main_arg0, main_arg1, main_arg2, main_v4_2, main_v4_3, main_v4_4, main_v4_8, main_v5_6]
/-- What the launch allocates besides the landing buffers. -/
def restBufs : Finset (DevRef τ sig) := restRefs.foldr (fun b T => insert (Proc.devRef .tc b) T) ∅

/-- The contents at the launch and after the copies. -/
def V₀ (c : Dev nD) : Valuation τ sig (Elt F) := fun b => m ((c : Dev nD), b)
def V₁ (c : Dev nD) : Valuation τ sig (Elt F) := StableHlo.after hostOps0_3 (V₀ m c)

omit [FloatOps F] in
theorem allBufs_split (c : Dev nD) (W : Valuation τ sig (Elt F)) : (StableHlo.held (c : Thread nD τ) (allBufs sig) W : sProp 𝕄)
    ⊢ iprop((all landRefs fun b => pt c b (W b)) ∗ StableHlo.held (c : Thread nD τ) restBufs W) := by
  rw [show allBufs sig = landRefs.foldr (fun b T => insert (Proc.devRef .tc b) T) restBufs from by decide]
  exact held_listed c W restBufs landRefs (by decide) (by decide)

omit [FloatOps F] in
theorem restBufs_split (c : Dev nD) (W : Valuation τ sig (Elt F)) : (StableHlo.held (c : Thread nD τ) restBufs W : sProp 𝕄)
    ⊢ all restRefs fun b => pt c b (W b) := by
  refine (held_listed c W ∅ restRefs (by decide) (by decide)).trans ?_
  iintro ⟨H, -⟩
  iexact H

theorem V₁_arg0 (c : Dev nD) : V₁ m c main_arg0 = m ((c : Thread nD τ).loc main_arg0) := by
  show StableHlo.after hostOps0_3 (V₀ m c) (Proc.devRef .tc main_arg0) = _
  after_results
  rfl
theorem V₁_arg1 (c : Dev nD) : V₁ m c main_arg1 = m ((c : Thread nD τ).loc main_arg1) := by
  show StableHlo.after hostOps0_3 (V₀ m c) (Proc.devRef .tc main_arg1) = _
  after_results
  rfl
theorem V₁_arg2 (c : Dev nD) : V₁ m c main_arg2 = m ((c : Thread nD τ).loc main_arg2) := by
  show StableHlo.after hostOps0_3 (V₀ m c) (Proc.devRef .tc main_arg2) = _
  after_results
  rfl
theorem V₁_copy0 (c : Dev nD) : V₁ m c main_v4_2 = X0 m c := by
  show StableHlo.after hostOps0_3 (V₀ m c) (Proc.devRef .tc main_v4_2) = _
  after_results
  rfl
theorem V₁_copy1 (c : Dev nD) : V₁ m c main_v4_3 = X1 m c := by
  show StableHlo.after hostOps0_3 (V₀ m c) (Proc.devRef .tc main_v4_3) = _
  after_results
  rfl
theorem V₁_copy2 (c : Dev nD) : V₁ m c main_v4_4 = X2 m c := by
  show StableHlo.after hostOps0_3 (V₀ m c) (Proc.devRef .tc main_v4_4) = _
  after_results
  rfl

/-- The arrays of the exchange, buffer by buffer. -/
theorem copies_eq (c : Dev nD) : (all (ex m).list fun a => ((ex m).arr a).src c) = (iprop(pt c main_v4_2 (X0 m c) ∗ pt c main_v4_3 (X1 m c) ∗ pt c main_v4_4 (X2 m c) ∗ BI.emp) : sProp 𝕄) := rfl
theorem lands_eq (c : Dev nD) : (all (ex m).list fun a => ((ex m).arr a).land c) = (all landRefs (anyAt c) : sProp 𝕄) := rfl
theorem dones_eq (c : Dev nD) : (all (ex m).list fun a => ((ex m).arr a).done c) = (iprop(pt c main_v1 (gathered (X0 m)) ∗ pt c main_v2 (gathered (X1 m)) ∗ pt c main_v3 (gathered (X2 m)) ∗ BI.emp) : sProp 𝕄) := rfl

/-! ## The proof data of the two calls -/

/-- A kernel's token buffer. -/
abbrev stage (c : Dev nD) (b : Ref sig .tc) : sProp 𝕄 := iprop(∃ f : Buf (Elt F) ((c : Thread nD τ).loc b), ((c : Thread nD τ).loc b) ↦{fullShare} f)

def dat0 (c : Dev nD) : Dat τ (Elt F) Unit ℕ UU ℕ cfg0 c where
  A w := match w with
    | ⟨0, _⟩ => V₁ m c main_v4_8
  after w _ := match w with
    | ⟨0, _⟩ => k0_pay1 (F := F)
  Φ t := if t.val = 0 then iprop((ex m).begun EX c ∗ stage c cc1_stg0_0) else iprop((ex m).mid EX c ∗ (ex m).locals c ∗ stage c cc1_stg0_0)
  q _ := fullShare
  owed t := if t.val = 0 then (ex m).O₀ c else 0
def dat1 (c : Dev nD) : Dat τ (Elt F) Unit ℕ UU ℕ cfg1 c where
  A w := match w with
    | ⟨0, _⟩ => V₁ m c main_v5_6
  after w _ := match w with
    | ⟨0, _⟩ => k1_pay1 (F := F)
  Φ t := if t.val = 0 then iprop((ex m).mid EX c ∗ stage c cc0_stg0_0) else iprop((ex m).ended c ∗ stage c cc0_stg0_0)
  q _ := fullShare
  owed _ := 0

abbrev adm : (p : Fin 2) → (pcfgs (F := F) p).Adm := fun p => (cfgs p).toPCfg_adm
def pdats : (p : Fin 2) → (c : Dev nD) → Dat τ (Elt F) Unit ℕ UU ℕ (Pipeline.pin (pcfgs (F := F)) adm p) c
  | 0 => dat0 m
  | 1 => dat1 m

theorem share0 (c : Dev nD) (w : Fin cfg0.W) : (dat0 m c).share w = fullShare := by unfold Dat.share; split <;> rfl
theorem share1 (c : Dev nD) (w : Fin cfg1.W) : (dat1 m c).share w = fullShare := by unfold Dat.share; split <;> rfl

theorem arrays0 (c : Dev nD) : pt c main_v4_8 (V₁ m c main_v4_8) ⊢ ((pdats (F := F) m 0 c).arrays ((pdats m 0 c).arrAt · 0) : sProp 𝕄) := by
  show _ ⊢ (bigSep Finset.univ fun w : Fin 1 => (cfg0.win w).arr.view.loc (c.tc : Thread nD τ) ↦[(cfg0.win w).arr.view.set]{(dat0 m c).share w} (dat0 m c).arrAt w 0 : sProp 𝕄)
  rw [bigSep_W0, share0]
  show _ ⊢ ((Memref.whole main_v4_8).view.loc (c.tc : Thread nD τ) ↦[(Memref.whole main_v4_8).view.set]{fullShare} V₁ m c main_v4_8 : sProp 𝕄)
  simp only [Memref.view_whole, View.set_whole]
  exact BI.Entails.refl _
theorem arrays1 (c : Dev nD) : pt c main_v5_6 (V₁ m c main_v5_6) ⊢ ((pdats (F := F) m 1 c).arrays ((pdats m 1 c).arrAt · 0) : sProp 𝕄) := by
  show _ ⊢ (bigSep Finset.univ fun w : Fin 1 => (cfg1.win w).arr.view.loc (c.tc : Thread nD τ) ↦[(cfg1.win w).arr.view.set]{(dat1 m c).share w} (dat1 m c).arrAt w 0 : sProp 𝕄)
  rw [bigSep_W1, share1]
  show _ ⊢ ((Memref.whole main_v5_6).view.loc (c.tc : Thread nD τ) ↦[(Memref.whole main_v5_6).view.set]{fullShare} V₁ m c main_v5_6 : sProp 𝕄)
  simp only [Memref.view_whole, View.set_whole]
  exact BI.Entails.refl _
theorem prefHeld0 (c : Dev nD) (q) (pf) : (Pipeline.prefHeld (Ix := Unit) (Name := ℕ) (U := UU) (Lvl := ℕ) (Val := Elt F) (pcfgs (F := F) 0).pre c q pf : sProp 𝕄) = BI.emp :=
  no_prefs _
theorem prefHeld1 (c : Dev nD) (q) (pf) : (Pipeline.prefHeld (Ix := Unit) (Name := ℕ) (U := UU) (Lvl := ℕ) (Val := Elt F) (pcfgs (F := F) 1).pre c q pf : sProp 𝕄) = BI.emp :=
  no_prefs _

theorem owed0_zero (c : Dev nD) : (pdats (F := F) m 0 c).owed 0 = (ex m).O₀ c := by
  show (if ((0 : Fin (cfg0.N + 1)).val = 0) then (ex m).O₀ c else 0) = (ex m).O₀ c; exact if_pos rfl
theorem owed0_first (c : Dev nD) : (dat0 (F := F) m c).owed t0_0.castSucc = (ex m).O₀ c := by
  show (if (t0_0.castSucc : Fin (cfg0.N + 1)).val = 0 then (ex m).O₀ c else 0) = (ex m).O₀ c; exact if_pos rfl
theorem owed0_last (c : Dev nD) : (pdats (F := F) m 0 c).owed (Fin.last _) = 0 := by
  show (if (Fin.last cfg0.N).val = 0 then (ex m).O₀ c else 0) = 0
  rw [Fin.val_last, if_neg (by rw [show cfg0.N = 1 from N_0]; decide)]

theorem owing_dues (c : Dev nD) : iprop(∃ W, owes (c : Thread nD τ) ((ex m).O₀ c) W) = ((ex m).plan.owing c (ex m).dues : sProp 𝕄) := rfl
theorem owing_nil (c : Dev nD) : ((ex m).plan.owing c [] : sProp 𝕄) = iprop(∃ W, owes (c : Thread nD τ) (0 : CellTallies nD τ sig Unit) W) := rfl

set_option maxRecDepth 8000 in
/-- The start kernel's body. -/
theorem body0 (c : Dev nD) : BodyObligation (dat0 (F := F) m c) defs₀ 𝒱₀ () Set.univ := fun t => by
  obtain rfl := fin_N0 t
  rw [bigSep_W0, bigSep_W0]
  show iprop(iprop((ex m).begun EX c ∗ stage c cc1_stg0_0) ∗ (dat0 m c).owesAt () t0_0.castSucc
      ∗ (∃ d, owns c (Memref.whole cc0_stg0_0) fullShare ((dat0 m c).before (0 : Fin 1) t0_0 d)))
    ⊢ wp frame (wpE (defs₀ (F := F)) 𝒱₀ c none) Set.univ (bodyAt0 t0_0) fun _ =>
      iprop(iprop((ex m).mid EX c ∗ (ex m).locals c ∗ stage c cc1_stg0_0)
        ∗ (dat0 m c).owesAt () t0_0.succ ∗ owns c (Memref.whole cc0_stg0_0) fullShare (k0_pay1 (F := F)))
  rw [owns_whole_eq]
  unfold Ex.begun
  iintro ⟨⟨⟨⟨%K, HK⟩, Hn, Hi⟩, Hf⟩, HO, ⟨%d, Hs⟩⟩
  ihave Hs := (Entails.of_eq (owns_whole_eq _ cc0_stg0_0 _ _)) $$ Hs
  icases Hs with ⟨%g, -, Hs⟩
  ihave HO := (owesAt_elim (dat0 m c) _ ((ex m).O₀ c) (owed0_first m c)) $$ HO
  iapply (start_run m K c g (Rest := iprop((ex m).idle EX c ∗ stage c cc1_stg0_0)) ?_)
  · rw [owing_nil]
    iintro ⟨HK, ⟨%W, HO⟩, Hl, Hs, Hi, Hf⟩
    ihave Hm := ((ex m).mid_intro EX c K) $$ [HK Hl Hi]
    · isplitl [HK]; · iexact HK
      isplitl [Hl] <;> iassumption
    icases Hm with ⟨Hm, Hz⟩
    isplitl [Hm Hz Hf]
    · isplitl [Hm]; · iexact Hm
      isplitl [Hz] <;> iassumption
    isplitl [HO]; · iapply (owesAt_intro (dat0 m c) t0_0.succ 0 (owed0_last m c) W); iexact HO
    iexists (k0_pay1 (F := F)); isplitr; · ipureintro; rfl
    iexact Hs
  isplitl [HK]; · iexact HK
  isplitl [HO]; · iapply (Entails.of_eq (owing_dues m c)); iexact HO
  isplitl [Hn]; · iexact Hn
  isplitl [Hs]; · iexact Hs
  isplitl [Hi] <;> iassumption

set_option maxRecDepth 8000 in
/-- The wait kernel's. -/
theorem body1 (c : Dev nD) : BodyObligation (dat1 (F := F) m c) defs₀ 𝒱₀ () Set.univ := fun t => by
  obtain rfl := fin_N1 t
  rw [bigSep_W1, bigSep_W1]
  show iprop(iprop((ex m).mid EX c ∗ stage c cc0_stg0_0) ∗ (dat1 m c).owesAt () t1_0.castSucc
      ∗ (∃ d, owns c (Memref.whole cc1_stg0_0) fullShare ((dat1 m c).before (0 : Fin 1) t1_0 d)))
    ⊢ wp frame (wpE (defs₀ (F := F)) 𝒱₀ c none) Set.univ (bodyAt1 t1_0) fun _ =>
      iprop(iprop((ex m).ended c ∗ stage c cc0_stg0_0)
        ∗ (dat1 m c).owesAt () t1_0.succ ∗ owns c (Memref.whole cc1_stg0_0) fullShare (k1_pay1 (F := F)))
  rw [owns_whole_eq]
  unfold Ex.mid
  iintro ⟨⟨⟨⟨%K, HK⟩, Hl, Ho, Hb⟩, Hf⟩, HO, ⟨%d, Hs⟩⟩
  ihave Hs := (Entails.of_eq (owns_whole_eq _ cc1_stg0_0 _ _)) $$ Hs
  icases Hs with ⟨%g, -, Hs⟩
  ihave HO := (owesAt_elim (dat1 m c) _ 0 rfl) $$ HO
  iapply (wait_run m K c g (Rest := iprop(((all (ex m).list ((ex m).plan.own c)) ∗ semVal ((ex m).plan.barC c ()) 0) ∗ stage c cc0_stg0_0)) ?_)
  · rw [owing_nil]
    iintro ⟨-, ⟨%W, HO⟩, Hd, Hs, Ho, Hf⟩
    isplitl [Hd Ho Hf]
    · isplitr [Hf]
      · iapply ((ex m).ended_intro c)
        isplitl [Hd] <;> iassumption
      iexact Hf
    isplitl [HO]; · iapply (owesAt_intro (dat1 m c) t1_0.succ 0 rfl W); iexact HO
    iexists (k1_pay1 (F := F)); isplitr; · ipureintro; rfl
    iexact Hs
  isplitl [HK]; · iexact HK
  isplitl [HO]; · iapply (Entails.of_eq (owing_nil m c).symm); iexact HO
  isplitl [Hl]; · iexact Hl
  isplitl [Hs]; · iexact Hs
  isplitl [Ho Hb]
  · isplitl [Ho] <;> iassumption
  iexact Hf

/-! ## The segments -/

local notation "ℍ" => Pipeline.HostSeg (Name := ℕ) (U := UU) (pcfgs (F := F)) defs₀ 𝒱₀ Plan.L (Plan.lv (Ex.plan (ex m)))
local notation "ℝ𝕊" => Pipeline.RegionSeg (pcfgs (F := F)) adm (pdats m) () defs₀ 𝒱₀ Plan.L (Plan.lv (Ex.plan (ex m)))

/-- What rides along the segments before the kernels. -/
def along (c : Dev nD) : sProp 𝕄 := iprop((ex m).ready EX c ∗ owes (c : Thread nD τ) ((ex m).O₀ c) ∅)
/-- The arguments as they were. -/
def args (c : Dev nD) : sProp 𝕄 := iprop(pt c main_arg0 (m ((c : Thread nD τ).loc main_arg0)) ∗ pt c main_arg1 (m ((c : Thread nD τ).loc main_arg1)) ∗ pt c main_arg2 (m ((c : Thread nD τ).loc main_arg2)))
/-- What is left of the arrays between the two kernels. -/
def rest (c : Dev nD) : sProp 𝕄 := iprop(args m c ∗ pt c main_v5_6 (V₁ m c main_v5_6))
/-- The landing buffers allocated, those yet to be, and the rest. -/
abbrev around (old new : List (Ref sig .tc)) (c : Dev nD) : sProp 𝕄 :=
  iprop(all old (anyAt c) ∗ (all new fun b => pt c b (V₀ m c b)) ∗ (StableHlo.held (c : Thread nD τ) restBufs (V₀ m c) ∗ along m c))

def seg0 : ℍ := Pipeline.HostSeg.alloc _ _ _ _ _ main_v1 ⟨by decide, rfl⟩ (V₀ m) (around m [] [main_v2, main_v3])
def seg1 : ℍ := Pipeline.HostSeg.alloc _ _ _ _ _ main_v2 ⟨by decide, rfl⟩ (V₀ m) (around m [main_v1] [main_v3])
def seg2 : ℍ := Pipeline.HostSeg.alloc _ _ _ _ _ main_v3 ⟨by decide, rfl⟩ (V₀ m) (around m [main_v2, main_v1] [])

theorem copies_sub : ∀ op ∈ (hostOps0_3 : List (HloOp τ sig (Elt F))), op.bufs ⊆ restBufs := fun op h => by
  simp only [List.mem_cons, List.mem_nil_iff, or_false] at h
  rcases h with rfl | rfl | rfl
  · show ({Proc.devRef .tc main_arg0, Proc.devRef .tc main_v4_2} : Finset (DevRef τ sig)) ⊆ restBufs; decide
  · show ({Proc.devRef .tc main_arg1, Proc.devRef .tc main_v4_3} : Finset (DevRef τ sig)) ⊆ restBufs; decide
  · show ({Proc.devRef .tc main_arg2, Proc.devRef .tc main_v4_4} : Finset (DevRef τ sig)) ⊆ restBufs; decide
theorem copies_fresh : ∀ op ∈ (hostOps0_3 : List (HloOp τ sig (Elt F))), op.fresh = ∅ := fun op h => by
  simp only [List.mem_cons, List.mem_nil_iff, or_false] at h
  rcases h with rfl | rfl | rfl <;> rfl

def seg3 : ℍ := Pipeline.HostSeg.ofOps _ _ _ _ _ restBufs hostOps0_3 copies_sub copies_fresh (V₀ m)
  fun c => iprop(all [main_v3, main_v2, main_v1] (anyAt c) ∗ along m c)

/-- The start kernel's own semaphores. -/
def locSem (a : Fin 3) : SemLoc sig := (ex (F := F) m).osem (.inr a)

theorem locSems (c : Dev nD) : (Pipeline.ownSems0 (locSem m) c : sProp 𝕄) = (ex m).locals c := by
  unfold Pipeline.ownSems0
  exact (ex m).over_arrays _

theorem locSems_own : Pipeline.OwnSemFacts spec0 (locSem m) := by
  show Pipeline.OwnSemFacts spec0 (fun a => semOf 3 (0 : Sem sig) (by decide) (.inr a))
  decide
theorem stage_sem : ∀ (w : Fin 1) (s : Fin (spec0 w).nbuf), (spec0 w).sem s = cc0_sem0_0 := by decide

/-- The start kernel's region. -/
def reg0 : ℝ𝕊 0 where
  win := winFacts0.to₀
  block_pos := block_pos0
  stage_whole := stage_whole0
  K := Fin 3
  osem := locSem m
  ho := locSems_own m
  hbody c := (body0 m c).loose
  hwaits c := Pipeline.cellsWaits_intro _ (pdats m) () 0 c fun w s t => by
    refine (ex m).stage_wait c (((Pipeline.pin (pcfgs (F := F)) adm 0).win w).sem s)
      ((stage_sem w s).symm ▸ semOf_token 3 (0 : Sem sig) (by decide) cc0_sem0_0 rfl) _ ?_
    show (if t.val = 0 then (ex m).O₀ c else 0) = (ex m).O₀ c ∨ (if t.val = 0 then (ex m).O₀ c else 0) = 0
    split
    · exact .inl rfl
    · exact .inr rfl
  pre c := iprop(StableHlo.held (c : Thread nD τ) restBufs (V₁ m c) ∗ (all [main_v3, main_v2, main_v1] (anyAt c) ∗ along m c))
  post c := iprop(rest m c ∗ (ex m).mid EX c ∗ clear c)
  X := (ex m).begun EX
  Y := (ex m).mid EX
  Z := rest m
  hentry c := by
    rw [prefHeld0, locSems m c]
    unfold along rest args
    iintro ⟨⟨Hh, Hl, Hr, HO⟩, Hz, -⟩
    ihave Hh := (restBufs_split c (V₁ m c)) $$ Hh
    ihave Hh := (Entails.of_eq (show (all restRefs fun b => pt c b (V₁ m c b))
      = (iprop(pt c main_arg0 (V₁ m c main_arg0) ∗ pt c main_arg1 (V₁ m c main_arg1) ∗ pt c main_arg2 (V₁ m c main_arg2) ∗ pt c main_v4_2 (V₁ m c main_v4_2) ∗ pt c main_v4_3 (V₁ m c main_v4_3) ∗ pt c main_v4_4 (V₁ m c main_v4_4) ∗ pt c main_v4_8 (V₁ m c main_v4_8) ∗ pt c main_v5_6 (V₁ m c main_v5_6) ∗ BI.emp) : sProp 𝕄) from rfl)) $$ Hh
    rw [V₁_arg0, V₁_arg1, V₁_arg2, V₁_copy0, V₁_copy1, V₁_copy2]
    icases Hh with ⟨Ha0, Ha1, Ha2, Hf0, Hf1, Hf2, Ht, Ht', -⟩
    imod ((ex m).begun_intro EX c) $$ [Hr Hz Hf0 Hf1 Hf2 Hl] with Hb
    · isplitl [Hr]; · iexact Hr
      isplitl [Hz]; · iexact Hz
      isplitr [Hl]
      · rw [copies_eq]
        isplitl [Hf0]; · iexact Hf0
        isplitl [Hf1]; · iexact Hf1
        isplitl [Hf2]; · iexact Hf2
        iempintro
      · rw [lands_eq]
        iapply (show all [main_v3, main_v2, main_v1] (anyAt c) ⊢ (all landRefs (anyAt c) : sProp 𝕄) from all_reverse landRefs (anyAt c)); iexact Hl
    imodintro
    isplitl [Ht]; · iapply (arrays0 m c); iexact Ht
    isplitr; · iempintro
    isplitl [HO]; · iapply (owesAt_intro (pdats m 0 c) 0 ((ex m).O₀ c) (owed0_zero m c)); iexact HO
    isplitl [Hb]; · iexact Hb
    isplitr [Ht']
    · isplitl [Ha0]; · iexact Ha0
      isplitl [Ha1] <;> iassumption
    iexact Ht'
  hin c := by
    show iprop((ex m).begun EX c ∗ _ ∗ Pipeline.scopedRest spec0 c) ⊢ iprop((ex m).begun EX c ∗ stage c cc1_stg0_0)
    rw [scopedRest0_eq]
    iintro ⟨HX, -, Hs⟩
    isplitl [HX] <;> iassumption
  hout c := by
    rw [locSems m c]
    show iprop((ex m).mid EX c ∗ (ex m).locals c ∗ stage c cc1_stg0_0) ⊢ iprop((ex m).mid EX c ∗ (ex m).locals c ∗ Pipeline.scopedRest spec0 c)
    rw [scopedRest0_eq]
  hexit c := by
    unfold clear
    iintro ⟨-, HO, HY, HZ⟩
    imodintro
    isplitl [HZ]; · iexact HZ
    isplitl [HY]; · iexact HY
    iapply (owesAt_elim (pdats m 0 c) _ 0 (owed0_last m c)); iexact HO

/-- The wait kernel's region. -/
def reg1 : ℝ𝕊 1 where
  win := winFacts1.to₀
  block_pos := block_pos1
  stage_whole := stage_whole1
  K := PEmpty
  osem k := k.elim
  ho := Pipeline.OwnSemFacts.none _
  hbody c := (body1 m c).loose
  hwaits := Pipeline.hwaits_of_owed_zero _ _ _ _ Plan.L (Plan.lv (ex m).plan) 1 fun _ _ => rfl
  pre c := iprop(rest m c ∗ (ex m).mid EX c ∗ clear c)
  post c := iprop((args m c ∗ (ex m).ended c) ∗ clear c)
  X := (ex m).mid EX
  Y := (ex m).ended
  Z := args m
  hentry c := by
    rw [prefHeld1, Pipeline.ownSems0_none]
    unfold rest clear
    iintro ⟨⟨⟨Ha, Ht⟩, Hm, ⟨%W, HO⟩⟩, -, -⟩
    imodintro
    isplitl [Ht]; · iapply (arrays1 m c); iexact Ht
    isplitr; · iempintro
    isplitl [HO]; · iapply (owesAt_intro (pdats m 1 c) 0 0 rfl W); iexact HO
    isplitl [Hm] <;> iassumption
  hin c := by
    show iprop((ex m).mid EX c ∗ _ ∗ Pipeline.scopedRest spec1 c) ⊢ iprop((ex m).mid EX c ∗ stage c cc0_stg0_0)
    rw [scopedRest1_eq]
    iintro ⟨HX, -, Hs⟩
    isplitl [HX] <;> iassumption
  hout c := by
    rw [Pipeline.ownSems0_none]
    show iprop((ex m).ended c ∗ stage c cc0_stg0_0) ⊢ iprop((ex m).ended c ∗ BI.emp ∗ Pipeline.scopedRest spec1 c)
    rw [scopedRest1_eq]
    iintro ⟨H, Hs⟩
    isplitl [H]; · iexact H
    isplitr; · iempintro
    iexact Hs
  hexit c := by
    unfold clear
    iintro ⟨-, HO, HY, HZ⟩
    imodintro
    isplitl [HZ HY]
    · isplitl [HZ] <;> iassumption
    iapply (owesAt_elim (pdats m 1 c) _ 0 rfl); iexact HO

theorem seg0_prog : (seg0 (F := F) m).prog = StableHlo.seq (hostOps0 : List (HloOp τ sig (Elt F))) := by
  show (hlo rfl (StableHlo.allocateBuffer (τ := τ) (Val := Elt F) main_v1 ⟨by decide, rfl⟩) fun _ => .ret ⟨⟩) = StableHlo.seq [StableHlo.allocateBuffer main_v1]
  simp only [StableHlo.seq, Prog.bind_op, Prog.bind_ret]
  rfl
theorem seg1_prog : (seg1 (F := F) m).prog = StableHlo.seq (hostOps0_1 : List (HloOp τ sig (Elt F))) := by
  show (hlo rfl (StableHlo.allocateBuffer (τ := τ) (Val := Elt F) main_v2 ⟨by decide, rfl⟩) fun _ => .ret ⟨⟩) = StableHlo.seq [StableHlo.allocateBuffer main_v2]
  simp only [StableHlo.seq, Prog.bind_op, Prog.bind_ret]
  rfl
theorem seg2_prog : (seg2 (F := F) m).prog = StableHlo.seq (hostOps0_2 : List (HloOp τ sig (Elt F))) := by
  show (hlo rfl (StableHlo.allocateBuffer (τ := τ) (Val := Elt F) main_v3 ⟨by decide, rfl⟩) fun _ => .ret ⟨⟩) = StableHlo.seq [StableHlo.allocateBuffer main_v3]
  simp only [StableHlo.seq, Prog.bind_op, Prog.bind_ret]
  rfl
theorem seg3_prog : (seg3 (F := F) m).prog = StableHlo.seq (hostOps0_3 : List (HloOp τ sig (Elt F))) := rfl

/-- @main as the list. -/
def segs : List (Pipeline.Seg (pcfgs (F := F)) adm (pdats m) () defs₀ 𝒱₀ Plan.L (Plan.lv (ex m).plan)) :=
  [.host (seg0 m), .host (seg1 m), .host (seg2 m), .host (seg3 m), .region (reg0 m), .region (reg1 m)]

theorem main_eq (c : Dev nD) : main (F := F) c = Pipeline.Seg.run (segs m) := by
  rw [main_chain]
  unfold segs
  simp only [Pipeline.Seg.run, seg0_prog, seg1_prog, seg2_prog, seg3_prog, Pipeline.chain, Prog.lift, Prog.bind_op, Prog.bind_ret, Prog.pure_eq_ret]

/-! ## The launch -/

/-- The launch element: the pipeline library's at its staging cells, the exchange's at its own. -/
def u₀ : UU :=
  (initOf (Pipeline.cells (Pipeline.pin (pcfgs (F := F)) adm) cellOf_inj) (Pipeline.launchToks (Pipeline.pin (pcfgs (F := F)) adm) cellOf_inj),
    initOf (ex m).plan.cellSet (ex m).plan.tokSet)

/-- The semaphores outside the kernels are the cells of the exchange. -/
theorem sems_all : ((Finset.univ : Finset (SemLoc sig)).filter fun sm => ¬ sm.isScoped .tc)
    = Finset.univ.map ⟨fun u : UC Unit (Fin 3) => semOf 3 (0 : Sem sig) (by decide) (.inl u), fun _ _ h => Sum.inl_injective (semOf_inj _ _ _ h)⟩ := by
  decide

theorem sems_eq (c : Dev nD) : (unscopedSems0 c : sProp 𝕄) = bigSep Finset.univ fun u : UC Unit (Fin 3) => semVal ((ex m).plan.cell c (.inl u)) 0 := by
  unfold unscopedSems0
  rw [sems_all, BI.bigSep_map]
  rfl

abbrev T₀ (c : Dev nD) : sProp 𝕄 := iprop(pt c main_v1 (V₀ m c main_v1) ∗ around m [] [main_v2, main_v3] c)
abbrev Tₙ (c : Dev nD) : sProp 𝕄 := iprop(args m c ∗ (ex m).ended c)

theorem launched (c : Dev nD) : iprop(unscopedBufs c (fun b => m ((c : Thread nD τ).loc b)) ∗ (ex m).ready EX c ∗ owes (c : Thread nD τ) ((ex m).O₀ c) ∅)
    ⊢ (T₀ m c : sProp 𝕄) := by
  rw [show unscopedBufs c (fun b => m ((c : Thread nD τ).loc b)) = (StableHlo.held (c : Thread nD τ) (allBufs sig) (V₀ m c) : sProp 𝕄) from unscopedBufs_held c (V₀ m c)]
  unfold T₀ around along
  iintro ⟨Hh, Hr, HO⟩
  ihave Hh := (allBufs_split c (V₀ m c)) $$ Hh
  rw [all_cons]
  icases Hh with ⟨⟨H1, H2⟩, Hh⟩
  isplitl [H1]; · iexact H1
  isplitr; · iempintro
  isplitl [H2]; · iexact H2
  isplitl [Hh]; · iexact Hh
  isplitl [Hr] <;> iassumption

theorem after_seg0 (c : Dev nD) : iprop(anyAt c main_v1 ∗ around m [] [main_v2, main_v3] c)
    ⊢ (iprop(pt c main_v2 (V₀ m c main_v2) ∗ around m [main_v1] [main_v3] c) : sProp 𝕄) :=
  next_alloc (x := main_v1) (y := main_v2) (l := []) (l' := [main_v3]) (P := anyAt c) (Q := fun b => pt c b (V₀ m c b))
theorem after_seg1 (c : Dev nD) : iprop(anyAt c main_v2 ∗ around m [main_v1] [main_v3] c)
    ⊢ (iprop(pt c main_v3 (V₀ m c main_v3) ∗ around m [main_v2, main_v1] [] c) : sProp 𝕄) :=
  next_alloc (x := main_v2) (y := main_v3) (l := [main_v1]) (l' := []) (P := anyAt c) (Q := fun b => pt c b (V₀ m c b))
theorem after_seg2 (c : Dev nD) : iprop(anyAt c main_v3 ∗ around m [main_v2, main_v1] [] c)
    ⊢ (iprop(StableHlo.held (c : Thread nD τ) restBufs (V₀ m c) ∗ (all [main_v3, main_v2, main_v1] (anyAt c) ∗ along m c)) : sProp 𝕄) :=
  last_alloc (x := main_v3) (l := [main_v2, main_v1]) (P := anyAt c) (Q := fun b => pt c b (V₀ m c b))
theorem chained : Pipeline.Seg.Chains (T₀ m) (segs m) fun c => iprop(Tₙ m c ∗ ∃ W, owes (c : Thread nD τ) (0 : CellTallies nD τ sig Unit) W) :=
  ⟨fun c => .rfl, after_seg0 m, after_seg1 m, after_seg2 m, fun c => .rfl, fun c => .rfl, fun c => .rfl⟩

/-- What a final state shows of a device. -/
def Shown (c : Dev nD) (μ : (ℓ : Loc nD τ sig) → Buf (Elt F) ℓ) : Prop :=
  (μ ((c : Thread nD τ).loc main_arg0) = m ((c : Thread nD τ).loc main_arg0) ∧ μ ((c : Thread nD τ).loc main_arg1) = m ((c : Thread nD τ).loc main_arg1) ∧ μ ((c : Thread nD τ).loc main_arg2) = m ((c : Thread nD τ).loc main_arg2))
    ∧ μ ((c : Thread nD τ).loc main_v1) = gathered (X0 m) ∧ μ ((c : Thread nD τ).loc main_v2) = gathered (X1 m) ∧ μ ((c : Thread nD τ).loc main_v3) = gathered (X2 m)

theorem read_end (c : Dev nD) (s' : Phys nD τ sig (Elt F)) : iprop(Tₙ m c ∗ SI s')
    ⊢ (|={Set.univ}=> iprop(⌜Shown m c s'.mem.mem ∧ ∀ u, s'.mem.sem ((ex m).plan.cell c (.inl u)) = 0⌝ ∗ SI s') : sProp 𝕄) := by
  unfold Tₙ args Ex.ended
  rw [dones_eq]
  iintro ⟨⟨⟨Ha0, Ha1, Ha2⟩, ⟨H0, H1, H2, -⟩, Hz⟩, HSI⟩
  icombine HSI Ha0 gives %ha0
  icombine HSI Ha1 gives %ha1
  icombine HSI Ha2 gives %ha2
  icombine HSI H0 gives %h0
  icombine HSI H1 gives %h1
  icombine HSI H2 gives %h2
  ihave H := ((ex m).zeros_read c s') $$ [Hz HSI]
  · isplitl [Hz] <;> iassumption
  icases H with ⟨%hz, HSI⟩
  imodintro
  isplitr
  · ipureintro
    exact ⟨⟨⟨Buf.eq_of_forall_mem_univ ha0, Buf.eq_of_forall_mem_univ ha1, Buf.eq_of_forall_mem_univ ha2⟩, Buf.eq_of_forall_mem_univ h0, Buf.eq_of_forall_mem_univ h1, Buf.eq_of_forall_mem_univ h2⟩, hz⟩
  iexact HSI

-- the launch theorem's implicit arguments are found by unifying its conclusion with this one, which takes unfolding plain
-- definitions in the type of an unknown
set_option backward.isDefEq.respectTransparency.types false in
/-- The run: at any float values, from any memory with zero counters, every weakly fair execution of @main on the eight
    devices terminates, and in every final state each device's arguments hold what they held, its landing buffers hold
    in slot `j` what device `j` had, and every semaphore counter is at zero. -/
theorem run_main : θ_run defs (onTc (τ := τ) (main (F := F))) (s₀ m ρ)
    (fun r => (∀ c : Dev nD, Shown m c r.2.mem) ∧ r.2.sem = fun _ => 0) :=
  Pipeline.θ_run_regions_kit_sems (pcfgs (F := F)) adm (pdats m) () cellOf_inj EP defs₀ 𝒱₀ Plan.L (ex m).plan.lv m ρ main (segs m)
    (fun c Q => by rw [main_eq m c])
    (by simp only [segs, Pipeline.Seg.pipes_host, Pipeline.Seg.pipes_region, Pipeline.Seg.pipes_nil]; decide)
    (O₀ := (ex m).O₀) (hL := Plan.L_of_ne) (G := (ex m).plan.deal EX) (u₀ := u₀ m)
    (hu₀ := by
      unfold u₀
      iintro Hu
      ihave H := (ownU_pair _ _) $$ Hu
      icases H with ⟨HP, HX⟩
      imod ((ex m).plan.fund EX) $$ HX with HG
      imodintro
      isplitl [HP]; · iexact HP
      iexact HG)
    (T₀ := T₀ m) (Tₙ := Tₙ m)
    (hch := chained m)
    (hinit := (ex m).init EX ρ (sems_eq m) (launched m))
    (QY := fun c s => Shown m c s.mem ∧ ∀ u, s.sem ((ex m).plan.cell c (.inl u)) = 0)
    (hfin := read_end m)
    (hQ := fun s h hs => ⟨fun c => (h c).1, sem_eq_zero hs fun c sm hsm => by
      have hsm := sems_all ▸ Finset.mem_filter.mpr ⟨Finset.mem_univ sm, by rw [hsm]; decide⟩
      obtain ⟨u, -, rfl⟩ := Finset.mem_map.mp hsm
      exact (h c).2 u⟩)

end Cert.Late

end
-- ==== Proof.LateClaims.lean ====
/-
  The gathering of three arrays: the frames of the program, of its idealization and of the reference, and the two comparisons with the reference.
  One run, stated for any float values, serves all of the kernel's claims; what it leaves in the result arrays is compared
  with the reference once, also for any values.
-/
module

public import proofs.«01_k».proof.Defs
public import proofs.«01_k».proof.Proof.LateLaunch
public import proofs.«01_k».proof.Proof.Value
public import proofs.«01_k».proof.Proof.Gen.KernelB
public import proofs.«01_k».proof.Proof.Gen.ReferenceB
public import proofs.«01_k».proof.Proof.Gen.ReferenceBIdeal
public import proofs.«01_k».proof.Proof.Gen.ReferenceB.Run
public import proofs.«01_k».proof.Proof.Gen.ReferenceBIdeal.Run

@[expose] public section

noncomputable section

namespace Cert.Late

open Idealize.ShloMosaic Idealize.SL.Sem Cert.Exchange

/-- The two kernels of the program as written are those of its idealization. -/
theorem kernels_eq : Cert.KernelB.defs₀ (F := Bits) = Cert.KernelBIdeal.defs₀ (F := Bits) := by
  unfold Cert.KernelB.defs₀ Cert.KernelBIdeal.defs₀
  refine congrArg Defs.onTc (funext fun l => funext fun a => ?_)
  match l, a with
  | 0, (t, s) => rfl
  | 1, (t, s) => rfl
  | ⟨_ + 2, h⟩, _ => exact absurd h (Nat.not_lt.2 (Nat.le_add_left _ _))

/-- And so is what its calls mean. -/
theorem calls_eq : Cert.KernelB.defs (F := Bits) = Cert.KernelBIdeal.defs (F := Bits) :=
  congrArg (Pipeline.defs (Cert.KernelB.pcfgs (F := Bits))) kernels_eq

/-- The run at the bits, of the program as written: its text is that of its idealization. -/
theorem run_bits (m : (ℓ : Loc Cert.KernelB.nD Cert.KernelB.τ Cert.KernelB.sig) → Buf (Elt Bits) ℓ) (ρ : Dev Cert.KernelB.nD → PrngReg) :
    θ_run (Cert.KernelB.defs (F := Bits)) (onTc (τ := Cert.KernelB.τ) (Cert.KernelB.main (F := Bits))) ⟨m, fun _ => 0, ρ⟩ (fun r =>
      (∀ c : Dev Cert.KernelB.nD, Shown (F := Bits) m c r.2.mem) ∧ r.2.sem = fun _ => 0) := by
  rw [calls_eq]
  exact run_main (F := Bits) m ρ

theorem frame_kernel : Cert.quiescent_KernelB := fun m ρ _ =>
  (θ_run Cert.KernelB.defs _ _).mono (fun _ h => ⟨fun c => (h.1 c).1, h.2⟩) (run_bits m ρ)

theorem frame_ideal : Cert.quiescent_KernelBIdeal := fun m ρ _ =>
  (θ_run Cert.KernelBIdeal.defs _ _).mono (fun _ h => ⟨fun c => (h.1 c).1, h.2⟩) (run_main (F := Ideal) m ρ)

theorem frame_reference_ideal : Cert.quiescent_ReferenceBIdeal := fun m ρ _ =>
  (θ_run Cert.ReferenceBIdeal.defs _ _).mono (fun r h => ⟨fun c => (h c).2.2.2, sem_eq_zero_of_no_sems (by decide) r.2⟩)
    (Cert.ReferenceBIdeal.Value.run (F := Ideal) m ρ)

theorem frame_reference : Cert.quiescent_ReferenceB := fun m ρ _ =>
  (θ_run Cert.ReferenceB.defs _ _).mono (fun r h => ⟨fun c => (h c).2.2.2, sem_eq_zero_of_no_sems (by decide) r.2⟩)
    (Cert.ReferenceB.Value.run (F := Bits) m ρ)

theorem algebraic : Cert.algebraic_KernelBIdeal_ReferenceBIdeal := fun m ρ m' ρ' _ hm => by
  refine ⟨_, _, _, ?_, (θ_run Cert.ReferenceBIdeal.defs _ _).mono (fun r h => h 0) (Cert.ReferenceBIdeal.Value.run (F := Ideal) m' ρ')⟩
  refine (θ_run Cert.KernelBIdeal.defs _ _).mono (fun r h c => ?_) (run_main (F := Ideal) m ρ)
  refine ⟨((h.1 c).2.1).trans ?_, ((h.1 c).2.2.1).trans ?_, ((h.1 c).2.2.2).trans ?_, (h.1 c).1⟩
  · exact (congrArg gathered (funext fun d => (hm d).1)).trans (gathered_blocks _ _ _)
  · exact (congrArg gathered (funext fun d => (hm d).2.1)).trans (gathered_blocks _ _ _)
  · exact (congrArg gathered (funext fun d => (hm d).2.2)).trans (gathered_blocks _ _ _)

theorem bitexact : Cert.bitexact_KernelB_ReferenceB := fun m ρ m' ρ' _ hm => by
  refine ⟨_, _, _, ?_, (θ_run Cert.ReferenceB.defs _ _).mono (fun r h => h 0) (Cert.ReferenceB.Value.run (F := Bits) m' ρ')⟩
  refine (θ_run Cert.KernelB.defs _ _).mono (fun r h c => ?_) (run_bits m ρ)
  refine ⟨((h.1 c).2.1).trans ?_, ((h.1 c).2.2.1).trans ?_, ((h.1 c).2.2.2).trans ?_, (h.1 c).1⟩
  · exact (congrArg gathered (funext fun d => (hm d).1)).trans (gathered_blocks _ _ _)
  · exact (congrArg gathered (funext fun d => (hm d).2.1)).trans (gathered_blocks _ _ _)
  · exact (congrArg gathered (funext fun d => (hm d).2.2)).trans (gathered_blocks _ _ _)

end Cert.Late

end
-- ==== Proof.Early.lean ====
/-
  The gathering of one array by every device: its semaphores and arrays, and the runs of its start kernel and of its wait kernel, one step of the exchange
  after the other.
-/
module

public import proofs.«01_k».proof.Proof.Ghost
public import proofs.«01_k».proof.Proof.Gen.KernelAIdeal
public import proofs.«01_k».proof.Proof.Gen.KernelAIdeal.Skeleton
public import proofs.«01_k».proof.Proof.Gen.KernelAIdeal.Launch
public import proofs.«01_k».proof.Proof.Gen.KernelAIdeal.Points
public import Idealize.ShloMosaic.Lib.Tactic

@[expose] public section

noncomputable section

namespace Cert.Early

open Cert.KernelAIdeal Cert.KernelAIdeal.Gen Cert.Exchange
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the exchange's -/

abbrev UU : Type := URounds (GSem nD τ sig) Unit × UX sig

local notation "𝕄" => MT nD τ sig Unit (Elt F) ℕ UU ℕ

abbrev EP : Emb (URounds (GSem nD τ sig) Unit) (MT nD τ sig Unit (Elt F) ℕ UU ℕ) := embL
abbrev EX : Emb (UX sig) (MT nD τ sig Unit (Elt F) ℕ UU ℕ) := embR
abbrev 𝒱₀ : Variants := Variants.none

variable (m : (ℓ : Loc nD τ sig) → Buf (Elt F) ℓ)

/-! ## The exchange -/

/-- What device `d` holds before it. -/
def X0 (d : Dev nD) : (S2 1024 640).Idx → Elt F .bf16 := m ((d : Thread nD τ).loc main_arg0)

/-- Its semaphores, and its array: landing buffer and the copy that the transfers read. -/
def ex : Ex sig (Elt F) UU (Fin 1) where
  osem := semOf 1 (0 : Sem sig) (by decide)
  bar := 0
  osem_bar := rfl
  inj := semOf_inj _ _ _
  arr
    | 0 => gatherArr (r := 1024) (w := 640) (e := .bf16) (Memref.whole main_v1) (Memref.whole main_v2_2) (Memref.isWhole_whole _) (Memref.isWhole_whole _)
        (X0 m) (fun _ => gathered (X0 m)) (sig.dmaCredit_pos _ _ _ _ _ (by decide))
  list := [0]
  nodup := by decide
  full := by decide
  lanes := [(0, 0), (0, 1), (0, 2), (0, 3), (0, 4), (0, 5), (0, 6)]
  lanes_eq := rfl

/-- Each device sends every peer the whole of it. -/
def array0 : Gathers (ex m) 0 (Memref.whole main_v1 : Memref sig .tc .hbm (S3 1024 640) .bf16) (Memref.whole main_v2_2 : Memref sig .tc .hbm (S2 1024 640) .bf16) :=
  ⟨Memref.isWhole_whole _, Memref.isWhole_whole _, X0 m, fun _ => gathered (X0 m), sig.dmaCredit_pos _ _ _ _ _ (by decide), rfl, fun _ _ => rfl⟩

/-! ## The addresses -/

theorem dev1_eq (c : Dev nD) : (⟨k0_dev1 c, k0_dev1_lt c⟩ : Dev nD) = peer c 0 := by revert c; decide +kernel
theorem dev8_eq (c : Dev nD) : (⟨k0_dev8 c, k0_dev8_lt c⟩ : Dev nD) = peer c 0 := by revert c; decide +kernel
theorem dev2_eq (c : Dev nD) : (⟨k0_dev2 c, k0_dev2_lt c⟩ : Dev nD) = peer c 1 := by revert c; decide +kernel
theorem dev9_eq (c : Dev nD) : (⟨k0_dev9 c, k0_dev9_lt c⟩ : Dev nD) = peer c 1 := by revert c; decide +kernel
theorem dev3_eq (c : Dev nD) : (⟨k0_dev3 c, k0_dev3_lt c⟩ : Dev nD) = peer c 2 := by revert c; decide +kernel
theorem dev10_eq (c : Dev nD) : (⟨k0_dev10 c, k0_dev10_lt c⟩ : Dev nD) = peer c 2 := by revert c; decide +kernel
theorem dev4_eq (c : Dev nD) : (⟨k0_dev4 c, k0_dev4_lt c⟩ : Dev nD) = peer c 3 := by revert c; decide +kernel
theorem dev11_eq (c : Dev nD) : (⟨k0_dev11 c, k0_dev11_lt c⟩ : Dev nD) = peer c 3 := by revert c; decide +kernel
theorem dev5_eq (c : Dev nD) : (⟨k0_dev5 c, k0_dev5_lt c⟩ : Dev nD) = peer c 4 := by revert c; decide +kernel
theorem dev12_eq (c : Dev nD) : (⟨k0_dev12 c, k0_dev12_lt c⟩ : Dev nD) = peer c 4 := by revert c; decide +kernel
theorem dev6_eq (c : Dev nD) : (⟨k0_dev6 c, k0_dev6_lt c⟩ : Dev nD) = peer c 5 := by revert c; decide +kernel
theorem dev13_eq (c : Dev nD) : (⟨k0_dev13 c, k0_dev13_lt c⟩ : Dev nD) = peer c 5 := by revert c; decide +kernel
theorem dev7_eq (c : Dev nD) : (⟨k0_dev7 c, k0_dev7_lt c⟩ : Dev nD) = peer c 6 := by revert c; decide +kernel
theorem dev14_eq (c : Dev nD) : (⟨k0_dev14 c, k0_dev14_lt c⟩ : Dev nD) = peer c 6 := by revert c; decide +kernel
theorem off1_eq (c : Dev nD) : k0_off1 c = ![c.val, 0, 0] := by revert c; decide +kernel

/-! ## The token -/

theorem hz : (![0, 0] : Fin 2 → Nat) = fun _ => 0 := funext fun a => by fin_cases a <;> rfl
abbrev r0 : Rect S8x128 := Rect.unit (s := S8x128) ![0, 0] S8x128.size inb_S8x128_S8x128_0_0
theorem write_stage0 (f w : (cc0_stg0_0 : Ref sig .tc).ty.Contents (Elt F)) :
    ((Memref.whole cc0_stg0_0 : Memref sig .tc .vmem S8x128 .f32).access r0 : View sig .tc _ _ _).write (Elt F) f w Finset.univ = w :=
  Memref.write_access_unit_zero_univ (Elt F) cc0_stg0_0 hz _ f w
theorem write_stage1 (f w : (cc1_stg0_0 : Ref sig .tc).ty.Contents (Elt F)) :
    ((Memref.whole cc1_stg0_0 : Memref sig .tc .vmem S8x128 .f32).access r0 : View sig .tc _ _ _).write (Elt F) f w Finset.univ = w :=
  Memref.write_access_unit_zero_univ (Elt F) cc1_stg0_0 hz _ f w

/-! ## The runs -/

variable (K : Dev 8 × UC Unit (Fin 1) → ℕ) (c : Dev nD)

set_option maxRecDepth 8000 in
set_option maxHeartbeats 800000 in
theorem start_run (f : Buf (Elt F) ((c : Thread nD τ).loc cc0_stg0_0)) {Rest : sProp 𝕄} {Q : PUnit → sProp 𝕄}
    (h : iprop((ex m).plan.ctx EX K ∗ (ex m).plan.owing c [] ∗ (ex m).startLeaves c
        ∗ (((c : Thread nD τ).loc cc0_stg0_0) ↦{fullShare} (k0_pay1 (F := F) : Buf (Elt F) ((c : Thread nD τ).loc cc0_stg0_0))) ∗ Rest) ⊢ Q ⟨⟩) :
    iprop((ex m).plan.ctx EX K ∗ (ex m).plan.owing c (ex m).dues ∗ (ex m).startNeeds EX c ∗ (((c : Thread nD τ).loc cc0_stg0_0) ↦{fullShare} f) ∗ Rest)
      ⊢ wp frame (wpE (defs₀ (F := F)) 𝒱₀ (c : Thread nD τ) none) Set.univ
        (cc0_ag_start_a0 (Memref.whole main_v2_2) (Memref.isWhole_whole _) (Memref.whole main_v1) (Memref.isWhole_whole _) main_v2_0 main_v2_1
          (Memref.whole main_v2_2) (Memref.isWhole_whole _) (Memref.whole main_v1) (Memref.isWhole_whole _) (Memref.whole cc0_stg0_0) (Memref.isWhole_whole _) cc0_scratch0) Q := by
  simp only [cc0_ag_start_a0_eq_skeleton]; unfold cc0_ag_start_a0_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  -- the handshake
  refine ((ex m).at_signals EX c K).trans ?_
  refine (ex m).plan.step_signal EX 𝒱₀ K c (dev1_eq c) rfl rfl ?_
  refine (ex m).plan.step_signal EX 𝒱₀ K c (dev2_eq c) rfl rfl ?_
  refine (ex m).plan.step_signal EX 𝒱₀ K c (dev3_eq c) rfl rfl ?_
  refine (ex m).plan.step_signal EX 𝒱₀ K c (dev4_eq c) rfl rfl ?_
  refine (ex m).plan.step_signal EX 𝒱₀ K c (dev5_eq c) rfl rfl ?_
  refine (ex m).plan.step_signal EX 𝒱₀ K c (dev6_eq c) rfl rfl ?_
  refine (ex m).plan.step_signal EX 𝒱₀ K c (dev7_eq c) rfl rfl ?_
  refine ((ex m).at_bar EX c K).trans ?_
  refine (ex m).plan.step_bar EX 𝒱₀ K c (b := ()) (ex m).sends_level rfl rfl ?_
  -- the local copies
  refine ((ex m).at_copies EX c K).trans ?_
  refine (array0 m).copy EX 𝒱₀ c rfl (off1_eq c) rfl ?_
  -- the transfers
  refine ((ex m).at_sends EX c K).trans ?_
  refine (array0 m).send EX 𝒱₀ K c 0 (dev8_eq c) rfl rfl (off1_eq c) rfl ?_
  refine (array0 m).send EX 𝒱₀ K c 1 (dev9_eq c) rfl rfl (off1_eq c) rfl ?_
  refine (array0 m).send EX 𝒱₀ K c 2 (dev10_eq c) rfl rfl (off1_eq c) rfl ?_
  refine (array0 m).send EX 𝒱₀ K c 3 (dev11_eq c) rfl rfl (off1_eq c) rfl ?_
  refine (array0 m).send EX 𝒱₀ K c 4 (dev12_eq c) rfl rfl (off1_eq c) rfl ?_
  refine (array0 m).send EX 𝒱₀ K c 5 (dev13_eq c) rfl rfl (off1_eq c) rfl ?_
  refine (array0 m).send EX 𝒱₀ K c 6 (dev14_eq c) rfl rfl (off1_eq c) rfl ?_
  -- the waits for the local copies
  refine ((ex m).at_locals EX c K).trans ?_
  refine (ex m).plan.step_local EX 𝒱₀ K c (a := 0) (fun _ h => absurd h List.not_mem_nil) rfl rfl ?_
  -- the token
  refine ((ex m).at_end EX c K).trans ?_
  iintro ⟨Hc, HO, Hl, Hf, HR⟩
  iapply (wp_load 𝒱₀ (c : Thread nD τ) none Set.univ (m := Memref.whole cc0_stg0_0) (Finset.subset_univ _)) $$ Hf; iintro Hf
  iapply (wp_store 𝒱₀ (c : Thread nD τ) none Set.univ (m := Memref.whole cc0_stg0_0) (r := r0) (Mk := Finset.univ) (Finset.subset_univ _)) $$ Hf; iintro Hf
  rw [write_stage0, wp_ret]; imodintro
  iapply h
  isplitl [Hc]; · iexact Hc
  isplitl [HO]; · iexact HO
  isplitl [Hl]; · iexact Hl
  isplitl [Hf] <;> iassumption

set_option maxRecDepth 8000 in
set_option maxHeartbeats 1000000 in
theorem wait_run (f : Buf (Elt F) ((c : Thread nD τ).loc cc1_stg0_0)) {Rest : sProp 𝕄} {Q : PUnit → sProp 𝕄}
    (h : iprop((ex m).plan.ctx EX K ∗ (ex m).plan.owing c [] ∗ all (ex m).lanes.reverse ((ex m).plan.laneDone c)
        ∗ (((c : Thread nD τ).loc cc1_stg0_0) ↦{fullShare} (k1_pay1 (F := F) : Buf (Elt F) ((c : Thread nD τ).loc cc1_stg0_0))) ∗ Rest) ⊢ Q ⟨⟩) :
    iprop((ex m).plan.ctx EX K ∗ (ex m).plan.owing c [] ∗ all (ex m).lanes ((ex m).plan.lane EX c) ∗ (((c : Thread nD τ).loc cc1_stg0_0) ↦{fullShare} f) ∗ Rest)
      ⊢ wp frame (wpE (defs₀ (F := F)) 𝒱₀ (c : Thread nD τ) none) Set.univ
        (cc1_ag_wait_a0 (Memref.whole main_v2_2) (Memref.isWhole_whole _) (Memref.whole main_v1) (Memref.isWhole_whole _) main_v2_0 main_v2_1
          (Memref.whole main_v2_4) (Memref.isWhole_whole _) (Memref.whole main_v2_2) (Memref.isWhole_whole _) (Memref.whole main_v1) (Memref.isWhole_whole _) (Memref.whole cc1_stg0_0) (Memref.isWhole_whole _)) Q := by
  simp only [cc1_ag_wait_a0_eq_skeleton]; unfold cc1_ag_wait_a0_skel
  simp only [k1_part1_eq_skeleton, k1_part2_eq_skeleton, k1_part3_eq_skeleton, k1_part4_eq_skeleton]
  unfold k1_part1_skel k1_part2_skel k1_part3_skel k1_part4_skel
  simp only [Prog.lift, Prog.bind_op, Prog.bind_ret, Prog.pure_eq_ret, wp_deviceId]
  refine ((ex m).at_waits EX c K).trans ?_
  refine (array0 m).wait EX 𝒱₀ K c 0 rfl rfl rfl ?_
  refine (array0 m).wait EX 𝒱₀ K c 1 rfl rfl rfl ?_
  refine (array0 m).wait EX 𝒱₀ K c 2 rfl rfl rfl ?_
  refine (array0 m).wait EX 𝒱₀ K c 3 rfl rfl rfl ?_
  refine (array0 m).wait EX 𝒱₀ K c 4 rfl rfl rfl ?_
  refine (array0 m).wait EX 𝒱₀ K c 5 rfl rfl rfl ?_
  refine (array0 m).wait EX 𝒱₀ K c 6 rfl rfl rfl ?_
  iintro ⟨Hc, HO, -, Hd, Hf, HR⟩
  iapply (wp_load 𝒱₀ (c : Thread nD τ) none Set.univ (m := Memref.whole cc1_stg0_0) (Finset.subset_univ _)) $$ Hf; iintro Hf
  iapply (wp_store 𝒱₀ (c : Thread nD τ) none Set.univ (m := Memref.whole cc1_stg0_0) (r := r0) (Mk := Finset.univ) (Finset.subset_univ _)) $$ Hf; iintro Hf
  rw [write_stage1, wp_ret]; imodintro
  iapply h
  isplitl [Hc]; · iexact Hc
  isplitl [HO]; · iexact HO
  isplitl [Hd]; · iexact Hd
  isplitl [Hf] <;> iassumption

end Cert.Early

end
-- ==== Proof.EarlyLaunch.lean ====
/-
  The exchange of the one gathered array: the run on the eight devices. The two calls' proof data, @main as a list of segments, the launch, and what every
  final state holds.
-/
module

public import proofs.«01_k».proof.Proof.Early

@[expose] public section

noncomputable section

namespace Cert.Early

open Cert.KernelAIdeal Cert.KernelAIdeal.Gen Cert.Exchange
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The buffers -/

/-- The landing buffers, the arguments, the copies of them, the tokens. -/
abbrev landRefs : List (Ref sig .tc) := [main_v1]
abbrev restRefs : List (Ref sig .tc) := [main_arg0, main_v2_2, main_v2_4, main_v3_2]
/-- What the launch allocates besides the landing buffers. -/
def restBufs : Finset (DevRef τ sig) := restRefs.foldr (fun b T => insert (Proc.devRef .tc b) T) ∅

/-- The contents at the launch and after the copies. -/
def V₀ (c : Dev nD) : Valuation τ sig (Elt F) := fun b => m ((c : Dev nD), b)
def V₁ (c : Dev nD) : Valuation τ sig (Elt F) := StableHlo.after hostOps0_1 (V₀ m c)

omit [FloatOps F] in
theorem allBufs_split (c : Dev nD) (W : Valuation τ sig (Elt F)) : (StableHlo.held (c : Thread nD τ) (allBufs sig) W : sProp 𝕄)
    ⊢ iprop((all landRefs fun b => pt c b (W b)) ∗ StableHlo.held (c : Thread nD τ) restBufs W) := by
  rw [show allBufs sig = landRefs.foldr (fun b T => insert (Proc.devRef .tc b) T) restBufs from by decide]
  exact held_listed c W restBufs landRefs (by decide) (by decide)

omit [FloatOps F] in
theorem restBufs_split (c : Dev nD) (W : Valuation τ sig (Elt F)) : (StableHlo.held (c : Thread nD τ) restBufs W : sProp 𝕄)
    ⊢ all restRefs fun b => pt c b (W b) := by
  refine (held_listed c W ∅ restRefs (by decide) (by decide)).trans ?_
  iintro ⟨H, -⟩
  iexact H

theorem V₁_arg0 (c : Dev nD) : V₁ m c main_arg0 = m ((c : Thread nD τ).loc main_arg0) := by
  show StableHlo.after hostOps0_1 (V₀ m c) (Proc.devRef .tc main_arg0) = _
  after_results
  rfl
theorem V₁_copy0 (c : Dev nD) : V₁ m c main_v2_2 = X0 m c := by
  show StableHlo.after hostOps0_1 (V₀ m c) (Proc.devRef .tc main_v2_2) = _
  after_results
  rfl

/-- The arrays of the exchange, buffer by buffer. -/
theorem copies_eq (c : Dev nD) : (all (ex m).list fun a => ((ex m).arr a).src c) = (iprop(pt c main_v2_2 (X0 m c) ∗ BI.emp) : sProp 𝕄) := rfl
theorem lands_eq (c : Dev nD) : (all (ex m).list fun a => ((ex m).arr a).land c) = (all landRefs (anyAt c) : sProp 𝕄) := rfl
theorem dones_eq (c : Dev nD) : (all (ex m).list fun a => ((ex m).arr a).done c) = (iprop(pt c main_v1 (gathered (X0 m)) ∗ BI.emp) : sProp 𝕄) := rfl

/-! ## The proof data of the two calls -/

/-- A kernel's token buffer. -/
abbrev stage (c : Dev nD) (b : Ref sig .tc) : sProp 𝕄 := iprop(∃ f : Buf (Elt F) ((c : Thread nD τ).loc b), ((c : Thread nD τ).loc b) ↦{fullShare} f)

def dat0 (c : Dev nD) : Dat τ (Elt F) Unit ℕ UU ℕ cfg0 c where
  A w := match w with
    | ⟨0, _⟩ => V₁ m c main_v2_4
  after w _ := match w with
    | ⟨0, _⟩ => k0_pay1 (F := F)
  Φ t := if t.val = 0 then iprop((ex m).begun EX c ∗ stage c cc1_stg0_0) else iprop((ex m).mid EX c ∗ (ex m).locals c ∗ stage c cc1_stg0_0)
  q _ := fullShare
  owed t := if t.val = 0 then (ex m).O₀ c else 0
def dat1 (c : Dev nD) : Dat τ (Elt F) Unit ℕ UU ℕ cfg1 c where
  A w := match w with
    | ⟨0, _⟩ => V₁ m c main_v3_2
  after w _ := match w with
    | ⟨0, _⟩ => k1_pay1 (F := F)
  Φ t := if t.val = 0 then iprop((ex m).mid EX c ∗ stage c cc0_stg0_0) else iprop((ex m).ended c ∗ stage c cc0_stg0_0)
  q _ := fullShare
  owed _ := 0

abbrev adm : (p : Fin 2) → (pcfgs (F := F) p).Adm := fun p => (cfgs p).toPCfg_adm
def pdats : (p : Fin 2) → (c : Dev nD) → Dat τ (Elt F) Unit ℕ UU ℕ (Pipeline.pin (pcfgs (F := F)) adm p) c
  | 0 => dat0 m
  | 1 => dat1 m

theorem share0 (c : Dev nD) (w : Fin cfg0.W) : (dat0 m c).share w = fullShare := by unfold Dat.share; split <;> rfl
theorem share1 (c : Dev nD) (w : Fin cfg1.W) : (dat1 m c).share w = fullShare := by unfold Dat.share; split <;> rfl

theorem arrays0 (c : Dev nD) : pt c main_v2_4 (V₁ m c main_v2_4) ⊢ ((pdats (F := F) m 0 c).arrays ((pdats m 0 c).arrAt · 0) : sProp 𝕄) := by
  show _ ⊢ (bigSep Finset.univ fun w : Fin 1 => (cfg0.win w).arr.view.loc (c.tc : Thread nD τ) ↦[(cfg0.win w).arr.view.set]{(dat0 m c).share w} (dat0 m c).arrAt w 0 : sProp 𝕄)
  rw [bigSep_W0, share0]
  show _ ⊢ ((Memref.whole main_v2_4).view.loc (c.tc : Thread nD τ) ↦[(Memref.whole main_v2_4).view.set]{fullShare} V₁ m c main_v2_4 : sProp 𝕄)
  simp only [Memref.view_whole, View.set_whole]
  exact BI.Entails.refl _
theorem arrays1 (c : Dev nD) : pt c main_v3_2 (V₁ m c main_v3_2) ⊢ ((pdats (F := F) m 1 c).arrays ((pdats m 1 c).arrAt · 0) : sProp 𝕄) := by
  show _ ⊢ (bigSep Finset.univ fun w : Fin 1 => (cfg1.win w).arr.view.loc (c.tc : Thread nD τ) ↦[(cfg1.win w).arr.view.set]{(dat1 m c).share w} (dat1 m c).arrAt w 0 : sProp 𝕄)
  rw [bigSep_W1, share1]
  show _ ⊢ ((Memref.whole main_v3_2).view.loc (c.tc : Thread nD τ) ↦[(Memref.whole main_v3_2).view.set]{fullShare} V₁ m c main_v3_2 : sProp 𝕄)
  simp only [Memref.view_whole, View.set_whole]
  exact BI.Entails.refl _
theorem prefHeld0 (c : Dev nD) (q) (pf) : (Pipeline.prefHeld (Ix := Unit) (Name := ℕ) (U := UU) (Lvl := ℕ) (Val := Elt F) (pcfgs (F := F) 0).pre c q pf : sProp 𝕄) = BI.emp :=
  no_prefs _
theorem prefHeld1 (c : Dev nD) (q) (pf) : (Pipeline.prefHeld (Ix := Unit) (Name := ℕ) (U := UU) (Lvl := ℕ) (Val := Elt F) (pcfgs (F := F) 1).pre c q pf : sProp 𝕄) = BI.emp :=
  no_prefs _

theorem owed0_zero (c : Dev nD) : (pdats (F := F) m 0 c).owed 0 = (ex m).O₀ c := by
  show (if ((0 : Fin (cfg0.N + 1)).val = 0) then (ex m).O₀ c else 0) = (ex m).O₀ c; exact if_pos rfl
theorem owed0_first (c : Dev nD) : (dat0 (F := F) m c).owed t0_0.castSucc = (ex m).O₀ c := by
  show (if (t0_0.castSucc : Fin (cfg0.N + 1)).val = 0 then (ex m).O₀ c else 0) = (ex m).O₀ c; exact if_pos rfl
theorem owed0_last (c : Dev nD) : (pdats (F := F) m 0 c).owed (Fin.last _) = 0 := by
  show (if (Fin.last cfg0.N).val = 0 then (ex m).O₀ c else 0) = 0
  rw [Fin.val_last, if_neg (by rw [show cfg0.N = 1 from N_0]; decide)]

theorem owing_dues (c : Dev nD) : iprop(∃ W, owes (c : Thread nD τ) ((ex m).O₀ c) W) = ((ex m).plan.owing c (ex m).dues : sProp 𝕄) := rfl
theorem owing_nil (c : Dev nD) : ((ex m).plan.owing c [] : sProp 𝕄) = iprop(∃ W, owes (c : Thread nD τ) (0 : CellTallies nD τ sig Unit) W) := rfl

set_option maxRecDepth 8000 in
/-- The start kernel's body. -/
theorem body0 (c : Dev nD) : BodyObligation (dat0 (F := F) m c) defs₀ 𝒱₀ () Set.univ := fun t => by
  obtain rfl := fin_N0 t
  rw [bigSep_W0, bigSep_W0]
  show iprop(iprop((ex m).begun EX c ∗ stage c cc1_stg0_0) ∗ (dat0 m c).owesAt () t0_0.castSucc
      ∗ (∃ d, owns c (Memref.whole cc0_stg0_0) fullShare ((dat0 m c).before (0 : Fin 1) t0_0 d)))
    ⊢ wp frame (wpE (defs₀ (F := F)) 𝒱₀ c none) Set.univ (bodyAt0 t0_0) fun _ =>
      iprop(iprop((ex m).mid EX c ∗ (ex m).locals c ∗ stage c cc1_stg0_0)
        ∗ (dat0 m c).owesAt () t0_0.succ ∗ owns c (Memref.whole cc0_stg0_0) fullShare (k0_pay1 (F := F)))
  rw [owns_whole_eq]
  unfold Ex.begun
  iintro ⟨⟨⟨⟨%K, HK⟩, Hn, Hi⟩, Hf⟩, HO, ⟨%d, Hs⟩⟩
  ihave Hs := (Entails.of_eq (owns_whole_eq _ cc0_stg0_0 _ _)) $$ Hs
  icases Hs with ⟨%g, -, Hs⟩
  ihave HO := (owesAt_elim (dat0 m c) _ ((ex m).O₀ c) (owed0_first m c)) $$ HO
  iapply (start_run m K c g (Rest := iprop((ex m).idle EX c ∗ stage c cc1_stg0_0)) ?_)
  · rw [owing_nil]
    iintro ⟨HK, ⟨%W, HO⟩, Hl, Hs, Hi, Hf⟩
    ihave Hm := ((ex m).mid_intro EX c K) $$ [HK Hl Hi]
    · isplitl [HK]; · iexact HK
      isplitl [Hl] <;> iassumption
    icases Hm with ⟨Hm, Hz⟩
    isplitl [Hm Hz Hf]
    · isplitl [Hm]; · iexact Hm
      isplitl [Hz] <;> iassumption
    isplitl [HO]; · iapply (owesAt_intro (dat0 m c) t0_0.succ 0 (owed0_last m c) W); iexact HO
    iexists (k0_pay1 (F := F)); isplitr; · ipureintro; rfl
    iexact Hs
  isplitl [HK]; · iexact HK
  isplitl [HO]; · iapply (Entails.of_eq (owing_dues m c)); iexact HO
  isplitl [Hn]; · iexact Hn
  isplitl [Hs]; · iexact Hs
  isplitl [Hi] <;> iassumption

set_option maxRecDepth 8000 in
/-- The wait kernel's. -/
theorem body1 (c : Dev nD) : BodyObligation (dat1 (F := F) m c) defs₀ 𝒱₀ () Set.univ := fun t => by
  obtain rfl := fin_N1 t
  rw [bigSep_W1, bigSep_W1]
  show iprop(iprop((ex m).mid EX c ∗ stage c cc0_stg0_0) ∗ (dat1 m c).owesAt () t1_0.castSucc
      ∗ (∃ d, owns c (Memref.whole cc1_stg0_0) fullShare ((dat1 m c).before (0 : Fin 1) t1_0 d)))
    ⊢ wp frame (wpE (defs₀ (F := F)) 𝒱₀ c none) Set.univ (bodyAt1 t1_0) fun _ =>
      iprop(iprop((ex m).ended c ∗ stage c cc0_stg0_0)
        ∗ (dat1 m c).owesAt () t1_0.succ ∗ owns c (Memref.whole cc1_stg0_0) fullShare (k1_pay1 (F := F)))
  rw [owns_whole_eq]
  unfold Ex.mid
  iintro ⟨⟨⟨⟨%K, HK⟩, Hl, Ho, Hb⟩, Hf⟩, HO, ⟨%d, Hs⟩⟩
  ihave Hs := (Entails.of_eq (owns_whole_eq _ cc1_stg0_0 _ _)) $$ Hs
  icases Hs with ⟨%g, -, Hs⟩
  ihave HO := (owesAt_elim (dat1 m c) _ 0 rfl) $$ HO
  iapply (wait_run m K c g (Rest := iprop(((all (ex m).list ((ex m).plan.own c)) ∗ semVal ((ex m).plan.barC c ()) 0) ∗ stage c cc0_stg0_0)) ?_)
  · rw [owing_nil]
    iintro ⟨-, ⟨%W, HO⟩, Hd, Hs, Ho, Hf⟩
    isplitl [Hd Ho Hf]
    · isplitr [Hf]
      · iapply ((ex m).ended_intro c)
        isplitl [Hd] <;> iassumption
      iexact Hf
    isplitl [HO]; · iapply (owesAt_intro (dat1 m c) t1_0.succ 0 rfl W); iexact HO
    iexists (k1_pay1 (F := F)); isplitr; · ipureintro; rfl
    iexact Hs
  isplitl [HK]; · iexact HK
  isplitl [HO]; · iapply (Entails.of_eq (owing_nil m c).symm); iexact HO
  isplitl [Hl]; · iexact Hl
  isplitl [Hs]; · iexact Hs
  isplitl [Ho Hb]
  · isplitl [Ho] <;> iassumption
  iexact Hf

/-! ## The segments -/

local notation "ℍ" => Pipeline.HostSeg (Name := ℕ) (U := UU) (pcfgs (F := F)) defs₀ 𝒱₀ Plan.L (Plan.lv (Ex.plan (ex m)))
local notation "ℝ𝕊" => Pipeline.RegionSeg (pcfgs (F := F)) adm (pdats m) () defs₀ 𝒱₀ Plan.L (Plan.lv (Ex.plan (ex m)))

/-- What rides along the segments before the kernels. -/
def along (c : Dev nD) : sProp 𝕄 := iprop((ex m).ready EX c ∗ owes (c : Thread nD τ) ((ex m).O₀ c) ∅)
/-- The arguments as they were. -/
def args (c : Dev nD) : sProp 𝕄 := iprop(pt c main_arg0 (m ((c : Thread nD τ).loc main_arg0)))
/-- What is left of the arrays between the two kernels. -/
def rest (c : Dev nD) : sProp 𝕄 := iprop(args m c ∗ pt c main_v3_2 (V₁ m c main_v3_2))
/-- The landing buffers allocated, those yet to be, and the rest. -/
abbrev around (old new : List (Ref sig .tc)) (c : Dev nD) : sProp 𝕄 :=
  iprop(all old (anyAt c) ∗ (all new fun b => pt c b (V₀ m c b)) ∗ (StableHlo.held (c : Thread nD τ) restBufs (V₀ m c) ∗ along m c))

def seg0 : ℍ := Pipeline.HostSeg.alloc _ _ _ _ _ main_v1 ⟨by decide, rfl⟩ (V₀ m) (around m [] [])

theorem copies_sub : ∀ op ∈ (hostOps0_1 : List (HloOp τ sig (Elt F))), op.bufs ⊆ restBufs := fun op h => by
  simp only [List.mem_cons, List.mem_nil_iff, or_false] at h
  subst h
  show ({Proc.devRef .tc main_arg0, Proc.devRef .tc main_v2_2} : Finset (DevRef τ sig)) ⊆ restBufs; decide
theorem copies_fresh : ∀ op ∈ (hostOps0_1 : List (HloOp τ sig (Elt F))), op.fresh = ∅ := fun op h => by
  simp only [List.mem_cons, List.mem_nil_iff, or_false] at h
  subst h; rfl

def seg1 : ℍ := Pipeline.HostSeg.ofOps _ _ _ _ _ restBufs hostOps0_1 copies_sub copies_fresh (V₀ m)
  fun c => iprop(all [main_v1] (anyAt c) ∗ along m c)

/-- The start kernel's own semaphores. -/
def locSem (a : Fin 1) : SemLoc sig := (ex (F := F) m).osem (.inr a)

theorem locSems (c : Dev nD) : (Pipeline.ownSems0 (locSem m) c : sProp 𝕄) = (ex m).locals c := by
  unfold Pipeline.ownSems0
  exact (ex m).over_arrays _

theorem locSems_own : Pipeline.OwnSemFacts spec0 (locSem m) := by
  show Pipeline.OwnSemFacts spec0 (fun a => semOf 1 (0 : Sem sig) (by decide) (.inr a))
  decide
theorem stage_sem : ∀ (w : Fin 1) (s : Fin (spec0 w).nbuf), (spec0 w).sem s = cc0_sem0_0 := by decide

/-- The start kernel's region. -/
def reg0 : ℝ𝕊 0 where
  win := winFacts0.to₀
  block_pos := block_pos0
  stage_whole := stage_whole0
  K := Fin 1
  osem := locSem m
  ho := locSems_own m
  hbody c := (body0 m c).loose
  hwaits c := Pipeline.cellsWaits_intro _ (pdats m) () 0 c fun w s t => by
    refine (ex m).stage_wait c (((Pipeline.pin (pcfgs (F := F)) adm 0).win w).sem s)
      ((stage_sem w s).symm ▸ semOf_token 1 (0 : Sem sig) (by decide) cc0_sem0_0 rfl) _ ?_
    show (if t.val = 0 then (ex m).O₀ c else 0) = (ex m).O₀ c ∨ (if t.val = 0 then (ex m).O₀ c else 0) = 0
    split
    · exact .inl rfl
    · exact .inr rfl
  pre c := iprop(StableHlo.held (c : Thread nD τ) restBufs (V₁ m c) ∗ (all [main_v1] (anyAt c) ∗ along m c))
  post c := iprop(rest m c ∗ (ex m).mid EX c ∗ clear c)
  X := (ex m).begun EX
  Y := (ex m).mid EX
  Z := rest m
  hentry c := by
    rw [prefHeld0, locSems m c]
    unfold along rest args
    iintro ⟨⟨Hh, Hl, Hr, HO⟩, Hz, -⟩
    ihave Hh := (restBufs_split c (V₁ m c)) $$ Hh
    ihave Hh := (Entails.of_eq (show (all restRefs fun b => pt c b (V₁ m c b))
      = (iprop(pt c main_arg0 (V₁ m c main_arg0) ∗ pt c main_v2_2 (V₁ m c main_v2_2) ∗ pt c main_v2_4 (V₁ m c main_v2_4) ∗ pt c main_v3_2 (V₁ m c main_v3_2) ∗ BI.emp) : sProp 𝕄) from rfl)) $$ Hh
    rw [V₁_arg0, V₁_copy0]
    icases Hh with ⟨Ha0, Hf0, Ht, Ht', -⟩
    imod ((ex m).begun_intro EX c) $$ [Hr Hz Hf0 Hl] with Hb
    · isplitl [Hr]; · iexact Hr
      isplitl [Hz]; · iexact Hz
      isplitr [Hl]
      · rw [copies_eq]
        isplitl [Hf0]; · iexact Hf0
        iempintro
      · rw [lands_eq]
        iapply (show all [main_v1] (anyAt c) ⊢ (all landRefs (anyAt c) : sProp 𝕄) from all_reverse landRefs (anyAt c)); iexact Hl
    imodintro
    isplitl [Ht]; · iapply (arrays0 m c); iexact Ht
    isplitr; · iempintro
    isplitl [HO]; · iapply (owesAt_intro (pdats m 0 c) 0 ((ex m).O₀ c) (owed0_zero m c)); iexact HO
    isplitl [Hb]; · iexact Hb
    isplitr [Ht']
    · iexact Ha0
    iexact Ht'
  hin c := by
    show iprop((ex m).begun EX c ∗ _ ∗ Pipeline.scopedRest spec0 c) ⊢ iprop((ex m).begun EX c ∗ stage c cc1_stg0_0)
    rw [scopedRest0_eq]
    iintro ⟨HX, -, Hs⟩
    isplitl [HX] <;> iassumption
  hout c := by
    rw [locSems m c]
    show iprop((ex m).mid EX c ∗ (ex m).locals c ∗ stage c cc1_stg0_0) ⊢ iprop((ex m).mid EX c ∗ (ex m).locals c ∗ Pipeline.scopedRest spec0 c)
    rw [scopedRest0_eq]
  hexit c := by
    unfold clear
    iintro ⟨-, HO, HY, HZ⟩
    imodintro
    isplitl [HZ]; · iexact HZ
    isplitl [HY]; · iexact HY
    iapply (owesAt_elim (pdats m 0 c) _ 0 (owed0_last m c)); iexact HO

/-- The wait kernel's region. -/
def reg1 : ℝ𝕊 1 where
  win := winFacts1.to₀
  block_pos := block_pos1
  stage_whole := stage_whole1
  K := PEmpty
  osem k := k.elim
  ho := Pipeline.OwnSemFacts.none _
  hbody c := (body1 m c).loose
  hwaits := Pipeline.hwaits_of_owed_zero _ _ _ _ Plan.L (Plan.lv (ex m).plan) 1 fun _ _ => rfl
  pre c := iprop(rest m c ∗ (ex m).mid EX c ∗ clear c)
  post c := iprop((args m c ∗ (ex m).ended c) ∗ clear c)
  X := (ex m).mid EX
  Y := (ex m).ended
  Z := args m
  hentry c := by
    rw [prefHeld1, Pipeline.ownSems0_none]
    unfold rest clear
    iintro ⟨⟨⟨Ha, Ht⟩, Hm, ⟨%W, HO⟩⟩, -, -⟩
    imodintro
    isplitl [Ht]; · iapply (arrays1 m c); iexact Ht
    isplitr; · iempintro
    isplitl [HO]; · iapply (owesAt_intro (pdats m 1 c) 0 0 rfl W); iexact HO
    isplitl [Hm] <;> iassumption
  hin c := by
    show iprop((ex m).mid EX c ∗ _ ∗ Pipeline.scopedRest spec1 c) ⊢ iprop((ex m).mid EX c ∗ stage c cc0_stg0_0)
    rw [scopedRest1_eq]
    iintro ⟨HX, -, Hs⟩
    isplitl [HX] <;> iassumption
  hout c := by
    rw [Pipeline.ownSems0_none]
    show iprop((ex m).ended c ∗ stage c cc0_stg0_0) ⊢ iprop((ex m).ended c ∗ BI.emp ∗ Pipeline.scopedRest spec1 c)
    rw [scopedRest1_eq]
    iintro ⟨H, Hs⟩
    isplitl [H]; · iexact H
    isplitr; · iempintro
    iexact Hs
  hexit c := by
    unfold clear
    iintro ⟨-, HO, HY, HZ⟩
    imodintro
    isplitl [HZ HY]
    · isplitl [HZ] <;> iassumption
    iapply (owesAt_elim (pdats m 1 c) _ 0 rfl); iexact HO

theorem seg0_prog : (seg0 (F := F) m).prog = StableHlo.seq (hostOps0 : List (HloOp τ sig (Elt F))) := by
  show (hlo rfl (StableHlo.allocateBuffer (τ := τ) (Val := Elt F) main_v1 ⟨by decide, rfl⟩) fun _ => .ret ⟨⟩) = StableHlo.seq [StableHlo.allocateBuffer main_v1]
  simp only [StableHlo.seq, Prog.bind_op, Prog.bind_ret]
  rfl
theorem seg1_prog : (seg1 (F := F) m).prog = StableHlo.seq (hostOps0_1 : List (HloOp τ sig (Elt F))) := rfl

/-- @main as the list. -/
def segs : List (Pipeline.Seg (pcfgs (F := F)) adm (pdats m) () defs₀ 𝒱₀ Plan.L (Plan.lv (ex m).plan)) :=
  [.host (seg0 m), .host (seg1 m), .region (reg0 m), .region (reg1 m)]

theorem main_eq (c : Dev nD) : main (F := F) c = Pipeline.Seg.run (segs m) := by
  rw [main_chain]
  unfold segs
  simp only [Pipeline.Seg.run, seg0_prog, seg1_prog, Pipeline.chain, Prog.lift, Prog.bind_op, Prog.bind_ret, Prog.pure_eq_ret]

/-! ## The launch -/

/-- The launch element: the pipeline library's at its staging cells, the exchange's at its own. -/
def u₀ : UU :=
  (initOf (Pipeline.cells (Pipeline.pin (pcfgs (F := F)) adm) cellOf_inj) (Pipeline.launchToks (Pipeline.pin (pcfgs (F := F)) adm) cellOf_inj),
    initOf (ex m).plan.cellSet (ex m).plan.tokSet)

/-- The semaphores outside the kernels are the cells of the exchange. -/
theorem sems_all : ((Finset.univ : Finset (SemLoc sig)).filter fun sm => ¬ sm.isScoped .tc)
    = Finset.univ.map ⟨fun u : UC Unit (Fin 1) => semOf 1 (0 : Sem sig) (by decide) (.inl u), fun _ _ h => Sum.inl_injective (semOf_inj _ _ _ h)⟩ := by
  decide

theorem sems_eq (c : Dev nD) : (unscopedSems0 c : sProp 𝕄) = bigSep Finset.univ fun u : UC Unit (Fin 1) => semVal ((ex m).plan.cell c (.inl u)) 0 := by
  unfold unscopedSems0
  rw [sems_all, BI.bigSep_map]
  rfl

abbrev T₀ (c : Dev nD) : sProp 𝕄 := iprop(pt c main_v1 (V₀ m c main_v1) ∗ around m [] [] c)
abbrev Tₙ (c : Dev nD) : sProp 𝕄 := iprop(args m c ∗ (ex m).ended c)

theorem launched (c : Dev nD) : iprop(unscopedBufs c (fun b => m ((c : Thread nD τ).loc b)) ∗ (ex m).ready EX c ∗ owes (c : Thread nD τ) ((ex m).O₀ c) ∅)
    ⊢ (T₀ m c : sProp 𝕄) := by
  rw [show unscopedBufs c (fun b => m ((c : Thread nD τ).loc b)) = (StableHlo.held (c : Thread nD τ) (allBufs sig) (V₀ m c) : sProp 𝕄) from unscopedBufs_held c (V₀ m c)]
  unfold T₀ around along
  iintro ⟨Hh, Hr, HO⟩
  ihave Hh := (allBufs_split c (V₀ m c)) $$ Hh
  rw [all_cons]
  icases Hh with ⟨⟨H1, H2⟩, Hh⟩
  isplitl [H1]; · iexact H1
  isplitr; · iempintro
  isplitl [H2]; · iexact H2
  isplitl [Hh]; · iexact Hh
  isplitl [Hr] <;> iassumption

theorem after_seg0 (c : Dev nD) : iprop(anyAt c main_v1 ∗ around m [] [] c)
    ⊢ (iprop(StableHlo.held (c : Thread nD τ) restBufs (V₀ m c) ∗ (all [main_v1] (anyAt c) ∗ along m c)) : sProp 𝕄) :=
  last_alloc (x := main_v1) (l := []) (P := anyAt c) (Q := fun b => pt c b (V₀ m c b))
theorem chained : Pipeline.Seg.Chains (T₀ m) (segs m) fun c => iprop(Tₙ m c ∗ ∃ W, owes (c : Thread nD τ) (0 : CellTallies nD τ sig Unit) W) :=
  ⟨fun c => .rfl, after_seg0 m, fun c => .rfl, fun c => .rfl, fun c => .rfl⟩

/-- What a final state shows of a device. -/
def Shown (c : Dev nD) (μ : (ℓ : Loc nD τ sig) → Buf (Elt F) ℓ) : Prop :=
  (μ ((c : Thread nD τ).loc main_arg0) = m ((c : Thread nD τ).loc main_arg0))
    ∧ μ ((c : Thread nD τ).loc main_v1) = gathered (X0 m)

theorem read_end (c : Dev nD) (s' : Phys nD τ sig (Elt F)) : iprop(Tₙ m c ∗ SI s')
    ⊢ (|={Set.univ}=> iprop(⌜Shown m c s'.mem.mem ∧ ∀ u, s'.mem.sem ((ex m).plan.cell c (.inl u)) = 0⌝ ∗ SI s') : sProp 𝕄) := by
  unfold Tₙ args Ex.ended
  rw [dones_eq]
  iintro ⟨⟨Ha0, ⟨H0, -⟩, Hz⟩, HSI⟩
  icombine HSI Ha0 gives %ha0
  icombine HSI H0 gives %h0
  ihave H := ((ex m).zeros_read c s') $$ [Hz HSI]
  · isplitl [Hz] <;> iassumption
  icases H with ⟨%hz, HSI⟩
  imodintro
  isplitr
  · ipureintro
    exact ⟨⟨Buf.eq_of_forall_mem_univ ha0, Buf.eq_of_forall_mem_univ h0⟩, hz⟩
  iexact HSI

-- the launch theorem's implicit arguments are found by unifying its conclusion with this one, which takes unfolding plain
-- definitions in the type of an unknown
set_option backward.isDefEq.respectTransparency.types false in
/-- The run: at any float values, from any memory with zero counters, every weakly fair execution of @main on the eight
    devices terminates, and in every final state each device's arguments hold what they held, its landing buffers hold
    in slot `j` what device `j` had, and every semaphore counter is at zero. -/
theorem run_main : θ_run defs (onTc (τ := τ) (main (F := F))) (s₀ m ρ)
    (fun r => (∀ c : Dev nD, Shown m c r.2.mem) ∧ r.2.sem = fun _ => 0) :=
  Pipeline.θ_run_regions_kit_sems (pcfgs (F := F)) adm (pdats m) () cellOf_inj EP defs₀ 𝒱₀ Plan.L (ex m).plan.lv m ρ main (segs m)
    (fun c Q => by rw [main_eq m c])
    (by simp only [segs, Pipeline.Seg.pipes_host, Pipeline.Seg.pipes_region, Pipeline.Seg.pipes_nil]; decide)
    (O₀ := (ex m).O₀) (hL := Plan.L_of_ne) (G := (ex m).plan.deal EX) (u₀ := u₀ m)
    (hu₀ := by
      unfold u₀
      iintro Hu
      ihave H := (ownU_pair _ _) $$ Hu
      icases H with ⟨HP, HX⟩
      imod ((ex m).plan.fund EX) $$ HX with HG
      imodintro
      isplitl [HP]; · iexact HP
      iexact HG)
    (T₀ := T₀ m) (Tₙ := Tₙ m)
    (hch := chained m)
    (hinit := (ex m).init EX ρ (sems_eq m) (launched m))
    (QY := fun c s => Shown m c s.mem ∧ ∀ u, s.sem ((ex m).plan.cell c (.inl u)) = 0)
    (hfin := read_end m)
    (hQ := fun s h hs => ⟨fun c => (h c).1, sem_eq_zero hs fun c sm hsm => by
      have hsm := sems_all ▸ Finset.mem_filter.mpr ⟨Finset.mem_univ sm, by rw [hsm]; decide⟩
      obtain ⟨u, -, rfl⟩ := Finset.mem_map.mp hsm
      exact (h c).2 u⟩)

end Cert.Early

end
-- ==== Proof.EarlyClaims.lean ====
/-
  The gathering of one array: the frames of the program, of its idealization and of the reference, and the two comparisons with the reference.
  One run, stated for any float values, serves all of the kernel's claims; what it leaves in the result arrays is compared
  with the reference once, also for any values.
-/
module

public import proofs.«01_k».proof.Defs
public import proofs.«01_k».proof.Proof.EarlyLaunch
public import proofs.«01_k».proof.Proof.Value
public import proofs.«01_k».proof.Proof.Gen.KernelA
public import proofs.«01_k».proof.Proof.Gen.ReferenceA
public import proofs.«01_k».proof.Proof.Gen.ReferenceAIdeal
public import proofs.«01_k».proof.Proof.Gen.ReferenceA.Run
public import proofs.«01_k».proof.Proof.Gen.ReferenceAIdeal.Run

@[expose] public section

noncomputable section

namespace Cert.Early

open Idealize.ShloMosaic Idealize.SL.Sem Cert.Exchange

/-- The two kernels of the program as written are those of its idealization. -/
theorem kernels_eq : Cert.KernelA.defs₀ (F := Bits) = Cert.KernelAIdeal.defs₀ (F := Bits) := by
  unfold Cert.KernelA.defs₀ Cert.KernelAIdeal.defs₀
  refine congrArg Defs.onTc (funext fun l => funext fun a => ?_)
  match l, a with
  | 0, (t, s) => rfl
  | 1, (t, s) => rfl
  | ⟨_ + 2, h⟩, _ => exact absurd h (Nat.not_lt.2 (Nat.le_add_left _ _))

/-- And so is what its calls mean. -/
theorem calls_eq : Cert.KernelA.defs (F := Bits) = Cert.KernelAIdeal.defs (F := Bits) :=
  congrArg (Pipeline.defs (Cert.KernelA.pcfgs (F := Bits))) kernels_eq

/-- The run at the bits, of the program as written: its text is that of its idealization. -/
theorem run_bits (m : (ℓ : Loc Cert.KernelA.nD Cert.KernelA.τ Cert.KernelA.sig) → Buf (Elt Bits) ℓ) (ρ : Dev Cert.KernelA.nD → PrngReg) :
    θ_run (Cert.KernelA.defs (F := Bits)) (onTc (τ := Cert.KernelA.τ) (Cert.KernelA.main (F := Bits))) ⟨m, fun _ => 0, ρ⟩ (fun r =>
      (∀ c : Dev Cert.KernelA.nD, Shown (F := Bits) m c r.2.mem) ∧ r.2.sem = fun _ => 0) := by
  rw [calls_eq]
  exact run_main (F := Bits) m ρ

theorem frame_kernel : Cert.quiescent_KernelA := fun m ρ _ =>
  (θ_run Cert.KernelA.defs _ _).mono (fun _ h => ⟨fun c => (h.1 c).1, h.2⟩) (run_bits m ρ)

theorem frame_ideal : Cert.quiescent_KernelAIdeal := fun m ρ _ =>
  (θ_run Cert.KernelAIdeal.defs _ _).mono (fun _ h => ⟨fun c => (h.1 c).1, h.2⟩) (run_main (F := Ideal) m ρ)

theorem frame_reference_ideal : Cert.quiescent_ReferenceAIdeal := fun m ρ _ =>
  (θ_run Cert.ReferenceAIdeal.defs _ _).mono (fun r h => ⟨fun c => (h c).2, sem_eq_zero_of_no_sems (by decide) r.2⟩)
    (Cert.ReferenceAIdeal.Value.run (F := Ideal) m ρ)

theorem frame_reference : Cert.quiescent_ReferenceA := fun m ρ _ =>
  (θ_run Cert.ReferenceA.defs _ _).mono (fun r h => ⟨fun c => (h c).2, sem_eq_zero_of_no_sems (by decide) r.2⟩)
    (Cert.ReferenceA.Value.run (F := Bits) m ρ)

theorem algebraic : Cert.algebraic_KernelAIdeal_ReferenceAIdeal := fun m ρ m' ρ' _ hm => by
  refine ⟨_, ?_, (θ_run Cert.ReferenceAIdeal.defs _ _).mono (fun r h => h 0) (Cert.ReferenceAIdeal.Value.run (F := Ideal) m' ρ')⟩
  refine (θ_run Cert.KernelAIdeal.defs _ _).mono (fun r h c => ?_) (run_main (F := Ideal) m ρ)
  refine ⟨((h.1 c).2).trans ?_, (h.1 c).1⟩
  exact (congrArg gathered (funext fun d => (hm d))).trans (gathered_blocks _ _ _)

theorem bitexact : Cert.bitexact_KernelA_ReferenceA := fun m ρ m' ρ' _ hm => by
  refine ⟨_, ?_, (θ_run Cert.ReferenceA.defs _ _).mono (fun r h => h 0) (Cert.ReferenceA.Value.run (F := Bits) m' ρ')⟩
  refine (θ_run Cert.KernelA.defs _ _).mono (fun r h c => ?_) (run_bits m ρ)
  refine ⟨((h.1 c).2).trans ?_, (h.1 c).1⟩
  exact (congrArg gathered (funext fun d => (hm d))).trans (gathered_blocks _ _ _)

end Cert.Early

end
-- ==== Proof.AdamW.lean ====
/-
  The optimizer's step on arrays of rows, for any float values: the sum of the devices' gradients, the two moving averages and
  the change of the weight, element by element; where a block of rows lies in the whole array; and, for exact values, that
  arrays stepped element by element are the ones the reference composes from operations on whole arrays.
-/
module

public import Idealize.ShloMosaic.Lib.ValueIdx
public import Idealize.ShloMosaic.Lib.Pipeline.Value
public import Idealize.ShloMosaic.Lib.Pipeline.ValueKit.Tiles
public import Idealize.ShloMosaic.Lib.Pointwise.Reduce
public import Idealize.ShloMosaic.PureOps.Ideal.Laws

@[expose] public section

noncomputable section

namespace Cert.AdamW

open Idealize.ShloMosaic

/-- An array of rows. -/
abbrev S2 (r w : ℕ) : Shape := ⟨2, ![r, w]⟩
/-- Several arrays of rows, one per device. -/
abbrev S3 (n r w : ℕ) : Shape := ⟨3, ![n, r, w]⟩

variable {F : FTy → Type} [FloatOps F]

/-! ## One element -/

/-- The sum of `n + 1` values, added up from the first. -/
def total : (n : ℕ) → (Fin (n + 1) → F .f32) → F .f32
  | 0, p => p 0
  | n + 1, p => FloatOps.addf (total n fun k => p k.castSucc) (p (Fin.last (n + 1)))

/-- The sum of eight values, written out. -/
theorem total_eight {p : Fin 8 → F .f32} {a b c d e f g h : F .f32} (h0 : a = p 0) (h1 : b = p 1) (h2 : c = p 2) (h3 : d = p 3)
    (h4 : e = p 4) (h5 : f = p 5) (h6 : g = p 6) (h7 : h = p 7) :
    FloatOps.addf (FloatOps.addf (FloatOps.addf (FloatOps.addf (FloatOps.addf (FloatOps.addf (FloatOps.addf a b) c) d) e) f) g) h
      = total 7 p := by
  subst h0 h1 h2 h3 h4 h5 h6 h7
  rfl

/-- The next average of the gradient. -/
def mean (m g : F .f32) : F .f32 :=
  FloatOps.addf (FloatOps.mulf (FloatOps.ofBits .f32 0x3F666666#32) m) (FloatOps.mulf (FloatOps.ofBits .f32 0x3DCCCCCD#32) g)

/-- The next average of the gradient's square. -/
def square (v g : F .f32) : F .f32 :=
  FloatOps.addf (FloatOps.mulf (FloatOps.ofBits .f32 0x3F7FBE77#32) v)
    (FloatOps.mulf (FloatOps.ofBits .f32 0x3A83126F#32) (FloatOps.mulf g g))

/-- The change of a weight, of the weight and its two next averages. -/
def change (w m v : F .f32) : F .f32 :=
  FloatOps.mulf (FloatOps.ofBits .f32 0xBA83126F#32)
    (FloatOps.addf
      (FloatOps.divf (FloatOps.divf m (FloatOps.ofBits .f32 0x3F26BD02#32))
        (FloatOps.addf (FloatOps.sqrt (FloatOps.divf v (FloatOps.ofBits .f32 0x3C231ACC#32))) (FloatOps.ofBits .f32 0x322BCC77#32)))
      (FloatOps.mulf (FloatOps.ofBits .f32 0x3C23D70A#32) w))

/-! ## Whole arrays -/

variable {n r w b : ℕ}

/-- The four arrays `g`, `d`, `m'`, `v'` are, element by element, the step from weight `x`, averages `m`, `v` and gradients `p`. -/
def Stepped (x m v : (S2 r w).Idx → F .f32) (p : (S3 (n + 1) r w).Idx → F .f32) (g d m' v' : (S2 r w).Idx → F .f32) : Prop :=
  ∀ i, g i = total n (fun k => p (ix3 k (i 0) (i 1)))
    ∧ d i = change (x i) (mean (m i) (g i)) (square (v i) (g i))
    ∧ m' i = mean (m i) (g i)
    ∧ v' i = square (v i) (g i)

/-- Row `y 0` of block `t`, blocks of `b` rows. -/
def spot (t : ℕ) (h : t * b + b ≤ r) (y : (S2 b w).Idx) : (S2 r w).Idx :=
  ix2 ⟨t * b + (y 0).val, lt_of_lt_of_le (Nat.add_lt_add_left (y 0).isLt _) h⟩ (y 1)

/-- The place of a block's element, from the block's number along each axis. -/
theorem at_spot {t : ℕ} {h : t * b + b ≤ r} {y : (S2 b w).Idx} {j : (S2 r w).Idx} {s0 s1 : ℕ}
    (h0 : (j 0).val = s0 * b + 1 * (y 0).val) (h1 : (j 1).val = s1 * w + 1 * (y 1).val) (e0 : s0 = t) (e1 : s1 = 0) :
    j = spot t h y := by
  subst e0 e1
  funext a
  match a with
  | ⟨0, _⟩ => exact Fin.ext (h0.trans (congrArg (_ + ·) (Nat.one_mul _)))
  | ⟨1, _⟩ => exact Fin.ext (h1.trans (by rw [Nat.zero_mul, Nat.zero_add, Nat.one_mul]; rfl))

/-- The same with the devices in front. -/
theorem at_spots {t : ℕ} {h : t * b + b ≤ r} {z : (S3 n b w).Idx} {j : (S3 n r w).Idx} {s0 s1 s2 : ℕ}
    (h0 : (j 0).val = s0 * n + 1 * (z 0).val) (h1 : (j 1).val = s1 * b + 1 * (z 1).val) (h2 : (j 2).val = s2 * w + 1 * (z 2).val)
    (e0 : s0 = 0) (e1 : s1 = t) (e2 : s2 = 0) :
    j = ix3 (z 0) (spot t h (ix2 (z 1) (z 2)) 0) (z 2) := by
  subst e0 e1 e2
  funext a
  match a with
  | ⟨0, _⟩ => exact Fin.ext (h0.trans (by rw [Nat.zero_mul, Nat.zero_add, Nat.one_mul]; rfl))
  | ⟨1, _⟩ => exact Fin.ext (h1.trans (congrArg (_ + ·) (Nat.one_mul _)))
  | ⟨2, _⟩ => exact Fin.ext (h2.trans (by rw [Nat.zero_mul, Nat.zero_add, Nat.one_mul]; rfl))

/-- Every element lies in one of the `N` blocks. -/
theorem exists_spot {N : ℕ} (hr : r = N * b) (i : (S2 r w).Idx) :
    ∃ (t : Fin N) (h : t.val * b + b ≤ r) (y : (S2 b w).Idx), spot t.val h y = i := by
  have hi : (i 0).val < N * b := hr ▸ (i 0).isLt
  have hb : 0 < b := Nat.pos_of_ne_zero fun h0 => by rw [h0, Nat.mul_zero] at hi; exact Nat.not_lt_zero _ hi
  have ht : (i 0).val / b < N := Nat.div_lt_of_lt_mul (by rwa [Nat.mul_comm] at hi)
  refine ⟨⟨(i 0).val / b, ht⟩, (Nat.succ_mul _ _).symm.trans_le ((Nat.mul_le_mul_right b ht).trans_eq hr.symm),
    ix2 ⟨(i 0).val % b, Nat.mod_lt _ hb⟩ (i 1), ?_⟩
  funext a
  match a with
  | ⟨0, _⟩ => exact Fin.ext (Nat.div_add_mod' _ _)
  | ⟨1, _⟩ => rfl

/-- Arrays that hold, block by block, blocks stepped of the blocks they hold before are stepped. -/
theorem stepped_of_blocks {N : ℕ} (hr : r = N * b) {x m v : (S2 r w).Idx → F .f32} {p : (S3 (n + 1) r w).Idx → F .f32}
    {g d m' v' : (S2 r w).Idx → F .f32} {bx bm bv : Fin N → (S2 b w).Idx → F .f32} {bp : Fin N → (S3 (n + 1) b w).Idx → F .f32}
    {bg bd bm' bv' : Fin N → (S2 b w).Idx → F .f32}
    (hx : ∀ t h y, bx t y = x (spot t.val h y)) (hm : ∀ t h y, bm t y = m (spot t.val h y)) (hv : ∀ t h y, bv t y = v (spot t.val h y))
    (hp : ∀ t h (z : (S3 (n + 1) b w).Idx), bp t z = p (ix3 (z 0) (spot (r := r) (w := w) t.val h (ix2 (z 1) (z 2)) 0) (z 2)))
    (hg : ∀ t h y, g (spot t.val h y) = bg t y) (hd : ∀ t h y, d (spot t.val h y) = bd t y)
    (hm' : ∀ t h y, m' (spot t.val h y) = bm' t y) (hv' : ∀ t h y, v' (spot t.val h y) = bv' t y)
    (hb : ∀ t, Stepped (bx t) (bm t) (bv t) (bp t) (bg t) (bd t) (bm' t) (bv' t)) :
    Stepped x m v p g d m' v' := fun i => by
  obtain ⟨t, h, y, rfl⟩ := exists_spot hr i
  obtain ⟨sg, sd, sm, sv⟩ := hb t y
  rw [hg, hd, hm', hv', ← hx, ← hm, ← hv]
  exact ⟨sg.trans (congrArg (total n) (funext fun k => hp t h _)), sd, sm, sv⟩

/-! ## Reading a block -/

variable {V : EltTy → Type} {e : EltTy}

/-- Reading a whole block. -/
theorem ld_whole (x : (S2 r w).Idx → V e) (inb) :
    View.ld x (Rect.unit (s := S2 r w) ![0, 0] ![r, w] inb) = x :=
  funext fun _ => View.ld_unit_apply_of x _ _ _ _ _ fun a => match a with
    | ⟨0, _⟩ => (Nat.zero_add _).symm
    | ⟨1, _⟩ => (Nat.zero_add _).symm

/-- A block after one store of all of it. -/
theorem canon_whole [∀ e, Nonempty (V e)] (x : (S2 r w).Idx → V e) (inb) :
    View.canon [(⟨Rect.unit (s := S2 r w) ![0, 0] ![r, w] inb, x⟩ : View.Piece V (S2 r w) e)] = x :=
  View.canon_unit_zero (funext fun a => match a with | ⟨0, _⟩ => rfl | ⟨1, _⟩ => rfl) _ x

/-- Reading one of several blocks. -/
theorem ld_one (x : (S3 n r w).Idx → V e) (k : Fin n) (inb) (z : (S3 1 r w).Idx) :
    View.ld x (Rect.unit (s := S3 n r w) ![k.val, 0, 0] ![1, r, w] inb) z = x (ix3 k (z 1) (z 2)) :=
  View.ld_unit_apply_of x _ _ _ _ _ fun a => match a with
    | ⟨0, _⟩ => (congrArg (k.val + ·) (Nat.lt_one_iff.1 (z 0).isLt)).symm
    | ⟨1, _⟩ => (Nat.zero_add _).symm
    | ⟨2, _⟩ => (Nat.zero_add _).symm

/-! ## For exact values -/

/-- The sum added up from the first is the sum. -/
theorem total_eq : ∀ (n : ℕ) (p : Fin (n + 1) → Ideal .f32), total n p = ((∑ k, (p k : EReal) : EReal) : Ideal .f32)
  | 0, p => (Fin.sum_univ_one (fun k => (p k : EReal))).symm
  | n + 1, p => (congrArg (fun s : EReal => s + (p (Fin.last (n + 1)) : EReal)) (total_eq n _)).trans
      (Fin.sum_univ_castSucc (fun k => (p k : EReal))).symm

/-- The reference's sum over the devices, added up from the first. -/
theorem summed (p : (S3 (n + 1) r w).Idx → Ideal .f32) (h : (S3 (n + 1) r w).ReducesTo [0] (S2 r w)) {u : Shape} (hu : 0 < u.numel)
    (i : (S2 r w).Idx) :
    Host.reduceAdd p (constant u .f32 0x00000000#32) h hu i = total n (fun k => p (ix3 k (i 0) (i 1))) := by
  rw [total_eq]
  refine (Ideal.hostReduceAdd_r3_a0 h p _ i).trans ?_
  exact (congrArg (fun s : EReal => s + ∑ k : Fin (n + 1), (p (ix3 k (i 0) (i 1)) : EReal)) Ideal.ofBits_zero_f32).trans (zero_add _)

/-- Stepped arrays are what the reference composes from operations on whole arrays. -/
theorem composed {x m v : (S2 r w).Idx → Ideal .f32} {p : (S3 (n + 1) r w).Idx → Ideal .f32} {g d m' v' : (S2 r w).Idx → Ideal .f32}
    (H : Stepped x m v p g d m' v') (h : (S3 (n + 1) r w).ReducesTo [0] (S2 r w)) {u : Shape} (hu : 0 < u.numel)
    (f : Fin u.rank → Fin (S2 r w).rank) (hb : u.BroadcastsInDim (S2 r w) f) :
    let k : BitVec 32 → (S2 r w).Idx → Ideal .f32 := fun z => broadcastInDim (S2 r w) f hb (constant u .f32 z)
    let G : (S2 r w).Idx → Ideal .f32 := Host.reduceAdd p (constant u .f32 0x00000000#32) h hu
    let M : (S2 r w).Idx → Ideal .f32 := addf (mulf (k 0x3F666666#32) m) (mulf (k 0x3DCCCCCD#32) G)
    let Q : (S2 r w).Idx → Ideal .f32 := addf (mulf (k 0x3F7FBE77#32) v) (mulf (k 0x3A83126F#32) (mulf G G))
    g = G
      ∧ d = mulf (k 0xBA83126F#32) (addf (Host.divf (Host.divf M (k 0x3F26BD02#32))
          (addf (Host.sqrt (Host.divf Q (k 0x3C231ACC#32))) (k 0x322BCC77#32))) (mulf (k 0x3C23D70A#32) x))
      ∧ m' = M ∧ v' = Q := by
  intro k G M Q
  have hg : g = G := funext fun i => (H i).1.trans (summed p h hu i).symm
  subst hg
  exact ⟨rfl, funext fun i => (H i).2.1, funext fun i => (H i).2.2.1, funext fun i => (H i).2.2.2⟩

end Cert.AdamW

end
-- ==== Proof.InStep.lean ====
/-
  The optimizer's step on the mixer's incoming weight: the frames of the program, of its idealization and of the reference, and
  the comparison with the reference. Each block of rows is stepped element by element, and the blocks fill the arrays.
-/
module

public import proofs.«01_k».proof.Defs
public import proofs.«01_k».proof.Proof.AdamW
public import proofs.«01_k».proof.Proof.Gen.KernelUI
public import proofs.«01_k».proof.Proof.Gen.KernelUIIdeal.Value
public import proofs.«01_k».proof.Proof.Gen.ReferenceUIIdeal
public import proofs.«01_k».proof.Proof.Gen.ReferenceUIIdeal.Run

@[expose] public section

noncomputable section

namespace Cert.InStep

open Idealize.ShloMosaic Idealize.SL.Sem Idealize.ShloMosaic.TcCoe Cert.AdamW
open Cert.KernelUIIdeal Cert.KernelUIIdeal.Gen Cert.KernelUIIdeal.Value

variable {F : FTy → Type} [FloatOps F]

/-- Each point's block of rows is stepped. -/
theorem block (x0 x1 x2 : Vec F S256x640 .f32) (x3 : Vec F S8x256x640 .bf16) :
    Stepped (n := 7) x0 x1 x2 (extf .f32 x3 bitsLt_bf16_f32) (out0_4 x0 x1 x2 x3) (out0_5 x0 x1 x2 x3) (out0_6 x0 x1 x2 x3)
      (out0_7 x0 x1 x2 x3) := fun y => by
  have one (k : Fin 8) (inb) (z : S1x256x640.Idx) (h1 : z 1 = y 0) (h2 : z 2 = y 1) :
      FloatOps.extf .f32 bitsLt_bf16_f32 (View.ld x3 (Rect.unit (s := S8x256x640) ![k.val, 0, 0] S1x256x640.size inb) z)
        = (extf .f32 x3 bitsLt_bf16_f32 : FVec F S8x256x640 .f32) (ix3 k (y 0) (y 1)) :=
    congrArg (FloatOps.extf .f32 bitsLt_bf16_f32) ((ld_one x3 k inb z).trans (by rw [h1, h2]))
  have l0 : View.ld x0 r0_8 = x0 := ld_whole x0 _
  have l1 : View.ld x1 r0_8 = x1 := ld_whole x1 _
  have l2 : View.ld x2 r0_8 = x2 := ld_whole x2 _
  rw [show out0_4 x0 x1 x2 x3 = k0_pay5 x0 x1 x2 x3 from canon_whole _ _]
  exact ⟨(congrFun (canon_whole _ _) y).symm.trans ((canon4_eq _ _ _ _ _ _ _ _ y).trans (total_eight (one 0 _ _ rfl rfl)
      (one 1 _ _ rfl rfl) (one 2 _ _ rfl rfl) (one 3 _ _ rfl rfl) (one 4 _ _ rfl rfl) (one 5 _ _ rfl rfl) (one 6 _ _ rfl rfl)
      (one 7 _ _ rfl rfl))),
    (congrFun (canon_whole _ _) y).trans (by rw [l0, l1, l2]; rfl),
    (congrFun (canon_whole _ _) y).trans (by rw [l1]; rfl),
    (congrFun (canon_whole _ _) y).trans (by rw [l2]; rfl)⟩

/-- Which block each point reads and writes. -/
theorem index_facts : ∀ t : Fin cfg0.N,
    (win0_0.index t (0 : Fin 2) = t.val ∧ win0_0.index t (1 : Fin 2) = 0)
      ∧ (win0_1.index t (0 : Fin 2) = t.val ∧ win0_1.index t (1 : Fin 2) = 0)
      ∧ (win0_2.index t (0 : Fin 2) = t.val ∧ win0_2.index t (1 : Fin 2) = 0)
      ∧ (win0_3.index t (0 : Fin 3) = 0 ∧ win0_3.index t (1 : Fin 3) = t.val ∧ win0_3.index t (2 : Fin 3) = 0)
      ∧ (win0_4.index t (0 : Fin 2) = t.val ∧ win0_4.index t (1 : Fin 2) = 0)
      ∧ (win0_5.index t (0 : Fin 2) = t.val ∧ win0_5.index t (1 : Fin 2) = 0)
      ∧ (win0_6.index t (0 : Fin 2) = t.val ∧ win0_6.index t (1 : Fin 2) = 0)
      ∧ (win0_7.index t (0 : Fin 2) = t.val ∧ win0_7.index t (1 : Fin 2) = 0) :=
  (by decide +kernel : ∀ t : Fin grid0.N, _)

/-- Every point writes its blocks back. -/
theorem flush_facts : ∀ t : Fin cfg0.N, (cfg0.win 4).flush t = true ∧ (cfg0.win 5).flush t = true ∧ (cfg0.win 6).flush t = true
    ∧ (cfg0.win 7).flush t = true :=
  (by decide +kernel : ∀ t : Fin grid0.N, win0_4.flush t = true ∧ win0_5.flush t = true ∧ win0_6.flush t = true
    ∧ win0_7.flush t = true)

variable (m : (ℓ : Loc nD τ sig) → Buf (Elt F) ℓ)

/-- The arrays after the run are stepped. -/
theorem stepped (c : Dev nD) :
    Stepped (r := 4096) (w := 640) (n := 7) (m ((c : Thread nD τ).loc main_arg0)) (m ((c : Thread nD τ).loc main_arg1))
      (m ((c : Thread nD τ).loc main_arg2)) (extf .f32 (m ((c : Thread nD τ).loc main_arg3)) bitsLt_bf16_f32)
      ((dats m 0 c).arrAt 4 cfg0.N) ((dats m 0 c).arrAt 5 cfg0.N) ((dats m 0 c).arrAt 6 cfg0.N) ((dats m 0 c).arrAt 7 cfg0.N) :=
  stepped_of_blocks (N := cfg0.N) (b := 256) (by decide)
    (bx := iblk m c 0) (bm := iblk m c 1) (bv := iblk m c 2) (bp := fun t => extf .f32 (iblk m c 3 t) bitsLt_bf16_f32)
    (fun t _ _ => congrArg (m ((c : Thread nD τ).loc main_arg0)) (at_spot rfl rfl (index_facts t).1.1 (index_facts t).1.2))
    (fun t _ _ => congrArg (m ((c : Thread nD τ).loc main_arg1)) (at_spot rfl rfl (index_facts t).2.1.1 (index_facts t).2.1.2))
    (fun t _ _ => congrArg (m ((c : Thread nD τ).loc main_arg2)) (at_spot rfl rfl (index_facts t).2.2.1.1 (index_facts t).2.2.1.2))
    (fun t _ _ => congrArg (extf .f32 (m ((c : Thread nD τ).loc main_arg3)) bitsLt_bf16_f32)
      (at_spots rfl rfl rfl (index_facts t).2.2.2.1.1 (index_facts t).2.2.2.1.2.1 (index_facts t).2.2.2.1.2.2))
    (fun t h y => (congrArg _ (at_spot rfl rfl (index_facts t).2.2.2.2.1.1 (index_facts t).2.2.2.2.1.2).symm).trans
      (congrFun ((blocks4 m c t (flush_facts t).1).trans (flushed4 m c t)) y))
    (fun t h y => (congrArg _ (at_spot rfl rfl (index_facts t).2.2.2.2.2.1.1 (index_facts t).2.2.2.2.2.1.2).symm).trans
      (congrFun ((blocks5 m c t (flush_facts t).2.1).trans (flushed5 m c t)) y))
    (fun t h y => (congrArg _ (at_spot rfl rfl (index_facts t).2.2.2.2.2.2.1.1 (index_facts t).2.2.2.2.2.2.1.2).symm).trans
      (congrFun ((blocks6 m c t (flush_facts t).2.2.1).trans (flushed6 m c t)) y))
    (fun t h y => (congrArg _ (at_spot rfl rfl (index_facts t).2.2.2.2.2.2.2.1 (index_facts t).2.2.2.2.2.2.2.2).symm).trans
      (congrFun ((blocks7 m c t (flush_facts t).2.2.2).trans (flushed7 m c t)) y))
    (fun t => block (iblk m c 0 t) (iblk m c 1 t) (iblk m c 2 t) (iblk m c 3 t))

/-- The kernel of the program as written is that of its idealization. -/
theorem kernels_eq : Cert.KernelUI.defs₀ (F := Bits) = Cert.KernelUIIdeal.defs₀ (F := Bits) := by
  unfold Cert.KernelUI.defs₀ Cert.KernelUIIdeal.defs₀
  refine congrArg Defs.onTc (funext fun l => funext fun a => ?_)
  match l, a with
  | 0, (t, s) => rfl
  | ⟨_ + 1, h⟩, _ => exact absurd h (Nat.not_lt.2 (Nat.le_add_left _ _))

/-- And so is what its call means. -/
theorem calls_eq : Cert.KernelUI.defs (F := Bits) = Cert.KernelUIIdeal.defs (F := Bits) :=
  congrArg (Pipeline.defs (Cert.KernelUI.pcfgs (F := Bits))) kernels_eq

theorem frame_kernel : Cert.quiescent_KernelUI := fun m ρ _ => by
  rw [calls_eq]
  exact Cert.KernelUIIdeal.Gen.frame (F := Bits) m ρ

theorem frame_ideal : Cert.quiescent_KernelUIIdeal := fun m ρ _ => Cert.KernelUIIdeal.Gen.frame (F := Ideal) m ρ

theorem frame_reference_ideal : Cert.quiescent_ReferenceUIIdeal := fun m ρ _ =>
  (θ_run Cert.ReferenceUIIdeal.defs _ _).mono (fun r h => ⟨fun c => (h c).2.2.2.2, sem_eq_zero_of_no_sems (by decide) r.2⟩)
    (Cert.ReferenceUIIdeal.Value.run (F := Ideal) m ρ)

theorem algebraic : Cert.algebraic_KernelUIIdeal_ReferenceUIIdeal := fun m ρ m' ρ' _ hm => by
  refine ⟨_, _, _, _, ?_, Cert.ReferenceUIIdeal.Value.run (F := Ideal) m' ρ'⟩
  refine (θ_run Cert.KernelUIIdeal.defs _ _).mono (fun r h c => ?_) (run_blocks (F := Ideal) m ρ)
  obtain ⟨hg, hd, hm', hv, hk⟩ := h c
  obtain ⟨a0, a1, a2, a3⟩ := hm c
  obtain ⟨eg, ed, em, ev⟩ := composed (stepped (F := Ideal) m c) Cert.ReferenceUIIdeal.Gen.reducesTo_S8x4096x640_S4096x640_d0
    Cert.ReferenceUIIdeal.Gen.h_S_ ![] Cert.ReferenceUIIdeal.Gen.bcast_S_S4096x640
  rw [a0, a1, a2, a3]
  exact ⟨hg.trans eg, hd.trans ed, hm'.trans em, hv.trans ev, hk⟩

end Cert.InStep

end
-- ==== Proof.OutStep.lean ====
/-
  The optimizer's step on the mixer's outgoing weight: the frames of the program, of its idealization and of the reference, and
  the comparison with the reference. Each block of rows is stepped element by element, and the blocks fill the arrays.
-/
module

public import proofs.«01_k».proof.Defs
public import proofs.«01_k».proof.Proof.AdamW
public import proofs.«01_k».proof.Proof.Gen.KernelUO
public import proofs.«01_k».proof.Proof.Gen.KernelUOIdeal.Value
public import proofs.«01_k».proof.Proof.Gen.ReferenceUOIdeal
public import proofs.«01_k».proof.Proof.Gen.ReferenceUOIdeal.Run

@[expose] public section

noncomputable section

namespace Cert.OutStep

open Idealize.ShloMosaic Idealize.SL.Sem Idealize.ShloMosaic.TcCoe Cert.AdamW
open Cert.KernelUOIdeal Cert.KernelUOIdeal.Gen Cert.KernelUOIdeal.Value

variable {F : FTy → Type} [FloatOps F]

/-- Each point's block of rows is stepped. -/
theorem block (x0 x1 x2 : Vec F S256x1024 .f32) (x3 : Vec F S8x256x1024 .bf16) :
    Stepped (n := 7) x0 x1 x2 (extf .f32 x3 bitsLt_bf16_f32) (out0_4 x0 x1 x2 x3) (out0_5 x0 x1 x2 x3) (out0_6 x0 x1 x2 x3)
      (out0_7 x0 x1 x2 x3) := fun y => by
  have one (k : Fin 8) (inb) (z : S1x256x1024.Idx) (h1 : z 1 = y 0) (h2 : z 2 = y 1) :
      FloatOps.extf .f32 bitsLt_bf16_f32 (View.ld x3 (Rect.unit (s := S8x256x1024) ![k.val, 0, 0] S1x256x1024.size inb) z)
        = (extf .f32 x3 bitsLt_bf16_f32 : FVec F S8x256x1024 .f32) (ix3 k (y 0) (y 1)) :=
    congrArg (FloatOps.extf .f32 bitsLt_bf16_f32) ((ld_one x3 k inb z).trans (by rw [h1, h2]))
  have l0 : View.ld x0 r0_8 = x0 := ld_whole x0 _
  have l1 : View.ld x1 r0_8 = x1 := ld_whole x1 _
  have l2 : View.ld x2 r0_8 = x2 := ld_whole x2 _
  rw [show out0_4 x0 x1 x2 x3 = k0_pay5 x0 x1 x2 x3 from canon_whole _ _]
  exact ⟨(congrFun (canon_whole _ _) y).symm.trans ((canon4_eq _ _ _ _ _ _ _ _ y).trans (total_eight (one 0 _ _ rfl rfl)
      (one 1 _ _ rfl rfl) (one 2 _ _ rfl rfl) (one 3 _ _ rfl rfl) (one 4 _ _ rfl rfl) (one 5 _ _ rfl rfl) (one 6 _ _ rfl rfl)
      (one 7 _ _ rfl rfl))),
    (congrFun (canon_whole _ _) y).trans (by rw [l0, l1, l2]; rfl),
    (congrFun (canon_whole _ _) y).trans (by rw [l1]; rfl),
    (congrFun (canon_whole _ _) y).trans (by rw [l2]; rfl)⟩

/-- Which block each point reads and writes. -/
theorem index_facts : ∀ t : Fin cfg0.N,
    (win0_0.index t (0 : Fin 2) = t.val ∧ win0_0.index t (1 : Fin 2) = 0)
      ∧ (win0_1.index t (0 : Fin 2) = t.val ∧ win0_1.index t (1 : Fin 2) = 0)
      ∧ (win0_2.index t (0 : Fin 2) = t.val ∧ win0_2.index t (1 : Fin 2) = 0)
      ∧ (win0_3.index t (0 : Fin 3) = 0 ∧ win0_3.index t (1 : Fin 3) = t.val ∧ win0_3.index t (2 : Fin 3) = 0)
      ∧ (win0_4.index t (0 : Fin 2) = t.val ∧ win0_4.index t (1 : Fin 2) = 0)
      ∧ (win0_5.index t (0 : Fin 2) = t.val ∧ win0_5.index t (1 : Fin 2) = 0)
      ∧ (win0_6.index t (0 : Fin 2) = t.val ∧ win0_6.index t (1 : Fin 2) = 0)
      ∧ (win0_7.index t (0 : Fin 2) = t.val ∧ win0_7.index t (1 : Fin 2) = 0) :=
  (by decide +kernel : ∀ t : Fin grid0.N, _)

/-- Every point writes its blocks back. -/
theorem flush_facts : ∀ t : Fin cfg0.N, (cfg0.win 4).flush t = true ∧ (cfg0.win 5).flush t = true ∧ (cfg0.win 6).flush t = true
    ∧ (cfg0.win 7).flush t = true :=
  (by decide +kernel : ∀ t : Fin grid0.N, win0_4.flush t = true ∧ win0_5.flush t = true ∧ win0_6.flush t = true
    ∧ win0_7.flush t = true)

variable (m : (ℓ : Loc nD τ sig) → Buf (Elt F) ℓ)

/-- The arrays after the run are stepped. -/
theorem stepped (c : Dev nD) :
    Stepped (r := 512) (w := 1024) (n := 7) (m ((c : Thread nD τ).loc main_arg0)) (m ((c : Thread nD τ).loc main_arg1))
      (m ((c : Thread nD τ).loc main_arg2)) (extf .f32 (m ((c : Thread nD τ).loc main_arg3)) bitsLt_bf16_f32)
      ((dats m 0 c).arrAt 4 cfg0.N) ((dats m 0 c).arrAt 5 cfg0.N) ((dats m 0 c).arrAt 6 cfg0.N) ((dats m 0 c).arrAt 7 cfg0.N) :=
  stepped_of_blocks (N := cfg0.N) (b := 256) (by decide)
    (bx := iblk m c 0) (bm := iblk m c 1) (bv := iblk m c 2) (bp := fun t => extf .f32 (iblk m c 3 t) bitsLt_bf16_f32)
    (fun t _ _ => congrArg (m ((c : Thread nD τ).loc main_arg0)) (at_spot rfl rfl (index_facts t).1.1 (index_facts t).1.2))
    (fun t _ _ => congrArg (m ((c : Thread nD τ).loc main_arg1)) (at_spot rfl rfl (index_facts t).2.1.1 (index_facts t).2.1.2))
    (fun t _ _ => congrArg (m ((c : Thread nD τ).loc main_arg2)) (at_spot rfl rfl (index_facts t).2.2.1.1 (index_facts t).2.2.1.2))
    (fun t _ _ => congrArg (extf .f32 (m ((c : Thread nD τ).loc main_arg3)) bitsLt_bf16_f32)
      (at_spots rfl rfl rfl (index_facts t).2.2.2.1.1 (index_facts t).2.2.2.1.2.1 (index_facts t).2.2.2.1.2.2))
    (fun t h y => (congrArg _ (at_spot rfl rfl (index_facts t).2.2.2.2.1.1 (index_facts t).2.2.2.2.1.2).symm).trans
      (congrFun ((blocks4 m c t (flush_facts t).1).trans (flushed4 m c t)) y))
    (fun t h y => (congrArg _ (at_spot rfl rfl (index_facts t).2.2.2.2.2.1.1 (index_facts t).2.2.2.2.2.1.2).symm).trans
      (congrFun ((blocks5 m c t (flush_facts t).2.1).trans (flushed5 m c t)) y))
    (fun t h y => (congrArg _ (at_spot rfl rfl (index_facts t).2.2.2.2.2.2.1.1 (index_facts t).2.2.2.2.2.2.1.2).symm).trans
      (congrFun ((blocks6 m c t (flush_facts t).2.2.1).trans (flushed6 m c t)) y))
    (fun t h y => (congrArg _ (at_spot rfl rfl (index_facts t).2.2.2.2.2.2.2.1 (index_facts t).2.2.2.2.2.2.2.2).symm).trans
      (congrFun ((blocks7 m c t (flush_facts t).2.2.2).trans (flushed7 m c t)) y))
    (fun t => block (iblk m c 0 t) (iblk m c 1 t) (iblk m c 2 t) (iblk m c 3 t))

/-- The kernel of the program as written is that of its idealization. -/
theorem kernels_eq : Cert.KernelUO.defs₀ (F := Bits) = Cert.KernelUOIdeal.defs₀ (F := Bits) := by
  unfold Cert.KernelUO.defs₀ Cert.KernelUOIdeal.defs₀
  refine congrArg Defs.onTc (funext fun l => funext fun a => ?_)
  match l, a with
  | 0, (t, s) => rfl
  | ⟨_ + 1, h⟩, _ => exact absurd h (Nat.not_lt.2 (Nat.le_add_left _ _))

/-- And so is what its call means. -/
theorem calls_eq : Cert.KernelUO.defs (F := Bits) = Cert.KernelUOIdeal.defs (F := Bits) :=
  congrArg (Pipeline.defs (Cert.KernelUO.pcfgs (F := Bits))) kernels_eq

theorem frame_kernel : Cert.quiescent_KernelUO := fun m ρ _ => by
  rw [calls_eq]
  exact Cert.KernelUOIdeal.Gen.frame (F := Bits) m ρ

theorem frame_ideal : Cert.quiescent_KernelUOIdeal := fun m ρ _ => Cert.KernelUOIdeal.Gen.frame (F := Ideal) m ρ

theorem frame_reference_ideal : Cert.quiescent_ReferenceUOIdeal := fun m ρ _ =>
  (θ_run Cert.ReferenceUOIdeal.defs _ _).mono (fun r h => ⟨fun c => (h c).2.2.2.2, sem_eq_zero_of_no_sems (by decide) r.2⟩)
    (Cert.ReferenceUOIdeal.Value.run (F := Ideal) m ρ)

theorem algebraic : Cert.algebraic_KernelUOIdeal_ReferenceUOIdeal := fun m ρ m' ρ' _ hm => by
  refine ⟨_, _, _, _, ?_, Cert.ReferenceUOIdeal.Value.run (F := Ideal) m' ρ'⟩
  refine (θ_run Cert.KernelUOIdeal.defs _ _).mono (fun r h c => ?_) (run_blocks (F := Ideal) m ρ)
  obtain ⟨hg, hd, hm', hv, hk⟩ := h c
  obtain ⟨a0, a1, a2, a3⟩ := hm c
  obtain ⟨eg, ed, em, ev⟩ := composed (stepped (F := Ideal) m c) Cert.ReferenceUOIdeal.Gen.reducesTo_S8x512x1024_S512x1024_d0
    Cert.ReferenceUOIdeal.Gen.h_S_ ![] Cert.ReferenceUOIdeal.Gen.bcast_S_S512x1024
  rw [a0, a1, a2, a3]
  exact ⟨hg.trans eg, hd.trans ed, hm'.trans em, hv.trans ev, hk⟩

end Cert.OutStep

end
-- ==== Proof.GateStep.lean ====
/-
  The optimizer's step on the feed-forward layer's incoming weight: the frames of the program, of its idealization and
  of the reference, and the comparison with the reference. Each block of rows is stepped element by element, and the blocks fill
  the arrays.
-/
module

public import proofs.«01_k».proof.Defs
public import proofs.«01_k».proof.Proof.AdamW
public import proofs.«01_k».proof.Proof.Gen.KernelUG
public import proofs.«01_k».proof.Proof.Gen.KernelUGIdeal.Value
public import proofs.«01_k».proof.Proof.Gen.ReferenceUGIdeal
public import proofs.«01_k».proof.Proof.Gen.ReferenceUGIdeal.Run

@[expose] public section

noncomputable section

namespace Cert.GateStep

open Idealize.ShloMosaic Idealize.SL.Sem Idealize.ShloMosaic.TcCoe Cert.AdamW
open Cert.KernelUGIdeal Cert.KernelUGIdeal.Gen Cert.KernelUGIdeal.Value

variable {F : FTy → Type} [FloatOps F]

/-- Each point's block of rows is stepped. -/
theorem block (x0 x1 x2 : Vec F S256x768 .f32) (x3 : Vec F S8x256x768 .bf16) :
    Stepped (n := 7) x0 x1 x2 (extf .f32 x3 bitsLt_bf16_f32) (out0_4 x0 x1 x2 x3) (out0_5 x0 x1 x2 x3) (out0_6 x0 x1 x2 x3)
      (out0_7 x0 x1 x2 x3) := fun y => by
  have one (k : Fin 8) (inb) (z : S1x256x768.Idx) (h1 : z 1 = y 0) (h2 : z 2 = y 1) :
      FloatOps.extf .f32 bitsLt_bf16_f32 (View.ld x3 (Rect.unit (s := S8x256x768) ![k.val, 0, 0] S1x256x768.size inb) z)
        = (extf .f32 x3 bitsLt_bf16_f32 : FVec F S8x256x768 .f32) (ix3 k (y 0) (y 1)) :=
    congrArg (FloatOps.extf .f32 bitsLt_bf16_f32) ((ld_one x3 k inb z).trans (by rw [h1, h2]))
  have l0 : View.ld x0 r0_8 = x0 := ld_whole x0 _
  have l1 : View.ld x1 r0_8 = x1 := ld_whole x1 _
  have l2 : View.ld x2 r0_8 = x2 := ld_whole x2 _
  rw [show out0_4 x0 x1 x2 x3 = k0_pay5 x0 x1 x2 x3 from canon_whole _ _]
  exact ⟨(congrFun (canon_whole _ _) y).symm.trans ((canon4_eq _ _ _ _ _ _ _ _ y).trans (total_eight (one 0 _ _ rfl rfl)
      (one 1 _ _ rfl rfl) (one 2 _ _ rfl rfl) (one 3 _ _ rfl rfl) (one 4 _ _ rfl rfl) (one 5 _ _ rfl rfl) (one 6 _ _ rfl rfl)
      (one 7 _ _ rfl rfl))),
    (congrFun (canon_whole _ _) y).trans (by rw [l0, l1, l2]; rfl),
    (congrFun (canon_whole _ _) y).trans (by rw [l1]; rfl),
    (congrFun (canon_whole _ _) y).trans (by rw [l2]; rfl)⟩

/-- Which block each point reads and writes. -/
theorem index_facts : ∀ t : Fin cfg0.N,
    (win0_0.index t (0 : Fin 2) = t.val ∧ win0_0.index t (1 : Fin 2) = 0)
      ∧ (win0_1.index t (0 : Fin 2) = t.val ∧ win0_1.index t (1 : Fin 2) = 0)
      ∧ (win0_2.index t (0 : Fin 2) = t.val ∧ win0_2.index t (1 : Fin 2) = 0)
      ∧ (win0_3.index t (0 : Fin 3) = 0 ∧ win0_3.index t (1 : Fin 3) = t.val ∧ win0_3.index t (2 : Fin 3) = 0)
      ∧ (win0_4.index t (0 : Fin 2) = t.val ∧ win0_4.index t (1 : Fin 2) = 0)
      ∧ (win0_5.index t (0 : Fin 2) = t.val ∧ win0_5.index t (1 : Fin 2) = 0)
      ∧ (win0_6.index t (0 : Fin 2) = t.val ∧ win0_6.index t (1 : Fin 2) = 0)
      ∧ (win0_7.index t (0 : Fin 2) = t.val ∧ win0_7.index t (1 : Fin 2) = 0) :=
  (by decide +kernel : ∀ t : Fin grid0.N, _)

/-- Every point writes its blocks back. -/
theorem flush_facts : ∀ t : Fin cfg0.N, (cfg0.win 4).flush t = true ∧ (cfg0.win 5).flush t = true ∧ (cfg0.win 6).flush t = true
    ∧ (cfg0.win 7).flush t = true :=
  (by decide +kernel : ∀ t : Fin grid0.N, win0_4.flush t = true ∧ win0_5.flush t = true ∧ win0_6.flush t = true
    ∧ win0_7.flush t = true)

variable (m : (ℓ : Loc nD τ sig) → Buf (Elt F) ℓ)

/-- The arrays after the run are stepped. -/
theorem stepped (c : Dev nD) :
    Stepped (r := 4096) (w := 768) (n := 7) (m ((c : Thread nD τ).loc main_arg0)) (m ((c : Thread nD τ).loc main_arg1))
      (m ((c : Thread nD τ).loc main_arg2)) (extf .f32 (m ((c : Thread nD τ).loc main_arg3)) bitsLt_bf16_f32)
      ((dats m 0 c).arrAt 4 cfg0.N) ((dats m 0 c).arrAt 5 cfg0.N) ((dats m 0 c).arrAt 6 cfg0.N) ((dats m 0 c).arrAt 7 cfg0.N) :=
  stepped_of_blocks (N := cfg0.N) (b := 256) (by decide)
    (bx := iblk m c 0) (bm := iblk m c 1) (bv := iblk m c 2) (bp := fun t => extf .f32 (iblk m c 3 t) bitsLt_bf16_f32)
    (fun t _ _ => congrArg (m ((c : Thread nD τ).loc main_arg0)) (at_spot rfl rfl (index_facts t).1.1 (index_facts t).1.2))
    (fun t _ _ => congrArg (m ((c : Thread nD τ).loc main_arg1)) (at_spot rfl rfl (index_facts t).2.1.1 (index_facts t).2.1.2))
    (fun t _ _ => congrArg (m ((c : Thread nD τ).loc main_arg2)) (at_spot rfl rfl (index_facts t).2.2.1.1 (index_facts t).2.2.1.2))
    (fun t _ _ => congrArg (extf .f32 (m ((c : Thread nD τ).loc main_arg3)) bitsLt_bf16_f32)
      (at_spots rfl rfl rfl (index_facts t).2.2.2.1.1 (index_facts t).2.2.2.1.2.1 (index_facts t).2.2.2.1.2.2))
    (fun t h y => (congrArg _ (at_spot rfl rfl (index_facts t).2.2.2.2.1.1 (index_facts t).2.2.2.2.1.2).symm).trans
      (congrFun ((blocks4 m c t (flush_facts t).1).trans (flushed4 m c t)) y))
    (fun t h y => (congrArg _ (at_spot rfl rfl (index_facts t).2.2.2.2.2.1.1 (index_facts t).2.2.2.2.2.1.2).symm).trans
      (congrFun ((blocks5 m c t (flush_facts t).2.1).trans (flushed5 m c t)) y))
    (fun t h y => (congrArg _ (at_spot rfl rfl (index_facts t).2.2.2.2.2.2.1.1 (index_facts t).2.2.2.2.2.2.1.2).symm).trans
      (congrFun ((blocks6 m c t (flush_facts t).2.2.1).trans (flushed6 m c t)) y))
    (fun t h y => (congrArg _ (at_spot rfl rfl (index_facts t).2.2.2.2.2.2.2.1 (index_facts t).2.2.2.2.2.2.2.2).symm).trans
      (congrFun ((blocks7 m c t (flush_facts t).2.2.2).trans (flushed7 m c t)) y))
    (fun t => block (iblk m c 0 t) (iblk m c 1 t) (iblk m c 2 t) (iblk m c 3 t))

/-- The kernel of the program as written is that of its idealization. -/
theorem kernels_eq : Cert.KernelUG.defs₀ (F := Bits) = Cert.KernelUGIdeal.defs₀ (F := Bits) := by
  unfold Cert.KernelUG.defs₀ Cert.KernelUGIdeal.defs₀
  refine congrArg Defs.onTc (funext fun l => funext fun a => ?_)
  match l, a with
  | 0, (t, s) => rfl
  | ⟨_ + 1, h⟩, _ => exact absurd h (Nat.not_lt.2 (Nat.le_add_left _ _))

/-- And so is what its call means. -/
theorem calls_eq : Cert.KernelUG.defs (F := Bits) = Cert.KernelUGIdeal.defs (F := Bits) :=
  congrArg (Pipeline.defs (Cert.KernelUG.pcfgs (F := Bits))) kernels_eq

theorem frame_kernel : Cert.quiescent_KernelUG := fun m ρ _ => by
  rw [calls_eq]
  exact Cert.KernelUGIdeal.Gen.frame (F := Bits) m ρ

theorem frame_ideal : Cert.quiescent_KernelUGIdeal := fun m ρ _ => Cert.KernelUGIdeal.Gen.frame (F := Ideal) m ρ

theorem frame_reference_ideal : Cert.quiescent_ReferenceUGIdeal := fun m ρ _ =>
  (θ_run Cert.ReferenceUGIdeal.defs _ _).mono (fun r h => ⟨fun c => (h c).2.2.2.2, sem_eq_zero_of_no_sems (by decide) r.2⟩)
    (Cert.ReferenceUGIdeal.Value.run (F := Ideal) m ρ)

theorem algebraic : Cert.algebraic_KernelUGIdeal_ReferenceUGIdeal := fun m ρ m' ρ' _ hm => by
  refine ⟨_, _, _, _, ?_, Cert.ReferenceUGIdeal.Value.run (F := Ideal) m' ρ'⟩
  refine (θ_run Cert.KernelUGIdeal.defs _ _).mono (fun r h c => ?_) (run_blocks (F := Ideal) m ρ)
  obtain ⟨hg, hd, hm', hv, hk⟩ := h c
  obtain ⟨a0, a1, a2, a3⟩ := hm c
  obtain ⟨eg, ed, em, ev⟩ := composed (stepped (F := Ideal) m c) Cert.ReferenceUGIdeal.Gen.reducesTo_S8x4096x768_S4096x768_d0
    Cert.ReferenceUGIdeal.Gen.h_S_ ![] Cert.ReferenceUGIdeal.Gen.bcast_S_S4096x768
  rw [a0, a1, a2, a3]
  exact ⟨hg.trans eg, hd.trans ed, hm'.trans em, hv.trans ev, hk⟩

end Cert.GateStep

end
-- ==== Proof.DownStep.lean ====
/-
  The optimizer's step on the feed-forward layer's outgoing weight: the frames of the program, of its idealization and
  of the reference, and the comparison with the reference. Each block of rows is stepped element by element, and the blocks fill
  the arrays.
-/
module

public import proofs.«01_k».proof.Defs
public import proofs.«01_k».proof.Proof.AdamW
public import proofs.«01_k».proof.Proof.Gen.KernelUF
public import proofs.«01_k».proof.Proof.Gen.KernelUFIdeal.Value
public import proofs.«01_k».proof.Proof.Gen.ReferenceUFIdeal
public import proofs.«01_k».proof.Proof.Gen.ReferenceUFIdeal.Run

@[expose] public section

noncomputable section

namespace Cert.DownStep

open Idealize.ShloMosaic Idealize.SL.Sem Idealize.ShloMosaic.TcCoe Cert.AdamW
open Cert.KernelUFIdeal Cert.KernelUFIdeal.Gen Cert.KernelUFIdeal.Value

variable {F : FTy → Type} [FloatOps F]

/-- Each point's block of rows is stepped. -/
theorem block (x0 x1 x2 : Vec F S352x1024 .f32) (x3 : Vec F S8x352x1024 .bf16) :
    Stepped (n := 7) x0 x1 x2 (extf .f32 x3 bitsLt_bf16_f32) (out0_4 x0 x1 x2 x3) (out0_5 x0 x1 x2 x3) (out0_6 x0 x1 x2 x3)
      (out0_7 x0 x1 x2 x3) := fun y => by
  have one (k : Fin 8) (inb) (z : S1x352x1024.Idx) (h1 : z 1 = y 0) (h2 : z 2 = y 1) :
      FloatOps.extf .f32 bitsLt_bf16_f32 (View.ld x3 (Rect.unit (s := S8x352x1024) ![k.val, 0, 0] S1x352x1024.size inb) z)
        = (extf .f32 x3 bitsLt_bf16_f32 : FVec F S8x352x1024 .f32) (ix3 k (y 0) (y 1)) :=
    congrArg (FloatOps.extf .f32 bitsLt_bf16_f32) ((ld_one x3 k inb z).trans (by rw [h1, h2]))
  have l0 : View.ld x0 r0_8 = x0 := ld_whole x0 _
  have l1 : View.ld x1 r0_8 = x1 := ld_whole x1 _
  have l2 : View.ld x2 r0_8 = x2 := ld_whole x2 _
  rw [show out0_4 x0 x1 x2 x3 = k0_pay5 x0 x1 x2 x3 from canon_whole _ _]
  exact ⟨(congrFun (canon_whole _ _) y).symm.trans ((canon4_eq _ _ _ _ _ _ _ _ y).trans (total_eight (one 0 _ _ rfl rfl)
      (one 1 _ _ rfl rfl) (one 2 _ _ rfl rfl) (one 3 _ _ rfl rfl) (one 4 _ _ rfl rfl) (one 5 _ _ rfl rfl) (one 6 _ _ rfl rfl)
      (one 7 _ _ rfl rfl))),
    (congrFun (canon_whole _ _) y).trans (by rw [l0, l1, l2]; rfl),
    (congrFun (canon_whole _ _) y).trans (by rw [l1]; rfl),
    (congrFun (canon_whole _ _) y).trans (by rw [l2]; rfl)⟩

/-- Which block each point reads and writes. -/
theorem index_facts : ∀ t : Fin cfg0.N,
    (win0_0.index t (0 : Fin 2) = t.val ∧ win0_0.index t (1 : Fin 2) = 0)
      ∧ (win0_1.index t (0 : Fin 2) = t.val ∧ win0_1.index t (1 : Fin 2) = 0)
      ∧ (win0_2.index t (0 : Fin 2) = t.val ∧ win0_2.index t (1 : Fin 2) = 0)
      ∧ (win0_3.index t (0 : Fin 3) = 0 ∧ win0_3.index t (1 : Fin 3) = t.val ∧ win0_3.index t (2 : Fin 3) = 0)
      ∧ (win0_4.index t (0 : Fin 2) = t.val ∧ win0_4.index t (1 : Fin 2) = 0)
      ∧ (win0_5.index t (0 : Fin 2) = t.val ∧ win0_5.index t (1 : Fin 2) = 0)
      ∧ (win0_6.index t (0 : Fin 2) = t.val ∧ win0_6.index t (1 : Fin 2) = 0)
      ∧ (win0_7.index t (0 : Fin 2) = t.val ∧ win0_7.index t (1 : Fin 2) = 0) :=
  (by decide +kernel : ∀ t : Fin grid0.N, _)

/-- Every point writes its blocks back. -/
theorem flush_facts : ∀ t : Fin cfg0.N, (cfg0.win 4).flush t = true ∧ (cfg0.win 5).flush t = true ∧ (cfg0.win 6).flush t = true
    ∧ (cfg0.win 7).flush t = true :=
  (by decide +kernel : ∀ t : Fin grid0.N, win0_4.flush t = true ∧ win0_5.flush t = true ∧ win0_6.flush t = true
    ∧ win0_7.flush t = true)

variable (m : (ℓ : Loc nD τ sig) → Buf (Elt F) ℓ)

/-- The arrays after the run are stepped. -/
theorem stepped (c : Dev nD) :
    Stepped (r := 1408) (w := 1024) (n := 7) (m ((c : Thread nD τ).loc main_arg0)) (m ((c : Thread nD τ).loc main_arg1))
      (m ((c : Thread nD τ).loc main_arg2)) (extf .f32 (m ((c : Thread nD τ).loc main_arg3)) bitsLt_bf16_f32)
      ((dats m 0 c).arrAt 4 cfg0.N) ((dats m 0 c).arrAt 5 cfg0.N) ((dats m 0 c).arrAt 6 cfg0.N) ((dats m 0 c).arrAt 7 cfg0.N) :=
  stepped_of_blocks (N := cfg0.N) (b := 352) (by decide)
    (bx := iblk m c 0) (bm := iblk m c 1) (bv := iblk m c 2) (bp := fun t => extf .f32 (iblk m c 3 t) bitsLt_bf16_f32)
    (fun t _ _ => congrArg (m ((c : Thread nD τ).loc main_arg0)) (at_spot rfl rfl (index_facts t).1.1 (index_facts t).1.2))
    (fun t _ _ => congrArg (m ((c : Thread nD τ).loc main_arg1)) (at_spot rfl rfl (index_facts t).2.1.1 (index_facts t).2.1.2))
    (fun t _ _ => congrArg (m ((c : Thread nD τ).loc main_arg2)) (at_spot rfl rfl (index_facts t).2.2.1.1 (index_facts t).2.2.1.2))
    (fun t _ _ => congrArg (extf .f32 (m ((c : Thread nD τ).loc main_arg3)) bitsLt_bf16_f32)
      (at_spots rfl rfl rfl (index_facts t).2.2.2.1.1 (index_facts t).2.2.2.1.2.1 (index_facts t).2.2.2.1.2.2))
    (fun t h y => (congrArg _ (at_spot rfl rfl (index_facts t).2.2.2.2.1.1 (index_facts t).2.2.2.2.1.2).symm).trans
      (congrFun ((blocks4 m c t (flush_facts t).1).trans (flushed4 m c t)) y))
    (fun t h y => (congrArg _ (at_spot rfl rfl (index_facts t).2.2.2.2.2.1.1 (index_facts t).2.2.2.2.2.1.2).symm).trans
      (congrFun ((blocks5 m c t (flush_facts t).2.1).trans (flushed5 m c t)) y))
    (fun t h y => (congrArg _ (at_spot rfl rfl (index_facts t).2.2.2.2.2.2.1.1 (index_facts t).2.2.2.2.2.2.1.2).symm).trans
      (congrFun ((blocks6 m c t (flush_facts t).2.2.1).trans (flushed6 m c t)) y))
    (fun t h y => (congrArg _ (at_spot rfl rfl (index_facts t).2.2.2.2.2.2.2.1 (index_facts t).2.2.2.2.2.2.2.2).symm).trans
      (congrFun ((blocks7 m c t (flush_facts t).2.2.2).trans (flushed7 m c t)) y))
    (fun t => block (iblk m c 0 t) (iblk m c 1 t) (iblk m c 2 t) (iblk m c 3 t))

/-- The kernel of the program as written is that of its idealization. -/
theorem kernels_eq : Cert.KernelUF.defs₀ (F := Bits) = Cert.KernelUFIdeal.defs₀ (F := Bits) := by
  unfold Cert.KernelUF.defs₀ Cert.KernelUFIdeal.defs₀
  refine congrArg Defs.onTc (funext fun l => funext fun a => ?_)
  match l, a with
  | 0, (t, s) => rfl
  | ⟨_ + 1, h⟩, _ => exact absurd h (Nat.not_lt.2 (Nat.le_add_left _ _))

/-- And so is what its call means. -/
theorem calls_eq : Cert.KernelUF.defs (F := Bits) = Cert.KernelUFIdeal.defs (F := Bits) :=
  congrArg (Pipeline.defs (Cert.KernelUF.pcfgs (F := Bits))) kernels_eq

theorem frame_kernel : Cert.quiescent_KernelUF := fun m ρ _ => by
  rw [calls_eq]
  exact Cert.KernelUFIdeal.Gen.frame (F := Bits) m ρ

theorem frame_ideal : Cert.quiescent_KernelUFIdeal := fun m ρ _ => Cert.KernelUFIdeal.Gen.frame (F := Ideal) m ρ

theorem frame_reference_ideal : Cert.quiescent_ReferenceUFIdeal := fun m ρ _ =>
  (θ_run Cert.ReferenceUFIdeal.defs _ _).mono (fun r h => ⟨fun c => (h c).2.2.2.2, sem_eq_zero_of_no_sems (by decide) r.2⟩)
    (Cert.ReferenceUFIdeal.Value.run (F := Ideal) m ρ)

theorem algebraic : Cert.algebraic_KernelUFIdeal_ReferenceUFIdeal := fun m ρ m' ρ' _ hm => by
  refine ⟨_, _, _, _, ?_, Cert.ReferenceUFIdeal.Value.run (F := Ideal) m' ρ'⟩
  refine (θ_run Cert.KernelUFIdeal.defs _ _).mono (fun r h c => ?_) (run_blocks (F := Ideal) m ρ)
  obtain ⟨hg, hd, hm', hv, hk⟩ := h c
  obtain ⟨a0, a1, a2, a3⟩ := hm c
  obtain ⟨eg, ed, em, ev⟩ := composed (stepped (F := Ideal) m c) Cert.ReferenceUFIdeal.Gen.reducesTo_S8x1408x1024_S1408x1024_d0
    Cert.ReferenceUFIdeal.Gen.h_S_ ![] Cert.ReferenceUFIdeal.Gen.bcast_S_S1408x1024
  rw [a0, a1, a2, a3]
  exact ⟨hg.trans eg, hd.trans ed, hm'.trans em, hv.trans ev, hk⟩

end Cert.DownStep

end
-- ==== Proof.ModStep.lean ====
/-
  The optimizer's step on the modulation's weight, whose gradient each device holds whole: the frames of the program, of its
  idealization and of the reference, and the comparison with the reference. Each block of rows is stepped element by element, and
  the blocks fill the arrays.
-/
module

public import proofs.«01_k».proof.Defs
public import proofs.«01_k».proof.Proof.AdamW
public import proofs.«01_k».proof.Proof.Gen.KernelUM
public import proofs.«01_k».proof.Proof.Gen.KernelUMIdeal.Value
public import proofs.«01_k».proof.Proof.Gen.ReferenceUMIdeal
public import proofs.«01_k».proof.Proof.Gen.ReferenceUMIdeal.Run

@[expose] public section

noncomputable section

namespace Cert.ModStep

open Idealize.ShloMosaic Idealize.SL.Sem Idealize.ShloMosaic.TcCoe Cert.AdamW
open Cert.KernelUMIdeal Cert.KernelUMIdeal.Gen Cert.KernelUMIdeal.Value

variable {F : FTy → Type} [FloatOps F]

/-- Each point's block of rows is stepped. -/
theorem block (x0 x1 x2 : Vec F S256x768 .f32) (x3 : Vec F S1x256x768 .f32) :
    Stepped (n := 0) x0 x1 x2 x3 (out0_4 x0 x1 x2 x3) (out0_5 x0 x1 x2 x3) (out0_6 x0 x1 x2 x3)
      (out0_7 x0 x1 x2 x3) := fun y => by
  have one : View.ld x3 r0_0 (ix4_0 y) = x3 (ix3 0 (y 0) (y 1)) := ld_one (n := 1) (r := 256) (w := 768) x3 0 _ (ix4_0 y)
  have l0 : View.ld x0 r0_1 = x0 := ld_whole x0 _
  have l1 : View.ld x1 r0_1 = x1 := ld_whole x1 _
  have l2 : View.ld x2 r0_1 = x2 := ld_whole x2 _
  have whole : out0_4 x0 x1 x2 x3 = k0_pay1 (View.ld x3 r0_0) := canon_whole _ _
  have laid : out0_4 x0 x1 x2 x3 y = View.ld x3 r0_0 (ix4_0 y) := canon4_eq (View.ld x3 r0_0) y
  have first : k0_pay1 (View.ld x3 r0_0) y = x3 (ix3 0 (y 0) (y 1)) := (congrFun whole y).symm.trans (laid.trans one)
  rw [whole]
  exact ⟨first,
    (congrFun (canon_whole _ _) y).trans (by rw [l0, l1, l2]; rfl),
    (congrFun (canon_whole _ _) y).trans (by rw [l1]; rfl),
    (congrFun (canon_whole _ _) y).trans (by rw [l2]; rfl)⟩

/-- Which block each point reads and writes. -/
theorem index_facts : ∀ t : Fin cfg0.N,
    (win0_0.index t (0 : Fin 2) = t.val ∧ win0_0.index t (1 : Fin 2) = 0)
      ∧ (win0_1.index t (0 : Fin 2) = t.val ∧ win0_1.index t (1 : Fin 2) = 0)
      ∧ (win0_2.index t (0 : Fin 2) = t.val ∧ win0_2.index t (1 : Fin 2) = 0)
      ∧ (win0_3.index t (0 : Fin 3) = 0 ∧ win0_3.index t (1 : Fin 3) = t.val ∧ win0_3.index t (2 : Fin 3) = 0)
      ∧ (win0_4.index t (0 : Fin 2) = t.val ∧ win0_4.index t (1 : Fin 2) = 0)
      ∧ (win0_5.index t (0 : Fin 2) = t.val ∧ win0_5.index t (1 : Fin 2) = 0)
      ∧ (win0_6.index t (0 : Fin 2) = t.val ∧ win0_6.index t (1 : Fin 2) = 0)
      ∧ (win0_7.index t (0 : Fin 2) = t.val ∧ win0_7.index t (1 : Fin 2) = 0) :=
  (by decide +kernel : ∀ t : Fin grid0.N, _)

/-- Every point writes its blocks back. -/
theorem flush_facts : ∀ t : Fin cfg0.N, (cfg0.win 4).flush t = true ∧ (cfg0.win 5).flush t = true ∧ (cfg0.win 6).flush t = true
    ∧ (cfg0.win 7).flush t = true :=
  (by decide +kernel : ∀ t : Fin grid0.N, win0_4.flush t = true ∧ win0_5.flush t = true ∧ win0_6.flush t = true
    ∧ win0_7.flush t = true)

variable (m : (ℓ : Loc nD τ sig) → Buf (Elt F) ℓ)

/-- The arrays after the run are stepped. -/
theorem stepped (c : Dev nD) :
    Stepped (r := 4096) (w := 768) (n := 0) (m ((c : Thread nD τ).loc main_arg0)) (m ((c : Thread nD τ).loc main_arg1))
      (m ((c : Thread nD τ).loc main_arg2)) (m ((c : Thread nD τ).loc main_arg3))
      ((dats m 0 c).arrAt 4 cfg0.N) ((dats m 0 c).arrAt 5 cfg0.N) ((dats m 0 c).arrAt 6 cfg0.N) ((dats m 0 c).arrAt 7 cfg0.N) :=
  stepped_of_blocks (N := cfg0.N) (b := 256) (by decide)
    (bx := iblk m c 0) (bm := iblk m c 1) (bv := iblk m c 2) (bp := iblk m c 3)
    (fun t _ _ => congrArg (m ((c : Thread nD τ).loc main_arg0)) (at_spot rfl rfl (index_facts t).1.1 (index_facts t).1.2))
    (fun t _ _ => congrArg (m ((c : Thread nD τ).loc main_arg1)) (at_spot rfl rfl (index_facts t).2.1.1 (index_facts t).2.1.2))
    (fun t _ _ => congrArg (m ((c : Thread nD τ).loc main_arg2)) (at_spot rfl rfl (index_facts t).2.2.1.1 (index_facts t).2.2.1.2))
    (fun t _ _ => congrArg (m ((c : Thread nD τ).loc main_arg3))
      (at_spots rfl rfl rfl (index_facts t).2.2.2.1.1 (index_facts t).2.2.2.1.2.1 (index_facts t).2.2.2.1.2.2))
    (fun t h y => (congrArg _ (at_spot rfl rfl (index_facts t).2.2.2.2.1.1 (index_facts t).2.2.2.2.1.2).symm).trans
      (congrFun ((blocks4 m c t (flush_facts t).1).trans (flushed4 m c t)) y))
    (fun t h y => (congrArg _ (at_spot rfl rfl (index_facts t).2.2.2.2.2.1.1 (index_facts t).2.2.2.2.2.1.2).symm).trans
      (congrFun ((blocks5 m c t (flush_facts t).2.1).trans (flushed5 m c t)) y))
    (fun t h y => (congrArg _ (at_spot rfl rfl (index_facts t).2.2.2.2.2.2.1.1 (index_facts t).2.2.2.2.2.2.1.2).symm).trans
      (congrFun ((blocks6 m c t (flush_facts t).2.2.1).trans (flushed6 m c t)) y))
    (fun t h y => (congrArg _ (at_spot rfl rfl (index_facts t).2.2.2.2.2.2.2.1 (index_facts t).2.2.2.2.2.2.2.2).symm).trans
      (congrFun ((blocks7 m c t (flush_facts t).2.2.2).trans (flushed7 m c t)) y))
    (fun t => block (iblk m c 0 t) (iblk m c 1 t) (iblk m c 2 t) (iblk m c 3 t))

/-- The kernel of the program as written is that of its idealization. -/
theorem kernels_eq : Cert.KernelUM.defs₀ (F := Bits) = Cert.KernelUMIdeal.defs₀ (F := Bits) := by
  unfold Cert.KernelUM.defs₀ Cert.KernelUMIdeal.defs₀
  refine congrArg Defs.onTc (funext fun l => funext fun a => ?_)
  match l, a with
  | 0, (t, s) => rfl
  | ⟨_ + 1, h⟩, _ => exact absurd h (Nat.not_lt.2 (Nat.le_add_left _ _))

/-- And so is what its call means. -/
theorem calls_eq : Cert.KernelUM.defs (F := Bits) = Cert.KernelUMIdeal.defs (F := Bits) :=
  congrArg (Pipeline.defs (Cert.KernelUM.pcfgs (F := Bits))) kernels_eq

theorem frame_kernel : Cert.quiescent_KernelUM := fun m ρ _ => by
  rw [calls_eq]
  exact Cert.KernelUMIdeal.Gen.frame (F := Bits) m ρ

theorem frame_ideal : Cert.quiescent_KernelUMIdeal := fun m ρ _ => Cert.KernelUMIdeal.Gen.frame (F := Ideal) m ρ

theorem frame_reference_ideal : Cert.quiescent_ReferenceUMIdeal := fun m ρ _ =>
  (θ_run Cert.ReferenceUMIdeal.defs _ _).mono (fun r h => ⟨fun c => (h c).2.2.2.2, sem_eq_zero_of_no_sems (by decide) r.2⟩)
    (Cert.ReferenceUMIdeal.Value.run (F := Ideal) m ρ)

theorem algebraic : Cert.algebraic_KernelUMIdeal_ReferenceUMIdeal := fun m ρ m' ρ' _ hm => by
  refine ⟨_, _, _, _, ?_, Cert.ReferenceUMIdeal.Value.run (F := Ideal) m' ρ'⟩
  refine (θ_run Cert.KernelUMIdeal.defs _ _).mono (fun r h c => ?_) (run_blocks (F := Ideal) m ρ)
  obtain ⟨hg, hd, hm', hv, hk⟩ := h c
  obtain ⟨a0, a1, a2, a3⟩ := hm c
  obtain ⟨eg, ed, em, ev⟩ := composed (stepped (F := Ideal) m c) Cert.ReferenceUMIdeal.Gen.reducesTo_S1x4096x768_S4096x768_d0
    Cert.ReferenceUMIdeal.Gen.h_S_ ![] Cert.ReferenceUMIdeal.Gen.bcast_S_S4096x768
  rw [a0, a1, a2, a3]
  exact ⟨hg.trans eg, hd.trans ed, hm'.trans em, hv.trans ev, hk⟩

end Cert.ModStep

end
-- ==== Proof.ConvStep.lean ====
/-
  The optimizer's step on the convolution's weight: the frames of the program, of its idealization and of the reference, and
  the comparison with the reference. Each block of rows is stepped element by element, and the blocks fill the arrays.
-/
module

public import proofs.«01_k».proof.Defs
public import proofs.«01_k».proof.Proof.AdamW
public import proofs.«01_k».proof.Proof.Gen.KernelUC
public import proofs.«01_k».proof.Proof.Gen.KernelUCIdeal.Value
public import proofs.«01_k».proof.Proof.Gen.ReferenceUCIdeal
public import proofs.«01_k».proof.Proof.Gen.ReferenceUCIdeal.Run

@[expose] public section

noncomputable section

namespace Cert.ConvStep

open Idealize.ShloMosaic Idealize.SL.Sem Idealize.ShloMosaic.TcCoe Cert.AdamW
open Cert.KernelUCIdeal Cert.KernelUCIdeal.Gen Cert.KernelUCIdeal.Value

variable {F : FTy → Type} [FloatOps F]

/-- Each point's block of rows is stepped. -/
theorem block (x0 x1 x2 : Vec F S16x256 .f32) (x3 : Vec F S8x16x256 .f32) :
    Stepped (n := 7) x0 x1 x2 x3 (out0_4 x0 x1 x2 x3) (out0_5 x0 x1 x2 x3) (out0_6 x0 x1 x2 x3)
      (out0_7 x0 x1 x2 x3) := fun y => by
  have one (k : Fin 8) (inb) (z : S1x16x256.Idx) (h1 : z 1 = y 0) (h2 : z 2 = y 1) :
      View.ld x3 (Rect.unit (s := S8x16x256) ![k.val, 0, 0] S1x16x256.size inb) z = x3 (ix3 k (y 0) (y 1)) :=
    (ld_one x3 k inb z).trans (by rw [h1, h2])
  have l0 : View.ld x0 r0_8 = x0 := ld_whole x0 _
  have l1 : View.ld x1 r0_8 = x1 := ld_whole x1 _
  have l2 : View.ld x2 r0_8 = x2 := ld_whole x2 _
  rw [show out0_4 x0 x1 x2 x3 = k0_pay7 x0 x1 x2 x3 from canon_whole _ _]
  exact ⟨(congrFun (canon_whole _ _) y).symm.trans ((canon4_eq _ _ _ _ _ _ _ _ y).trans (total_eight (one 0 _ _ rfl rfl)
      (one 1 _ _ rfl rfl) (one 2 _ _ rfl rfl) (one 3 _ _ rfl rfl) (one 4 _ _ rfl rfl) (one 5 _ _ rfl rfl) (one 6 _ _ rfl rfl)
      (one 7 _ _ rfl rfl))),
    (congrFun (canon_whole _ _) y).trans (by unfold k0_pay8; rw [l0, l1, l2]; rfl),
    (congrFun (canon_whole _ _) y).trans (by unfold k0_pay8; rw [l1]; rfl),
    (congrFun (canon_whole _ _) y).trans (by rw [l2]; rfl)⟩

/-- Which block each point reads and writes. -/
theorem index_facts : ∀ t : Fin cfg0.N,
    (win0_0.index t (0 : Fin 2) = t.val ∧ win0_0.index t (1 : Fin 2) = 0)
      ∧ (win0_1.index t (0 : Fin 2) = t.val ∧ win0_1.index t (1 : Fin 2) = 0)
      ∧ (win0_2.index t (0 : Fin 2) = t.val ∧ win0_2.index t (1 : Fin 2) = 0)
      ∧ (win0_3.index t (0 : Fin 3) = 0 ∧ win0_3.index t (1 : Fin 3) = t.val ∧ win0_3.index t (2 : Fin 3) = 0)
      ∧ (win0_4.index t (0 : Fin 2) = t.val ∧ win0_4.index t (1 : Fin 2) = 0)
      ∧ (win0_5.index t (0 : Fin 2) = t.val ∧ win0_5.index t (1 : Fin 2) = 0)
      ∧ (win0_6.index t (0 : Fin 2) = t.val ∧ win0_6.index t (1 : Fin 2) = 0)
      ∧ (win0_7.index t (0 : Fin 2) = t.val ∧ win0_7.index t (1 : Fin 2) = 0) :=
  (by decide +kernel : ∀ t : Fin grid0.N, _)

/-- Every point writes its blocks back. -/
theorem flush_facts : ∀ t : Fin cfg0.N, (cfg0.win 4).flush t = true ∧ (cfg0.win 5).flush t = true ∧ (cfg0.win 6).flush t = true
    ∧ (cfg0.win 7).flush t = true :=
  (by decide +kernel : ∀ t : Fin grid0.N, win0_4.flush t = true ∧ win0_5.flush t = true ∧ win0_6.flush t = true
    ∧ win0_7.flush t = true)

variable (m : (ℓ : Loc nD τ sig) → Buf (Elt F) ℓ)

/-- The arrays after the run are stepped. -/
theorem stepped (c : Dev nD) :
    Stepped (r := 16) (w := 256) (n := 7) (m ((c : Thread nD τ).loc main_arg0)) (m ((c : Thread nD τ).loc main_arg1))
      (m ((c : Thread nD τ).loc main_arg2)) (m ((c : Thread nD τ).loc main_arg3))
      ((dats m 0 c).arrAt 4 cfg0.N) ((dats m 0 c).arrAt 5 cfg0.N) ((dats m 0 c).arrAt 6 cfg0.N) ((dats m 0 c).arrAt 7 cfg0.N) :=
  stepped_of_blocks (N := cfg0.N) (b := 16) (by decide)
    (bx := iblk m c 0) (bm := iblk m c 1) (bv := iblk m c 2) (bp := iblk m c 3)
    (fun t _ _ => congrArg (m ((c : Thread nD τ).loc main_arg0)) (at_spot rfl rfl (index_facts t).1.1 (index_facts t).1.2))
    (fun t _ _ => congrArg (m ((c : Thread nD τ).loc main_arg1)) (at_spot rfl rfl (index_facts t).2.1.1 (index_facts t).2.1.2))
    (fun t _ _ => congrArg (m ((c : Thread nD τ).loc main_arg2)) (at_spot rfl rfl (index_facts t).2.2.1.1 (index_facts t).2.2.1.2))
    (fun t _ _ => congrArg (m ((c : Thread nD τ).loc main_arg3))
      (at_spots rfl rfl rfl (index_facts t).2.2.2.1.1 (index_facts t).2.2.2.1.2.1 (index_facts t).2.2.2.1.2.2))
    (fun t h y => (congrArg _ (at_spot rfl rfl (index_facts t).2.2.2.2.1.1 (index_facts t).2.2.2.2.1.2).symm).trans
      (congrFun ((blocks4 m c t (flush_facts t).1).trans (flushed4 m c t)) y))
    (fun t h y => (congrArg _ (at_spot rfl rfl (index_facts t).2.2.2.2.2.1.1 (index_facts t).2.2.2.2.2.1.2).symm).trans
      (congrFun ((blocks5 m c t (flush_facts t).2.1).trans (flushed5 m c t)) y))
    (fun t h y => (congrArg _ (at_spot rfl rfl (index_facts t).2.2.2.2.2.2.1.1 (index_facts t).2.2.2.2.2.2.1.2).symm).trans
      (congrFun ((blocks6 m c t (flush_facts t).2.2.1).trans (flushed6 m c t)) y))
    (fun t h y => (congrArg _ (at_spot rfl rfl (index_facts t).2.2.2.2.2.2.2.1 (index_facts t).2.2.2.2.2.2.2.2).symm).trans
      (congrFun ((blocks7 m c t (flush_facts t).2.2.2).trans (flushed7 m c t)) y))
    (fun t => block (iblk m c 0 t) (iblk m c 1 t) (iblk m c 2 t) (iblk m c 3 t))

/-- The kernel of the program as written is that of its idealization. -/
theorem kernels_eq : Cert.KernelUC.defs₀ (F := Bits) = Cert.KernelUCIdeal.defs₀ (F := Bits) := by
  unfold Cert.KernelUC.defs₀ Cert.KernelUCIdeal.defs₀
  refine congrArg Defs.onTc (funext fun l => funext fun a => ?_)
  match l, a with
  | 0, (t, s) => rfl
  | ⟨_ + 1, h⟩, _ => exact absurd h (Nat.not_lt.2 (Nat.le_add_left _ _))

/-- And so is what its call means. -/
theorem calls_eq : Cert.KernelUC.defs (F := Bits) = Cert.KernelUCIdeal.defs (F := Bits) :=
  congrArg (Pipeline.defs (Cert.KernelUC.pcfgs (F := Bits))) kernels_eq

theorem frame_kernel : Cert.quiescent_KernelUC := fun m ρ _ => by
  rw [calls_eq]
  exact Cert.KernelUCIdeal.Gen.frame (F := Bits) m ρ

theorem frame_ideal : Cert.quiescent_KernelUCIdeal := fun m ρ _ => Cert.KernelUCIdeal.Gen.frame (F := Ideal) m ρ

theorem frame_reference_ideal : Cert.quiescent_ReferenceUCIdeal := fun m ρ _ =>
  (θ_run Cert.ReferenceUCIdeal.defs _ _).mono (fun r h => ⟨fun c => (h c).2.2.2.2, sem_eq_zero_of_no_sems (by decide) r.2⟩)
    (Cert.ReferenceUCIdeal.Value.run (F := Ideal) m ρ)

theorem algebraic : Cert.algebraic_KernelUCIdeal_ReferenceUCIdeal := fun m ρ m' ρ' _ hm => by
  refine ⟨_, _, _, _, ?_, Cert.ReferenceUCIdeal.Value.run (F := Ideal) m' ρ'⟩
  refine (θ_run Cert.KernelUCIdeal.defs _ _).mono (fun r h c => ?_) (run_blocks (F := Ideal) m ρ)
  obtain ⟨hg, hd, hm', hv, hk⟩ := h c
  obtain ⟨a0, a1, a2, a3⟩ := hm c
  obtain ⟨eg, ed, em, ev⟩ := composed (stepped (F := Ideal) m c) Cert.ReferenceUCIdeal.Gen.reducesTo_S8x16x256_S16x256_d0
    Cert.ReferenceUCIdeal.Gen.h_S_ ![] Cert.ReferenceUCIdeal.Gen.bcast_S_S16x256
  rw [a0, a1, a2, a3]
  exact ⟨hg.trans eg, hd.trans ed, hm'.trans em, hv.trans ev, hk⟩

end Cert.ConvStep

end
-- ==== Proof.SmallStep.lean ====
/-
  The optimizer's step on the twelve small weights, packed in one array: the frames of the program, of its idealization and
  of the reference, and the comparison with the reference. Each block of rows is stepped element by element, and the blocks fill
  the arrays.
-/
module

public import proofs.«01_k».proof.Defs
public import proofs.«01_k».proof.Proof.AdamW
public import proofs.«01_k».proof.Proof.Gen.KernelUS
public import proofs.«01_k».proof.Proof.Gen.KernelUSIdeal.Value
public import proofs.«01_k».proof.Proof.Gen.ReferenceUSIdeal
public import proofs.«01_k».proof.Proof.Gen.ReferenceUSIdeal.Run

@[expose] public section

noncomputable section

namespace Cert.SmallStep

open Idealize.ShloMosaic Idealize.SL.Sem Idealize.ShloMosaic.TcCoe Cert.AdamW
open Cert.KernelUSIdeal Cert.KernelUSIdeal.Gen Cert.KernelUSIdeal.Value

variable {F : FTy → Type} [FloatOps F]

/-- Each point's block of rows is stepped. -/
theorem block (x0 x1 x2 : Vec F S800x128 .f32) (x3 : Vec F S8x800x128 .f32) :
    Stepped (n := 7) x0 x1 x2 x3 (out0_4 x0 x1 x2 x3) (out0_5 x0 x1 x2 x3) (out0_6 x0 x1 x2 x3)
      (out0_7 x0 x1 x2 x3) := fun y => by
  have one (k : Fin 8) (inb) (z : S1x800x128.Idx) (h1 : z 1 = y 0) (h2 : z 2 = y 1) :
      View.ld x3 (Rect.unit (s := S8x800x128) ![k.val, 0, 0] S1x800x128.size inb) z = x3 (ix3 k (y 0) (y 1)) :=
    (ld_one x3 k inb z).trans (by rw [h1, h2])
  have l0 : View.ld x0 r0_8 = x0 := ld_whole x0 _
  have l1 : View.ld x1 r0_8 = x1 := ld_whole x1 _
  have l2 : View.ld x2 r0_8 = x2 := ld_whole x2 _
  rw [show out0_4 x0 x1 x2 x3 = k0_pay7 x0 x1 x2 x3 from canon_whole _ _]
  exact ⟨(congrFun (canon_whole _ _) y).symm.trans ((canon4_eq _ _ _ _ _ _ _ _ y).trans (total_eight (one 0 _ _ rfl rfl)
      (one 1 _ _ rfl rfl) (one 2 _ _ rfl rfl) (one 3 _ _ rfl rfl) (one 4 _ _ rfl rfl) (one 5 _ _ rfl rfl) (one 6 _ _ rfl rfl)
      (one 7 _ _ rfl rfl))),
    (congrFun (canon_whole _ _) y).trans (by unfold k0_pay8; rw [l0, l1, l2]; rfl),
    (congrFun (canon_whole _ _) y).trans (by unfold k0_pay8; rw [l1]; rfl),
    (congrFun (canon_whole _ _) y).trans (by rw [l2]; rfl)⟩

/-- Which block each point reads and writes. -/
theorem index_facts : ∀ t : Fin cfg0.N,
    (win0_0.index t (0 : Fin 2) = t.val ∧ win0_0.index t (1 : Fin 2) = 0)
      ∧ (win0_1.index t (0 : Fin 2) = t.val ∧ win0_1.index t (1 : Fin 2) = 0)
      ∧ (win0_2.index t (0 : Fin 2) = t.val ∧ win0_2.index t (1 : Fin 2) = 0)
      ∧ (win0_3.index t (0 : Fin 3) = 0 ∧ win0_3.index t (1 : Fin 3) = t.val ∧ win0_3.index t (2 : Fin 3) = 0)
      ∧ (win0_4.index t (0 : Fin 2) = t.val ∧ win0_4.index t (1 : Fin 2) = 0)
      ∧ (win0_5.index t (0 : Fin 2) = t.val ∧ win0_5.index t (1 : Fin 2) = 0)
      ∧ (win0_6.index t (0 : Fin 2) = t.val ∧ win0_6.index t (1 : Fin 2) = 0)
      ∧ (win0_7.index t (0 : Fin 2) = t.val ∧ win0_7.index t (1 : Fin 2) = 0) :=
  (by decide +kernel : ∀ t : Fin grid0.N, _)

/-- Every point writes its blocks back. -/
theorem flush_facts : ∀ t : Fin cfg0.N, (cfg0.win 4).flush t = true ∧ (cfg0.win 5).flush t = true ∧ (cfg0.win 6).flush t = true
    ∧ (cfg0.win 7).flush t = true :=
  (by decide +kernel : ∀ t : Fin grid0.N, win0_4.flush t = true ∧ win0_5.flush t = true ∧ win0_6.flush t = true
    ∧ win0_7.flush t = true)

variable (m : (ℓ : Loc nD τ sig) → Buf (Elt F) ℓ)

/-- The arrays after the run are stepped. -/
theorem stepped (c : Dev nD) :
    Stepped (r := 2400) (w := 128) (n := 7) (m ((c : Thread nD τ).loc main_arg0)) (m ((c : Thread nD τ).loc main_arg1))
      (m ((c : Thread nD τ).loc main_arg2)) (m ((c : Thread nD τ).loc main_arg3))
      ((dats m 0 c).arrAt 4 cfg0.N) ((dats m 0 c).arrAt 5 cfg0.N) ((dats m 0 c).arrAt 6 cfg0.N) ((dats m 0 c).arrAt 7 cfg0.N) :=
  stepped_of_blocks (N := cfg0.N) (b := 800) (by decide)
    (bx := iblk m c 0) (bm := iblk m c 1) (bv := iblk m c 2) (bp := iblk m c 3)
    (fun t _ _ => congrArg (m ((c : Thread nD τ).loc main_arg0)) (at_spot rfl rfl (index_facts t).1.1 (index_facts t).1.2))
    (fun t _ _ => congrArg (m ((c : Thread nD τ).loc main_arg1)) (at_spot rfl rfl (index_facts t).2.1.1 (index_facts t).2.1.2))
    (fun t _ _ => congrArg (m ((c : Thread nD τ).loc main_arg2)) (at_spot rfl rfl (index_facts t).2.2.1.1 (index_facts t).2.2.1.2))
    (fun t _ _ => congrArg (m ((c : Thread nD τ).loc main_arg3))
      (at_spots rfl rfl rfl (index_facts t).2.2.2.1.1 (index_facts t).2.2.2.1.2.1 (index_facts t).2.2.2.1.2.2))
    (fun t h y => (congrArg _ (at_spot rfl rfl (index_facts t).2.2.2.2.1.1 (index_facts t).2.2.2.2.1.2).symm).trans
      (congrFun ((blocks4 m c t (flush_facts t).1).trans (flushed4 m c t)) y))
    (fun t h y => (congrArg _ (at_spot rfl rfl (index_facts t).2.2.2.2.2.1.1 (index_facts t).2.2.2.2.2.1.2).symm).trans
      (congrFun ((blocks5 m c t (flush_facts t).2.1).trans (flushed5 m c t)) y))
    (fun t h y => (congrArg _ (at_spot rfl rfl (index_facts t).2.2.2.2.2.2.1.1 (index_facts t).2.2.2.2.2.2.1.2).symm).trans
      (congrFun ((blocks6 m c t (flush_facts t).2.2.1).trans (flushed6 m c t)) y))
    (fun t h y => (congrArg _ (at_spot rfl rfl (index_facts t).2.2.2.2.2.2.2.1 (index_facts t).2.2.2.2.2.2.2.2).symm).trans
      (congrFun ((blocks7 m c t (flush_facts t).2.2.2).trans (flushed7 m c t)) y))
    (fun t => block (iblk m c 0 t) (iblk m c 1 t) (iblk m c 2 t) (iblk m c 3 t))

/-- The kernel of the program as written is that of its idealization. -/
theorem kernels_eq : Cert.KernelUS.defs₀ (F := Bits) = Cert.KernelUSIdeal.defs₀ (F := Bits) := by
  unfold Cert.KernelUS.defs₀ Cert.KernelUSIdeal.defs₀
  refine congrArg Defs.onTc (funext fun l => funext fun a => ?_)
  match l, a with
  | 0, (t, s) => rfl
  | ⟨_ + 1, h⟩, _ => exact absurd h (Nat.not_lt.2 (Nat.le_add_left _ _))

/-- And so is what its call means. -/
theorem calls_eq : Cert.KernelUS.defs (F := Bits) = Cert.KernelUSIdeal.defs (F := Bits) :=
  congrArg (Pipeline.defs (Cert.KernelUS.pcfgs (F := Bits))) kernels_eq

theorem frame_kernel : Cert.quiescent_KernelUS := fun m ρ _ => by
  rw [calls_eq]
  exact Cert.KernelUSIdeal.Gen.frame (F := Bits) m ρ

theorem frame_ideal : Cert.quiescent_KernelUSIdeal := fun m ρ _ => Cert.KernelUSIdeal.Gen.frame (F := Ideal) m ρ

theorem frame_reference_ideal : Cert.quiescent_ReferenceUSIdeal := fun m ρ _ =>
  (θ_run Cert.ReferenceUSIdeal.defs _ _).mono (fun r h => ⟨fun c => (h c).2.2.2.2, sem_eq_zero_of_no_sems (by decide) r.2⟩)
    (Cert.ReferenceUSIdeal.Value.run (F := Ideal) m ρ)

theorem algebraic : Cert.algebraic_KernelUSIdeal_ReferenceUSIdeal := fun m ρ m' ρ' _ hm => by
  refine ⟨_, _, _, _, ?_, Cert.ReferenceUSIdeal.Value.run (F := Ideal) m' ρ'⟩
  refine (θ_run Cert.KernelUSIdeal.defs _ _).mono (fun r h c => ?_) (run_blocks (F := Ideal) m ρ)
  obtain ⟨hg, hd, hm', hv, hk⟩ := h c
  obtain ⟨a0, a1, a2, a3⟩ := hm c
  obtain ⟨eg, ed, em, ev⟩ := composed (stepped (F := Ideal) m c) Cert.ReferenceUSIdeal.Gen.reducesTo_S8x2400x128_S2400x128_d0
    Cert.ReferenceUSIdeal.Gen.h_S_ ![] Cert.ReferenceUSIdeal.Gen.bcast_S_S2400x128
  rw [a0, a1, a2, a3]
  exact ⟨hg.trans eg, hd.trans ed, hm'.trans em, hv.trans ev, hk⟩

end Cert.SmallStep

end
-- ==== Proof.Head.lean ====
/-
  The loss head of one device: the frames of the program, of its idealization and of the reference, and the comparison with the
  reference. The kernel walks over eight blocks of rows, writes the slope of each, and adds half the mean squares of the block's
  rows to one array that every point revisits. For exact values half a sum is the sum of the halves, so the eight parts are the
  reference's loss.
-/
module

public import proofs.«01_k».proof.Defs
public import proofs.«01_k».proof.Proof.AdamW
public import proofs.«01_k».proof.Proof.Gen.KernelH
public import proofs.«01_k».proof.Proof.Gen.KernelHIdeal.Frame
public import proofs.«01_k».proof.Proof.Gen.ReferenceHIdeal
public import proofs.«01_k».proof.Proof.Gen.ReferenceHIdeal.Run
public import Idealize.ShloMosaic.Lib.Pointwise
public import Idealize.ShloMosaic.Lib.Pipeline.ValueKit.Acc

@[expose] public section

noncomputable section

namespace Cert.Head

open Idealize.ShloMosaic Idealize.SL.Sem Idealize.ShloMosaic.TcCoe Cert.AdamW
open Cert.KernelHIdeal Cert.KernelHIdeal.Gen

/-! ## One block, and all rows -/

/-- The kernel's and the reference's half. -/
theorem half : Ideal.ofBits .f32 0x3F000000#32 = (((1 : ℝ) / 2 : ℝ) : EReal) := by
  simp [Ideal.ofBits, Ideal.ieee, -EReal.coe_mul]; norm_num

/-- The kernel's factor for a mean over a row. -/
theorem share : Ideal.ofBits .f32 0x3A800000#32 = (((1 : ℝ) / 1024 : ℝ) : EReal) := by
  simp [Ideal.ofBits, Ideal.ieee, -EReal.coe_mul]; norm_num

/-- The reference's divisor. -/
theorem width : Ideal.ofBits .f32 0x44800000#32 = ((1024 : ℝ) : EReal) := by
  simp [Ideal.ofBits, Ideal.ieee, -EReal.coe_mul]; norm_num

/-- The reference's quotient as a product. -/
theorem divided (x : EReal) : Ideal.div x (Ideal.ofBits .f32 0x44800000#32) = x * (((1 : ℝ) / 1024 : ℝ) : EReal) := by
  rw [width]
  exact Ideal.div_coe (by norm_num) x

variable {r w : ℕ}

/-- The mean square of one row's error. -/
def row (y t : (S2 r w).Idx → Ideal .f32) (i : Fin r) : EReal :=
  (∑ j : Fin w, ((y (ix2 i j) : EReal) - t (ix2 i j)) * ((y (ix2 i j) : EReal) - t (ix2 i j))) * (((1 : ℝ) / 1024 : ℝ) : EReal)

/-- Half the sum over the rows. -/
def part (y t : (S2 r w).Idx → Ideal .f32) : EReal := (((1 : ℝ) / 2 : ℝ) : EReal) * ∑ i, row y t i

/-- Half a sum is the sum of the halves. -/
theorem halved {n : ℕ} (f : Fin n → EReal) :
    (((1 : ℝ) / 2 : ℝ) : EReal) * ∑ i, f i = ∑ i, (((1 : ℝ) / 2 : ℝ) : EReal) * f i :=
  map_sum (⟨⟨fun x => (((1 : ℝ) / 2 : ℝ) : EReal) * x, mul_zero _⟩, fun x y =>
    EReal.left_distrib_of_nonneg_of_ne_top (EReal.coe_nonneg.2 (by norm_num)) (EReal.coe_ne_top _) x y⟩ : EReal →+ EReal) f _

/-- The parts of the blocks make up the loss. -/
theorem parts {N b : ℕ} (hr : r = N * b) {y t : (S2 r w).Idx → Ideal .f32} {by' bt : Fin N → (S2 b w).Idx → Ideal .f32}
    (hy : ∀ k h z, by' k z = y (spot k.val h z)) (ht : ∀ k h z, bt k z = t (spot k.val h z)) :
    ∑ k, part (by' k) (bt k) = part y t := by
  unfold part
  rw [← halved]
  refine congrArg _ (Fin.sum_mul_add_congr (fun k i hl => ?_) hr)
  have h : k.val * b + b ≤ r := (Nat.succ_mul _ _).symm.trans_le ((Nat.mul_le_mul_right b k.isLt).trans_eq hr.symm)
  unfold row
  simp only [hy k h, ht k h]
  rfl

/-! ## The kernel -/

/-- What a point adds to each element of the revisited array. -/
theorem pay4 (x0 x1 : Vec Ideal S512x1024 .f32) (a : Vec Ideal S8x128 .f32) (j : S8x128.Idx) :
    k0_pay4 x0 x1 a j = (a j : EReal) + part (r := 512) (w := 1024) x0 x1 := by
  unfold k0_pay4 k0_pay2
  simp only [pointwise]
  rw [half, share]
  rfl

variable (m : (ℓ : Loc nD τ sig) → Buf (Elt Ideal) ℓ)

/-- Which block each point reads and writes. -/
theorem index_facts : ∀ t : Fin cfg0.N,
    (win0_0.index t (0 : Fin 2) = t.val ∧ win0_0.index t (1 : Fin 2) = 0)
      ∧ (win0_1.index t (0 : Fin 2) = t.val ∧ win0_1.index t (1 : Fin 2) = 0)
      ∧ (win0_2.index t (0 : Fin 2) = t.val ∧ win0_2.index t (1 : Fin 2) = 0)
      ∧ (win0_3.index t (0 : Fin 2) = 0 ∧ win0_3.index t (1 : Fin 2) = 0) :=
  (by decide +kernel : ∀ t : Fin grid0.N, _)

/-- What a point reads of the first argument, -/
theorem read0 (c : Dev nD) (t : Fin cfg0.N) (h) (y : S512x1024.Idx) :
    iblk m c 0 t y = m ((c : Thread nD τ).loc main_arg0) (spot (r := 4096) t.val h y) :=
  congrArg (m ((c : Thread nD τ).loc main_arg0)) (at_spot rfl rfl (index_facts t).1.1 (index_facts t).1.2)

/-- and of the second. -/
theorem read1 (c : Dev nD) (t : Fin cfg0.N) (h) (y : S512x1024.Idx) :
    iblk m c 1 t y = m ((c : Thread nD τ).loc main_arg1) (spot (r := 4096) t.val h y) :=
  congrArg (m ((c : Thread nD τ).loc main_arg1)) (at_spot rfl rfl (index_facts t).2.1.1 (index_facts t).2.1.2)

/-- The block of slopes after a point. -/
theorem slopes (c : Dev nD) (t : Fin cfg0.N) : (outsAt0 m c t.val t.isLt).1 = k0_pay3 (iblk m c 0 t) (iblk m c 1 t) := by
  by_cases h : t.val % 8 = 0
  · rw [outsAt0_A m c t h]; frame_out
  · rw [outsAt0_B m c t h]; frame_out

/-- The revisited array after the last point. -/
theorem losses (c : Dev nD) (t : Fin cfg0.N) (ht : t.val + 1 = cfg0.N) (j : S8x128.Idx) :
    (outsAt0 m c t.val t.isLt).2 j
      = part (r := 4096) (w := 1024) (m ((c : Thread nD τ).loc main_arg0)) (m ((c : Thread nD τ).loc main_arg1)) := by
  rw [Pipeline.eq_sum_fin_of_reset_step_apply_last (M := EReal) (fun n h => (outsAt0 m c n h).2) 8 (fun _ => 0)
    (fun t _ => part (r := 512) (w := 1024) (iblk m c 0 t) (iblk m c 1 t))
    (fun t h j => by
      rw [outsAt0_A m c t h]; frame_out; rw [pay4]
      exact congrArg (fun s : EReal => s + _) Ideal.ofBits_zero_f32)
    (fun t h j => by rw [outsAt0_B m c t h]; frame_out; rw [pay4])
    (le_of_eq N_0) t ht j, zero_add]
  exact parts (by decide) (read0 m c) (read1 m c)

/-- The slope of the loss at each element. -/
def slope (y t : (S2 r w).Idx → Ideal .f32) : (S2 r w).Idx → Ideal .f32 := fun i =>
  ((y i : EReal) - t i) * (((1 : ℝ) / 1024 : ℝ) : EReal)

/-- What a point writes of the slope. -/
theorem pay3 (x0 x1 : Vec Ideal S512x1024 .f32) : k0_pay3 x0 x1 = slope (r := 512) (w := 1024) x0 x1 := funext fun j => by
  unfold k0_pay3 k0_pay2
  simp only [pointwise]
  rw [share]
  rfl

/-- Each point writes its block of the whole array of slopes back. -/
theorem blocks2 (c : Dev nD) (t : Fin cfg0.N) : (dats m 0 c).flushed 2 t = ((cfg0.win 2).blk t).view.read (Elt Ideal)
    (slope (r := 4096) (w := 1024) (m ((c : Thread nD τ).loc main_arg0)) (m ((c : Thread nD τ).loc main_arg1))) := by
  have hN : t.val < 8 := lt_of_lt_of_eq t.isLt N_0
  have hl : t.val * 512 + 512 ≤ 4096 := by omega
  show (cfg0.win 2).cut (grid0.coords t) ((dats m 0 c).after 2 t) = _
  rw [after0_2, slopes, pay3]
  funext y
  refine (congrArg₂ (fun a b : EReal => (a - b) * (((1 : ℝ) / 1024 : ℝ) : EReal)) (read0 m c t hl y) (read1 m c t hl y)).trans ?_
  exact congrArg (slope (r := 4096) (w := 1024) (m ((c : Thread nD τ).loc main_arg0)) (m ((c : Thread nD τ).loc main_arg1)))
    (at_spot rfl rfl (index_facts t).2.2.1.1 (index_facts t).2.2.1.2).symm

/-- The last point writes the loss back. -/
theorem blocks3 (c : Dev nD) (t : Fin cfg0.N) (hf : (cfg0.win 3).flush t = true) :
    (dats m 0 c).flushed 3 t = ((cfg0.win 3).blk t).view.read (Elt Ideal) (fun _ : S8x128.Idx =>
      part (r := 4096) (w := 1024) (m ((c : Thread nD τ).loc main_arg0)) (m ((c : Thread nD τ).loc main_arg1))) := by
  have hN : t.val < 8 := lt_of_lt_of_eq t.isLt N_0
  have h7 := (flush0_3 t).mp hf
  show (cfg0.win 3).cut (grid0.coords t) ((dats m 0 c).after 3 t) = _
  rw [after0_3]
  exact funext fun y => losses m c t ((show t.val + 1 = 8 by omega).trans N_0.symm) y

/-- The array of slopes after the run. -/
theorem final2 (c : Dev nD) : (dats m 0 c).arrAt 2 cfg0.N
    = slope (r := 4096) (w := 1024) (m ((c : Thread nD τ).loc main_arg0)) (m ((c : Thread nD τ).loc main_arg1)) :=
  (dats m 0 c).arrAt_eq_of_cover 2 _ (fun t _ => blocks2 m c t) fun i => by
    obtain ⟨t, h, y, rfl⟩ := exists_spot (N := cfg0.N) (r := 4096) (w := 1024) (b := 512) (by decide) i
    have e : ((cfg0.win 2).blk t).view.emb y = spot (r := 4096) t.val h y :=
      at_spot rfl rfl (index_facts t).2.2.1.1 (index_facts t).2.2.1.2
    exact ⟨t, flush0_2 t, e ▸ ((cfg0.win 2).blk t).view.emb_mem_set y⟩

/-- The array of the loss after the run. -/
theorem final3 (c : Dev nD) : (dats m 0 c).arrAt 3 cfg0.N = (fun _ : S8x128.Idx =>
    part (r := 4096) (w := 1024) (m ((c : Thread nD τ).loc main_arg0)) (m ((c : Thread nD τ).loc main_arg1))) :=
  (dats m 0 c).arrAt_eq_of_cover 3 _ (blocks3 m c) fun i => by
    obtain ⟨t, h, y, rfl⟩ := exists_spot (N := 1) (r := 8) (w := 128) (b := 8) (by decide) i
    obtain rfl := Fin.fin_one_eq_zero t
    have h7 : 7 < cfg0.N := (by decide : 7 < 8).trans_eq N_0.symm
    have e : ((cfg0.win 3).blk ⟨7, h7⟩).view.emb y = spot (r := 8) 0 h y :=
      at_spot rfl rfl (index_facts ⟨7, h7⟩).2.2.2.1 (index_facts ⟨7, h7⟩).2.2.2.2
    exact ⟨⟨7, h7⟩, (flush0_3 _).mpr rfl, e ▸ ((cfg0.win 3).blk ⟨7, h7⟩).view.emb_mem_set y⟩

/-! ## The claims -/

/-- The kernel of the program as written is that of its idealization. -/
theorem kernels_eq : Cert.KernelH.defs₀ (F := Bits) = Cert.KernelHIdeal.defs₀ (F := Bits) := by
  unfold Cert.KernelH.defs₀ Cert.KernelHIdeal.defs₀
  refine congrArg Defs.onTc (funext fun l => funext fun a => ?_)
  match l, a with
  | 0, (t, s) => rfl
  | ⟨_ + 1, h⟩, _ => exact absurd h (Nat.not_lt.2 (Nat.le_add_left _ _))

/-- And so is what its call means. -/
theorem calls_eq : Cert.KernelH.defs (F := Bits) = Cert.KernelHIdeal.defs (F := Bits) :=
  congrArg (Pipeline.defs (Cert.KernelH.pcfgs (F := Bits))) kernels_eq

theorem frame_kernel : Cert.quiescent_KernelH := fun m ρ _ => by
  rw [calls_eq]
  exact Cert.KernelHIdeal.Gen.frame (F := Bits) m ρ

theorem frame_ideal : Cert.quiescent_KernelHIdeal := fun m ρ _ => Cert.KernelHIdeal.Gen.frame (F := Ideal) m ρ

theorem frame_reference_ideal : Cert.quiescent_ReferenceHIdeal := fun m ρ _ =>
  (θ_run Cert.ReferenceHIdeal.defs _ _).mono (fun r h => ⟨fun c => (h c).2.2, sem_eq_zero_of_no_sems (by decide) r.2⟩)
    (Cert.ReferenceHIdeal.Value.run (F := Ideal) m ρ)

theorem algebraic : Cert.algebraic_KernelHIdeal_ReferenceHIdeal := fun m ρ m' ρ' _ hm => by
  refine ⟨_, _, ?_, Cert.ReferenceHIdeal.Value.run (F := Ideal) m' ρ'⟩
  refine (θ_run Cert.KernelHIdeal.defs _ _).mono (fun r h c => ?_) (run_main (F := Ideal) m ρ)
  obtain ⟨a0, a1⟩ := hm c
  rw [a0, a1]
  refine ⟨((h c).1 2).trans ((final2 m c).trans (funext fun i => ?_)), ((h c).1 3).trans ((final3 m c).trans (funext fun i => ?_)),
    ((h c).1 0).trans ((dats m 0 c).arrAt_in 0 rfl _), ((h c).1 1).trans ((dats m 0 c).arrAt_in 1 rfl _)⟩
  · exact (divided _).symm
  · simp only [pointwise]
    simp only [divided, half, zero_add]
    rfl

end Cert.Head

end
-- ==== Proof.Modulation.lean ====
/-
  The modulation's columns on one device, for all layers: the frames of the program, of its idealization and of the reference, and
  the comparison with the reference. Each point computes one layer's columns, a product over the width and a bias, and the layers
  fill the array.
-/
module

public import proofs.«01_k».proof.Defs
public import proofs.«01_k».proof.Proof.Gen.KernelC
public import proofs.«01_k».proof.Proof.Gen.KernelCIdeal.Frame
public import proofs.«01_k».proof.Proof.Gen.ReferenceCIdeal
public import proofs.«01_k».proof.Proof.Gen.ReferenceCIdeal.Run
public import Idealize.ShloMosaic.Lib.Pointwise
public import Idealize.ShloMosaic.Lib.Pipeline.ValueKit.Acc
public import Idealize.ShloMosaic.Lib.Pipeline.ValueKit.Geometry

@[expose] public section

noncomputable section

namespace Cert.Modulation

open Idealize.ShloMosaic Idealize.SL.Sem Idealize.ShloMosaic.TcCoe
open Cert.KernelCIdeal Cert.KernelCIdeal.Gen

/-! ## The kernel -/

variable (m : (ℓ : Loc nD τ sig) → Buf (Elt Ideal) ℓ)

/-- Which block each point reads and writes. -/
theorem index_facts : ∀ t : Fin cfg0.N,
    win0_0.index t = ![0, 0] ∧ win0_1.index t = ![t.val, 0, 0] ∧ win0_2.index t = ![t.val, 0, 0] ∧ win0_3.index t = ![t.val, 0, 0] :=
  (by decide +kernel : ∀ t : Fin grid0.N, _)

/-- Every column of the modulation of every layer. -/
def modulated (c : S8x1024.Idx → Ideal .f32) (w : S4x1024x768.Idx → Ideal .f32) (b : S4x1x768.Idx → Ideal .f32) :
    S4x8x768.Idx → Ideal .f32 := fun i =>
  (∑ k : Fin 1024, (c (ix2 (i 1) k) : EReal) * Ideal.logistic (c (ix2 (i 1) k)) * w (ix3 (i 0) k (i 2)) : EReal)
    + b (ix3 (i 0) 0 (i 2))

/-- What a point writes. -/
theorem pay1 (x0 : Vec Ideal S8x1024 .f32) (x1 : Vec Ideal S1x1024x768 .f32) (x2 : Vec Ideal S1x1x768 .f32) (y : S1x8x768.Idx) :
    k0_pay1 x0 x1 x2 y = (∑ k : Fin 1024, (x0 (ix2 (y 1) k) : EReal) * Ideal.logistic (x0 (ix2 (y 1) k)) * x1 (ix3 0 k (y 2)) : EReal)
      + x2 (ix3 0 0 (y 2)) := by
  unfold k0_pay1
  simp only [pointwise]
  exact congrArg (fun s : EReal => s + _) (zero_add _)

/-- The array after the run. -/
theorem final (c : Dev nD) : (dats m 0 c).arrAt 3 cfg0.N
    = modulated (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  rw [pay1]
  blk_simp [iblk]
  obtain ⟨i0, i1, i2, i3⟩ := index_facts t
  have e0 (k : Fin 1024) : (win0_0.blk t).view.emb (ix2 (y 1) k) = ix2 (((win0_3.blk t).view.emb y) 1) k := by
    blk_ext [i0, i3]
  have e1 (k : Fin 1024) : (win0_1.blk t).view.emb (ix3 0 k (y 2))
      = ix3 (((win0_3.blk t).view.emb y) 0) k (((win0_3.blk t).view.emb y) 2) := by
    blk_ext [i1, i3]
  have e2 : (win0_2.blk t).view.emb (ix3 0 0 (y 2))
      = ix3 (((win0_3.blk t).view.emb y) 0) 0 (((win0_3.blk t).view.emb y) 2) := by
    blk_ext [i2, i3]
  simp only [e0, e1, e2]
  rfl

/-! ## The claims -/

/-- The kernel of the program as written is that of its idealization. -/
theorem kernels_eq : Cert.KernelC.defs₀ (F := Bits) = Cert.KernelCIdeal.defs₀ (F := Bits) := by
  unfold Cert.KernelC.defs₀ Cert.KernelCIdeal.defs₀
  refine congrArg Defs.onTc (funext fun l => funext fun a => ?_)
  match l, a with
  | 0, (t, s) => rfl
  | ⟨_ + 1, h⟩, _ => exact absurd h (Nat.not_lt.2 (Nat.le_add_left _ _))

/-- And so is what its call means. -/
theorem calls_eq : Cert.KernelC.defs (F := Bits) = Cert.KernelCIdeal.defs (F := Bits) :=
  congrArg (Pipeline.defs (Cert.KernelC.pcfgs (F := Bits))) kernels_eq

theorem frame_kernel : Cert.quiescent_KernelC := fun m ρ _ => by
  rw [calls_eq]
  exact Cert.KernelCIdeal.Gen.frame (F := Bits) m ρ

theorem frame_ideal : Cert.quiescent_KernelCIdeal := fun m ρ _ => Cert.KernelCIdeal.Gen.frame (F := Ideal) m ρ

theorem frame_reference_ideal : Cert.quiescent_ReferenceCIdeal := fun m ρ _ =>
  (θ_run Cert.ReferenceCIdeal.defs _ _).mono (fun r h => ⟨fun c => (h c).2, sem_eq_zero_of_no_sems (by decide) r.2⟩)
    (Cert.ReferenceCIdeal.Value.run (F := Ideal) m ρ)

theorem algebraic : Cert.algebraic_KernelCIdeal_ReferenceCIdeal := fun m ρ m' ρ' _ hm => by
  refine ⟨_, ?_, Cert.ReferenceCIdeal.Value.run (F := Ideal) m' ρ'⟩
  refine (θ_run Cert.KernelCIdeal.defs _ _).mono (fun r h c => ?_) (run_main (F := Ideal) m ρ)
  obtain ⟨a0, a1, a2⟩ := hm c
  rw [a0, a1, a2]
  refine ⟨((h c).1 3).trans ((final m c).trans (funext fun i => ?_)),
    ((h c).1 0).trans ((dats m 0 c).arrAt_in 0 rfl _), ((h c).1 1).trans ((dats m 0 c).arrAt_in 1 rfl _),
    ((h c).1 2).trans ((dats m 0 c).arrAt_in 2 rfl _)⟩
  simp only [pointwise]
  exact congrArg (fun s : EReal => s + _) ((zero_add _).trans (Finset.sum_congr rfl fun k _ => mul_comm _ _)).symm

end Cert.Modulation

end
-- ==== Proof.ModulationSlope.lean ====
/-
  The gradient of the modulation's weight on one device, for all layers: the frames of the program, of its idealization and of the
  reference, and the comparison with the reference. Each point computes one layer's gradient, a product over the batch, and the
  layers fill the array.
-/
module

public import proofs.«01_k».proof.Defs
public import proofs.«01_k».proof.Proof.Gen.KernelW
public import proofs.«01_k».proof.Proof.Gen.KernelWIdeal.Frame
public import proofs.«01_k».proof.Proof.Gen.ReferenceWIdeal
public import proofs.«01_k».proof.Proof.Gen.ReferenceWIdeal.Run
public import Idealize.ShloMosaic.Lib.Pointwise
public import Idealize.ShloMosaic.Lib.Pipeline.ValueKit.Acc
public import Idealize.ShloMosaic.Lib.Pipeline.ValueKit.Geometry

@[expose] public section

noncomputable section

namespace Cert.ModulationSlope

open Idealize.ShloMosaic Idealize.SL.Sem Idealize.ShloMosaic.TcCoe
open Cert.KernelWIdeal Cert.KernelWIdeal.Gen

/-! ## The kernel -/

variable (m : (ℓ : Loc nD τ sig) → Buf (Elt Ideal) ℓ)

/-- Which block each point reads and writes. -/
theorem index_facts : ∀ t : Fin cfg0.N,
    win0_0.index t = ![0, 0] ∧ win0_1.index t = ![t.val, 0, 0] ∧ win0_2.index t = ![0, t.val, 0, 0] :=
  (by decide +kernel : ∀ t : Fin grid0.N, _)

/-- The slope at every element of the modulation's weight. -/
def slope (c : S8x1024.Idx → Ideal .f32) (d : S4x8x768.Idx → Ideal .f32) : S1x4x1024x768.Idx → Ideal .f32 :=
  fun i => (∑ k : Fin 8, (c (ix2 k (i 2)) : EReal) * Ideal.logistic (c (ix2 k (i 2))) * d (ix3 (i 1) k (i 3)) : EReal)

/-- What a point writes. -/
theorem pay1 (x0 : Vec Ideal S8x1024 .f32) (x1 : Vec Ideal S1x8x768 .f32) (y : S1x1x1024x768.Idx) :
    k0_pay1 x0 x1 y = (∑ k : Fin 8, (x0 (ix2 k (y 2)) : EReal) * Ideal.logistic (x0 (ix2 k (y 2))) * x1 (ix3 0 k (y 3)) : EReal) := by
  unfold k0_pay1
  simp only [pointwise]
  exact zero_add _

/-- The array after the run. -/
theorem final (c : Dev nD) : (dats m 0 c).arrAt 2 cfg0.N
    = slope (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay1]
  blk_simp [iblk]
  obtain ⟨i0, i1, i2⟩ := index_facts t
  have e0 (k : Fin 8) : (win0_0.blk t).view.emb (ix2 k (y 2)) = ix2 k (((win0_2.blk t).view.emb y) 2) := by
    blk_ext [i0, i2]
  have e1 (k : Fin 8) : (win0_1.blk t).view.emb (ix3 0 k (y 3))
      = ix3 (((win0_2.blk t).view.emb y) 1) k (((win0_2.blk t).view.emb y) 3) := by
    blk_ext [i1, i2]
  simp only [e0, e1]
  rfl

/-! ## The claims -/

/-- The kernel of the program as written is that of its idealization. -/
theorem kernels_eq : Cert.KernelW.defs₀ (F := Bits) = Cert.KernelWIdeal.defs₀ (F := Bits) := by
  unfold Cert.KernelW.defs₀ Cert.KernelWIdeal.defs₀
  refine congrArg Defs.onTc (funext fun l => funext fun a => ?_)
  match l, a with
  | 0, (t, s) => rfl
  | ⟨_ + 1, h⟩, _ => exact absurd h (Nat.not_lt.2 (Nat.le_add_left _ _))

/-- And so is what its call means. -/
theorem calls_eq : Cert.KernelW.defs (F := Bits) = Cert.KernelWIdeal.defs (F := Bits) :=
  congrArg (Pipeline.defs (Cert.KernelW.pcfgs (F := Bits))) kernels_eq

theorem frame_kernel : Cert.quiescent_KernelW := fun m ρ _ => by
  rw [calls_eq]
  exact Cert.KernelWIdeal.Gen.frame (F := Bits) m ρ

theorem frame_ideal : Cert.quiescent_KernelWIdeal := fun m ρ _ => Cert.KernelWIdeal.Gen.frame (F := Ideal) m ρ

theorem frame_reference_ideal : Cert.quiescent_ReferenceWIdeal := fun m ρ _ =>
  (θ_run Cert.ReferenceWIdeal.defs _ _).mono (fun r h => ⟨fun c => (h c).2, sem_eq_zero_of_no_sems (by decide) r.2⟩)
    (Cert.ReferenceWIdeal.Value.run (F := Ideal) m ρ)

theorem algebraic : Cert.algebraic_KernelWIdeal_ReferenceWIdeal := fun m ρ m' ρ' _ hm => by
  refine ⟨_, ?_, Cert.ReferenceWIdeal.Value.run (F := Ideal) m' ρ'⟩
  refine (θ_run Cert.KernelWIdeal.defs _ _).mono (fun r h c => ?_) (run_main (F := Ideal) m ρ)
  obtain ⟨a0, a1⟩ := hm c
  rw [a0, a1]
  refine ⟨((h c).1 2).trans ((final m c).trans (funext fun i => ?_)),
    ((h c).1 0).trans ((dats m 0 c).arrAt_in 0 rfl _), ((h c).1 1).trans ((dats m 0 c).arrAt_in 1 rfl _)⟩
  simp only [pointwise]
  exact ((zero_add _).trans (Finset.sum_congr rfl fun k _ => mul_comm _ _)).symm

end Cert.ModulationSlope

end
-- ==== Proof.NormSlope.lean ====
/-
  The gradient of the first normalization and modulation of a layer on one device, the call whose last run writes the gradient of x:
  the frames of the program, of its idealization and of the reference, and the comparison with the reference. The kernel walks over
  eight blocks of rows. Each block's rows of the gradient of x come from the same rows alone, and the gradients of the norm's weight,
  of the scale and of the shift are sums over all rows, which the blocks add up one after the other.
-/
module

public import proofs.«01_k».proof.Defs
public import proofs.«01_k».proof.Proof.Head
public import proofs.«01_k».proof.Proof.Gen.KernelN
public import proofs.«01_k».proof.Proof.Gen.KernelNIdeal.Frame
public import proofs.«01_k».proof.Proof.Gen.ReferenceNIdeal
public import proofs.«01_k».proof.Proof.Gen.ReferenceNIdeal.Run
public import Idealize.ShloMosaic.Lib.Pointwise
public import Idealize.ShloMosaic.Lib.Pipeline.ValueKit.Acc
public import Idealize.ShloMosaic.Lib.Pipeline.ValueKit.Geometry

@[expose] public section

noncomputable section

namespace Cert.NormSlope

open Idealize.ShloMosaic Idealize.SL.Sem Idealize.ShloMosaic.TcCoe Cert.AdamW
open Cert.KernelNIdeal Cert.KernelNIdeal.Gen

/-! ## The gradients, of one block of rows or of all -/

/-- The array of the input, of the slope, or of what is added. -/
abbrev Rows (r : ℕ) : Type := (S2 r 1024).Idx → Ideal .f32

variable {r : ℕ}

/-- The mean square of a row, and the small number added to it. -/
def spread (x : Rows r) (i : Fin r) : EReal :=
  Ideal.div (∑ k : Fin 1024, (x (ix2 i k) * x (ix2 i k) : EReal)) (Ideal.ofBits .f32 0x44800000#32) + Ideal.ofBits .f32 0x358637BD#32

/-- The slope at the normalized input: that of the result times one plus the scale. -/
def scaled (sc : Rows 1) (dh : Rows r) (i : Fin r) (j : Fin 1024) : EReal := dh (ix2 i j) * (1 + sc (ix2 0 j) : EReal)

/-- The slope at the mean square's argument; both programs sum it over an axis of one element. -/
def spreadSlope (x : Rows r) (w sc : Rows 1) (dh : Rows r) (i : Fin r) : EReal :=
  ∑ _k : Fin 1, Ideal.div ((∑ k : Fin 1024, (x (ix2 i k) * (scaled sc dh i k * w (ix2 0 k)) : EReal))
    * (Ideal.ofBits .f32 0xBF000000#32 * Ideal.div (Ideal.rsqrt (spread x i)) (spread x i))) (Ideal.ofBits .f32 0x44800000#32)

/-- The gradient of the input, with what is added to it. -/
def inputSlope (x : Rows r) (w sc : Rows 1) (dh ad : Rows r) : Rows r := fun i =>
  (dh i * (1 + sc (ix2 0 (i 1))) * w (ix2 0 (i 1)) * Ideal.rsqrt (spread x (i 0)) + x i * spreadSlope x w sc dh (i 0)
    + spreadSlope x w sc dh (i 0) * x i + ad i : EReal)

/-- A row's share of the gradient of the norm's weight, -/
def weightTerm (x : Rows r) (sc : Rows 1) (dh : Rows r) (j : Fin 1024) (i : Fin r) : EReal :=
  x (ix2 i j) * Ideal.rsqrt (spread x i) * scaled sc dh i j

/-- of that of the scale, -/
def scaleTerm (x : Rows r) (w : Rows 1) (dh : Rows r) (j : Fin 1024) (i : Fin r) : EReal :=
  x (ix2 i j) * Ideal.rsqrt (spread x i) * w (ix2 0 j) * dh (ix2 i j)

/-- and of that of the shift. -/
def shiftTerm (dh : Rows r) (j : Fin 1024) (i : Fin r) : EReal := dh (ix2 i j)

/-! ## The kernel -/

/-- What a point writes of the gradient of the input, -/
theorem pay1 (x dh ad : Vec Ideal S512x1024 .f32) (w sc : Vec Ideal S1x1024 .f32) :
    k0_pay1 x (k0_pay17 x w sc dh) (k0_pay18 x w sc dh) k0_pay19 ad = inputSlope (r := 512) x w sc dh ad := funext fun y => by
  unfold k0_pay1 k0_pay17 k0_pay18 k0_pay19 k0_pay16 k0_pay14 k0_pay11 k0_pay9 k0_pay8
  simp only [pointwise]
  rfl

/-- what it adds to the gradient of the weight, -/
theorem pay5 (x dh : Vec Ideal S512x1024 .f32) (sc a : Vec Ideal S1x1024 .f32) (y : S1x1024.Idx) :
    k0_pay5 (k0_pay15 x sc dh) a y = (a y + ∑ i, weightTerm (r := 512) x sc dh (y 1) i : EReal) := by
  unfold k0_pay5 k0_pay15 k0_pay14 k0_pay11 k0_pay10 k0_pay9 k0_pay8
  simp only [pointwise]
  rfl

/-- to that of the scale, -/
theorem pay6 (x dh : Vec Ideal S512x1024 .f32) (w a : Vec Ideal S1x1024 .f32) (y : S1x1024.Idx) :
    k0_pay6 (k0_pay13 x w dh) a y = (a y + ∑ i, scaleTerm (r := 512) x w dh (y 1) i : EReal) := by
  unfold k0_pay6 k0_pay13 k0_pay11 k0_pay10 k0_pay9 k0_pay8
  simp only [pointwise]
  rfl

/-- and to that of the shift. -/
theorem pay7 (dh : Vec Ideal S512x1024 .f32) (a : Vec Ideal S1x1024 .f32) (y : S1x1024.Idx) :
    k0_pay7 (k0_pay12 dh) a y = (a y + ∑ i, shiftTerm (r := 512) dh (y 1) i : EReal) := by
  unfold k0_pay7 k0_pay12
  simp only [pointwise]
  rfl

variable (m : (ℓ : Loc nD τ sig) → Buf (Elt Ideal) ℓ)

/-- Which block of rows each point reads and writes; the other arrays are one block. -/
theorem index_facts : ∀ t : Fin cfg0.N,
    win0_0.index t = ![t.val, 0] ∧ win0_1.index t = ![0, 0] ∧ win0_2.index t = ![0, 0] ∧ win0_4.index t = ![t.val, 0]
      ∧ win0_5.index t = ![t.val, 0] ∧ win0_6.index t = ![t.val, 0] ∧ win0_7.index t = ![0, 0] ∧ win0_8.index t = ![0, 0]
      ∧ win0_9.index t = ![0, 0] :=
  (by decide +kernel : ∀ t : Fin grid0.N, _)

/-- The rows of a point end within the array. -/
theorem inside (t : Fin cfg0.N) : t.val * 512 + 512 ≤ 4096 := by
  have := lt_of_lt_of_eq t.isLt N_0
  omega

/-- What a point reads of the input, -/
theorem read0 (c : Dev nD) (t : Fin cfg0.N) : iblk m c 0 t
    = fun y : S512x1024.Idx => m ((c : Thread nD τ).loc main_arg0) (spot (r := 4096) t.val (inside t) y) :=
  funext fun _ => congrArg (m ((c : Thread nD τ).loc main_arg0))
    (at_spot rfl rfl (congrFun (index_facts t).1 0) (congrFun (index_facts t).1 1))

/-- of the slope, -/
theorem read4 (c : Dev nD) (t : Fin cfg0.N) : iblk m c 4 t
    = fun y : S512x1024.Idx => m ((c : Thread nD τ).loc main_arg4) (spot (r := 4096) t.val (inside t) y) :=
  funext fun _ => congrArg (m ((c : Thread nD τ).loc main_arg4))
    (at_spot rfl rfl (congrFun (index_facts t).2.2.2.1 0) (congrFun (index_facts t).2.2.2.1 1))

/-- of what is added, -/
theorem read5 (c : Dev nD) (t : Fin cfg0.N) : iblk m c 5 t
    = fun y : S512x1024.Idx => m ((c : Thread nD τ).loc main_arg5) (spot (r := 4096) t.val (inside t) y) :=
  funext fun _ => congrArg (m ((c : Thread nD τ).loc main_arg5))
    (at_spot rfl rfl (congrFun (index_facts t).2.2.2.2.1 0) (congrFun (index_facts t).2.2.2.2.1 1))

/-- of the weight -/
theorem read1 (c : Dev nD) (t : Fin cfg0.N) : iblk m c 1 t = m ((c : Thread nD τ).loc main_arg1) :=
  funext fun y => congrArg (m ((c : Thread nD τ).loc main_arg1)) (by
    show (win0_1.blk t).view.emb y = y
    blk_ext [(index_facts t).2.1])

/-- and of the scale. -/
theorem read2 (c : Dev nD) (t : Fin cfg0.N) : iblk m c 2 t = m ((c : Thread nD τ).loc main_arg2) :=
  funext fun y => congrArg (m ((c : Thread nD τ).loc main_arg2)) (by
    show (win0_2.blk t).view.emb y = y
    blk_ext [(index_facts t).2.2.1])

/-- The array of the gradient of the input after the run. -/
theorem final6 (c : Dev nD) : (dats m 0 c).arrAt 6 cfg0.N
    = inputSlope (r := 4096) (m ((c : Thread nD τ).loc main_arg0)) (m ((c : Thread nD τ).loc main_arg1))
      (m ((c : Thread nD τ).loc main_arg2)) (m ((c : Thread nD τ).loc main_arg4)) (m ((c : Thread nD τ).loc main_arg5)) := by
  refine (dats m 0 c).arrAt_eq_of_covers 6 _ (by decide +kernel) fun t hf y => ?_
  blk_simp
  have e : (win0_6.blk t).view.emb y = spot (r := 4096) t.val (inside t) y :=
    at_spot rfl rfl (congrFun (index_facts t).2.2.2.2.2.1 0) (congrFun (index_facts t).2.2.2.2.2.1 1)
  rw [after0_6]
  have h : (outsAt0 m c t.val t.isLt).1
      = inputSlope (r := 512) (iblk m c 0 t) (iblk m c 1 t) (iblk m c 2 t) (iblk m c 4 t) (iblk m c 5 t) := by
    by_cases h : t.val % 8 = 0
    · rw [outsAt0_A m c t h]; frame_out; rw [pay1]
    · rw [outsAt0_B m c t h]; frame_out; rw [pay1]
  rw [h, e, read0, read1, read2, read4, read5]
  rfl

/-- The sum over all rows, by the blocks. -/
theorem total (f : Fin cfg0.N → Fin 512 → EReal) (F : Fin 4096 → EReal)
    (h : ∀ (t : Fin cfg0.N) (i : Fin 512), f t i = F ⟨t.val * 512 + i.val, by have := inside t; omega⟩) :
    ∑ t, ∑ i, f t i = ∑ i, F i :=
  Fin.sum_mul_add_congr (fun t i _ => h t i) (by decide)

/-- The array of the gradient of the weight after the last point. -/
theorem sum7 (c : Dev nD) (t : Fin cfg0.N) (ht : t.val + 1 = cfg0.N) (j : S1x1024.Idx) :
    (outsAt0 m c t.val t.isLt).2.1 j = (∑ i, weightTerm (r := 4096) (m ((c : Thread nD τ).loc main_arg0))
      (m ((c : Thread nD τ).loc main_arg2)) (m ((c : Thread nD τ).loc main_arg4)) (j 1) i : EReal) := by
  rw [Pipeline.eq_sum_fin_of_reset_step_apply_last (M := EReal) (fun n h => (outsAt0 m c n h).2.1) 8 (fun _ => 0)
    (fun t j => ∑ i, weightTerm (r := 512) (iblk m c 0 t) (iblk m c 2 t) (iblk m c 4 t) (j 1) i)
    (fun t h j => by
      rw [outsAt0_A m c t h]; frame_out; rw [pay5]
      exact congrArg (fun s : EReal => s + _) Ideal.ofBits_zero_f32)
    (fun t h j => by rw [outsAt0_B m c t h]; frame_out; rw [pay5])
    (le_of_eq N_0) t ht j, zero_add]
  refine total _ _ fun t i => ?_
  rw [read0, read2, read4]
  rfl

/-- The array of the gradient of the scale after the last point. -/
theorem sum8 (c : Dev nD) (t : Fin cfg0.N) (ht : t.val + 1 = cfg0.N) (j : S1x1024.Idx) :
    (outsAt0 m c t.val t.isLt).2.2.1 j = (∑ i, scaleTerm (r := 4096) (m ((c : Thread nD τ).loc main_arg0))
      (m ((c : Thread nD τ).loc main_arg1)) (m ((c : Thread nD τ).loc main_arg4)) (j 1) i : EReal) := by
  rw [Pipeline.eq_sum_fin_of_reset_step_apply_last (M := EReal) (fun n h => (outsAt0 m c n h).2.2.1) 8 (fun _ => 0)
    (fun t j => ∑ i, scaleTerm (r := 512) (iblk m c 0 t) (iblk m c 1 t) (iblk m c 4 t) (j 1) i)
    (fun t h j => by
      rw [outsAt0_A m c t h]; frame_out; rw [pay6]
      exact congrArg (fun s : EReal => s + _) Ideal.ofBits_zero_f32)
    (fun t h j => by rw [outsAt0_B m c t h]; frame_out; rw [pay6])
    (le_of_eq N_0) t ht j, zero_add]
  refine total _ _ fun t i => ?_
  rw [read0, read1, read4]
  rfl

/-- The array of the gradient of the shift after the last point. -/
theorem sum9 (c : Dev nD) (t : Fin cfg0.N) (ht : t.val + 1 = cfg0.N) (j : S1x1024.Idx) :
    (outsAt0 m c t.val t.isLt).2.2.2 j
      = (∑ i, shiftTerm (r := 4096) (m ((c : Thread nD τ).loc main_arg4)) (j 1) i : EReal) := by
  rw [Pipeline.eq_sum_fin_of_reset_step_apply_last (M := EReal) (fun n h => (outsAt0 m c n h).2.2.2) 8 (fun _ => 0)
    (fun t j => ∑ i, shiftTerm (r := 512) (iblk m c 4 t) (j 1) i)
    (fun t h j => by
      rw [outsAt0_A m c t h]; frame_out; rw [pay7]
      exact congrArg (fun s : EReal => s + _) Ideal.ofBits_zero_f32)
    (fun t h j => by rw [outsAt0_B m c t h]; frame_out; rw [pay7])
    (le_of_eq N_0) t ht j, zero_add]
  refine total _ _ fun t i => ?_
  rw [read4]
  rfl

/-- The last point writes the sums back, -/
theorem final7 (c : Dev nD) : (dats m 0 c).arrAt 7 cfg0.N = fun j : S1x1024.Idx => (∑ i, weightTerm (r := 4096)
    (m ((c : Thread nD τ).loc main_arg0)) (m ((c : Thread nD τ).loc main_arg2)) (m ((c : Thread nD τ).loc main_arg4)) (j 1) i : EReal) := by
  refine (dats m 0 c).arrAt_eq_of_covers 7 _ (by decide +kernel) fun t hf y => ?_
  blk_simp
  have e : (win0_7.blk t).view.emb y = y := by blk_ext [(index_facts t).2.2.2.2.2.2.1]
  have h7 := (flush0_7 t).mp hf
  have hN : t.val < 8 := lt_of_lt_of_eq t.isLt N_0
  rw [after0_7, e]
  exact sum7 m c t ((show t.val + 1 = 8 by omega).trans N_0.symm) y

theorem final8 (c : Dev nD) : (dats m 0 c).arrAt 8 cfg0.N = fun j : S1x1024.Idx => (∑ i, scaleTerm (r := 4096)
    (m ((c : Thread nD τ).loc main_arg0)) (m ((c : Thread nD τ).loc main_arg1)) (m ((c : Thread nD τ).loc main_arg4)) (j 1) i : EReal) := by
  refine (dats m 0 c).arrAt_eq_of_covers 8 _ (by decide +kernel) fun t hf y => ?_
  blk_simp
  have e : (win0_8.blk t).view.emb y = y := by blk_ext [(index_facts t).2.2.2.2.2.2.2.1]
  have h7 := (flush0_8 t).mp hf
  have hN : t.val < 8 := lt_of_lt_of_eq t.isLt N_0
  rw [after0_8, e]
  exact sum8 m c t ((show t.val + 1 = 8 by omega).trans N_0.symm) y

theorem final9 (c : Dev nD) : (dats m 0 c).arrAt 9 cfg0.N
    = fun j : S1x1024.Idx => (∑ i, shiftTerm (r := 4096) (m ((c : Thread nD τ).loc main_arg4)) (j 1) i : EReal) := by
  refine (dats m 0 c).arrAt_eq_of_covers 9 _ (by decide +kernel) fun t hf y => ?_
  blk_simp
  have e : (win0_9.blk t).view.emb y = y := by blk_ext [(index_facts t).2.2.2.2.2.2.2.2]
  have h7 := (flush0_9 t).mp hf
  have hN : t.val < 8 := lt_of_lt_of_eq t.isLt N_0
  rw [after0_9, e]
  exact sum9 m c t ((show t.val + 1 = 8 by omega).trans N_0.symm) y

/-! ## The claims -/

/-- The kernel of the program as written is that of its idealization. -/
theorem kernels_eq : Cert.KernelN.defs₀ (F := Bits) = Cert.KernelNIdeal.defs₀ (F := Bits) := by
  unfold Cert.KernelN.defs₀ Cert.KernelNIdeal.defs₀
  refine congrArg Defs.onTc (funext fun l => funext fun a => ?_)
  match l, a with
  | 0, (t, s) => rfl
  | ⟨_ + 1, h⟩, _ => exact absurd h (Nat.not_lt.2 (Nat.le_add_left _ _))

/-- And so is what its call means. -/
theorem calls_eq : Cert.KernelN.defs (F := Bits) = Cert.KernelNIdeal.defs (F := Bits) :=
  congrArg (Pipeline.defs (Cert.KernelN.pcfgs (F := Bits))) kernels_eq

theorem frame_kernel : Cert.quiescent_KernelN := fun m ρ _ => by
  rw [calls_eq]
  exact Cert.KernelNIdeal.Gen.frame (F := Bits) m ρ

theorem frame_ideal : Cert.quiescent_KernelNIdeal := fun m ρ _ => Cert.KernelNIdeal.Gen.frame (F := Ideal) m ρ

theorem frame_reference_ideal : Cert.quiescent_ReferenceNIdeal := fun m ρ _ =>
  (θ_run Cert.ReferenceNIdeal.defs _ _).mono
    (fun r h => ⟨fun c => (h c).2.2.2.2, sem_eq_zero_of_no_sems (by decide) r.2⟩)
    (Cert.ReferenceNIdeal.Value.run (F := Ideal) m ρ)

theorem algebraic : Cert.algebraic_KernelNIdeal_ReferenceNIdeal := fun m ρ m' ρ' _ hm => by
  refine ⟨_, _, _, _, ?_, Cert.ReferenceNIdeal.Value.run (F := Ideal) m' ρ'⟩
  refine (θ_run Cert.KernelNIdeal.defs _ _).mono (fun r h c => ?_) (run_main (F := Ideal) m ρ)
  obtain ⟨a0, a1, a2, -, a4, a5⟩ := hm c
  unfold Cert.ReferenceNIdeal.Value.res_main_v48
  rw [a0, a1, a2, a4, a5]
  refine ⟨((h c).1 6).trans ((final6 m c).trans (funext fun i => ?_)), ((h c).1 7).trans ((final7 m c).trans (funext fun i => ?_)),
    ((h c).1 8).trans ((final8 m c).trans (funext fun i => ?_)), ((h c).1 9).trans ((final9 m c).trans (funext fun i => ?_)),
    ((h c).1 0).trans ((dats m 0 c).arrAt_in 0 rfl _), ((h c).1 1).trans ((dats m 0 c).arrAt_in 1 rfl _),
    ((h c).1 2).trans ((dats m 0 c).arrAt_in 2 rfl _), ((h c).1 3).trans ((dats m 0 c).arrAt_in 3 rfl _),
    ((h c).1 4).trans ((dats m 0 c).arrAt_in 4 rfl _), ((h c).1 5).trans ((dats m 0 c).arrAt_in 5 rfl _)⟩
  · simp only [pointwise, zero_add]
    rfl
  · simp only [pointwise, zero_add]
    rfl
  · simp only [pointwise, zero_add]
    rfl
  · simp only [pointwise, zero_add]
    rfl

end Cert.NormSlope

end
-- ==== Proof.FeedNorm.lean ====
/-
  The second normalization and modulation of a layer on one device: the frames of the program, of its idealization and of the
  reference, and the comparison with the reference. Each point normalizes and modulates its own rows.
-/
module

public import proofs.«01_k».proof.Defs
public import proofs.«01_k».proof.Proof.Gen.KernelXN
public import proofs.«01_k».proof.Proof.Gen.KernelXNIdeal.Frame
public import proofs.«01_k».proof.Proof.Gen.ReferenceXNIdeal
public import proofs.«01_k».proof.Proof.Gen.ReferenceXNIdeal.Run
public import proofs.«01_k».proof.Proof.NormSlope
public import Idealize.ShloMosaic.Lib.Pointwise
public import Idealize.ShloMosaic.Lib.Pipeline.ValueKit.Acc
public import Idealize.ShloMosaic.Lib.Pipeline.ValueKit.Geometry

@[expose] public section

noncomputable section

namespace Cert.FeedNorm

open Idealize.ShloMosaic Idealize.SL.Sem Idealize.ShloMosaic.TcCoe Cert.AdamW Cert.NormSlope
open Cert.KernelXNIdeal Cert.KernelXNIdeal.Gen

/-! ## The kernel -/

variable (m : (ℓ : Loc nD τ sig) → Buf (Elt Ideal) ℓ)

/-- Which block each point reads and writes. -/
theorem index_facts : ∀ t : Fin cfg0.N, win0_0.index t = ![t.val, 0] ∧ win0_1.index t = ![0, 0] ∧ win0_2.index t = ![0, 0]
      ∧ win0_3.index t = ![0, 0] ∧ win0_4.index t = ![t.val, 0] :=
  (by decide +kernel : ∀ t : Fin grid0.N, _)

/-- An element of the result. -/
def normed {r : ℕ} (x : Rows r) (w sc sh : Rows 1) (i : (S2 r 1024).Idx) : EReal :=
  x i * Ideal.rsqrt (spread x (i 0)) * w (ix2 0 (i 1)) * (1 + sc (ix2 0 (i 1))) + sh (ix2 0 (i 1))

/-- What a point writes. -/
theorem pay1 (x : Vec Ideal S512x1024 .f32) (w sc sh : Vec Ideal S1x1024 .f32) (y : S512x1024.Idx) :
    k0_pay1 x w sc sh y = normed (r := 512) x w sc sh y := by
  unfold k0_pay1
  simp only [pointwise]
  rfl

/-- The array after the run. -/
theorem final (c : Dev nD) : (dats m 0 c).arrAt 4 cfg0.N = normed (r := 4096) (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  rw [pay1]
  unfold normed spread
  blk_simp [iblk]
  obtain ⟨i0, i1, i2, i3, i4⟩ := index_facts t
  have e : (win0_0.blk t).view.emb y = (win0_4.blk t).view.emb y := by blk_ext [i0, i4]
  have e0 (k : Fin 1024) : (win0_0.blk t).view.emb (ix2 (y 0) k) = ix2 (((win0_4.blk t).view.emb y) 0) k := by blk_ext [i0, i4]
  have e1 : (win0_1.blk t).view.emb (ix2 0 (y 1)) = ix2 0 (((win0_4.blk t).view.emb y) 1) := by blk_ext [i1, i4]
  have e2 : (win0_2.blk t).view.emb (ix2 0 (y 1)) = ix2 0 (((win0_4.blk t).view.emb y) 1) := by blk_ext [i2, i4]
  have e3 : (win0_3.blk t).view.emb (ix2 0 (y 1)) = ix2 0 (((win0_4.blk t).view.emb y) 1) := by blk_ext [i3, i4]
  simp only [e, e0, e1, e2, e3]
  rfl

/-! ## The claims -/

/-- The kernel of the program as written is that of its idealization. -/
theorem kernels_eq : Cert.KernelXN.defs₀ (F := Bits) = Cert.KernelXNIdeal.defs₀ (F := Bits) := by
  unfold Cert.KernelXN.defs₀ Cert.KernelXNIdeal.defs₀
  refine congrArg Defs.onTc (funext fun l => funext fun a => ?_)
  match l, a with
  | 0, (t, s) => rfl
  | ⟨_ + 1, h⟩, _ => exact absurd h (Nat.not_lt.2 (Nat.le_add_left _ _))

/-- And so is what its call means. -/
theorem calls_eq : Cert.KernelXN.defs (F := Bits) = Cert.KernelXNIdeal.defs (F := Bits) :=
  congrArg (Pipeline.defs (Cert.KernelXN.pcfgs (F := Bits))) kernels_eq

theorem frame_kernel : Cert.quiescent_KernelXN := fun m ρ _ => by
  rw [calls_eq]
  exact Cert.KernelXNIdeal.Gen.frame (F := Bits) m ρ

theorem frame_ideal : Cert.quiescent_KernelXNIdeal := fun m ρ _ => Cert.KernelXNIdeal.Gen.frame (F := Ideal) m ρ

theorem frame_reference_ideal : Cert.quiescent_ReferenceXNIdeal := fun m ρ _ =>
  (θ_run Cert.ReferenceXNIdeal.defs _ _).mono (fun r h => ⟨fun c => (h c).2, sem_eq_zero_of_no_sems (by decide) r.2⟩)
    (Cert.ReferenceXNIdeal.Value.run (F := Ideal) m ρ)

theorem algebraic : Cert.algebraic_KernelXNIdeal_ReferenceXNIdeal := fun m ρ m' ρ' _ hm => by
  refine ⟨_, ?_, Cert.ReferenceXNIdeal.Value.run (F := Ideal) m' ρ'⟩
  refine (θ_run Cert.KernelXNIdeal.defs _ _).mono (fun r h c => ?_) (run_main (F := Ideal) m ρ)
  obtain ⟨a0, a1, a2, a3⟩ := hm c
  rw [a0, a1, a2, a3]
  refine ⟨((h c).1 4).trans ((final m c).trans (funext fun i => ?_)),
    ((h c).1 0).trans ((dats m 0 c).arrAt_in 0 rfl _),
    ((h c).1 1).trans ((dats m 0 c).arrAt_in 1 rfl _),
    ((h c).1 2).trans ((dats m 0 c).arrAt_in 2 rfl _),
    ((h c).1 3).trans ((dats m 0 c).arrAt_in 3 rfl _)⟩
  simp only [pointwise, zero_add]
  rfl

end Cert.FeedNorm

end
-- ==== Proof.Product.lean ====
/-
  A product of two arrays computed block by block: a block of rows of the one and a block of columns of the other give the block of the
  product where they meet. Stated once, for any shapes; a product with an array transposed is one of these too.
-/
module

public import proofs.«01_k».proof.Proof.AdamW
public import Idealize.ShloMosaic.Lib.Pointwise

@[expose] public section

noncomputable section

namespace Cert.Product

open Idealize.ShloMosaic Cert.AdamW

variable {r k w b d : ℕ}

/-- The product, in exact numbers. -/
def product (x : (S2 r k).Idx → EReal) (y : (S2 k w).Idx → EReal) : (S2 r w).Idx → EReal :=
  fun i => ∑ l : Fin k, x (ix2 (i 0) l) * y (ix2 l (i 1))

/-- An array transposed. -/
def turned (x : (S2 r k).Idx → EReal) : (S2 k r).Idx → EReal := fun i => x (ix2 (i 1) (i 0))

/-- A place of the product needs one row of the one array and one column of the other. -/
theorem product_eq {x : (S2 b k).Idx → EReal} {y : (S2 k d).Idx → EReal} {X : (S2 r k).Idx → EReal} {Y : (S2 k w).Idx → EReal}
    {j : (S2 b d).Idx} {i : (S2 r w).Idx} (hx : ∀ l, x (ix2 (j 0) l) = X (ix2 (i 0) l)) (hy : ∀ l, y (ix2 l (j 1)) = Y (ix2 l (i 1))) :
    product x y j = product X Y i :=
  Finset.sum_congr rfl fun l _ => congrArg₂ (fun a c : EReal => a * c) (hx l) (hy l)

/-- A place whose row a block's number along the rows gives, while the block spans the columns. -/
theorem at_row {j : (S2 r k).Idx} {p : Fin r} {l : Fin k} {s s' n z : ℕ}
    (h0 : (j 0).val = s * b + 1 * z) (h1 : (j 1).val = n * k + 1 * l.val) (hp : p.val = s' * b + 1 * z) (e : s = s') (e' : n = 0) :
    j = ix2 p l := by
  subst e e'
  funext a
  match a with
  | 0 => exact Fin.ext (h0.trans hp.symm)
  | 1 => exact Fin.ext (h1.trans (by simp))

/-- A place whose column a block's number along the columns gives, while the block spans the rows. -/
theorem at_column {j : (S2 k w).Idx} {p : Fin w} {l : Fin k} {s s' n z : ℕ}
    (h0 : (j 0).val = n * k + 1 * l.val) (h1 : (j 1).val = s * b + 1 * z) (hp : p.val = s' * b + 1 * z) (e : s = s') (e' : n = 0) :
    j = ix2 l p := by
  subst e e'
  funext a
  match a with
  | 0 => exact Fin.ext (h0.trans (by simp))
  | 1 => exact Fin.ext (h1.trans hp.symm)

end Cert.Product

end
-- ==== Proof.FeedIn.lean ====
/-
  The feed-forward layer's first product on one device: the frames of the program, of its idealization and of the reference, and the
  comparison with the reference. Each point computes one block of the product from whole rows and whole columns.
-/
module

public import proofs.«01_k».proof.Defs
public import proofs.«01_k».proof.Proof.Product
public import proofs.«01_k».proof.Proof.Gen.KernelXI
public import proofs.«01_k».proof.Proof.Gen.KernelXIIdeal.Frame
public import proofs.«01_k».proof.Proof.Gen.ReferenceXIIdeal
public import proofs.«01_k».proof.Proof.Gen.ReferenceXIIdeal.Run
public import Idealize.ShloMosaic.Lib.Pointwise
public import Idealize.ShloMosaic.Lib.Pipeline.ValueKit.Acc
public import Idealize.ShloMosaic.Lib.Pipeline.ValueKit.Geometry

@[expose] public section

noncomputable section

namespace Cert.FeedIn

open Idealize.ShloMosaic Idealize.SL.Sem Idealize.ShloMosaic.TcCoe Cert.Product
open Cert.KernelXIIdeal Cert.KernelXIIdeal.Gen

/-! ## The kernel -/

variable (m : (ℓ : Loc nD τ sig) → Buf (Elt Ideal) ℓ)

/-- Each point reads the rows or columns that its block of the product needs, whole. -/
theorem index_facts : ∀ t : Fin cfg0.N, win0_0.index t 0 = win0_2.index t 0 ∧ win0_0.index t 1 = 0
      ∧ win0_1.index t 1 = win0_2.index t 1 ∧ win0_1.index t 0 = 0 :=
  (by decide +kernel : ∀ t : Fin grid0.N, _)

/-- What a point writes. -/
theorem pay1 (a : Vec Ideal S1024x1024 .bf16) (b : Vec Ideal S1024x1408 .bf16) : k0_pay1 a b = product a b := funext fun y => by
  unfold k0_pay1
  simp only [pointwise]
  exact zero_add _

/-- The array after the run. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay1]
  obtain ⟨i0, j0, i1, j1⟩ := index_facts t
  exact product_eq (fun l => congrArg (m ((c : Thread nD τ).loc main_arg0)) (at_row rfl rfl rfl i0 j0))
    (fun l => congrArg (m ((c : Thread nD τ).loc main_arg1)) (at_column rfl rfl rfl i1 j1))

/-! ## The claims -/

/-- The kernel of the program as written is that of its idealization. -/
theorem kernels_eq : Cert.KernelXI.defs₀ (F := Bits) = Cert.KernelXIIdeal.defs₀ (F := Bits) := by
  unfold Cert.KernelXI.defs₀ Cert.KernelXIIdeal.defs₀
  refine congrArg Defs.onTc (funext fun l => funext fun a => ?_)
  match l, a with
  | 0, (t, s) => rfl
  | ⟨_ + 1, h⟩, _ => exact absurd h (Nat.not_lt.2 (Nat.le_add_left _ _))

/-- And so is what its call means. -/
theorem calls_eq : Cert.KernelXI.defs (F := Bits) = Cert.KernelXIIdeal.defs (F := Bits) :=
  congrArg (Pipeline.defs (Cert.KernelXI.pcfgs (F := Bits))) kernels_eq

theorem frame_kernel : Cert.quiescent_KernelXI := fun m ρ _ => by
  rw [calls_eq]
  exact Cert.KernelXIIdeal.Gen.frame (F := Bits) m ρ

theorem frame_ideal : Cert.quiescent_KernelXIIdeal := fun m ρ _ => Cert.KernelXIIdeal.Gen.frame (F := Ideal) m ρ

theorem frame_reference_ideal : Cert.quiescent_ReferenceXIIdeal := fun m ρ _ =>
  (θ_run Cert.ReferenceXIIdeal.defs _ _).mono (fun r h => ⟨fun c => (h c).2, sem_eq_zero_of_no_sems (by decide) r.2⟩)
    (Cert.ReferenceXIIdeal.Value.run (F := Ideal) m ρ)

theorem algebraic : Cert.algebraic_KernelXIIdeal_ReferenceXIIdeal := fun m ρ m' ρ' _ hm => by
  refine ⟨_, ?_, Cert.ReferenceXIIdeal.Value.run (F := Ideal) m' ρ'⟩
  refine (θ_run Cert.KernelXIIdeal.defs _ _).mono (fun r h c => ?_) (run_main (F := Ideal) m ρ)
  obtain ⟨a0, a1⟩ := hm c
  rw [a0, a1]
  refine ⟨((h c).1 2).trans ((final m c).trans (funext fun i => ?_)),
    ((h c).1 0).trans ((dats m 0 c).arrAt_in 0 rfl _),
    ((h c).1 1).trans ((dats m 0 c).arrAt_in 1 rfl _)⟩
  simp only [pointwise, zero_add]
  rfl

end Cert.FeedIn

end
-- ==== Proof.FeedGate.lean ====
/-
  The gated activation of the feed-forward layer on one device: the frames of the program, of its idealization and of the reference,
  and the comparison with the reference. Each point gates its own rows: the left half, activated, times the right half.
-/
module

public import proofs.«01_k».proof.Defs
public import proofs.«01_k».proof.Proof.Gen.KernelXS
public import proofs.«01_k».proof.Proof.Gen.KernelXSIdeal.Frame
public import proofs.«01_k».proof.Proof.Gen.ReferenceXSIdeal
public import proofs.«01_k».proof.Proof.Gen.ReferenceXSIdeal.Run
public import proofs.«01_k».proof.Proof.AdamW
public import Idealize.ShloMosaic.Lib.Pointwise
public import Idealize.ShloMosaic.Lib.Pipeline.ValueKit.Acc
public import Idealize.ShloMosaic.Lib.Pipeline.ValueKit.Geometry

@[expose] public section

noncomputable section

namespace Cert.FeedGate

open Idealize.ShloMosaic Idealize.SL.Sem Idealize.ShloMosaic.TcCoe Cert.AdamW
open Cert.KernelXSIdeal Cert.KernelXSIdeal.Gen

/-! ## The kernel -/

variable (m : (ℓ : Loc nD τ sig) → Buf (Elt Ideal) ℓ)

/-- Which block each point reads and writes. -/
theorem index_facts : ∀ t : Fin cfg0.N, win0_0.index t = ![t.val, 0] ∧ win0_1.index t = ![t.val, 0] :=
  (by decide +kernel : ∀ t : Fin grid0.N, _)

variable {r : ℕ}

/-- The place in the left half, -/
def left (i : (S2 r 2816).Idx) : (S2 r 5632).Idx := ix2 (i 0) ⟨0 + (i 1).val, by have : (i 1).val < 2816 := (i 1).isLt; omega⟩

/-- and in the right half. -/
def right (i : (S2 r 2816).Idx) : (S2 r 5632).Idx := ix2 (i 0) ⟨2816 + (i 1).val, by have : (i 1).val < 2816 := (i 1).isLt; omega⟩

/-- One number, activated, times the other. -/
def gate (a b : EReal) : EReal := a * Ideal.logistic a * b

/-- The result. -/
def gated (x : (S2 r 5632).Idx → Ideal .bf16) : (S2 r 2816).Idx → Ideal .bf16 :=
  fun i => gate (x (left i)) (x (right i))

/-- The slices start at row 0, so they keep the row. -/
theorem row (i : (S2 r 2816).Idx) (n : ℕ) (h : 0 + (i 0).val < r) (h' : n + (i 1).val < 5632) :
    (ix2 ⟨0 + (i 0).val, h⟩ ⟨n + (i 1).val, h'⟩ : (S2 r 5632).Idx) = ix2 (i 0) ⟨n + (i 1).val, h'⟩ :=
  congrArg (fun a => ix2 a _) (Fin.ext (Nat.zero_add _))

/-- What a point writes. -/
theorem pay1 (x : Vec Ideal S256x5632 .bf16) (y : S256x2816.Idx) : k0_pay1 x y = gated (r := 256) x y := by
  unfold k0_pay1
  simp only [pointwise]
  exact congrArg₂ (fun a b : S256x5632.Idx => gate (x a) (x b)) (row (r := 256) y 0 _ _)
    (row (r := 256) y 2816 _ _)

/-- The array after the run. -/
theorem final (c : Dev nD) : (dats m 0 c).arrAt 1 cfg0.N = gated (r := 4096) (m ((c : Thread nD τ).loc main_arg0)) := by
  refine (dats m 0 c).arrAt_eq_of_covers 1 _ (by decide +kernel) fun t hf y => ?_
  blk_simp
  rw [after0_1]
  frame_out
  rw [pay1]
  unfold gated
  blk_simp [iblk]
  obtain ⟨i0, i1⟩ := index_facts t
  have e0 : (win0_0.blk t).view.emb (left (r := 256) y) = left (r := 4096) ((win0_1.blk t).view.emb y) := by
    unfold left
    blk_ext [i0, i1]
  have e1 : (win0_0.blk t).view.emb (right (r := 256) y) = right (r := 4096) ((win0_1.blk t).view.emb y) := by
    unfold right
    blk_ext [i0, i1]
  simp only [e0, e1]

/-! ## The claims -/

/-- The kernel of the program as written is that of its idealization. -/
theorem kernels_eq : Cert.KernelXS.defs₀ (F := Bits) = Cert.KernelXSIdeal.defs₀ (F := Bits) := by
  unfold Cert.KernelXS.defs₀ Cert.KernelXSIdeal.defs₀
  refine congrArg Defs.onTc (funext fun l => funext fun a => ?_)
  match l, a with
  | 0, (t, s) => rfl
  | ⟨_ + 1, h⟩, _ => exact absurd h (Nat.not_lt.2 (Nat.le_add_left _ _))

/-- And so is what its call means. -/
theorem calls_eq : Cert.KernelXS.defs (F := Bits) = Cert.KernelXSIdeal.defs (F := Bits) :=
  congrArg (Pipeline.defs (Cert.KernelXS.pcfgs (F := Bits))) kernels_eq

theorem frame_kernel : Cert.quiescent_KernelXS := fun m ρ _ => by
  rw [calls_eq]
  exact Cert.KernelXSIdeal.Gen.frame (F := Bits) m ρ

theorem frame_ideal : Cert.quiescent_KernelXSIdeal := fun m ρ _ => Cert.KernelXSIdeal.Gen.frame (F := Ideal) m ρ

theorem frame_reference_ideal : Cert.quiescent_ReferenceXSIdeal := fun m ρ _ =>
  (θ_run Cert.ReferenceXSIdeal.defs _ _).mono (fun r h => ⟨fun c => (h c).2, sem_eq_zero_of_no_sems (by decide) r.2⟩)
    (Cert.ReferenceXSIdeal.Value.run (F := Ideal) m ρ)

theorem algebraic : Cert.algebraic_KernelXSIdeal_ReferenceXSIdeal := fun m ρ m' ρ' _ hm => by
  refine ⟨_, ?_, Cert.ReferenceXSIdeal.Value.run (F := Ideal) m' ρ'⟩
  refine (θ_run Cert.KernelXSIdeal.defs _ _).mono (fun r h c => ?_) (run_main (F := Ideal) m ρ)
  have a0 := hm c
  rw [a0]
  refine ⟨((h c).1 1).trans ((final m c).trans (funext fun i => ?_)),
    ((h c).1 0).trans ((dats m 0 c).arrAt_in 0 rfl _)⟩
  simp only [pointwise]
  exact (congrArg₂ (fun a b : S4096x5632.Idx =>
    gate (m ((c : Thread nD τ).loc main_arg0) a) (m ((c : Thread nD τ).loc main_arg0) b))
    (row (r := 4096) i 0 _ _) (row (r := 4096) i 2816 _ _)).symm

end Cert.FeedGate

end
-- ==== Proof.FeedOut.lean ====
/-
  The feed-forward layer's second product on one device: the frames of the program, of its idealization and of the reference, and
  the comparison with the reference. Each point computes one block of rows of the product.
-/
module

public import proofs.«01_k».proof.Defs
public import proofs.«01_k».proof.Proof.Product
public import proofs.«01_k».proof.Proof.Gen.KernelXO
public import proofs.«01_k».proof.Proof.Gen.KernelXOIdeal.Frame
public import proofs.«01_k».proof.Proof.Gen.ReferenceXOIdeal
public import proofs.«01_k».proof.Proof.Gen.ReferenceXOIdeal.Run
public import Idealize.ShloMosaic.Lib.Pointwise
public import Idealize.ShloMosaic.Lib.Pipeline.ValueKit.Acc
public import Idealize.ShloMosaic.Lib.Pipeline.ValueKit.Geometry

@[expose] public section

noncomputable section

namespace Cert.FeedOut

open Idealize.ShloMosaic Idealize.SL.Sem Idealize.ShloMosaic.TcCoe Cert.Product
open Cert.KernelXOIdeal Cert.KernelXOIdeal.Gen

/-! ## The kernel -/

variable (m : (ℓ : Loc nD τ sig) → Buf (Elt Ideal) ℓ)

/-- Each point reads the rows or columns that its block of the product needs, whole. -/
theorem index_facts : ∀ t : Fin cfg0.N, win0_0.index t 0 = win0_2.index t 0 ∧ win0_0.index t 1 = 0
      ∧ win0_1.index t 1 = win0_2.index t 1 ∧ win0_1.index t 0 = 0 :=
  (by decide +kernel : ∀ t : Fin grid0.N, _)

/-- What a point writes. -/
theorem pay1 (a : Vec Ideal S1024x2816 .bf16) (b : Vec Ideal S2816x1024 .bf16) : k0_pay1 a b = product a b := funext fun y => by
  unfold k0_pay1
  simp only [pointwise]
  exact zero_add _

/-- The array after the run. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay1]
  obtain ⟨i0, j0, i1, j1⟩ := index_facts t
  exact product_eq (fun l => congrArg (m ((c : Thread nD τ).loc main_arg0)) (at_row rfl rfl rfl i0 j0))
    (fun l => congrArg (m ((c : Thread nD τ).loc main_arg1)) (at_column rfl rfl rfl i1 j1))

/-! ## The claims -/

/-- The kernel of the program as written is that of its idealization. -/
theorem kernels_eq : Cert.KernelXO.defs₀ (F := Bits) = Cert.KernelXOIdeal.defs₀ (F := Bits) := by
  unfold Cert.KernelXO.defs₀ Cert.KernelXOIdeal.defs₀
  refine congrArg Defs.onTc (funext fun l => funext fun a => ?_)
  match l, a with
  | 0, (t, s) => rfl
  | ⟨_ + 1, h⟩, _ => exact absurd h (Nat.not_lt.2 (Nat.le_add_left _ _))

/-- And so is what its call means. -/
theorem calls_eq : Cert.KernelXO.defs (F := Bits) = Cert.KernelXOIdeal.defs (F := Bits) :=
  congrArg (Pipeline.defs (Cert.KernelXO.pcfgs (F := Bits))) kernels_eq

theorem frame_kernel : Cert.quiescent_KernelXO := fun m ρ _ => by
  rw [calls_eq]
  exact Cert.KernelXOIdeal.Gen.frame (F := Bits) m ρ

theorem frame_ideal : Cert.quiescent_KernelXOIdeal := fun m ρ _ => Cert.KernelXOIdeal.Gen.frame (F := Ideal) m ρ

theorem frame_reference_ideal : Cert.quiescent_ReferenceXOIdeal := fun m ρ _ =>
  (θ_run Cert.ReferenceXOIdeal.defs _ _).mono (fun r h => ⟨fun c => (h c).2, sem_eq_zero_of_no_sems (by decide) r.2⟩)
    (Cert.ReferenceXOIdeal.Value.run (F := Ideal) m ρ)

theorem algebraic : Cert.algebraic_KernelXOIdeal_ReferenceXOIdeal := fun m ρ m' ρ' _ hm => by
  refine ⟨_, ?_, Cert.ReferenceXOIdeal.Value.run (F := Ideal) m' ρ'⟩
  refine (θ_run Cert.KernelXOIdeal.defs _ _).mono (fun r h c => ?_) (run_main (F := Ideal) m ρ)
  obtain ⟨a0, a1⟩ := hm c
  rw [a0, a1]
  refine ⟨((h c).1 2).trans ((final m c).trans (funext fun i => ?_)),
    ((h c).1 0).trans ((dats m 0 c).arrAt_in 0 rfl _),
    ((h c).1 1).trans ((dats m 0 c).arrAt_in 1 rfl _)⟩
  simp only [pointwise, zero_add]
  rfl

end Cert.FeedOut

end
-- ==== Proof.FeedAdd.lean ====
/-
  The sum that ends a layer on one device: the frames of the program, of its idealization and of the reference, and the comparison
  with the reference. Each point adds to its rows the gated rows of the other array.
-/
module

public import proofs.«01_k».proof.Defs
public import proofs.«01_k».proof.Proof.AdamW
public import proofs.«01_k».proof.Proof.Gen.KernelXR
public import proofs.«01_k».proof.Proof.Gen.KernelXRIdeal.Frame
public import proofs.«01_k».proof.Proof.Gen.ReferenceXRIdeal
public import proofs.«01_k».proof.Proof.Gen.ReferenceXRIdeal.Run
public import proofs.«01_k».proof.Proof.Gen.ReferenceXR
public import proofs.«01_k».proof.Proof.Gen.ReferenceXR.Run
public import Idealize.ShloMosaic.Lib.Pointwise
public import Idealize.ShloMosaic.Lib.Pipeline.ValueKit.Acc
public import Idealize.ShloMosaic.Lib.Pipeline.ValueKit.Geometry

@[expose] public section

noncomputable section

namespace Cert.FeedAdd

open Idealize.ShloMosaic Idealize.SL.Sem Idealize.ShloMosaic.TcCoe Cert.AdamW
open Cert.KernelXRIdeal Cert.KernelXRIdeal.Gen

/-! ## The kernel -/

/-- Which block each point reads and writes. -/
theorem index_facts : ∀ t : Fin cfg0.N, win0_0.index t = ![t.val, 0] ∧ win0_1.index t = ![t.val, 0] ∧ win0_2.index t = ![0, 0]
      ∧ win0_3.index t = ![t.val, 0] :=
  (by decide +kernel : ∀ t : Fin grid0.N, _)

variable {F : FTy → Type} [FloatOps F]

/-- The sum. -/
def added {r : ℕ} (x a : FVec F (S2 r 1024) .f32) (g : FVec F (S2 1 1024) .f32) : FVec F (S2 r 1024) .f32 :=
  addf x (mulf (fun i => g (ix2 0 (i 1))) a)

/-- What a point writes. -/
theorem pay1 (x a : Vec F S512x1024 .f32) (g : Vec F S1x1024 .f32) : k0_pay1 x a g = added (r := 512) x a g := funext fun y => by
  unfold k0_pay1 added
  simp only [pointwise]
  rfl

variable (m : (ℓ : Loc nD τ sig) → Buf (Elt F) ℓ)

/-- The array after the run. -/
theorem final (c : Dev nD) : (dats m 0 c).arrAt 3 cfg0.N = added (r := 4096) (m ((c : Thread nD τ).loc main_arg0))
    (m ((c : Thread nD τ).loc main_arg1)) (m ((c : Thread nD τ).loc main_arg2)) := by
  refine (dats m 0 c).arrAt_eq_of_covers 3 _ (by decide +kernel) fun t hf y => ?_
  blk_simp
  rw [after0_3]
  frame_out
  rw [pay1]
  unfold added
  simp only [pointwise]
  blk_simp [iblk]
  obtain ⟨i0, i1, i2, i3⟩ := index_facts t
  have e0 : (win0_0.blk t).view.emb y = (win0_3.blk t).view.emb y := by blk_ext [i0, i3]
  have e1 : (win0_1.blk t).view.emb y = (win0_3.blk t).view.emb y := by blk_ext [i1, i3]
  have e2 : (win0_2.blk t).view.emb (ix2 0 (y 1)) = ix2 0 (((win0_3.blk t).view.emb y) 1) := by blk_ext [i2, i3]
  simp only [e0, e1, e2]
  rfl

/-! ## The claims -/

/-- The kernel of the program as written is that of its idealization. -/
theorem kernels_eq : Cert.KernelXR.defs₀ (F := Bits) = Cert.KernelXRIdeal.defs₀ (F := Bits) := by
  unfold Cert.KernelXR.defs₀ Cert.KernelXRIdeal.defs₀
  refine congrArg Defs.onTc (funext fun l => funext fun a => ?_)
  match l, a with
  | 0, (t, s) => rfl
  | ⟨_ + 1, h⟩, _ => exact absurd h (Nat.not_lt.2 (Nat.le_add_left _ _))

/-- And so is what its call means. -/
theorem calls_eq : Cert.KernelXR.defs (F := Bits) = Cert.KernelXRIdeal.defs (F := Bits) :=
  congrArg (Pipeline.defs (Cert.KernelXR.pcfgs (F := Bits))) kernels_eq

theorem frame_kernel : Cert.quiescent_KernelXR := fun m ρ _ => by
  rw [calls_eq]
  exact Cert.KernelXRIdeal.Gen.frame (F := Bits) m ρ

theorem frame_ideal : Cert.quiescent_KernelXRIdeal := fun m ρ _ => Cert.KernelXRIdeal.Gen.frame (F := Ideal) m ρ

theorem frame_reference_ideal : Cert.quiescent_ReferenceXRIdeal := fun m ρ _ =>
  (θ_run Cert.ReferenceXRIdeal.defs _ _).mono (fun r h => ⟨fun c => (h c).2, sem_eq_zero_of_no_sems (by decide) r.2⟩)
    (Cert.ReferenceXRIdeal.Value.run (F := Ideal) m ρ)

theorem frame_reference : Cert.quiescent_ReferenceXR := fun m ρ _ =>
  (θ_run Cert.ReferenceXR.defs _ _).mono (fun r h => ⟨fun c => (h c).2, sem_eq_zero_of_no_sems (by decide) r.2⟩)
    (Cert.ReferenceXR.Value.run (F := Bits) m ρ)

/-- The reference spreads the gate over the rows first. -/
theorem spread (x a : FVec F (S2 4096 1024) .f32) (g : FVec F (S2 1 1024) .f32) (h) :
    added x a g = addf x (mulf (broadcastInDim (S2 4096 1024) ![0, 1] h g) a) := funext fun i => by
  unfold added
  simp only [pointwise]
  rfl

theorem algebraic : Cert.algebraic_KernelXRIdeal_ReferenceXRIdeal := fun m ρ m' ρ' _ hm => by
  refine ⟨_, ?_, Cert.ReferenceXRIdeal.Value.run (F := Ideal) m' ρ'⟩
  refine (θ_run Cert.KernelXRIdeal.defs _ _).mono (fun r h c => ?_) (run_main (F := Ideal) m ρ)
  obtain ⟨a0, a1, a2⟩ := hm c
  rw [a0, a1, a2]
  exact ⟨((h c).1 3).trans ((final m c).trans (spread _ _ _ _)), ((h c).1 0).trans ((dats m 0 c).arrAt_in 0 rfl _),
    ((h c).1 1).trans ((dats m 0 c).arrAt_in 1 rfl _), ((h c).1 2).trans ((dats m 0 c).arrAt_in 2 rfl _)⟩

theorem bitexact : Cert.bitexact_KernelXR_ReferenceXR := fun m ρ m' ρ' _ hm => by
  refine ⟨_, ?_, Cert.ReferenceXR.Value.run (F := Bits) m' ρ'⟩
  rw [calls_eq]
  refine (θ_run Cert.KernelXRIdeal.defs _ _).mono (fun r h c => ?_) (run_main (F := Bits) m ρ)
  obtain ⟨a0, a1, a2⟩ := hm c
  rw [a0, a1, a2]
  exact ⟨((h c).1 3).trans ((final m c).trans (spread _ _ _ _)), ((h c).1 0).trans ((dats m 0 c).arrAt_in 0 rfl _),
    ((h c).1 1).trans ((dats m 0 c).arrAt_in 1 rfl _), ((h c).1 2).trans ((dats m 0 c).arrAt_in 2 rfl _)⟩

end Cert.FeedAdd

end
-- ==== Proof.FeedAddSlope.lean ====
/-
  The gradient of the gated addition that ends a layer on one device: the frames of the program, of its idealization and of the
  reference, and the comparison with the reference. The kernel walks over eight blocks of rows. Each block's rows of the first two
  gradients come from the same rows alone, and the gradient of the gate is a sum over all rows, which the blocks add up one after
  the other.
-/
module

public import proofs.«01_k».proof.Defs
public import proofs.«01_k».proof.Proof.Head
public import proofs.«01_k».proof.Proof.Gen.KernelYR
public import proofs.«01_k».proof.Proof.Gen.KernelYRIdeal.Frame
public import proofs.«01_k».proof.Proof.Gen.ReferenceYRIdeal
public import proofs.«01_k».proof.Proof.Gen.ReferenceYRIdeal.Run
public import Idealize.ShloMosaic.Lib.Pointwise
public import Idealize.ShloMosaic.Lib.Pipeline.ValueKit.Acc
public import Idealize.ShloMosaic.Lib.Pipeline.ValueKit.Geometry

@[expose] public section

noncomputable section

namespace Cert.FeedAddSlope

open Idealize.ShloMosaic Idealize.SL.Sem Idealize.ShloMosaic.TcCoe Cert.AdamW
open Cert.KernelYRIdeal Cert.KernelYRIdeal.Gen

/-! ## The gradients, of one block of rows or of all -/

variable {r : ℕ}

/-- The gradient of what is scaled by the gate. -/
def scaled (g : (S2 1 1024).Idx → Ideal .f32) (dy : (S2 r 1024).Idx → Ideal .f32) : (S2 r 1024).Idx → Ideal .bf16 :=
  fun i => (g (ix2 0 (i 1)) * dy i : EReal)

/-- A row's share of the gradient of the gate. -/
def gateTerm (a dy : (S2 r 1024).Idx → Ideal .f32) (j : Fin 1024) (i : Fin r) : EReal := dy (ix2 i j) * a (ix2 i j)

/-! ## The kernel -/

/-- What a point writes of the gradient of what is scaled, -/
theorem pay2 (g : Vec Ideal S1x1024 .f32) (dy : Vec Ideal S512x1024 .f32) : k0_pay2 g dy = scaled (r := 512) g dy := funext fun y => by
  unfold k0_pay2 k0_pay1
  simp only [pointwise]
  rfl

/-- and what it adds to the gradient of the gate. -/
theorem pay4 (a dy : Vec Ideal S512x1024 .f32) (v : Vec Ideal S1x1024 .f32) (y : S1x1024.Idx) :
    k0_pay4 a dy v y = (v y + ∑ i, gateTerm (r := 512) a dy (y 1) i : EReal) := by
  unfold k0_pay4 k0_pay1
  simp only [pointwise]
  rfl

variable (m : (ℓ : Loc nD τ sig) → Buf (Elt Ideal) ℓ)

/-- Which block of rows each point reads and writes; the gate and its gradient are one block. -/
theorem index_facts : ∀ t : Fin cfg0.N,
    win0_1.index t = ![t.val, 0] ∧ win0_2.index t = ![0, 0] ∧ win0_3.index t = ![t.val, 0] ∧ win0_4.index t = ![t.val, 0]
      ∧ win0_5.index t = ![t.val, 0] ∧ win0_6.index t = ![0, 0] :=
  (by decide +kernel : ∀ t : Fin grid0.N, _)

/-- The rows of a point end within the array. -/
theorem inside (t : Fin cfg0.N) : t.val * 512 + 512 ≤ 4096 := by
  have := lt_of_lt_of_eq t.isLt N_0
  omega

/-- What a point reads of what is scaled, -/
theorem read1 (c : Dev nD) (t : Fin cfg0.N) : iblk m c 1 t
    = fun y : S512x1024.Idx => m ((c : Thread nD τ).loc main_arg1) (spot (r := 4096) t.val (inside t) y) :=
  funext fun _ => congrArg (m ((c : Thread nD τ).loc main_arg1))
    (at_spot rfl rfl (congrFun (index_facts t).1 0) (congrFun (index_facts t).1 1))

/-- of the slope -/
theorem read3 (c : Dev nD) (t : Fin cfg0.N) : iblk m c 3 t
    = fun y : S512x1024.Idx => m ((c : Thread nD τ).loc main_arg3) (spot (r := 4096) t.val (inside t) y) :=
  funext fun _ => congrArg (m ((c : Thread nD τ).loc main_arg3))
    (at_spot rfl rfl (congrFun (index_facts t).2.2.1 0) (congrFun (index_facts t).2.2.1 1))

/-- and of the gate. -/
theorem read2 (c : Dev nD) (t : Fin cfg0.N) : iblk m c 2 t = m ((c : Thread nD τ).loc main_arg2) :=
  funext fun y => congrArg (m ((c : Thread nD τ).loc main_arg2)) (by
    show (win0_2.blk t).view.emb y = y
    blk_ext [(index_facts t).2.1])

/-- The array of the first gradient after the run, -/
theorem final4 (c : Dev nD) : (dats m 0 c).arrAt 4 cfg0.N = m ((c : Thread nD τ).loc main_arg3) := by
  refine (dats m 0 c).arrAt_eq_of_covers 4 _ (by decide +kernel) fun t hf y => ?_
  blk_simp
  have e : (win0_4.blk t).view.emb y = spot (r := 4096) t.val (inside t) y :=
    at_spot rfl rfl (congrFun (index_facts t).2.2.2.1 0) (congrFun (index_facts t).2.2.2.1 1)
  rw [after0_4]
  have h : (outsAt0 m c t.val t.isLt).1 = iblk m c 3 t := by
    by_cases h : t.val % 8 = 0
    · rw [outsAt0_A m c t h]; frame_out
    · rw [outsAt0_B m c t h]; frame_out
  rw [h, e, read3]

/-- and of the second. -/
theorem final5 (c : Dev nD) : (dats m 0 c).arrAt 5 cfg0.N
    = scaled (r := 4096) (m ((c : Thread nD τ).loc main_arg2)) (m ((c : Thread nD τ).loc main_arg3)) := by
  refine (dats m 0 c).arrAt_eq_of_covers 5 _ (by decide +kernel) fun t hf y => ?_
  blk_simp
  have e : (win0_5.blk t).view.emb y = spot (r := 4096) t.val (inside t) y :=
    at_spot rfl rfl (congrFun (index_facts t).2.2.2.2.1 0) (congrFun (index_facts t).2.2.2.2.1 1)
  rw [after0_5]
  have h : (outsAt0 m c t.val t.isLt).2.1 = scaled (r := 512) (iblk m c 2 t) (iblk m c 3 t) := by
    by_cases h : t.val % 8 = 0
    · rw [outsAt0_A m c t h]; frame_out; rw [pay2]
    · rw [outsAt0_B m c t h]; frame_out; rw [pay2]
  rw [h, e, read2, read3]
  rfl

/-- The array of the gradient of the gate after the last point. -/
theorem sum6 (c : Dev nD) (t : Fin cfg0.N) (ht : t.val + 1 = cfg0.N) (j : S1x1024.Idx) :
    (outsAt0 m c t.val t.isLt).2.2 j = (∑ i, gateTerm (r := 4096) (m ((c : Thread nD τ).loc main_arg1))
      (m ((c : Thread nD τ).loc main_arg3)) (j 1) i : EReal) := by
  rw [Pipeline.eq_sum_fin_of_reset_step_apply_last (M := EReal) (fun n h => (outsAt0 m c n h).2.2) 8 (fun _ => 0)
    (fun t j => ∑ i, gateTerm (r := 512) (iblk m c 1 t) (iblk m c 3 t) (j 1) i)
    (fun t h j => by
      rw [outsAt0_A m c t h]; frame_out; rw [pay4]
      exact congrArg (fun s : EReal => s + _) Ideal.ofBits_zero_f32)
    (fun t h j => by rw [outsAt0_B m c t h]; frame_out; rw [pay4])
    (le_of_eq N_0) t ht j, zero_add]
  refine Fin.sum_mul_add_congr (fun t i _ => ?_) (by decide)
  rw [read1, read3]
  rfl

/-- The last point writes the sum back. -/
theorem final6 (c : Dev nD) : (dats m 0 c).arrAt 6 cfg0.N = fun j : S1x1024.Idx => (∑ i, gateTerm (r := 4096)
    (m ((c : Thread nD τ).loc main_arg1)) (m ((c : Thread nD τ).loc main_arg3)) (j 1) i : EReal) := by
  refine (dats m 0 c).arrAt_eq_of_covers 6 _ (by decide +kernel) fun t hf y => ?_
  blk_simp
  have e : (win0_6.blk t).view.emb y = y := by blk_ext [(index_facts t).2.2.2.2.2]
  have h7 := (flush0_6 t).mp hf
  have hN : t.val < 8 := lt_of_lt_of_eq t.isLt N_0
  rw [after0_6, e]
  exact sum6 m c t ((show t.val + 1 = 8 by omega).trans N_0.symm) y

/-! ## The claims -/

/-- The kernel of the program as written is that of its idealization. -/
theorem kernels_eq : Cert.KernelYR.defs₀ (F := Bits) = Cert.KernelYRIdeal.defs₀ (F := Bits) := by
  unfold Cert.KernelYR.defs₀ Cert.KernelYRIdeal.defs₀
  refine congrArg Defs.onTc (funext fun l => funext fun a => ?_)
  match l, a with
  | 0, (t, s) => rfl
  | ⟨_ + 1, h⟩, _ => exact absurd h (Nat.not_lt.2 (Nat.le_add_left _ _))

/-- And so is what its call means. -/
theorem calls_eq : Cert.KernelYR.defs (F := Bits) = Cert.KernelYRIdeal.defs (F := Bits) :=
  congrArg (Pipeline.defs (Cert.KernelYR.pcfgs (F := Bits))) kernels_eq

theorem frame_kernel : Cert.quiescent_KernelYR := fun m ρ _ => by
  rw [calls_eq]
  exact Cert.KernelYRIdeal.Gen.frame (F := Bits) m ρ

theorem frame_ideal : Cert.quiescent_KernelYRIdeal := fun m ρ _ => Cert.KernelYRIdeal.Gen.frame (F := Ideal) m ρ

theorem frame_reference_ideal : Cert.quiescent_ReferenceYRIdeal := fun m ρ _ =>
  (θ_run Cert.ReferenceYRIdeal.defs _ _).mono (fun r h => ⟨fun c => (h c).2.2.2, sem_eq_zero_of_no_sems (by decide) r.2⟩)
    (Cert.ReferenceYRIdeal.Value.run (F := Ideal) m ρ)

theorem algebraic : Cert.algebraic_KernelYRIdeal_ReferenceYRIdeal := fun m ρ m' ρ' _ hm => by
  refine ⟨_, _, _, ?_, Cert.ReferenceYRIdeal.Value.run (F := Ideal) m' ρ'⟩
  refine (θ_run Cert.KernelYRIdeal.defs _ _).mono (fun r h c => ?_) (run_main (F := Ideal) m ρ)
  obtain ⟨-, a1, a2, a3⟩ := hm c
  rw [a1, a2, a3]
  refine ⟨((h c).1 4).trans (final4 m c), ((h c).1 5).trans ((final5 m c).trans (funext fun i => ?_)),
    ((h c).1 6).trans ((final6 m c).trans (funext fun i => ?_)),
    ((h c).1 0).trans ((dats m 0 c).arrAt_in 0 rfl _), ((h c).1 1).trans ((dats m 0 c).arrAt_in 1 rfl _),
    ((h c).1 2).trans ((dats m 0 c).arrAt_in 2 rfl _), ((h c).1 3).trans ((dats m 0 c).arrAt_in 3 rfl _)⟩
  · simp only [pointwise]
    rfl
  · simp only [pointwise, zero_add]
    rfl

end Cert.FeedAddSlope

end
-- ==== Proof.FeedOutSlope.lean ====
/-
  The slope at the input of the feed-forward layer's second product on one device: the frames of the program, of its idealization
  and of the reference, and the comparison with the reference. Each point computes one block of rows of a product with the weight
  transposed.
-/
module

public import proofs.«01_k».proof.Defs
public import proofs.«01_k».proof.Proof.Product
public import proofs.«01_k».proof.Proof.Gen.KernelYO
public import proofs.«01_k».proof.Proof.Gen.KernelYOIdeal.Frame
public import proofs.«01_k».proof.Proof.Gen.ReferenceYOIdeal
public import proofs.«01_k».proof.Proof.Gen.ReferenceYOIdeal.Run
public import Idealize.ShloMosaic.Lib.Pointwise
public import Idealize.ShloMosaic.Lib.Pipeline.ValueKit.Acc
public import Idealize.ShloMosaic.Lib.Pipeline.ValueKit.Geometry

@[expose] public section

noncomputable section

namespace Cert.FeedOutSlope

open Idealize.ShloMosaic Idealize.SL.Sem Idealize.ShloMosaic.TcCoe Cert.Product
open Cert.KernelYOIdeal Cert.KernelYOIdeal.Gen

/-! ## The kernel -/

variable (m : (ℓ : Loc nD τ sig) → Buf (Elt Ideal) ℓ)

/-- Each point reads the rows or columns that its block of the product needs, whole. -/
theorem index_facts : ∀ t : Fin cfg0.N, win0_0.index t 0 = win0_2.index t 0 ∧ win0_0.index t 1 = 0
      ∧ win0_1.index t 0 = win0_2.index t 1 ∧ win0_1.index t 1 = 0 :=
  (by decide +kernel : ∀ t : Fin grid0.N, _)

/-- What a point writes. -/
theorem pay1 (a : Vec Ideal S512x1024 .bf16) (b : Vec Ideal S2816x1024 .bf16) : k0_pay1 a b = product a (turned b) := funext fun y => by
  unfold k0_pay1
  simp only [pointwise]
  exact zero_add _

/-- The array after the run. -/
theorem final (c : Dev nD) : (dats m 0 c).arrAt 2 cfg0.N
    = product (m ((c : Thread nD τ).loc main_arg0)) (turned (m ((c : Thread nD τ).loc main_arg1))) := by
  refine (dats m 0 c).arrAt_eq_of_covers 2 _ (by decide +kernel) fun t hf y => ?_
  blk_simp
  rw [after0_2]
  frame_out
  rw [pay1]
  obtain ⟨i0, j0, i1, j1⟩ := index_facts t
  exact product_eq (fun l => congrArg (m ((c : Thread nD τ).loc main_arg0)) (at_row rfl rfl rfl i0 j0))
    (fun l => congrArg (m ((c : Thread nD τ).loc main_arg1)) (at_row rfl rfl rfl i1 j1))

/-! ## The claims -/

/-- The kernel of the program as written is that of its idealization. -/
theorem kernels_eq : Cert.KernelYO.defs₀ (F := Bits) = Cert.KernelYOIdeal.defs₀ (F := Bits) := by
  unfold Cert.KernelYO.defs₀ Cert.KernelYOIdeal.defs₀
  refine congrArg Defs.onTc (funext fun l => funext fun a => ?_)
  match l, a with
  | 0, (t, s) => rfl
  | ⟨_ + 1, h⟩, _ => exact absurd h (Nat.not_lt.2 (Nat.le_add_left _ _))

/-- And so is what its call means. -/
theorem calls_eq : Cert.KernelYO.defs (F := Bits) = Cert.KernelYOIdeal.defs (F := Bits) :=
  congrArg (Pipeline.defs (Cert.KernelYO.pcfgs (F := Bits))) kernels_eq

theorem frame_kernel : Cert.quiescent_KernelYO := fun m ρ _ => by
  rw [calls_eq]
  exact Cert.KernelYOIdeal.Gen.frame (F := Bits) m ρ

theorem frame_ideal : Cert.quiescent_KernelYOIdeal := fun m ρ _ => Cert.KernelYOIdeal.Gen.frame (F := Ideal) m ρ

theorem frame_reference_ideal : Cert.quiescent_ReferenceYOIdeal := fun m ρ _ =>
  (θ_run Cert.ReferenceYOIdeal.defs _ _).mono (fun r h => ⟨fun c => (h c).2, sem_eq_zero_of_no_sems (by decide) r.2⟩)
    (Cert.ReferenceYOIdeal.Value.run (F := Ideal) m ρ)

theorem algebraic : Cert.algebraic_KernelYOIdeal_ReferenceYOIdeal := fun m ρ m' ρ' _ hm => by
  refine ⟨_, ?_, Cert.ReferenceYOIdeal.Value.run (F := Ideal) m' ρ'⟩
  refine (θ_run Cert.KernelYOIdeal.defs _ _).mono (fun r h c => ?_) (run_main (F := Ideal) m ρ)
  obtain ⟨a0, a1⟩ := hm c
  rw [a0, a1]
  refine ⟨((h c).1 2).trans ((final m c).trans (funext fun i => ?_)),
    ((h c).1 0).trans ((dats m 0 c).arrAt_in 0 rfl _),
    ((h c).1 1).trans ((dats m 0 c).arrAt_in 1 rfl _)⟩
  simp only [pointwise, zero_add]
  rfl

end Cert.FeedOutSlope

end
-- ==== Proof.FeedOutWeight.lean ====
/-
  The gradient of the feed-forward layer's second weight on one device: the frames of the program, of its idealization and of the
  reference, and the comparison with the reference. Each point computes one block of rows of a product that sums over the rows of
  both arrays.
-/
module

public import proofs.«01_k».proof.Defs
public import proofs.«01_k».proof.Proof.Product
public import proofs.«01_k».proof.Proof.Gen.KernelYOW
public import proofs.«01_k».proof.Proof.Gen.KernelYOWIdeal.Frame
public import proofs.«01_k».proof.Proof.Gen.ReferenceYOWIdeal
public import proofs.«01_k».proof.Proof.Gen.ReferenceYOWIdeal.Run
public import Idealize.ShloMosaic.Lib.Pointwise
public import Idealize.ShloMosaic.Lib.Pipeline.ValueKit.Acc
public import Idealize.ShloMosaic.Lib.Pipeline.ValueKit.Geometry

@[expose] public section

noncomputable section

namespace Cert.FeedOutWeight

open Idealize.ShloMosaic Idealize.SL.Sem Idealize.ShloMosaic.TcCoe Cert.Product
open Cert.KernelYOWIdeal Cert.KernelYOWIdeal.Gen

/-! ## The kernel -/

variable (m : (ℓ : Loc nD τ sig) → Buf (Elt Ideal) ℓ)

/-- Each point reads the rows or columns that its block of the product needs, whole. -/
theorem index_facts : ∀ t : Fin cfg0.N, win0_0.index t 1 = win0_2.index t 0 ∧ win0_0.index t 0 = 0
      ∧ win0_1.index t 1 = win0_2.index t 1 ∧ win0_1.index t 0 = 0 :=
  (by decide +kernel : ∀ t : Fin grid0.N, _)

/-- What a point writes. -/
theorem pay1 (a : Vec Ideal S4096x256 .bf16) (b : Vec Ideal S4096x1024 .bf16) : k0_pay1 a b = product (turned a) b := funext fun y => by
  unfold k0_pay1
  simp only [pointwise]
  exact zero_add _

/-- The array after the run. -/
theorem final (c : Dev nD) : (dats m 0 c).arrAt 2 cfg0.N
    = product (turned (m ((c : Thread nD τ).loc main_arg0))) (m ((c : Thread nD τ).loc main_arg1)) := by
  refine (dats m 0 c).arrAt_eq_of_covers 2 _ (by decide +kernel) fun t hf y => ?_
  blk_simp
  rw [after0_2]
  frame_out
  rw [pay1]
  obtain ⟨i0, j0, i1, j1⟩ := index_facts t
  exact product_eq (fun l => congrArg (m ((c : Thread nD τ).loc main_arg0)) (at_column rfl rfl rfl i0 j0))
    (fun l => congrArg (m ((c : Thread nD τ).loc main_arg1)) (at_column rfl rfl rfl i1 j1))

/-! ## The claims -/

/-- The kernel of the program as written is that of its idealization. -/
theorem kernels_eq : Cert.KernelYOW.defs₀ (F := Bits) = Cert.KernelYOWIdeal.defs₀ (F := Bits) := by
  unfold Cert.KernelYOW.defs₀ Cert.KernelYOWIdeal.defs₀
  refine congrArg Defs.onTc (funext fun l => funext fun a => ?_)
  match l, a with
  | 0, (t, s) => rfl
  | ⟨_ + 1, h⟩, _ => exact absurd h (Nat.not_lt.2 (Nat.le_add_left _ _))

/-- And so is what its call means. -/
theorem calls_eq : Cert.KernelYOW.defs (F := Bits) = Cert.KernelYOWIdeal.defs (F := Bits) :=
  congrArg (Pipeline.defs (Cert.KernelYOW.pcfgs (F := Bits))) kernels_eq

theorem frame_kernel : Cert.quiescent_KernelYOW := fun m ρ _ => by
  rw [calls_eq]
  exact Cert.KernelYOWIdeal.Gen.frame (F := Bits) m ρ

theorem frame_ideal : Cert.quiescent_KernelYOWIdeal := fun m ρ _ => Cert.KernelYOWIdeal.Gen.frame (F := Ideal) m ρ

theorem frame_reference_ideal : Cert.quiescent_ReferenceYOWIdeal := fun m ρ _ =>
  (θ_run Cert.ReferenceYOWIdeal.defs _ _).mono (fun r h => ⟨fun c => (h c).2, sem_eq_zero_of_no_sems (by decide) r.2⟩)
    (Cert.ReferenceYOWIdeal.Value.run (F := Ideal) m ρ)

theorem algebraic : Cert.algebraic_KernelYOWIdeal_ReferenceYOWIdeal := fun m ρ m' ρ' _ hm => by
  refine ⟨_, ?_, Cert.ReferenceYOWIdeal.Value.run (F := Ideal) m' ρ'⟩
  refine (θ_run Cert.KernelYOWIdeal.defs _ _).mono (fun r h c => ?_) (run_main (F := Ideal) m ρ)
  obtain ⟨a0, a1⟩ := hm c
  rw [a0, a1]
  refine ⟨((h c).1 2).trans ((final m c).trans (funext fun i => ?_)),
    ((h c).1 0).trans ((dats m 0 c).arrAt_in 0 rfl _),
    ((h c).1 1).trans ((dats m 0 c).arrAt_in 1 rfl _)⟩
  simp only [pointwise, zero_add]
  rfl

end Cert.FeedOutWeight

end
-- ==== Proof.FeedGateSlope.lean ====
/-
  The gradient of the gated activation of the feed-forward layer on one device: the frames of the program, of its idealization and
  of the reference, and the comparison with the reference. Each point takes its own rows. The kernel adds up the gradient of the
  left half and that of the right half, each with zeros beside it, and the reference puts the two halves side by side.
-/
module

public import proofs.«01_k».proof.Defs
public import proofs.«01_k».proof.Proof.FeedGate
public import proofs.«01_k».proof.Proof.Head
public import proofs.«01_k».proof.Proof.Gen.KernelYS
public import proofs.«01_k».proof.Proof.Gen.KernelYSIdeal.Frame
public import proofs.«01_k».proof.Proof.Gen.ReferenceYSIdeal
public import proofs.«01_k».proof.Proof.Gen.ReferenceYSIdeal.Run
public import Idealize.ShloMosaic.Lib.Pointwise
public import Idealize.ShloMosaic.Lib.Pipeline.ValueKit.Acc
public import Idealize.ShloMosaic.Lib.Pipeline.ValueKit.Geometry

@[expose] public section

noncomputable section

namespace Cert.FeedGateSlope

open Idealize.ShloMosaic Idealize.SL.Sem Idealize.ShloMosaic.TcCoe Cert.AdamW Cert.FeedGate
open Cert.KernelYSIdeal Cert.KernelYSIdeal.Gen

/-! ## The gradient, of one block of rows or of all -/

variable {r : ℕ}

/-- The column of the slope for a place in the left half, -/
def low (i : (S2 r 5632).Idx) (h : (i 1).val < 2816) : (S2 r 2816).Idx := ix2 (i 0) ⟨(i 1).val, h⟩

/-- and for a place in the right half. -/
def high (i : (S2 r 5632).Idx) : (S2 r 2816).Idx :=
  ix2 (i 0) ⟨(i 1).val - 2816, by have : (i 1).val < 5632 := (i 1).isLt; omega⟩

/-- The slope at the number that is activated, -/
def leftSlope (a b d : EReal) : EReal := d * b * Ideal.logistic a + a * (d * b) * (Ideal.logistic a * (1 - Ideal.logistic a))

/-- and at the other. -/
def rightSlope (a d : EReal) : EReal := a * Ideal.logistic a * d

/-- The gradient. -/
def slope (x : (S2 r 5632).Idx → Ideal .bf16) (d : (S2 r 2816).Idx → Ideal .bf16) : (S2 r 5632).Idx → Ideal .bf16 := fun i =>
  if h : (i 1).val < 2816 then leftSlope (x (left (low i h))) (x (right (low i h))) (d (low i h))
  else rightSlope (x (left (high i))) (d (high i))

/-! ## The kernel -/

/-- What a point writes. -/
theorem pay1 (x : Vec Ideal S256x5632 .bf16) (d : Vec Ideal S256x2816 .bf16) : k0_pay1 x d = slope (r := 256) x d := funext fun y => by
  unfold k0_pay1 slope
  simp only [pointwise]
  by_cases h : (y 1).val < 2816
  · rw [dif_pos h, dif_pos h, dif_pos h, zero_add]
    exact congrArg₂ (fun a b : S256x5632.Idx => leftSlope (x a) (x b) (d (low (r := 256) y h)))
      (row (r := 256) (low (r := 256) y h) 0 _ _) (row (r := 256) (low (r := 256) y h) 2816 _ _)
  · rw [dif_neg h, dif_neg h, dif_neg h, add_zero]
    exact congrArg (fun a : S256x5632.Idx => rightSlope (x a) (d (high (r := 256) y))) (row (r := 256) (high (r := 256) y) 0 _ _)

variable (m : (ℓ : Loc nD τ sig) → Buf (Elt Ideal) ℓ)

/-- Which block each point reads and writes. -/
theorem index_facts : ∀ t : Fin cfg0.N, win0_0.index t = ![t.val, 0] ∧ win0_1.index t = ![t.val, 0] ∧ win0_2.index t = ![t.val, 0] :=
  (by decide +kernel : ∀ t : Fin grid0.N, _)

/-- The rows of a point end within the array. -/
theorem inside (t : Fin cfg0.N) : t.val * 256 + 256 ≤ 4096 := by
  have := lt_of_lt_of_eq t.isLt N_0
  omega

/-- What a point reads of the argument of the activation, -/
theorem read0 (c : Dev nD) (t : Fin cfg0.N) : iblk m c 0 t
    = fun y : S256x5632.Idx => m ((c : Thread nD τ).loc main_arg0) (spot (r := 4096) t.val (inside t) y) :=
  funext fun _ => congrArg (m ((c : Thread nD τ).loc main_arg0))
    (at_spot rfl rfl (congrFun (index_facts t).1 0) (congrFun (index_facts t).1 1))

/-- and of the slope. -/
theorem read1 (c : Dev nD) (t : Fin cfg0.N) : iblk m c 1 t
    = fun y : S256x2816.Idx => m ((c : Thread nD τ).loc main_arg1) (spot (r := 4096) t.val (inside t) y) :=
  funext fun _ => congrArg (m ((c : Thread nD τ).loc main_arg1))
    (at_spot rfl rfl (congrFun (index_facts t).2.1 0) (congrFun (index_facts t).2.1 1))

/-- The array after the run. -/
theorem final (c : Dev nD) : (dats m 0 c).arrAt 2 cfg0.N
    = slope (r := 4096) (m ((c : Thread nD τ).loc main_arg0)) (m ((c : Thread nD τ).loc main_arg1)) := by
  refine (dats m 0 c).arrAt_eq_of_covers 2 _ (by decide +kernel) fun t hf y => ?_
  blk_simp
  have e : (win0_2.blk t).view.emb y = spot (r := 4096) t.val (inside t) y :=
    at_spot rfl rfl (congrFun (index_facts t).2.2 0) (congrFun (index_facts t).2.2 1)
  rw [after0_2]
  frame_out
  rw [pay1, e, read0, read1]
  rfl

/-! ## The claims -/

/-- The kernel of the program as written is that of its idealization. -/
theorem kernels_eq : Cert.KernelYS.defs₀ (F := Bits) = Cert.KernelYSIdeal.defs₀ (F := Bits) := by
  unfold Cert.KernelYS.defs₀ Cert.KernelYSIdeal.defs₀
  refine congrArg Defs.onTc (funext fun l => funext fun a => ?_)
  match l, a with
  | 0, (t, s) => rfl
  | ⟨_ + 1, h⟩, _ => exact absurd h (Nat.not_lt.2 (Nat.le_add_left _ _))

/-- And so is what its call means. -/
theorem calls_eq : Cert.KernelYS.defs (F := Bits) = Cert.KernelYSIdeal.defs (F := Bits) :=
  congrArg (Pipeline.defs (Cert.KernelYS.pcfgs (F := Bits))) kernels_eq

theorem frame_kernel : Cert.quiescent_KernelYS := fun m ρ _ => by
  rw [calls_eq]
  exact Cert.KernelYSIdeal.Gen.frame (F := Bits) m ρ

theorem frame_ideal : Cert.quiescent_KernelYSIdeal := fun m ρ _ => Cert.KernelYSIdeal.Gen.frame (F := Ideal) m ρ

theorem frame_reference_ideal : Cert.quiescent_ReferenceYSIdeal := fun m ρ _ =>
  (θ_run Cert.ReferenceYSIdeal.defs _ _).mono (fun r h => ⟨fun c => (h c).2, sem_eq_zero_of_no_sems (by decide) r.2⟩)
    (Cert.ReferenceYSIdeal.Value.run (F := Ideal) m ρ)

theorem algebraic : Cert.algebraic_KernelYSIdeal_ReferenceYSIdeal := fun m ρ m' ρ' _ hm => by
  refine ⟨_, ?_, Cert.ReferenceYSIdeal.Value.run (F := Ideal) m' ρ'⟩
  refine (θ_run Cert.KernelYSIdeal.defs _ _).mono (fun r h c => ?_) (run_main (F := Ideal) m ρ)
  obtain ⟨a0, a1⟩ := hm c
  rw [a0, a1]
  refine ⟨((h c).1 2).trans ((final m c).trans (funext fun i => ?_)), ((h c).1 0).trans ((dats m 0 c).arrAt_in 0 rfl _),
    ((h c).1 1).trans ((dats m 0 c).arrAt_in 1 rfl _)⟩
  unfold slope
  simp only [pointwise]
  by_cases l : (i 1).val < 2816
  · rw [dif_pos l]
    refine Eq.trans ?_ (dif_pos l).symm
    exact (congrArg₂ (fun a b : S4096x5632.Idx => leftSlope (m ((c : Thread nD τ).loc main_arg0) a)
      (m ((c : Thread nD τ).loc main_arg0) b) (m ((c : Thread nD τ).loc main_arg1) (low (r := 4096) i l)))
      (row (r := 4096) (low (r := 4096) i l) 0 _ _) (row (r := 4096) (low (r := 4096) i l) 2816 _ _)).symm
  · rw [dif_neg l]
    refine Eq.trans ?_ (dif_neg l).symm
    exact (congrArg (fun a : S4096x5632.Idx => rightSlope (m ((c : Thread nD τ).loc main_arg0) a)
      (m ((c : Thread nD τ).loc main_arg1) (high (r := 4096) i))) (row (r := 4096) (high (r := 4096) i) 0 _ _)).symm

end Cert.FeedGateSlope

end
-- ==== Proof.FeedInSlope.lean ====
/-
  The slope at the input of the feed-forward layer's first product on one device: the frames of the program, of its idealization and
  of the reference, and the comparison with the reference. Each point computes one block of rows of a product with the weight
  transposed.
-/
module

public import proofs.«01_k».proof.Defs
public import proofs.«01_k».proof.Proof.Product
public import proofs.«01_k».proof.Proof.Gen.KernelYI
public import proofs.«01_k».proof.Proof.Gen.KernelYIIdeal.Frame
public import proofs.«01_k».proof.Proof.Gen.ReferenceYIIdeal
public import proofs.«01_k».proof.Proof.Gen.ReferenceYIIdeal.Run
public import Idealize.ShloMosaic.Lib.Pointwise
public import Idealize.ShloMosaic.Lib.Pipeline.ValueKit.Acc
public import Idealize.ShloMosaic.Lib.Pipeline.ValueKit.Geometry

@[expose] public section

noncomputable section

namespace Cert.FeedInSlope

open Idealize.ShloMosaic Idealize.SL.Sem Idealize.ShloMosaic.TcCoe Cert.Product
open Cert.KernelYIIdeal Cert.KernelYIIdeal.Gen

/-! ## The kernel -/

variable (m : (ℓ : Loc nD τ sig) → Buf (Elt Ideal) ℓ)

/-- Each point reads the rows or columns that its block of the product needs, whole. -/
theorem index_facts : ∀ t : Fin cfg0.N, win0_0.index t 0 = win0_2.index t 0 ∧ win0_0.index t 1 = 0
      ∧ win0_1.index t 0 = win0_2.index t 1 ∧ win0_1.index t 1 = 0 :=
  (by decide +kernel : ∀ t : Fin grid0.N, _)

/-- What a point writes. -/
theorem pay1 (a : Vec Ideal S512x5632 .bf16) (b : Vec Ideal S1024x5632 .bf16) : k0_pay1 a b = product a (turned b) := funext fun y => by
  unfold k0_pay1
  simp only [pointwise]
  exact zero_add _

/-- The array after the run. -/
theorem final (c : Dev nD) : (dats m 0 c).arrAt 2 cfg0.N
    = product (m ((c : Thread nD τ).loc main_arg0)) (turned (m ((c : Thread nD τ).loc main_arg1))) := by
  refine (dats m 0 c).arrAt_eq_of_covers 2 _ (by decide +kernel) fun t hf y => ?_
  blk_simp
  rw [after0_2]
  frame_out
  rw [pay1]
  obtain ⟨i0, j0, i1, j1⟩ := index_facts t
  exact product_eq (fun l => congrArg (m ((c : Thread nD τ).loc main_arg0)) (at_row rfl rfl rfl i0 j0))
    (fun l => congrArg (m ((c : Thread nD τ).loc main_arg1)) (at_row rfl rfl rfl i1 j1))

/-! ## The claims -/

/-- The kernel of the program as written is that of its idealization. -/
theorem kernels_eq : Cert.KernelYI.defs₀ (F := Bits) = Cert.KernelYIIdeal.defs₀ (F := Bits) := by
  unfold Cert.KernelYI.defs₀ Cert.KernelYIIdeal.defs₀
  refine congrArg Defs.onTc (funext fun l => funext fun a => ?_)
  match l, a with
  | 0, (t, s) => rfl
  | ⟨_ + 1, h⟩, _ => exact absurd h (Nat.not_lt.2 (Nat.le_add_left _ _))

/-- And so is what its call means. -/
theorem calls_eq : Cert.KernelYI.defs (F := Bits) = Cert.KernelYIIdeal.defs (F := Bits) :=
  congrArg (Pipeline.defs (Cert.KernelYI.pcfgs (F := Bits))) kernels_eq

theorem frame_kernel : Cert.quiescent_KernelYI := fun m ρ _ => by
  rw [calls_eq]
  exact Cert.KernelYIIdeal.Gen.frame (F := Bits) m ρ

theorem frame_ideal : Cert.quiescent_KernelYIIdeal := fun m ρ _ => Cert.KernelYIIdeal.Gen.frame (F := Ideal) m ρ

theorem frame_reference_ideal : Cert.quiescent_ReferenceYIIdeal := fun m ρ _ =>
  (θ_run Cert.ReferenceYIIdeal.defs _ _).mono (fun r h => ⟨fun c => (h c).2, sem_eq_zero_of_no_sems (by decide) r.2⟩)
    (Cert.ReferenceYIIdeal.Value.run (F := Ideal) m ρ)

theorem algebraic : Cert.algebraic_KernelYIIdeal_ReferenceYIIdeal := fun m ρ m' ρ' _ hm => by
  refine ⟨_, ?_, Cert.ReferenceYIIdeal.Value.run (F := Ideal) m' ρ'⟩
  refine (θ_run Cert.KernelYIIdeal.defs _ _).mono (fun r h c => ?_) (run_main (F := Ideal) m ρ)
  obtain ⟨a0, a1⟩ := hm c
  rw [a0, a1]
  refine ⟨((h c).1 2).trans ((final m c).trans (funext fun i => ?_)),
    ((h c).1 0).trans ((dats m 0 c).arrAt_in 0 rfl _),
    ((h c).1 1).trans ((dats m 0 c).arrAt_in 1 rfl _)⟩
  simp only [pointwise, zero_add]
  rfl

end Cert.FeedInSlope

end
-- ==== Proof.FeedInWeight.lean ====
/-
  The gradient of the feed-forward layer's first weight on one device: the frames of the program, of its idealization and of the
  reference, and the comparison with the reference. Each point computes one block of columns of a product that sums over the rows of
  both arrays.
-/
module

public import proofs.«01_k».proof.Defs
public import proofs.«01_k».proof.Proof.Product
public import proofs.«01_k».proof.Proof.Gen.KernelYIW
public import proofs.«01_k».proof.Proof.Gen.KernelYIWIdeal.Frame
public import proofs.«01_k».proof.Proof.Gen.ReferenceYIWIdeal
public import proofs.«01_k».proof.Proof.Gen.ReferenceYIWIdeal.Run
public import Idealize.ShloMosaic.Lib.Pointwise
public import Idealize.ShloMosaic.Lib.Pipeline.ValueKit.Acc
public import Idealize.ShloMosaic.Lib.Pipeline.ValueKit.Geometry

@[expose] public section

noncomputable section

namespace Cert.FeedInWeight

open Idealize.ShloMosaic Idealize.SL.Sem Idealize.ShloMosaic.TcCoe Cert.Product
open Cert.KernelYIWIdeal Cert.KernelYIWIdeal.Gen

/-! ## The kernel -/

variable (m : (ℓ : Loc nD τ sig) → Buf (Elt Ideal) ℓ)

/-- Each point reads the rows or columns that its block of the product needs, whole. -/
theorem index_facts : ∀ t : Fin cfg0.N, win0_0.index t 1 = win0_2.index t 0 ∧ win0_0.index t 0 = 0
      ∧ win0_1.index t 1 = win0_2.index t 1 ∧ win0_1.index t 0 = 0 :=
  (by decide +kernel : ∀ t : Fin grid0.N, _)

/-- What a point writes. -/
theorem pay1 (a : Vec Ideal S4096x1024 .bf16) (b : Vec Ideal S4096x512 .bf16) : k0_pay1 a b = product (turned a) b := funext fun y => by
  unfold k0_pay1
  simp only [pointwise]
  exact zero_add _

/-- The array after the run. -/
theorem final (c : Dev nD) : (dats m 0 c).arrAt 2 cfg0.N
    = product (turned (m ((c : Thread nD τ).loc main_arg0))) (m ((c : Thread nD τ).loc main_arg1)) := by
  refine (dats m 0 c).arrAt_eq_of_covers 2 _ (by decide +kernel) fun t hf y => ?_
  blk_simp
  rw [after0_2]
  frame_out
  rw [pay1]
  obtain ⟨i0, j0, i1, j1⟩ := index_facts t
  exact product_eq (fun l => congrArg (m ((c : Thread nD τ).loc main_arg0)) (at_column rfl rfl rfl i0 j0))
    (fun l => congrArg (m ((c : Thread nD τ).loc main_arg1)) (at_column rfl rfl rfl i1 j1))

/-! ## The claims -/

/-- The kernel of the program as written is that of its idealization. -/
theorem kernels_eq : Cert.KernelYIW.defs₀ (F := Bits) = Cert.KernelYIWIdeal.defs₀ (F := Bits) := by
  unfold Cert.KernelYIW.defs₀ Cert.KernelYIWIdeal.defs₀
  refine congrArg Defs.onTc (funext fun l => funext fun a => ?_)
  match l, a with
  | 0, (t, s) => rfl
  | ⟨_ + 1, h⟩, _ => exact absurd h (Nat.not_lt.2 (Nat.le_add_left _ _))

/-- And so is what its call means. -/
theorem calls_eq : Cert.KernelYIW.defs (F := Bits) = Cert.KernelYIWIdeal.defs (F := Bits) :=
  congrArg (Pipeline.defs (Cert.KernelYIW.pcfgs (F := Bits))) kernels_eq

theorem frame_kernel : Cert.quiescent_KernelYIW := fun m ρ _ => by
  rw [calls_eq]
  exact Cert.KernelYIWIdeal.Gen.frame (F := Bits) m ρ

theorem frame_ideal : Cert.quiescent_KernelYIWIdeal := fun m ρ _ => Cert.KernelYIWIdeal.Gen.frame (F := Ideal) m ρ

theorem frame_reference_ideal : Cert.quiescent_ReferenceYIWIdeal := fun m ρ _ =>
  (θ_run Cert.ReferenceYIWIdeal.defs _ _).mono (fun r h => ⟨fun c => (h c).2, sem_eq_zero_of_no_sems (by decide) r.2⟩)
    (Cert.ReferenceYIWIdeal.Value.run (F := Ideal) m ρ)

theorem algebraic : Cert.algebraic_KernelYIWIdeal_ReferenceYIWIdeal := fun m ρ m' ρ' _ hm => by
  refine ⟨_, ?_, Cert.ReferenceYIWIdeal.Value.run (F := Ideal) m' ρ'⟩
  refine (θ_run Cert.KernelYIWIdeal.defs _ _).mono (fun r h c => ?_) (run_main (F := Ideal) m ρ)
  obtain ⟨a0, a1⟩ := hm c
  rw [a0, a1]
  refine ⟨((h c).1 2).trans ((final m c).trans (funext fun i => ?_)),
    ((h c).1 0).trans ((dats m 0 c).arrAt_in 0 rfl _),
    ((h c).1 1).trans ((dats m 0 c).arrAt_in 1 rfl _)⟩
  simp only [pointwise, zero_add]
  rfl

end Cert.FeedInWeight

end
-- ==== Proof.Projections.lean ====
/-
  The mixers' two projections on one device, forward and backward: of each of the six calls the frames of the program, of its
  idealization and of the reference, and the comparison with the reference. Each point computes one block of a product; what the six
  share is in `Product.lean`.
-/
module

public import proofs.«01_k».proof.Defs
public import proofs.«01_k».proof.Proof.Product
public import proofs.«01_k».proof.Proof.Gen.KernelZI
public import proofs.«01_k».proof.Proof.Gen.KernelZIIdeal.Frame
public import proofs.«01_k».proof.Proof.Gen.ReferenceZIIdeal
public import proofs.«01_k».proof.Proof.Gen.ReferenceZIIdeal.Run
public import proofs.«01_k».proof.Proof.Gen.KernelZO
public import proofs.«01_k».proof.Proof.Gen.KernelZOIdeal.Frame
public import proofs.«01_k».proof.Proof.Gen.ReferenceZOIdeal
public import proofs.«01_k».proof.Proof.Gen.ReferenceZOIdeal.Run
public import proofs.«01_k».proof.Proof.Gen.KernelZOX
public import proofs.«01_k».proof.Proof.Gen.KernelZOXIdeal.Frame
public import proofs.«01_k».proof.Proof.Gen.ReferenceZOXIdeal
public import proofs.«01_k».proof.Proof.Gen.ReferenceZOXIdeal.Run
public import proofs.«01_k».proof.Proof.Gen.KernelZOW
public import proofs.«01_k».proof.Proof.Gen.KernelZOWIdeal.Frame
public import proofs.«01_k».proof.Proof.Gen.ReferenceZOWIdeal
public import proofs.«01_k».proof.Proof.Gen.ReferenceZOWIdeal.Run
public import proofs.«01_k».proof.Proof.Gen.KernelZIX
public import proofs.«01_k».proof.Proof.Gen.KernelZIXIdeal.Frame
public import proofs.«01_k».proof.Proof.Gen.ReferenceZIXIdeal
public import proofs.«01_k».proof.Proof.Gen.ReferenceZIXIdeal.Run
public import proofs.«01_k».proof.Proof.Gen.KernelZIW
public import proofs.«01_k».proof.Proof.Gen.KernelZIWIdeal.Frame
public import proofs.«01_k».proof.Proof.Gen.ReferenceZIWIdeal
public import proofs.«01_k».proof.Proof.Gen.ReferenceZIWIdeal.Run
public import Idealize.ShloMosaic.Lib.Pipeline.ValueKit.Acc
public import Idealize.ShloMosaic.Lib.Pipeline.ValueKit.Geometry

@[expose] public section

noncomputable section

/-! ## The first projection -/

namespace Cert.MixIn

open Idealize.ShloMosaic Idealize.SL.Sem Idealize.ShloMosaic.TcCoe Cert.Product Cert.KernelZIIdeal Cert.KernelZIIdeal.Gen

/-- Each point reads the rows and columns that its block of the product needs, whole. -/
theorem index_facts : ∀ t : Fin cfg0.N, win0_0.index t 0 = win0_2.index t 0 ∧ win0_0.index t 1 = 0
      ∧ win0_1.index t 1 = win0_2.index t 1 ∧ win0_1.index t 0 = 0 :=
  (by decide +kernel : ∀ t : Fin grid0.N, _)

/-- What a point writes. -/
theorem pay1 (a : Vec Ideal S1024x1024 .bf16) (b : Vec Ideal S1024x1664 .bf16) : k0_pay1 a b = product a b := funext fun y => by
  unfold k0_pay1
  simp only [pointwise]
  exact zero_add _

/-- The array after the run. -/
theorem final (m : (ℓ : Loc nD τ sig) → Buf (Elt Ideal) ℓ) (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay1]
  obtain ⟨i0, j0, i1, j1⟩ := index_facts t
  exact product_eq (fun l => congrArg (m ((c : Thread nD τ).loc main_arg0)) (at_row rfl rfl rfl i0 j0))
    (fun l => congrArg (m ((c : Thread nD τ).loc main_arg1)) (at_column rfl rfl rfl i1 j1))

/-- The kernel of the program as written is that of its idealization. -/
theorem kernels_eq : Cert.KernelZI.defs₀ (F := Bits) = Cert.KernelZIIdeal.defs₀ (F := Bits) := by
  unfold Cert.KernelZI.defs₀ Cert.KernelZIIdeal.defs₀
  refine congrArg Defs.onTc (funext fun l => funext fun a => ?_)
  match l, a with
  | 0, (t, s) => rfl
  | ⟨_ + 1, h⟩, _ => exact absurd h (Nat.not_lt.2 (Nat.le_add_left _ _))

/-- And so is what its call means. -/
theorem calls_eq : Cert.KernelZI.defs (F := Bits) = Cert.KernelZIIdeal.defs (F := Bits) :=
  congrArg (Pipeline.defs (Cert.KernelZI.pcfgs (F := Bits))) kernels_eq

theorem frame_kernel : Cert.quiescent_KernelZI := fun m ρ _ => by
  rw [calls_eq]
  exact Cert.KernelZIIdeal.Gen.frame (F := Bits) m ρ

theorem frame_ideal : Cert.quiescent_KernelZIIdeal := fun m ρ _ => Cert.KernelZIIdeal.Gen.frame (F := Ideal) m ρ

theorem frame_reference_ideal : Cert.quiescent_ReferenceZIIdeal := fun m ρ _ =>
  (θ_run Cert.ReferenceZIIdeal.defs _ _).mono (fun r h => ⟨fun c => (h c).2, sem_eq_zero_of_no_sems (by decide) r.2⟩)
    (Cert.ReferenceZIIdeal.Value.run (F := Ideal) m ρ)

theorem algebraic : Cert.algebraic_KernelZIIdeal_ReferenceZIIdeal := fun m ρ m' ρ' _ hm => by
  refine ⟨_, ?_, Cert.ReferenceZIIdeal.Value.run (F := Ideal) m' ρ'⟩
  refine (θ_run Cert.KernelZIIdeal.defs _ _).mono (fun r h c => ?_) (run_main (F := Ideal) m ρ)
  obtain ⟨a0, a1⟩ := hm c
  rw [a0, a1]
  refine ⟨((h c).1 2).trans ((final m c).trans (funext fun i => ?_)),
    ((h c).1 0).trans ((dats m 0 c).arrAt_in 0 rfl _),
    ((h c).1 1).trans ((dats m 0 c).arrAt_in 1 rfl _)⟩
  simp only [pointwise, zero_add]
  rfl

end Cert.MixIn

/-! ## The second projection -/

namespace Cert.MixOut

open Idealize.ShloMosaic Idealize.SL.Sem Idealize.ShloMosaic.TcCoe Cert.Product Cert.KernelZOIdeal Cert.KernelZOIdeal.Gen

/-- Each point reads the rows and columns that its block of the product needs, whole. -/
theorem index_facts : ∀ t : Fin cfg0.N, win0_0.index t 0 = win0_2.index t 0 ∧ win0_0.index t 1 = 0
      ∧ win0_1.index t 1 = win0_2.index t 1 ∧ win0_1.index t 0 = 0 :=
  (by decide +kernel : ∀ t : Fin grid0.N, _)

/-- What a point writes. -/
theorem pay1 (a : Vec Ideal S1024x1024 .bf16) (b : Vec Ideal S1024x1024 .bf16) : k0_pay1 a b = product a b := funext fun y => by
  unfold k0_pay1
  simp only [pointwise]
  exact zero_add _

/-- The array after the run. -/
theorem final (m : (ℓ : Loc nD τ sig) → Buf (Elt Ideal) ℓ) (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay1]
  obtain ⟨i0, j0, i1, j1⟩ := index_facts t
  exact product_eq (fun l => congrArg (m ((c : Thread nD τ).loc main_arg0)) (at_row rfl rfl rfl i0 j0))
    (fun l => congrArg (m ((c : Thread nD τ).loc main_arg1)) (at_column rfl rfl rfl i1 j1))

/-- The kernel of the program as written is that of its idealization. -/
theorem kernels_eq : Cert.KernelZO.defs₀ (F := Bits) = Cert.KernelZOIdeal.defs₀ (F := Bits) := by
  unfold Cert.KernelZO.defs₀ Cert.KernelZOIdeal.defs₀
  refine congrArg Defs.onTc (funext fun l => funext fun a => ?_)
  match l, a with
  | 0, (t, s) => rfl
  | ⟨_ + 1, h⟩, _ => exact absurd h (Nat.not_lt.2 (Nat.le_add_left _ _))

/-- And so is what its call means. -/
theorem calls_eq : Cert.KernelZO.defs (F := Bits) = Cert.KernelZOIdeal.defs (F := Bits) :=
  congrArg (Pipeline.defs (Cert.KernelZO.pcfgs (F := Bits))) kernels_eq

theorem frame_kernel : Cert.quiescent_KernelZO := fun m ρ _ => by
  rw [calls_eq]
  exact Cert.KernelZOIdeal.Gen.frame (F := Bits) m ρ

theorem frame_ideal : Cert.quiescent_KernelZOIdeal := fun m ρ _ => Cert.KernelZOIdeal.Gen.frame (F := Ideal) m ρ

theorem frame_reference_ideal : Cert.quiescent_ReferenceZOIdeal := fun m ρ _ =>
  (θ_run Cert.ReferenceZOIdeal.defs _ _).mono (fun r h => ⟨fun c => (h c).2, sem_eq_zero_of_no_sems (by decide) r.2⟩)
    (Cert.ReferenceZOIdeal.Value.run (F := Ideal) m ρ)

theorem algebraic : Cert.algebraic_KernelZOIdeal_ReferenceZOIdeal := fun m ρ m' ρ' _ hm => by
  refine ⟨_, ?_, Cert.ReferenceZOIdeal.Value.run (F := Ideal) m' ρ'⟩
  refine (θ_run Cert.KernelZOIdeal.defs _ _).mono (fun r h c => ?_) (run_main (F := Ideal) m ρ)
  obtain ⟨a0, a1⟩ := hm c
  rw [a0, a1]
  refine ⟨((h c).1 2).trans ((final m c).trans (funext fun i => ?_)),
    ((h c).1 0).trans ((dats m 0 c).arrAt_in 0 rfl _),
    ((h c).1 1).trans ((dats m 0 c).arrAt_in 1 rfl _)⟩
  simp only [pointwise, zero_add]
  rfl

end Cert.MixOut

/-! ## The slope at the input of the second projection -/

namespace Cert.MixOutSlope

open Idealize.ShloMosaic Idealize.SL.Sem Idealize.ShloMosaic.TcCoe Cert.Product Cert.KernelZOXIdeal Cert.KernelZOXIdeal.Gen

/-- Each point reads the rows and columns that its block of the product needs, whole. -/
theorem index_facts : ∀ t : Fin cfg0.N, win0_0.index t 0 = win0_2.index t 0 ∧ win0_0.index t 1 = 0
      ∧ win0_1.index t 0 = win0_2.index t 1 ∧ win0_1.index t 1 = 0 :=
  (by decide +kernel : ∀ t : Fin grid0.N, _)

/-- What a point writes. -/
theorem pay1 (a : Vec Ideal S1024x1024 .bf16) (b : Vec Ideal S1024x1024 .bf16) : k0_pay1 a b = product a (turned b) := funext fun y => by
  unfold k0_pay1
  simp only [pointwise]
  exact zero_add _

/-- The array after the run. -/
theorem final (m : (ℓ : Loc nD τ sig) → Buf (Elt Ideal) ℓ) (c : Dev nD) : (dats m 0 c).arrAt 2 cfg0.N
    = product (m ((c : Thread nD τ).loc main_arg0)) (turned (m ((c : Thread nD τ).loc main_arg1))) := by
  refine (dats m 0 c).arrAt_eq_of_covers 2 _ (by decide +kernel) fun t hf y => ?_
  blk_simp
  rw [after0_2]
  frame_out
  rw [pay1]
  obtain ⟨i0, j0, i1, j1⟩ := index_facts t
  exact product_eq (fun l => congrArg (m ((c : Thread nD τ).loc main_arg0)) (at_row rfl rfl rfl i0 j0))
    (fun l => congrArg (m ((c : Thread nD τ).loc main_arg1)) (at_row rfl rfl rfl i1 j1))

/-- The kernel of the program as written is that of its idealization. -/
theorem kernels_eq : Cert.KernelZOX.defs₀ (F := Bits) = Cert.KernelZOXIdeal.defs₀ (F := Bits) := by
  unfold Cert.KernelZOX.defs₀ Cert.KernelZOXIdeal.defs₀
  refine congrArg Defs.onTc (funext fun l => funext fun a => ?_)
  match l, a with
  | 0, (t, s) => rfl
  | ⟨_ + 1, h⟩, _ => exact absurd h (Nat.not_lt.2 (Nat.le_add_left _ _))

/-- And so is what its call means. -/
theorem calls_eq : Cert.KernelZOX.defs (F := Bits) = Cert.KernelZOXIdeal.defs (F := Bits) :=
  congrArg (Pipeline.defs (Cert.KernelZOX.pcfgs (F := Bits))) kernels_eq

theorem frame_kernel : Cert.quiescent_KernelZOX := fun m ρ _ => by
  rw [calls_eq]
  exact Cert.KernelZOXIdeal.Gen.frame (F := Bits) m ρ

theorem frame_ideal : Cert.quiescent_KernelZOXIdeal := fun m ρ _ => Cert.KernelZOXIdeal.Gen.frame (F := Ideal) m ρ

theorem frame_reference_ideal : Cert.quiescent_ReferenceZOXIdeal := fun m ρ _ =>
  (θ_run Cert.ReferenceZOXIdeal.defs _ _).mono (fun r h => ⟨fun c => (h c).2, sem_eq_zero_of_no_sems (by decide) r.2⟩)
    (Cert.ReferenceZOXIdeal.Value.run (F := Ideal) m ρ)

theorem algebraic : Cert.algebraic_KernelZOXIdeal_ReferenceZOXIdeal := fun m ρ m' ρ' _ hm => by
  refine ⟨_, ?_, Cert.ReferenceZOXIdeal.Value.run (F := Ideal) m' ρ'⟩
  refine (θ_run Cert.KernelZOXIdeal.defs _ _).mono (fun r h c => ?_) (run_main (F := Ideal) m ρ)
  obtain ⟨a0, a1⟩ := hm c
  rw [a0, a1]
  refine ⟨((h c).1 2).trans ((final m c).trans (funext fun i => ?_)),
    ((h c).1 0).trans ((dats m 0 c).arrAt_in 0 rfl _),
    ((h c).1 1).trans ((dats m 0 c).arrAt_in 1 rfl _)⟩
  simp only [pointwise, zero_add]
  rfl

end Cert.MixOutSlope

/-! ## The gradient of the second projection's weight -/

namespace Cert.MixOutWeight

open Idealize.ShloMosaic Idealize.SL.Sem Idealize.ShloMosaic.TcCoe Cert.Product Cert.KernelZOWIdeal Cert.KernelZOWIdeal.Gen

/-- Each point reads the rows and columns that its block of the product needs, whole. -/
theorem index_facts : ∀ t : Fin cfg0.N, win0_0.index t 1 = win0_2.index t 0 ∧ win0_0.index t 0 = 0
      ∧ win0_1.index t 1 = win0_2.index t 1 ∧ win0_1.index t 0 = 0 :=
  (by decide +kernel : ∀ t : Fin grid0.N, _)

/-- What a point writes. -/
theorem pay1 (a : Vec Ideal S4096x1024 .bf16) (b : Vec Ideal S4096x512 .bf16) : k0_pay1 a b = product (turned a) b := funext fun y => by
  unfold k0_pay1
  simp only [pointwise]
  exact zero_add _

/-- The array after the run. -/
theorem final (m : (ℓ : Loc nD τ sig) → Buf (Elt Ideal) ℓ) (c : Dev nD) : (dats m 0 c).arrAt 2 cfg0.N
    = product (turned (m ((c : Thread nD τ).loc main_arg0))) (m ((c : Thread nD τ).loc main_arg1)) := by
  refine (dats m 0 c).arrAt_eq_of_covers 2 _ (by decide +kernel) fun t hf y => ?_
  blk_simp
  rw [after0_2]
  frame_out
  rw [pay1]
  obtain ⟨i0, j0, i1, j1⟩ := index_facts t
  exact product_eq (fun l => congrArg (m ((c : Thread nD τ).loc main_arg0)) (at_column rfl rfl rfl i0 j0))
    (fun l => congrArg (m ((c : Thread nD τ).loc main_arg1)) (at_column rfl rfl rfl i1 j1))

/-- The kernel of the program as written is that of its idealization. -/
theorem kernels_eq : Cert.KernelZOW.defs₀ (F := Bits) = Cert.KernelZOWIdeal.defs₀ (F := Bits) := by
  unfold Cert.KernelZOW.defs₀ Cert.KernelZOWIdeal.defs₀
  refine congrArg Defs.onTc (funext fun l => funext fun a => ?_)
  match l, a with
  | 0, (t, s) => rfl
  | ⟨_ + 1, h⟩, _ => exact absurd h (Nat.not_lt.2 (Nat.le_add_left _ _))

/-- And so is what its call means. -/
theorem calls_eq : Cert.KernelZOW.defs (F := Bits) = Cert.KernelZOWIdeal.defs (F := Bits) :=
  congrArg (Pipeline.defs (Cert.KernelZOW.pcfgs (F := Bits))) kernels_eq

theorem frame_kernel : Cert.quiescent_KernelZOW := fun m ρ _ => by
  rw [calls_eq]
  exact Cert.KernelZOWIdeal.Gen.frame (F := Bits) m ρ

theorem frame_ideal : Cert.quiescent_KernelZOWIdeal := fun m ρ _ => Cert.KernelZOWIdeal.Gen.frame (F := Ideal) m ρ

theorem frame_reference_ideal : Cert.quiescent_ReferenceZOWIdeal := fun m ρ _ =>
  (θ_run Cert.ReferenceZOWIdeal.defs _ _).mono (fun r h => ⟨fun c => (h c).2, sem_eq_zero_of_no_sems (by decide) r.2⟩)
    (Cert.ReferenceZOWIdeal.Value.run (F := Ideal) m ρ)

theorem algebraic : Cert.algebraic_KernelZOWIdeal_ReferenceZOWIdeal := fun m ρ m' ρ' _ hm => by
  refine ⟨_, ?_, Cert.ReferenceZOWIdeal.Value.run (F := Ideal) m' ρ'⟩
  refine (θ_run Cert.KernelZOWIdeal.defs _ _).mono (fun r h c => ?_) (run_main (F := Ideal) m ρ)
  obtain ⟨a0, a1⟩ := hm c
  rw [a0, a1]
  refine ⟨((h c).1 2).trans ((final m c).trans (funext fun i => ?_)),
    ((h c).1 0).trans ((dats m 0 c).arrAt_in 0 rfl _),
    ((h c).1 1).trans ((dats m 0 c).arrAt_in 1 rfl _)⟩
  simp only [pointwise, zero_add]
  rfl

end Cert.MixOutWeight

/-! ## The slope at the input of the first projection -/

namespace Cert.MixInSlope

open Idealize.ShloMosaic Idealize.SL.Sem Idealize.ShloMosaic.TcCoe Cert.Product Cert.KernelZIXIdeal Cert.KernelZIXIdeal.Gen

/-- Each point reads the rows and columns that its block of the product needs, whole. -/
theorem index_facts : ∀ t : Fin cfg0.N, win0_0.index t 0 = win0_2.index t 0 ∧ win0_0.index t 1 = 0
      ∧ win0_1.index t 0 = win0_2.index t 1 ∧ win0_1.index t 1 = 0 :=
  (by decide +kernel : ∀ t : Fin grid0.N, _)

/-- What a point writes. -/
theorem pay1 (a : Vec Ideal S512x4992 .bf16) (b : Vec Ideal S1024x4992 .bf16) : k0_pay1 a b = product a (turned b) := funext fun y => by
  unfold k0_pay1
  simp only [pointwise]
  exact zero_add _

/-- The array after the run. -/
theorem final (m : (ℓ : Loc nD τ sig) → Buf (Elt Ideal) ℓ) (c : Dev nD) : (dats m 0 c).arrAt 2 cfg0.N
    = product (m ((c : Thread nD τ).loc main_arg0)) (turned (m ((c : Thread nD τ).loc main_arg1))) := by
  refine (dats m 0 c).arrAt_eq_of_covers 2 _ (by decide +kernel) fun t hf y => ?_
  blk_simp
  rw [after0_2]
  frame_out
  rw [pay1]
  obtain ⟨i0, j0, i1, j1⟩ := index_facts t
  exact product_eq (fun l => congrArg (m ((c : Thread nD τ).loc main_arg0)) (at_row rfl rfl rfl i0 j0))
    (fun l => congrArg (m ((c : Thread nD τ).loc main_arg1)) (at_row rfl rfl rfl i1 j1))

/-- The kernel of the program as written is that of its idealization. -/
theorem kernels_eq : Cert.KernelZIX.defs₀ (F := Bits) = Cert.KernelZIXIdeal.defs₀ (F := Bits) := by
  unfold Cert.KernelZIX.defs₀ Cert.KernelZIXIdeal.defs₀
  refine congrArg Defs.onTc (funext fun l => funext fun a => ?_)
  match l, a with
  | 0, (t, s) => rfl
  | ⟨_ + 1, h⟩, _ => exact absurd h (Nat.not_lt.2 (Nat.le_add_left _ _))

/-- And so is what its call means. -/
theorem calls_eq : Cert.KernelZIX.defs (F := Bits) = Cert.KernelZIXIdeal.defs (F := Bits) :=
  congrArg (Pipeline.defs (Cert.KernelZIX.pcfgs (F := Bits))) kernels_eq

theorem frame_kernel : Cert.quiescent_KernelZIX := fun m ρ _ => by
  rw [calls_eq]
  exact Cert.KernelZIXIdeal.Gen.frame (F := Bits) m ρ

theorem frame_ideal : Cert.quiescent_KernelZIXIdeal := fun m ρ _ => Cert.KernelZIXIdeal.Gen.frame (F := Ideal) m ρ

theorem frame_reference_ideal : Cert.quiescent_ReferenceZIXIdeal := fun m ρ _ =>
  (θ_run Cert.ReferenceZIXIdeal.defs _ _).mono (fun r h => ⟨fun c => (h c).2, sem_eq_zero_of_no_sems (by decide) r.2⟩)
    (Cert.ReferenceZIXIdeal.Value.run (F := Ideal) m ρ)

theorem algebraic : Cert.algebraic_KernelZIXIdeal_ReferenceZIXIdeal := fun m ρ m' ρ' _ hm => by
  refine ⟨_, ?_, Cert.ReferenceZIXIdeal.Value.run (F := Ideal) m' ρ'⟩
  refine (θ_run Cert.KernelZIXIdeal.defs _ _).mono (fun r h c => ?_) (run_main (F := Ideal) m ρ)
  obtain ⟨a0, a1⟩ := hm c
  rw [a0, a1]
  refine ⟨((h c).1 2).trans ((final m c).trans (funext fun i => ?_)),
    ((h c).1 0).trans ((dats m 0 c).arrAt_in 0 rfl _),
    ((h c).1 1).trans ((dats m 0 c).arrAt_in 1 rfl _)⟩
  simp only [pointwise, zero_add]
  rfl

end Cert.MixInSlope

/-! ## The gradient of the first projection's weight -/

namespace Cert.MixInWeight

open Idealize.ShloMosaic Idealize.SL.Sem Idealize.ShloMosaic.TcCoe Cert.Product Cert.KernelZIWIdeal Cert.KernelZIWIdeal.Gen

/-- Each point reads the rows and columns that its block of the product needs, whole. -/
theorem index_facts : ∀ t : Fin cfg0.N, win0_0.index t 1 = win0_2.index t 0 ∧ win0_0.index t 0 = 0
      ∧ win0_1.index t 1 = win0_2.index t 1 ∧ win0_1.index t 0 = 0 :=
  (by decide +kernel : ∀ t : Fin grid0.N, _)

/-- What a point writes. -/
theorem pay1 (a : Vec Ideal S4096x1024 .bf16) (b : Vec Ideal S4096x384 .bf16) : k0_pay1 a b = product (turned a) b := funext fun y => by
  unfold k0_pay1
  simp only [pointwise]
  exact zero_add _

/-- The array after the run. -/
theorem final (m : (ℓ : Loc nD τ sig) → Buf (Elt Ideal) ℓ) (c : Dev nD) : (dats m 0 c).arrAt 2 cfg0.N
    = product (turned (m ((c : Thread nD τ).loc main_arg0))) (m ((c : Thread nD τ).loc main_arg1)) := by
  refine (dats m 0 c).arrAt_eq_of_covers 2 _ (by decide +kernel) fun t hf y => ?_
  blk_simp
  rw [after0_2]
  frame_out
  rw [pay1]
  obtain ⟨i0, j0, i1, j1⟩ := index_facts t
  exact product_eq (fun l => congrArg (m ((c : Thread nD τ).loc main_arg0)) (at_column rfl rfl rfl i0 j0))
    (fun l => congrArg (m ((c : Thread nD τ).loc main_arg1)) (at_column rfl rfl rfl i1 j1))

/-- The kernel of the program as written is that of its idealization. -/
theorem kernels_eq : Cert.KernelZIW.defs₀ (F := Bits) = Cert.KernelZIWIdeal.defs₀ (F := Bits) := by
  unfold Cert.KernelZIW.defs₀ Cert.KernelZIWIdeal.defs₀
  refine congrArg Defs.onTc (funext fun l => funext fun a => ?_)
  match l, a with
  | 0, (t, s) => rfl
  | ⟨_ + 1, h⟩, _ => exact absurd h (Nat.not_lt.2 (Nat.le_add_left _ _))

/-- And so is what its call means. -/
theorem calls_eq : Cert.KernelZIW.defs (F := Bits) = Cert.KernelZIWIdeal.defs (F := Bits) :=
  congrArg (Pipeline.defs (Cert.KernelZIW.pcfgs (F := Bits))) kernels_eq

theorem frame_kernel : Cert.quiescent_KernelZIW := fun m ρ _ => by
  rw [calls_eq]
  exact Cert.KernelZIWIdeal.Gen.frame (F := Bits) m ρ

theorem frame_ideal : Cert.quiescent_KernelZIWIdeal := fun m ρ _ => Cert.KernelZIWIdeal.Gen.frame (F := Ideal) m ρ

theorem frame_reference_ideal : Cert.quiescent_ReferenceZIWIdeal := fun m ρ _ =>
  (θ_run Cert.ReferenceZIWIdeal.defs _ _).mono (fun r h => ⟨fun c => (h c).2, sem_eq_zero_of_no_sems (by decide) r.2⟩)
    (Cert.ReferenceZIWIdeal.Value.run (F := Ideal) m ρ)

theorem algebraic : Cert.algebraic_KernelZIWIdeal_ReferenceZIWIdeal := fun m ρ m' ρ' _ hm => by
  refine ⟨_, ?_, Cert.ReferenceZIWIdeal.Value.run (F := Ideal) m' ρ'⟩
  refine (θ_run Cert.KernelZIWIdeal.defs _ _).mono (fun r h c => ?_) (run_main (F := Ideal) m ρ)
  obtain ⟨a0, a1⟩ := hm c
  rw [a0, a1]
  refine ⟨((h c).1 2).trans ((final m c).trans (funext fun i => ?_)),
    ((h c).1 0).trans ((dats m 0 c).arrAt_in 0 rfl _),
    ((h c).1 1).trans ((dats m 0 c).arrAt_in 1 rfl _)⟩
  simp only [pointwise, zero_add]
  rfl

end Cert.MixInWeight

end
-- ==== Proof.lean ====
/-
  The certificate of the four exchanges on eight devices (of the mixer's gradients, of the feed-forward layer's, and the two
  gatherings), and of the seven steps of the optimizer, the loss head, the two calls of the modulation, the gradient of the first
  normalization, the eleven calls of the feed-forward layer and the mixers' six projections, each on one device. Each is its own
  program with its own reference; their claims are put together here.
-/
module

public import proofs.«01_k».proof.Proof.MixClaims
public import proofs.«01_k».proof.Proof.FfnClaims
public import proofs.«01_k».proof.Proof.LateClaims
public import proofs.«01_k».proof.Proof.EarlyClaims
public import proofs.«01_k».proof.Proof.InStep
public import proofs.«01_k».proof.Proof.OutStep
public import proofs.«01_k».proof.Proof.GateStep
public import proofs.«01_k».proof.Proof.DownStep
public import proofs.«01_k».proof.Proof.ModStep
public import proofs.«01_k».proof.Proof.ConvStep
public import proofs.«01_k».proof.Proof.SmallStep
public import proofs.«01_k».proof.Proof.Head
public import proofs.«01_k».proof.Proof.Modulation
public import proofs.«01_k».proof.Proof.ModulationSlope
public import proofs.«01_k».proof.Proof.NormSlope
public import proofs.«01_k».proof.Proof.FeedNorm
public import proofs.«01_k».proof.Proof.FeedIn
public import proofs.«01_k».proof.Proof.FeedGate
public import proofs.«01_k».proof.Proof.FeedOut
public import proofs.«01_k».proof.Proof.FeedAdd
public import proofs.«01_k».proof.Proof.FeedAddSlope
public import proofs.«01_k».proof.Proof.FeedOutSlope
public import proofs.«01_k».proof.Proof.FeedOutWeight
public import proofs.«01_k».proof.Proof.FeedGateSlope
public import proofs.«01_k».proof.Proof.FeedInSlope
public import proofs.«01_k».proof.Proof.FeedInWeight
public import proofs.«01_k».proof.Proof.Projections

@[expose] public section

noncomputable section

namespace Cert.Proof

theorem claim : Cert.Claim :=
  ⟨Cert.Kernel.Gen.facts, Cert.KernelIdeal.Gen.facts, Cert.ReferenceIdeal.Gen.facts, Cert.Reference.Gen.facts,
    Cert.KernelF.Gen.facts, Cert.KernelFIdeal.Gen.facts, Cert.ReferenceFIdeal.Gen.facts, Cert.ReferenceF.Gen.facts,
    Cert.KernelB.Gen.facts, Cert.KernelBIdeal.Gen.facts, Cert.ReferenceBIdeal.Gen.facts, Cert.ReferenceB.Gen.facts,
    Cert.KernelA.Gen.facts, Cert.KernelAIdeal.Gen.facts, Cert.ReferenceAIdeal.Gen.facts, Cert.ReferenceA.Gen.facts,
    Cert.KernelUI.Gen.facts, Cert.KernelUIIdeal.Gen.facts, Cert.ReferenceUIIdeal.Gen.facts,
    Cert.KernelUO.Gen.facts, Cert.KernelUOIdeal.Gen.facts, Cert.ReferenceUOIdeal.Gen.facts,
    Cert.KernelUG.Gen.facts, Cert.KernelUGIdeal.Gen.facts, Cert.ReferenceUGIdeal.Gen.facts,
    Cert.KernelUF.Gen.facts, Cert.KernelUFIdeal.Gen.facts, Cert.ReferenceUFIdeal.Gen.facts,
    Cert.KernelUM.Gen.facts, Cert.KernelUMIdeal.Gen.facts, Cert.ReferenceUMIdeal.Gen.facts,
    Cert.KernelUC.Gen.facts, Cert.KernelUCIdeal.Gen.facts, Cert.ReferenceUCIdeal.Gen.facts,
    Cert.KernelUS.Gen.facts, Cert.KernelUSIdeal.Gen.facts, Cert.ReferenceUSIdeal.Gen.facts,
    Cert.KernelH.Gen.facts, Cert.KernelHIdeal.Gen.facts, Cert.ReferenceHIdeal.Gen.facts,
    Cert.KernelC.Gen.facts, Cert.KernelCIdeal.Gen.facts, Cert.ReferenceCIdeal.Gen.facts,
    Cert.KernelW.Gen.facts, Cert.KernelWIdeal.Gen.facts, Cert.ReferenceWIdeal.Gen.facts,
    Cert.KernelN.Gen.facts, Cert.KernelNIdeal.Gen.facts, Cert.ReferenceNIdeal.Gen.facts,
    Cert.KernelXN.Gen.facts, Cert.KernelXNIdeal.Gen.facts, Cert.ReferenceXNIdeal.Gen.facts,
    Cert.KernelXI.Gen.facts, Cert.KernelXIIdeal.Gen.facts, Cert.ReferenceXIIdeal.Gen.facts,
    Cert.KernelXS.Gen.facts, Cert.KernelXSIdeal.Gen.facts, Cert.ReferenceXSIdeal.Gen.facts,
    Cert.KernelXO.Gen.facts, Cert.KernelXOIdeal.Gen.facts, Cert.ReferenceXOIdeal.Gen.facts,
    Cert.KernelXR.Gen.facts, Cert.KernelXRIdeal.Gen.facts, Cert.ReferenceXRIdeal.Gen.facts,
    Cert.KernelYR.Gen.facts, Cert.KernelYRIdeal.Gen.facts, Cert.ReferenceYRIdeal.Gen.facts,
    Cert.KernelYO.Gen.facts, Cert.KernelYOIdeal.Gen.facts, Cert.ReferenceYOIdeal.Gen.facts,
    Cert.KernelYOW.Gen.facts, Cert.KernelYOWIdeal.Gen.facts, Cert.ReferenceYOWIdeal.Gen.facts,
    Cert.KernelYS.Gen.facts, Cert.KernelYSIdeal.Gen.facts, Cert.ReferenceYSIdeal.Gen.facts,
    Cert.KernelYI.Gen.facts, Cert.KernelYIIdeal.Gen.facts, Cert.ReferenceYIIdeal.Gen.facts,
    Cert.KernelYIW.Gen.facts, Cert.KernelYIWIdeal.Gen.facts, Cert.ReferenceYIWIdeal.Gen.facts,
    Cert.KernelZI.Gen.facts, Cert.KernelZIIdeal.Gen.facts, Cert.ReferenceZIIdeal.Gen.facts,
    Cert.KernelZO.Gen.facts, Cert.KernelZOIdeal.Gen.facts, Cert.ReferenceZOIdeal.Gen.facts,
    Cert.KernelZOX.Gen.facts, Cert.KernelZOXIdeal.Gen.facts, Cert.ReferenceZOXIdeal.Gen.facts,
    Cert.KernelZOW.Gen.facts, Cert.KernelZOWIdeal.Gen.facts, Cert.ReferenceZOWIdeal.Gen.facts,
    Cert.KernelZIX.Gen.facts, Cert.KernelZIXIdeal.Gen.facts, Cert.ReferenceZIXIdeal.Gen.facts,
    Cert.KernelZIW.Gen.facts, Cert.KernelZIWIdeal.Gen.facts, Cert.ReferenceZIWIdeal.Gen.facts,
    Cert.ReferenceXR.Gen.facts,
    Cert.Mix.frame_kernel, Cert.Mix.frame_ideal, Cert.Mix.frame_reference_ideal, Cert.Mix.frame_reference,
    Cert.Ffn.frame_kernel, Cert.Ffn.frame_ideal, Cert.Ffn.frame_reference_ideal, Cert.Ffn.frame_reference,
    Cert.Late.frame_kernel, Cert.Late.frame_ideal, Cert.Late.frame_reference_ideal, Cert.Late.frame_reference,
    Cert.Early.frame_kernel, Cert.Early.frame_ideal, Cert.Early.frame_reference_ideal, Cert.Early.frame_reference,
    Cert.InStep.frame_kernel, Cert.InStep.frame_ideal, Cert.InStep.frame_reference_ideal,
    Cert.OutStep.frame_kernel, Cert.OutStep.frame_ideal, Cert.OutStep.frame_reference_ideal,
    Cert.GateStep.frame_kernel, Cert.GateStep.frame_ideal, Cert.GateStep.frame_reference_ideal,
    Cert.DownStep.frame_kernel, Cert.DownStep.frame_ideal, Cert.DownStep.frame_reference_ideal,
    Cert.ModStep.frame_kernel, Cert.ModStep.frame_ideal, Cert.ModStep.frame_reference_ideal,
    Cert.ConvStep.frame_kernel, Cert.ConvStep.frame_ideal, Cert.ConvStep.frame_reference_ideal,
    Cert.SmallStep.frame_kernel, Cert.SmallStep.frame_ideal, Cert.SmallStep.frame_reference_ideal,
    Cert.Head.frame_kernel, Cert.Head.frame_ideal, Cert.Head.frame_reference_ideal,
    Cert.Modulation.frame_kernel, Cert.Modulation.frame_ideal, Cert.Modulation.frame_reference_ideal,
    Cert.ModulationSlope.frame_kernel, Cert.ModulationSlope.frame_ideal, Cert.ModulationSlope.frame_reference_ideal,
    Cert.NormSlope.frame_kernel, Cert.NormSlope.frame_ideal, Cert.NormSlope.frame_reference_ideal,
    Cert.FeedNorm.frame_kernel, Cert.FeedNorm.frame_ideal, Cert.FeedNorm.frame_reference_ideal,
    Cert.FeedIn.frame_kernel, Cert.FeedIn.frame_ideal, Cert.FeedIn.frame_reference_ideal,
    Cert.FeedGate.frame_kernel, Cert.FeedGate.frame_ideal, Cert.FeedGate.frame_reference_ideal,
    Cert.FeedOut.frame_kernel, Cert.FeedOut.frame_ideal, Cert.FeedOut.frame_reference_ideal,
    Cert.FeedAdd.frame_kernel, Cert.FeedAdd.frame_ideal, Cert.FeedAdd.frame_reference_ideal,
    Cert.FeedAddSlope.frame_kernel, Cert.FeedAddSlope.frame_ideal, Cert.FeedAddSlope.frame_reference_ideal,
    Cert.FeedOutSlope.frame_kernel, Cert.FeedOutSlope.frame_ideal, Cert.FeedOutSlope.frame_reference_ideal,
    Cert.FeedOutWeight.frame_kernel, Cert.FeedOutWeight.frame_ideal, Cert.FeedOutWeight.frame_reference_ideal,
    Cert.FeedGateSlope.frame_kernel, Cert.FeedGateSlope.frame_ideal, Cert.FeedGateSlope.frame_reference_ideal,
    Cert.FeedInSlope.frame_kernel, Cert.FeedInSlope.frame_ideal, Cert.FeedInSlope.frame_reference_ideal,
    Cert.FeedInWeight.frame_kernel, Cert.FeedInWeight.frame_ideal, Cert.FeedInWeight.frame_reference_ideal,
    Cert.MixIn.frame_kernel, Cert.MixIn.frame_ideal, Cert.MixIn.frame_reference_ideal,
    Cert.MixOut.frame_kernel, Cert.MixOut.frame_ideal, Cert.MixOut.frame_reference_ideal,
    Cert.MixOutSlope.frame_kernel, Cert.MixOutSlope.frame_ideal, Cert.MixOutSlope.frame_reference_ideal,
    Cert.MixOutWeight.frame_kernel, Cert.MixOutWeight.frame_ideal, Cert.MixOutWeight.frame_reference_ideal,
    Cert.MixInSlope.frame_kernel, Cert.MixInSlope.frame_ideal, Cert.MixInSlope.frame_reference_ideal,
    Cert.MixInWeight.frame_kernel, Cert.MixInWeight.frame_ideal, Cert.MixInWeight.frame_reference_ideal,
    Cert.FeedAdd.frame_reference,
    trivial, Cert.Mix.algebraic, Cert.Mix.bitexact,
    trivial, Cert.Ffn.algebraic, Cert.Ffn.bitexact,
    trivial, Cert.Late.algebraic, Cert.Late.bitexact,
    trivial, Cert.Early.algebraic, Cert.Early.bitexact,
    trivial, Cert.InStep.algebraic,
    trivial, Cert.OutStep.algebraic,
    trivial, Cert.GateStep.algebraic,
    trivial, Cert.DownStep.algebraic,
    trivial, Cert.ModStep.algebraic,
    trivial, Cert.ConvStep.algebraic,
    trivial, Cert.SmallStep.algebraic,
    trivial, Cert.Head.algebraic,
    trivial, Cert.Modulation.algebraic,
    trivial, Cert.ModulationSlope.algebraic,
    trivial, Cert.NormSlope.algebraic,
    trivial, Cert.FeedNorm.algebraic,
    trivial, Cert.FeedIn.algebraic,
    trivial, Cert.FeedGate.algebraic,
    trivial, Cert.FeedOut.algebraic,
    trivial, Cert.FeedAdd.algebraic,
    trivial, Cert.FeedAddSlope.algebraic,
    trivial, Cert.FeedOutSlope.algebraic,
    trivial, Cert.FeedOutWeight.algebraic,
    trivial, Cert.FeedGateSlope.algebraic,
    trivial, Cert.FeedInSlope.algebraic,
    trivial, Cert.FeedInWeight.algebraic,
    trivial, Cert.MixIn.algebraic,
    trivial, Cert.MixOut.algebraic,
    trivial, Cert.MixOutSlope.algebraic,
    trivial, Cert.MixOutWeight.algebraic,
    trivial, Cert.MixInSlope.algebraic,
    trivial, Cert.MixInWeight.algebraic,
    Cert.FeedAdd.bitexact⟩

end Cert.Proof

end
